-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_finite_ffn [hPre_finite_ffn : Cert.Pre_finite_ffn.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_finite_ffn.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite_ffn [hPre_finite_ffn : Cert.Pre_finite_ffn.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3))) = (fun _ => 1#1)

def Pre_DhKernel (m : (ℓ : Loc Cert.DhKernel.nD Cert.DhKernel.τ Cert.DhKernel.sig) → Buf (Elt Bits) ℓ) : Prop :=
  True

def Pre_DhKernelIdeal (m : (ℓ : Loc Cert.DhKernelIdeal.nD Cert.DhKernelIdeal.τ Cert.DhKernelIdeal.sig) → Buf (Elt Ideal) ℓ) : Prop :=
  True

def Pre_DhReferenceIdeal (m : (ℓ : Loc Cert.DhReferenceIdeal.nD Cert.DhReferenceIdeal.τ Cert.DhReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Dh3Kernel (m : (ℓ : Loc Cert.Dh3Kernel.nD Cert.Dh3Kernel.τ Cert.Dh3Kernel.sig) → Buf (Elt Bits) ℓ) : Prop :=
  True

def Pre_Dh3KernelIdeal (m : (ℓ : Loc Cert.Dh3KernelIdeal.nD Cert.Dh3KernelIdeal.τ Cert.Dh3KernelIdeal.sig) → Buf (Elt Ideal) ℓ) : Prop :=
  True

def Pre_Dh3ReferenceIdeal (m : (ℓ : Loc Cert.Dh3ReferenceIdeal.nD Cert.Dh3ReferenceIdeal.τ Cert.Dh3ReferenceIdeal.sig) → Buf (Elt Ideal) ℓ) : Prop :=
  True

def Pre_Dh2Kernel (m : (ℓ : Loc Cert.Dh2Kernel.nD Cert.Dh2Kernel.τ Cert.Dh2Kernel.sig) → Buf (Elt Bits) ℓ) : Prop :=
  True

def Pre_Dh2KernelIdeal (m : (ℓ : Loc Cert.Dh2KernelIdeal.nD Cert.Dh2KernelIdeal.τ Cert.Dh2KernelIdeal.sig) → Buf (Elt Ideal) ℓ) : Prop :=
  True

def Pre_Dh2ReferenceIdeal (m : (ℓ : Loc Cert.Dh2ReferenceIdeal.nD Cert.Dh2ReferenceIdeal.τ Cert.Dh2ReferenceIdeal.sig) → Buf (Elt Ideal) ℓ) : Prop :=
  True

def Pre_DmemKernel (m : (ℓ : Loc Cert.DmemKernel.nD Cert.DmemKernel.τ Cert.DmemKernel.sig) → Buf (Elt Bits) ℓ) : Prop :=
  True

def Pre_DmemKernelIdeal (m : (ℓ : Loc Cert.DmemKernelIdeal.nD Cert.DmemKernelIdeal.τ Cert.DmemKernelIdeal.sig) → Buf (Elt Ideal) ℓ) : Prop :=
  True

def Pre_DmemReferenceIdeal (m : (ℓ : Loc Cert.DmemReferenceIdeal.nD Cert.DmemReferenceIdeal.τ Cert.DmemReferenceIdeal.sig) → Buf (Elt Ideal) ℓ) : Prop :=
  True

def Pre_IoKernel (m : (ℓ : Loc Cert.IoKernel.nD Cert.IoKernel.τ Cert.IoKernel.sig) → Buf (Elt Bits) ℓ) : Prop :=
  True

def Pre_IoKernelIdeal (m : (ℓ : Loc Cert.IoKernelIdeal.nD Cert.IoKernelIdeal.τ Cert.IoKernelIdeal.sig) → Buf (Elt Ideal) ℓ) : Prop :=
  True

def Pre_IoReferenceIdeal (m : (ℓ : Loc Cert.IoReferenceIdeal.nD Cert.IoReferenceIdeal.τ Cert.IoReferenceIdeal.sig) → Buf (Elt Ideal) ℓ) : Prop :=
  True

def Pre_AKernel (m : (ℓ : Loc Cert.AKernel.nD Cert.AKernel.τ Cert.AKernel.sig) → Buf (Elt Bits) ℓ) : Prop :=
  True

def Pre_AKernelIdeal (m : (ℓ : Loc Cert.AKernelIdeal.nD Cert.AKernelIdeal.τ Cert.AKernelIdeal.sig) → Buf (Elt Ideal) ℓ) : Prop :=
  True

def Pre_AReferenceIdeal (m : (ℓ : Loc Cert.AReferenceIdeal.nD Cert.AReferenceIdeal.τ Cert.AReferenceIdeal.sig) → Buf (Elt Ideal) ℓ) : Prop :=
  True

def Pre_XaKernel (m : (ℓ : Loc Cert.XaKernel.nD Cert.XaKernel.τ Cert.XaKernel.sig) → Buf (Elt Bits) ℓ) : Prop :=
  True

def Pre_XaKernelIdeal (m : (ℓ : Loc Cert.XaKernelIdeal.nD Cert.XaKernelIdeal.τ Cert.XaKernelIdeal.sig) → Buf (Elt Ideal) ℓ) : Prop :=
  True

def Pre_XaKernelIdeal_finite_xa [hPre_finite_xa : Cert.Pre_finite_xa.Facts] (m : (ℓ : Loc Cert.XaKernelIdeal.nD Cert.XaKernelIdeal.τ Cert.XaKernelIdeal.sig) → Buf (Elt Ideal) ℓ) : Prop :=
  ∀ c : Dev Cert.XaKernelIdeal.nD,
    (Cert.Pre_finite_xa.fn (F := Ideal) (m ((c.tc : Thread Cert.XaKernelIdeal.nD Cert.XaKernelIdeal.τ).loc Cert.XaKernelIdeal.main_arg0)) (m ((c.tc : Thread Cert.XaKernelIdeal.nD Cert.XaKernelIdeal.τ).loc Cert.XaKernelIdeal.main_arg1)) (m ((c.tc : Thread Cert.XaKernelIdeal.nD Cert.XaKernelIdeal.τ).loc Cert.XaKernelIdeal.main_arg2)) (m ((c.tc : Thread Cert.XaKernelIdeal.nD Cert.XaKernelIdeal.τ).loc Cert.XaKernelIdeal.main_arg3)) (m ((c.tc : Thread Cert.XaKernelIdeal.nD Cert.XaKernelIdeal.τ).loc Cert.XaKernelIdeal.main_arg4)) (m ((c.tc : Thread Cert.XaKernelIdeal.nD Cert.XaKernelIdeal.τ).loc Cert.XaKernelIdeal.main_arg5))) = (fun _ => 1#1)

def Pre_XaReferenceIdeal (m : (ℓ : Loc Cert.XaReferenceIdeal.nD Cert.XaReferenceIdeal.τ Cert.XaReferenceIdeal.sig) → Buf (Elt Ideal) ℓ) : Prop :=
  True

def Pre_XaReferenceIdeal_finite_xa [hPre_finite_xa : Cert.Pre_finite_xa.Facts] (m : (ℓ : Loc Cert.XaReferenceIdeal.nD Cert.XaReferenceIdeal.τ Cert.XaReferenceIdeal.sig) → Buf (Elt Ideal) ℓ) : Prop :=
  ∀ c : Dev Cert.XaReferenceIdeal.nD,
    (Cert.Pre_finite_xa.fn (F := Ideal) (m ((c.tc : Thread Cert.XaReferenceIdeal.nD Cert.XaReferenceIdeal.τ).loc Cert.XaReferenceIdeal.main_arg0)) (m ((c.tc : Thread Cert.XaReferenceIdeal.nD Cert.XaReferenceIdeal.τ).loc Cert.XaReferenceIdeal.main_arg1)) (m ((c.tc : Thread Cert.XaReferenceIdeal.nD Cert.XaReferenceIdeal.τ).loc Cert.XaReferenceIdeal.main_arg2)) (m ((c.tc : Thread Cert.XaReferenceIdeal.nD Cert.XaReferenceIdeal.τ).loc Cert.XaReferenceIdeal.main_arg3)) (m ((c.tc : Thread Cert.XaReferenceIdeal.nD Cert.XaReferenceIdeal.τ).loc Cert.XaReferenceIdeal.main_arg4)) (m ((c.tc : Thread Cert.XaReferenceIdeal.nD Cert.XaReferenceIdeal.τ).loc Cert.XaReferenceIdeal.main_arg5))) = (fun _ => 1#1)

def Pre_NormPreKernel (m : (ℓ : Loc Cert.NormPreKernel.nD Cert.NormPreKernel.τ Cert.NormPreKernel.sig) → Buf (Elt Bits) ℓ) : Prop :=
  True

def Pre_NormPreKernelIdeal (m : (ℓ : Loc Cert.NormPreKernelIdeal.nD Cert.NormPreKernelIdeal.τ Cert.NormPreKernelIdeal.sig) → Buf (Elt Ideal) ℓ) : Prop :=
  True

def Pre_NormPreReferenceIdeal (m : (ℓ : Loc Cert.NormPreReferenceIdeal.nD Cert.NormPreReferenceIdeal.τ Cert.NormPreReferenceIdeal.sig) → Buf (Elt Ideal) ℓ) : Prop :=
  True

def Pre_NormPostKernel (m : (ℓ : Loc Cert.NormPostKernel.nD Cert.NormPostKernel.τ Cert.NormPostKernel.sig) → Buf (Elt Bits) ℓ) : Prop :=
  True

def Pre_NormPostKernelIdeal (m : (ℓ : Loc Cert.NormPostKernelIdeal.nD Cert.NormPostKernelIdeal.τ Cert.NormPostKernelIdeal.sig) → Buf (Elt Ideal) ℓ) : Prop :=
  True

def Pre_NormPostReferenceIdeal (m : (ℓ : Loc Cert.NormPostReferenceIdeal.nD Cert.NormPostReferenceIdeal.τ Cert.NormPostReferenceIdeal.sig) → Buf (Elt Ideal) ℓ) : Prop :=
  True

def Pre_NormMemKernel (m : (ℓ : Loc Cert.NormMemKernel.nD Cert.NormMemKernel.τ Cert.NormMemKernel.sig) → Buf (Elt Bits) ℓ) : Prop :=
  True

def Pre_NormMemKernelIdeal (m : (ℓ : Loc Cert.NormMemKernelIdeal.nD Cert.NormMemKernelIdeal.τ Cert.NormMemKernelIdeal.sig) → Buf (Elt Ideal) ℓ) : Prop :=
  True

def Pre_NormMemReferenceIdeal (m : (ℓ : Loc Cert.NormMemReferenceIdeal.nD Cert.NormMemReferenceIdeal.τ Cert.NormMemReferenceIdeal.sig) → Buf (Elt Ideal) ℓ) : Prop :=
  True

def Pre_CLnKernel (m : (ℓ : Loc Cert.CLnKernel.nD Cert.CLnKernel.τ Cert.CLnKernel.sig) → Buf (Elt Bits) ℓ) : Prop :=
  True

def Pre_CLnKernelIdeal (m : (ℓ : Loc Cert.CLnKernelIdeal.nD Cert.CLnKernelIdeal.τ Cert.CLnKernelIdeal.sig) → Buf (Elt Ideal) ℓ) : Prop :=
  True

def Pre_CLnKernelIdeal_finite_c_ln [hPre_finite_c_ln : Cert.Pre_finite_c_ln.Facts] (m : (ℓ : Loc Cert.CLnKernelIdeal.nD Cert.CLnKernelIdeal.τ Cert.CLnKernelIdeal.sig) → Buf (Elt Ideal) ℓ) : Prop :=
  ∀ c : Dev Cert.CLnKernelIdeal.nD,
    (Cert.Pre_finite_c_ln.fn (F := Ideal) (m ((c.tc : Thread Cert.CLnKernelIdeal.nD Cert.CLnKernelIdeal.τ).loc Cert.CLnKernelIdeal.main_arg0)) (m ((c.tc : Thread Cert.CLnKernelIdeal.nD Cert.CLnKernelIdeal.τ).loc Cert.CLnKernelIdeal.main_arg1)) (m ((c.tc : Thread Cert.CLnKernelIdeal.nD Cert.CLnKernelIdeal.τ).loc Cert.CLnKernelIdeal.main_arg2)) (m ((c.tc : Thread Cert.CLnKernelIdeal.nD Cert.CLnKernelIdeal.τ).loc Cert.CLnKernelIdeal.main_arg3))) = (fun _ => 1#1)

def Pre_CLnReferenceIdeal (m : (ℓ : Loc Cert.CLnReferenceIdeal.nD Cert.CLnReferenceIdeal.τ Cert.CLnReferenceIdeal.sig) → Buf (Elt Ideal) ℓ) : Prop :=
  True

def Pre_CLnReferenceIdeal_finite_c_ln [hPre_finite_c_ln : Cert.Pre_finite_c_ln.Facts] (m : (ℓ : Loc Cert.CLnReferenceIdeal.nD Cert.CLnReferenceIdeal.τ Cert.CLnReferenceIdeal.sig) → Buf (Elt Ideal) ℓ) : Prop :=
  ∀ c : Dev Cert.CLnReferenceIdeal.nD,
    (Cert.Pre_finite_c_ln.fn (F := Ideal) (m ((c.tc : Thread Cert.CLnReferenceIdeal.nD Cert.CLnReferenceIdeal.τ).loc Cert.CLnReferenceIdeal.main_arg0)) (m ((c.tc : Thread Cert.CLnReferenceIdeal.nD Cert.CLnReferenceIdeal.τ).loc Cert.CLnReferenceIdeal.main_arg1)) (m ((c.tc : Thread Cert.CLnReferenceIdeal.nD Cert.CLnReferenceIdeal.τ).loc Cert.CLnReferenceIdeal.main_arg2)) (m ((c.tc : Thread Cert.CLnReferenceIdeal.nD Cert.CLnReferenceIdeal.τ).loc Cert.CLnReferenceIdeal.main_arg3))) = (fun _ => 1#1)

def Pre_RmsKernel (m : (ℓ : Loc Cert.RmsKernel.nD Cert.RmsKernel.τ Cert.RmsKernel.sig) → Buf (Elt Bits) ℓ) : Prop :=
  True

def Pre_RmsKernelIdeal (m : (ℓ : Loc Cert.RmsKernelIdeal.nD Cert.RmsKernelIdeal.τ Cert.RmsKernelIdeal.sig) → Buf (Elt Ideal) ℓ) : Prop :=
  True

def Pre_RmsReferenceIdeal (m : (ℓ : Loc Cert.RmsReferenceIdeal.nD Cert.RmsReferenceIdeal.τ Cert.RmsReferenceIdeal.sig) → Buf (Elt Ideal) ℓ) : Prop :=
  True

def Pre_RmsMemKernel (m : (ℓ : Loc Cert.RmsMemKernel.nD Cert.RmsMemKernel.τ Cert.RmsMemKernel.sig) → Buf (Elt Bits) ℓ) : Prop :=
  True

def Pre_RmsMemKernelIdeal (m : (ℓ : Loc Cert.RmsMemKernelIdeal.nD Cert.RmsMemKernelIdeal.τ Cert.RmsMemKernelIdeal.sig) → Buf (Elt Ideal) ℓ) : Prop :=
  True

def Pre_RmsMemReferenceIdeal (m : (ℓ : Loc Cert.RmsMemReferenceIdeal.nD Cert.RmsMemReferenceIdeal.τ Cert.RmsMemReferenceIdeal.sig) → Buf (Elt Ideal) ℓ) : Prop :=
  True

def Pre_ResKernel (m : (ℓ : Loc Cert.ResKernel.nD Cert.ResKernel.τ Cert.ResKernel.sig) → Buf (Elt Bits) ℓ) : Prop :=
  True

def Pre_ResKernelIdeal (m : (ℓ : Loc Cert.ResKernelIdeal.nD Cert.ResKernelIdeal.τ Cert.ResKernelIdeal.sig) → Buf (Elt Ideal) ℓ) : Prop :=
  True

def Pre_ResReferenceIdeal (m : (ℓ : Loc Cert.ResReferenceIdeal.nD Cert.ResReferenceIdeal.τ Cert.ResReferenceIdeal.sig) → Buf (Elt Ideal) ℓ) : Prop :=
  True

def Pre_ResLastKernel (m : (ℓ : Loc Cert.ResLastKernel.nD Cert.ResLastKernel.τ Cert.ResLastKernel.sig) → Buf (Elt Bits) ℓ) : Prop :=
  True

def Pre_ResLastKernelIdeal (m : (ℓ : Loc Cert.ResLastKernelIdeal.nD Cert.ResLastKernelIdeal.τ Cert.ResLastKernelIdeal.sig) → Buf (Elt Ideal) ℓ) : Prop :=
  True

def Pre_ResLastReferenceIdeal (m : (ℓ : Loc Cert.ResLastReferenceIdeal.nD Cert.ResLastReferenceIdeal.τ Cert.ResLastReferenceIdeal.sig) → Buf (Elt Ideal) ℓ) : Prop :=
  True

def Pre_CLnFKernel (m : (ℓ : Loc Cert.CLnFKernel.nD Cert.CLnFKernel.τ Cert.CLnFKernel.sig) → Buf (Elt Bits) ℓ) : Prop :=
  True

def Pre_CLnFKernelIdeal (m : (ℓ : Loc Cert.CLnFKernelIdeal.nD Cert.CLnFKernelIdeal.τ Cert.CLnFKernelIdeal.sig) → Buf (Elt Ideal) ℓ) : Prop :=
  True

def Pre_CLnFReferenceIdeal (m : (ℓ : Loc Cert.CLnFReferenceIdeal.nD Cert.CLnFReferenceIdeal.τ Cert.CLnFReferenceIdeal.sig) → Buf (Elt Ideal) ℓ) : Prop :=
  True

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_CConvFKernel (m : (ℓ : Loc Cert.CConvFKernel.nD Cert.CConvFKernel.τ Cert.CConvFKernel.sig) → Buf (Elt Bits) ℓ) : Prop :=
  True

def Pre_CConvFKernelIdeal (m : (ℓ : Loc Cert.CConvFKernelIdeal.nD Cert.CConvFKernelIdeal.τ Cert.CConvFKernelIdeal.sig) → Buf (Elt Ideal) ℓ) : Prop :=
  True

def Pre_CConvFReferenceIdeal (m : (ℓ : Loc Cert.CConvFReferenceIdeal.nD Cert.CConvFReferenceIdeal.τ Cert.CConvFReferenceIdeal.sig) → Buf (Elt Ideal) ℓ) : Prop :=
  True

def Pre_CConvKernel (m : (ℓ : Loc Cert.CConvKernel.nD Cert.CConvKernel.τ Cert.CConvKernel.sig) → Buf (Elt Bits) ℓ) : Prop :=
  True

def Pre_CConvKernelIdeal (m : (ℓ : Loc Cert.CConvKernelIdeal.nD Cert.CConvKernelIdeal.τ Cert.CConvKernelIdeal.sig) → Buf (Elt Ideal) ℓ) : Prop :=
  True

def Pre_CConvReferenceIdeal (m : (ℓ : Loc Cert.CConvReferenceIdeal.nD Cert.CConvReferenceIdeal.τ Cert.CConvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ r.2.sem = fun _ => 0)

def quiescent_FfnKernelIdeal_pre_finite_ffn [hFfnKernelIdeal : Cert.FfnKernelIdeal.Facts] [hPre_finite_ffn : Cert.Pre_finite_ffn.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_finite_ffn m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_FfnReferenceIdeal_pre_finite_ffn [hFfnReferenceIdeal : Cert.FfnReferenceIdeal.Facts] [hPre_finite_ffn : Cert.Pre_finite_ffn.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite_ffn m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_DhKernel [hDhKernel : Cert.DhKernel.Facts] : Prop :=
  ∀ (m : (ℓ : Loc Cert.DhKernel.nD Cert.DhKernel.τ Cert.DhKernel.sig) → Buf (Elt Bits) ℓ) (g : Dev Cert.DhKernel.nD → PrngReg), Pre_DhKernel m →
    θ_run (Cert.DhKernel.defs (F := Bits)) (onTc (τ := Cert.DhKernel.τ) (Cert.DhKernel.main (F := Bits))) ⟨m, fun _ => 0, g⟩ (fun r => (∀ c : Dev Cert.DhKernel.nD,
      r.2.mem ((c.tc : Thread Cert.DhKernel.nD Cert.DhKernel.τ).loc Cert.DhKernel.main_arg0) = m ((c.tc : Thread Cert.DhKernel.nD Cert.DhKernel.τ).loc Cert.DhKernel.main_arg0)
      ∧ r.2.mem ((c.tc : Thread Cert.DhKernel.nD Cert.DhKernel.τ).loc Cert.DhKernel.main_arg1) = m ((c.tc : Thread Cert.DhKernel.nD Cert.DhKernel.τ).loc Cert.DhKernel.main_arg1))
      ∧ r.2.sem = fun _ => 0)

def quiescent_DhKernelIdeal [hDhKernelIdeal : Cert.DhKernelIdeal.Facts] : Prop :=
  ∀ (m : (ℓ : Loc Cert.DhKernelIdeal.nD Cert.DhKernelIdeal.τ Cert.DhKernelIdeal.sig) → Buf (Elt Ideal) ℓ) (g : Dev Cert.DhKernelIdeal.nD → PrngReg), Pre_DhKernelIdeal m →
    θ_run (Cert.DhKernelIdeal.defs (F := Ideal)) (onTc (τ := Cert.DhKernelIdeal.τ) (Cert.DhKernelIdeal.main (F := Ideal))) ⟨m, fun _ => 0, g⟩ (fun r => (∀ c : Dev Cert.DhKernelIdeal.nD,
      r.2.mem ((c.tc : Thread Cert.DhKernelIdeal.nD Cert.DhKernelIdeal.τ).loc Cert.DhKernelIdeal.main_arg0) = m ((c.tc : Thread Cert.DhKernelIdeal.nD Cert.DhKernelIdeal.τ).loc Cert.DhKernelIdeal.main_arg0)
      ∧ r.2.mem ((c.tc : Thread Cert.DhKernelIdeal.nD Cert.DhKernelIdeal.τ).loc Cert.DhKernelIdeal.main_arg1) = m ((c.tc : Thread Cert.DhKernelIdeal.nD Cert.DhKernelIdeal.τ).loc Cert.DhKernelIdeal.main_arg1))
      ∧ r.2.sem = fun _ => 0)

def quiescent_DhReferenceIdeal [hDhReferenceIdeal : Cert.DhReferenceIdeal.Facts] : Prop :=
  ∀ (m : (ℓ : Loc Cert.DhReferenceIdeal.nD Cert.DhReferenceIdeal.τ Cert.DhReferenceIdeal.sig) → Buf (Elt Ideal) ℓ) (g : Dev Cert.DhReferenceIdeal.nD → PrngReg), Pre_DhReferenceIdeal m →
    θ_run (Cert.DhReferenceIdeal.defs (F := Ideal)) (onTc (τ := Cert.DhReferenceIdeal.τ) (Cert.DhReferenceIdeal.main (F := Ideal))) ⟨m, fun _ => 0, g⟩ (fun r => (∀ c : Dev Cert.DhReferenceIdeal.nD,
      r.2.mem ((c.tc : Thread Cert.DhReferenceIdeal.nD Cert.DhReferenceIdeal.τ).loc Cert.DhReferenceIdeal.main_arg0) = m ((c.tc : Thread Cert.DhReferenceIdeal.nD Cert.DhReferenceIdeal.τ).loc Cert.DhReferenceIdeal.main_arg0)
      ∧ r.2.mem ((c.tc : Thread Cert.DhReferenceIdeal.nD Cert.DhReferenceIdeal.τ).loc Cert.DhReferenceIdeal.main_arg1) = m ((c.tc : Thread Cert.DhReferenceIdeal.nD Cert.DhReferenceIdeal.τ).loc Cert.DhReferenceIdeal.main_arg1))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_Dh3Kernel [hDh3Kernel : Cert.Dh3Kernel.Facts] : Prop :=
  ∀ (m : (ℓ : Loc Cert.Dh3Kernel.nD Cert.Dh3Kernel.τ Cert.Dh3Kernel.sig) → Buf (Elt Bits) ℓ) (g : Dev Cert.Dh3Kernel.nD → PrngReg), Pre_Dh3Kernel m →
    θ_run (Cert.Dh3Kernel.defs (F := Bits)) (onTc (τ := Cert.Dh3Kernel.τ) (Cert.Dh3Kernel.main (F := Bits))) ⟨m, fun _ => 0, g⟩ (fun r => (∀ c : Dev Cert.Dh3Kernel.nD,
      r.2.mem ((c.tc : Thread Cert.Dh3Kernel.nD Cert.Dh3Kernel.τ).loc Cert.Dh3Kernel.main_arg0) = m ((c.tc : Thread Cert.Dh3Kernel.nD Cert.Dh3Kernel.τ).loc Cert.Dh3Kernel.main_arg0)
      ∧ r.2.mem ((c.tc : Thread Cert.Dh3Kernel.nD Cert.Dh3Kernel.τ).loc Cert.Dh3Kernel.main_arg1) = m ((c.tc : Thread Cert.Dh3Kernel.nD Cert.Dh3Kernel.τ).loc Cert.Dh3Kernel.main_arg1))
      ∧ r.2.sem = fun _ => 0)

def quiescent_Dh3KernelIdeal [hDh3KernelIdeal : Cert.Dh3KernelIdeal.Facts] : Prop :=
  ∀ (m : (ℓ : Loc Cert.Dh3KernelIdeal.nD Cert.Dh3KernelIdeal.τ Cert.Dh3KernelIdeal.sig) → Buf (Elt Ideal) ℓ) (g : Dev Cert.Dh3KernelIdeal.nD → PrngReg), Pre_Dh3KernelIdeal m →
    θ_run (Cert.Dh3KernelIdeal.defs (F := Ideal)) (onTc (τ := Cert.Dh3KernelIdeal.τ) (Cert.Dh3KernelIdeal.main (F := Ideal))) ⟨m, fun _ => 0, g⟩ (fun r => (∀ c : Dev Cert.Dh3KernelIdeal.nD,
      r.2.mem ((c.tc : Thread Cert.Dh3KernelIdeal.nD Cert.Dh3KernelIdeal.τ).loc Cert.Dh3KernelIdeal.main_arg0) = m ((c.tc : Thread Cert.Dh3KernelIdeal.nD Cert.Dh3KernelIdeal.τ).loc Cert.Dh3KernelIdeal.main_arg0)
      ∧ r.2.mem ((c.tc : Thread Cert.Dh3KernelIdeal.nD Cert.Dh3KernelIdeal.τ).loc Cert.Dh3KernelIdeal.main_arg1) = m ((c.tc : Thread Cert.Dh3KernelIdeal.nD Cert.Dh3KernelIdeal.τ).loc Cert.Dh3KernelIdeal.main_arg1))
      ∧ r.2.sem = fun _ => 0)

def quiescent_Dh3ReferenceIdeal [hDh3ReferenceIdeal : Cert.Dh3ReferenceIdeal.Facts] : Prop :=
  ∀ (m : (ℓ : Loc Cert.Dh3ReferenceIdeal.nD Cert.Dh3ReferenceIdeal.τ Cert.Dh3ReferenceIdeal.sig) → Buf (Elt Ideal) ℓ) (g : Dev Cert.Dh3ReferenceIdeal.nD → PrngReg), Pre_Dh3ReferenceIdeal m →
    θ_run (Cert.Dh3ReferenceIdeal.defs (F := Ideal)) (onTc (τ := Cert.Dh3ReferenceIdeal.τ) (Cert.Dh3ReferenceIdeal.main (F := Ideal))) ⟨m, fun _ => 0, g⟩ (fun r => (∀ c : Dev Cert.Dh3ReferenceIdeal.nD,
      r.2.mem ((c.tc : Thread Cert.Dh3ReferenceIdeal.nD Cert.Dh3ReferenceIdeal.τ).loc Cert.Dh3ReferenceIdeal.main_arg0) = m ((c.tc : Thread Cert.Dh3ReferenceIdeal.nD Cert.Dh3ReferenceIdeal.τ).loc Cert.Dh3ReferenceIdeal.main_arg0)
      ∧ r.2.mem ((c.tc : Thread Cert.Dh3ReferenceIdeal.nD Cert.Dh3ReferenceIdeal.τ).loc Cert.Dh3ReferenceIdeal.main_arg1) = m ((c.tc : Thread Cert.Dh3ReferenceIdeal.nD Cert.Dh3ReferenceIdeal.τ).loc Cert.Dh3ReferenceIdeal.main_arg1))
      ∧ r.2.sem = fun _ => 0)

def quiescent_Dh2Kernel [hDh2Kernel : Cert.Dh2Kernel.Facts] : Prop :=
  ∀ (m : (ℓ : Loc Cert.Dh2Kernel.nD Cert.Dh2Kernel.τ Cert.Dh2Kernel.sig) → Buf (Elt Bits) ℓ) (g : Dev Cert.Dh2Kernel.nD → PrngReg), Pre_Dh2Kernel m →
    θ_run (Cert.Dh2Kernel.defs (F := Bits)) (onTc (τ := Cert.Dh2Kernel.τ) (Cert.Dh2Kernel.main (F := Bits))) ⟨m, fun _ => 0, g⟩ (fun r => (∀ c : Dev Cert.Dh2Kernel.nD,
      r.2.mem ((c.tc : Thread Cert.Dh2Kernel.nD Cert.Dh2Kernel.τ).loc Cert.Dh2Kernel.main_arg0) = m ((c.tc : Thread Cert.Dh2Kernel.nD Cert.Dh2Kernel.τ).loc Cert.Dh2Kernel.main_arg0)
      ∧ r.2.mem ((c.tc : Thread Cert.Dh2Kernel.nD Cert.Dh2Kernel.τ).loc Cert.Dh2Kernel.main_arg1) = m ((c.tc : Thread Cert.Dh2Kernel.nD Cert.Dh2Kernel.τ).loc Cert.Dh2Kernel.main_arg1))
      ∧ r.2.sem = fun _ => 0)

def quiescent_Dh2KernelIdeal [hDh2KernelIdeal : Cert.Dh2KernelIdeal.Facts] : Prop :=
  ∀ (m : (ℓ : Loc Cert.Dh2KernelIdeal.nD Cert.Dh2KernelIdeal.τ Cert.Dh2KernelIdeal.sig) → Buf (Elt Ideal) ℓ) (g : Dev Cert.Dh2KernelIdeal.nD → PrngReg), Pre_Dh2KernelIdeal m →
    θ_run (Cert.Dh2KernelIdeal.defs (F := Ideal)) (onTc (τ := Cert.Dh2KernelIdeal.τ) (Cert.Dh2KernelIdeal.main (F := Ideal))) ⟨m, fun _ => 0, g⟩ (fun r => (∀ c : Dev Cert.Dh2KernelIdeal.nD,
      r.2.mem ((c.tc : Thread Cert.Dh2KernelIdeal.nD Cert.Dh2KernelIdeal.τ).loc Cert.Dh2KernelIdeal.main_arg0) = m ((c.tc : Thread Cert.Dh2KernelIdeal.nD Cert.Dh2KernelIdeal.τ).loc Cert.Dh2KernelIdeal.main_arg0)
      ∧ r.2.mem ((c.tc : Thread Cert.Dh2KernelIdeal.nD Cert.Dh2KernelIdeal.τ).loc Cert.Dh2KernelIdeal.main_arg1) = m ((c.tc : Thread Cert.Dh2KernelIdeal.nD Cert.Dh2KernelIdeal.τ).loc Cert.Dh2KernelIdeal.main_arg1))
      ∧ r.2.sem = fun _ => 0)

def quiescent_Dh2ReferenceIdeal [hDh2ReferenceIdeal : Cert.Dh2ReferenceIdeal.Facts] : Prop :=
  ∀ (m : (ℓ : Loc Cert.Dh2ReferenceIdeal.nD Cert.Dh2ReferenceIdeal.τ Cert.Dh2ReferenceIdeal.sig) → Buf (Elt Ideal) ℓ) (g : Dev Cert.Dh2ReferenceIdeal.nD → PrngReg), Pre_Dh2ReferenceIdeal m →
    θ_run (Cert.Dh2ReferenceIdeal.defs (F := Ideal)) (onTc (τ := Cert.Dh2ReferenceIdeal.τ) (Cert.Dh2ReferenceIdeal.main (F := Ideal))) ⟨m, fun _ => 0, g⟩ (fun r => (∀ c : Dev Cert.Dh2ReferenceIdeal.nD,
      r.2.mem ((c.tc : Thread Cert.Dh2ReferenceIdeal.nD Cert.Dh2ReferenceIdeal.τ).loc Cert.Dh2ReferenceIdeal.main_arg0) = m ((c.tc : Thread Cert.Dh2ReferenceIdeal.nD Cert.Dh2ReferenceIdeal.τ).loc Cert.Dh2ReferenceIdeal.main_arg0)
      ∧ r.2.mem ((c.tc : Thread Cert.Dh2ReferenceIdeal.nD Cert.Dh2ReferenceIdeal.τ).loc Cert.Dh2ReferenceIdeal.main_arg1) = m ((c.tc : Thread Cert.Dh2ReferenceIdeal.nD Cert.Dh2ReferenceIdeal.τ).loc Cert.Dh2ReferenceIdeal.main_arg1))
      ∧ r.2.sem = fun _ => 0)

def quiescent_DmemKernel [hDmemKernel : Cert.DmemKernel.Facts] : Prop :=
  ∀ (m : (ℓ : Loc Cert.DmemKernel.nD Cert.DmemKernel.τ Cert.DmemKernel.sig) → Buf (Elt Bits) ℓ) (g : Dev Cert.DmemKernel.nD → PrngReg), Pre_DmemKernel m →
    θ_run (Cert.DmemKernel.defs (F := Bits)) (onTc (τ := Cert.DmemKernel.τ) (Cert.DmemKernel.main (F := Bits))) ⟨m, fun _ => 0, g⟩ (fun r => (∀ c : Dev Cert.DmemKernel.nD,
      r.2.mem ((c.tc : Thread Cert.DmemKernel.nD Cert.DmemKernel.τ).loc Cert.DmemKernel.main_arg0) = m ((c.tc : Thread Cert.DmemKernel.nD Cert.DmemKernel.τ).loc Cert.DmemKernel.main_arg0)
      ∧ r.2.mem ((c.tc : Thread Cert.DmemKernel.nD Cert.DmemKernel.τ).loc Cert.DmemKernel.main_arg1) = m ((c.tc : Thread Cert.DmemKernel.nD Cert.DmemKernel.τ).loc Cert.DmemKernel.main_arg1))
      ∧ r.2.sem = fun _ => 0)

def quiescent_DmemKernelIdeal [hDmemKernelIdeal : Cert.DmemKernelIdeal.Facts] : Prop :=
  ∀ (m : (ℓ : Loc Cert.DmemKernelIdeal.nD Cert.DmemKernelIdeal.τ Cert.DmemKernelIdeal.sig) → Buf (Elt Ideal) ℓ) (g : Dev Cert.DmemKernelIdeal.nD → PrngReg), Pre_DmemKernelIdeal m →
    θ_run (Cert.DmemKernelIdeal.defs (F := Ideal)) (onTc (τ := Cert.DmemKernelIdeal.τ) (Cert.DmemKernelIdeal.main (F := Ideal))) ⟨m, fun _ => 0, g⟩ (fun r => (∀ c : Dev Cert.DmemKernelIdeal.nD,
      r.2.mem ((c.tc : Thread Cert.DmemKernelIdeal.nD Cert.DmemKernelIdeal.τ).loc Cert.DmemKernelIdeal.main_arg0) = m ((c.tc : Thread Cert.DmemKernelIdeal.nD Cert.DmemKernelIdeal.τ).loc Cert.DmemKernelIdeal.main_arg0)
      ∧ r.2.mem ((c.tc : Thread Cert.DmemKernelIdeal.nD Cert.DmemKernelIdeal.τ).loc Cert.DmemKernelIdeal.main_arg1) = m ((c.tc : Thread Cert.DmemKernelIdeal.nD Cert.DmemKernelIdeal.τ).loc Cert.DmemKernelIdeal.main_arg1))
      ∧ r.2.sem = fun _ => 0)

def quiescent_DmemReferenceIdeal [hDmemReferenceIdeal : Cert.DmemReferenceIdeal.Facts] : Prop :=
  ∀ (m : (ℓ : Loc Cert.DmemReferenceIdeal.nD Cert.DmemReferenceIdeal.τ Cert.DmemReferenceIdeal.sig) → Buf (Elt Ideal) ℓ) (g : Dev Cert.DmemReferenceIdeal.nD → PrngReg), Pre_DmemReferenceIdeal m →
    θ_run (Cert.DmemReferenceIdeal.defs (F := Ideal)) (onTc (τ := Cert.DmemReferenceIdeal.τ) (Cert.DmemReferenceIdeal.main (F := Ideal))) ⟨m, fun _ => 0, g⟩ (fun r => (∀ c : Dev Cert.DmemReferenceIdeal.nD,
      r.2.mem ((c.tc : Thread Cert.DmemReferenceIdeal.nD Cert.DmemReferenceIdeal.τ).loc Cert.DmemReferenceIdeal.main_arg0) = m ((c.tc : Thread Cert.DmemReferenceIdeal.nD Cert.DmemReferenceIdeal.τ).loc Cert.DmemReferenceIdeal.main_arg0)
      ∧ r.2.mem ((c.tc : Thread Cert.DmemReferenceIdeal.nD Cert.DmemReferenceIdeal.τ).loc Cert.DmemReferenceIdeal.main_arg1) = m ((c.tc : Thread Cert.DmemReferenceIdeal.nD Cert.DmemReferenceIdeal.τ).loc Cert.DmemReferenceIdeal.main_arg1))
      ∧ r.2.sem = fun _ => 0)

def quiescent_IoKernel [hIoKernel : Cert.IoKernel.Facts] : Prop :=
  ∀ (m : (ℓ : Loc Cert.IoKernel.nD Cert.IoKernel.τ Cert.IoKernel.sig) → Buf (Elt Bits) ℓ) (g : Dev Cert.IoKernel.nD → PrngReg), Pre_IoKernel m →
    θ_run (Cert.IoKernel.defs (F := Bits)) (onTc (τ := Cert.IoKernel.τ) (Cert.IoKernel.main (F := Bits))) ⟨m, fun _ => 0, g⟩ (fun r => (∀ c : Dev Cert.IoKernel.nD,
      r.2.mem ((c.tc : Thread Cert.IoKernel.nD Cert.IoKernel.τ).loc Cert.IoKernel.main_arg0) = m ((c.tc : Thread Cert.IoKernel.nD Cert.IoKernel.τ).loc Cert.IoKernel.main_arg0)
      ∧ r.2.mem ((c.tc : Thread Cert.IoKernel.nD Cert.IoKernel.τ).loc Cert.IoKernel.main_arg1) = m ((c.tc : Thread Cert.IoKernel.nD Cert.IoKernel.τ).loc Cert.IoKernel.main_arg1)
      ∧ r.2.mem ((c.tc : Thread Cert.IoKernel.nD Cert.IoKernel.τ).loc Cert.IoKernel.main_arg2) = m ((c.tc : Thread Cert.IoKernel.nD Cert.IoKernel.τ).loc Cert.IoKernel.main_arg2)
      ∧ r.2.mem ((c.tc : Thread Cert.IoKernel.nD Cert.IoKernel.τ).loc Cert.IoKernel.main_arg3) = m ((c.tc : Thread Cert.IoKernel.nD Cert.IoKernel.τ).loc Cert.IoKernel.main_arg3)
      ∧ r.2.mem ((c.tc : Thread Cert.IoKernel.nD Cert.IoKernel.τ).loc Cert.IoKernel.main_arg4) = m ((c.tc : Thread Cert.IoKernel.nD Cert.IoKernel.τ).loc Cert.IoKernel.main_arg4)
      ∧ r.2.mem ((c.tc : Thread Cert.IoKernel.nD Cert.IoKernel.τ).loc Cert.IoKernel.main_arg5) = m ((c.tc : Thread Cert.IoKernel.nD Cert.IoKernel.τ).loc Cert.IoKernel.main_arg5))
      ∧ r.2.sem = fun _ => 0)

def quiescent_IoKernelIdeal [hIoKernelIdeal : Cert.IoKernelIdeal.Facts] : Prop :=
  ∀ (m : (ℓ : Loc Cert.IoKernelIdeal.nD Cert.IoKernelIdeal.τ Cert.IoKernelIdeal.sig) → Buf (Elt Ideal) ℓ) (g : Dev Cert.IoKernelIdeal.nD → PrngReg), Pre_IoKernelIdeal m →
    θ_run (Cert.IoKernelIdeal.defs (F := Ideal)) (onTc (τ := Cert.IoKernelIdeal.τ) (Cert.IoKernelIdeal.main (F := Ideal))) ⟨m, fun _ => 0, g⟩ (fun r => (∀ c : Dev Cert.IoKernelIdeal.nD,
      r.2.mem ((c.tc : Thread Cert.IoKernelIdeal.nD Cert.IoKernelIdeal.τ).loc Cert.IoKernelIdeal.main_arg0) = m ((c.tc : Thread Cert.IoKernelIdeal.nD Cert.IoKernelIdeal.τ).loc Cert.IoKernelIdeal.main_arg0)
      ∧ r.2.mem ((c.tc : Thread Cert.IoKernelIdeal.nD Cert.IoKernelIdeal.τ).loc Cert.IoKernelIdeal.main_arg1) = m ((c.tc : Thread Cert.IoKernelIdeal.nD Cert.IoKernelIdeal.τ).loc Cert.IoKernelIdeal.main_arg1)
      ∧ r.2.mem ((c.tc : Thread Cert.IoKernelIdeal.nD Cert.IoKernelIdeal.τ).loc Cert.IoKernelIdeal.main_arg2) = m ((c.tc : Thread Cert.IoKernelIdeal.nD Cert.IoKernelIdeal.τ).loc Cert.IoKernelIdeal.main_arg2)
      ∧ r.2.mem ((c.tc : Thread Cert.IoKernelIdeal.nD Cert.IoKernelIdeal.τ).loc Cert.IoKernelIdeal.main_arg3) = m ((c.tc : Thread Cert.IoKernelIdeal.nD Cert.IoKernelIdeal.τ).loc Cert.IoKernelIdeal.main_arg3)
      ∧ r.2.mem ((c.tc : Thread Cert.IoKernelIdeal.nD Cert.IoKernelIdeal.τ).loc Cert.IoKernelIdeal.main_arg4) = m ((c.tc : Thread Cert.IoKernelIdeal.nD Cert.IoKernelIdeal.τ).loc Cert.IoKernelIdeal.main_arg4)
      ∧ r.2.mem ((c.tc : Thread Cert.IoKernelIdeal.nD Cert.IoKernelIdeal.τ).loc Cert.IoKernelIdeal.main_arg5) = m ((c.tc : Thread Cert.IoKernelIdeal.nD Cert.IoKernelIdeal.τ).loc Cert.IoKernelIdeal.main_arg5))
      ∧ r.2.sem = fun _ => 0)

def quiescent_IoReferenceIdeal [hIoReferenceIdeal : Cert.IoReferenceIdeal.Facts] : Prop :=
  ∀ (m : (ℓ : Loc Cert.IoReferenceIdeal.nD Cert.IoReferenceIdeal.τ Cert.IoReferenceIdeal.sig) → Buf (Elt Ideal) ℓ) (g : Dev Cert.IoReferenceIdeal.nD → PrngReg), Pre_IoReferenceIdeal m →
    θ_run (Cert.IoReferenceIdeal.defs (F := Ideal)) (onTc (τ := Cert.IoReferenceIdeal.τ) (Cert.IoReferenceIdeal.main (F := Ideal))) ⟨m, fun _ => 0, g⟩ (fun r => (∀ c : Dev Cert.IoReferenceIdeal.nD,
      r.2.mem ((c.tc : Thread Cert.IoReferenceIdeal.nD Cert.IoReferenceIdeal.τ).loc Cert.IoReferenceIdeal.main_arg0) = m ((c.tc : Thread Cert.IoReferenceIdeal.nD Cert.IoReferenceIdeal.τ).loc Cert.IoReferenceIdeal.main_arg0)
      ∧ r.2.mem ((c.tc : Thread Cert.IoReferenceIdeal.nD Cert.IoReferenceIdeal.τ).loc Cert.IoReferenceIdeal.main_arg1) = m ((c.tc : Thread Cert.IoReferenceIdeal.nD Cert.IoReferenceIdeal.τ).loc Cert.IoReferenceIdeal.main_arg1)
      ∧ r.2.mem ((c.tc : Thread Cert.IoReferenceIdeal.nD Cert.IoReferenceIdeal.τ).loc Cert.IoReferenceIdeal.main_arg2) = m ((c.tc : Thread Cert.IoReferenceIdeal.nD Cert.IoReferenceIdeal.τ).loc Cert.IoReferenceIdeal.main_arg2)
      ∧ r.2.mem ((c.tc : Thread Cert.IoReferenceIdeal.nD Cert.IoReferenceIdeal.τ).loc Cert.IoReferenceIdeal.main_arg3) = m ((c.tc : Thread Cert.IoReferenceIdeal.nD Cert.IoReferenceIdeal.τ).loc Cert.IoReferenceIdeal.main_arg3)
      ∧ r.2.mem ((c.tc : Thread Cert.IoReferenceIdeal.nD Cert.IoReferenceIdeal.τ).loc Cert.IoReferenceIdeal.main_arg4) = m ((c.tc : Thread Cert.IoReferenceIdeal.nD Cert.IoReferenceIdeal.τ).loc Cert.IoReferenceIdeal.main_arg4)
      ∧ r.2.mem ((c.tc : Thread Cert.IoReferenceIdeal.nD Cert.IoReferenceIdeal.τ).loc Cert.IoReferenceIdeal.main_arg5) = m ((c.tc : Thread Cert.IoReferenceIdeal.nD Cert.IoReferenceIdeal.τ).loc Cert.IoReferenceIdeal.main_arg5))
      ∧ r.2.sem = fun _ => 0)

def quiescent_AKernel [hAKernel : Cert.AKernel.Facts] : Prop :=
  ∀ (m : (ℓ : Loc Cert.AKernel.nD Cert.AKernel.τ Cert.AKernel.sig) → Buf (Elt Bits) ℓ) (g : Dev Cert.AKernel.nD → PrngReg), Pre_AKernel m →
    θ_run (Cert.AKernel.defs (F := Bits)) (onTc (τ := Cert.AKernel.τ) (Cert.AKernel.main (F := Bits))) ⟨m, fun _ => 0, g⟩ (fun r => (∀ c : Dev Cert.AKernel.nD,
      r.2.mem ((c.tc : Thread Cert.AKernel.nD Cert.AKernel.τ).loc Cert.AKernel.main_arg0) = m ((c.tc : Thread Cert.AKernel.nD Cert.AKernel.τ).loc Cert.AKernel.main_arg0)
      ∧ r.2.mem ((c.tc : Thread Cert.AKernel.nD Cert.AKernel.τ).loc Cert.AKernel.main_arg1) = m ((c.tc : Thread Cert.AKernel.nD Cert.AKernel.τ).loc Cert.AKernel.main_arg1)
      ∧ r.2.mem ((c.tc : Thread Cert.AKernel.nD Cert.AKernel.τ).loc Cert.AKernel.main_arg2) = m ((c.tc : Thread Cert.AKernel.nD Cert.AKernel.τ).loc Cert.AKernel.main_arg2)
      ∧ r.2.mem ((c.tc : Thread Cert.AKernel.nD Cert.AKernel.τ).loc Cert.AKernel.main_arg3) = m ((c.tc : Thread Cert.AKernel.nD Cert.AKernel.τ).loc Cert.AKernel.main_arg3)
      ∧ r.2.mem ((c.tc : Thread Cert.AKernel.nD Cert.AKernel.τ).loc Cert.AKernel.main_arg4) = m ((c.tc : Thread Cert.AKernel.nD Cert.AKernel.τ).loc Cert.AKernel.main_arg4))
      ∧ r.2.sem = fun _ => 0)

def quiescent_AKernelIdeal [hAKernelIdeal : Cert.AKernelIdeal.Facts] : Prop :=
  ∀ (m : (ℓ : Loc Cert.AKernelIdeal.nD Cert.AKernelIdeal.τ Cert.AKernelIdeal.sig) → Buf (Elt Ideal) ℓ) (g : Dev Cert.AKernelIdeal.nD → PrngReg), Pre_AKernelIdeal m →
    θ_run (Cert.AKernelIdeal.defs (F := Ideal)) (onTc (τ := Cert.AKernelIdeal.τ) (Cert.AKernelIdeal.main (F := Ideal))) ⟨m, fun _ => 0, g⟩ (fun r => (∀ c : Dev Cert.AKernelIdeal.nD,
      r.2.mem ((c.tc : Thread Cert.AKernelIdeal.nD Cert.AKernelIdeal.τ).loc Cert.AKernelIdeal.main_arg0) = m ((c.tc : Thread Cert.AKernelIdeal.nD Cert.AKernelIdeal.τ).loc Cert.AKernelIdeal.main_arg0)
      ∧ r.2.mem ((c.tc : Thread Cert.AKernelIdeal.nD Cert.AKernelIdeal.τ).loc Cert.AKernelIdeal.main_arg1) = m ((c.tc : Thread Cert.AKernelIdeal.nD Cert.AKernelIdeal.τ).loc Cert.AKernelIdeal.main_arg1)
      ∧ r.2.mem ((c.tc : Thread Cert.AKernelIdeal.nD Cert.AKernelIdeal.τ).loc Cert.AKernelIdeal.main_arg2) = m ((c.tc : Thread Cert.AKernelIdeal.nD Cert.AKernelIdeal.τ).loc Cert.AKernelIdeal.main_arg2)
      ∧ r.2.mem ((c.tc : Thread Cert.AKernelIdeal.nD Cert.AKernelIdeal.τ).loc Cert.AKernelIdeal.main_arg3) = m ((c.tc : Thread Cert.AKernelIdeal.nD Cert.AKernelIdeal.τ).loc Cert.AKernelIdeal.main_arg3)
      ∧ r.2.mem ((c.tc : Thread Cert.AKernelIdeal.nD Cert.AKernelIdeal.τ).loc Cert.AKernelIdeal.main_arg4) = m ((c.tc : Thread Cert.AKernelIdeal.nD Cert.AKernelIdeal.τ).loc Cert.AKernelIdeal.main_arg4))
      ∧ r.2.sem = fun _ => 0)

def quiescent_AReferenceIdeal [hAReferenceIdeal : Cert.AReferenceIdeal.Facts] : Prop :=
  ∀ (m : (ℓ : Loc Cert.AReferenceIdeal.nD Cert.AReferenceIdeal.τ Cert.AReferenceIdeal.sig) → Buf (Elt Ideal) ℓ) (g : Dev Cert.AReferenceIdeal.nD → PrngReg), Pre_AReferenceIdeal m →
    θ_run (Cert.AReferenceIdeal.defs (F := Ideal)) (onTc (τ := Cert.AReferenceIdeal.τ) (Cert.AReferenceIdeal.main (F := Ideal))) ⟨m, fun _ => 0, g⟩ (fun r => (∀ c : Dev Cert.AReferenceIdeal.nD,
      r.2.mem ((c.tc : Thread Cert.AReferenceIdeal.nD Cert.AReferenceIdeal.τ).loc Cert.AReferenceIdeal.main_arg0) = m ((c.tc : Thread Cert.AReferenceIdeal.nD Cert.AReferenceIdeal.τ).loc Cert.AReferenceIdeal.main_arg0)
      ∧ r.2.mem ((c.tc : Thread Cert.AReferenceIdeal.nD Cert.AReferenceIdeal.τ).loc Cert.AReferenceIdeal.main_arg1) = m ((c.tc : Thread Cert.AReferenceIdeal.nD Cert.AReferenceIdeal.τ).loc Cert.AReferenceIdeal.main_arg1)
      ∧ r.2.mem ((c.tc : Thread Cert.AReferenceIdeal.nD Cert.AReferenceIdeal.τ).loc Cert.AReferenceIdeal.main_arg2) = m ((c.tc : Thread Cert.AReferenceIdeal.nD Cert.AReferenceIdeal.τ).loc Cert.AReferenceIdeal.main_arg2)
      ∧ r.2.mem ((c.tc : Thread Cert.AReferenceIdeal.nD Cert.AReferenceIdeal.τ).loc Cert.AReferenceIdeal.main_arg3) = m ((c.tc : Thread Cert.AReferenceIdeal.nD Cert.AReferenceIdeal.τ).loc Cert.AReferenceIdeal.main_arg3)
      ∧ r.2.mem ((c.tc : Thread Cert.AReferenceIdeal.nD Cert.AReferenceIdeal.τ).loc Cert.AReferenceIdeal.main_arg4) = m ((c.tc : Thread Cert.AReferenceIdeal.nD Cert.AReferenceIdeal.τ).loc Cert.AReferenceIdeal.main_arg4))
      ∧ r.2.sem = fun _ => 0)

def quiescent_XaKernel [hXaKernel : Cert.XaKernel.Facts] : Prop :=
  ∀ (m : (ℓ : Loc Cert.XaKernel.nD Cert.XaKernel.τ Cert.XaKernel.sig) → Buf (Elt Bits) ℓ) (g : Dev Cert.XaKernel.nD → PrngReg), Pre_XaKernel m →
    θ_run (Cert.XaKernel.defs (F := Bits)) (onTc (τ := Cert.XaKernel.τ) (Cert.XaKernel.main (F := Bits))) ⟨m, fun _ => 0, g⟩ (fun r => (∀ c : Dev Cert.XaKernel.nD,
      r.2.mem ((c.tc : Thread Cert.XaKernel.nD Cert.XaKernel.τ).loc Cert.XaKernel.main_arg0) = m ((c.tc : Thread Cert.XaKernel.nD Cert.XaKernel.τ).loc Cert.XaKernel.main_arg0)
      ∧ r.2.mem ((c.tc : Thread Cert.XaKernel.nD Cert.XaKernel.τ).loc Cert.XaKernel.main_arg1) = m ((c.tc : Thread Cert.XaKernel.nD Cert.XaKernel.τ).loc Cert.XaKernel.main_arg1)
      ∧ r.2.mem ((c.tc : Thread Cert.XaKernel.nD Cert.XaKernel.τ).loc Cert.XaKernel.main_arg2) = m ((c.tc : Thread Cert.XaKernel.nD Cert.XaKernel.τ).loc Cert.XaKernel.main_arg2)
      ∧ r.2.mem ((c.tc : Thread Cert.XaKernel.nD Cert.XaKernel.τ).loc Cert.XaKernel.main_arg3) = m ((c.tc : Thread Cert.XaKernel.nD Cert.XaKernel.τ).loc Cert.XaKernel.main_arg3)
      ∧ r.2.mem ((c.tc : Thread Cert.XaKernel.nD Cert.XaKernel.τ).loc Cert.XaKernel.main_arg4) = m ((c.tc : Thread Cert.XaKernel.nD Cert.XaKernel.τ).loc Cert.XaKernel.main_arg4)
      ∧ r.2.mem ((c.tc : Thread Cert.XaKernel.nD Cert.XaKernel.τ).loc Cert.XaKernel.main_arg5) = m ((c.tc : Thread Cert.XaKernel.nD Cert.XaKernel.τ).loc Cert.XaKernel.main_arg5))
      ∧ r.2.sem = fun _ => 0)

def quiescent_XaKernelIdeal [hXaKernelIdeal : Cert.XaKernelIdeal.Facts] : Prop :=
  ∀ (m : (ℓ : Loc Cert.XaKernelIdeal.nD Cert.XaKernelIdeal.τ Cert.XaKernelIdeal.sig) → Buf (Elt Ideal) ℓ) (g : Dev Cert.XaKernelIdeal.nD → PrngReg), Pre_XaKernelIdeal m →
    θ_run (Cert.XaKernelIdeal.defs (F := Ideal)) (onTc (τ := Cert.XaKernelIdeal.τ) (Cert.XaKernelIdeal.main (F := Ideal))) ⟨m, fun _ => 0, g⟩ (fun r => (∀ c : Dev Cert.XaKernelIdeal.nD,
      r.2.mem ((c.tc : Thread Cert.XaKernelIdeal.nD Cert.XaKernelIdeal.τ).loc Cert.XaKernelIdeal.main_arg0) = m ((c.tc : Thread Cert.XaKernelIdeal.nD Cert.XaKernelIdeal.τ).loc Cert.XaKernelIdeal.main_arg0)
      ∧ r.2.mem ((c.tc : Thread Cert.XaKernelIdeal.nD Cert.XaKernelIdeal.τ).loc Cert.XaKernelIdeal.main_arg1) = m ((c.tc : Thread Cert.XaKernelIdeal.nD Cert.XaKernelIdeal.τ).loc Cert.XaKernelIdeal.main_arg1)
      ∧ r.2.mem ((c.tc : Thread Cert.XaKernelIdeal.nD Cert.XaKernelIdeal.τ).loc Cert.XaKernelIdeal.main_arg2) = m ((c.tc : Thread Cert.XaKernelIdeal.nD Cert.XaKernelIdeal.τ).loc Cert.XaKernelIdeal.main_arg2)
      ∧ r.2.mem ((c.tc : Thread Cert.XaKernelIdeal.nD Cert.XaKernelIdeal.τ).loc Cert.XaKernelIdeal.main_arg3) = m ((c.tc : Thread Cert.XaKernelIdeal.nD Cert.XaKernelIdeal.τ).loc Cert.XaKernelIdeal.main_arg3)
      ∧ r.2.mem ((c.tc : Thread Cert.XaKernelIdeal.nD Cert.XaKernelIdeal.τ).loc Cert.XaKernelIdeal.main_arg4) = m ((c.tc : Thread Cert.XaKernelIdeal.nD Cert.XaKernelIdeal.τ).loc Cert.XaKernelIdeal.main_arg4)
      ∧ r.2.mem ((c.tc : Thread Cert.XaKernelIdeal.nD Cert.XaKernelIdeal.τ).loc Cert.XaKernelIdeal.main_arg5) = m ((c.tc : Thread Cert.XaKernelIdeal.nD Cert.XaKernelIdeal.τ).loc Cert.XaKernelIdeal.main_arg5))
      ∧ r.2.sem = fun _ => 0)

def quiescent_XaKernelIdeal_pre_finite_xa [hXaKernelIdeal : Cert.XaKernelIdeal.Facts] [hPre_finite_xa : Cert.Pre_finite_xa.Facts] : Prop :=
  ∀ (m : (ℓ : Loc Cert.XaKernelIdeal.nD Cert.XaKernelIdeal.τ Cert.XaKernelIdeal.sig) → Buf (Elt Ideal) ℓ) (g : Dev Cert.XaKernelIdeal.nD → PrngReg), Pre_XaKernelIdeal_finite_xa m →
    θ_run (Cert.XaKernelIdeal.defs (F := Ideal)) (onTc (τ := Cert.XaKernelIdeal.τ) (Cert.XaKernelIdeal.main (F := Ideal))) ⟨m, fun _ => 0, g⟩ (fun r => (∀ c : Dev Cert.XaKernelIdeal.nD,
      r.2.mem ((c.tc : Thread Cert.XaKernelIdeal.nD Cert.XaKernelIdeal.τ).loc Cert.XaKernelIdeal.main_arg0) = m ((c.tc : Thread Cert.XaKernelIdeal.nD Cert.XaKernelIdeal.τ).loc Cert.XaKernelIdeal.main_arg0)
      ∧ r.2.mem ((c.tc : Thread Cert.XaKernelIdeal.nD Cert.XaKernelIdeal.τ).loc Cert.XaKernelIdeal.main_arg1) = m ((c.tc : Thread Cert.XaKernelIdeal.nD Cert.XaKernelIdeal.τ).loc Cert.XaKernelIdeal.main_arg1)
      ∧ r.2.mem ((c.tc : Thread Cert.XaKernelIdeal.nD Cert.XaKernelIdeal.τ).loc Cert.XaKernelIdeal.main_arg2) = m ((c.tc : Thread Cert.XaKernelIdeal.nD Cert.XaKernelIdeal.τ).loc Cert.XaKernelIdeal.main_arg2)
      ∧ r.2.mem ((c.tc : Thread Cert.XaKernelIdeal.nD Cert.XaKernelIdeal.τ).loc Cert.XaKernelIdeal.main_arg3) = m ((c.tc : Thread Cert.XaKernelIdeal.nD Cert.XaKernelIdeal.τ).loc Cert.XaKernelIdeal.main_arg3)
      ∧ r.2.mem ((c.tc : Thread Cert.XaKernelIdeal.nD Cert.XaKernelIdeal.τ).loc Cert.XaKernelIdeal.main_arg4) = m ((c.tc : Thread Cert.XaKernelIdeal.nD Cert.XaKernelIdeal.τ).loc Cert.XaKernelIdeal.main_arg4)
      ∧ r.2.mem ((c.tc : Thread Cert.XaKernelIdeal.nD Cert.XaKernelIdeal.τ).loc Cert.XaKernelIdeal.main_arg5) = m ((c.tc : Thread Cert.XaKernelIdeal.nD Cert.XaKernelIdeal.τ).loc Cert.XaKernelIdeal.main_arg5))
      ∧ r.2.sem = fun _ => 0)

def quiescent_XaReferenceIdeal [hXaReferenceIdeal : Cert.XaReferenceIdeal.Facts] : Prop :=
  ∀ (m : (ℓ : Loc Cert.XaReferenceIdeal.nD Cert.XaReferenceIdeal.τ Cert.XaReferenceIdeal.sig) → Buf (Elt Ideal) ℓ) (g : Dev Cert.XaReferenceIdeal.nD → PrngReg), Pre_XaReferenceIdeal m →
    θ_run (Cert.XaReferenceIdeal.defs (F := Ideal)) (onTc (τ := Cert.XaReferenceIdeal.τ) (Cert.XaReferenceIdeal.main (F := Ideal))) ⟨m, fun _ => 0, g⟩ (fun r => (∀ c : Dev Cert.XaReferenceIdeal.nD,
      r.2.mem ((c.tc : Thread Cert.XaReferenceIdeal.nD Cert.XaReferenceIdeal.τ).loc Cert.XaReferenceIdeal.main_arg0) = m ((c.tc : Thread Cert.XaReferenceIdeal.nD Cert.XaReferenceIdeal.τ).loc Cert.XaReferenceIdeal.main_arg0)
      ∧ r.2.mem ((c.tc : Thread Cert.XaReferenceIdeal.nD Cert.XaReferenceIdeal.τ).loc Cert.XaReferenceIdeal.main_arg1) = m ((c.tc : Thread Cert.XaReferenceIdeal.nD Cert.XaReferenceIdeal.τ).loc Cert.XaReferenceIdeal.main_arg1)
      ∧ r.2.mem ((c.tc : Thread Cert.XaReferenceIdeal.nD Cert.XaReferenceIdeal.τ).loc Cert.XaReferenceIdeal.main_arg2) = m ((c.tc : Thread Cert.XaReferenceIdeal.nD Cert.XaReferenceIdeal.τ).loc Cert.XaReferenceIdeal.main_arg2)
      ∧ r.2.mem ((c.tc : Thread Cert.XaReferenceIdeal.nD Cert.XaReferenceIdeal.τ).loc Cert.XaReferenceIdeal.main_arg3) = m ((c.tc : Thread Cert.XaReferenceIdeal.nD Cert.XaReferenceIdeal.τ).loc Cert.XaReferenceIdeal.main_arg3)
      ∧ r.2.mem ((c.tc : Thread Cert.XaReferenceIdeal.nD Cert.XaReferenceIdeal.τ).loc Cert.XaReferenceIdeal.main_arg4) = m ((c.tc : Thread Cert.XaReferenceIdeal.nD Cert.XaReferenceIdeal.τ).loc Cert.XaReferenceIdeal.main_arg4)
      ∧ r.2.mem ((c.tc : Thread Cert.XaReferenceIdeal.nD Cert.XaReferenceIdeal.τ).loc Cert.XaReferenceIdeal.main_arg5) = m ((c.tc : Thread Cert.XaReferenceIdeal.nD Cert.XaReferenceIdeal.τ).loc Cert.XaReferenceIdeal.main_arg5))
      ∧ r.2.sem = fun _ => 0)

def quiescent_XaReferenceIdeal_pre_finite_xa [hXaReferenceIdeal : Cert.XaReferenceIdeal.Facts] [hPre_finite_xa : Cert.Pre_finite_xa.Facts] : Prop :=
  ∀ (m : (ℓ : Loc Cert.XaReferenceIdeal.nD Cert.XaReferenceIdeal.τ Cert.XaReferenceIdeal.sig) → Buf (Elt Ideal) ℓ) (g : Dev Cert.XaReferenceIdeal.nD → PrngReg), Pre_XaReferenceIdeal_finite_xa m →
    θ_run (Cert.XaReferenceIdeal.defs (F := Ideal)) (onTc (τ := Cert.XaReferenceIdeal.τ) (Cert.XaReferenceIdeal.main (F := Ideal))) ⟨m, fun _ => 0, g⟩ (fun r => (∀ c : Dev Cert.XaReferenceIdeal.nD,
      r.2.mem ((c.tc : Thread Cert.XaReferenceIdeal.nD Cert.XaReferenceIdeal.τ).loc Cert.XaReferenceIdeal.main_arg0) = m ((c.tc : Thread Cert.XaReferenceIdeal.nD Cert.XaReferenceIdeal.τ).loc Cert.XaReferenceIdeal.main_arg0)
      ∧ r.2.mem ((c.tc : Thread Cert.XaReferenceIdeal.nD Cert.XaReferenceIdeal.τ).loc Cert.XaReferenceIdeal.main_arg1) = m ((c.tc : Thread Cert.XaReferenceIdeal.nD Cert.XaReferenceIdeal.τ).loc Cert.XaReferenceIdeal.main_arg1)
      ∧ r.2.mem ((c.tc : Thread Cert.XaReferenceIdeal.nD Cert.XaReferenceIdeal.τ).loc Cert.XaReferenceIdeal.main_arg2) = m ((c.tc : Thread Cert.XaReferenceIdeal.nD Cert.XaReferenceIdeal.τ).loc Cert.XaReferenceIdeal.main_arg2)
      ∧ r.2.mem ((c.tc : Thread Cert.XaReferenceIdeal.nD Cert.XaReferenceIdeal.τ).loc Cert.XaReferenceIdeal.main_arg3) = m ((c.tc : Thread Cert.XaReferenceIdeal.nD Cert.XaReferenceIdeal.τ).loc Cert.XaReferenceIdeal.main_arg3)
      ∧ r.2.mem ((c.tc : Thread Cert.XaReferenceIdeal.nD Cert.XaReferenceIdeal.τ).loc Cert.XaReferenceIdeal.main_arg4) = m ((c.tc : Thread Cert.XaReferenceIdeal.nD Cert.XaReferenceIdeal.τ).loc Cert.XaReferenceIdeal.main_arg4)
      ∧ r.2.mem ((c.tc : Thread Cert.XaReferenceIdeal.nD Cert.XaReferenceIdeal.τ).loc Cert.XaReferenceIdeal.main_arg5) = m ((c.tc : Thread Cert.XaReferenceIdeal.nD Cert.XaReferenceIdeal.τ).loc Cert.XaReferenceIdeal.main_arg5))
      ∧ r.2.sem = fun _ => 0)

def quiescent_NormPreKernel [hNormPreKernel : Cert.NormPreKernel.Facts] : Prop :=
  ∀ (m : (ℓ : Loc Cert.NormPreKernel.nD Cert.NormPreKernel.τ Cert.NormPreKernel.sig) → Buf (Elt Bits) ℓ) (g : Dev Cert.NormPreKernel.nD → PrngReg), Pre_NormPreKernel m →
    θ_run (Cert.NormPreKernel.defs (F := Bits)) (onTc (τ := Cert.NormPreKernel.τ) (Cert.NormPreKernel.main (F := Bits))) ⟨m, fun _ => 0, g⟩ (fun r => (∀ c : Dev Cert.NormPreKernel.nD,
      r.2.mem ((c.tc : Thread Cert.NormPreKernel.nD Cert.NormPreKernel.τ).loc Cert.NormPreKernel.main_arg0) = m ((c.tc : Thread Cert.NormPreKernel.nD Cert.NormPreKernel.τ).loc Cert.NormPreKernel.main_arg0)
      ∧ r.2.mem ((c.tc : Thread Cert.NormPreKernel.nD Cert.NormPreKernel.τ).loc Cert.NormPreKernel.main_arg1) = m ((c.tc : Thread Cert.NormPreKernel.nD Cert.NormPreKernel.τ).loc Cert.NormPreKernel.main_arg1)
      ∧ r.2.mem ((c.tc : Thread Cert.NormPreKernel.nD Cert.NormPreKernel.τ).loc Cert.NormPreKernel.main_arg2) = m ((c.tc : Thread Cert.NormPreKernel.nD Cert.NormPreKernel.τ).loc Cert.NormPreKernel.main_arg2)
      ∧ r.2.mem ((c.tc : Thread Cert.NormPreKernel.nD Cert.NormPreKernel.τ).loc Cert.NormPreKernel.main_arg3) = m ((c.tc : Thread Cert.NormPreKernel.nD Cert.NormPreKernel.τ).loc Cert.NormPreKernel.main_arg3))
      ∧ r.2.sem = fun _ => 0)

def quiescent_NormPreKernelIdeal [hNormPreKernelIdeal : Cert.NormPreKernelIdeal.Facts] : Prop :=
  ∀ (m : (ℓ : Loc Cert.NormPreKernelIdeal.nD Cert.NormPreKernelIdeal.τ Cert.NormPreKernelIdeal.sig) → Buf (Elt Ideal) ℓ) (g : Dev Cert.NormPreKernelIdeal.nD → PrngReg), Pre_NormPreKernelIdeal m →
    θ_run (Cert.NormPreKernelIdeal.defs (F := Ideal)) (onTc (τ := Cert.NormPreKernelIdeal.τ) (Cert.NormPreKernelIdeal.main (F := Ideal))) ⟨m, fun _ => 0, g⟩ (fun r => (∀ c : Dev Cert.NormPreKernelIdeal.nD,
      r.2.mem ((c.tc : Thread Cert.NormPreKernelIdeal.nD Cert.NormPreKernelIdeal.τ).loc Cert.NormPreKernelIdeal.main_arg0) = m ((c.tc : Thread Cert.NormPreKernelIdeal.nD Cert.NormPreKernelIdeal.τ).loc Cert.NormPreKernelIdeal.main_arg0)
      ∧ r.2.mem ((c.tc : Thread Cert.NormPreKernelIdeal.nD Cert.NormPreKernelIdeal.τ).loc Cert.NormPreKernelIdeal.main_arg1) = m ((c.tc : Thread Cert.NormPreKernelIdeal.nD Cert.NormPreKernelIdeal.τ).loc Cert.NormPreKernelIdeal.main_arg1)
      ∧ r.2.mem ((c.tc : Thread Cert.NormPreKernelIdeal.nD Cert.NormPreKernelIdeal.τ).loc Cert.NormPreKernelIdeal.main_arg2) = m ((c.tc : Thread Cert.NormPreKernelIdeal.nD Cert.NormPreKernelIdeal.τ).loc Cert.NormPreKernelIdeal.main_arg2)
      ∧ r.2.mem ((c.tc : Thread Cert.NormPreKernelIdeal.nD Cert.NormPreKernelIdeal.τ).loc Cert.NormPreKernelIdeal.main_arg3) = m ((c.tc : Thread Cert.NormPreKernelIdeal.nD Cert.NormPreKernelIdeal.τ).loc Cert.NormPreKernelIdeal.main_arg3))
      ∧ r.2.sem = fun _ => 0)

def quiescent_NormPreReferenceIdeal [hNormPreReferenceIdeal : Cert.NormPreReferenceIdeal.Facts] : Prop :=
  ∀ (m : (ℓ : Loc Cert.NormPreReferenceIdeal.nD Cert.NormPreReferenceIdeal.τ Cert.NormPreReferenceIdeal.sig) → Buf (Elt Ideal) ℓ) (g : Dev Cert.NormPreReferenceIdeal.nD → PrngReg), Pre_NormPreReferenceIdeal m →
    θ_run (Cert.NormPreReferenceIdeal.defs (F := Ideal)) (onTc (τ := Cert.NormPreReferenceIdeal.τ) (Cert.NormPreReferenceIdeal.main (F := Ideal))) ⟨m, fun _ => 0, g⟩ (fun r => (∀ c : Dev Cert.NormPreReferenceIdeal.nD,
      r.2.mem ((c.tc : Thread Cert.NormPreReferenceIdeal.nD Cert.NormPreReferenceIdeal.τ).loc Cert.NormPreReferenceIdeal.main_arg0) = m ((c.tc : Thread Cert.NormPreReferenceIdeal.nD Cert.NormPreReferenceIdeal.τ).loc Cert.NormPreReferenceIdeal.main_arg0)
      ∧ r.2.mem ((c.tc : Thread Cert.NormPreReferenceIdeal.nD Cert.NormPreReferenceIdeal.τ).loc Cert.NormPreReferenceIdeal.main_arg1) = m ((c.tc : Thread Cert.NormPreReferenceIdeal.nD Cert.NormPreReferenceIdeal.τ).loc Cert.NormPreReferenceIdeal.main_arg1)
      ∧ r.2.mem ((c.tc : Thread Cert.NormPreReferenceIdeal.nD Cert.NormPreReferenceIdeal.τ).loc Cert.NormPreReferenceIdeal.main_arg2) = m ((c.tc : Thread Cert.NormPreReferenceIdeal.nD Cert.NormPreReferenceIdeal.τ).loc Cert.NormPreReferenceIdeal.main_arg2)
      ∧ r.2.mem ((c.tc : Thread Cert.NormPreReferenceIdeal.nD Cert.NormPreReferenceIdeal.τ).loc Cert.NormPreReferenceIdeal.main_arg3) = m ((c.tc : Thread Cert.NormPreReferenceIdeal.nD Cert.NormPreReferenceIdeal.τ).loc Cert.NormPreReferenceIdeal.main_arg3))
      ∧ r.2.sem = fun _ => 0)

def quiescent_NormPostKernel [hNormPostKernel : Cert.NormPostKernel.Facts] : Prop :=
  ∀ (m : (ℓ : Loc Cert.NormPostKernel.nD Cert.NormPostKernel.τ Cert.NormPostKernel.sig) → Buf (Elt Bits) ℓ) (g : Dev Cert.NormPostKernel.nD → PrngReg), Pre_NormPostKernel m →
    θ_run (Cert.NormPostKernel.defs (F := Bits)) (onTc (τ := Cert.NormPostKernel.τ) (Cert.NormPostKernel.main (F := Bits))) ⟨m, fun _ => 0, g⟩ (fun r => (∀ c : Dev Cert.NormPostKernel.nD,
      r.2.mem ((c.tc : Thread Cert.NormPostKernel.nD Cert.NormPostKernel.τ).loc Cert.NormPostKernel.main_arg0) = m ((c.tc : Thread Cert.NormPostKernel.nD Cert.NormPostKernel.τ).loc Cert.NormPostKernel.main_arg0)
      ∧ r.2.mem ((c.tc : Thread Cert.NormPostKernel.nD Cert.NormPostKernel.τ).loc Cert.NormPostKernel.main_arg1) = m ((c.tc : Thread Cert.NormPostKernel.nD Cert.NormPostKernel.τ).loc Cert.NormPostKernel.main_arg1)
      ∧ r.2.mem ((c.tc : Thread Cert.NormPostKernel.nD Cert.NormPostKernel.τ).loc Cert.NormPostKernel.main_arg2) = m ((c.tc : Thread Cert.NormPostKernel.nD Cert.NormPostKernel.τ).loc Cert.NormPostKernel.main_arg2))
      ∧ r.2.sem = fun _ => 0)

def quiescent_NormPostKernelIdeal [hNormPostKernelIdeal : Cert.NormPostKernelIdeal.Facts] : Prop :=
  ∀ (m : (ℓ : Loc Cert.NormPostKernelIdeal.nD Cert.NormPostKernelIdeal.τ Cert.NormPostKernelIdeal.sig) → Buf (Elt Ideal) ℓ) (g : Dev Cert.NormPostKernelIdeal.nD → PrngReg), Pre_NormPostKernelIdeal m →
    θ_run (Cert.NormPostKernelIdeal.defs (F := Ideal)) (onTc (τ := Cert.NormPostKernelIdeal.τ) (Cert.NormPostKernelIdeal.main (F := Ideal))) ⟨m, fun _ => 0, g⟩ (fun r => (∀ c : Dev Cert.NormPostKernelIdeal.nD,
      r.2.mem ((c.tc : Thread Cert.NormPostKernelIdeal.nD Cert.NormPostKernelIdeal.τ).loc Cert.NormPostKernelIdeal.main_arg0) = m ((c.tc : Thread Cert.NormPostKernelIdeal.nD Cert.NormPostKernelIdeal.τ).loc Cert.NormPostKernelIdeal.main_arg0)
      ∧ r.2.mem ((c.tc : Thread Cert.NormPostKernelIdeal.nD Cert.NormPostKernelIdeal.τ).loc Cert.NormPostKernelIdeal.main_arg1) = m ((c.tc : Thread Cert.NormPostKernelIdeal.nD Cert.NormPostKernelIdeal.τ).loc Cert.NormPostKernelIdeal.main_arg1)
      ∧ r.2.mem ((c.tc : Thread Cert.NormPostKernelIdeal.nD Cert.NormPostKernelIdeal.τ).loc Cert.NormPostKernelIdeal.main_arg2) = m ((c.tc : Thread Cert.NormPostKernelIdeal.nD Cert.NormPostKernelIdeal.τ).loc Cert.NormPostKernelIdeal.main_arg2))
      ∧ r.2.sem = fun _ => 0)

def quiescent_NormPostReferenceIdeal [hNormPostReferenceIdeal : Cert.NormPostReferenceIdeal.Facts] : Prop :=
  ∀ (m : (ℓ : Loc Cert.NormPostReferenceIdeal.nD Cert.NormPostReferenceIdeal.τ Cert.NormPostReferenceIdeal.sig) → Buf (Elt Ideal) ℓ) (g : Dev Cert.NormPostReferenceIdeal.nD → PrngReg), Pre_NormPostReferenceIdeal m →
    θ_run (Cert.NormPostReferenceIdeal.defs (F := Ideal)) (onTc (τ := Cert.NormPostReferenceIdeal.τ) (Cert.NormPostReferenceIdeal.main (F := Ideal))) ⟨m, fun _ => 0, g⟩ (fun r => (∀ c : Dev Cert.NormPostReferenceIdeal.nD,
      r.2.mem ((c.tc : Thread Cert.NormPostReferenceIdeal.nD Cert.NormPostReferenceIdeal.τ).loc Cert.NormPostReferenceIdeal.main_arg0) = m ((c.tc : Thread Cert.NormPostReferenceIdeal.nD Cert.NormPostReferenceIdeal.τ).loc Cert.NormPostReferenceIdeal.main_arg0)
      ∧ r.2.mem ((c.tc : Thread Cert.NormPostReferenceIdeal.nD Cert.NormPostReferenceIdeal.τ).loc Cert.NormPostReferenceIdeal.main_arg1) = m ((c.tc : Thread Cert.NormPostReferenceIdeal.nD Cert.NormPostReferenceIdeal.τ).loc Cert.NormPostReferenceIdeal.main_arg1)
      ∧ r.2.mem ((c.tc : Thread Cert.NormPostReferenceIdeal.nD Cert.NormPostReferenceIdeal.τ).loc Cert.NormPostReferenceIdeal.main_arg2) = m ((c.tc : Thread Cert.NormPostReferenceIdeal.nD Cert.NormPostReferenceIdeal.τ).loc Cert.NormPostReferenceIdeal.main_arg2))
      ∧ r.2.sem = fun _ => 0)

def quiescent_NormMemKernel [hNormMemKernel : Cert.NormMemKernel.Facts] : Prop :=
  ∀ (m : (ℓ : Loc Cert.NormMemKernel.nD Cert.NormMemKernel.τ Cert.NormMemKernel.sig) → Buf (Elt Bits) ℓ) (g : Dev Cert.NormMemKernel.nD → PrngReg), Pre_NormMemKernel m →
    θ_run (Cert.NormMemKernel.defs (F := Bits)) (onTc (τ := Cert.NormMemKernel.τ) (Cert.NormMemKernel.main (F := Bits))) ⟨m, fun _ => 0, g⟩ (fun r => (∀ c : Dev Cert.NormMemKernel.nD,
      r.2.mem ((c.tc : Thread Cert.NormMemKernel.nD Cert.NormMemKernel.τ).loc Cert.NormMemKernel.main_arg0) = m ((c.tc : Thread Cert.NormMemKernel.nD Cert.NormMemKernel.τ).loc Cert.NormMemKernel.main_arg0)
      ∧ r.2.mem ((c.tc : Thread Cert.NormMemKernel.nD Cert.NormMemKernel.τ).loc Cert.NormMemKernel.main_arg1) = m ((c.tc : Thread Cert.NormMemKernel.nD Cert.NormMemKernel.τ).loc Cert.NormMemKernel.main_arg1)
      ∧ r.2.mem ((c.tc : Thread Cert.NormMemKernel.nD Cert.NormMemKernel.τ).loc Cert.NormMemKernel.main_arg2) = m ((c.tc : Thread Cert.NormMemKernel.nD Cert.NormMemKernel.τ).loc Cert.NormMemKernel.main_arg2))
      ∧ r.2.sem = fun _ => 0)

def quiescent_NormMemKernelIdeal [hNormMemKernelIdeal : Cert.NormMemKernelIdeal.Facts] : Prop :=
  ∀ (m : (ℓ : Loc Cert.NormMemKernelIdeal.nD Cert.NormMemKernelIdeal.τ Cert.NormMemKernelIdeal.sig) → Buf (Elt Ideal) ℓ) (g : Dev Cert.NormMemKernelIdeal.nD → PrngReg), Pre_NormMemKernelIdeal m →
    θ_run (Cert.NormMemKernelIdeal.defs (F := Ideal)) (onTc (τ := Cert.NormMemKernelIdeal.τ) (Cert.NormMemKernelIdeal.main (F := Ideal))) ⟨m, fun _ => 0, g⟩ (fun r => (∀ c : Dev Cert.NormMemKernelIdeal.nD,
      r.2.mem ((c.tc : Thread Cert.NormMemKernelIdeal.nD Cert.NormMemKernelIdeal.τ).loc Cert.NormMemKernelIdeal.main_arg0) = m ((c.tc : Thread Cert.NormMemKernelIdeal.nD Cert.NormMemKernelIdeal.τ).loc Cert.NormMemKernelIdeal.main_arg0)
      ∧ r.2.mem ((c.tc : Thread Cert.NormMemKernelIdeal.nD Cert.NormMemKernelIdeal.τ).loc Cert.NormMemKernelIdeal.main_arg1) = m ((c.tc : Thread Cert.NormMemKernelIdeal.nD Cert.NormMemKernelIdeal.τ).loc Cert.NormMemKernelIdeal.main_arg1)
      ∧ r.2.mem ((c.tc : Thread Cert.NormMemKernelIdeal.nD Cert.NormMemKernelIdeal.τ).loc Cert.NormMemKernelIdeal.main_arg2) = m ((c.tc : Thread Cert.NormMemKernelIdeal.nD Cert.NormMemKernelIdeal.τ).loc Cert.NormMemKernelIdeal.main_arg2))
      ∧ r.2.sem = fun _ => 0)

def quiescent_NormMemReferenceIdeal [hNormMemReferenceIdeal : Cert.NormMemReferenceIdeal.Facts] : Prop :=
  ∀ (m : (ℓ : Loc Cert.NormMemReferenceIdeal.nD Cert.NormMemReferenceIdeal.τ Cert.NormMemReferenceIdeal.sig) → Buf (Elt Ideal) ℓ) (g : Dev Cert.NormMemReferenceIdeal.nD → PrngReg), Pre_NormMemReferenceIdeal m →
    θ_run (Cert.NormMemReferenceIdeal.defs (F := Ideal)) (onTc (τ := Cert.NormMemReferenceIdeal.τ) (Cert.NormMemReferenceIdeal.main (F := Ideal))) ⟨m, fun _ => 0, g⟩ (fun r => (∀ c : Dev Cert.NormMemReferenceIdeal.nD,
      r.2.mem ((c.tc : Thread Cert.NormMemReferenceIdeal.nD Cert.NormMemReferenceIdeal.τ).loc Cert.NormMemReferenceIdeal.main_arg0) = m ((c.tc : Thread Cert.NormMemReferenceIdeal.nD Cert.NormMemReferenceIdeal.τ).loc Cert.NormMemReferenceIdeal.main_arg0)
      ∧ r.2.mem ((c.tc : Thread Cert.NormMemReferenceIdeal.nD Cert.NormMemReferenceIdeal.τ).loc Cert.NormMemReferenceIdeal.main_arg1) = m ((c.tc : Thread Cert.NormMemReferenceIdeal.nD Cert.NormMemReferenceIdeal.τ).loc Cert.NormMemReferenceIdeal.main_arg1)
      ∧ r.2.mem ((c.tc : Thread Cert.NormMemReferenceIdeal.nD Cert.NormMemReferenceIdeal.τ).loc Cert.NormMemReferenceIdeal.main_arg2) = m ((c.tc : Thread Cert.NormMemReferenceIdeal.nD Cert.NormMemReferenceIdeal.τ).loc Cert.NormMemReferenceIdeal.main_arg2))
      ∧ r.2.sem = fun _ => 0)

def quiescent_CLnKernel [hCLnKernel : Cert.CLnKernel.Facts] : Prop :=
  ∀ (m : (ℓ : Loc Cert.CLnKernel.nD Cert.CLnKernel.τ Cert.CLnKernel.sig) → Buf (Elt Bits) ℓ) (g : Dev Cert.CLnKernel.nD → PrngReg), Pre_CLnKernel m →
    θ_run (Cert.CLnKernel.defs (F := Bits)) (onTc (τ := Cert.CLnKernel.τ) (Cert.CLnKernel.main (F := Bits))) ⟨m, fun _ => 0, g⟩ (fun r => (∀ c : Dev Cert.CLnKernel.nD,
      r.2.mem ((c.tc : Thread Cert.CLnKernel.nD Cert.CLnKernel.τ).loc Cert.CLnKernel.main_arg0) = m ((c.tc : Thread Cert.CLnKernel.nD Cert.CLnKernel.τ).loc Cert.CLnKernel.main_arg0)
      ∧ r.2.mem ((c.tc : Thread Cert.CLnKernel.nD Cert.CLnKernel.τ).loc Cert.CLnKernel.main_arg1) = m ((c.tc : Thread Cert.CLnKernel.nD Cert.CLnKernel.τ).loc Cert.CLnKernel.main_arg1)
      ∧ r.2.mem ((c.tc : Thread Cert.CLnKernel.nD Cert.CLnKernel.τ).loc Cert.CLnKernel.main_arg2) = m ((c.tc : Thread Cert.CLnKernel.nD Cert.CLnKernel.τ).loc Cert.CLnKernel.main_arg2)
      ∧ r.2.mem ((c.tc : Thread Cert.CLnKernel.nD Cert.CLnKernel.τ).loc Cert.CLnKernel.main_arg3) = m ((c.tc : Thread Cert.CLnKernel.nD Cert.CLnKernel.τ).loc Cert.CLnKernel.main_arg3))
      ∧ r.2.sem = fun _ => 0)

def quiescent_CLnKernelIdeal [hCLnKernelIdeal : Cert.CLnKernelIdeal.Facts] : Prop :=
  ∀ (m : (ℓ : Loc Cert.CLnKernelIdeal.nD Cert.CLnKernelIdeal.τ Cert.CLnKernelIdeal.sig) → Buf (Elt Ideal) ℓ) (g : Dev Cert.CLnKernelIdeal.nD → PrngReg), Pre_CLnKernelIdeal m →
    θ_run (Cert.CLnKernelIdeal.defs (F := Ideal)) (onTc (τ := Cert.CLnKernelIdeal.τ) (Cert.CLnKernelIdeal.main (F := Ideal))) ⟨m, fun _ => 0, g⟩ (fun r => (∀ c : Dev Cert.CLnKernelIdeal.nD,
      r.2.mem ((c.tc : Thread Cert.CLnKernelIdeal.nD Cert.CLnKernelIdeal.τ).loc Cert.CLnKernelIdeal.main_arg0) = m ((c.tc : Thread Cert.CLnKernelIdeal.nD Cert.CLnKernelIdeal.τ).loc Cert.CLnKernelIdeal.main_arg0)
      ∧ r.2.mem ((c.tc : Thread Cert.CLnKernelIdeal.nD Cert.CLnKernelIdeal.τ).loc Cert.CLnKernelIdeal.main_arg1) = m ((c.tc : Thread Cert.CLnKernelIdeal.nD Cert.CLnKernelIdeal.τ).loc Cert.CLnKernelIdeal.main_arg1)
      ∧ r.2.mem ((c.tc : Thread Cert.CLnKernelIdeal.nD Cert.CLnKernelIdeal.τ).loc Cert.CLnKernelIdeal.main_arg2) = m ((c.tc : Thread Cert.CLnKernelIdeal.nD Cert.CLnKernelIdeal.τ).loc Cert.CLnKernelIdeal.main_arg2)
      ∧ r.2.mem ((c.tc : Thread Cert.CLnKernelIdeal.nD Cert.CLnKernelIdeal.τ).loc Cert.CLnKernelIdeal.main_arg3) = m ((c.tc : Thread Cert.CLnKernelIdeal.nD Cert.CLnKernelIdeal.τ).loc Cert.CLnKernelIdeal.main_arg3))
      ∧ r.2.sem = fun _ => 0)

def quiescent_CLnKernelIdeal_pre_finite_c_ln [hCLnKernelIdeal : Cert.CLnKernelIdeal.Facts] [hPre_finite_c_ln : Cert.Pre_finite_c_ln.Facts] : Prop :=
  ∀ (m : (ℓ : Loc Cert.CLnKernelIdeal.nD Cert.CLnKernelIdeal.τ Cert.CLnKernelIdeal.sig) → Buf (Elt Ideal) ℓ) (g : Dev Cert.CLnKernelIdeal.nD → PrngReg), Pre_CLnKernelIdeal_finite_c_ln m →
    θ_run (Cert.CLnKernelIdeal.defs (F := Ideal)) (onTc (τ := Cert.CLnKernelIdeal.τ) (Cert.CLnKernelIdeal.main (F := Ideal))) ⟨m, fun _ => 0, g⟩ (fun r => (∀ c : Dev Cert.CLnKernelIdeal.nD,
      r.2.mem ((c.tc : Thread Cert.CLnKernelIdeal.nD Cert.CLnKernelIdeal.τ).loc Cert.CLnKernelIdeal.main_arg0) = m ((c.tc : Thread Cert.CLnKernelIdeal.nD Cert.CLnKernelIdeal.τ).loc Cert.CLnKernelIdeal.main_arg0)
      ∧ r.2.mem ((c.tc : Thread Cert.CLnKernelIdeal.nD Cert.CLnKernelIdeal.τ).loc Cert.CLnKernelIdeal.main_arg1) = m ((c.tc : Thread Cert.CLnKernelIdeal.nD Cert.CLnKernelIdeal.τ).loc Cert.CLnKernelIdeal.main_arg1)
      ∧ r.2.mem ((c.tc : Thread Cert.CLnKernelIdeal.nD Cert.CLnKernelIdeal.τ).loc Cert.CLnKernelIdeal.main_arg2) = m ((c.tc : Thread Cert.CLnKernelIdeal.nD Cert.CLnKernelIdeal.τ).loc Cert.CLnKernelIdeal.main_arg2)
      ∧ r.2.mem ((c.tc : Thread Cert.CLnKernelIdeal.nD Cert.CLnKernelIdeal.τ).loc Cert.CLnKernelIdeal.main_arg3) = m ((c.tc : Thread Cert.CLnKernelIdeal.nD Cert.CLnKernelIdeal.τ).loc Cert.CLnKernelIdeal.main_arg3))
      ∧ r.2.sem = fun _ => 0)

def quiescent_CLnReferenceIdeal [hCLnReferenceIdeal : Cert.CLnReferenceIdeal.Facts] : Prop :=
  ∀ (m : (ℓ : Loc Cert.CLnReferenceIdeal.nD Cert.CLnReferenceIdeal.τ Cert.CLnReferenceIdeal.sig) → Buf (Elt Ideal) ℓ) (g : Dev Cert.CLnReferenceIdeal.nD → PrngReg), Pre_CLnReferenceIdeal m →
    θ_run (Cert.CLnReferenceIdeal.defs (F := Ideal)) (onTc (τ := Cert.CLnReferenceIdeal.τ) (Cert.CLnReferenceIdeal.main (F := Ideal))) ⟨m, fun _ => 0, g⟩ (fun r => (∀ c : Dev Cert.CLnReferenceIdeal.nD,
      r.2.mem ((c.tc : Thread Cert.CLnReferenceIdeal.nD Cert.CLnReferenceIdeal.τ).loc Cert.CLnReferenceIdeal.main_arg0) = m ((c.tc : Thread Cert.CLnReferenceIdeal.nD Cert.CLnReferenceIdeal.τ).loc Cert.CLnReferenceIdeal.main_arg0)
      ∧ r.2.mem ((c.tc : Thread Cert.CLnReferenceIdeal.nD Cert.CLnReferenceIdeal.τ).loc Cert.CLnReferenceIdeal.main_arg1) = m ((c.tc : Thread Cert.CLnReferenceIdeal.nD Cert.CLnReferenceIdeal.τ).loc Cert.CLnReferenceIdeal.main_arg1)
      ∧ r.2.mem ((c.tc : Thread Cert.CLnReferenceIdeal.nD Cert.CLnReferenceIdeal.τ).loc Cert.CLnReferenceIdeal.main_arg2) = m ((c.tc : Thread Cert.CLnReferenceIdeal.nD Cert.CLnReferenceIdeal.τ).loc Cert.CLnReferenceIdeal.main_arg2)
      ∧ r.2.mem ((c.tc : Thread Cert.CLnReferenceIdeal.nD Cert.CLnReferenceIdeal.τ).loc Cert.CLnReferenceIdeal.main_arg3) = m ((c.tc : Thread Cert.CLnReferenceIdeal.nD Cert.CLnReferenceIdeal.τ).loc Cert.CLnReferenceIdeal.main_arg3))
      ∧ r.2.sem = fun _ => 0)

def quiescent_CLnReferenceIdeal_pre_finite_c_ln [hCLnReferenceIdeal : Cert.CLnReferenceIdeal.Facts] [hPre_finite_c_ln : Cert.Pre_finite_c_ln.Facts] : Prop :=
  ∀ (m : (ℓ : Loc Cert.CLnReferenceIdeal.nD Cert.CLnReferenceIdeal.τ Cert.CLnReferenceIdeal.sig) → Buf (Elt Ideal) ℓ) (g : Dev Cert.CLnReferenceIdeal.nD → PrngReg), Pre_CLnReferenceIdeal_finite_c_ln m →
    θ_run (Cert.CLnReferenceIdeal.defs (F := Ideal)) (onTc (τ := Cert.CLnReferenceIdeal.τ) (Cert.CLnReferenceIdeal.main (F := Ideal))) ⟨m, fun _ => 0, g⟩ (fun r => (∀ c : Dev Cert.CLnReferenceIdeal.nD,
      r.2.mem ((c.tc : Thread Cert.CLnReferenceIdeal.nD Cert.CLnReferenceIdeal.τ).loc Cert.CLnReferenceIdeal.main_arg0) = m ((c.tc : Thread Cert.CLnReferenceIdeal.nD Cert.CLnReferenceIdeal.τ).loc Cert.CLnReferenceIdeal.main_arg0)
      ∧ r.2.mem ((c.tc : Thread Cert.CLnReferenceIdeal.nD Cert.CLnReferenceIdeal.τ).loc Cert.CLnReferenceIdeal.main_arg1) = m ((c.tc : Thread Cert.CLnReferenceIdeal.nD Cert.CLnReferenceIdeal.τ).loc Cert.CLnReferenceIdeal.main_arg1)
      ∧ r.2.mem ((c.tc : Thread Cert.CLnReferenceIdeal.nD Cert.CLnReferenceIdeal.τ).loc Cert.CLnReferenceIdeal.main_arg2) = m ((c.tc : Thread Cert.CLnReferenceIdeal.nD Cert.CLnReferenceIdeal.τ).loc Cert.CLnReferenceIdeal.main_arg2)
      ∧ r.2.mem ((c.tc : Thread Cert.CLnReferenceIdeal.nD Cert.CLnReferenceIdeal.τ).loc Cert.CLnReferenceIdeal.main_arg3) = m ((c.tc : Thread Cert.CLnReferenceIdeal.nD Cert.CLnReferenceIdeal.τ).loc Cert.CLnReferenceIdeal.main_arg3))
      ∧ r.2.sem = fun _ => 0)

def quiescent_RmsKernel [hRmsKernel : Cert.RmsKernel.Facts] : Prop :=
  ∀ (m : (ℓ : Loc Cert.RmsKernel.nD Cert.RmsKernel.τ Cert.RmsKernel.sig) → Buf (Elt Bits) ℓ) (g : Dev Cert.RmsKernel.nD → PrngReg), Pre_RmsKernel m →
    θ_run (Cert.RmsKernel.defs (F := Bits)) (onTc (τ := Cert.RmsKernel.τ) (Cert.RmsKernel.main (F := Bits))) ⟨m, fun _ => 0, g⟩ (fun r => (∀ c : Dev Cert.RmsKernel.nD,
      r.2.mem ((c.tc : Thread Cert.RmsKernel.nD Cert.RmsKernel.τ).loc Cert.RmsKernel.main_arg0) = m ((c.tc : Thread Cert.RmsKernel.nD Cert.RmsKernel.τ).loc Cert.RmsKernel.main_arg0)
      ∧ r.2.mem ((c.tc : Thread Cert.RmsKernel.nD Cert.RmsKernel.τ).loc Cert.RmsKernel.main_arg1) = m ((c.tc : Thread Cert.RmsKernel.nD Cert.RmsKernel.τ).loc Cert.RmsKernel.main_arg1))
      ∧ r.2.sem = fun _ => 0)

def quiescent_RmsKernelIdeal [hRmsKernelIdeal : Cert.RmsKernelIdeal.Facts] : Prop :=
  ∀ (m : (ℓ : Loc Cert.RmsKernelIdeal.nD Cert.RmsKernelIdeal.τ Cert.RmsKernelIdeal.sig) → Buf (Elt Ideal) ℓ) (g : Dev Cert.RmsKernelIdeal.nD → PrngReg), Pre_RmsKernelIdeal m →
    θ_run (Cert.RmsKernelIdeal.defs (F := Ideal)) (onTc (τ := Cert.RmsKernelIdeal.τ) (Cert.RmsKernelIdeal.main (F := Ideal))) ⟨m, fun _ => 0, g⟩ (fun r => (∀ c : Dev Cert.RmsKernelIdeal.nD,
      r.2.mem ((c.tc : Thread Cert.RmsKernelIdeal.nD Cert.RmsKernelIdeal.τ).loc Cert.RmsKernelIdeal.main_arg0) = m ((c.tc : Thread Cert.RmsKernelIdeal.nD Cert.RmsKernelIdeal.τ).loc Cert.RmsKernelIdeal.main_arg0)
      ∧ r.2.mem ((c.tc : Thread Cert.RmsKernelIdeal.nD Cert.RmsKernelIdeal.τ).loc Cert.RmsKernelIdeal.main_arg1) = m ((c.tc : Thread Cert.RmsKernelIdeal.nD Cert.RmsKernelIdeal.τ).loc Cert.RmsKernelIdeal.main_arg1))
      ∧ r.2.sem = fun _ => 0)

def quiescent_RmsReferenceIdeal [hRmsReferenceIdeal : Cert.RmsReferenceIdeal.Facts] : Prop :=
  ∀ (m : (ℓ : Loc Cert.RmsReferenceIdeal.nD Cert.RmsReferenceIdeal.τ Cert.RmsReferenceIdeal.sig) → Buf (Elt Ideal) ℓ) (g : Dev Cert.RmsReferenceIdeal.nD → PrngReg), Pre_RmsReferenceIdeal m →
    θ_run (Cert.RmsReferenceIdeal.defs (F := Ideal)) (onTc (τ := Cert.RmsReferenceIdeal.τ) (Cert.RmsReferenceIdeal.main (F := Ideal))) ⟨m, fun _ => 0, g⟩ (fun r => (∀ c : Dev Cert.RmsReferenceIdeal.nD,
      r.2.mem ((c.tc : Thread Cert.RmsReferenceIdeal.nD Cert.RmsReferenceIdeal.τ).loc Cert.RmsReferenceIdeal.main_arg0) = m ((c.tc : Thread Cert.RmsReferenceIdeal.nD Cert.RmsReferenceIdeal.τ).loc Cert.RmsReferenceIdeal.main_arg0)
      ∧ r.2.mem ((c.tc : Thread Cert.RmsReferenceIdeal.nD Cert.RmsReferenceIdeal.τ).loc Cert.RmsReferenceIdeal.main_arg1) = m ((c.tc : Thread Cert.RmsReferenceIdeal.nD Cert.RmsReferenceIdeal.τ).loc Cert.RmsReferenceIdeal.main_arg1))
      ∧ r.2.sem = fun _ => 0)

def quiescent_RmsMemKernel [hRmsMemKernel : Cert.RmsMemKernel.Facts] : Prop :=
  ∀ (m : (ℓ : Loc Cert.RmsMemKernel.nD Cert.RmsMemKernel.τ Cert.RmsMemKernel.sig) → Buf (Elt Bits) ℓ) (g : Dev Cert.RmsMemKernel.nD → PrngReg), Pre_RmsMemKernel m →
    θ_run (Cert.RmsMemKernel.defs (F := Bits)) (onTc (τ := Cert.RmsMemKernel.τ) (Cert.RmsMemKernel.main (F := Bits))) ⟨m, fun _ => 0, g⟩ (fun r => (∀ c : Dev Cert.RmsMemKernel.nD,
      r.2.mem ((c.tc : Thread Cert.RmsMemKernel.nD Cert.RmsMemKernel.τ).loc Cert.RmsMemKernel.main_arg0) = m ((c.tc : Thread Cert.RmsMemKernel.nD Cert.RmsMemKernel.τ).loc Cert.RmsMemKernel.main_arg0)
      ∧ r.2.mem ((c.tc : Thread Cert.RmsMemKernel.nD Cert.RmsMemKernel.τ).loc Cert.RmsMemKernel.main_arg1) = m ((c.tc : Thread Cert.RmsMemKernel.nD Cert.RmsMemKernel.τ).loc Cert.RmsMemKernel.main_arg1))
      ∧ r.2.sem = fun _ => 0)

def quiescent_RmsMemKernelIdeal [hRmsMemKernelIdeal : Cert.RmsMemKernelIdeal.Facts] : Prop :=
  ∀ (m : (ℓ : Loc Cert.RmsMemKernelIdeal.nD Cert.RmsMemKernelIdeal.τ Cert.RmsMemKernelIdeal.sig) → Buf (Elt Ideal) ℓ) (g : Dev Cert.RmsMemKernelIdeal.nD → PrngReg), Pre_RmsMemKernelIdeal m →
    θ_run (Cert.RmsMemKernelIdeal.defs (F := Ideal)) (onTc (τ := Cert.RmsMemKernelIdeal.τ) (Cert.RmsMemKernelIdeal.main (F := Ideal))) ⟨m, fun _ => 0, g⟩ (fun r => (∀ c : Dev Cert.RmsMemKernelIdeal.nD,
      r.2.mem ((c.tc : Thread Cert.RmsMemKernelIdeal.nD Cert.RmsMemKernelIdeal.τ).loc Cert.RmsMemKernelIdeal.main_arg0) = m ((c.tc : Thread Cert.RmsMemKernelIdeal.nD Cert.RmsMemKernelIdeal.τ).loc Cert.RmsMemKernelIdeal.main_arg0)
      ∧ r.2.mem ((c.tc : Thread Cert.RmsMemKernelIdeal.nD Cert.RmsMemKernelIdeal.τ).loc Cert.RmsMemKernelIdeal.main_arg1) = m ((c.tc : Thread Cert.RmsMemKernelIdeal.nD Cert.RmsMemKernelIdeal.τ).loc Cert.RmsMemKernelIdeal.main_arg1))
      ∧ r.2.sem = fun _ => 0)

def quiescent_RmsMemReferenceIdeal [hRmsMemReferenceIdeal : Cert.RmsMemReferenceIdeal.Facts] : Prop :=
  ∀ (m : (ℓ : Loc Cert.RmsMemReferenceIdeal.nD Cert.RmsMemReferenceIdeal.τ Cert.RmsMemReferenceIdeal.sig) → Buf (Elt Ideal) ℓ) (g : Dev Cert.RmsMemReferenceIdeal.nD → PrngReg), Pre_RmsMemReferenceIdeal m →
    θ_run (Cert.RmsMemReferenceIdeal.defs (F := Ideal)) (onTc (τ := Cert.RmsMemReferenceIdeal.τ) (Cert.RmsMemReferenceIdeal.main (F := Ideal))) ⟨m, fun _ => 0, g⟩ (fun r => (∀ c : Dev Cert.RmsMemReferenceIdeal.nD,
      r.2.mem ((c.tc : Thread Cert.RmsMemReferenceIdeal.nD Cert.RmsMemReferenceIdeal.τ).loc Cert.RmsMemReferenceIdeal.main_arg0) = m ((c.tc : Thread Cert.RmsMemReferenceIdeal.nD Cert.RmsMemReferenceIdeal.τ).loc Cert.RmsMemReferenceIdeal.main_arg0)
      ∧ r.2.mem ((c.tc : Thread Cert.RmsMemReferenceIdeal.nD Cert.RmsMemReferenceIdeal.τ).loc Cert.RmsMemReferenceIdeal.main_arg1) = m ((c.tc : Thread Cert.RmsMemReferenceIdeal.nD Cert.RmsMemReferenceIdeal.τ).loc Cert.RmsMemReferenceIdeal.main_arg1))
      ∧ r.2.sem = fun _ => 0)

def quiescent_ResKernel [hResKernel : Cert.ResKernel.Facts] : Prop :=
  ∀ (m : (ℓ : Loc Cert.ResKernel.nD Cert.ResKernel.τ Cert.ResKernel.sig) → Buf (Elt Bits) ℓ) (g : Dev Cert.ResKernel.nD → PrngReg), Pre_ResKernel m →
    θ_run (Cert.ResKernel.defs (F := Bits)) (onTc (τ := Cert.ResKernel.τ) (Cert.ResKernel.main (F := Bits))) ⟨m, fun _ => 0, g⟩ (fun r => (∀ c : Dev Cert.ResKernel.nD,
      r.2.mem ((c.tc : Thread Cert.ResKernel.nD Cert.ResKernel.τ).loc Cert.ResKernel.main_arg0) = m ((c.tc : Thread Cert.ResKernel.nD Cert.ResKernel.τ).loc Cert.ResKernel.main_arg0)
      ∧ r.2.mem ((c.tc : Thread Cert.ResKernel.nD Cert.ResKernel.τ).loc Cert.ResKernel.main_arg1) = m ((c.tc : Thread Cert.ResKernel.nD Cert.ResKernel.τ).loc Cert.ResKernel.main_arg1)
      ∧ r.2.mem ((c.tc : Thread Cert.ResKernel.nD Cert.ResKernel.τ).loc Cert.ResKernel.main_arg2) = m ((c.tc : Thread Cert.ResKernel.nD Cert.ResKernel.τ).loc Cert.ResKernel.main_arg2)
      ∧ r.2.mem ((c.tc : Thread Cert.ResKernel.nD Cert.ResKernel.τ).loc Cert.ResKernel.main_arg3) = m ((c.tc : Thread Cert.ResKernel.nD Cert.ResKernel.τ).loc Cert.ResKernel.main_arg3))
      ∧ r.2.sem = fun _ => 0)

def quiescent_ResKernelIdeal [hResKernelIdeal : Cert.ResKernelIdeal.Facts] : Prop :=
  ∀ (m : (ℓ : Loc Cert.ResKernelIdeal.nD Cert.ResKernelIdeal.τ Cert.ResKernelIdeal.sig) → Buf (Elt Ideal) ℓ) (g : Dev Cert.ResKernelIdeal.nD → PrngReg), Pre_ResKernelIdeal m →
    θ_run (Cert.ResKernelIdeal.defs (F := Ideal)) (onTc (τ := Cert.ResKernelIdeal.τ) (Cert.ResKernelIdeal.main (F := Ideal))) ⟨m, fun _ => 0, g⟩ (fun r => (∀ c : Dev Cert.ResKernelIdeal.nD,
      r.2.mem ((c.tc : Thread Cert.ResKernelIdeal.nD Cert.ResKernelIdeal.τ).loc Cert.ResKernelIdeal.main_arg0) = m ((c.tc : Thread Cert.ResKernelIdeal.nD Cert.ResKernelIdeal.τ).loc Cert.ResKernelIdeal.main_arg0)
      ∧ r.2.mem ((c.tc : Thread Cert.ResKernelIdeal.nD Cert.ResKernelIdeal.τ).loc Cert.ResKernelIdeal.main_arg1) = m ((c.tc : Thread Cert.ResKernelIdeal.nD Cert.ResKernelIdeal.τ).loc Cert.ResKernelIdeal.main_arg1)
      ∧ r.2.mem ((c.tc : Thread Cert.ResKernelIdeal.nD Cert.ResKernelIdeal.τ).loc Cert.ResKernelIdeal.main_arg2) = m ((c.tc : Thread Cert.ResKernelIdeal.nD Cert.ResKernelIdeal.τ).loc Cert.ResKernelIdeal.main_arg2)
      ∧ r.2.mem ((c.tc : Thread Cert.ResKernelIdeal.nD Cert.ResKernelIdeal.τ).loc Cert.ResKernelIdeal.main_arg3) = m ((c.tc : Thread Cert.ResKernelIdeal.nD Cert.ResKernelIdeal.τ).loc Cert.ResKernelIdeal.main_arg3))
      ∧ r.2.sem = fun _ => 0)

def quiescent_ResReferenceIdeal [hResReferenceIdeal : Cert.ResReferenceIdeal.Facts] : Prop :=
  ∀ (m : (ℓ : Loc Cert.ResReferenceIdeal.nD Cert.ResReferenceIdeal.τ Cert.ResReferenceIdeal.sig) → Buf (Elt Ideal) ℓ) (g : Dev Cert.ResReferenceIdeal.nD → PrngReg), Pre_ResReferenceIdeal m →
    θ_run (Cert.ResReferenceIdeal.defs (F := Ideal)) (onTc (τ := Cert.ResReferenceIdeal.τ) (Cert.ResReferenceIdeal.main (F := Ideal))) ⟨m, fun _ => 0, g⟩ (fun r => (∀ c : Dev Cert.ResReferenceIdeal.nD,
      r.2.mem ((c.tc : Thread Cert.ResReferenceIdeal.nD Cert.ResReferenceIdeal.τ).loc Cert.ResReferenceIdeal.main_arg0) = m ((c.tc : Thread Cert.ResReferenceIdeal.nD Cert.ResReferenceIdeal.τ).loc Cert.ResReferenceIdeal.main_arg0)
      ∧ r.2.mem ((c.tc : Thread Cert.ResReferenceIdeal.nD Cert.ResReferenceIdeal.τ).loc Cert.ResReferenceIdeal.main_arg1) = m ((c.tc : Thread Cert.ResReferenceIdeal.nD Cert.ResReferenceIdeal.τ).loc Cert.ResReferenceIdeal.main_arg1)
      ∧ r.2.mem ((c.tc : Thread Cert.ResReferenceIdeal.nD Cert.ResReferenceIdeal.τ).loc Cert.ResReferenceIdeal.main_arg2) = m ((c.tc : Thread Cert.ResReferenceIdeal.nD Cert.ResReferenceIdeal.τ).loc Cert.ResReferenceIdeal.main_arg2)
      ∧ r.2.mem ((c.tc : Thread Cert.ResReferenceIdeal.nD Cert.ResReferenceIdeal.τ).loc Cert.ResReferenceIdeal.main_arg3) = m ((c.tc : Thread Cert.ResReferenceIdeal.nD Cert.ResReferenceIdeal.τ).loc Cert.ResReferenceIdeal.main_arg3))
      ∧ r.2.sem = fun _ => 0)

def quiescent_ResLastKernel [hResLastKernel : Cert.ResLastKernel.Facts] : Prop :=
  ∀ (m : (ℓ : Loc Cert.ResLastKernel.nD Cert.ResLastKernel.τ Cert.ResLastKernel.sig) → Buf (Elt Bits) ℓ) (g : Dev Cert.ResLastKernel.nD → PrngReg), Pre_ResLastKernel m →
    θ_run (Cert.ResLastKernel.defs (F := Bits)) (onTc (τ := Cert.ResLastKernel.τ) (Cert.ResLastKernel.main (F := Bits))) ⟨m, fun _ => 0, g⟩ (fun r => (∀ c : Dev Cert.ResLastKernel.nD,
      r.2.mem ((c.tc : Thread Cert.ResLastKernel.nD Cert.ResLastKernel.τ).loc Cert.ResLastKernel.main_arg0) = m ((c.tc : Thread Cert.ResLastKernel.nD Cert.ResLastKernel.τ).loc Cert.ResLastKernel.main_arg0)
      ∧ r.2.mem ((c.tc : Thread Cert.ResLastKernel.nD Cert.ResLastKernel.τ).loc Cert.ResLastKernel.main_arg1) = m ((c.tc : Thread Cert.ResLastKernel.nD Cert.ResLastKernel.τ).loc Cert.ResLastKernel.main_arg1)
      ∧ r.2.mem ((c.tc : Thread Cert.ResLastKernel.nD Cert.ResLastKernel.τ).loc Cert.ResLastKernel.main_arg2) = m ((c.tc : Thread Cert.ResLastKernel.nD Cert.ResLastKernel.τ).loc Cert.ResLastKernel.main_arg2))
      ∧ r.2.sem = fun _ => 0)

def quiescent_ResLastKernelIdeal [hResLastKernelIdeal : Cert.ResLastKernelIdeal.Facts] : Prop :=
  ∀ (m : (ℓ : Loc Cert.ResLastKernelIdeal.nD Cert.ResLastKernelIdeal.τ Cert.ResLastKernelIdeal.sig) → Buf (Elt Ideal) ℓ) (g : Dev Cert.ResLastKernelIdeal.nD → PrngReg), Pre_ResLastKernelIdeal m →
    θ_run (Cert.ResLastKernelIdeal.defs (F := Ideal)) (onTc (τ := Cert.ResLastKernelIdeal.τ) (Cert.ResLastKernelIdeal.main (F := Ideal))) ⟨m, fun _ => 0, g⟩ (fun r => (∀ c : Dev Cert.ResLastKernelIdeal.nD,
      r.2.mem ((c.tc : Thread Cert.ResLastKernelIdeal.nD Cert.ResLastKernelIdeal.τ).loc Cert.ResLastKernelIdeal.main_arg0) = m ((c.tc : Thread Cert.ResLastKernelIdeal.nD Cert.ResLastKernelIdeal.τ).loc Cert.ResLastKernelIdeal.main_arg0)
      ∧ r.2.mem ((c.tc : Thread Cert.ResLastKernelIdeal.nD Cert.ResLastKernelIdeal.τ).loc Cert.ResLastKernelIdeal.main_arg1) = m ((c.tc : Thread Cert.ResLastKernelIdeal.nD Cert.ResLastKernelIdeal.τ).loc Cert.ResLastKernelIdeal.main_arg1)
      ∧ r.2.mem ((c.tc : Thread Cert.ResLastKernelIdeal.nD Cert.ResLastKernelIdeal.τ).loc Cert.ResLastKernelIdeal.main_arg2) = m ((c.tc : Thread Cert.ResLastKernelIdeal.nD Cert.ResLastKernelIdeal.τ).loc Cert.ResLastKernelIdeal.main_arg2))
      ∧ r.2.sem = fun _ => 0)

def quiescent_ResLastReferenceIdeal [hResLastReferenceIdeal : Cert.ResLastReferenceIdeal.Facts] : Prop :=
  ∀ (m : (ℓ : Loc Cert.ResLastReferenceIdeal.nD Cert.ResLastReferenceIdeal.τ Cert.ResLastReferenceIdeal.sig) → Buf (Elt Ideal) ℓ) (g : Dev Cert.ResLastReferenceIdeal.nD → PrngReg), Pre_ResLastReferenceIdeal m →
    θ_run (Cert.ResLastReferenceIdeal.defs (F := Ideal)) (onTc (τ := Cert.ResLastReferenceIdeal.τ) (Cert.ResLastReferenceIdeal.main (F := Ideal))) ⟨m, fun _ => 0, g⟩ (fun r => (∀ c : Dev Cert.ResLastReferenceIdeal.nD,
      r.2.mem ((c.tc : Thread Cert.ResLastReferenceIdeal.nD Cert.ResLastReferenceIdeal.τ).loc Cert.ResLastReferenceIdeal.main_arg0) = m ((c.tc : Thread Cert.ResLastReferenceIdeal.nD Cert.ResLastReferenceIdeal.τ).loc Cert.ResLastReferenceIdeal.main_arg0)
      ∧ r.2.mem ((c.tc : Thread Cert.ResLastReferenceIdeal.nD Cert.ResLastReferenceIdeal.τ).loc Cert.ResLastReferenceIdeal.main_arg1) = m ((c.tc : Thread Cert.ResLastReferenceIdeal.nD Cert.ResLastReferenceIdeal.τ).loc Cert.ResLastReferenceIdeal.main_arg1)
      ∧ r.2.mem ((c.tc : Thread Cert.ResLastReferenceIdeal.nD Cert.ResLastReferenceIdeal.τ).loc Cert.ResLastReferenceIdeal.main_arg2) = m ((c.tc : Thread Cert.ResLastReferenceIdeal.nD Cert.ResLastReferenceIdeal.τ).loc Cert.ResLastReferenceIdeal.main_arg2))
      ∧ r.2.sem = fun _ => 0)

def quiescent_CLnFKernel [hCLnFKernel : Cert.CLnFKernel.Facts] : Prop :=
  ∀ (m : (ℓ : Loc Cert.CLnFKernel.nD Cert.CLnFKernel.τ Cert.CLnFKernel.sig) → Buf (Elt Bits) ℓ) (g : Dev Cert.CLnFKernel.nD → PrngReg), Pre_CLnFKernel m →
    θ_run (Cert.CLnFKernel.defs (F := Bits)) (onTc (τ := Cert.CLnFKernel.τ) (Cert.CLnFKernel.main (F := Bits))) ⟨m, fun _ => 0, g⟩ (fun r => (∀ c : Dev Cert.CLnFKernel.nD,
      r.2.mem ((c.tc : Thread Cert.CLnFKernel.nD Cert.CLnFKernel.τ).loc Cert.CLnFKernel.main_arg0) = m ((c.tc : Thread Cert.CLnFKernel.nD Cert.CLnFKernel.τ).loc Cert.CLnFKernel.main_arg0)
      ∧ r.2.mem ((c.tc : Thread Cert.CLnFKernel.nD Cert.CLnFKernel.τ).loc Cert.CLnFKernel.main_arg1) = m ((c.tc : Thread Cert.CLnFKernel.nD Cert.CLnFKernel.τ).loc Cert.CLnFKernel.main_arg1)
      ∧ r.2.mem ((c.tc : Thread Cert.CLnFKernel.nD Cert.CLnFKernel.τ).loc Cert.CLnFKernel.main_arg2) = m ((c.tc : Thread Cert.CLnFKernel.nD Cert.CLnFKernel.τ).loc Cert.CLnFKernel.main_arg2))
      ∧ r.2.sem = fun _ => 0)

def quiescent_CLnFKernelIdeal [hCLnFKernelIdeal : Cert.CLnFKernelIdeal.Facts] : Prop :=
  ∀ (m : (ℓ : Loc Cert.CLnFKernelIdeal.nD Cert.CLnFKernelIdeal.τ Cert.CLnFKernelIdeal.sig) → Buf (Elt Ideal) ℓ) (g : Dev Cert.CLnFKernelIdeal.nD → PrngReg), Pre_CLnFKernelIdeal m →
    θ_run (Cert.CLnFKernelIdeal.defs (F := Ideal)) (onTc (τ := Cert.CLnFKernelIdeal.τ) (Cert.CLnFKernelIdeal.main (F := Ideal))) ⟨m, fun _ => 0, g⟩ (fun r => (∀ c : Dev Cert.CLnFKernelIdeal.nD,
      r.2.mem ((c.tc : Thread Cert.CLnFKernelIdeal.nD Cert.CLnFKernelIdeal.τ).loc Cert.CLnFKernelIdeal.main_arg0) = m ((c.tc : Thread Cert.CLnFKernelIdeal.nD Cert.CLnFKernelIdeal.τ).loc Cert.CLnFKernelIdeal.main_arg0)
      ∧ r.2.mem ((c.tc : Thread Cert.CLnFKernelIdeal.nD Cert.CLnFKernelIdeal.τ).loc Cert.CLnFKernelIdeal.main_arg1) = m ((c.tc : Thread Cert.CLnFKernelIdeal.nD Cert.CLnFKernelIdeal.τ).loc Cert.CLnFKernelIdeal.main_arg1)
      ∧ r.2.mem ((c.tc : Thread Cert.CLnFKernelIdeal.nD Cert.CLnFKernelIdeal.τ).loc Cert.CLnFKernelIdeal.main_arg2) = m ((c.tc : Thread Cert.CLnFKernelIdeal.nD Cert.CLnFKernelIdeal.τ).loc Cert.CLnFKernelIdeal.main_arg2))
      ∧ r.2.sem = fun _ => 0)

def quiescent_CLnFReferenceIdeal [hCLnFReferenceIdeal : Cert.CLnFReferenceIdeal.Facts] : Prop :=
  ∀ (m : (ℓ : Loc Cert.CLnFReferenceIdeal.nD Cert.CLnFReferenceIdeal.τ Cert.CLnFReferenceIdeal.sig) → Buf (Elt Ideal) ℓ) (g : Dev Cert.CLnFReferenceIdeal.nD → PrngReg), Pre_CLnFReferenceIdeal m →
    θ_run (Cert.CLnFReferenceIdeal.defs (F := Ideal)) (onTc (τ := Cert.CLnFReferenceIdeal.τ) (Cert.CLnFReferenceIdeal.main (F := Ideal))) ⟨m, fun _ => 0, g⟩ (fun r => (∀ c : Dev Cert.CLnFReferenceIdeal.nD,
      r.2.mem ((c.tc : Thread Cert.CLnFReferenceIdeal.nD Cert.CLnFReferenceIdeal.τ).loc Cert.CLnFReferenceIdeal.main_arg0) = m ((c.tc : Thread Cert.CLnFReferenceIdeal.nD Cert.CLnFReferenceIdeal.τ).loc Cert.CLnFReferenceIdeal.main_arg0)
      ∧ r.2.mem ((c.tc : Thread Cert.CLnFReferenceIdeal.nD Cert.CLnFReferenceIdeal.τ).loc Cert.CLnFReferenceIdeal.main_arg1) = m ((c.tc : Thread Cert.CLnFReferenceIdeal.nD Cert.CLnFReferenceIdeal.τ).loc Cert.CLnFReferenceIdeal.main_arg1)
      ∧ r.2.mem ((c.tc : Thread Cert.CLnFReferenceIdeal.nD Cert.CLnFReferenceIdeal.τ).loc Cert.CLnFReferenceIdeal.main_arg2) = m ((c.tc : Thread Cert.CLnFReferenceIdeal.nD Cert.CLnFReferenceIdeal.τ).loc Cert.CLnFReferenceIdeal.main_arg2))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_CConvFKernel [hCConvFKernel : Cert.CConvFKernel.Facts] : Prop :=
  ∀ (m : (ℓ : Loc Cert.CConvFKernel.nD Cert.CConvFKernel.τ Cert.CConvFKernel.sig) → Buf (Elt Bits) ℓ) (g : Dev Cert.CConvFKernel.nD → PrngReg), Pre_CConvFKernel m →
    θ_run (Cert.CConvFKernel.defs (F := Bits)) (onTc (τ := Cert.CConvFKernel.τ) (Cert.CConvFKernel.main (F := Bits))) ⟨m, fun _ => 0, g⟩ (fun r => (∀ c : Dev Cert.CConvFKernel.nD,
      r.2.mem ((c.tc : Thread Cert.CConvFKernel.nD Cert.CConvFKernel.τ).loc Cert.CConvFKernel.main_arg0) = m ((c.tc : Thread Cert.CConvFKernel.nD Cert.CConvFKernel.τ).loc Cert.CConvFKernel.main_arg0)
      ∧ r.2.mem ((c.tc : Thread Cert.CConvFKernel.nD Cert.CConvFKernel.τ).loc Cert.CConvFKernel.main_arg1) = m ((c.tc : Thread Cert.CConvFKernel.nD Cert.CConvFKernel.τ).loc Cert.CConvFKernel.main_arg1)
      ∧ r.2.mem ((c.tc : Thread Cert.CConvFKernel.nD Cert.CConvFKernel.τ).loc Cert.CConvFKernel.main_arg2) = m ((c.tc : Thread Cert.CConvFKernel.nD Cert.CConvFKernel.τ).loc Cert.CConvFKernel.main_arg2))
      ∧ r.2.sem = fun _ => 0)

def quiescent_CConvFKernelIdeal [hCConvFKernelIdeal : Cert.CConvFKernelIdeal.Facts] : Prop :=
  ∀ (m : (ℓ : Loc Cert.CConvFKernelIdeal.nD Cert.CConvFKernelIdeal.τ Cert.CConvFKernelIdeal.sig) → Buf (Elt Ideal) ℓ) (g : Dev Cert.CConvFKernelIdeal.nD → PrngReg), Pre_CConvFKernelIdeal m →
    θ_run (Cert.CConvFKernelIdeal.defs (F := Ideal)) (onTc (τ := Cert.CConvFKernelIdeal.τ) (Cert.CConvFKernelIdeal.main (F := Ideal))) ⟨m, fun _ => 0, g⟩ (fun r => (∀ c : Dev Cert.CConvFKernelIdeal.nD,
      r.2.mem ((c.tc : Thread Cert.CConvFKernelIdeal.nD Cert.CConvFKernelIdeal.τ).loc Cert.CConvFKernelIdeal.main_arg0) = m ((c.tc : Thread Cert.CConvFKernelIdeal.nD Cert.CConvFKernelIdeal.τ).loc Cert.CConvFKernelIdeal.main_arg0)
      ∧ r.2.mem ((c.tc : Thread Cert.CConvFKernelIdeal.nD Cert.CConvFKernelIdeal.τ).loc Cert.CConvFKernelIdeal.main_arg1) = m ((c.tc : Thread Cert.CConvFKernelIdeal.nD Cert.CConvFKernelIdeal.τ).loc Cert.CConvFKernelIdeal.main_arg1)
      ∧ r.2.mem ((c.tc : Thread Cert.CConvFKernelIdeal.nD Cert.CConvFKernelIdeal.τ).loc Cert.CConvFKernelIdeal.main_arg2) = m ((c.tc : Thread Cert.CConvFKernelIdeal.nD Cert.CConvFKernelIdeal.τ).loc Cert.CConvFKernelIdeal.main_arg2))
      ∧ r.2.sem = fun _ => 0)

def quiescent_CConvFReferenceIdeal [hCConvFReferenceIdeal : Cert.CConvFReferenceIdeal.Facts] : Prop :=
  ∀ (m : (ℓ : Loc Cert.CConvFReferenceIdeal.nD Cert.CConvFReferenceIdeal.τ Cert.CConvFReferenceIdeal.sig) → Buf (Elt Ideal) ℓ) (g : Dev Cert.CConvFReferenceIdeal.nD → PrngReg), Pre_CConvFReferenceIdeal m →
    θ_run (Cert.CConvFReferenceIdeal.defs (F := Ideal)) (onTc (τ := Cert.CConvFReferenceIdeal.τ) (Cert.CConvFReferenceIdeal.main (F := Ideal))) ⟨m, fun _ => 0, g⟩ (fun r => (∀ c : Dev Cert.CConvFReferenceIdeal.nD,
      r.2.mem ((c.tc : Thread Cert.CConvFReferenceIdeal.nD Cert.CConvFReferenceIdeal.τ).loc Cert.CConvFReferenceIdeal.main_arg0) = m ((c.tc : Thread Cert.CConvFReferenceIdeal.nD Cert.CConvFReferenceIdeal.τ).loc Cert.CConvFReferenceIdeal.main_arg0)
      ∧ r.2.mem ((c.tc : Thread Cert.CConvFReferenceIdeal.nD Cert.CConvFReferenceIdeal.τ).loc Cert.CConvFReferenceIdeal.main_arg1) = m ((c.tc : Thread Cert.CConvFReferenceIdeal.nD Cert.CConvFReferenceIdeal.τ).loc Cert.CConvFReferenceIdeal.main_arg1)
      ∧ r.2.mem ((c.tc : Thread Cert.CConvFReferenceIdeal.nD Cert.CConvFReferenceIdeal.τ).loc Cert.CConvFReferenceIdeal.main_arg2) = m ((c.tc : Thread Cert.CConvFReferenceIdeal.nD Cert.CConvFReferenceIdeal.τ).loc Cert.CConvFReferenceIdeal.main_arg2))
      ∧ r.2.sem = fun _ => 0)

def quiescent_CConvKernel [hCConvKernel : Cert.CConvKernel.Facts] : Prop :=
  ∀ (m : (ℓ : Loc Cert.CConvKernel.nD Cert.CConvKernel.τ Cert.CConvKernel.sig) → Buf (Elt Bits) ℓ) (g : Dev Cert.CConvKernel.nD → PrngReg), Pre_CConvKernel m →
    θ_run (Cert.CConvKernel.defs (F := Bits)) (onTc (τ := Cert.CConvKernel.τ) (Cert.CConvKernel.main (F := Bits))) ⟨m, fun _ => 0, g⟩ (fun r => (∀ c : Dev Cert.CConvKernel.nD,
      r.2.mem ((c.tc : Thread Cert.CConvKernel.nD Cert.CConvKernel.τ).loc Cert.CConvKernel.main_arg0) = m ((c.tc : Thread Cert.CConvKernel.nD Cert.CConvKernel.τ).loc Cert.CConvKernel.main_arg0)
      ∧ r.2.mem ((c.tc : Thread Cert.CConvKernel.nD Cert.CConvKernel.τ).loc Cert.CConvKernel.main_arg1) = m ((c.tc : Thread Cert.CConvKernel.nD Cert.CConvKernel.τ).loc Cert.CConvKernel.main_arg1)
      ∧ r.2.mem ((c.tc : Thread Cert.CConvKernel.nD Cert.CConvKernel.τ).loc Cert.CConvKernel.main_arg2) = m ((c.tc : Thread Cert.CConvKernel.nD Cert.CConvKernel.τ).loc Cert.CConvKernel.main_arg2))
      ∧ r.2.sem = fun _ => 0)

def quiescent_CConvKernelIdeal [hCConvKernelIdeal : Cert.CConvKernelIdeal.Facts] : Prop :=
  ∀ (m : (ℓ : Loc Cert.CConvKernelIdeal.nD Cert.CConvKernelIdeal.τ Cert.CConvKernelIdeal.sig) → Buf (Elt Ideal) ℓ) (g : Dev Cert.CConvKernelIdeal.nD → PrngReg), Pre_CConvKernelIdeal m →
    θ_run (Cert.CConvKernelIdeal.defs (F := Ideal)) (onTc (τ := Cert.CConvKernelIdeal.τ) (Cert.CConvKernelIdeal.main (F := Ideal))) ⟨m, fun _ => 0, g⟩ (fun r => (∀ c : Dev Cert.CConvKernelIdeal.nD,
      r.2.mem ((c.tc : Thread Cert.CConvKernelIdeal.nD Cert.CConvKernelIdeal.τ).loc Cert.CConvKernelIdeal.main_arg0) = m ((c.tc : Thread Cert.CConvKernelIdeal.nD Cert.CConvKernelIdeal.τ).loc Cert.CConvKernelIdeal.main_arg0)
      ∧ r.2.mem ((c.tc : Thread Cert.CConvKernelIdeal.nD Cert.CConvKernelIdeal.τ).loc Cert.CConvKernelIdeal.main_arg1) = m ((c.tc : Thread Cert.CConvKernelIdeal.nD Cert.CConvKernelIdeal.τ).loc Cert.CConvKernelIdeal.main_arg1)
      ∧ r.2.mem ((c.tc : Thread Cert.CConvKernelIdeal.nD Cert.CConvKernelIdeal.τ).loc Cert.CConvKernelIdeal.main_arg2) = m ((c.tc : Thread Cert.CConvKernelIdeal.nD Cert.CConvKernelIdeal.τ).loc Cert.CConvKernelIdeal.main_arg2))
      ∧ r.2.sem = fun _ => 0)

def quiescent_CConvReferenceIdeal [hCConvReferenceIdeal : Cert.CConvReferenceIdeal.Facts] : Prop :=
  ∀ (m : (ℓ : Loc Cert.CConvReferenceIdeal.nD Cert.CConvReferenceIdeal.τ Cert.CConvReferenceIdeal.sig) → Buf (Elt Ideal) ℓ) (g : Dev Cert.CConvReferenceIdeal.nD → PrngReg), Pre_CConvReferenceIdeal m →
    θ_run (Cert.CConvReferenceIdeal.defs (F := Ideal)) (onTc (τ := Cert.CConvReferenceIdeal.τ) (Cert.CConvReferenceIdeal.main (F := Ideal))) ⟨m, fun _ => 0, g⟩ (fun r => (∀ c : Dev Cert.CConvReferenceIdeal.nD,
      r.2.mem ((c.tc : Thread Cert.CConvReferenceIdeal.nD Cert.CConvReferenceIdeal.τ).loc Cert.CConvReferenceIdeal.main_arg0) = m ((c.tc : Thread Cert.CConvReferenceIdeal.nD Cert.CConvReferenceIdeal.τ).loc Cert.CConvReferenceIdeal.main_arg0)
      ∧ r.2.mem ((c.tc : Thread Cert.CConvReferenceIdeal.nD Cert.CConvReferenceIdeal.τ).loc Cert.CConvReferenceIdeal.main_arg1) = m ((c.tc : Thread Cert.CConvReferenceIdeal.nD Cert.CConvReferenceIdeal.τ).loc Cert.CConvReferenceIdeal.main_arg1)
      ∧ r.2.mem ((c.tc : Thread Cert.CConvReferenceIdeal.nD Cert.CConvReferenceIdeal.τ).loc Cert.CConvReferenceIdeal.main_arg2) = m ((c.tc : Thread Cert.CConvReferenceIdeal.nD Cert.CConvReferenceIdeal.τ).loc Cert.CConvReferenceIdeal.main_arg2))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_FfnKernel_FfnKernelIdeal : Prop :=
  True

def algebraic_FfnKernelIdeal_FfnReferenceIdeal_pre_finite_ffn [hFfnKernelIdeal : Cert.FfnKernelIdeal.Facts] [hFfnReferenceIdeal : Cert.FfnReferenceIdeal.Facts] [hPre_finite_ffn : Cert.Pre_finite_ffn.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_finite_ffn m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)) →
    ∃ (v0 : (c : Dev Cert.FfnKernelIdeal.nD) → Buf (Elt Ideal) ((c.tc : Thread Cert.FfnKernelIdeal.nD Cert.FfnKernelIdeal.τ).loc Cert.FfnKernelIdeal.main_v2)) (v1 : (c : Dev Cert.FfnKernelIdeal.nD) → Buf (Elt Ideal) ((c.tc : Thread Cert.FfnKernelIdeal.nD Cert.FfnKernelIdeal.τ).loc Cert.FfnKernelIdeal.main_v3)) (v2 : (c : Dev Cert.FfnKernelIdeal.nD) → Buf (Elt Ideal) ((c.tc : Thread Cert.FfnKernelIdeal.nD Cert.FfnKernelIdeal.τ).loc Cert.FfnKernelIdeal.main_v1)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v2) = v0 c
          ∧ r.2.mem ((c.tc : Thread Cert.FfnKernelIdeal.nD Cert.FfnKernelIdeal.τ).loc Cert.FfnKernelIdeal.main_v3) = v1 c
          ∧ r.2.mem ((c.tc : Thread Cert.FfnKernelIdeal.nD Cert.FfnKernelIdeal.τ).loc Cert.FfnKernelIdeal.main_v1) = v2 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v27) = v0 c
          ∧ r.2.mem ((c.tc : Thread Cert.FfnReferenceIdeal.nD Cert.FfnReferenceIdeal.τ).loc Cert.FfnReferenceIdeal.main_v28) = v1 c
          ∧ r.2.mem ((c.tc : Thread Cert.FfnReferenceIdeal.nD Cert.FfnReferenceIdeal.τ).loc Cert.FfnReferenceIdeal.main_v29) = v2 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_DhKernel_DhKernelIdeal : Prop :=
  True

def algebraic_DhKernelIdeal_DhReferenceIdeal [hDhKernelIdeal : Cert.DhKernelIdeal.Facts] [hDhReferenceIdeal : Cert.DhReferenceIdeal.Facts] : Prop :=
  ∀ (m : (ℓ : Loc Cert.DhKernelIdeal.nD Cert.DhKernelIdeal.τ Cert.DhKernelIdeal.sig) → Buf (Elt Ideal) ℓ) (g : Dev Cert.DhKernelIdeal.nD → PrngReg)
    (m' : (ℓ : Loc Cert.DhReferenceIdeal.nD Cert.DhReferenceIdeal.τ Cert.DhReferenceIdeal.sig) → Buf (Elt Ideal) ℓ) (g' : Dev Cert.DhReferenceIdeal.nD → PrngReg), Pre_DhKernelIdeal m →
    (∀ c : Dev Cert.DhKernelIdeal.nD,
      m' ((c.tc : Thread Cert.DhReferenceIdeal.nD Cert.DhReferenceIdeal.τ).loc Cert.DhReferenceIdeal.main_arg0) = m ((c.tc : Thread Cert.DhKernelIdeal.nD Cert.DhKernelIdeal.τ).loc Cert.DhKernelIdeal.main_arg0)
      ∧ m' ((c.tc : Thread Cert.DhReferenceIdeal.nD Cert.DhReferenceIdeal.τ).loc Cert.DhReferenceIdeal.main_arg1) = m ((c.tc : Thread Cert.DhKernelIdeal.nD Cert.DhKernelIdeal.τ).loc Cert.DhKernelIdeal.main_arg1)) →
    ∃ (v0 : (c : Dev Cert.DhKernelIdeal.nD) → Buf (Elt Ideal) ((c.tc : Thread Cert.DhKernelIdeal.nD Cert.DhKernelIdeal.τ).loc Cert.DhKernelIdeal.main_v0)),
      θ_run (Cert.DhKernelIdeal.defs (F := Ideal)) (onTc (τ := Cert.DhKernelIdeal.τ) (Cert.DhKernelIdeal.main (F := Ideal))) ⟨m, fun _ => 0, g⟩ (fun r => ∀ c : Dev Cert.DhKernelIdeal.nD,
          r.2.mem ((c.tc : Thread Cert.DhKernelIdeal.nD Cert.DhKernelIdeal.τ).loc Cert.DhKernelIdeal.main_v0) = v0 c
          ∧ r.2.mem ((c.tc : Thread Cert.DhKernelIdeal.nD Cert.DhKernelIdeal.τ).loc Cert.DhKernelIdeal.main_arg0) = m ((c.tc : Thread Cert.DhKernelIdeal.nD Cert.DhKernelIdeal.τ).loc Cert.DhKernelIdeal.main_arg0)
          ∧ r.2.mem ((c.tc : Thread Cert.DhKernelIdeal.nD Cert.DhKernelIdeal.τ).loc Cert.DhKernelIdeal.main_arg1) = m ((c.tc : Thread Cert.DhKernelIdeal.nD Cert.DhKernelIdeal.τ).loc Cert.DhKernelIdeal.main_arg1))
      ∧ θ_run (Cert.DhReferenceIdeal.defs (F := Ideal)) (onTc (τ := Cert.DhReferenceIdeal.τ) (Cert.DhReferenceIdeal.main (F := Ideal))) ⟨m', fun _ => 0, g'⟩ (fun r => ∀ c : Dev Cert.DhReferenceIdeal.nD,
          r.2.mem ((c.tc : Thread Cert.DhReferenceIdeal.nD Cert.DhReferenceIdeal.τ).loc Cert.DhReferenceIdeal.main_v9) = v0 c
          ∧ r.2.mem ((c.tc : Thread Cert.DhReferenceIdeal.nD Cert.DhReferenceIdeal.τ).loc Cert.DhReferenceIdeal.main_arg0) = m' ((c.tc : Thread Cert.DhReferenceIdeal.nD Cert.DhReferenceIdeal.τ).loc Cert.DhReferenceIdeal.main_arg0)
          ∧ r.2.mem ((c.tc : Thread Cert.DhReferenceIdeal.nD Cert.DhReferenceIdeal.τ).loc Cert.DhReferenceIdeal.main_arg1) = m' ((c.tc : Thread Cert.DhReferenceIdeal.nD Cert.DhReferenceIdeal.τ).loc Cert.DhReferenceIdeal.main_arg1))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)) →
    ∃ (v0 : (c : Dev Cert.DownKernelIdeal.nD) → Buf (Elt Ideal) ((c.tc : Thread Cert.DownKernelIdeal.nD Cert.DownKernelIdeal.τ).loc Cert.DownKernelIdeal.main_v0)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v0) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v4) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_Dh3Kernel_Dh3KernelIdeal : Prop :=
  True

def algebraic_Dh3KernelIdeal_Dh3ReferenceIdeal [hDh3KernelIdeal : Cert.Dh3KernelIdeal.Facts] [hDh3ReferenceIdeal : Cert.Dh3ReferenceIdeal.Facts] : Prop :=
  ∀ (m : (ℓ : Loc Cert.Dh3KernelIdeal.nD Cert.Dh3KernelIdeal.τ Cert.Dh3KernelIdeal.sig) → Buf (Elt Ideal) ℓ) (g : Dev Cert.Dh3KernelIdeal.nD → PrngReg)
    (m' : (ℓ : Loc Cert.Dh3ReferenceIdeal.nD Cert.Dh3ReferenceIdeal.τ Cert.Dh3ReferenceIdeal.sig) → Buf (Elt Ideal) ℓ) (g' : Dev Cert.Dh3ReferenceIdeal.nD → PrngReg), Pre_Dh3KernelIdeal m →
    (∀ c : Dev Cert.Dh3KernelIdeal.nD,
      m' ((c.tc : Thread Cert.Dh3ReferenceIdeal.nD Cert.Dh3ReferenceIdeal.τ).loc Cert.Dh3ReferenceIdeal.main_arg0) = m ((c.tc : Thread Cert.Dh3KernelIdeal.nD Cert.Dh3KernelIdeal.τ).loc Cert.Dh3KernelIdeal.main_arg0)
      ∧ m' ((c.tc : Thread Cert.Dh3ReferenceIdeal.nD Cert.Dh3ReferenceIdeal.τ).loc Cert.Dh3ReferenceIdeal.main_arg1) = m ((c.tc : Thread Cert.Dh3KernelIdeal.nD Cert.Dh3KernelIdeal.τ).loc Cert.Dh3KernelIdeal.main_arg1)) →
    ∃ (v0 : (c : Dev Cert.Dh3KernelIdeal.nD) → Buf (Elt Ideal) ((c.tc : Thread Cert.Dh3KernelIdeal.nD Cert.Dh3KernelIdeal.τ).loc Cert.Dh3KernelIdeal.main_v0)),
      θ_run (Cert.Dh3KernelIdeal.defs (F := Ideal)) (onTc (τ := Cert.Dh3KernelIdeal.τ) (Cert.Dh3KernelIdeal.main (F := Ideal))) ⟨m, fun _ => 0, g⟩ (fun r => ∀ c : Dev Cert.Dh3KernelIdeal.nD,
          r.2.mem ((c.tc : Thread Cert.Dh3KernelIdeal.nD Cert.Dh3KernelIdeal.τ).loc Cert.Dh3KernelIdeal.main_v0) = v0 c
          ∧ r.2.mem ((c.tc : Thread Cert.Dh3KernelIdeal.nD Cert.Dh3KernelIdeal.τ).loc Cert.Dh3KernelIdeal.main_arg0) = m ((c.tc : Thread Cert.Dh3KernelIdeal.nD Cert.Dh3KernelIdeal.τ).loc Cert.Dh3KernelIdeal.main_arg0)
          ∧ r.2.mem ((c.tc : Thread Cert.Dh3KernelIdeal.nD Cert.Dh3KernelIdeal.τ).loc Cert.Dh3KernelIdeal.main_arg1) = m ((c.tc : Thread Cert.Dh3KernelIdeal.nD Cert.Dh3KernelIdeal.τ).loc Cert.Dh3KernelIdeal.main_arg1))
      ∧ θ_run (Cert.Dh3ReferenceIdeal.defs (F := Ideal)) (onTc (τ := Cert.Dh3ReferenceIdeal.τ) (Cert.Dh3ReferenceIdeal.main (F := Ideal))) ⟨m', fun _ => 0, g'⟩ (fun r => ∀ c : Dev Cert.Dh3ReferenceIdeal.nD,
          r.2.mem ((c.tc : Thread Cert.Dh3ReferenceIdeal.nD Cert.Dh3ReferenceIdeal.τ).loc Cert.Dh3ReferenceIdeal.main_v11) = v0 c
          ∧ r.2.mem ((c.tc : Thread Cert.Dh3ReferenceIdeal.nD Cert.Dh3ReferenceIdeal.τ).loc Cert.Dh3ReferenceIdeal.main_arg0) = m' ((c.tc : Thread Cert.Dh3ReferenceIdeal.nD Cert.Dh3ReferenceIdeal.τ).loc Cert.Dh3ReferenceIdeal.main_arg0)
          ∧ r.2.mem ((c.tc : Thread Cert.Dh3ReferenceIdeal.nD Cert.Dh3ReferenceIdeal.τ).loc Cert.Dh3ReferenceIdeal.main_arg1) = m' ((c.tc : Thread Cert.Dh3ReferenceIdeal.nD Cert.Dh3ReferenceIdeal.τ).loc Cert.Dh3ReferenceIdeal.main_arg1))

def preserves_Dh2Kernel_Dh2KernelIdeal : Prop :=
  True

def algebraic_Dh2KernelIdeal_Dh2ReferenceIdeal [hDh2KernelIdeal : Cert.Dh2KernelIdeal.Facts] [hDh2ReferenceIdeal : Cert.Dh2ReferenceIdeal.Facts] : Prop :=
  ∀ (m : (ℓ : Loc Cert.Dh2KernelIdeal.nD Cert.Dh2KernelIdeal.τ Cert.Dh2KernelIdeal.sig) → Buf (Elt Ideal) ℓ) (g : Dev Cert.Dh2KernelIdeal.nD → PrngReg)
    (m' : (ℓ : Loc Cert.Dh2ReferenceIdeal.nD Cert.Dh2ReferenceIdeal.τ Cert.Dh2ReferenceIdeal.sig) → Buf (Elt Ideal) ℓ) (g' : Dev Cert.Dh2ReferenceIdeal.nD → PrngReg), Pre_Dh2KernelIdeal m →
    (∀ c : Dev Cert.Dh2KernelIdeal.nD,
      m' ((c.tc : Thread Cert.Dh2ReferenceIdeal.nD Cert.Dh2ReferenceIdeal.τ).loc Cert.Dh2ReferenceIdeal.main_arg0) = m ((c.tc : Thread Cert.Dh2KernelIdeal.nD Cert.Dh2KernelIdeal.τ).loc Cert.Dh2KernelIdeal.main_arg0)
      ∧ m' ((c.tc : Thread Cert.Dh2ReferenceIdeal.nD Cert.Dh2ReferenceIdeal.τ).loc Cert.Dh2ReferenceIdeal.main_arg1) = m ((c.tc : Thread Cert.Dh2KernelIdeal.nD Cert.Dh2KernelIdeal.τ).loc Cert.Dh2KernelIdeal.main_arg1)) →
    ∃ (v0 : (c : Dev Cert.Dh2KernelIdeal.nD) → Buf (Elt Ideal) ((c.tc : Thread Cert.Dh2KernelIdeal.nD Cert.Dh2KernelIdeal.τ).loc Cert.Dh2KernelIdeal.main_v0)),
      θ_run (Cert.Dh2KernelIdeal.defs (F := Ideal)) (onTc (τ := Cert.Dh2KernelIdeal.τ) (Cert.Dh2KernelIdeal.main (F := Ideal))) ⟨m, fun _ => 0, g⟩ (fun r => ∀ c : Dev Cert.Dh2KernelIdeal.nD,
          r.2.mem ((c.tc : Thread Cert.Dh2KernelIdeal.nD Cert.Dh2KernelIdeal.τ).loc Cert.Dh2KernelIdeal.main_v0) = v0 c
          ∧ r.2.mem ((c.tc : Thread Cert.Dh2KernelIdeal.nD Cert.Dh2KernelIdeal.τ).loc Cert.Dh2KernelIdeal.main_arg0) = m ((c.tc : Thread Cert.Dh2KernelIdeal.nD Cert.Dh2KernelIdeal.τ).loc Cert.Dh2KernelIdeal.main_arg0)
          ∧ r.2.mem ((c.tc : Thread Cert.Dh2KernelIdeal.nD Cert.Dh2KernelIdeal.τ).loc Cert.Dh2KernelIdeal.main_arg1) = m ((c.tc : Thread Cert.Dh2KernelIdeal.nD Cert.Dh2KernelIdeal.τ).loc Cert.Dh2KernelIdeal.main_arg1))
      ∧ θ_run (Cert.Dh2ReferenceIdeal.defs (F := Ideal)) (onTc (τ := Cert.Dh2ReferenceIdeal.τ) (Cert.Dh2ReferenceIdeal.main (F := Ideal))) ⟨m', fun _ => 0, g'⟩ (fun r => ∀ c : Dev Cert.Dh2ReferenceIdeal.nD,
          r.2.mem ((c.tc : Thread Cert.Dh2ReferenceIdeal.nD Cert.Dh2ReferenceIdeal.τ).loc Cert.Dh2ReferenceIdeal.main_v9) = v0 c
          ∧ r.2.mem ((c.tc : Thread Cert.Dh2ReferenceIdeal.nD Cert.Dh2ReferenceIdeal.τ).loc Cert.Dh2ReferenceIdeal.main_arg0) = m' ((c.tc : Thread Cert.Dh2ReferenceIdeal.nD Cert.Dh2ReferenceIdeal.τ).loc Cert.Dh2ReferenceIdeal.main_arg0)
          ∧ r.2.mem ((c.tc : Thread Cert.Dh2ReferenceIdeal.nD Cert.Dh2ReferenceIdeal.τ).loc Cert.Dh2ReferenceIdeal.main_arg1) = m' ((c.tc : Thread Cert.Dh2ReferenceIdeal.nD Cert.Dh2ReferenceIdeal.τ).loc Cert.Dh2ReferenceIdeal.main_arg1))

def preserves_DmemKernel_DmemKernelIdeal : Prop :=
  True

def algebraic_DmemKernelIdeal_DmemReferenceIdeal [hDmemKernelIdeal : Cert.DmemKernelIdeal.Facts] [hDmemReferenceIdeal : Cert.DmemReferenceIdeal.Facts] : Prop :=
  ∀ (m : (ℓ : Loc Cert.DmemKernelIdeal.nD Cert.DmemKernelIdeal.τ Cert.DmemKernelIdeal.sig) → Buf (Elt Ideal) ℓ) (g : Dev Cert.DmemKernelIdeal.nD → PrngReg)
    (m' : (ℓ : Loc Cert.DmemReferenceIdeal.nD Cert.DmemReferenceIdeal.τ Cert.DmemReferenceIdeal.sig) → Buf (Elt Ideal) ℓ) (g' : Dev Cert.DmemReferenceIdeal.nD → PrngReg), Pre_DmemKernelIdeal m →
    (∀ c : Dev Cert.DmemKernelIdeal.nD,
      m' ((c.tc : Thread Cert.DmemReferenceIdeal.nD Cert.DmemReferenceIdeal.τ).loc Cert.DmemReferenceIdeal.main_arg0) = m ((c.tc : Thread Cert.DmemKernelIdeal.nD Cert.DmemKernelIdeal.τ).loc Cert.DmemKernelIdeal.main_arg0)
      ∧ m' ((c.tc : Thread Cert.DmemReferenceIdeal.nD Cert.DmemReferenceIdeal.τ).loc Cert.DmemReferenceIdeal.main_arg1) = m ((c.tc : Thread Cert.DmemKernelIdeal.nD Cert.DmemKernelIdeal.τ).loc Cert.DmemKernelIdeal.main_arg1)) →
    ∃ (v0 : (c : Dev Cert.DmemKernelIdeal.nD) → Buf (Elt Ideal) ((c.tc : Thread Cert.DmemKernelIdeal.nD Cert.DmemKernelIdeal.τ).loc Cert.DmemKernelIdeal.main_v0)),
      θ_run (Cert.DmemKernelIdeal.defs (F := Ideal)) (onTc (τ := Cert.DmemKernelIdeal.τ) (Cert.DmemKernelIdeal.main (F := Ideal))) ⟨m, fun _ => 0, g⟩ (fun r => ∀ c : Dev Cert.DmemKernelIdeal.nD,
          r.2.mem ((c.tc : Thread Cert.DmemKernelIdeal.nD Cert.DmemKernelIdeal.τ).loc Cert.DmemKernelIdeal.main_v0) = v0 c
          ∧ r.2.mem ((c.tc : Thread Cert.DmemKernelIdeal.nD Cert.DmemKernelIdeal.τ).loc Cert.DmemKernelIdeal.main_arg0) = m ((c.tc : Thread Cert.DmemKernelIdeal.nD Cert.DmemKernelIdeal.τ).loc Cert.DmemKernelIdeal.main_arg0)
          ∧ r.2.mem ((c.tc : Thread Cert.DmemKernelIdeal.nD Cert.DmemKernelIdeal.τ).loc Cert.DmemKernelIdeal.main_arg1) = m ((c.tc : Thread Cert.DmemKernelIdeal.nD Cert.DmemKernelIdeal.τ).loc Cert.DmemKernelIdeal.main_arg1))
      ∧ θ_run (Cert.DmemReferenceIdeal.defs (F := Ideal)) (onTc (τ := Cert.DmemReferenceIdeal.τ) (Cert.DmemReferenceIdeal.main (F := Ideal))) ⟨m', fun _ => 0, g'⟩ (fun r => ∀ c : Dev Cert.DmemReferenceIdeal.nD,
          r.2.mem ((c.tc : Thread Cert.DmemReferenceIdeal.nD Cert.DmemReferenceIdeal.τ).loc Cert.DmemReferenceIdeal.main_v8) = v0 c
          ∧ r.2.mem ((c.tc : Thread Cert.DmemReferenceIdeal.nD Cert.DmemReferenceIdeal.τ).loc Cert.DmemReferenceIdeal.main_arg0) = m' ((c.tc : Thread Cert.DmemReferenceIdeal.nD Cert.DmemReferenceIdeal.τ).loc Cert.DmemReferenceIdeal.main_arg0)
          ∧ r.2.mem ((c.tc : Thread Cert.DmemReferenceIdeal.nD Cert.DmemReferenceIdeal.τ).loc Cert.DmemReferenceIdeal.main_arg1) = m' ((c.tc : Thread Cert.DmemReferenceIdeal.nD Cert.DmemReferenceIdeal.τ).loc Cert.DmemReferenceIdeal.main_arg1))

def preserves_IoKernel_IoKernelIdeal : Prop :=
  True

def algebraic_IoKernelIdeal_IoReferenceIdeal [hIoKernelIdeal : Cert.IoKernelIdeal.Facts] [hIoReferenceIdeal : Cert.IoReferenceIdeal.Facts] : Prop :=
  ∀ (m : (ℓ : Loc Cert.IoKernelIdeal.nD Cert.IoKernelIdeal.τ Cert.IoKernelIdeal.sig) → Buf (Elt Ideal) ℓ) (g : Dev Cert.IoKernelIdeal.nD → PrngReg)
    (m' : (ℓ : Loc Cert.IoReferenceIdeal.nD Cert.IoReferenceIdeal.τ Cert.IoReferenceIdeal.sig) → Buf (Elt Ideal) ℓ) (g' : Dev Cert.IoReferenceIdeal.nD → PrngReg), Pre_IoKernelIdeal m →
    (∀ c : Dev Cert.IoKernelIdeal.nD,
      m' ((c.tc : Thread Cert.IoReferenceIdeal.nD Cert.IoReferenceIdeal.τ).loc Cert.IoReferenceIdeal.main_arg0) = m ((c.tc : Thread Cert.IoKernelIdeal.nD Cert.IoKernelIdeal.τ).loc Cert.IoKernelIdeal.main_arg0)
      ∧ m' ((c.tc : Thread Cert.IoReferenceIdeal.nD Cert.IoReferenceIdeal.τ).loc Cert.IoReferenceIdeal.main_arg1) = m ((c.tc : Thread Cert.IoKernelIdeal.nD Cert.IoKernelIdeal.τ).loc Cert.IoKernelIdeal.main_arg1)
      ∧ m' ((c.tc : Thread Cert.IoReferenceIdeal.nD Cert.IoReferenceIdeal.τ).loc Cert.IoReferenceIdeal.main_arg2) = m ((c.tc : Thread Cert.IoKernelIdeal.nD Cert.IoKernelIdeal.τ).loc Cert.IoKernelIdeal.main_arg2)
      ∧ m' ((c.tc : Thread Cert.IoReferenceIdeal.nD Cert.IoReferenceIdeal.τ).loc Cert.IoReferenceIdeal.main_arg3) = m ((c.tc : Thread Cert.IoKernelIdeal.nD Cert.IoKernelIdeal.τ).loc Cert.IoKernelIdeal.main_arg3)
      ∧ m' ((c.tc : Thread Cert.IoReferenceIdeal.nD Cert.IoReferenceIdeal.τ).loc Cert.IoReferenceIdeal.main_arg4) = m ((c.tc : Thread Cert.IoKernelIdeal.nD Cert.IoKernelIdeal.τ).loc Cert.IoKernelIdeal.main_arg4)
      ∧ m' ((c.tc : Thread Cert.IoReferenceIdeal.nD Cert.IoReferenceIdeal.τ).loc Cert.IoReferenceIdeal.main_arg5) = m ((c.tc : Thread Cert.IoKernelIdeal.nD Cert.IoKernelIdeal.τ).loc Cert.IoKernelIdeal.main_arg5)) →
    ∃ (v0 : (c : Dev Cert.IoKernelIdeal.nD) → Buf (Elt Ideal) ((c.tc : Thread Cert.IoKernelIdeal.nD Cert.IoKernelIdeal.τ).loc Cert.IoKernelIdeal.main_v0)) (v1 : (c : Dev Cert.IoKernelIdeal.nD) → Buf (Elt Ideal) ((c.tc : Thread Cert.IoKernelIdeal.nD Cert.IoKernelIdeal.τ).loc Cert.IoKernelIdeal.main_v1)) (v2 : (c : Dev Cert.IoKernelIdeal.nD) → Buf (Elt Ideal) ((c.tc : Thread Cert.IoKernelIdeal.nD Cert.IoKernelIdeal.τ).loc Cert.IoKernelIdeal.main_v2)) (v3 : (c : Dev Cert.IoKernelIdeal.nD) → Buf (Elt Ideal) ((c.tc : Thread Cert.IoKernelIdeal.nD Cert.IoKernelIdeal.τ).loc Cert.IoKernelIdeal.main_v3)) (v4 : (c : Dev Cert.IoKernelIdeal.nD) → Buf (Elt Ideal) ((c.tc : Thread Cert.IoKernelIdeal.nD Cert.IoKernelIdeal.τ).loc Cert.IoKernelIdeal.main_v4)),
      θ_run (Cert.IoKernelIdeal.defs (F := Ideal)) (onTc (τ := Cert.IoKernelIdeal.τ) (Cert.IoKernelIdeal.main (F := Ideal))) ⟨m, fun _ => 0, g⟩ (fun r => ∀ c : Dev Cert.IoKernelIdeal.nD,
          r.2.mem ((c.tc : Thread Cert.IoKernelIdeal.nD Cert.IoKernelIdeal.τ).loc Cert.IoKernelIdeal.main_v0) = v0 c
          ∧ r.2.mem ((c.tc : Thread Cert.IoKernelIdeal.nD Cert.IoKernelIdeal.τ).loc Cert.IoKernelIdeal.main_v1) = v1 c
          ∧ r.2.mem ((c.tc : Thread Cert.IoKernelIdeal.nD Cert.IoKernelIdeal.τ).loc Cert.IoKernelIdeal.main_v2) = v2 c
          ∧ r.2.mem ((c.tc : Thread Cert.IoKernelIdeal.nD Cert.IoKernelIdeal.τ).loc Cert.IoKernelIdeal.main_v3) = v3 c
          ∧ r.2.mem ((c.tc : Thread Cert.IoKernelIdeal.nD Cert.IoKernelIdeal.τ).loc Cert.IoKernelIdeal.main_v4) = v4 c
          ∧ r.2.mem ((c.tc : Thread Cert.IoKernelIdeal.nD Cert.IoKernelIdeal.τ).loc Cert.IoKernelIdeal.main_arg0) = m ((c.tc : Thread Cert.IoKernelIdeal.nD Cert.IoKernelIdeal.τ).loc Cert.IoKernelIdeal.main_arg0)
          ∧ r.2.mem ((c.tc : Thread Cert.IoKernelIdeal.nD Cert.IoKernelIdeal.τ).loc Cert.IoKernelIdeal.main_arg1) = m ((c.tc : Thread Cert.IoKernelIdeal.nD Cert.IoKernelIdeal.τ).loc Cert.IoKernelIdeal.main_arg1)
          ∧ r.2.mem ((c.tc : Thread Cert.IoKernelIdeal.nD Cert.IoKernelIdeal.τ).loc Cert.IoKernelIdeal.main_arg2) = m ((c.tc : Thread Cert.IoKernelIdeal.nD Cert.IoKernelIdeal.τ).loc Cert.IoKernelIdeal.main_arg2)
          ∧ r.2.mem ((c.tc : Thread Cert.IoKernelIdeal.nD Cert.IoKernelIdeal.τ).loc Cert.IoKernelIdeal.main_arg3) = m ((c.tc : Thread Cert.IoKernelIdeal.nD Cert.IoKernelIdeal.τ).loc Cert.IoKernelIdeal.main_arg3)
          ∧ r.2.mem ((c.tc : Thread Cert.IoKernelIdeal.nD Cert.IoKernelIdeal.τ).loc Cert.IoKernelIdeal.main_arg4) = m ((c.tc : Thread Cert.IoKernelIdeal.nD Cert.IoKernelIdeal.τ).loc Cert.IoKernelIdeal.main_arg4)
          ∧ r.2.mem ((c.tc : Thread Cert.IoKernelIdeal.nD Cert.IoKernelIdeal.τ).loc Cert.IoKernelIdeal.main_arg5) = m ((c.tc : Thread Cert.IoKernelIdeal.nD Cert.IoKernelIdeal.τ).loc Cert.IoKernelIdeal.main_arg5))
      ∧ θ_run (Cert.IoReferenceIdeal.defs (F := Ideal)) (onTc (τ := Cert.IoReferenceIdeal.τ) (Cert.IoReferenceIdeal.main (F := Ideal))) ⟨m', fun _ => 0, g'⟩ (fun r => ∀ c : Dev Cert.IoReferenceIdeal.nD,
          r.2.mem ((c.tc : Thread Cert.IoReferenceIdeal.nD Cert.IoReferenceIdeal.τ).loc Cert.IoReferenceIdeal.main_v26) = v0 c
          ∧ r.2.mem ((c.tc : Thread Cert.IoReferenceIdeal.nD Cert.IoReferenceIdeal.τ).loc Cert.IoReferenceIdeal.main_v27) = v1 c
          ∧ r.2.mem ((c.tc : Thread Cert.IoReferenceIdeal.nD Cert.IoReferenceIdeal.τ).loc Cert.IoReferenceIdeal.main_v28) = v2 c
          ∧ r.2.mem ((c.tc : Thread Cert.IoReferenceIdeal.nD Cert.IoReferenceIdeal.τ).loc Cert.IoReferenceIdeal.main_v11) = v3 c
          ∧ r.2.mem ((c.tc : Thread Cert.IoReferenceIdeal.nD Cert.IoReferenceIdeal.τ).loc Cert.IoReferenceIdeal.main_v29) = v4 c
          ∧ r.2.mem ((c.tc : Thread Cert.IoReferenceIdeal.nD Cert.IoReferenceIdeal.τ).loc Cert.IoReferenceIdeal.main_arg0) = m' ((c.tc : Thread Cert.IoReferenceIdeal.nD Cert.IoReferenceIdeal.τ).loc Cert.IoReferenceIdeal.main_arg0)
          ∧ r.2.mem ((c.tc : Thread Cert.IoReferenceIdeal.nD Cert.IoReferenceIdeal.τ).loc Cert.IoReferenceIdeal.main_arg1) = m' ((c.tc : Thread Cert.IoReferenceIdeal.nD Cert.IoReferenceIdeal.τ).loc Cert.IoReferenceIdeal.main_arg1)
          ∧ r.2.mem ((c.tc : Thread Cert.IoReferenceIdeal.nD Cert.IoReferenceIdeal.τ).loc Cert.IoReferenceIdeal.main_arg2) = m' ((c.tc : Thread Cert.IoReferenceIdeal.nD Cert.IoReferenceIdeal.τ).loc Cert.IoReferenceIdeal.main_arg2)
          ∧ r.2.mem ((c.tc : Thread Cert.IoReferenceIdeal.nD Cert.IoReferenceIdeal.τ).loc Cert.IoReferenceIdeal.main_arg3) = m' ((c.tc : Thread Cert.IoReferenceIdeal.nD Cert.IoReferenceIdeal.τ).loc Cert.IoReferenceIdeal.main_arg3)
          ∧ r.2.mem ((c.tc : Thread Cert.IoReferenceIdeal.nD Cert.IoReferenceIdeal.τ).loc Cert.IoReferenceIdeal.main_arg4) = m' ((c.tc : Thread Cert.IoReferenceIdeal.nD Cert.IoReferenceIdeal.τ).loc Cert.IoReferenceIdeal.main_arg4)
          ∧ r.2.mem ((c.tc : Thread Cert.IoReferenceIdeal.nD Cert.IoReferenceIdeal.τ).loc Cert.IoReferenceIdeal.main_arg5) = m' ((c.tc : Thread Cert.IoReferenceIdeal.nD Cert.IoReferenceIdeal.τ).loc Cert.IoReferenceIdeal.main_arg5))

def preserves_AKernel_AKernelIdeal : Prop :=
  True

def algebraic_AKernelIdeal_AReferenceIdeal [hAKernelIdeal : Cert.AKernelIdeal.Facts] [hAReferenceIdeal : Cert.AReferenceIdeal.Facts] : Prop :=
  ∀ (m : (ℓ : Loc Cert.AKernelIdeal.nD Cert.AKernelIdeal.τ Cert.AKernelIdeal.sig) → Buf (Elt Ideal) ℓ) (g : Dev Cert.AKernelIdeal.nD → PrngReg)
    (m' : (ℓ : Loc Cert.AReferenceIdeal.nD Cert.AReferenceIdeal.τ Cert.AReferenceIdeal.sig) → Buf (Elt Ideal) ℓ) (g' : Dev Cert.AReferenceIdeal.nD → PrngReg), Pre_AKernelIdeal m →
    (∀ c : Dev Cert.AKernelIdeal.nD,
      m' ((c.tc : Thread Cert.AReferenceIdeal.nD Cert.AReferenceIdeal.τ).loc Cert.AReferenceIdeal.main_arg0) = m ((c.tc : Thread Cert.AKernelIdeal.nD Cert.AKernelIdeal.τ).loc Cert.AKernelIdeal.main_arg0)
      ∧ m' ((c.tc : Thread Cert.AReferenceIdeal.nD Cert.AReferenceIdeal.τ).loc Cert.AReferenceIdeal.main_arg1) = m ((c.tc : Thread Cert.AKernelIdeal.nD Cert.AKernelIdeal.τ).loc Cert.AKernelIdeal.main_arg1)
      ∧ m' ((c.tc : Thread Cert.AReferenceIdeal.nD Cert.AReferenceIdeal.τ).loc Cert.AReferenceIdeal.main_arg2) = m ((c.tc : Thread Cert.AKernelIdeal.nD Cert.AKernelIdeal.τ).loc Cert.AKernelIdeal.main_arg2)
      ∧ m' ((c.tc : Thread Cert.AReferenceIdeal.nD Cert.AReferenceIdeal.τ).loc Cert.AReferenceIdeal.main_arg3) = m ((c.tc : Thread Cert.AKernelIdeal.nD Cert.AKernelIdeal.τ).loc Cert.AKernelIdeal.main_arg3)
      ∧ m' ((c.tc : Thread Cert.AReferenceIdeal.nD Cert.AReferenceIdeal.τ).loc Cert.AReferenceIdeal.main_arg4) = m ((c.tc : Thread Cert.AKernelIdeal.nD Cert.AKernelIdeal.τ).loc Cert.AKernelIdeal.main_arg4)) →
    ∃ (v0 : (c : Dev Cert.AKernelIdeal.nD) → Buf (Elt Ideal) ((c.tc : Thread Cert.AKernelIdeal.nD Cert.AKernelIdeal.τ).loc Cert.AKernelIdeal.main_v2)) (v1 : (c : Dev Cert.AKernelIdeal.nD) → Buf (Elt Ideal) ((c.tc : Thread Cert.AKernelIdeal.nD Cert.AKernelIdeal.τ).loc Cert.AKernelIdeal.main_v5_0)) (v2 : (c : Dev Cert.AKernelIdeal.nD) → Buf (Elt Ideal) ((c.tc : Thread Cert.AKernelIdeal.nD Cert.AKernelIdeal.τ).loc Cert.AKernelIdeal.main_v6)) (v3 : (c : Dev Cert.AKernelIdeal.nD) → Buf (Elt Ideal) ((c.tc : Thread Cert.AKernelIdeal.nD Cert.AKernelIdeal.τ).loc Cert.AKernelIdeal.main_v5_1)) (v4 : (c : Dev Cert.AKernelIdeal.nD) → Buf (Elt Ideal) ((c.tc : Thread Cert.AKernelIdeal.nD Cert.AKernelIdeal.τ).loc Cert.AKernelIdeal.main_v3)),
      θ_run (Cert.AKernelIdeal.defs (F := Ideal)) (onTc (τ := Cert.AKernelIdeal.τ) (Cert.AKernelIdeal.main (F := Ideal))) ⟨m, fun _ => 0, g⟩ (fun r => ∀ c : Dev Cert.AKernelIdeal.nD,
          r.2.mem ((c.tc : Thread Cert.AKernelIdeal.nD Cert.AKernelIdeal.τ).loc Cert.AKernelIdeal.main_v2) = v0 c
          ∧ r.2.mem ((c.tc : Thread Cert.AKernelIdeal.nD Cert.AKernelIdeal.τ).loc Cert.AKernelIdeal.main_v5_0) = v1 c
          ∧ r.2.mem ((c.tc : Thread Cert.AKernelIdeal.nD Cert.AKernelIdeal.τ).loc Cert.AKernelIdeal.main_v6) = v2 c
          ∧ r.2.mem ((c.tc : Thread Cert.AKernelIdeal.nD Cert.AKernelIdeal.τ).loc Cert.AKernelIdeal.main_v5_1) = v3 c
          ∧ r.2.mem ((c.tc : Thread Cert.AKernelIdeal.nD Cert.AKernelIdeal.τ).loc Cert.AKernelIdeal.main_v3) = v4 c
          ∧ r.2.mem ((c.tc : Thread Cert.AKernelIdeal.nD Cert.AKernelIdeal.τ).loc Cert.AKernelIdeal.main_arg0) = m ((c.tc : Thread Cert.AKernelIdeal.nD Cert.AKernelIdeal.τ).loc Cert.AKernelIdeal.main_arg0)
          ∧ r.2.mem ((c.tc : Thread Cert.AKernelIdeal.nD Cert.AKernelIdeal.τ).loc Cert.AKernelIdeal.main_arg1) = m ((c.tc : Thread Cert.AKernelIdeal.nD Cert.AKernelIdeal.τ).loc Cert.AKernelIdeal.main_arg1)
          ∧ r.2.mem ((c.tc : Thread Cert.AKernelIdeal.nD Cert.AKernelIdeal.τ).loc Cert.AKernelIdeal.main_arg2) = m ((c.tc : Thread Cert.AKernelIdeal.nD Cert.AKernelIdeal.τ).loc Cert.AKernelIdeal.main_arg2)
          ∧ r.2.mem ((c.tc : Thread Cert.AKernelIdeal.nD Cert.AKernelIdeal.τ).loc Cert.AKernelIdeal.main_arg3) = m ((c.tc : Thread Cert.AKernelIdeal.nD Cert.AKernelIdeal.τ).loc Cert.AKernelIdeal.main_arg3)
          ∧ r.2.mem ((c.tc : Thread Cert.AKernelIdeal.nD Cert.AKernelIdeal.τ).loc Cert.AKernelIdeal.main_arg4) = m ((c.tc : Thread Cert.AKernelIdeal.nD Cert.AKernelIdeal.τ).loc Cert.AKernelIdeal.main_arg4))
      ∧ θ_run (Cert.AReferenceIdeal.defs (F := Ideal)) (onTc (τ := Cert.AReferenceIdeal.τ) (Cert.AReferenceIdeal.main (F := Ideal))) ⟨m', fun _ => 0, g'⟩ (fun r => ∀ c : Dev Cert.AReferenceIdeal.nD,
          r.2.mem ((c.tc : Thread Cert.AReferenceIdeal.nD Cert.AReferenceIdeal.τ).loc Cert.AReferenceIdeal.main_v82) = v0 c
          ∧ r.2.mem ((c.tc : Thread Cert.AReferenceIdeal.nD Cert.AReferenceIdeal.τ).loc Cert.AReferenceIdeal.main_v90) = v1 c
          ∧ r.2.mem ((c.tc : Thread Cert.AReferenceIdeal.nD Cert.AReferenceIdeal.τ).loc Cert.AReferenceIdeal.main_v91) = v2 c
          ∧ r.2.mem ((c.tc : Thread Cert.AReferenceIdeal.nD Cert.AReferenceIdeal.τ).loc Cert.AReferenceIdeal.main_v73) = v3 c
          ∧ r.2.mem ((c.tc : Thread Cert.AReferenceIdeal.nD Cert.AReferenceIdeal.τ).loc Cert.AReferenceIdeal.main_v92) = v4 c
          ∧ r.2.mem ((c.tc : Thread Cert.AReferenceIdeal.nD Cert.AReferenceIdeal.τ).loc Cert.AReferenceIdeal.main_arg0) = m' ((c.tc : Thread Cert.AReferenceIdeal.nD Cert.AReferenceIdeal.τ).loc Cert.AReferenceIdeal.main_arg0)
          ∧ r.2.mem ((c.tc : Thread Cert.AReferenceIdeal.nD Cert.AReferenceIdeal.τ).loc Cert.AReferenceIdeal.main_arg1) = m' ((c.tc : Thread Cert.AReferenceIdeal.nD Cert.AReferenceIdeal.τ).loc Cert.AReferenceIdeal.main_arg1)
          ∧ r.2.mem ((c.tc : Thread Cert.AReferenceIdeal.nD Cert.AReferenceIdeal.τ).loc Cert.AReferenceIdeal.main_arg2) = m' ((c.tc : Thread Cert.AReferenceIdeal.nD Cert.AReferenceIdeal.τ).loc Cert.AReferenceIdeal.main_arg2)
          ∧ r.2.mem ((c.tc : Thread Cert.AReferenceIdeal.nD Cert.AReferenceIdeal.τ).loc Cert.AReferenceIdeal.main_arg3) = m' ((c.tc : Thread Cert.AReferenceIdeal.nD Cert.AReferenceIdeal.τ).loc Cert.AReferenceIdeal.main_arg3)
          ∧ r.2.mem ((c.tc : Thread Cert.AReferenceIdeal.nD Cert.AReferenceIdeal.τ).loc Cert.AReferenceIdeal.main_arg4) = m' ((c.tc : Thread Cert.AReferenceIdeal.nD Cert.AReferenceIdeal.τ).loc Cert.AReferenceIdeal.main_arg4))

def preserves_XaKernel_XaKernelIdeal : Prop :=
  True

def algebraic_XaKernelIdeal_XaReferenceIdeal_pre_finite_xa [hXaKernelIdeal : Cert.XaKernelIdeal.Facts] [hXaReferenceIdeal : Cert.XaReferenceIdeal.Facts] [hPre_finite_xa : Cert.Pre_finite_xa.Facts] : Prop :=
  ∀ (m : (ℓ : Loc Cert.XaKernelIdeal.nD Cert.XaKernelIdeal.τ Cert.XaKernelIdeal.sig) → Buf (Elt Ideal) ℓ) (g : Dev Cert.XaKernelIdeal.nD → PrngReg)
    (m' : (ℓ : Loc Cert.XaReferenceIdeal.nD Cert.XaReferenceIdeal.τ Cert.XaReferenceIdeal.sig) → Buf (Elt Ideal) ℓ) (g' : Dev Cert.XaReferenceIdeal.nD → PrngReg), Pre_XaKernelIdeal_finite_xa m →
    (∀ c : Dev Cert.XaKernelIdeal.nD,
      m' ((c.tc : Thread Cert.XaReferenceIdeal.nD Cert.XaReferenceIdeal.τ).loc Cert.XaReferenceIdeal.main_arg0) = m ((c.tc : Thread Cert.XaKernelIdeal.nD Cert.XaKernelIdeal.τ).loc Cert.XaKernelIdeal.main_arg0)
      ∧ m' ((c.tc : Thread Cert.XaReferenceIdeal.nD Cert.XaReferenceIdeal.τ).loc Cert.XaReferenceIdeal.main_arg1) = m ((c.tc : Thread Cert.XaKernelIdeal.nD Cert.XaKernelIdeal.τ).loc Cert.XaKernelIdeal.main_arg1)
      ∧ m' ((c.tc : Thread Cert.XaReferenceIdeal.nD Cert.XaReferenceIdeal.τ).loc Cert.XaReferenceIdeal.main_arg2) = m ((c.tc : Thread Cert.XaKernelIdeal.nD Cert.XaKernelIdeal.τ).loc Cert.XaKernelIdeal.main_arg2)
      ∧ m' ((c.tc : Thread Cert.XaReferenceIdeal.nD Cert.XaReferenceIdeal.τ).loc Cert.XaReferenceIdeal.main_arg3) = m ((c.tc : Thread Cert.XaKernelIdeal.nD Cert.XaKernelIdeal.τ).loc Cert.XaKernelIdeal.main_arg3)
      ∧ m' ((c.tc : Thread Cert.XaReferenceIdeal.nD Cert.XaReferenceIdeal.τ).loc Cert.XaReferenceIdeal.main_arg4) = m ((c.tc : Thread Cert.XaKernelIdeal.nD Cert.XaKernelIdeal.τ).loc Cert.XaKernelIdeal.main_arg4)
      ∧ m' ((c.tc : Thread Cert.XaReferenceIdeal.nD Cert.XaReferenceIdeal.τ).loc Cert.XaReferenceIdeal.main_arg5) = m ((c.tc : Thread Cert.XaKernelIdeal.nD Cert.XaKernelIdeal.τ).loc Cert.XaKernelIdeal.main_arg5)) →
    ∃ (v0 : (c : Dev Cert.XaKernelIdeal.nD) → Buf (Elt Ideal) ((c.tc : Thread Cert.XaKernelIdeal.nD Cert.XaKernelIdeal.τ).loc Cert.XaKernelIdeal.main_v3)) (v1 : (c : Dev Cert.XaKernelIdeal.nD) → Buf (Elt Ideal) ((c.tc : Thread Cert.XaKernelIdeal.nD Cert.XaKernelIdeal.τ).loc Cert.XaKernelIdeal.main_v8)) (v2 : (c : Dev Cert.XaKernelIdeal.nD) → Buf (Elt Ideal) ((c.tc : Thread Cert.XaKernelIdeal.nD Cert.XaKernelIdeal.τ).loc Cert.XaKernelIdeal.main_v9)) (v3 : (c : Dev Cert.XaKernelIdeal.nD) → Buf (Elt Ideal) ((c.tc : Thread Cert.XaKernelIdeal.nD Cert.XaKernelIdeal.τ).loc Cert.XaKernelIdeal.main_v7)) (v4 : (c : Dev Cert.XaKernelIdeal.nD) → Buf (Elt Ideal) ((c.tc : Thread Cert.XaKernelIdeal.nD Cert.XaKernelIdeal.τ).loc Cert.XaKernelIdeal.main_v10)) (v5 : (c : Dev Cert.XaKernelIdeal.nD) → Buf (Elt Ideal) ((c.tc : Thread Cert.XaKernelIdeal.nD Cert.XaKernelIdeal.τ).loc Cert.XaKernelIdeal.main_v4)),
      θ_run (Cert.XaKernelIdeal.defs (F := Ideal)) (onTc (τ := Cert.XaKernelIdeal.τ) (Cert.XaKernelIdeal.main (F := Ideal))) ⟨m, fun _ => 0, g⟩ (fun r => ∀ c : Dev Cert.XaKernelIdeal.nD,
          r.2.mem ((c.tc : Thread Cert.XaKernelIdeal.nD Cert.XaKernelIdeal.τ).loc Cert.XaKernelIdeal.main_v3) = v0 c
          ∧ r.2.mem ((c.tc : Thread Cert.XaKernelIdeal.nD Cert.XaKernelIdeal.τ).loc Cert.XaKernelIdeal.main_v8) = v1 c
          ∧ r.2.mem ((c.tc : Thread Cert.XaKernelIdeal.nD Cert.XaKernelIdeal.τ).loc Cert.XaKernelIdeal.main_v9) = v2 c
          ∧ r.2.mem ((c.tc : Thread Cert.XaKernelIdeal.nD Cert.XaKernelIdeal.τ).loc Cert.XaKernelIdeal.main_v7) = v3 c
          ∧ r.2.mem ((c.tc : Thread Cert.XaKernelIdeal.nD Cert.XaKernelIdeal.τ).loc Cert.XaKernelIdeal.main_v10) = v4 c
          ∧ r.2.mem ((c.tc : Thread Cert.XaKernelIdeal.nD Cert.XaKernelIdeal.τ).loc Cert.XaKernelIdeal.main_v4) = v5 c
          ∧ r.2.mem ((c.tc : Thread Cert.XaKernelIdeal.nD Cert.XaKernelIdeal.τ).loc Cert.XaKernelIdeal.main_arg0) = m ((c.tc : Thread Cert.XaKernelIdeal.nD Cert.XaKernelIdeal.τ).loc Cert.XaKernelIdeal.main_arg0)
          ∧ r.2.mem ((c.tc : Thread Cert.XaKernelIdeal.nD Cert.XaKernelIdeal.τ).loc Cert.XaKernelIdeal.main_arg1) = m ((c.tc : Thread Cert.XaKernelIdeal.nD Cert.XaKernelIdeal.τ).loc Cert.XaKernelIdeal.main_arg1)
          ∧ r.2.mem ((c.tc : Thread Cert.XaKernelIdeal.nD Cert.XaKernelIdeal.τ).loc Cert.XaKernelIdeal.main_arg2) = m ((c.tc : Thread Cert.XaKernelIdeal.nD Cert.XaKernelIdeal.τ).loc Cert.XaKernelIdeal.main_arg2)
          ∧ r.2.mem ((c.tc : Thread Cert.XaKernelIdeal.nD Cert.XaKernelIdeal.τ).loc Cert.XaKernelIdeal.main_arg3) = m ((c.tc : Thread Cert.XaKernelIdeal.nD Cert.XaKernelIdeal.τ).loc Cert.XaKernelIdeal.main_arg3)
          ∧ r.2.mem ((c.tc : Thread Cert.XaKernelIdeal.nD Cert.XaKernelIdeal.τ).loc Cert.XaKernelIdeal.main_arg4) = m ((c.tc : Thread Cert.XaKernelIdeal.nD Cert.XaKernelIdeal.τ).loc Cert.XaKernelIdeal.main_arg4)
          ∧ r.2.mem ((c.tc : Thread Cert.XaKernelIdeal.nD Cert.XaKernelIdeal.τ).loc Cert.XaKernelIdeal.main_arg5) = m ((c.tc : Thread Cert.XaKernelIdeal.nD Cert.XaKernelIdeal.τ).loc Cert.XaKernelIdeal.main_arg5))
      ∧ θ_run (Cert.XaReferenceIdeal.defs (F := Ideal)) (onTc (τ := Cert.XaReferenceIdeal.τ) (Cert.XaReferenceIdeal.main (F := Ideal))) ⟨m', fun _ => 0, g'⟩ (fun r => ∀ c : Dev Cert.XaReferenceIdeal.nD,
          r.2.mem ((c.tc : Thread Cert.XaReferenceIdeal.nD Cert.XaReferenceIdeal.τ).loc Cert.XaReferenceIdeal.main_v103) = v0 c
          ∧ r.2.mem ((c.tc : Thread Cert.XaReferenceIdeal.nD Cert.XaReferenceIdeal.τ).loc Cert.XaReferenceIdeal.main_v104) = v1 c
          ∧ r.2.mem ((c.tc : Thread Cert.XaReferenceIdeal.nD Cert.XaReferenceIdeal.τ).loc Cert.XaReferenceIdeal.main_v110) = v2 c
          ∧ r.2.mem ((c.tc : Thread Cert.XaReferenceIdeal.nD Cert.XaReferenceIdeal.τ).loc Cert.XaReferenceIdeal.main_v111) = v3 c
          ∧ r.2.mem ((c.tc : Thread Cert.XaReferenceIdeal.nD Cert.XaReferenceIdeal.τ).loc Cert.XaReferenceIdeal.main_v112) = v4 c
          ∧ r.2.mem ((c.tc : Thread Cert.XaReferenceIdeal.nD Cert.XaReferenceIdeal.τ).loc Cert.XaReferenceIdeal.main_v113) = v5 c
          ∧ r.2.mem ((c.tc : Thread Cert.XaReferenceIdeal.nD Cert.XaReferenceIdeal.τ).loc Cert.XaReferenceIdeal.main_arg0) = m' ((c.tc : Thread Cert.XaReferenceIdeal.nD Cert.XaReferenceIdeal.τ).loc Cert.XaReferenceIdeal.main_arg0)
          ∧ r.2.mem ((c.tc : Thread Cert.XaReferenceIdeal.nD Cert.XaReferenceIdeal.τ).loc Cert.XaReferenceIdeal.main_arg1) = m' ((c.tc : Thread Cert.XaReferenceIdeal.nD Cert.XaReferenceIdeal.τ).loc Cert.XaReferenceIdeal.main_arg1)
          ∧ r.2.mem ((c.tc : Thread Cert.XaReferenceIdeal.nD Cert.XaReferenceIdeal.τ).loc Cert.XaReferenceIdeal.main_arg2) = m' ((c.tc : Thread Cert.XaReferenceIdeal.nD Cert.XaReferenceIdeal.τ).loc Cert.XaReferenceIdeal.main_arg2)
          ∧ r.2.mem ((c.tc : Thread Cert.XaReferenceIdeal.nD Cert.XaReferenceIdeal.τ).loc Cert.XaReferenceIdeal.main_arg3) = m' ((c.tc : Thread Cert.XaReferenceIdeal.nD Cert.XaReferenceIdeal.τ).loc Cert.XaReferenceIdeal.main_arg3)
          ∧ r.2.mem ((c.tc : Thread Cert.XaReferenceIdeal.nD Cert.XaReferenceIdeal.τ).loc Cert.XaReferenceIdeal.main_arg4) = m' ((c.tc : Thread Cert.XaReferenceIdeal.nD Cert.XaReferenceIdeal.τ).loc Cert.XaReferenceIdeal.main_arg4)
          ∧ r.2.mem ((c.tc : Thread Cert.XaReferenceIdeal.nD Cert.XaReferenceIdeal.τ).loc Cert.XaReferenceIdeal.main_arg5) = m' ((c.tc : Thread Cert.XaReferenceIdeal.nD Cert.XaReferenceIdeal.τ).loc Cert.XaReferenceIdeal.main_arg5))

def preserves_NormPreKernel_NormPreKernelIdeal : Prop :=
  True

def algebraic_NormPreKernelIdeal_NormPreReferenceIdeal [hNormPreKernelIdeal : Cert.NormPreKernelIdeal.Facts] [hNormPreReferenceIdeal : Cert.NormPreReferenceIdeal.Facts] : Prop :=
  ∀ (m : (ℓ : Loc Cert.NormPreKernelIdeal.nD Cert.NormPreKernelIdeal.τ Cert.NormPreKernelIdeal.sig) → Buf (Elt Ideal) ℓ) (g : Dev Cert.NormPreKernelIdeal.nD → PrngReg)
    (m' : (ℓ : Loc Cert.NormPreReferenceIdeal.nD Cert.NormPreReferenceIdeal.τ Cert.NormPreReferenceIdeal.sig) → Buf (Elt Ideal) ℓ) (g' : Dev Cert.NormPreReferenceIdeal.nD → PrngReg), Pre_NormPreKernelIdeal m →
    (∀ c : Dev Cert.NormPreKernelIdeal.nD,
      m' ((c.tc : Thread Cert.NormPreReferenceIdeal.nD Cert.NormPreReferenceIdeal.τ).loc Cert.NormPreReferenceIdeal.main_arg0) = m ((c.tc : Thread Cert.NormPreKernelIdeal.nD Cert.NormPreKernelIdeal.τ).loc Cert.NormPreKernelIdeal.main_arg0)
      ∧ m' ((c.tc : Thread Cert.NormPreReferenceIdeal.nD Cert.NormPreReferenceIdeal.τ).loc Cert.NormPreReferenceIdeal.main_arg1) = m ((c.tc : Thread Cert.NormPreKernelIdeal.nD Cert.NormPreKernelIdeal.τ).loc Cert.NormPreKernelIdeal.main_arg1)
      ∧ m' ((c.tc : Thread Cert.NormPreReferenceIdeal.nD Cert.NormPreReferenceIdeal.τ).loc Cert.NormPreReferenceIdeal.main_arg2) = m ((c.tc : Thread Cert.NormPreKernelIdeal.nD Cert.NormPreKernelIdeal.τ).loc Cert.NormPreKernelIdeal.main_arg2)
      ∧ m' ((c.tc : Thread Cert.NormPreReferenceIdeal.nD Cert.NormPreReferenceIdeal.τ).loc Cert.NormPreReferenceIdeal.main_arg3) = m ((c.tc : Thread Cert.NormPreKernelIdeal.nD Cert.NormPreKernelIdeal.τ).loc Cert.NormPreKernelIdeal.main_arg3)) →
    ∃ (v0 : (c : Dev Cert.NormPreKernelIdeal.nD) → Buf (Elt Ideal) ((c.tc : Thread Cert.NormPreKernelIdeal.nD Cert.NormPreKernelIdeal.τ).loc Cert.NormPreKernelIdeal.main_v0_0)) (v1 : (c : Dev Cert.NormPreKernelIdeal.nD) → Buf (Elt Ideal) ((c.tc : Thread Cert.NormPreKernelIdeal.nD Cert.NormPreKernelIdeal.τ).loc Cert.NormPreKernelIdeal.main_v0_1)),
      θ_run (Cert.NormPreKernelIdeal.defs (F := Ideal)) (onTc (τ := Cert.NormPreKernelIdeal.τ) (Cert.NormPreKernelIdeal.main (F := Ideal))) ⟨m, fun _ => 0, g⟩ (fun r => ∀ c : Dev Cert.NormPreKernelIdeal.nD,
          r.2.mem ((c.tc : Thread Cert.NormPreKernelIdeal.nD Cert.NormPreKernelIdeal.τ).loc Cert.NormPreKernelIdeal.main_v0_0) = v0 c
          ∧ r.2.mem ((c.tc : Thread Cert.NormPreKernelIdeal.nD Cert.NormPreKernelIdeal.τ).loc Cert.NormPreKernelIdeal.main_v0_1) = v1 c
          ∧ r.2.mem ((c.tc : Thread Cert.NormPreKernelIdeal.nD Cert.NormPreKernelIdeal.τ).loc Cert.NormPreKernelIdeal.main_arg0) = m ((c.tc : Thread Cert.NormPreKernelIdeal.nD Cert.NormPreKernelIdeal.τ).loc Cert.NormPreKernelIdeal.main_arg0)
          ∧ r.2.mem ((c.tc : Thread Cert.NormPreKernelIdeal.nD Cert.NormPreKernelIdeal.τ).loc Cert.NormPreKernelIdeal.main_arg1) = m ((c.tc : Thread Cert.NormPreKernelIdeal.nD Cert.NormPreKernelIdeal.τ).loc Cert.NormPreKernelIdeal.main_arg1)
          ∧ r.2.mem ((c.tc : Thread Cert.NormPreKernelIdeal.nD Cert.NormPreKernelIdeal.τ).loc Cert.NormPreKernelIdeal.main_arg2) = m ((c.tc : Thread Cert.NormPreKernelIdeal.nD Cert.NormPreKernelIdeal.τ).loc Cert.NormPreKernelIdeal.main_arg2)
          ∧ r.2.mem ((c.tc : Thread Cert.NormPreKernelIdeal.nD Cert.NormPreKernelIdeal.τ).loc Cert.NormPreKernelIdeal.main_arg3) = m ((c.tc : Thread Cert.NormPreKernelIdeal.nD Cert.NormPreKernelIdeal.τ).loc Cert.NormPreKernelIdeal.main_arg3))
      ∧ θ_run (Cert.NormPreReferenceIdeal.defs (F := Ideal)) (onTc (τ := Cert.NormPreReferenceIdeal.τ) (Cert.NormPreReferenceIdeal.main (F := Ideal))) ⟨m', fun _ => 0, g'⟩ (fun r => ∀ c : Dev Cert.NormPreReferenceIdeal.nD,
          r.2.mem ((c.tc : Thread Cert.NormPreReferenceIdeal.nD Cert.NormPreReferenceIdeal.τ).loc Cert.NormPreReferenceIdeal.main_v38) = v0 c
          ∧ r.2.mem ((c.tc : Thread Cert.NormPreReferenceIdeal.nD Cert.NormPreReferenceIdeal.τ).loc Cert.NormPreReferenceIdeal.main_v39) = v1 c
          ∧ r.2.mem ((c.tc : Thread Cert.NormPreReferenceIdeal.nD Cert.NormPreReferenceIdeal.τ).loc Cert.NormPreReferenceIdeal.main_arg0) = m' ((c.tc : Thread Cert.NormPreReferenceIdeal.nD Cert.NormPreReferenceIdeal.τ).loc Cert.NormPreReferenceIdeal.main_arg0)
          ∧ r.2.mem ((c.tc : Thread Cert.NormPreReferenceIdeal.nD Cert.NormPreReferenceIdeal.τ).loc Cert.NormPreReferenceIdeal.main_arg1) = m' ((c.tc : Thread Cert.NormPreReferenceIdeal.nD Cert.NormPreReferenceIdeal.τ).loc Cert.NormPreReferenceIdeal.main_arg1)
          ∧ r.2.mem ((c.tc : Thread Cert.NormPreReferenceIdeal.nD Cert.NormPreReferenceIdeal.τ).loc Cert.NormPreReferenceIdeal.main_arg2) = m' ((c.tc : Thread Cert.NormPreReferenceIdeal.nD Cert.NormPreReferenceIdeal.τ).loc Cert.NormPreReferenceIdeal.main_arg2)
          ∧ r.2.mem ((c.tc : Thread Cert.NormPreReferenceIdeal.nD Cert.NormPreReferenceIdeal.τ).loc Cert.NormPreReferenceIdeal.main_arg3) = m' ((c.tc : Thread Cert.NormPreReferenceIdeal.nD Cert.NormPreReferenceIdeal.τ).loc Cert.NormPreReferenceIdeal.main_arg3))

def preserves_NormPostKernel_NormPostKernelIdeal : Prop :=
  True

def algebraic_NormPostKernelIdeal_NormPostReferenceIdeal [hNormPostKernelIdeal : Cert.NormPostKernelIdeal.Facts] [hNormPostReferenceIdeal : Cert.NormPostReferenceIdeal.Facts] : Prop :=
  ∀ (m : (ℓ : Loc Cert.NormPostKernelIdeal.nD Cert.NormPostKernelIdeal.τ Cert.NormPostKernelIdeal.sig) → Buf (Elt Ideal) ℓ) (g : Dev Cert.NormPostKernelIdeal.nD → PrngReg)
    (m' : (ℓ : Loc Cert.NormPostReferenceIdeal.nD Cert.NormPostReferenceIdeal.τ Cert.NormPostReferenceIdeal.sig) → Buf (Elt Ideal) ℓ) (g' : Dev Cert.NormPostReferenceIdeal.nD → PrngReg), Pre_NormPostKernelIdeal m →
    (∀ c : Dev Cert.NormPostKernelIdeal.nD,
      m' ((c.tc : Thread Cert.NormPostReferenceIdeal.nD Cert.NormPostReferenceIdeal.τ).loc Cert.NormPostReferenceIdeal.main_arg0) = m ((c.tc : Thread Cert.NormPostKernelIdeal.nD Cert.NormPostKernelIdeal.τ).loc Cert.NormPostKernelIdeal.main_arg0)
      ∧ m' ((c.tc : Thread Cert.NormPostReferenceIdeal.nD Cert.NormPostReferenceIdeal.τ).loc Cert.NormPostReferenceIdeal.main_arg1) = m ((c.tc : Thread Cert.NormPostKernelIdeal.nD Cert.NormPostKernelIdeal.τ).loc Cert.NormPostKernelIdeal.main_arg1)
      ∧ m' ((c.tc : Thread Cert.NormPostReferenceIdeal.nD Cert.NormPostReferenceIdeal.τ).loc Cert.NormPostReferenceIdeal.main_arg2) = m ((c.tc : Thread Cert.NormPostKernelIdeal.nD Cert.NormPostKernelIdeal.τ).loc Cert.NormPostKernelIdeal.main_arg2)) →
    ∃ (v0 : (c : Dev Cert.NormPostKernelIdeal.nD) → Buf (Elt Ideal) ((c.tc : Thread Cert.NormPostKernelIdeal.nD Cert.NormPostKernelIdeal.τ).loc Cert.NormPostKernelIdeal.main_v0_0)) (v1 : (c : Dev Cert.NormPostKernelIdeal.nD) → Buf (Elt Ideal) ((c.tc : Thread Cert.NormPostKernelIdeal.nD Cert.NormPostKernelIdeal.τ).loc Cert.NormPostKernelIdeal.main_v0_1)),
      θ_run (Cert.NormPostKernelIdeal.defs (F := Ideal)) (onTc (τ := Cert.NormPostKernelIdeal.τ) (Cert.NormPostKernelIdeal.main (F := Ideal))) ⟨m, fun _ => 0, g⟩ (fun r => ∀ c : Dev Cert.NormPostKernelIdeal.nD,
          r.2.mem ((c.tc : Thread Cert.NormPostKernelIdeal.nD Cert.NormPostKernelIdeal.τ).loc Cert.NormPostKernelIdeal.main_v0_0) = v0 c
          ∧ r.2.mem ((c.tc : Thread Cert.NormPostKernelIdeal.nD Cert.NormPostKernelIdeal.τ).loc Cert.NormPostKernelIdeal.main_v0_1) = v1 c
          ∧ r.2.mem ((c.tc : Thread Cert.NormPostKernelIdeal.nD Cert.NormPostKernelIdeal.τ).loc Cert.NormPostKernelIdeal.main_arg0) = m ((c.tc : Thread Cert.NormPostKernelIdeal.nD Cert.NormPostKernelIdeal.τ).loc Cert.NormPostKernelIdeal.main_arg0)
          ∧ r.2.mem ((c.tc : Thread Cert.NormPostKernelIdeal.nD Cert.NormPostKernelIdeal.τ).loc Cert.NormPostKernelIdeal.main_arg1) = m ((c.tc : Thread Cert.NormPostKernelIdeal.nD Cert.NormPostKernelIdeal.τ).loc Cert.NormPostKernelIdeal.main_arg1)
          ∧ r.2.mem ((c.tc : Thread Cert.NormPostKernelIdeal.nD Cert.NormPostKernelIdeal.τ).loc Cert.NormPostKernelIdeal.main_arg2) = m ((c.tc : Thread Cert.NormPostKernelIdeal.nD Cert.NormPostKernelIdeal.τ).loc Cert.NormPostKernelIdeal.main_arg2))
      ∧ θ_run (Cert.NormPostReferenceIdeal.defs (F := Ideal)) (onTc (τ := Cert.NormPostReferenceIdeal.τ) (Cert.NormPostReferenceIdeal.main (F := Ideal))) ⟨m', fun _ => 0, g'⟩ (fun r => ∀ c : Dev Cert.NormPostReferenceIdeal.nD,
          r.2.mem ((c.tc : Thread Cert.NormPostReferenceIdeal.nD Cert.NormPostReferenceIdeal.τ).loc Cert.NormPostReferenceIdeal.main_v38) = v0 c
          ∧ r.2.mem ((c.tc : Thread Cert.NormPostReferenceIdeal.nD Cert.NormPostReferenceIdeal.τ).loc Cert.NormPostReferenceIdeal.main_v39) = v1 c
          ∧ r.2.mem ((c.tc : Thread Cert.NormPostReferenceIdeal.nD Cert.NormPostReferenceIdeal.τ).loc Cert.NormPostReferenceIdeal.main_arg0) = m' ((c.tc : Thread Cert.NormPostReferenceIdeal.nD Cert.NormPostReferenceIdeal.τ).loc Cert.NormPostReferenceIdeal.main_arg0)
          ∧ r.2.mem ((c.tc : Thread Cert.NormPostReferenceIdeal.nD Cert.NormPostReferenceIdeal.τ).loc Cert.NormPostReferenceIdeal.main_arg1) = m' ((c.tc : Thread Cert.NormPostReferenceIdeal.nD Cert.NormPostReferenceIdeal.τ).loc Cert.NormPostReferenceIdeal.main_arg1)
          ∧ r.2.mem ((c.tc : Thread Cert.NormPostReferenceIdeal.nD Cert.NormPostReferenceIdeal.τ).loc Cert.NormPostReferenceIdeal.main_arg2) = m' ((c.tc : Thread Cert.NormPostReferenceIdeal.nD Cert.NormPostReferenceIdeal.τ).loc Cert.NormPostReferenceIdeal.main_arg2))

def preserves_NormMemKernel_NormMemKernelIdeal : Prop :=
  True

def algebraic_NormMemKernelIdeal_NormMemReferenceIdeal [hNormMemKernelIdeal : Cert.NormMemKernelIdeal.Facts] [hNormMemReferenceIdeal : Cert.NormMemReferenceIdeal.Facts] : Prop :=
  ∀ (m : (ℓ : Loc Cert.NormMemKernelIdeal.nD Cert.NormMemKernelIdeal.τ Cert.NormMemKernelIdeal.sig) → Buf (Elt Ideal) ℓ) (g : Dev Cert.NormMemKernelIdeal.nD → PrngReg)
    (m' : (ℓ : Loc Cert.NormMemReferenceIdeal.nD Cert.NormMemReferenceIdeal.τ Cert.NormMemReferenceIdeal.sig) → Buf (Elt Ideal) ℓ) (g' : Dev Cert.NormMemReferenceIdeal.nD → PrngReg), Pre_NormMemKernelIdeal m →
    (∀ c : Dev Cert.NormMemKernelIdeal.nD,
      m' ((c.tc : Thread Cert.NormMemReferenceIdeal.nD Cert.NormMemReferenceIdeal.τ).loc Cert.NormMemReferenceIdeal.main_arg0) = m ((c.tc : Thread Cert.NormMemKernelIdeal.nD Cert.NormMemKernelIdeal.τ).loc Cert.NormMemKernelIdeal.main_arg0)
      ∧ m' ((c.tc : Thread Cert.NormMemReferenceIdeal.nD Cert.NormMemReferenceIdeal.τ).loc Cert.NormMemReferenceIdeal.main_arg1) = m ((c.tc : Thread Cert.NormMemKernelIdeal.nD Cert.NormMemKernelIdeal.τ).loc Cert.NormMemKernelIdeal.main_arg1)
      ∧ m' ((c.tc : Thread Cert.NormMemReferenceIdeal.nD Cert.NormMemReferenceIdeal.τ).loc Cert.NormMemReferenceIdeal.main_arg2) = m ((c.tc : Thread Cert.NormMemKernelIdeal.nD Cert.NormMemKernelIdeal.τ).loc Cert.NormMemKernelIdeal.main_arg2)) →
    ∃ (v0 : (c : Dev Cert.NormMemKernelIdeal.nD) → Buf (Elt Ideal) ((c.tc : Thread Cert.NormMemKernelIdeal.nD Cert.NormMemKernelIdeal.τ).loc Cert.NormMemKernelIdeal.main_v0_0)) (v1 : (c : Dev Cert.NormMemKernelIdeal.nD) → Buf (Elt Ideal) ((c.tc : Thread Cert.NormMemKernelIdeal.nD Cert.NormMemKernelIdeal.τ).loc Cert.NormMemKernelIdeal.main_v0_1)),
      θ_run (Cert.NormMemKernelIdeal.defs (F := Ideal)) (onTc (τ := Cert.NormMemKernelIdeal.τ) (Cert.NormMemKernelIdeal.main (F := Ideal))) ⟨m, fun _ => 0, g⟩ (fun r => ∀ c : Dev Cert.NormMemKernelIdeal.nD,
          r.2.mem ((c.tc : Thread Cert.NormMemKernelIdeal.nD Cert.NormMemKernelIdeal.τ).loc Cert.NormMemKernelIdeal.main_v0_0) = v0 c
          ∧ r.2.mem ((c.tc : Thread Cert.NormMemKernelIdeal.nD Cert.NormMemKernelIdeal.τ).loc Cert.NormMemKernelIdeal.main_v0_1) = v1 c
          ∧ r.2.mem ((c.tc : Thread Cert.NormMemKernelIdeal.nD Cert.NormMemKernelIdeal.τ).loc Cert.NormMemKernelIdeal.main_arg0) = m ((c.tc : Thread Cert.NormMemKernelIdeal.nD Cert.NormMemKernelIdeal.τ).loc Cert.NormMemKernelIdeal.main_arg0)
          ∧ r.2.mem ((c.tc : Thread Cert.NormMemKernelIdeal.nD Cert.NormMemKernelIdeal.τ).loc Cert.NormMemKernelIdeal.main_arg1) = m ((c.tc : Thread Cert.NormMemKernelIdeal.nD Cert.NormMemKernelIdeal.τ).loc Cert.NormMemKernelIdeal.main_arg1)
          ∧ r.2.mem ((c.tc : Thread Cert.NormMemKernelIdeal.nD Cert.NormMemKernelIdeal.τ).loc Cert.NormMemKernelIdeal.main_arg2) = m ((c.tc : Thread Cert.NormMemKernelIdeal.nD Cert.NormMemKernelIdeal.τ).loc Cert.NormMemKernelIdeal.main_arg2))
      ∧ θ_run (Cert.NormMemReferenceIdeal.defs (F := Ideal)) (onTc (τ := Cert.NormMemReferenceIdeal.τ) (Cert.NormMemReferenceIdeal.main (F := Ideal))) ⟨m', fun _ => 0, g'⟩ (fun r => ∀ c : Dev Cert.NormMemReferenceIdeal.nD,
          r.2.mem ((c.tc : Thread Cert.NormMemReferenceIdeal.nD Cert.NormMemReferenceIdeal.τ).loc Cert.NormMemReferenceIdeal.main_v36) = v0 c
          ∧ r.2.mem ((c.tc : Thread Cert.NormMemReferenceIdeal.nD Cert.NormMemReferenceIdeal.τ).loc Cert.NormMemReferenceIdeal.main_v37) = v1 c
          ∧ r.2.mem ((c.tc : Thread Cert.NormMemReferenceIdeal.nD Cert.NormMemReferenceIdeal.τ).loc Cert.NormMemReferenceIdeal.main_arg0) = m' ((c.tc : Thread Cert.NormMemReferenceIdeal.nD Cert.NormMemReferenceIdeal.τ).loc Cert.NormMemReferenceIdeal.main_arg0)
          ∧ r.2.mem ((c.tc : Thread Cert.NormMemReferenceIdeal.nD Cert.NormMemReferenceIdeal.τ).loc Cert.NormMemReferenceIdeal.main_arg1) = m' ((c.tc : Thread Cert.NormMemReferenceIdeal.nD Cert.NormMemReferenceIdeal.τ).loc Cert.NormMemReferenceIdeal.main_arg1)
          ∧ r.2.mem ((c.tc : Thread Cert.NormMemReferenceIdeal.nD Cert.NormMemReferenceIdeal.τ).loc Cert.NormMemReferenceIdeal.main_arg2) = m' ((c.tc : Thread Cert.NormMemReferenceIdeal.nD Cert.NormMemReferenceIdeal.τ).loc Cert.NormMemReferenceIdeal.main_arg2))

def preserves_CLnKernel_CLnKernelIdeal : Prop :=
  True

def algebraic_CLnKernelIdeal_CLnReferenceIdeal_pre_finite_c_ln [hCLnKernelIdeal : Cert.CLnKernelIdeal.Facts] [hCLnReferenceIdeal : Cert.CLnReferenceIdeal.Facts] [hPre_finite_c_ln : Cert.Pre_finite_c_ln.Facts] : Prop :=
  ∀ (m : (ℓ : Loc Cert.CLnKernelIdeal.nD Cert.CLnKernelIdeal.τ Cert.CLnKernelIdeal.sig) → Buf (Elt Ideal) ℓ) (g : Dev Cert.CLnKernelIdeal.nD → PrngReg)
    (m' : (ℓ : Loc Cert.CLnReferenceIdeal.nD Cert.CLnReferenceIdeal.τ Cert.CLnReferenceIdeal.sig) → Buf (Elt Ideal) ℓ) (g' : Dev Cert.CLnReferenceIdeal.nD → PrngReg), Pre_CLnKernelIdeal_finite_c_ln m →
    (∀ c : Dev Cert.CLnKernelIdeal.nD,
      m' ((c.tc : Thread Cert.CLnReferenceIdeal.nD Cert.CLnReferenceIdeal.τ).loc Cert.CLnReferenceIdeal.main_arg0) = m ((c.tc : Thread Cert.CLnKernelIdeal.nD Cert.CLnKernelIdeal.τ).loc Cert.CLnKernelIdeal.main_arg0)
      ∧ m' ((c.tc : Thread Cert.CLnReferenceIdeal.nD Cert.CLnReferenceIdeal.τ).loc Cert.CLnReferenceIdeal.main_arg1) = m ((c.tc : Thread Cert.CLnKernelIdeal.nD Cert.CLnKernelIdeal.τ).loc Cert.CLnKernelIdeal.main_arg1)
      ∧ m' ((c.tc : Thread Cert.CLnReferenceIdeal.nD Cert.CLnReferenceIdeal.τ).loc Cert.CLnReferenceIdeal.main_arg2) = m ((c.tc : Thread Cert.CLnKernelIdeal.nD Cert.CLnKernelIdeal.τ).loc Cert.CLnKernelIdeal.main_arg2)
      ∧ m' ((c.tc : Thread Cert.CLnReferenceIdeal.nD Cert.CLnReferenceIdeal.τ).loc Cert.CLnReferenceIdeal.main_arg3) = m ((c.tc : Thread Cert.CLnKernelIdeal.nD Cert.CLnKernelIdeal.τ).loc Cert.CLnKernelIdeal.main_arg3)) →
    ∃ (v0 : (c : Dev Cert.CLnKernelIdeal.nD) → Buf (Elt Ideal) ((c.tc : Thread Cert.CLnKernelIdeal.nD Cert.CLnKernelIdeal.τ).loc Cert.CLnKernelIdeal.main_v0_0)) (v1 : (c : Dev Cert.CLnKernelIdeal.nD) → Buf (Elt Ideal) ((c.tc : Thread Cert.CLnKernelIdeal.nD Cert.CLnKernelIdeal.τ).loc Cert.CLnKernelIdeal.main_v0_1)) (v2 : (c : Dev Cert.CLnKernelIdeal.nD) → Buf (Elt Ideal) ((c.tc : Thread Cert.CLnKernelIdeal.nD Cert.CLnKernelIdeal.τ).loc Cert.CLnKernelIdeal.main_v0_2)),
      θ_run (Cert.CLnKernelIdeal.defs (F := Ideal)) (onTc (τ := Cert.CLnKernelIdeal.τ) (Cert.CLnKernelIdeal.main (F := Ideal))) ⟨m, fun _ => 0, g⟩ (fun r => ∀ c : Dev Cert.CLnKernelIdeal.nD,
          r.2.mem ((c.tc : Thread Cert.CLnKernelIdeal.nD Cert.CLnKernelIdeal.τ).loc Cert.CLnKernelIdeal.main_v0_0) = v0 c
          ∧ r.2.mem ((c.tc : Thread Cert.CLnKernelIdeal.nD Cert.CLnKernelIdeal.τ).loc Cert.CLnKernelIdeal.main_v0_1) = v1 c
          ∧ r.2.mem ((c.tc : Thread Cert.CLnKernelIdeal.nD Cert.CLnKernelIdeal.τ).loc Cert.CLnKernelIdeal.main_v0_2) = v2 c
          ∧ r.2.mem ((c.tc : Thread Cert.CLnKernelIdeal.nD Cert.CLnKernelIdeal.τ).loc Cert.CLnKernelIdeal.main_arg0) = m ((c.tc : Thread Cert.CLnKernelIdeal.nD Cert.CLnKernelIdeal.τ).loc Cert.CLnKernelIdeal.main_arg0)
          ∧ r.2.mem ((c.tc : Thread Cert.CLnKernelIdeal.nD Cert.CLnKernelIdeal.τ).loc Cert.CLnKernelIdeal.main_arg1) = m ((c.tc : Thread Cert.CLnKernelIdeal.nD Cert.CLnKernelIdeal.τ).loc Cert.CLnKernelIdeal.main_arg1)
          ∧ r.2.mem ((c.tc : Thread Cert.CLnKernelIdeal.nD Cert.CLnKernelIdeal.τ).loc Cert.CLnKernelIdeal.main_arg2) = m ((c.tc : Thread Cert.CLnKernelIdeal.nD Cert.CLnKernelIdeal.τ).loc Cert.CLnKernelIdeal.main_arg2)
          ∧ r.2.mem ((c.tc : Thread Cert.CLnKernelIdeal.nD Cert.CLnKernelIdeal.τ).loc Cert.CLnKernelIdeal.main_arg3) = m ((c.tc : Thread Cert.CLnKernelIdeal.nD Cert.CLnKernelIdeal.τ).loc Cert.CLnKernelIdeal.main_arg3))
      ∧ θ_run (Cert.CLnReferenceIdeal.defs (F := Ideal)) (onTc (τ := Cert.CLnReferenceIdeal.τ) (Cert.CLnReferenceIdeal.main (F := Ideal))) ⟨m', fun _ => 0, g'⟩ (fun r => ∀ c : Dev Cert.CLnReferenceIdeal.nD,
          r.2.mem ((c.tc : Thread Cert.CLnReferenceIdeal.nD Cert.CLnReferenceIdeal.τ).loc Cert.CLnReferenceIdeal.main_v65) = v0 c
          ∧ r.2.mem ((c.tc : Thread Cert.CLnReferenceIdeal.nD Cert.CLnReferenceIdeal.τ).loc Cert.CLnReferenceIdeal.main_v66) = v1 c
          ∧ r.2.mem ((c.tc : Thread Cert.CLnReferenceIdeal.nD Cert.CLnReferenceIdeal.τ).loc Cert.CLnReferenceIdeal.main_v67) = v2 c
          ∧ r.2.mem ((c.tc : Thread Cert.CLnReferenceIdeal.nD Cert.CLnReferenceIdeal.τ).loc Cert.CLnReferenceIdeal.main_arg0) = m' ((c.tc : Thread Cert.CLnReferenceIdeal.nD Cert.CLnReferenceIdeal.τ).loc Cert.CLnReferenceIdeal.main_arg0)
          ∧ r.2.mem ((c.tc : Thread Cert.CLnReferenceIdeal.nD Cert.CLnReferenceIdeal.τ).loc Cert.CLnReferenceIdeal.main_arg1) = m' ((c.tc : Thread Cert.CLnReferenceIdeal.nD Cert.CLnReferenceIdeal.τ).loc Cert.CLnReferenceIdeal.main_arg1)
          ∧ r.2.mem ((c.tc : Thread Cert.CLnReferenceIdeal.nD Cert.CLnReferenceIdeal.τ).loc Cert.CLnReferenceIdeal.main_arg2) = m' ((c.tc : Thread Cert.CLnReferenceIdeal.nD Cert.CLnReferenceIdeal.τ).loc Cert.CLnReferenceIdeal.main_arg2)
          ∧ r.2.mem ((c.tc : Thread Cert.CLnReferenceIdeal.nD Cert.CLnReferenceIdeal.τ).loc Cert.CLnReferenceIdeal.main_arg3) = m' ((c.tc : Thread Cert.CLnReferenceIdeal.nD Cert.CLnReferenceIdeal.τ).loc Cert.CLnReferenceIdeal.main_arg3))

def preserves_RmsKernel_RmsKernelIdeal : Prop :=
  True

def algebraic_RmsKernelIdeal_RmsReferenceIdeal [hRmsKernelIdeal : Cert.RmsKernelIdeal.Facts] [hRmsReferenceIdeal : Cert.RmsReferenceIdeal.Facts] : Prop :=
  ∀ (m : (ℓ : Loc Cert.RmsKernelIdeal.nD Cert.RmsKernelIdeal.τ Cert.RmsKernelIdeal.sig) → Buf (Elt Ideal) ℓ) (g : Dev Cert.RmsKernelIdeal.nD → PrngReg)
    (m' : (ℓ : Loc Cert.RmsReferenceIdeal.nD Cert.RmsReferenceIdeal.τ Cert.RmsReferenceIdeal.sig) → Buf (Elt Ideal) ℓ) (g' : Dev Cert.RmsReferenceIdeal.nD → PrngReg), Pre_RmsKernelIdeal m →
    (∀ c : Dev Cert.RmsKernelIdeal.nD,
      m' ((c.tc : Thread Cert.RmsReferenceIdeal.nD Cert.RmsReferenceIdeal.τ).loc Cert.RmsReferenceIdeal.main_arg0) = m ((c.tc : Thread Cert.RmsKernelIdeal.nD Cert.RmsKernelIdeal.τ).loc Cert.RmsKernelIdeal.main_arg0)
      ∧ m' ((c.tc : Thread Cert.RmsReferenceIdeal.nD Cert.RmsReferenceIdeal.τ).loc Cert.RmsReferenceIdeal.main_arg1) = m ((c.tc : Thread Cert.RmsKernelIdeal.nD Cert.RmsKernelIdeal.τ).loc Cert.RmsKernelIdeal.main_arg1)) →
    ∃ (v0 : (c : Dev Cert.RmsKernelIdeal.nD) → Buf (Elt Ideal) ((c.tc : Thread Cert.RmsKernelIdeal.nD Cert.RmsKernelIdeal.τ).loc Cert.RmsKernelIdeal.main_v0)),
      θ_run (Cert.RmsKernelIdeal.defs (F := Ideal)) (onTc (τ := Cert.RmsKernelIdeal.τ) (Cert.RmsKernelIdeal.main (F := Ideal))) ⟨m, fun _ => 0, g⟩ (fun r => ∀ c : Dev Cert.RmsKernelIdeal.nD,
          r.2.mem ((c.tc : Thread Cert.RmsKernelIdeal.nD Cert.RmsKernelIdeal.τ).loc Cert.RmsKernelIdeal.main_v0) = v0 c
          ∧ r.2.mem ((c.tc : Thread Cert.RmsKernelIdeal.nD Cert.RmsKernelIdeal.τ).loc Cert.RmsKernelIdeal.main_arg0) = m ((c.tc : Thread Cert.RmsKernelIdeal.nD Cert.RmsKernelIdeal.τ).loc Cert.RmsKernelIdeal.main_arg0)
          ∧ r.2.mem ((c.tc : Thread Cert.RmsKernelIdeal.nD Cert.RmsKernelIdeal.τ).loc Cert.RmsKernelIdeal.main_arg1) = m ((c.tc : Thread Cert.RmsKernelIdeal.nD Cert.RmsKernelIdeal.τ).loc Cert.RmsKernelIdeal.main_arg1))
      ∧ θ_run (Cert.RmsReferenceIdeal.defs (F := Ideal)) (onTc (τ := Cert.RmsReferenceIdeal.τ) (Cert.RmsReferenceIdeal.main (F := Ideal))) ⟨m', fun _ => 0, g'⟩ (fun r => ∀ c : Dev Cert.RmsReferenceIdeal.nD,
          r.2.mem ((c.tc : Thread Cert.RmsReferenceIdeal.nD Cert.RmsReferenceIdeal.τ).loc Cert.RmsReferenceIdeal.main_v14) = v0 c
          ∧ r.2.mem ((c.tc : Thread Cert.RmsReferenceIdeal.nD Cert.RmsReferenceIdeal.τ).loc Cert.RmsReferenceIdeal.main_arg0) = m' ((c.tc : Thread Cert.RmsReferenceIdeal.nD Cert.RmsReferenceIdeal.τ).loc Cert.RmsReferenceIdeal.main_arg0)
          ∧ r.2.mem ((c.tc : Thread Cert.RmsReferenceIdeal.nD Cert.RmsReferenceIdeal.τ).loc Cert.RmsReferenceIdeal.main_arg1) = m' ((c.tc : Thread Cert.RmsReferenceIdeal.nD Cert.RmsReferenceIdeal.τ).loc Cert.RmsReferenceIdeal.main_arg1))

def preserves_RmsMemKernel_RmsMemKernelIdeal : Prop :=
  True

def algebraic_RmsMemKernelIdeal_RmsMemReferenceIdeal [hRmsMemKernelIdeal : Cert.RmsMemKernelIdeal.Facts] [hRmsMemReferenceIdeal : Cert.RmsMemReferenceIdeal.Facts] : Prop :=
  ∀ (m : (ℓ : Loc Cert.RmsMemKernelIdeal.nD Cert.RmsMemKernelIdeal.τ Cert.RmsMemKernelIdeal.sig) → Buf (Elt Ideal) ℓ) (g : Dev Cert.RmsMemKernelIdeal.nD → PrngReg)
    (m' : (ℓ : Loc Cert.RmsMemReferenceIdeal.nD Cert.RmsMemReferenceIdeal.τ Cert.RmsMemReferenceIdeal.sig) → Buf (Elt Ideal) ℓ) (g' : Dev Cert.RmsMemReferenceIdeal.nD → PrngReg), Pre_RmsMemKernelIdeal m →
    (∀ c : Dev Cert.RmsMemKernelIdeal.nD,
      m' ((c.tc : Thread Cert.RmsMemReferenceIdeal.nD Cert.RmsMemReferenceIdeal.τ).loc Cert.RmsMemReferenceIdeal.main_arg0) = m ((c.tc : Thread Cert.RmsMemKernelIdeal.nD Cert.RmsMemKernelIdeal.τ).loc Cert.RmsMemKernelIdeal.main_arg0)
      ∧ m' ((c.tc : Thread Cert.RmsMemReferenceIdeal.nD Cert.RmsMemReferenceIdeal.τ).loc Cert.RmsMemReferenceIdeal.main_arg1) = m ((c.tc : Thread Cert.RmsMemKernelIdeal.nD Cert.RmsMemKernelIdeal.τ).loc Cert.RmsMemKernelIdeal.main_arg1)) →
    ∃ (v0 : (c : Dev Cert.RmsMemKernelIdeal.nD) → Buf (Elt Ideal) ((c.tc : Thread Cert.RmsMemKernelIdeal.nD Cert.RmsMemKernelIdeal.τ).loc Cert.RmsMemKernelIdeal.main_v0)),
      θ_run (Cert.RmsMemKernelIdeal.defs (F := Ideal)) (onTc (τ := Cert.RmsMemKernelIdeal.τ) (Cert.RmsMemKernelIdeal.main (F := Ideal))) ⟨m, fun _ => 0, g⟩ (fun r => ∀ c : Dev Cert.RmsMemKernelIdeal.nD,
          r.2.mem ((c.tc : Thread Cert.RmsMemKernelIdeal.nD Cert.RmsMemKernelIdeal.τ).loc Cert.RmsMemKernelIdeal.main_v0) = v0 c
          ∧ r.2.mem ((c.tc : Thread Cert.RmsMemKernelIdeal.nD Cert.RmsMemKernelIdeal.τ).loc Cert.RmsMemKernelIdeal.main_arg0) = m ((c.tc : Thread Cert.RmsMemKernelIdeal.nD Cert.RmsMemKernelIdeal.τ).loc Cert.RmsMemKernelIdeal.main_arg0)
          ∧ r.2.mem ((c.tc : Thread Cert.RmsMemKernelIdeal.nD Cert.RmsMemKernelIdeal.τ).loc Cert.RmsMemKernelIdeal.main_arg1) = m ((c.tc : Thread Cert.RmsMemKernelIdeal.nD Cert.RmsMemKernelIdeal.τ).loc Cert.RmsMemKernelIdeal.main_arg1))
      ∧ θ_run (Cert.RmsMemReferenceIdeal.defs (F := Ideal)) (onTc (τ := Cert.RmsMemReferenceIdeal.τ) (Cert.RmsMemReferenceIdeal.main (F := Ideal))) ⟨m', fun _ => 0, g'⟩ (fun r => ∀ c : Dev Cert.RmsMemReferenceIdeal.nD,
          r.2.mem ((c.tc : Thread Cert.RmsMemReferenceIdeal.nD Cert.RmsMemReferenceIdeal.τ).loc Cert.RmsMemReferenceIdeal.main_v14) = v0 c
          ∧ r.2.mem ((c.tc : Thread Cert.RmsMemReferenceIdeal.nD Cert.RmsMemReferenceIdeal.τ).loc Cert.RmsMemReferenceIdeal.main_arg0) = m' ((c.tc : Thread Cert.RmsMemReferenceIdeal.nD Cert.RmsMemReferenceIdeal.τ).loc Cert.RmsMemReferenceIdeal.main_arg0)
          ∧ r.2.mem ((c.tc : Thread Cert.RmsMemReferenceIdeal.nD Cert.RmsMemReferenceIdeal.τ).loc Cert.RmsMemReferenceIdeal.main_arg1) = m' ((c.tc : Thread Cert.RmsMemReferenceIdeal.nD Cert.RmsMemReferenceIdeal.τ).loc Cert.RmsMemReferenceIdeal.main_arg1))

def preserves_ResKernel_ResKernelIdeal : Prop :=
  True

def algebraic_ResKernelIdeal_ResReferenceIdeal [hResKernelIdeal : Cert.ResKernelIdeal.Facts] [hResReferenceIdeal : Cert.ResReferenceIdeal.Facts] : Prop :=
  ∀ (m : (ℓ : Loc Cert.ResKernelIdeal.nD Cert.ResKernelIdeal.τ Cert.ResKernelIdeal.sig) → Buf (Elt Ideal) ℓ) (g : Dev Cert.ResKernelIdeal.nD → PrngReg)
    (m' : (ℓ : Loc Cert.ResReferenceIdeal.nD Cert.ResReferenceIdeal.τ Cert.ResReferenceIdeal.sig) → Buf (Elt Ideal) ℓ) (g' : Dev Cert.ResReferenceIdeal.nD → PrngReg), Pre_ResKernelIdeal m →
    (∀ c : Dev Cert.ResKernelIdeal.nD,
      m' ((c.tc : Thread Cert.ResReferenceIdeal.nD Cert.ResReferenceIdeal.τ).loc Cert.ResReferenceIdeal.main_arg0) = m ((c.tc : Thread Cert.ResKernelIdeal.nD Cert.ResKernelIdeal.τ).loc Cert.ResKernelIdeal.main_arg0)
      ∧ m' ((c.tc : Thread Cert.ResReferenceIdeal.nD Cert.ResReferenceIdeal.τ).loc Cert.ResReferenceIdeal.main_arg1) = m ((c.tc : Thread Cert.ResKernelIdeal.nD Cert.ResKernelIdeal.τ).loc Cert.ResKernelIdeal.main_arg1)
      ∧ m' ((c.tc : Thread Cert.ResReferenceIdeal.nD Cert.ResReferenceIdeal.τ).loc Cert.ResReferenceIdeal.main_arg2) = m ((c.tc : Thread Cert.ResKernelIdeal.nD Cert.ResKernelIdeal.τ).loc Cert.ResKernelIdeal.main_arg2)
      ∧ m' ((c.tc : Thread Cert.ResReferenceIdeal.nD Cert.ResReferenceIdeal.τ).loc Cert.ResReferenceIdeal.main_arg3) = m ((c.tc : Thread Cert.ResKernelIdeal.nD Cert.ResKernelIdeal.τ).loc Cert.ResKernelIdeal.main_arg3)) →
    ∃ (v0 : (c : Dev Cert.ResKernelIdeal.nD) → Buf (Elt Ideal) ((c.tc : Thread Cert.ResKernelIdeal.nD Cert.ResKernelIdeal.τ).loc Cert.ResKernelIdeal.main_v0_0)) (v1 : (c : Dev Cert.ResKernelIdeal.nD) → Buf (Elt Ideal) ((c.tc : Thread Cert.ResKernelIdeal.nD Cert.ResKernelIdeal.τ).loc Cert.ResKernelIdeal.main_v0_1)),
      θ_run (Cert.ResKernelIdeal.defs (F := Ideal)) (onTc (τ := Cert.ResKernelIdeal.τ) (Cert.ResKernelIdeal.main (F := Ideal))) ⟨m, fun _ => 0, g⟩ (fun r => ∀ c : Dev Cert.ResKernelIdeal.nD,
          r.2.mem ((c.tc : Thread Cert.ResKernelIdeal.nD Cert.ResKernelIdeal.τ).loc Cert.ResKernelIdeal.main_v0_0) = v0 c
          ∧ r.2.mem ((c.tc : Thread Cert.ResKernelIdeal.nD Cert.ResKernelIdeal.τ).loc Cert.ResKernelIdeal.main_v0_1) = v1 c
          ∧ r.2.mem ((c.tc : Thread Cert.ResKernelIdeal.nD Cert.ResKernelIdeal.τ).loc Cert.ResKernelIdeal.main_arg0) = m ((c.tc : Thread Cert.ResKernelIdeal.nD Cert.ResKernelIdeal.τ).loc Cert.ResKernelIdeal.main_arg0)
          ∧ r.2.mem ((c.tc : Thread Cert.ResKernelIdeal.nD Cert.ResKernelIdeal.τ).loc Cert.ResKernelIdeal.main_arg1) = m ((c.tc : Thread Cert.ResKernelIdeal.nD Cert.ResKernelIdeal.τ).loc Cert.ResKernelIdeal.main_arg1)
          ∧ r.2.mem ((c.tc : Thread Cert.ResKernelIdeal.nD Cert.ResKernelIdeal.τ).loc Cert.ResKernelIdeal.main_arg2) = m ((c.tc : Thread Cert.ResKernelIdeal.nD Cert.ResKernelIdeal.τ).loc Cert.ResKernelIdeal.main_arg2)
          ∧ r.2.mem ((c.tc : Thread Cert.ResKernelIdeal.nD Cert.ResKernelIdeal.τ).loc Cert.ResKernelIdeal.main_arg3) = m ((c.tc : Thread Cert.ResKernelIdeal.nD Cert.ResKernelIdeal.τ).loc Cert.ResKernelIdeal.main_arg3))
      ∧ θ_run (Cert.ResReferenceIdeal.defs (F := Ideal)) (onTc (τ := Cert.ResReferenceIdeal.τ) (Cert.ResReferenceIdeal.main (F := Ideal))) ⟨m', fun _ => 0, g'⟩ (fun r => ∀ c : Dev Cert.ResReferenceIdeal.nD,
          r.2.mem ((c.tc : Thread Cert.ResReferenceIdeal.nD Cert.ResReferenceIdeal.τ).loc Cert.ResReferenceIdeal.main_v15) = v0 c
          ∧ r.2.mem ((c.tc : Thread Cert.ResReferenceIdeal.nD Cert.ResReferenceIdeal.τ).loc Cert.ResReferenceIdeal.main_v30) = v1 c
          ∧ r.2.mem ((c.tc : Thread Cert.ResReferenceIdeal.nD Cert.ResReferenceIdeal.τ).loc Cert.ResReferenceIdeal.main_arg0) = m' ((c.tc : Thread Cert.ResReferenceIdeal.nD Cert.ResReferenceIdeal.τ).loc Cert.ResReferenceIdeal.main_arg0)
          ∧ r.2.mem ((c.tc : Thread Cert.ResReferenceIdeal.nD Cert.ResReferenceIdeal.τ).loc Cert.ResReferenceIdeal.main_arg1) = m' ((c.tc : Thread Cert.ResReferenceIdeal.nD Cert.ResReferenceIdeal.τ).loc Cert.ResReferenceIdeal.main_arg1)
          ∧ r.2.mem ((c.tc : Thread Cert.ResReferenceIdeal.nD Cert.ResReferenceIdeal.τ).loc Cert.ResReferenceIdeal.main_arg2) = m' ((c.tc : Thread Cert.ResReferenceIdeal.nD Cert.ResReferenceIdeal.τ).loc Cert.ResReferenceIdeal.main_arg2)
          ∧ r.2.mem ((c.tc : Thread Cert.ResReferenceIdeal.nD Cert.ResReferenceIdeal.τ).loc Cert.ResReferenceIdeal.main_arg3) = m' ((c.tc : Thread Cert.ResReferenceIdeal.nD Cert.ResReferenceIdeal.τ).loc Cert.ResReferenceIdeal.main_arg3))

def preserves_ResLastKernel_ResLastKernelIdeal : Prop :=
  True

def algebraic_ResLastKernelIdeal_ResLastReferenceIdeal [hResLastKernelIdeal : Cert.ResLastKernelIdeal.Facts] [hResLastReferenceIdeal : Cert.ResLastReferenceIdeal.Facts] : Prop :=
  ∀ (m : (ℓ : Loc Cert.ResLastKernelIdeal.nD Cert.ResLastKernelIdeal.τ Cert.ResLastKernelIdeal.sig) → Buf (Elt Ideal) ℓ) (g : Dev Cert.ResLastKernelIdeal.nD → PrngReg)
    (m' : (ℓ : Loc Cert.ResLastReferenceIdeal.nD Cert.ResLastReferenceIdeal.τ Cert.ResLastReferenceIdeal.sig) → Buf (Elt Ideal) ℓ) (g' : Dev Cert.ResLastReferenceIdeal.nD → PrngReg), Pre_ResLastKernelIdeal m →
    (∀ c : Dev Cert.ResLastKernelIdeal.nD,
      m' ((c.tc : Thread Cert.ResLastReferenceIdeal.nD Cert.ResLastReferenceIdeal.τ).loc Cert.ResLastReferenceIdeal.main_arg0) = m ((c.tc : Thread Cert.ResLastKernelIdeal.nD Cert.ResLastKernelIdeal.τ).loc Cert.ResLastKernelIdeal.main_arg0)
      ∧ m' ((c.tc : Thread Cert.ResLastReferenceIdeal.nD Cert.ResLastReferenceIdeal.τ).loc Cert.ResLastReferenceIdeal.main_arg1) = m ((c.tc : Thread Cert.ResLastKernelIdeal.nD Cert.ResLastKernelIdeal.τ).loc Cert.ResLastKernelIdeal.main_arg1)
      ∧ m' ((c.tc : Thread Cert.ResLastReferenceIdeal.nD Cert.ResLastReferenceIdeal.τ).loc Cert.ResLastReferenceIdeal.main_arg2) = m ((c.tc : Thread Cert.ResLastKernelIdeal.nD Cert.ResLastKernelIdeal.τ).loc Cert.ResLastKernelIdeal.main_arg2)) →
    ∃ (v0 : (c : Dev Cert.ResLastKernelIdeal.nD) → Buf (Elt Ideal) ((c.tc : Thread Cert.ResLastKernelIdeal.nD Cert.ResLastKernelIdeal.τ).loc Cert.ResLastKernelIdeal.main_v0)),
      θ_run (Cert.ResLastKernelIdeal.defs (F := Ideal)) (onTc (τ := Cert.ResLastKernelIdeal.τ) (Cert.ResLastKernelIdeal.main (F := Ideal))) ⟨m, fun _ => 0, g⟩ (fun r => ∀ c : Dev Cert.ResLastKernelIdeal.nD,
          r.2.mem ((c.tc : Thread Cert.ResLastKernelIdeal.nD Cert.ResLastKernelIdeal.τ).loc Cert.ResLastKernelIdeal.main_v0) = v0 c
          ∧ r.2.mem ((c.tc : Thread Cert.ResLastKernelIdeal.nD Cert.ResLastKernelIdeal.τ).loc Cert.ResLastKernelIdeal.main_arg0) = m ((c.tc : Thread Cert.ResLastKernelIdeal.nD Cert.ResLastKernelIdeal.τ).loc Cert.ResLastKernelIdeal.main_arg0)
          ∧ r.2.mem ((c.tc : Thread Cert.ResLastKernelIdeal.nD Cert.ResLastKernelIdeal.τ).loc Cert.ResLastKernelIdeal.main_arg1) = m ((c.tc : Thread Cert.ResLastKernelIdeal.nD Cert.ResLastKernelIdeal.τ).loc Cert.ResLastKernelIdeal.main_arg1)
          ∧ r.2.mem ((c.tc : Thread Cert.ResLastKernelIdeal.nD Cert.ResLastKernelIdeal.τ).loc Cert.ResLastKernelIdeal.main_arg2) = m ((c.tc : Thread Cert.ResLastKernelIdeal.nD Cert.ResLastKernelIdeal.τ).loc Cert.ResLastKernelIdeal.main_arg2))
      ∧ θ_run (Cert.ResLastReferenceIdeal.defs (F := Ideal)) (onTc (τ := Cert.ResLastReferenceIdeal.τ) (Cert.ResLastReferenceIdeal.main (F := Ideal))) ⟨m', fun _ => 0, g'⟩ (fun r => ∀ c : Dev Cert.ResLastReferenceIdeal.nD,
          r.2.mem ((c.tc : Thread Cert.ResLastReferenceIdeal.nD Cert.ResLastReferenceIdeal.τ).loc Cert.ResLastReferenceIdeal.main_v15) = v0 c
          ∧ r.2.mem ((c.tc : Thread Cert.ResLastReferenceIdeal.nD Cert.ResLastReferenceIdeal.τ).loc Cert.ResLastReferenceIdeal.main_arg0) = m' ((c.tc : Thread Cert.ResLastReferenceIdeal.nD Cert.ResLastReferenceIdeal.τ).loc Cert.ResLastReferenceIdeal.main_arg0)
          ∧ r.2.mem ((c.tc : Thread Cert.ResLastReferenceIdeal.nD Cert.ResLastReferenceIdeal.τ).loc Cert.ResLastReferenceIdeal.main_arg1) = m' ((c.tc : Thread Cert.ResLastReferenceIdeal.nD Cert.ResLastReferenceIdeal.τ).loc Cert.ResLastReferenceIdeal.main_arg1)
          ∧ r.2.mem ((c.tc : Thread Cert.ResLastReferenceIdeal.nD Cert.ResLastReferenceIdeal.τ).loc Cert.ResLastReferenceIdeal.main_arg2) = m' ((c.tc : Thread Cert.ResLastReferenceIdeal.nD Cert.ResLastReferenceIdeal.τ).loc Cert.ResLastReferenceIdeal.main_arg2))

def preserves_CLnFKernel_CLnFKernelIdeal : Prop :=
  True

def algebraic_CLnFKernelIdeal_CLnFReferenceIdeal [hCLnFKernelIdeal : Cert.CLnFKernelIdeal.Facts] [hCLnFReferenceIdeal : Cert.CLnFReferenceIdeal.Facts] : Prop :=
  ∀ (m : (ℓ : Loc Cert.CLnFKernelIdeal.nD Cert.CLnFKernelIdeal.τ Cert.CLnFKernelIdeal.sig) → Buf (Elt Ideal) ℓ) (g : Dev Cert.CLnFKernelIdeal.nD → PrngReg)
    (m' : (ℓ : Loc Cert.CLnFReferenceIdeal.nD Cert.CLnFReferenceIdeal.τ Cert.CLnFReferenceIdeal.sig) → Buf (Elt Ideal) ℓ) (g' : Dev Cert.CLnFReferenceIdeal.nD → PrngReg), Pre_CLnFKernelIdeal m →
    (∀ c : Dev Cert.CLnFKernelIdeal.nD,
      m' ((c.tc : Thread Cert.CLnFReferenceIdeal.nD Cert.CLnFReferenceIdeal.τ).loc Cert.CLnFReferenceIdeal.main_arg0) = m ((c.tc : Thread Cert.CLnFKernelIdeal.nD Cert.CLnFKernelIdeal.τ).loc Cert.CLnFKernelIdeal.main_arg0)
      ∧ m' ((c.tc : Thread Cert.CLnFReferenceIdeal.nD Cert.CLnFReferenceIdeal.τ).loc Cert.CLnFReferenceIdeal.main_arg1) = m ((c.tc : Thread Cert.CLnFKernelIdeal.nD Cert.CLnFKernelIdeal.τ).loc Cert.CLnFKernelIdeal.main_arg1)
      ∧ m' ((c.tc : Thread Cert.CLnFReferenceIdeal.nD Cert.CLnFReferenceIdeal.τ).loc Cert.CLnFReferenceIdeal.main_arg2) = m ((c.tc : Thread Cert.CLnFKernelIdeal.nD Cert.CLnFKernelIdeal.τ).loc Cert.CLnFKernelIdeal.main_arg2)) →
    ∃ (v0 : (c : Dev Cert.CLnFKernelIdeal.nD) → Buf (Elt Ideal) ((c.tc : Thread Cert.CLnFKernelIdeal.nD Cert.CLnFKernelIdeal.τ).loc Cert.CLnFKernelIdeal.main_v0)),
      θ_run (Cert.CLnFKernelIdeal.defs (F := Ideal)) (onTc (τ := Cert.CLnFKernelIdeal.τ) (Cert.CLnFKernelIdeal.main (F := Ideal))) ⟨m, fun _ => 0, g⟩ (fun r => ∀ c : Dev Cert.CLnFKernelIdeal.nD,
          r.2.mem ((c.tc : Thread Cert.CLnFKernelIdeal.nD Cert.CLnFKernelIdeal.τ).loc Cert.CLnFKernelIdeal.main_v0) = v0 c
          ∧ r.2.mem ((c.tc : Thread Cert.CLnFKernelIdeal.nD Cert.CLnFKernelIdeal.τ).loc Cert.CLnFKernelIdeal.main_arg0) = m ((c.tc : Thread Cert.CLnFKernelIdeal.nD Cert.CLnFKernelIdeal.τ).loc Cert.CLnFKernelIdeal.main_arg0)
          ∧ r.2.mem ((c.tc : Thread Cert.CLnFKernelIdeal.nD Cert.CLnFKernelIdeal.τ).loc Cert.CLnFKernelIdeal.main_arg1) = m ((c.tc : Thread Cert.CLnFKernelIdeal.nD Cert.CLnFKernelIdeal.τ).loc Cert.CLnFKernelIdeal.main_arg1)
          ∧ r.2.mem ((c.tc : Thread Cert.CLnFKernelIdeal.nD Cert.CLnFKernelIdeal.τ).loc Cert.CLnFKernelIdeal.main_arg2) = m ((c.tc : Thread Cert.CLnFKernelIdeal.nD Cert.CLnFKernelIdeal.τ).loc Cert.CLnFKernelIdeal.main_arg2))
      ∧ θ_run (Cert.CLnFReferenceIdeal.defs (F := Ideal)) (onTc (τ := Cert.CLnFReferenceIdeal.τ) (Cert.CLnFReferenceIdeal.main (F := Ideal))) ⟨m', fun _ => 0, g'⟩ (fun r => ∀ c : Dev Cert.CLnFReferenceIdeal.nD,
          r.2.mem ((c.tc : Thread Cert.CLnFReferenceIdeal.nD Cert.CLnFReferenceIdeal.τ).loc Cert.CLnFReferenceIdeal.main_v27) = v0 c
          ∧ r.2.mem ((c.tc : Thread Cert.CLnFReferenceIdeal.nD Cert.CLnFReferenceIdeal.τ).loc Cert.CLnFReferenceIdeal.main_arg0) = m' ((c.tc : Thread Cert.CLnFReferenceIdeal.nD Cert.CLnFReferenceIdeal.τ).loc Cert.CLnFReferenceIdeal.main_arg0)
          ∧ r.2.mem ((c.tc : Thread Cert.CLnFReferenceIdeal.nD Cert.CLnFReferenceIdeal.τ).loc Cert.CLnFReferenceIdeal.main_arg1) = m' ((c.tc : Thread Cert.CLnFReferenceIdeal.nD Cert.CLnFReferenceIdeal.τ).loc Cert.CLnFReferenceIdeal.main_arg1)
          ∧ r.2.mem ((c.tc : Thread Cert.CLnFReferenceIdeal.nD Cert.CLnFReferenceIdeal.τ).loc Cert.CLnFReferenceIdeal.main_arg2) = m' ((c.tc : Thread Cert.CLnFReferenceIdeal.nD Cert.CLnFReferenceIdeal.τ).loc Cert.CLnFReferenceIdeal.main_arg2))

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)) →
    ∃ (v0 : (c : Dev Cert.LossKernelIdeal.nD) → Buf (Elt Ideal) ((c.tc : Thread Cert.LossKernelIdeal.nD Cert.LossKernelIdeal.τ).loc Cert.LossKernelIdeal.main_v0_0)) (v1 : (c : Dev Cert.LossKernelIdeal.nD) → Buf (Elt Ideal) ((c.tc : Thread Cert.LossKernelIdeal.nD Cert.LossKernelIdeal.τ).loc Cert.LossKernelIdeal.main_v0_1)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v0_0) = v0 c
          ∧ r.2.mem ((c.tc : Thread Cert.LossKernelIdeal.nD Cert.LossKernelIdeal.τ).loc Cert.LossKernelIdeal.main_v0_1) = v1 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v15) = v0 c
          ∧ r.2.mem ((c.tc : Thread Cert.LossReferenceIdeal.nD Cert.LossReferenceIdeal.τ).loc Cert.LossReferenceIdeal.main_v14) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_CConvFKernel_CConvFKernelIdeal : Prop :=
  True

def algebraic_CConvFKernelIdeal_CConvFReferenceIdeal [hCConvFKernelIdeal : Cert.CConvFKernelIdeal.Facts] [hCConvFReferenceIdeal : Cert.CConvFReferenceIdeal.Facts] : Prop :=
  ∀ (m : (ℓ : Loc Cert.CConvFKernelIdeal.nD Cert.CConvFKernelIdeal.τ Cert.CConvFKernelIdeal.sig) → Buf (Elt Ideal) ℓ) (g : Dev Cert.CConvFKernelIdeal.nD → PrngReg)
    (m' : (ℓ : Loc Cert.CConvFReferenceIdeal.nD Cert.CConvFReferenceIdeal.τ Cert.CConvFReferenceIdeal.sig) → Buf (Elt Ideal) ℓ) (g' : Dev Cert.CConvFReferenceIdeal.nD → PrngReg), Pre_CConvFKernelIdeal m →
    (∀ c : Dev Cert.CConvFKernelIdeal.nD,
      m' ((c.tc : Thread Cert.CConvFReferenceIdeal.nD Cert.CConvFReferenceIdeal.τ).loc Cert.CConvFReferenceIdeal.main_arg0) = m ((c.tc : Thread Cert.CConvFKernelIdeal.nD Cert.CConvFKernelIdeal.τ).loc Cert.CConvFKernelIdeal.main_arg0)
      ∧ m' ((c.tc : Thread Cert.CConvFReferenceIdeal.nD Cert.CConvFReferenceIdeal.τ).loc Cert.CConvFReferenceIdeal.main_arg1) = m ((c.tc : Thread Cert.CConvFKernelIdeal.nD Cert.CConvFKernelIdeal.τ).loc Cert.CConvFKernelIdeal.main_arg1)
      ∧ m' ((c.tc : Thread Cert.CConvFReferenceIdeal.nD Cert.CConvFReferenceIdeal.τ).loc Cert.CConvFReferenceIdeal.main_arg2) = m ((c.tc : Thread Cert.CConvFKernelIdeal.nD Cert.CConvFKernelIdeal.τ).loc Cert.CConvFKernelIdeal.main_arg2)) →
    ∃ (v0 : (c : Dev Cert.CConvFKernelIdeal.nD) → Buf (Elt Ideal) ((c.tc : Thread Cert.CConvFKernelIdeal.nD Cert.CConvFKernelIdeal.τ).loc Cert.CConvFKernelIdeal.main_v0)),
      θ_run (Cert.CConvFKernelIdeal.defs (F := Ideal)) (onTc (τ := Cert.CConvFKernelIdeal.τ) (Cert.CConvFKernelIdeal.main (F := Ideal))) ⟨m, fun _ => 0, g⟩ (fun r => ∀ c : Dev Cert.CConvFKernelIdeal.nD,
          r.2.mem ((c.tc : Thread Cert.CConvFKernelIdeal.nD Cert.CConvFKernelIdeal.τ).loc Cert.CConvFKernelIdeal.main_v0) = v0 c
          ∧ r.2.mem ((c.tc : Thread Cert.CConvFKernelIdeal.nD Cert.CConvFKernelIdeal.τ).loc Cert.CConvFKernelIdeal.main_arg0) = m ((c.tc : Thread Cert.CConvFKernelIdeal.nD Cert.CConvFKernelIdeal.τ).loc Cert.CConvFKernelIdeal.main_arg0)
          ∧ r.2.mem ((c.tc : Thread Cert.CConvFKernelIdeal.nD Cert.CConvFKernelIdeal.τ).loc Cert.CConvFKernelIdeal.main_arg1) = m ((c.tc : Thread Cert.CConvFKernelIdeal.nD Cert.CConvFKernelIdeal.τ).loc Cert.CConvFKernelIdeal.main_arg1)
          ∧ r.2.mem ((c.tc : Thread Cert.CConvFKernelIdeal.nD Cert.CConvFKernelIdeal.τ).loc Cert.CConvFKernelIdeal.main_arg2) = m ((c.tc : Thread Cert.CConvFKernelIdeal.nD Cert.CConvFKernelIdeal.τ).loc Cert.CConvFKernelIdeal.main_arg2))
      ∧ θ_run (Cert.CConvFReferenceIdeal.defs (F := Ideal)) (onTc (τ := Cert.CConvFReferenceIdeal.τ) (Cert.CConvFReferenceIdeal.main (F := Ideal))) ⟨m', fun _ => 0, g'⟩ (fun r => ∀ c : Dev Cert.CConvFReferenceIdeal.nD,
          r.2.mem ((c.tc : Thread Cert.CConvFReferenceIdeal.nD Cert.CConvFReferenceIdeal.τ).loc Cert.CConvFReferenceIdeal.main_v235) = v0 c
          ∧ r.2.mem ((c.tc : Thread Cert.CConvFReferenceIdeal.nD Cert.CConvFReferenceIdeal.τ).loc Cert.CConvFReferenceIdeal.main_arg0) = m' ((c.tc : Thread Cert.CConvFReferenceIdeal.nD Cert.CConvFReferenceIdeal.τ).loc Cert.CConvFReferenceIdeal.main_arg0)
          ∧ r.2.mem ((c.tc : Thread Cert.CConvFReferenceIdeal.nD Cert.CConvFReferenceIdeal.τ).loc Cert.CConvFReferenceIdeal.main_arg1) = m' ((c.tc : Thread Cert.CConvFReferenceIdeal.nD Cert.CConvFReferenceIdeal.τ).loc Cert.CConvFReferenceIdeal.main_arg1)
          ∧ r.2.mem ((c.tc : Thread Cert.CConvFReferenceIdeal.nD Cert.CConvFReferenceIdeal.τ).loc Cert.CConvFReferenceIdeal.main_arg2) = m' ((c.tc : Thread Cert.CConvFReferenceIdeal.nD Cert.CConvFReferenceIdeal.τ).loc Cert.CConvFReferenceIdeal.main_arg2))

def preserves_CConvKernel_CConvKernelIdeal : Prop :=
  True

def algebraic_CConvKernelIdeal_CConvReferenceIdeal [hCConvKernelIdeal : Cert.CConvKernelIdeal.Facts] [hCConvReferenceIdeal : Cert.CConvReferenceIdeal.Facts] : Prop :=
  ∀ (m : (ℓ : Loc Cert.CConvKernelIdeal.nD Cert.CConvKernelIdeal.τ Cert.CConvKernelIdeal.sig) → Buf (Elt Ideal) ℓ) (g : Dev Cert.CConvKernelIdeal.nD → PrngReg)
    (m' : (ℓ : Loc Cert.CConvReferenceIdeal.nD Cert.CConvReferenceIdeal.τ Cert.CConvReferenceIdeal.sig) → Buf (Elt Ideal) ℓ) (g' : Dev Cert.CConvReferenceIdeal.nD → PrngReg), Pre_CConvKernelIdeal m →
    (∀ c : Dev Cert.CConvKernelIdeal.nD,
      m' ((c.tc : Thread Cert.CConvReferenceIdeal.nD Cert.CConvReferenceIdeal.τ).loc Cert.CConvReferenceIdeal.main_arg0) = m ((c.tc : Thread Cert.CConvKernelIdeal.nD Cert.CConvKernelIdeal.τ).loc Cert.CConvKernelIdeal.main_arg0)
      ∧ m' ((c.tc : Thread Cert.CConvReferenceIdeal.nD Cert.CConvReferenceIdeal.τ).loc Cert.CConvReferenceIdeal.main_arg1) = m ((c.tc : Thread Cert.CConvKernelIdeal.nD Cert.CConvKernelIdeal.τ).loc Cert.CConvKernelIdeal.main_arg1)
      ∧ m' ((c.tc : Thread Cert.CConvReferenceIdeal.nD Cert.CConvReferenceIdeal.τ).loc Cert.CConvReferenceIdeal.main_arg2) = m ((c.tc : Thread Cert.CConvKernelIdeal.nD Cert.CConvKernelIdeal.τ).loc Cert.CConvKernelIdeal.main_arg2)) →
    ∃ (v0 : (c : Dev Cert.CConvKernelIdeal.nD) → Buf (Elt Ideal) ((c.tc : Thread Cert.CConvKernelIdeal.nD Cert.CConvKernelIdeal.τ).loc Cert.CConvKernelIdeal.main_v0_0)) (v1 : (c : Dev Cert.CConvKernelIdeal.nD) → Buf (Elt Ideal) ((c.tc : Thread Cert.CConvKernelIdeal.nD Cert.CConvKernelIdeal.τ).loc Cert.CConvKernelIdeal.main_v0_1)) (v2 : (c : Dev Cert.CConvKernelIdeal.nD) → Buf (Elt Ideal) ((c.tc : Thread Cert.CConvKernelIdeal.nD Cert.CConvKernelIdeal.τ).loc Cert.CConvKernelIdeal.main_v0_2)),
      θ_run (Cert.CConvKernelIdeal.defs (F := Ideal)) (onTc (τ := Cert.CConvKernelIdeal.τ) (Cert.CConvKernelIdeal.main (F := Ideal))) ⟨m, fun _ => 0, g⟩ (fun r => ∀ c : Dev Cert.CConvKernelIdeal.nD,
          r.2.mem ((c.tc : Thread Cert.CConvKernelIdeal.nD Cert.CConvKernelIdeal.τ).loc Cert.CConvKernelIdeal.main_v0_0) = v0 c
          ∧ r.2.mem ((c.tc : Thread Cert.CConvKernelIdeal.nD Cert.CConvKernelIdeal.τ).loc Cert.CConvKernelIdeal.main_v0_1) = v1 c
          ∧ r.2.mem ((c.tc : Thread Cert.CConvKernelIdeal.nD Cert.CConvKernelIdeal.τ).loc Cert.CConvKernelIdeal.main_v0_2) = v2 c
          ∧ r.2.mem ((c.tc : Thread Cert.CConvKernelIdeal.nD Cert.CConvKernelIdeal.τ).loc Cert.CConvKernelIdeal.main_arg0) = m ((c.tc : Thread Cert.CConvKernelIdeal.nD Cert.CConvKernelIdeal.τ).loc Cert.CConvKernelIdeal.main_arg0)
          ∧ r.2.mem ((c.tc : Thread Cert.CConvKernelIdeal.nD Cert.CConvKernelIdeal.τ).loc Cert.CConvKernelIdeal.main_arg1) = m ((c.tc : Thread Cert.CConvKernelIdeal.nD Cert.CConvKernelIdeal.τ).loc Cert.CConvKernelIdeal.main_arg1)
          ∧ r.2.mem ((c.tc : Thread Cert.CConvKernelIdeal.nD Cert.CConvKernelIdeal.τ).loc Cert.CConvKernelIdeal.main_arg2) = m ((c.tc : Thread Cert.CConvKernelIdeal.nD Cert.CConvKernelIdeal.τ).loc Cert.CConvKernelIdeal.main_arg2))
      ∧ θ_run (Cert.CConvReferenceIdeal.defs (F := Ideal)) (onTc (τ := Cert.CConvReferenceIdeal.τ) (Cert.CConvReferenceIdeal.main (F := Ideal))) ⟨m', fun _ => 0, g'⟩ (fun r => ∀ c : Dev Cert.CConvReferenceIdeal.nD,
          r.2.mem ((c.tc : Thread Cert.CConvReferenceIdeal.nD Cert.CConvReferenceIdeal.τ).loc Cert.CConvReferenceIdeal.main_v593) = v0 c
          ∧ r.2.mem ((c.tc : Thread Cert.CConvReferenceIdeal.nD Cert.CConvReferenceIdeal.τ).loc Cert.CConvReferenceIdeal.main_v584) = v1 c
          ∧ r.2.mem ((c.tc : Thread Cert.CConvReferenceIdeal.nD Cert.CConvReferenceIdeal.τ).loc Cert.CConvReferenceIdeal.main_v245) = v2 c
          ∧ r.2.mem ((c.tc : Thread Cert.CConvReferenceIdeal.nD Cert.CConvReferenceIdeal.τ).loc Cert.CConvReferenceIdeal.main_arg0) = m' ((c.tc : Thread Cert.CConvReferenceIdeal.nD Cert.CConvReferenceIdeal.τ).loc Cert.CConvReferenceIdeal.main_arg0)
          ∧ r.2.mem ((c.tc : Thread Cert.CConvReferenceIdeal.nD Cert.CConvReferenceIdeal.τ).loc Cert.CConvReferenceIdeal.main_arg1) = m' ((c.tc : Thread Cert.CConvReferenceIdeal.nD Cert.CConvReferenceIdeal.τ).loc Cert.CConvReferenceIdeal.main_arg1)
          ∧ r.2.mem ((c.tc : Thread Cert.CConvReferenceIdeal.nD Cert.CConvReferenceIdeal.τ).loc Cert.CConvReferenceIdeal.main_arg2) = m' ((c.tc : Thread Cert.CConvReferenceIdeal.nD Cert.CConvReferenceIdeal.τ).loc Cert.CConvReferenceIdeal.main_arg2))

def Claim : Prop :=
  ∃ (hKernel : Cert.Kernel.Facts) (hKernelIdeal : Cert.KernelIdeal.Facts) (hReferenceIdeal : Cert.ReferenceIdeal.Facts) (hFfnKernel : Cert.FfnKernel.Facts) (hFfnKernelIdeal : Cert.FfnKernelIdeal.Facts) (hFfnReferenceIdeal : Cert.FfnReferenceIdeal.Facts) (hDhKernel : Cert.DhKernel.Facts) (hDhKernelIdeal : Cert.DhKernelIdeal.Facts) (hDhReferenceIdeal : Cert.DhReferenceIdeal.Facts) (hDownKernel : Cert.DownKernel.Facts) (hDownKernelIdeal : Cert.DownKernelIdeal.Facts) (hDownReferenceIdeal : Cert.DownReferenceIdeal.Facts) (hDh3Kernel : Cert.Dh3Kernel.Facts) (hDh3KernelIdeal : Cert.Dh3KernelIdeal.Facts) (hDh3ReferenceIdeal : Cert.Dh3ReferenceIdeal.Facts) (hDh2Kernel : Cert.Dh2Kernel.Facts) (hDh2KernelIdeal : Cert.Dh2KernelIdeal.Facts) (hDh2ReferenceIdeal : Cert.Dh2ReferenceIdeal.Facts) (hDmemKernel : Cert.DmemKernel.Facts) (hDmemKernelIdeal : Cert.DmemKernelIdeal.Facts) (hDmemReferenceIdeal : Cert.DmemReferenceIdeal.Facts) (hIoKernel : Cert.IoKernel.Facts) (hIoKernelIdeal : Cert.IoKernelIdeal.Facts) (hIoReferenceIdeal : Cert.IoReferenceIdeal.Facts) (hAKernel : Cert.AKernel.Facts) (hAKernelIdeal : Cert.AKernelIdeal.Facts) (hAReferenceIdeal : Cert.AReferenceIdeal.Facts) (hXaKernel : Cert.XaKernel.Facts) (hXaKernelIdeal : Cert.XaKernelIdeal.Facts) (hXaReferenceIdeal : Cert.XaReferenceIdeal.Facts) (hNormPreKernel : Cert.NormPreKernel.Facts) (hNormPreKernelIdeal : Cert.NormPreKernelIdeal.Facts) (hNormPreReferenceIdeal : Cert.NormPreReferenceIdeal.Facts) (hNormPostKernel : Cert.NormPostKernel.Facts) (hNormPostKernelIdeal : Cert.NormPostKernelIdeal.Facts) (hNormPostReferenceIdeal : Cert.NormPostReferenceIdeal.Facts) (hNormMemKernel : Cert.NormMemKernel.Facts) (hNormMemKernelIdeal : Cert.NormMemKernelIdeal.Facts) (hNormMemReferenceIdeal : Cert.NormMemReferenceIdeal.Facts) (hCLnKernel : Cert.CLnKernel.Facts) (hCLnKernelIdeal : Cert.CLnKernelIdeal.Facts) (hCLnReferenceIdeal : Cert.CLnReferenceIdeal.Facts) (hRmsKernel : Cert.RmsKernel.Facts) (hRmsKernelIdeal : Cert.RmsKernelIdeal.Facts) (hRmsReferenceIdeal : Cert.RmsReferenceIdeal.Facts) (hRmsMemKernel : Cert.RmsMemKernel.Facts) (hRmsMemKernelIdeal : Cert.RmsMemKernelIdeal.Facts) (hRmsMemReferenceIdeal : Cert.RmsMemReferenceIdeal.Facts) (hResKernel : Cert.ResKernel.Facts) (hResKernelIdeal : Cert.ResKernelIdeal.Facts) (hResReferenceIdeal : Cert.ResReferenceIdeal.Facts) (hResLastKernel : Cert.ResLastKernel.Facts) (hResLastKernelIdeal : Cert.ResLastKernelIdeal.Facts) (hResLastReferenceIdeal : Cert.ResLastReferenceIdeal.Facts) (hCLnFKernel : Cert.CLnFKernel.Facts) (hCLnFKernelIdeal : Cert.CLnFKernelIdeal.Facts) (hCLnFReferenceIdeal : Cert.CLnFReferenceIdeal.Facts) (hLossKernel : Cert.LossKernel.Facts) (hLossKernelIdeal : Cert.LossKernelIdeal.Facts) (hLossReferenceIdeal : Cert.LossReferenceIdeal.Facts) (hCConvFKernel : Cert.CConvFKernel.Facts) (hCConvFKernelIdeal : Cert.CConvFKernelIdeal.Facts) (hCConvFReferenceIdeal : Cert.CConvFReferenceIdeal.Facts) (hCConvKernel : Cert.CConvKernel.Facts) (hCConvKernelIdeal : Cert.CConvKernelIdeal.Facts) (hCConvReferenceIdeal : Cert.CConvReferenceIdeal.Facts) (hPre_finite_scores : Cert.Pre_finite_scores.Facts) (hPre_finite_ffn : Cert.Pre_finite_ffn.Facts) (hPre_finite_xa : Cert.Pre_finite_xa.Facts) (hPre_finite_c_ln : Cert.Pre_finite_c_ln.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_FfnKernel (hFfnKernel := hFfnKernel)
    ∧ quiescent_FfnKernelIdeal (hFfnKernelIdeal := hFfnKernelIdeal)
    ∧ quiescent_FfnKernelIdeal_pre_finite_ffn (hFfnKernelIdeal := hFfnKernelIdeal) (hPre_finite_ffn := hPre_finite_ffn)
    ∧ quiescent_FfnReferenceIdeal (hFfnReferenceIdeal := hFfnReferenceIdeal)
    ∧ quiescent_FfnReferenceIdeal_pre_finite_ffn (hFfnReferenceIdeal := hFfnReferenceIdeal) (hPre_finite_ffn := hPre_finite_ffn)
    ∧ quiescent_DhKernel (hDhKernel := hDhKernel)
    ∧ quiescent_DhKernelIdeal (hDhKernelIdeal := hDhKernelIdeal)
    ∧ quiescent_DhReferenceIdeal (hDhReferenceIdeal := hDhReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_Dh3Kernel (hDh3Kernel := hDh3Kernel)
    ∧ quiescent_Dh3KernelIdeal (hDh3KernelIdeal := hDh3KernelIdeal)
    ∧ quiescent_Dh3ReferenceIdeal (hDh3ReferenceIdeal := hDh3ReferenceIdeal)
    ∧ quiescent_Dh2Kernel (hDh2Kernel := hDh2Kernel)
    ∧ quiescent_Dh2KernelIdeal (hDh2KernelIdeal := hDh2KernelIdeal)
    ∧ quiescent_Dh2ReferenceIdeal (hDh2ReferenceIdeal := hDh2ReferenceIdeal)
    ∧ quiescent_DmemKernel (hDmemKernel := hDmemKernel)
    ∧ quiescent_DmemKernelIdeal (hDmemKernelIdeal := hDmemKernelIdeal)
    ∧ quiescent_DmemReferenceIdeal (hDmemReferenceIdeal := hDmemReferenceIdeal)
    ∧ quiescent_IoKernel (hIoKernel := hIoKernel)
    ∧ quiescent_IoKernelIdeal (hIoKernelIdeal := hIoKernelIdeal)
    ∧ quiescent_IoReferenceIdeal (hIoReferenceIdeal := hIoReferenceIdeal)
    ∧ quiescent_AKernel (hAKernel := hAKernel)
    ∧ quiescent_AKernelIdeal (hAKernelIdeal := hAKernelIdeal)
    ∧ quiescent_AReferenceIdeal (hAReferenceIdeal := hAReferenceIdeal)
    ∧ quiescent_XaKernel (hXaKernel := hXaKernel)
    ∧ quiescent_XaKernelIdeal (hXaKernelIdeal := hXaKernelIdeal)
    ∧ quiescent_XaKernelIdeal_pre_finite_xa (hXaKernelIdeal := hXaKernelIdeal) (hPre_finite_xa := hPre_finite_xa)
    ∧ quiescent_XaReferenceIdeal (hXaReferenceIdeal := hXaReferenceIdeal)
    ∧ quiescent_XaReferenceIdeal_pre_finite_xa (hXaReferenceIdeal := hXaReferenceIdeal) (hPre_finite_xa := hPre_finite_xa)
    ∧ quiescent_NormPreKernel (hNormPreKernel := hNormPreKernel)
    ∧ quiescent_NormPreKernelIdeal (hNormPreKernelIdeal := hNormPreKernelIdeal)
    ∧ quiescent_NormPreReferenceIdeal (hNormPreReferenceIdeal := hNormPreReferenceIdeal)
    ∧ quiescent_NormPostKernel (hNormPostKernel := hNormPostKernel)
    ∧ quiescent_NormPostKernelIdeal (hNormPostKernelIdeal := hNormPostKernelIdeal)
    ∧ quiescent_NormPostReferenceIdeal (hNormPostReferenceIdeal := hNormPostReferenceIdeal)
    ∧ quiescent_NormMemKernel (hNormMemKernel := hNormMemKernel)
    ∧ quiescent_NormMemKernelIdeal (hNormMemKernelIdeal := hNormMemKernelIdeal)
    ∧ quiescent_NormMemReferenceIdeal (hNormMemReferenceIdeal := hNormMemReferenceIdeal)
    ∧ quiescent_CLnKernel (hCLnKernel := hCLnKernel)
    ∧ quiescent_CLnKernelIdeal (hCLnKernelIdeal := hCLnKernelIdeal)
    ∧ quiescent_CLnKernelIdeal_pre_finite_c_ln (hCLnKernelIdeal := hCLnKernelIdeal) (hPre_finite_c_ln := hPre_finite_c_ln)
    ∧ quiescent_CLnReferenceIdeal (hCLnReferenceIdeal := hCLnReferenceIdeal)
    ∧ quiescent_CLnReferenceIdeal_pre_finite_c_ln (hCLnReferenceIdeal := hCLnReferenceIdeal) (hPre_finite_c_ln := hPre_finite_c_ln)
    ∧ quiescent_RmsKernel (hRmsKernel := hRmsKernel)
    ∧ quiescent_RmsKernelIdeal (hRmsKernelIdeal := hRmsKernelIdeal)
    ∧ quiescent_RmsReferenceIdeal (hRmsReferenceIdeal := hRmsReferenceIdeal)
    ∧ quiescent_RmsMemKernel (hRmsMemKernel := hRmsMemKernel)
    ∧ quiescent_RmsMemKernelIdeal (hRmsMemKernelIdeal := hRmsMemKernelIdeal)
    ∧ quiescent_RmsMemReferenceIdeal (hRmsMemReferenceIdeal := hRmsMemReferenceIdeal)
    ∧ quiescent_ResKernel (hResKernel := hResKernel)
    ∧ quiescent_ResKernelIdeal (hResKernelIdeal := hResKernelIdeal)
    ∧ quiescent_ResReferenceIdeal (hResReferenceIdeal := hResReferenceIdeal)
    ∧ quiescent_ResLastKernel (hResLastKernel := hResLastKernel)
    ∧ quiescent_ResLastKernelIdeal (hResLastKernelIdeal := hResLastKernelIdeal)
    ∧ quiescent_ResLastReferenceIdeal (hResLastReferenceIdeal := hResLastReferenceIdeal)
    ∧ quiescent_CLnFKernel (hCLnFKernel := hCLnFKernel)
    ∧ quiescent_CLnFKernelIdeal (hCLnFKernelIdeal := hCLnFKernelIdeal)
    ∧ quiescent_CLnFReferenceIdeal (hCLnFReferenceIdeal := hCLnFReferenceIdeal)
    ∧ quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_CConvFKernel (hCConvFKernel := hCConvFKernel)
    ∧ quiescent_CConvFKernelIdeal (hCConvFKernelIdeal := hCConvFKernelIdeal)
    ∧ quiescent_CConvFReferenceIdeal (hCConvFReferenceIdeal := hCConvFReferenceIdeal)
    ∧ quiescent_CConvKernel (hCConvKernel := hCConvKernel)
    ∧ quiescent_CConvKernelIdeal (hCConvKernelIdeal := hCConvKernelIdeal)
    ∧ quiescent_CConvReferenceIdeal (hCConvReferenceIdeal := hCConvReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_FfnKernel_FfnKernelIdeal
    ∧ algebraic_FfnKernelIdeal_FfnReferenceIdeal_pre_finite_ffn (hFfnKernelIdeal := hFfnKernelIdeal) (hFfnReferenceIdeal := hFfnReferenceIdeal) (hPre_finite_ffn := hPre_finite_ffn)
    ∧ preserves_DhKernel_DhKernelIdeal
    ∧ algebraic_DhKernelIdeal_DhReferenceIdeal (hDhKernelIdeal := hDhKernelIdeal) (hDhReferenceIdeal := hDhReferenceIdeal)
    ∧ preserves_DownKernel_DownKernelIdeal
    ∧ algebraic_DownKernelIdeal_DownReferenceIdeal (hDownKernelIdeal := hDownKernelIdeal) (hDownReferenceIdeal := hDownReferenceIdeal)
    ∧ preserves_Dh3Kernel_Dh3KernelIdeal
    ∧ algebraic_Dh3KernelIdeal_Dh3ReferenceIdeal (hDh3KernelIdeal := hDh3KernelIdeal) (hDh3ReferenceIdeal := hDh3ReferenceIdeal)
    ∧ preserves_Dh2Kernel_Dh2KernelIdeal
    ∧ algebraic_Dh2KernelIdeal_Dh2ReferenceIdeal (hDh2KernelIdeal := hDh2KernelIdeal) (hDh2ReferenceIdeal := hDh2ReferenceIdeal)
    ∧ preserves_DmemKernel_DmemKernelIdeal
    ∧ algebraic_DmemKernelIdeal_DmemReferenceIdeal (hDmemKernelIdeal := hDmemKernelIdeal) (hDmemReferenceIdeal := hDmemReferenceIdeal)
    ∧ preserves_IoKernel_IoKernelIdeal
    ∧ algebraic_IoKernelIdeal_IoReferenceIdeal (hIoKernelIdeal := hIoKernelIdeal) (hIoReferenceIdeal := hIoReferenceIdeal)
    ∧ preserves_AKernel_AKernelIdeal
    ∧ algebraic_AKernelIdeal_AReferenceIdeal (hAKernelIdeal := hAKernelIdeal) (hAReferenceIdeal := hAReferenceIdeal)
    ∧ preserves_XaKernel_XaKernelIdeal
    ∧ algebraic_XaKernelIdeal_XaReferenceIdeal_pre_finite_xa (hXaKernelIdeal := hXaKernelIdeal) (hXaReferenceIdeal := hXaReferenceIdeal) (hPre_finite_xa := hPre_finite_xa)
    ∧ preserves_NormPreKernel_NormPreKernelIdeal
    ∧ algebraic_NormPreKernelIdeal_NormPreReferenceIdeal (hNormPreKernelIdeal := hNormPreKernelIdeal) (hNormPreReferenceIdeal := hNormPreReferenceIdeal)
    ∧ preserves_NormPostKernel_NormPostKernelIdeal
    ∧ algebraic_NormPostKernelIdeal_NormPostReferenceIdeal (hNormPostKernelIdeal := hNormPostKernelIdeal) (hNormPostReferenceIdeal := hNormPostReferenceIdeal)
    ∧ preserves_NormMemKernel_NormMemKernelIdeal
    ∧ algebraic_NormMemKernelIdeal_NormMemReferenceIdeal (hNormMemKernelIdeal := hNormMemKernelIdeal) (hNormMemReferenceIdeal := hNormMemReferenceIdeal)
    ∧ preserves_CLnKernel_CLnKernelIdeal
    ∧ algebraic_CLnKernelIdeal_CLnReferenceIdeal_pre_finite_c_ln (hCLnKernelIdeal := hCLnKernelIdeal) (hCLnReferenceIdeal := hCLnReferenceIdeal) (hPre_finite_c_ln := hPre_finite_c_ln)
    ∧ preserves_RmsKernel_RmsKernelIdeal
    ∧ algebraic_RmsKernelIdeal_RmsReferenceIdeal (hRmsKernelIdeal := hRmsKernelIdeal) (hRmsReferenceIdeal := hRmsReferenceIdeal)
    ∧ preserves_RmsMemKernel_RmsMemKernelIdeal
    ∧ algebraic_RmsMemKernelIdeal_RmsMemReferenceIdeal (hRmsMemKernelIdeal := hRmsMemKernelIdeal) (hRmsMemReferenceIdeal := hRmsMemReferenceIdeal)
    ∧ preserves_ResKernel_ResKernelIdeal
    ∧ algebraic_ResKernelIdeal_ResReferenceIdeal (hResKernelIdeal := hResKernelIdeal) (hResReferenceIdeal := hResReferenceIdeal)
    ∧ preserves_ResLastKernel_ResLastKernelIdeal
    ∧ algebraic_ResLastKernelIdeal_ResLastReferenceIdeal (hResLastKernelIdeal := hResLastKernelIdeal) (hResLastReferenceIdeal := hResLastReferenceIdeal)
    ∧ preserves_CLnFKernel_CLnFKernelIdeal
    ∧ algebraic_CLnFKernelIdeal_CLnFReferenceIdeal (hCLnFKernelIdeal := hCLnFKernelIdeal) (hCLnFReferenceIdeal := hCLnFReferenceIdeal)
    ∧ preserves_LossKernel_LossKernelIdeal
    ∧ algebraic_LossKernelIdeal_LossReferenceIdeal (hLossKernelIdeal := hLossKernelIdeal) (hLossReferenceIdeal := hLossReferenceIdeal)
    ∧ preserves_CConvFKernel_CConvFKernelIdeal
    ∧ algebraic_CConvFKernelIdeal_CConvFReferenceIdeal (hCConvFKernelIdeal := hCConvFKernelIdeal) (hCConvFReferenceIdeal := hCConvFReferenceIdeal)
    ∧ preserves_CConvKernel_CConvKernelIdeal
    ∧ algebraic_CConvKernelIdeal_CConvReferenceIdeal (hCConvKernelIdeal := hCConvKernelIdeal) (hCConvReferenceIdeal := hCConvReferenceIdeal)
-- ==== Pre_finite_c_ln.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn {F : FTy → Type} [FloatOps F] (main_arg0 : FVec F S4096x2048 .f32) (main_arg1 : FVec F S4096x2048 .f32) (main_arg2 : FVec F S1x2048 .f32) (main_arg3 : FVec F S1x2048 .f32) : IVec S_ 1 :=
  let main_v0 : FVec F S4096x2048 .f32 := Host.absf main_arg1
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S1x2048 .f32 := Host.absf main_arg2
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  main_v8
-- ==== Pre_finite_ffn.lean ====
abbrev S4096x2048 : Shape := ⟨2, ![4096, 2048]⟩
abbrev S1x2048x11264 : Shape := ⟨3, ![1, 2048, 11264]⟩
abbrev S1x5632x2048 : Shape := ⟨3, ![1, 5632, 2048]⟩
abbrev S_ : Shape := ⟨0, ![]⟩
abbrev S1x2048x5632 : Shape := ⟨3, ![1, 2048, 5632]⟩
abbrev S2048x5632 : Shape := ⟨2, ![2048, 5632]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  slices_S1x2048x11264_S1x2048x5632_0_0_5632 : S1x2048x11264.Slices ![0, 0, 5632] S1x2048x5632
  shapeCasts_S1x2048x5632_S2048x5632 : S1x2048x5632.ShapeCasts S2048x5632
  bcast_S_S2048x5632 : S_.BroadcastsInDim S2048x5632 (![] : Fin 0 → Fin S2048x5632.rank)
  reducesTo_S2048x5632_S_d0_1 : S2048x5632.ReducesTo [0, 1] S_
  bcast_S_S1x5632x2048 : S_.BroadcastsInDim S1x5632x2048 (![] : Fin 0 → Fin S1x5632x2048.rank)
  reducesTo_S1x5632x2048_S_d0_1_2 : S1x5632x2048.ReducesTo [0, 1, 2] S_

variable [Facts]

def fn_part1 {F : FTy → Type} [FloatOps F] (main_v15 : IVec S_ 1) (main_v16 : FVec F S4096x2048 .bf16) (main_cst_4 : FVec F S_ .bf16) : IVec S_ 1 :=
  let main_v17 : FVec F S4096x2048 .bf16 := broadcastInDim S4096x2048 ![] bcast_S_S4096x2048 main_cst_4
  let main_v18 : IVec S4096x2048 1 := cmpf .olt main_v16 main_v17
  let main_c_5 : IVec S_ 1 := constantI S_ 1 1#1
  let main_v19 : IVec S_ 1 := (fun x v => Host.reduce IntOp.andi x v reducesTo_S4096x2048_S_d0_1 h_S_) main_v18 main_c_5
  let main_v20 : IVec S_ 1 := andi main_v15 main_v19
  main_v20

def fn {F : FTy → Type} [FloatOps F] (main_arg0 : FVec F S4096x2048 .bf16) (main_arg1 : FVec F S1x2048x11264 .bf16) (main_arg2 : FVec F S1x5632x2048 .bf16) (main_arg3 : FVec F S4096x2048 .bf16) : IVec S_ 1 :=
  let main_v0 : FVec F S4096x2048 .bf16 := Host.absf main_arg0
  let main_cst : FVec F S_ .bf16 := constant S_ .bf16 0x7F80#16
  let main_v1 : FVec F S4096x2048 .bf16 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S1x2048x5632 .bf16 := (extractStridedSlice S1x2048x5632 ![0, 0, 5632] · slices_S1x2048x11264_S1x2048x5632_0_0_5632) main_arg1
  let main_v5 : FVec F S2048x5632 .bf16 := shapeCast S2048x5632 main_v4 shapeCasts_S1x2048x5632_S2048x5632
  let main_v6 : FVec F S2048x5632 .bf16 := Host.absf main_v5
  let main_cst_0 : FVec F S_ .bf16 := constant S_ .bf16 0x7F80#16
  let main_v7 : FVec F S2048x5632 .bf16 := broadcastInDim S2048x5632 ![] bcast_S_S2048x5632 main_cst_0
  let main_v8 : IVec S2048x5632 1 := cmpf .olt main_v6 main_v7
  let main_c_1 : IVec S_ 1 := constantI S_ 1 1#1
  let main_v9 : IVec S_ 1 := (fun x v => Host.reduce IntOp.andi x v reducesTo_S2048x5632_S_d0_1 h_S_) main_v8 main_c_1
  let main_v10 : IVec S_ 1 := andi main_v3 main_v9
  let main_v11 : FVec F S1x5632x2048 .bf16 := Host.absf main_arg2
  let main_cst_2 : FVec F S_ .bf16 := constant S_ .bf16 0x7F80#16
  let main_v12 : FVec F S1x5632x2048 .bf16 := broadcastInDim S1x5632x2048 ![] bcast_S_S1x5632x2048 main_cst_2
  let main_v13 : IVec S1x5632x2048 1 := cmpf .olt main_v11 main_v12
  let main_c_3 : IVec S_ 1 := constantI S_ 1 1#1
  let main_v14 : IVec S_ 1 := (fun x v => Host.reduce IntOp.andi x v reducesTo_S1x5632x2048_S_d0_1_2 h_S_) main_v13 main_c_3
  let main_v15 : IVec S_ 1 := andi main_v10 main_v14
  let main_v16 : FVec F S4096x2048 .bf16 := Host.absf main_arg3
  let main_cst_4 : FVec F S_ .bf16 := constant S_ .bf16 0x7F80#16
  fn_part1 (F := F) main_v15 main_v16 main_cst_4
-- ==== Pre_finite_scores.lean ====
abbrev S4096x2048 : Shape := ⟨2, ![4096, 2048]⟩
abbrev S2x256x2048 : Shape := ⟨3, ![2, 256, 2048]⟩
abbrev S_ : Shape := ⟨0, ![]⟩
abbrev S1x256x2048 : Shape := ⟨3, ![1, 256, 2048]⟩
abbrev S256x2048 : Shape := ⟨2, ![256, 2048]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  slices_S2x256x2048_S1x256x2048_0_0_0 : S2x256x2048.Slices ![0, 0, 0] S1x256x2048
  shapeCasts_S1x256x2048_S256x2048 : S1x256x2048.ShapeCasts S256x2048
  bcast_S_S256x2048 : S_.BroadcastsInDim S256x2048 (![] : Fin 0 → Fin S256x2048.rank)
  reducesTo_S256x2048_S_d0_1 : S256x2048.ReducesTo [0, 1] S_

variable [Facts]

def fn {F : FTy → Type} [FloatOps F] (main_arg0 : FVec F S4096x2048 .bf16) (main_arg1 : FVec F S2x256x2048 .bf16) (main_arg2 : FVec F S4096x2048 .bf16) : IVec S_ 1 :=
  let main_v0 : FVec F S4096x2048 .bf16 := Host.absf main_arg0
  let main_cst : FVec F S_ .bf16 := constant S_ .bf16 0x7F80#16
  let main_v1 : FVec F S4096x2048 .bf16 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S1x256x2048 .bf16 := (extractStridedSlice S1x256x2048 ![0, 0, 0] · slices_S2x256x2048_S1x256x2048_0_0_0) main_arg1
  let main_v5 : FVec F S256x2048 .bf16 := shapeCast S256x2048 main_v4 shapeCasts_S1x256x2048_S256x2048
  let main_v6 : FVec F S256x2048 .bf16 := Host.absf main_v5
  let main_cst_0 : FVec F S_ .bf16 := constant S_ .bf16 0x7F80#16
  let main_v7 : FVec F S256x2048 .bf16 := broadcastInDim S256x2048 ![] bcast_S_S256x2048 main_cst_0
  let main_v8 : IVec S256x2048 1 := cmpf .olt main_v6 main_v7
  let main_c_1 : IVec S_ 1 := constantI S_ 1 1#1
  let main_v9 : IVec S_ 1 := (fun x v => Host.reduce IntOp.andi x v reducesTo_S256x2048_S_d0_1 h_S_) main_v8 main_c_1
  let main_v10 : IVec S_ 1 := andi main_v3 main_v9
  main_v10
-- ==== Pre_finite_xa.lean ====
abbrev S4096x2048 : Shape := ⟨2, ![4096, 2048]⟩
abbrev S256x2048 : Shape := ⟨2, ![256, 2048]⟩
abbrev S1x2048x2048 : Shape := ⟨3, ![1, 2048, 2048]⟩
abbrev S1x2048x4096 : Shape := ⟨3, ![1, 2048, 4096]⟩
abbrev S_ : Shape := ⟨0, ![]⟩
abbrev S2048x2048 : Shape := ⟨2, ![2048, 2048]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_
  bcast_S_S1x2048x2048 : S_.BroadcastsInDim S1x2048x2048 (![] : Fin 0 → Fin S1x2048x2048.rank)
  reducesTo_S1x2048x2048_S_d0_1_2 : S1x2048x2048.ReducesTo [0, 1, 2] S_
  slices_S1x2048x4096_S1x2048x2048_0_0_0 : S1x2048x4096.Slices ![0, 0, 0] S1x2048x2048
  shapeCasts_S1x2048x2048_S2048x2048 : S1x2048x2048.ShapeCasts S2048x2048
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_v13 : IVec S_ 1) (main_v16 : FVec F S2048x2048 .bf16) (main_cst_4 : FVec F S_ .bf16) : IVec S_ 1 :=
  let main_v17 : FVec F S2048x2048 .bf16 := broadcastInDim S2048x2048 ![] bcast_S_S2048x2048 main_cst_4
  let main_v18 : IVec S2048x2048 1 := cmpf .olt main_v16 main_v17
  let main_c_5 : IVec S_ 1 := constantI S_ 1 1#1
  let main_v19 : IVec S_ 1 := (fun x v => Host.reduce IntOp.andi x v reducesTo_S2048x2048_S_d0_1 h_S_) main_v18 main_c_5
  let main_v20 : IVec S_ 1 := andi main_v13 main_v19
  main_v20

def fn {F : FTy → Type} [FloatOps F] (main_arg0 : FVec F S4096x2048 .bf16) (main_arg1 : FVec F S256x2048 .bf16) (main_arg2 : FVec F S1x2048x2048 .bf16) (main_arg3 : FVec F S1x2048x4096 .bf16) (main_arg4 : FVec F S1x2048x2048 .bf16) (main_arg5 : FVec F S4096x2048 .bf16) : IVec S_ 1 :=
  let main_v0 : FVec F S4096x2048 .bf16 := Host.absf main_arg0
  let main_cst : FVec F S_ .bf16 := constant S_ .bf16 0x7F80#16
  let main_v1 : FVec F S4096x2048 .bf16 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S256x2048 .bf16 := Host.absf main_arg1
  let main_cst_0 : FVec F S_ .bf16 := constant S_ .bf16 0x7F80#16
  let main_v5 : FVec F S256x2048 .bf16 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  let main_v9 : FVec F S1x2048x2048 .bf16 := Host.absf main_arg2
  let main_cst_2 : FVec F S_ .bf16 := constant S_ .bf16 0x7F80#16
  let main_v10 : FVec F S1x2048x2048 .bf16 := broadcastInDim S1x2048x2048 ![] bcast_S_S1x2048x2048 main_cst_2
  let main_v11 : IVec S1x2048x2048 1 := cmpf .olt main_v9 main_v10
  let main_c_3 : IVec S_ 1 := constantI S_ 1 1#1
  let main_v12 : IVec S_ 1 := (fun x v => Host.reduce IntOp.andi x v reducesTo_S1x2048x2048_S_d0_1_2 h_S_) main_v11 main_c_3
  let main_v13 : IVec S_ 1 := andi main_v8 main_v12
  let main_v14 : FVec F S1x2048x2048 .bf16 := (extractStridedSlice S1x2048x2048 ![0, 0, 0] · slices_S1x2048x4096_S1x2048x2048_0_0_0) main_arg3
  let main_v15 : FVec F S2048x2048 .bf16 := shapeCast S2048x2048 main_v14 shapeCasts_S1x2048x2048_S2048x2048
  let main_v16 : FVec F S2048x2048 .bf16 := Host.absf main_v15
  let main_cst_4 : FVec F S_ .bf16 := constant S_ .bf16 0x7F80#16
  fn_part1 (F := F) main_v13 main_v16 main_cst_4
-- ==== Kernel.lean ====
abbrev S4096x2048 : Shape := ⟨2, ![4096, 2048]⟩
abbrev S2x256x2048 : Shape := ⟨3, ![2, 256, 2048]⟩
abbrev S256x2048 : Shape := ⟨2, ![256, 2048]⟩
abbrev S256x512 : Shape := ⟨2, ![256, 512]⟩
abbrev S1x256x512 : Shape := ⟨3, ![1, 256, 512]⟩
abbrev S256x256 : Shape := ⟨2, ![256, 256]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2x256x2048, .bf16⟩
  | .hbm, ⟨2, _⟩ => ⟨S4096x2048, .bf16⟩
  | .hbm, ⟨3, _⟩ => ⟨S4096x2048, .bf16⟩
  | .hbm, ⟨4, _⟩ => ⟨S2x256x2048, .f32⟩
  | .local _ .vmem, ⟨0, _⟩ => ⟨S256x2048, .bf16⟩
  | .local _ .vmem, ⟨1, _⟩ => ⟨S256x2048, .bf16⟩
  | .local _ .vmem, ⟨2, _⟩ => ⟨S2x256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S2x256x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4096x2048 : Shape := ⟨2, ![4096, 2048]⟩
abbrev S2x256x2048 : Shape := ⟨3, ![2, 256, 2048]⟩
abbrev S4096x4x512 : Shape := ⟨3, ![4096, 4, 512]⟩
abbrev S1x256x2048 : Shape := ⟨3, ![1, 256, 2048]⟩
abbrev S256x2048 : Shape := ⟨2, ![256, 2048]⟩
abbrev S256x4x512 : Shape := ⟨3, ![256, 4, 512]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x512x4096 : Shape := ⟨3, ![4, 512, 4096]⟩
abbrev S4x512x256 : Shape := ⟨3, ![4, 512, 256]⟩
abbrev S4x256x512 : Shape := ⟨3, ![4, 256, 512]⟩
abbrev S4x4096x512 : Shape := ⟨3, ![4, 4096, 512]⟩

abbrev nBuf : Space → Nat
  | .hbm => 95
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x256x2048, .bf16⟩
  | .hbm, ⟨2, _⟩ => ⟨S4096x2048, .bf16⟩
  | .hbm, ⟨3, _⟩ => ⟨S4096x2048, .f32⟩
  | .hbm, ⟨4, _⟩ => ⟨S2x256x2048, .f32⟩
  | .hbm, ⟨5, _⟩ => ⟨S4096x2048, .f32⟩
  | .hbm, ⟨6, _⟩ => ⟨S4096x4x512, .f32⟩
  | .hbm, ⟨7, _⟩ => ⟨S1x256x2048, .f32⟩
  | .hbm, ⟨8, _⟩ => ⟨S256x2048, .f32⟩
  | .hbm, ⟨9, _⟩ => ⟨S256x4x512, .f32⟩
  | .hbm, ⟨10, _⟩ => ⟨S1x256x2048, .f32⟩
  | .hbm, ⟨11, _⟩ => ⟨S256x2048, .f32⟩
  | .hbm, ⟨12, _⟩ => ⟨S256x4x512, .f32⟩
  | .hbm, ⟨13, _⟩ => ⟨S4x4096x256, .f32⟩
  | .hbm, ⟨14, _⟩ => ⟨S_, .f32⟩
  | .hbm, ⟨15, _⟩ => ⟨S4x4096x256, .f32⟩
  | .hbm, ⟨16, _⟩ => ⟨S4x4096x256, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S4x4096x256, .f32⟩
  | .hbm, ⟨21, _⟩ => ⟨S4x4096x256, .i1⟩
  | .hbm, ⟨22, _⟩ => ⟨S4x4096x256, .f32⟩
  | .hbm, ⟨23, _⟩ => ⟨S_, .f32⟩
  | .hbm, ⟨24, _⟩ => ⟨S4x4096, .f32⟩
  | .hbm, ⟨25, _⟩ => ⟨S_, .f32⟩
  | .hbm, ⟨26, _⟩ => ⟨S4x4096, .f32⟩
  | .hbm, ⟨27, _⟩ => ⟨S4x4096, .f32⟩
  | .hbm, ⟨28, _⟩ => ⟨S_, .f32⟩
  | .hbm, ⟨29, _⟩ => ⟨S4x4096, .f32⟩
  | .hbm, ⟨30, _⟩ => ⟨S4x4096, .i1⟩
  | .hbm, ⟨31, _⟩ => ⟨S_, .f32⟩
  | .hbm, ⟨32, _⟩ => ⟨S4x4096, .f32⟩
  | .hbm, ⟨33, _⟩ => ⟨S4x4096, .i1⟩
  | .hbm, ⟨34, _⟩ => ⟨S_, .f32⟩
  | .hbm, ⟨35, _⟩ => ⟨S4x4096, .f32⟩
  | .hbm, ⟨36, _⟩ => ⟨S_, .f32⟩
  | .hbm, ⟨37, _⟩ => ⟨S4x4096, .f32⟩
  | .hbm, ⟨38, _⟩ => ⟨S_, .f32⟩
  | .hbm, ⟨39, _⟩ => ⟨S4x4096, .f32⟩
  | .hbm, ⟨40, _⟩ => ⟨S4x4096, .f32⟩
  | .hbm, ⟨41, _⟩ => ⟨S4x4096, .f32⟩
  | .hbm, ⟨42, _⟩ => ⟨S4x4096x1, .f32⟩
  | .hbm, ⟨43, _⟩ => ⟨S4x4096x256, .f32⟩
  | .hbm, ⟨44, _⟩ => ⟨S4x4096x256, .f32⟩
  | .hbm, ⟨45, _⟩ => ⟨S4x4096x256, .f32⟩
  | .hbm, ⟨46, _⟩ => ⟨S_, .f32⟩
  | .hbm, ⟨47, _⟩ => ⟨S4x4096, .f32⟩
  | .hbm, ⟨48, _⟩ => ⟨S4x4096x1, .f32⟩
  | .hbm, ⟨49, _⟩ => ⟨S4x4096x256, .f32⟩
  | .hbm, ⟨50, _⟩ => ⟨S4x4096x256, .f32⟩
  | .hbm, ⟨51, _⟩ => ⟨S4x4096x1, .f32⟩
  | .hbm, ⟨52, _⟩ => ⟨S_, .f32⟩
  | .hbm, ⟨53, _⟩ => ⟨S4x4096x1, .f32⟩
  | .hbm, ⟨54, _⟩ => ⟨S4x4096x1, .f32⟩
  | .hbm, ⟨55, _⟩ => ⟨S4x512x4096, .f32⟩
  | .hbm, ⟨56, _⟩ => ⟨S4096x4x512, .f32⟩
  | .hbm, ⟨57, _⟩ => ⟨S4096x2048, .f32⟩
  | .hbm, ⟨58, _⟩ => ⟨S4096x4x512, .f32⟩
  | .hbm, ⟨59, _⟩ => ⟨S4x512x4096, .f32⟩
  | .hbm, ⟨60, _⟩ => ⟨S4x4096x256, .f32⟩
  | .hbm, ⟨61, _⟩ => ⟨S4x512x256, .f32⟩
  | .hbm, ⟨62, _⟩ => ⟨S256x4x512, .f32⟩
  | .hbm, ⟨63, _⟩ => ⟨S4x4096x256, .f32⟩
  | .hbm, ⟨64, _⟩ => ⟨S4x4096x256, .f32⟩
  | .hbm, ⟨65, _⟩ => ⟨S4x4096x256, .f32⟩
  | .hbm, ⟨66, _⟩ => ⟨S_, .f32⟩
  | .hbm, ⟨67, _⟩ => ⟨S4x4096, .f32⟩
  | .hbm, ⟨68, _⟩ => ⟨S4x4096x1, .f32⟩
  | .hbm, ⟨69, _⟩ => ⟨S4x4096x1, .f32⟩
  | .hbm, ⟨70, _⟩ => ⟨S4x4096x256, .f32⟩
  | .hbm, ⟨71, _⟩ => ⟨S4x4096x256, .f32⟩
  | .hbm, ⟨72, _⟩ => ⟨S_, .f32⟩
  | .hbm, ⟨73, _⟩ => ⟨S4x4096, .f32⟩
  | .hbm, ⟨74, _⟩ => ⟨S4x4096x256, .f32⟩
  | .hbm, ⟨75, _⟩ => ⟨S4x4096x256, .f32⟩
  | .hbm, ⟨76, _⟩ => ⟨S4x4096x256, .f32⟩
  | .hbm, ⟨77, _⟩ => ⟨S_, .f32⟩
  | .hbm, ⟨78, _⟩ => ⟨S4x4096x256, .f32⟩
  | .hbm, ⟨79, _⟩ => ⟨S4x4096x256, .f32⟩
  | .hbm, ⟨80, _⟩ => ⟨S4x256x512, .f32⟩
  | .hbm, ⟨81, _⟩ => ⟨S256x4x512, .f32⟩
  | .hbm, ⟨82, _⟩ => ⟨S4x4096x512, .f32⟩
  | .hbm, ⟨83, _⟩ => ⟨S4096x4x512, .f32⟩
  | .hbm, ⟨84, _⟩ => ⟨S256x2048, .f32⟩
  | .hbm, ⟨85, _⟩ => ⟨S1x256x2048, .f32⟩
  | .hbm, ⟨86, _⟩ => ⟨S_, .f32⟩
  | .hbm, ⟨87, _⟩ => ⟨S2x256x2048, .f32⟩
  | .hbm, ⟨88, _⟩ => ⟨S256x2048, .f32⟩
  | .hbm, ⟨89, _⟩ => ⟨S1x256x2048, .f32⟩
  | .hbm, ⟨90, _⟩ => ⟨S_, .f32⟩
  | .hbm, ⟨91, _⟩ => ⟨S2x256x2048, .f32⟩
  | .hbm, ⟨92, _⟩ => ⟨S2x256x2048, .f32⟩
  | .hbm, ⟨93, _⟩ => ⟨S4096x2048, .f32⟩
  | .hbm, ⟨94, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_8 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_9 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_10 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_13 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_14 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩

abbrev nD : Nat := 1
abbrev τ : Topo := Topo.v7x

variable {F : FTy → Type} [FloatOps F]
-- ==== FfnKernel.lean ====
abbrev S4096x2048 : Shape := ⟨2, ![4096, 2048]⟩
abbrev S1x2048x11264 : Shape := ⟨3, ![1, 2048, 11264]⟩
abbrev S1x5632x2048 : Shape := ⟨3, ![1, 5632, 2048]⟩
abbrev S2x4096x5632 : Shape := ⟨3, ![2, 4096, 5632]⟩
abbrev S4096x5632 : Shape := ⟨2, ![4096, 5632]⟩
abbrev S1024x2048 : Shape := ⟨2, ![1024, 2048]⟩
abbrev S1x2048x512 : Shape := ⟨3, ![1, 2048, 512]⟩
abbrev S2x1024x512 : Shape := ⟨3, ![2, 1024, 512]⟩
abbrev S1024x512 : Shape := ⟨2, ![1024, 512]⟩
abbrev S2048x512 : Shape := ⟨2, ![2048, 512]⟩
abbrev S1x1024x512 : Shape := ⟨3, ![1, 1024, 512]⟩
abbrev S5632x2048 : Shape := ⟨2, ![5632, 2048]⟩
abbrev S4096x512 : Shape := ⟨2, ![4096, 512]⟩
abbrev S4096x1024 : Shape := ⟨2, ![4096, 1024]⟩
abbrev S512x1024 : Shape := ⟨2, ![512, 1024]⟩
abbrev S1x512x2048 : Shape := ⟨3, ![1, 512, 2048]⟩
abbrev S512x2048 : Shape := ⟨2, ![512, 2048]⟩
abbrev S2048x11264 : Shape := ⟨2, ![2048, 11264]⟩
abbrev S1x4096x512 : Shape := ⟨3, ![1, 4096, 512]⟩
abbrev S512x512 : Shape := ⟨2, ![512, 512]⟩

abbrev nBuf : Space → Nat
  | .hbm => 9
  | .vmem => 30
  | .smem => 0
  | _ => 0

abbrev bufTy : (tb : Table) → Fin (tcTables nBuf tb) → BufTy
  | .hbm, ⟨0, _⟩ => ⟨S4096x2048, .bf16⟩
  | .hbm, ⟨1, _⟩ => ⟨S1x2048x11264, .bf16⟩
  | .hbm, ⟨2, _⟩ => ⟨S1x5632x2048, .bf16⟩
  | .hbm, ⟨3, _⟩ => ⟨S4096x2048, .bf16⟩
  | .hbm, ⟨4, _⟩ => ⟨S2x4096x5632, .bf16⟩
  | .hbm, ⟨5, _⟩ => ⟨S4096x5632, .bf16⟩
  | .hbm, ⟨6, _⟩ => ⟨S5632x2048, .bf16⟩
  | .hbm, ⟨7, _⟩ => ⟨S2x4096x5632, .bf16⟩
  | .hbm, ⟨8, _⟩ => ⟨S2048x11264, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S2x1024x512, .bf16⟩
  | .local _ .vmem, ⟨7, _⟩ => ⟨S2x1024x512, .bf16⟩
  | .local _ .vmem, ⟨8, _⟩ => ⟨S1024x512, .bf16⟩
  | .local _ .vmem, ⟨9, _⟩ => ⟨S1024x512, .bf16⟩
  | .local _ .vmem, ⟨10, _⟩ => ⟨S4096x512, .bf16⟩
  | .local _ .vmem, ⟨11, _⟩ => ⟨S4096x512, .bf16⟩
  | .local _ .vmem, ⟨12, _⟩ => ⟨S4096x1024, .bf16⟩
  | .local _ .vmem, ⟨13, _⟩ => ⟨S4096x1024, .bf16⟩
  | .local _ .vmem, ⟨14, _⟩ => ⟨S512x1024, .bf16⟩
  | .local _ .vmem, ⟨15, _⟩ => ⟨S512x1024, .bf16⟩
  | .local _ .vmem, ⟨16, _⟩ => ⟨S1024x2048, .bf16⟩
  | .local _ .vmem, ⟨17, _⟩ => ⟨S1024x2048, .bf16⟩
  | .local _ .vmem, ⟨18, _⟩ => ⟨S1x512x2048, .bf16⟩
  | .local _ .vmem, ⟨19, _⟩ => ⟨S1x512x2048, .bf16⟩
  | .local _ .vmem, ⟨20, _⟩ => ⟨S2x1024x512, .bf16⟩
  | .local _ .vmem, ⟨21, _⟩ => ⟨S2x1024x512, .bf16⟩
  | .local _ .vmem, ⟨22, _⟩ => ⟨S2x1024x512, .bf16⟩
  | .local _ .vmem, ⟨23, _⟩ => ⟨S2x1024x512, .bf16⟩
  | .local _ .vmem, ⟨24, _⟩ => ⟨S4096x512, .bf16⟩
  | .local _ .vmem, ⟨25, _⟩ => ⟨S4096x512, .bf16⟩
  | .local _ .vmem, ⟨26, _⟩ => ⟨S1x4096x512, .bf16⟩
  | .local _ .vmem, ⟨27, _⟩ => ⟨S1x4096x512, .bf16⟩
  | .local _ .vmem, ⟨28, _⟩ => ⟨S512x512, .bf16⟩
  | .local _ .vmem, ⟨29, _⟩ => ⟨S512x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![11, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S4096x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨2, ![4, 11], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x512x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2x1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S2x1024x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨3, ![4, 22, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1x4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S512x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== FfnReferenceIdeal.lean ====
abbrev S4096x2048 : Shape := ⟨2, ![4096, 2048]⟩
abbrev S1x2048x11264 : Shape := ⟨3, ![1, 2048, 11264]⟩
abbrev S1x5632x2048 : Shape := ⟨3, ![1, 5632, 2048]⟩
abbrev S2048x11264 : Shape := ⟨2, ![2048, 11264]⟩
abbrev S5632x2048 : Shape := ⟨2, ![5632, 2048]⟩
abbrev S4096x11264 : Shape := ⟨2, ![4096, 11264]⟩
abbrev S4096x5632 : Shape := ⟨2, ![4096, 5632]⟩
abbrev S_ : Shape := ⟨0, ![]⟩
abbrev S2048x5632 : Shape := ⟨2, ![2048, 5632]⟩
abbrev S11264x2048 : Shape := ⟨2, ![11264, 2048]⟩
abbrev S1x4096x5632 : Shape := ⟨3, ![1, 4096, 5632]⟩
abbrev S2x4096x5632 : Shape := ⟨3, ![2, 4096, 5632]⟩

abbrev nBuf : Space → Nat
  | .hbm => 49
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x2048x11264, .bf16⟩
  | .hbm, ⟨2, _⟩ => ⟨S1x5632x2048, .bf16⟩
  | .hbm, ⟨3, _⟩ => ⟨S4096x2048, .bf16⟩
  | .hbm, ⟨4, _⟩ => ⟨S4096x2048, .f32⟩
  | .hbm, ⟨5, _⟩ => ⟨S2048x11264, .bf16⟩
  | .hbm, ⟨6, _⟩ => ⟨S2048x11264, .f32⟩
  | .hbm, ⟨7, _⟩ => ⟨S5632x2048, .bf16⟩
  | .hbm, ⟨8, _⟩ => ⟨S5632x2048, .f32⟩
  | .hbm, ⟨9, _⟩ => ⟨S4096x2048, .f32⟩
  | .hbm, ⟨10, _⟩ => ⟨S4096x11264, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S_, .f32⟩
  | .hbm, ⟨19, _⟩ => ⟨S4096x5632, .f32⟩
  | .hbm, ⟨20, _⟩ => ⟨S4096x5632, .f32⟩
  | .hbm, ⟨21, _⟩ => ⟨S_, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x2048, .f32⟩
  | .hbm, ⟨28, _⟩ => ⟨S2048x5632, .f32⟩
  | .hbm, ⟨29, _⟩ => ⟨S5632x2048, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S4096x5632, .f32⟩
  | .hbm, ⟨37, _⟩ => ⟨S4096x11264, .f32⟩
  | .hbm, ⟨38, _⟩ => ⟨S11264x2048, .f32⟩
  | .hbm, ⟨39, _⟩ => ⟨S2048x11264, .f32⟩
  | .hbm, ⟨40, _⟩ => ⟨S4096x2048, .f32⟩
  | .hbm, ⟨41, _⟩ => ⟨S4096x5632, .f32⟩
  | .hbm, ⟨42, _⟩ => ⟨S4096x5632, .f32⟩
  | .hbm, ⟨43, _⟩ => ⟨S1x4096x5632, .f32⟩
  | .hbm, ⟨44, _⟩ => ⟨S1x4096x5632, .f32⟩
  | .hbm, ⟨45, _⟩ => ⟨S2x4096x5632, .f32⟩
  | .hbm, ⟨46, _⟩ => ⟨S2x4096x5632, .bf16⟩
  | .hbm, ⟨47, _⟩ => ⟨S2048x11264, .bf16⟩
  | .hbm, ⟨48, _⟩ => ⟨S5632x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_v9_2 : Ref sig .tc := ⟨.hbm, 20, rfl⟩
abbrev main_call0_cst_1 : Ref sig .tc := ⟨.hbm, 21, rfl⟩
abbrev main_call0_v6 : Ref sig .tc := ⟨.hbm, 22, rfl⟩
abbrev main_call0_v7 : Ref sig .tc := ⟨.hbm, 23, rfl⟩
abbrev main_v9_1 : Ref sig .tc := ⟨.hbm, 24, rfl⟩
abbrev main_v9_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩

abbrev nD : Nat := 1
abbrev τ : Topo := Topo.v7x

variable {F : FTy → Type} [FloatOps F]
-- ==== DhKernel.lean ====
abbrev S2x4096x5632 : Shape := ⟨3, ![2, 4096, 5632]⟩
abbrev S1x2048x11264 : Shape := ⟨3, ![1, 2048, 11264]⟩
abbrev S4096x2048 : Shape := ⟨2, ![4096, 2048]⟩
abbrev S1x1024x2816 : Shape := ⟨3, ![1, 1024, 2816]⟩
abbrev S1024x1024 : Shape := ⟨2, ![1024, 1024]⟩
abbrev S1024x2816 : Shape := ⟨2, ![1024, 2816]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x5632, .bf16⟩
  | .hbm, ⟨1, _⟩ => ⟨S1x2048x11264, .bf16⟩
  | .hbm, ⟨2, _⟩ => ⟨S4096x2048, .bf16⟩
  | .local _ .vmem, ⟨0, _⟩ => ⟨S1x1024x2816, .bf16⟩
  | .local _ .vmem, ⟨1, _⟩ => ⟨S1x1024x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_8 : BitVec 32 := 3#32
  let v13 : BitVec 1 := Scalar.cmpi .eq arg2 c3_i32_8
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhReferenceIdeal.lean ====
abbrev S2x4096x5632 : Shape := ⟨3, ![2, 4096, 5632]⟩
abbrev S1x2048x11264 : Shape := ⟨3, ![1, 2048, 11264]⟩
abbrev S1x4096x5632 : Shape := ⟨3, ![1, 4096, 5632]⟩
abbrev S4096x5632 : Shape := ⟨2, ![4096, 5632]⟩
abbrev S4096x11264 : Shape := ⟨2, ![4096, 11264]⟩
abbrev S2048x11264 : Shape := ⟨2, ![2048, 11264]⟩
abbrev S4096x2048 : Shape := ⟨2, ![4096, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2x4096x5632, .bf16⟩
  | .hbm, ⟨1, _⟩ => ⟨S1x2048x11264, .bf16⟩
  | .hbm, ⟨2, _⟩ => ⟨S1x4096x5632, .bf16⟩
  | .hbm, ⟨3, _⟩ => ⟨S4096x5632, .bf16⟩
  | .hbm, ⟨4, _⟩ => ⟨S1x4096x5632, .bf16⟩
  | .hbm, ⟨5, _⟩ => ⟨S4096x5632, .bf16⟩
  | .hbm, ⟨6, _⟩ => ⟨S4096x11264, .bf16⟩
  | .hbm, ⟨7, _⟩ => ⟨S4096x11264, .f32⟩
  | .hbm, ⟨8, _⟩ => ⟨S2048x11264, .bf16⟩
  | .hbm, ⟨9, _⟩ => ⟨S2048x11264, .f32⟩
  | .hbm, ⟨10, _⟩ => ⟨S4096x2048, .f32⟩
  | .hbm, ⟨11, _⟩ => ⟨S4096x2048, .bf16⟩
  | _, _ => ⟨S2x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== DownKernel.lean ====
abbrev S4096x5632 : Shape := ⟨2, ![4096, 5632]⟩
abbrev S1x5632x2048 : Shape := ⟨3, ![1, 5632, 2048]⟩
abbrev S4096x2048 : Shape := ⟨2, ![4096, 2048]⟩
abbrev S1024x2816 : Shape := ⟨2, ![1024, 2816]⟩
abbrev S1x2816x1024 : Shape := ⟨3, ![1, 2816, 1024]⟩
abbrev S1024x1024 : Shape := ⟨2, ![1024, 1024]⟩
abbrev S2816x1024 : Shape := ⟨2, ![2816, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S1x5632x2048, .bf16⟩
  | .hbm, ⟨2, _⟩ => ⟨S4096x2048, .bf16⟩
  | .local _ .vmem, ⟨0, _⟩ => ⟨S1024x2816, .bf16⟩
  | .local _ .vmem, ⟨1, _⟩ => ⟨S1024x2816, .bf16⟩
  | .local _ .vmem, ⟨2, _⟩ => ⟨S1x2816x1024, .bf16⟩
  | .local _ .vmem, ⟨3, _⟩ => ⟨S1x2816x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_7 : BitVec 32 := 1#32
  let v12 : BitVec 1 := Scalar.cmpi .eq arg2 c1_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S4096x5632 : Shape := ⟨2, ![4096, 5632]⟩
abbrev S1x5632x2048 : Shape := ⟨3, ![1, 5632, 2048]⟩
abbrev S5632x2048 : Shape := ⟨2, ![5632, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1x5632x2048, .bf16⟩
  | .hbm, ⟨2, _⟩ => ⟨S4096x5632, .f32⟩
  | .hbm, ⟨3, _⟩ => ⟨S5632x2048, .bf16⟩
  | .hbm, ⟨4, _⟩ => ⟨S5632x2048, .f32⟩
  | .hbm, ⟨5, _⟩ => ⟨S4096x2048, .f32⟩
  | .hbm, ⟨6, _⟩ => ⟨S4096x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Dh3Kernel.lean ====
abbrev S3x4096x2048 : Shape := ⟨3, ![3, 4096, 2048]⟩
abbrev S1x2048x6144 : Shape := ⟨3, ![1, 2048, 6144]⟩
abbrev S4096x2048 : Shape := ⟨2, ![4096, 2048]⟩
abbrev S1x1024x2048 : Shape := ⟨3, ![1, 1024, 2048]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S3x4096x2048, .bf16⟩
  | .hbm, ⟨1, _⟩ => ⟨S1x2048x6144, .bf16⟩
  | .hbm, ⟨2, _⟩ => ⟨S4096x2048, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S3x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32_8 : BitVec 32 := 2#32
  let v13 : BitVec 1 := Scalar.cmpi .eq arg2 c2_i32_8
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh3ReferenceIdeal.lean ====
abbrev S3x4096x2048 : Shape := ⟨3, ![3, 4096, 2048]⟩
abbrev S1x2048x6144 : Shape := ⟨3, ![1, 2048, 6144]⟩
abbrev S1x4096x2048 : Shape := ⟨3, ![1, 4096, 2048]⟩
abbrev S4096x2048 : Shape := ⟨2, ![4096, 2048]⟩
abbrev S4096x6144 : Shape := ⟨2, ![4096, 6144]⟩
abbrev S2048x6144 : Shape := ⟨2, ![2048, 6144]⟩

abbrev nBuf : Space → Nat
  | .hbm => 14
  | .vmem => 0
  | .smem => 0
  | _ => 0

abbrev bufTy : (tb : Table) → Fin (tcTables nBuf tb) → BufTy
  | .hbm, ⟨0, _⟩ => ⟨S3x4096x2048, .bf16⟩
  | .hbm, ⟨1, _⟩ => ⟨S1x2048x6144, .bf16⟩
  | .hbm, ⟨2, _⟩ => ⟨S1x4096x2048, .bf16⟩
  | .hbm, ⟨3, _⟩ => ⟨S4096x2048, .bf16⟩
  | .hbm, ⟨4, _⟩ => ⟨S1x4096x2048, .bf16⟩
  | .hbm, ⟨5, _⟩ => ⟨S4096x2048, .bf16⟩
  | .hbm, ⟨6, _⟩ => ⟨S1x4096x2048, .bf16⟩
  | .hbm, ⟨7, _⟩ => ⟨S4096x2048, .bf16⟩
  | .hbm, ⟨8, _⟩ => ⟨S4096x6144, .bf16⟩
  | .hbm, ⟨9, _⟩ => ⟨S4096x6144, .f32⟩
  | .hbm, ⟨10, _⟩ => ⟨S2048x6144, .bf16⟩
  | .hbm, ⟨11, _⟩ => ⟨S2048x6144, .f32⟩
  | .hbm, ⟨12, _⟩ => ⟨S4096x2048, .f32⟩
  | .hbm, ⟨13, _⟩ => ⟨S4096x2048, .bf16⟩
  | _, _ => ⟨S3x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Dh2Kernel.lean ====
abbrev S2x4096x2048 : Shape := ⟨3, ![2, 4096, 2048]⟩
abbrev S1x2048x4096 : Shape := ⟨3, ![1, 2048, 4096]⟩
abbrev S4096x2048 : Shape := ⟨2, ![4096, 2048]⟩
abbrev S1x1024x2048 : Shape := ⟨3, ![1, 1024, 2048]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x2048, .bf16⟩
  | .hbm, ⟨1, _⟩ => ⟨S1x2048x4096, .bf16⟩
  | .hbm, ⟨2, _⟩ => ⟨S4096x2048, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_8 : BitVec 32 := 1#32
  let v13 : BitVec 1 := Scalar.cmpi .eq arg2 c1_i32_8
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh2ReferenceIdeal.lean ====
abbrev S2x4096x2048 : Shape := ⟨3, ![2, 4096, 2048]⟩
abbrev S1x2048x4096 : Shape := ⟨3, ![1, 2048, 4096]⟩
abbrev S1x4096x2048 : Shape := ⟨3, ![1, 4096, 2048]⟩
abbrev S4096x2048 : Shape := ⟨2, ![4096, 2048]⟩
abbrev S4096x4096 : Shape := ⟨2, ![4096, 4096]⟩
abbrev S2048x4096 : Shape := ⟨2, ![2048, 4096]⟩

abbrev nBuf : Space → Nat
  | .hbm => 12
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S1x2048x4096, .bf16⟩
  | .hbm, ⟨2, _⟩ => ⟨S1x4096x2048, .bf16⟩
  | .hbm, ⟨3, _⟩ => ⟨S4096x2048, .bf16⟩
  | .hbm, ⟨4, _⟩ => ⟨S1x4096x2048, .bf16⟩
  | .hbm, ⟨5, _⟩ => ⟨S4096x2048, .bf16⟩
  | .hbm, ⟨6, _⟩ => ⟨S4096x4096, .bf16⟩
  | .hbm, ⟨7, _⟩ => ⟨S4096x4096, .f32⟩
  | .hbm, ⟨8, _⟩ => ⟨S2048x4096, .bf16⟩
  | .hbm, ⟨9, _⟩ => ⟨S2048x4096, .f32⟩
  | .hbm, ⟨10, _⟩ => ⟨S4096x2048, .f32⟩
  | .hbm, ⟨11, _⟩ => ⟨S4096x2048, .bf16⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== DmemKernel.lean ====
abbrev S2x256x2048 : Shape := ⟨3, ![2, 256, 2048]⟩
abbrev S1x2048x4096 : Shape := ⟨3, ![1, 2048, 4096]⟩
abbrev S256x2048 : Shape := ⟨2, ![256, 2048]⟩
abbrev S1x256x2048 : Shape := ⟨3, ![1, 256, 2048]⟩
abbrev S1x1024x2048 : Shape := ⟨3, ![1, 1024, 2048]⟩
abbrev S256x1024 : Shape := ⟨2, ![256, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S2x256x2048, .bf16⟩
  | .hbm, ⟨1, _⟩ => ⟨S1x2048x4096, .bf16⟩
  | .hbm, ⟨2, _⟩ => ⟨S256x2048, .f32⟩
  | .local _ .vmem, ⟨0, _⟩ => ⟨S1x256x2048, .bf16⟩
  | .local _ .vmem, ⟨1, _⟩ => ⟨S1x256x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S2x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32_8 : BitVec 32 := 1#32
  let v13 : BitVec 1 := Scalar.cmpi .eq arg2 c1_i32_8
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmemReferenceIdeal.lean ====
abbrev S2x256x2048 : Shape := ⟨3, ![2, 256, 2048]⟩
abbrev S1x2048x4096 : Shape := ⟨3, ![1, 2048, 4096]⟩
abbrev S1x256x2048 : Shape := ⟨3, ![1, 256, 2048]⟩
abbrev S256x2048 : Shape := ⟨2, ![256, 2048]⟩
abbrev S256x4096 : Shape := ⟨2, ![256, 4096]⟩
abbrev S2048x4096 : Shape := ⟨2, ![2048, 4096]⟩

abbrev nBuf : Space → Nat
  | .hbm => 11
  | .vmem => 0
  | .smem => 0
  | _ => 0

abbrev bufTy : (tb : Table) → Fin (tcTables nBuf tb) → BufTy
  | .hbm, ⟨0, _⟩ => ⟨S2x256x2048, .bf16⟩
  | .hbm, ⟨1, _⟩ => ⟨S1x2048x4096, .bf16⟩
  | .hbm, ⟨2, _⟩ => ⟨S1x256x2048, .bf16⟩
  | .hbm, ⟨3, _⟩ => ⟨S256x2048, .bf16⟩
  | .hbm, ⟨4, _⟩ => ⟨S1x256x2048, .bf16⟩
  | .hbm, ⟨5, _⟩ => ⟨S256x2048, .bf16⟩
  | .hbm, ⟨6, _⟩ => ⟨S256x4096, .bf16⟩
  | .hbm, ⟨7, _⟩ => ⟨S256x4096, .f32⟩
  | .hbm, ⟨8, _⟩ => ⟨S2048x4096, .bf16⟩
  | .hbm, ⟨9, _⟩ => ⟨S2048x4096, .f32⟩
  | .hbm, ⟨10, _⟩ => ⟨S256x2048, .f32⟩
  | _, _ => ⟨S2x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== IoKernel.lean ====
abbrev S4096x2048 : Shape := ⟨2, ![4096, 2048]⟩
abbrev S1x2048x4096 : Shape := ⟨3, ![1, 2048, 4096]⟩
abbrev S1x2048x2048 : Shape := ⟨3, ![1, 2048, 2048]⟩
abbrev S2x4096x2048 : Shape := ⟨3, ![2, 4096, 2048]⟩
abbrev S1024x2048 : Shape := ⟨2, ![1024, 2048]⟩
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩
abbrev S2048x2048 : Shape := ⟨2, ![2048, 2048]⟩
abbrev S4096x512 : Shape := ⟨2, ![4096, 512]⟩
abbrev S4096x1024 : Shape := ⟨2, ![4096, 1024]⟩
abbrev S512x1024 : Shape := ⟨2, ![512, 1024]⟩
abbrev S1x1024x2048 : Shape := ⟨3, ![1, 1024, 2048]⟩
abbrev S2048x4096 : Shape := ⟨2, ![2048, 4096]⟩
abbrev S1x4096x1024 : Shape := ⟨3, ![1, 4096, 1024]⟩

abbrev nBuf : Space → Nat
  | .hbm => 11
  | .vmem => 30
  | .smem => 0
  | _ => 0

abbrev bufTy : (tb : Table) → Fin (tcTables nBuf tb) → BufTy
  | .hbm, ⟨0, _⟩ => ⟨S4096x2048, .bf16⟩
  | .hbm, ⟨1, _⟩ => ⟨S1x2048x4096, .bf16⟩
  | .hbm, ⟨2, _⟩ => ⟨S4096x2048, .bf16⟩
  | .hbm, ⟨3, _⟩ => ⟨S1x2048x2048, .bf16⟩
  | .hbm, ⟨4, _⟩ => ⟨S2x4096x2048, .bf16⟩
  | .hbm, ⟨5, _⟩ => ⟨S4096x2048, .bf16⟩
  | .hbm, ⟨6, _⟩ => ⟨S2x4096x2048, .bf16⟩
  | .hbm, ⟨7, _⟩ => ⟨S4096x2048, .bf16⟩
  | .hbm, ⟨8, _⟩ => ⟨S2048x2048, .bf16⟩
  | .hbm, ⟨9, _⟩ => ⟨S4096x2048, .f32⟩
  | .hbm, ⟨10, _⟩ => ⟨S2048x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1024x1024, .bf16⟩
  | .local _ .vmem, ⟨11, _⟩ => ⟨S1024x1024, .bf16⟩
  | .local _ .vmem, ⟨12, _⟩ => ⟨S4096x512, .bf16⟩
  | .local _ .vmem, ⟨13, _⟩ => ⟨S4096x512, .bf16⟩
  | .local _ .vmem, ⟨14, _⟩ => ⟨S4096x1024, .bf16⟩
  | .local _ .vmem, ⟨15, _⟩ => ⟨S4096x1024, .bf16⟩
  | .local _ .vmem, ⟨16, _⟩ => ⟨S512x1024, .bf16⟩
  | .local _ .vmem, ⟨17, _⟩ => ⟨S512x1024, .bf16⟩
  | .local _ .vmem, ⟨18, _⟩ => ⟨S1024x2048, .bf16⟩
  | .local _ .vmem, ⟨19, _⟩ => ⟨S1024x2048, .bf16⟩
  | .local _ .vmem, ⟨20, _⟩ => ⟨S1x1024x2048, .bf16⟩
  | .local _ .vmem, ⟨21, _⟩ => ⟨S1x1024x2048, .bf16⟩
  | .local _ .vmem, ⟨22, _⟩ => ⟨S1024x1024, .f32⟩
  | .local _ .vmem, ⟨23, _⟩ => ⟨S1024x1024, .f32⟩
  | .local _ .vmem, ⟨24, _⟩ => ⟨S4096x512, .bf16⟩
  | .local _ .vmem, ⟨25, _⟩ => ⟨S4096x512, .bf16⟩
  | .local _ .vmem, ⟨26, _⟩ => ⟨S1x4096x1024, .bf16⟩
  | .local _ .vmem, ⟨27, _⟩ => ⟨S1x4096x1024, .bf16⟩
  | .local _ .vmem, ⟨28, _⟩ => ⟨S512x1024, .bf16⟩
  | .local _ .vmem, ⟨29, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S4096x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1x1024x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S4096x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1x4096x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S512x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== IoReferenceIdeal.lean ====
abbrev S4096x2048 : Shape := ⟨2, ![4096, 2048]⟩
abbrev S1x2048x4096 : Shape := ⟨3, ![1, 2048, 4096]⟩
abbrev S1x2048x2048 : Shape := ⟨3, ![1, 2048, 2048]⟩
abbrev S2x4096x2048 : Shape := ⟨3, ![2, 4096, 2048]⟩
abbrev S2048x4096 : Shape := ⟨2, ![2048, 4096]⟩
abbrev S2048x2048 : Shape := ⟨2, ![2048, 2048]⟩
abbrev S4096x4096 : Shape := ⟨2, ![4096, 4096]⟩
abbrev S1x4096x2048 : Shape := ⟨3, ![1, 4096, 2048]⟩

abbrev nBuf : Space → Nat
  | .hbm => 36
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x2048x4096, .bf16⟩
  | .hbm, ⟨2, _⟩ => ⟨S4096x2048, .bf16⟩
  | .hbm, ⟨3, _⟩ => ⟨S1x2048x2048, .bf16⟩
  | .hbm, ⟨4, _⟩ => ⟨S2x4096x2048, .bf16⟩
  | .hbm, ⟨5, _⟩ => ⟨S4096x2048, .bf16⟩
  | .hbm, ⟨6, _⟩ => ⟨S4096x2048, .f32⟩
  | .hbm, ⟨7, _⟩ => ⟨S2048x4096, .bf16⟩
  | .hbm, ⟨8, _⟩ => ⟨S2048x4096, .f32⟩
  | .hbm, ⟨9, _⟩ => ⟨S4096x2048, .f32⟩
  | .hbm, ⟨10, _⟩ => ⟨S2048x2048, .bf16⟩
  | .hbm, ⟨11, _⟩ => ⟨S2048x2048, .f32⟩
  | .hbm, ⟨12, _⟩ => ⟨S4096x2048, .f32⟩
  | .hbm, ⟨13, _⟩ => ⟨S4096x4096, .f32⟩
  | .hbm, ⟨14, _⟩ => ⟨S4096x2048, .f32⟩
  | .hbm, ⟨15, _⟩ => ⟨S2048x2048, .f32⟩
  | .hbm, ⟨16, _⟩ => ⟨S2048x2048, .f32⟩
  | .hbm, ⟨17, _⟩ => ⟨S4096x2048, .f32⟩
  | .hbm, ⟨18, _⟩ => ⟨S1x4096x2048, .bf16⟩
  | .hbm, ⟨19, _⟩ => ⟨S4096x2048, .bf16⟩
  | .hbm, ⟨20, _⟩ => ⟨S1x4096x2048, .bf16⟩
  | .hbm, ⟨21, _⟩ => ⟨S4096x2048, .bf16⟩
  | .hbm, ⟨22, _⟩ => ⟨S4096x4096, .bf16⟩
  | .hbm, ⟨23, _⟩ => ⟨S4096x4096, .f32⟩
  | .hbm, ⟨24, _⟩ => ⟨S4096x2048, .f32⟩
  | .hbm, ⟨25, _⟩ => ⟨S2048x4096, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S1x4096x2048, .f32⟩
  | .hbm, ⟨30, _⟩ => ⟨S1x4096x2048, .f32⟩
  | .hbm, ⟨31, _⟩ => ⟨S2x4096x2048, .f32⟩
  | .hbm, ⟨32, _⟩ => ⟨S2x4096x2048, .bf16⟩
  | .hbm, ⟨33, _⟩ => ⟨S4096x2048, .bf16⟩
  | .hbm, ⟨34, _⟩ => ⟨S2048x2048, .bf16⟩
  | .hbm, ⟨35, _⟩ => ⟨S2048x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩

abbrev nD : Nat := 1
abbrev τ : Topo := Topo.v7x

variable {F : FTy → Type} [FloatOps F]
-- ==== AKernel.lean ====
abbrev S4096x2048 : Shape := ⟨2, ![4096, 2048]⟩
abbrev S1x2048x6144 : Shape := ⟨3, ![1, 2048, 6144]⟩
abbrev S3x2048 : Shape := ⟨2, ![3, 2048]⟩
abbrev S1x2048x2048 : Shape := ⟨3, ![1, 2048, 2048]⟩
abbrev S3x4096x2048 : Shape := ⟨3, ![3, 4096, 2048]⟩
abbrev S1024x2048 : Shape := ⟨2, ![1024, 2048]⟩
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩
abbrev S3x256x256 : Shape := ⟨3, ![3, 256, 256]⟩
abbrev S3x8x256 : Shape := ⟨3, ![3, 8, 256]⟩
abbrev S3x256 : Shape := ⟨2, ![3, 256]⟩
abbrev S256x256 : Shape := ⟨2, ![256, 256]⟩
abbrev S1x256x256 : Shape := ⟨3, ![1, 256, 256]⟩
abbrev S1x8x256 : Shape := ⟨3, ![1, 8, 256]⟩
abbrev S8x256 : Shape := ⟨2, ![8, 256]⟩
abbrev S264x256 : Shape := ⟨2, ![264, 256]⟩
abbrev S1x256 : Shape := ⟨2, ![1, 256]⟩
abbrev S2048x2048 : Shape := ⟨2, ![2048, 2048]⟩
abbrev S4096x512 : Shape := ⟨2, ![4096, 512]⟩
abbrev S4096x1024 : Shape := ⟨2, ![4096, 1024]⟩
abbrev S512x1024 : Shape := ⟨2, ![512, 1024]⟩
abbrev S1x1024x2048 : Shape := ⟨3, ![1, 1024, 2048]⟩
abbrev S256 : Shape := ⟨1, ![256]⟩
abbrev S2048x6144 : Shape := ⟨2, ![2048, 6144]⟩
abbrev S1x4096x1024 : Shape := ⟨3, ![1, 4096, 1024]⟩

abbrev nBuf : Space → Nat
  | .hbm => 13
  | .vmem => 54
  | .smem => 0
  | _ => 0

abbrev bufTy : (tb : Table) → Fin (tcTables nBuf tb) → BufTy
  | .hbm, ⟨0, _⟩ => ⟨S4096x2048, .bf16⟩
  | .hbm, ⟨1, _⟩ => ⟨S1x2048x6144, .bf16⟩
  | .hbm, ⟨2, _⟩ => ⟨S3x2048, .f32⟩
  | .hbm, ⟨3, _⟩ => ⟨S1x2048x2048, .bf16⟩
  | .hbm, ⟨4, _⟩ => ⟨S4096x2048, .bf16⟩
  | .hbm, ⟨5, _⟩ => ⟨S3x4096x2048, .bf16⟩
  | .hbm, ⟨6, _⟩ => ⟨S4096x2048, .bf16⟩
  | .hbm, ⟨7, _⟩ => ⟨S4096x2048, .bf16⟩
  | .hbm, ⟨8, _⟩ => ⟨S2048x2048, .bf16⟩
  | .hbm, ⟨9, _⟩ => ⟨S4096x2048, .f32⟩
  | .hbm, ⟨10, _⟩ => ⟨S3x4096x2048, .bf16⟩
  | .hbm, ⟨11, _⟩ => ⟨S3x2048, .f32⟩
  | .hbm, ⟨12, _⟩ => ⟨S2048x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S3x256x256, .bf16⟩
  | .local _ .vmem, ⟨7, _⟩ => ⟨S3x256x256, .bf16⟩
  | .local _ .vmem, ⟨8, _⟩ => ⟨S3x8x256, .bf16⟩
  | .local _ .vmem, ⟨9, _⟩ => ⟨S3x8x256, .bf16⟩
  | .local _ .vmem, ⟨10, _⟩ => ⟨S3x256, .f32⟩
  | .local _ .vmem, ⟨11, _⟩ => ⟨S3x256, .f32⟩
  | .local _ .vmem, ⟨12, _⟩ => ⟨S256x256, .bf16⟩
  | .local _ .vmem, ⟨13, _⟩ => ⟨S256x256, .bf16⟩
  | .local _ .vmem, ⟨14, _⟩ => ⟨S1024x2048, .bf16⟩
  | .local _ .vmem, ⟨15, _⟩ => ⟨S1024x2048, .bf16⟩
  | .local _ .vmem, ⟨16, _⟩ => ⟨S1x2048x1024, .bf16⟩
  | .local _ .vmem, ⟨17, _⟩ => ⟨S1x2048x1024, .bf16⟩
  | .local _ .vmem, ⟨18, _⟩ => ⟨S1024x1024, .bf16⟩
  | .local _ .vmem, ⟨19, _⟩ => ⟨S1024x1024, .bf16⟩
  | .local _ .vmem, ⟨20, _⟩ => ⟨S4096x512, .bf16⟩
  | .local _ .vmem, ⟨21, _⟩ => ⟨S4096x512, .bf16⟩
  | .local _ .vmem, ⟨22, _⟩ => ⟨S4096x1024, .bf16⟩
  | .local _ .vmem, ⟨23, _⟩ => ⟨S4096x1024, .bf16⟩
  | .local _ .vmem, ⟨24, _⟩ => ⟨S512x1024, .bf16⟩
  | .local _ .vmem, ⟨25, _⟩ => ⟨S512x1024, .bf16⟩
  | .local _ .vmem, ⟨26, _⟩ => ⟨S1024x2048, .bf16⟩
  | .local _ .vmem, ⟨27, _⟩ => ⟨S1024x2048, .bf16⟩
  | .local _ .vmem, ⟨28, _⟩ => ⟨S1x1024x2048, .bf16⟩
  | .local _ .vmem, ⟨29, _⟩ => ⟨S1x1024x2048, .bf16⟩
  | .local _ .vmem, ⟨30, _⟩ => ⟨S1024x1024, .f32⟩
  | .local _ .vmem, ⟨31, _⟩ => ⟨S1024x1024, .f32⟩
  | .local _ .vmem, ⟨32, _⟩ => ⟨S3x256x256, .bf16⟩
  | .local _ .vmem, ⟨33, _⟩ => ⟨S3x256x256, .bf16⟩
  | .local _ .vmem, ⟨34, _⟩ => ⟨S3x8x256, .bf16⟩
  | .local _ .vmem, ⟨35, _⟩ => ⟨S3x8x256, .bf16⟩
  | .local _ .vmem, ⟨36, _⟩ => ⟨S3x8x256, .bf16⟩
  | .local _ .vmem, ⟨37, _⟩ => ⟨S3x8x256, .bf16⟩
  | .local _ .vmem, ⟨38, _⟩ => ⟨S256x256, .f32⟩
  | .local _ .vmem, ⟨39, _⟩ => ⟨S256x256, .f32⟩
  | .local _ .vmem, ⟨40, _⟩ => ⟨S8x256, .f32⟩
  | .local _ .vmem, ⟨41, _⟩ => ⟨S8x256, .f32⟩
  | .local _ .vmem, ⟨42, _⟩ => ⟨S3x256, .f32⟩
  | .local _ .vmem, ⟨43, _⟩ => ⟨S3x256, .f32⟩
  | .local _ .vmem, ⟨44, _⟩ => ⟨S3x256x256, .bf16⟩
  | .local _ .vmem, ⟨45, _⟩ => ⟨S3x256x256, .bf16⟩
  | .local _ .vmem, ⟨46, _⟩ => ⟨S3x256, .f32⟩
  | .local _ .vmem, ⟨47, _⟩ => ⟨S3x256, .f32⟩
  | .local _ .vmem, ⟨48, _⟩ => ⟨S4096x512, .bf16⟩
  | .local _ .vmem, ⟨49, _⟩ => ⟨S4096x512, .bf16⟩
  | .local _ .vmem, ⟨50, _⟩ => ⟨S1x4096x1024, .bf16⟩
  | .local _ .vmem, ⟨51, _⟩ => ⟨S1x4096x1024, .bf16⟩
  | .local _ .vmem, ⟨52, _⟩ => ⟨S512x1024, .bf16⟩
  | .local _ .vmem, ⟨53, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc5_stg3_0 : Ref sig .tc := ⟨.vmem, 38, rfl⟩
abbrev cc5_stg3_1 : Ref sig .tc := ⟨.vmem, 39, rfl⟩
abbrev cc5_stg4_0 : Ref sig .tc := ⟨.vmem, 40, rfl⟩
abbrev cc5_stg4_1 : Ref sig .tc := ⟨.vmem, 41, rfl⟩
abbrev cc5_stg5_0 : Ref sig .tc := ⟨.vmem, 42, rfl⟩
abbrev cc5_stg5_1 : Ref sig .tc := ⟨.vmem, 43, rfl⟩
abbrev cc5_stg6_0 : Ref sig .tc := ⟨.vmem, 44, rfl⟩
abbrev cc5_stg6_1 : Ref sig .tc := ⟨.vmem, 45, rfl⟩
abbrev cc5_stg7_0 : Ref sig .tc := ⟨.vmem, 46, rfl⟩
abbrev cc5_stg7_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg2_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37
abbrev cc5_sem3_0 : DmaSem sig := 38
abbrev cc5_sem3_1 : DmaSem sig := 39
abbrev cc5_sem4_0 : DmaSem sig := 40
abbrev cc5_sem4_1 : DmaSem sig := 41
abbrev cc5_sem5_0 : DmaSem sig := 42
abbrev cc5_sem5_1 : DmaSem sig := 43
abbrev cc5_sem6_0 : DmaSem sig := 44
abbrev cc5_sem6_1 : DmaSem sig := 45
abbrev cc5_sem7_0 : DmaSem sig := 46
abbrev cc5_sem7_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem2_1 : DmaSem sig := 53

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨2, ![16, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_1 (i : grid1.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S3x256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S3x8x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S3x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S256x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨3, ![4, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1x1024x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨2, ![8, 16], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc5_transform_1 (i : grid5.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc5_transform_2 (i : grid5.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![c0_i32.toNat, v2.toNat, arg0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_4 (i : grid5.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  ![v2.toNat, arg0.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_6 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc5_transform_7 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage5_0 : Fin 2 → Memref sig .tc .vmem S3x256x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S3x8x256 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S3x8x256 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S256x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev stage5_4 : Fin 2 → Memref sig .tc .vmem S8x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev stage5_5 : Fin 2 → Memref sig .tc .vmem S3x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, false]

abbrev stage5_6 : Fin 2 → Memref sig .tc .vmem S3x256x256 .bf16 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, true]

abbrev stage5_7 : Fin 2 → Memref sig .tc .vmem S3x256 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true, false]

abbrev grid6 : Pipeline.Grid := ⟨3, ![4, 6, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S4096x512 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S1x4096x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S512x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]
-- ==== AReferenceIdeal.lean ====
abbrev S4096x2048 : Shape := ⟨2, ![4096, 2048]⟩
abbrev S1x2048x6144 : Shape := ⟨3, ![1, 2048, 6144]⟩
abbrev S3x2048 : Shape := ⟨2, ![3, 2048]⟩
abbrev S1x2048x2048 : Shape := ⟨3, ![1, 2048, 2048]⟩
abbrev S2048x6144 : Shape := ⟨2, ![2048, 6144]⟩
abbrev S2048x2048 : Shape := ⟨2, ![2048, 2048]⟩
abbrev S4096x6144 : Shape := ⟨2, ![4096, 6144]⟩
abbrev S_ : Shape := ⟨0, ![]⟩
abbrev S2x2048 : Shape := ⟨2, ![2, 2048]⟩
abbrev S4098x2048 : Shape := ⟨2, ![4098, 2048]⟩
abbrev S1x2048 : Shape := ⟨2, ![1, 2048]⟩
abbrev S2048 : Shape := ⟨1, ![2048]⟩
abbrev S6144x2048 : Shape := ⟨2, ![6144, 2048]⟩
abbrev S1x4096x2048 : Shape := ⟨3, ![1, 4096, 2048]⟩
abbrev S3x4096x2048 : Shape := ⟨3, ![3, 4096, 2048]⟩

abbrev nBuf : Space → Nat
  | .hbm => 113
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x2048x6144, .bf16⟩
  | .hbm, ⟨2, _⟩ => ⟨S3x2048, .f32⟩
  | .hbm, ⟨3, _⟩ => ⟨S1x2048x2048, .bf16⟩
  | .hbm, ⟨4, _⟩ => ⟨S4096x2048, .bf16⟩
  | .hbm, ⟨5, _⟩ => ⟨S4096x2048, .f32⟩
  | .hbm, ⟨6, _⟩ => ⟨S2048x6144, .bf16⟩
  | .hbm, ⟨7, _⟩ => ⟨S2048x6144, .f32⟩
  | .hbm, ⟨8, _⟩ => ⟨S2048x2048, .bf16⟩
  | .hbm, ⟨9, _⟩ => ⟨S2048x2048, .f32⟩
  | .hbm, ⟨10, _⟩ => ⟨S4096x2048, .f32⟩
  | .hbm, ⟨11, _⟩ => ⟨S4096x6144, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S2x2048, .f32⟩
  | .hbm, ⟨18, _⟩ => ⟨S4098x2048, .f32⟩
  | .hbm, ⟨19, _⟩ => ⟨S_, .f32⟩
  | .hbm, ⟨20, _⟩ => ⟨S2x2048, .f32⟩
  | .hbm, ⟨21, _⟩ => ⟨S1x2048, .f32⟩
  | .hbm, ⟨22, _⟩ => ⟨S2048, .f32⟩
  | .hbm, ⟨23, _⟩ => ⟨S4096x2048, .f32⟩
  | .hbm, ⟨24, _⟩ => ⟨S1x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S1x2048, .f32⟩
  | .hbm, ⟨31, _⟩ => ⟨S2048, .f32⟩
  | .hbm, ⟨32, _⟩ => ⟨S4096x2048, .f32⟩
  | .hbm, ⟨33, _⟩ => ⟨S1x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S1x2048, .f32⟩
  | .hbm, ⟨38, _⟩ => ⟨S2048, .f32⟩
  | .hbm, ⟨39, _⟩ => ⟨S4096x2048, .f32⟩
  | .hbm, ⟨40, _⟩ => ⟨S1x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S2048x2048, .f32⟩
  | .hbm, ⟨47, _⟩ => ⟨S2048x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S_, .f32⟩
  | .hbm, ⟨55, _⟩ => ⟨S2048, .f32⟩
  | .hbm, ⟨56, _⟩ => ⟨S1x2048, .f32⟩
  | .hbm, ⟨57, _⟩ => ⟨S_, .f32⟩
  | .hbm, ⟨58, _⟩ => ⟨S2048, .f32⟩
  | .hbm, ⟨59, _⟩ => ⟨S_, .f32⟩
  | .hbm, ⟨60, _⟩ => ⟨S4098x2048, .f32⟩
  | .hbm, ⟨61, _⟩ => ⟨S1x2048, .f32⟩
  | .hbm, ⟨62, _⟩ => ⟨S_, .f32⟩
  | .hbm, ⟨63, _⟩ => ⟨S3x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S_, .f32⟩
  | .hbm, ⟨68, _⟩ => ⟨S2048, .f32⟩
  | .hbm, ⟨69, _⟩ => ⟨S1x2048, .f32⟩
  | .hbm, ⟨70, _⟩ => ⟨S_, .f32⟩
  | .hbm, ⟨71, _⟩ => ⟨S2048, .f32⟩
  | .hbm, ⟨72, _⟩ => ⟨S_, .f32⟩
  | .hbm, ⟨73, _⟩ => ⟨S4098x2048, .f32⟩
  | .hbm, ⟨74, _⟩ => ⟨S4098x2048, .f32⟩
  | .hbm, ⟨75, _⟩ => ⟨S1x2048, .f32⟩
  | .hbm, ⟨76, _⟩ => ⟨S_, .f32⟩
  | .hbm, ⟨77, _⟩ => ⟨S3x2048, .f32⟩
  | .hbm, ⟨78, _⟩ => ⟨S3x2048, .f32⟩
  | .hbm, ⟨79, _⟩ => ⟨S4096x2048, .f32⟩
  | .hbm, ⟨80, _⟩ => ⟨S4096x2048, .f32⟩
  | .hbm, ⟨81, _⟩ => ⟨S4096x2048, .f32⟩
  | .hbm, ⟨82, _⟩ => ⟨S_, .f32⟩
  | .hbm, ⟨83, _⟩ => ⟨S2048, .f32⟩
  | .hbm, ⟨84, _⟩ => ⟨S1x2048, .f32⟩
  | .hbm, ⟨85, _⟩ => ⟨S_, .f32⟩
  | .hbm, ⟨86, _⟩ => ⟨S2048, .f32⟩
  | .hbm, ⟨87, _⟩ => ⟨S_, .f32⟩
  | .hbm, ⟨88, _⟩ => ⟨S4098x2048, .f32⟩
  | .hbm, ⟨89, _⟩ => ⟨S4098x2048, .f32⟩
  | .hbm, ⟨90, _⟩ => ⟨S1x2048, .f32⟩
  | .hbm, ⟨91, _⟩ => ⟨S_, .f32⟩
  | .hbm, ⟨92, _⟩ => ⟨S3x2048, .f32⟩
  | .hbm, ⟨93, _⟩ => ⟨S3x2048, .f32⟩
  | .hbm, ⟨94, _⟩ => ⟨S2x2048, .f32⟩
  | .hbm, ⟨95, _⟩ => ⟨S4096x2048, .f32⟩
  | .hbm, ⟨96, _⟩ => ⟨S4096x2048, .f32⟩
  | .hbm, ⟨97, _⟩ => ⟨S4096x2048, .f32⟩
  | .hbm, ⟨98, _⟩ => ⟨S4096x6144, .f32⟩
  | .hbm, ⟨99, _⟩ => ⟨S6144x2048, .f32⟩
  | .hbm, ⟨100, _⟩ => ⟨S2048x6144, .f32⟩
  | .hbm, ⟨101, _⟩ => ⟨S4096x2048, .f32⟩
  | .hbm, ⟨102, _⟩ => ⟨S4096x2048, .bf16⟩
  | .hbm, ⟨103, _⟩ => ⟨S4096x2048, .f32⟩
  | .hbm, ⟨104, _⟩ => ⟨S4096x2048, .f32⟩
  | .hbm, ⟨105, _⟩ => ⟨S4096x2048, .f32⟩
  | .hbm, ⟨106, _⟩ => ⟨S1x4096x2048, .f32⟩
  | .hbm, ⟨107, _⟩ => ⟨S1x4096x2048, .f32⟩
  | .hbm, ⟨108, _⟩ => ⟨S1x4096x2048, .f32⟩
  | .hbm, ⟨109, _⟩ => ⟨S3x4096x2048, .f32⟩
  | .hbm, ⟨110, _⟩ => ⟨S3x4096x2048, .bf16⟩
  | .hbm, ⟨111, _⟩ => ⟨S2048x6144, .bf16⟩
  | .hbm, ⟨112, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_2 : Ref sig .tc := ⟨.hbm, 54, rfl⟩
abbrev main_v46 : Ref sig .tc := ⟨.hbm, 55, rfl⟩
abbrev main_v47 : Ref sig .tc := ⟨.hbm, 56, rfl⟩
abbrev main_cst_3 : Ref sig .tc := ⟨.hbm, 57, rfl⟩
abbrev main_v48 : Ref sig .tc := ⟨.hbm, 58, rfl⟩
abbrev main_cst_4 : Ref sig .tc := ⟨.hbm, 59, rfl⟩
abbrev main_v49 : Ref sig .tc := ⟨.hbm, 60, rfl⟩
abbrev main_v50 : Ref sig .tc := ⟨.hbm, 61, rfl⟩
abbrev main_cst_5 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_6 : Ref sig .tc := ⟨.hbm, 67, rfl⟩
abbrev main_v55 : Ref sig .tc := ⟨.hbm, 68, rfl⟩
abbrev main_v56 : Ref sig .tc := ⟨.hbm, 69, rfl⟩
abbrev main_cst_7 : Ref sig .tc := ⟨.hbm, 70, rfl⟩
abbrev main_v57 : Ref sig .tc := ⟨.hbm, 71, rfl⟩
abbrev main_cst_8 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_9 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_10 : Ref sig .tc := ⟨.hbm, 82, rfl⟩
abbrev main_v66 : Ref sig .tc := ⟨.hbm, 83, rfl⟩
abbrev main_v67 : Ref sig .tc := ⟨.hbm, 84, rfl⟩
abbrev main_cst_11 : Ref sig .tc := ⟨.hbm, 85, rfl⟩
abbrev main_v68 : Ref sig .tc := ⟨.hbm, 86, rfl⟩
abbrev main_cst_12 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_13 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩

abbrev nD : Nat := 1
abbrev τ : Topo := Topo.v7x

variable {F : FTy → Type} [FloatOps F]
-- ==== XaKernel.lean ====
abbrev S4096x2048 : Shape := ⟨2, ![4096, 2048]⟩
abbrev S256x2048 : Shape := ⟨2, ![256, 2048]⟩
abbrev S1x2048x2048 : Shape := ⟨3, ![1, 2048, 2048]⟩
abbrev S1x2048x4096 : Shape := ⟨3, ![1, 2048, 4096]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S2x256x2048 : Shape := ⟨3, ![2, 256, 2048]⟩
abbrev S1x256x1024 : Shape := ⟨3, ![1, 256, 1024]⟩
abbrev S256x1024 : Shape := ⟨2, ![256, 1024]⟩
abbrev S256x512 : Shape := ⟨2, ![256, 512]⟩
abbrev S1x256x512 : Shape := ⟨3, ![1, 256, 512]⟩
abbrev S256x256 : Shape := ⟨2, ![256, 256]⟩
abbrev S256 : Shape := ⟨1, ![256]⟩
abbrev S256x1 : Shape := ⟨2, ![256, 1]⟩
abbrev S2048x2048 : Shape := ⟨2, ![2048, 2048]⟩
abbrev S4096x512 : Shape := ⟨2, ![4096, 512]⟩
abbrev S4096x1024 : Shape := ⟨2, ![4096, 1024]⟩
abbrev S512x1024 : Shape := ⟨2, ![512, 1024]⟩
abbrev S1x1024x2048 : Shape := ⟨3, ![1, 1024, 2048]⟩
abbrev S2048x4096 : Shape := ⟨2, ![2048, 4096]⟩

abbrev nBuf : Space → Nat
  | .hbm => 18
  | .vmem => 60
  | .smem => 0
  | _ => 0

abbrev bufTy : (tb : Table) → Fin (tcTables nBuf tb) → BufTy
  | .hbm, ⟨0, _⟩ => ⟨S4096x2048, .bf16⟩
  | .hbm, ⟨1, _⟩ => ⟨S256x2048, .bf16⟩
  | .hbm, ⟨2, _⟩ => ⟨S1x2048x2048, .bf16⟩
  | .hbm, ⟨3, _⟩ => ⟨S1x2048x4096, .bf16⟩
  | .hbm, ⟨4, _⟩ => ⟨S1x2048x2048, .bf16⟩
  | .hbm, ⟨5, _⟩ => ⟨S4096x2048, .bf16⟩
  | .hbm, ⟨6, _⟩ => ⟨S4096x2048, .bf16⟩
  | .hbm, ⟨7, _⟩ => ⟨S2x256x2048, .bf16⟩
  | .hbm, ⟨8, _⟩ => ⟨S4096x2048, .bf16⟩
  | .hbm, ⟨9, _⟩ => ⟨S4096x2048, .bf16⟩
  | .hbm, ⟨10, _⟩ => ⟨S2048x2048, .bf16⟩
  | .hbm, ⟨11, _⟩ => ⟨S4096x2048, .bf16⟩
  | .hbm, ⟨12, _⟩ => ⟨S4096x2048, .bf16⟩
  | .hbm, ⟨13, _⟩ => ⟨S2x256x2048, .f32⟩
  | .hbm, ⟨14, _⟩ => ⟨S2048x2048, .bf16⟩
  | .hbm, ⟨15, _⟩ => ⟨S4096x2048, .bf16⟩
  | .hbm, ⟨16, _⟩ => ⟨S2x256x2048, .bf16⟩
  | .hbm, ⟨17, _⟩ => ⟨S2048x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S256x2048, .bf16⟩
  | .local _ .vmem, ⟨7, _⟩ => ⟨S1x2048x1024, .bf16⟩
  | .local _ .vmem, ⟨8, _⟩ => ⟨S1x2048x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S256x2048, .bf16⟩
  | .local _ .vmem, ⟨12, _⟩ => ⟨S256x2048, .bf16⟩
  | .local _ .vmem, ⟨13, _⟩ => ⟨S2x256x2048, .bf16⟩
  | .local _ .vmem, ⟨14, _⟩ => ⟨S256x2048, .bf16⟩
  | .local _ .vmem, ⟨15, _⟩ => ⟨S256x2048, .bf16⟩
  | .local _ .vmem, ⟨16, _⟩ => ⟨S1024x2048, .bf16⟩
  | .local _ .vmem, ⟨17, _⟩ => ⟨S1024x2048, .bf16⟩
  | .local _ .vmem, ⟨18, _⟩ => ⟨S1x2048x1024, .bf16⟩
  | .local _ .vmem, ⟨19, _⟩ => ⟨S1x2048x1024, .bf16⟩
  | .local _ .vmem, ⟨20, _⟩ => ⟨S1024x1024, .bf16⟩
  | .local _ .vmem, ⟨21, _⟩ => ⟨S1024x1024, .bf16⟩
  | .local _ .vmem, ⟨22, _⟩ => ⟨S4096x512, .bf16⟩
  | .local _ .vmem, ⟨23, _⟩ => ⟨S4096x512, .bf16⟩
  | .local _ .vmem, ⟨24, _⟩ => ⟨S4096x1024, .bf16⟩
  | .local _ .vmem, ⟨25, _⟩ => ⟨S4096x1024, .bf16⟩
  | .local _ .vmem, ⟨26, _⟩ => ⟨S512x1024, .bf16⟩
  | .local _ .vmem, ⟨27, _⟩ => ⟨S512x1024, .bf16⟩
  | .local _ .vmem, ⟨28, _⟩ => ⟨S1024x2048, .bf16⟩
  | .local _ .vmem, ⟨29, _⟩ => ⟨S1024x2048, .bf16⟩
  | .local _ .vmem, ⟨30, _⟩ => ⟨S1x1024x2048, .bf16⟩
  | .local _ .vmem, ⟨31, _⟩ => ⟨S1x1024x2048, .bf16⟩
  | .local _ .vmem, ⟨32, _⟩ => ⟨S1024x1024, .bf16⟩
  | .local _ .vmem, ⟨33, _⟩ => ⟨S1024x1024, .bf16⟩
  | .local _ .vmem, ⟨34, _⟩ => ⟨S256x2048, .bf16⟩
  | .local _ .vmem, ⟨35, _⟩ => ⟨S256x2048, .bf16⟩
  | .local _ .vmem, ⟨36, _⟩ => ⟨S2x256x2048, .bf16⟩
  | .local _ .vmem, ⟨37, _⟩ => ⟨S256x2048, .bf16⟩
  | .local _ .vmem, ⟨38, _⟩ => ⟨S256x2048, .bf16⟩
  | .local _ .vmem, ⟨39, _⟩ => ⟨S256x2048, .bf16⟩
  | .local _ .vmem, ⟨40, _⟩ => ⟨S256x2048, .bf16⟩
  | .local _ .vmem, ⟨41, _⟩ => ⟨S2x256x2048, .f32⟩
  | .local _ .vmem, ⟨42, _⟩ => ⟨S4096x512, .bf16⟩
  | .local _ .vmem, ⟨43, _⟩ => ⟨S4096x512, .bf16⟩
  | .local _ .vmem, ⟨44, _⟩ => ⟨S4096x1024, .bf16⟩
  | .local _ .vmem, ⟨45, _⟩ => ⟨S4096x1024, .bf16⟩
  | .local _ .vmem, ⟨46, _⟩ => ⟨S512x1024, .bf16⟩
  | .local _ .vmem, ⟨47, _⟩ => ⟨S512x1024, .bf16⟩
  | .local _ .vmem, ⟨48, _⟩ => ⟨S1024x2048, .bf16⟩
  | .local _ .vmem, ⟨49, _⟩ => ⟨S1024x2048, .bf16⟩
  | .local _ .vmem, ⟨50, _⟩ => ⟨S1x1024x2048, .bf16⟩
  | .local _ .vmem, ⟨51, _⟩ => ⟨S1x1024x2048, .bf16⟩
  | .local _ .vmem, ⟨52, _⟩ => ⟨S1024x1024, .bf16⟩
  | .local _ .vmem, ⟨53, _⟩ => ⟨S1024x1024, .bf16⟩
  | .local _ .vmem, ⟨54, _⟩ => ⟨S256x512, .bf16⟩
  | .local _ .vmem, ⟨55, _⟩ => ⟨S256x512, .bf16⟩
  | .local _ .vmem, ⟨56, _⟩ => ⟨S1x256x1024, .bf16⟩
  | .local _ .vmem, ⟨57, _⟩ => ⟨S1x256x1024, .bf16⟩
  | .local _ .vmem, ⟨58, _⟩ => ⟨S512x1024, .bf16⟩
  | .local _ .vmem, ⟨59, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg1_1 : Ref sig .tc := ⟨.vmem, 31, rfl⟩
abbrev cc5_stg2_0 : Ref sig .tc := ⟨.vmem, 32, rfl⟩
abbrev cc5_stg2_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg2_1 : Ref sig .tc := ⟨.vmem, 38, rfl⟩
abbrev cc6_stg3_0 : Ref sig .tc := ⟨.vmem, 39, rfl⟩
abbrev cc6_stg3_1 : Ref sig .tc := ⟨.vmem, 40, rfl⟩
abbrev cc6_stg4_0 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg1_1 : Ref sig .tc := ⟨.vmem, 45, rfl⟩
abbrev cc7_stg2_0 : Ref sig .tc := ⟨.vmem, 46, rfl⟩
abbrev cc7_stg2_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg1_1 : Ref sig .tc := ⟨.vmem, 51, rfl⟩
abbrev cc8_stg2_0 : Ref sig .tc := ⟨.vmem, 52, rfl⟩
abbrev cc8_stg2_1 : Ref sig .tc := ⟨.vmem, 53, rfl⟩
abbrev cc9_stg0_0 : Ref sig .tc := ⟨.vmem, 54, rfl⟩
abbrev cc9_stg0_1 : Ref sig .tc := ⟨.vmem, 55, rfl⟩
abbrev cc9_stg1_0 : Ref sig .tc := ⟨.vmem, 56, rfl⟩
abbrev cc9_stg1_1 : Ref sig .tc := ⟨.vmem, 57, rfl⟩
abbrev cc9_stg2_0 : Ref sig .tc := ⟨.vmem, 58, rfl⟩
abbrev cc9_stg2_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem1_1 : DmaSem sig := 31
abbrev cc5_sem2_0 : DmaSem sig := 32
abbrev cc5_sem2_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38
abbrev cc6_sem3_0 : DmaSem sig := 39
abbrev cc6_sem3_1 : DmaSem sig := 40
abbrev cc6_sem4_0 : DmaSem sig := 41
abbrev cc7_sem0_0 : DmaSem sig := 42
abbrev cc7_sem0_1 : DmaSem sig := 43
abbrev cc7_sem1_0 : DmaSem sig := 44
abbrev cc7_sem1_1 : DmaSem sig := 45
abbrev cc7_sem2_0 : DmaSem sig := 46
abbrev cc7_sem2_1 : DmaSem sig := 47
abbrev cc8_sem0_0 : DmaSem sig := 48
abbrev cc8_sem0_1 : DmaSem sig := 49
abbrev cc8_sem1_0 : DmaSem sig := 50
abbrev cc8_sem1_1 : DmaSem sig := 51
abbrev cc8_sem2_0 : DmaSem sig := 52
abbrev cc8_sem2_1 : DmaSem sig := 53
abbrev cc9_sem0_0 : DmaSem sig := 54
abbrev cc9_sem0_1 : DmaSem sig := 55
abbrev cc9_sem1_0 : DmaSem sig := 56
abbrev cc9_sem1_1 : DmaSem sig := 57
abbrev cc9_sem2_0 : DmaSem sig := 58
abbrev cc9_sem2_1 : DmaSem sig := 59

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage1_0 : Fin 1 → Memref sig .tc .vmem S256x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2x256x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨3, ![4, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1x2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S4096x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S4096x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S512x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![4, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1x1024x2048 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨1, ![16], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage6_0 : Fin 2 → Memref sig .tc .vmem S256x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S2x256x2048 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S256x2048 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S256x2048 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S2x256x2048 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev grid7 : Pipeline.Grid := ⟨3, ![4, 2, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S4096x512 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S4096x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S512x1024 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![4, 2, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc8_transform_1 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S1024x2048 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S1x1024x2048 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S1024x1024 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![4, 4, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc9_transform_1 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 2 → Memref sig .tc .vmem S256x512 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 2 → Memref sig .tc .vmem S1x256x1024 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true, true]

abbrev stage9_2 : Fin 2 → Memref sig .tc .vmem S512x1024 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]
-- ==== XaReferenceIdeal.lean ====
abbrev S4096x2048 : Shape := ⟨2, ![4096, 2048]⟩
abbrev S256x2048 : Shape := ⟨2, ![256, 2048]⟩
abbrev S1x2048x2048 : Shape := ⟨3, ![1, 2048, 2048]⟩
abbrev S1x2048x4096 : Shape := ⟨3, ![1, 2048, 4096]⟩
abbrev S2048x2048 : Shape := ⟨2, ![2048, 2048]⟩
abbrev S2048x4096 : Shape := ⟨2, ![2048, 4096]⟩
abbrev S256x4096 : Shape := ⟨2, ![256, 4096]⟩
abbrev S1x256x2048 : Shape := ⟨3, ![1, 256, 2048]⟩
abbrev S2x256x2048 : Shape := ⟨3, ![2, 256, 2048]⟩
abbrev S4096x4x512 : Shape := ⟨3, ![4096, 4, 512]⟩
abbrev S256x4x512 : Shape := ⟨3, ![256, 4, 512]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x512x4096 : Shape := ⟨3, ![4, 512, 4096]⟩
abbrev S4x512x256 : Shape := ⟨3, ![4, 512, 256]⟩
abbrev S4x256x512 : Shape := ⟨3, ![4, 256, 512]⟩
abbrev S4x4096x512 : Shape := ⟨3, ![4, 4096, 512]⟩

abbrev nBuf : Space → Nat
  | .hbm => 136
  | .vmem => 0
  | .smem => 0
  | _ => 0

abbrev hbmTy0_0 (i : Nat) : BufTy := match i % 128 with
  | 0 => ⟨S4096x2048, .bf16⟩
  | 1 => ⟨S256x2048, .bf16⟩
  | 2 => ⟨S1x2048x2048, .bf16⟩
  | 3 => ⟨S1x2048x4096, .bf16⟩
  | 4 => ⟨S1x2048x2048, .bf16⟩
  | 5 => ⟨S4096x2048, .bf16⟩
  | 6 => ⟨S4096x2048, .f32⟩
  | 7 => ⟨S256x2048, .f32⟩
  | 8 => ⟨S4096x2048, .f32⟩
  | 9 => ⟨S2048x2048, .bf16⟩
  | 10 => ⟨S2048x2048, .f32⟩
  | 11 => ⟨S2048x4096, .bf16⟩
  | 12 => ⟨S2048x4096, .f32⟩
  | 13 => ⟨S2048x2048, .bf16⟩
  | 14 => ⟨S2048x2048, .f32⟩
  | 15 => ⟨S256x4096, .f32⟩
  | 16 => ⟨S4096x2048, .f32⟩
  | 17 => ⟨S256x2048, .f32⟩
  | 18 => ⟨S256x2048, .f32⟩
  | 19 => ⟨S1x256x2048, .f32⟩
  | 20 => ⟨S1x256x2048, .f32⟩
  | 21 => ⟨S2x256x2048, .f32⟩
  | 22 => ⟨S4096x4x512, .f32⟩
  | 23 => ⟨S1x256x2048, .f32⟩
  | 24 => ⟨S256x2048, .f32⟩
  | 25 => ⟨S256x4x512, .f32⟩
  | 26 => ⟨S1x256x2048, .f32⟩
  | 27 => ⟨S256x2048, .f32⟩
  | 28 => ⟨S256x4x512, .f32⟩
  | 29 => ⟨S4x4096x256, .f32⟩
  | 30 => ⟨S_, .f32⟩
  | 31 => ⟨S4x4096x256, .f32⟩
  | 32 => ⟨S4x4096x256, .f32⟩
  | 33 => ⟨S_, .f32⟩
  | 34 => ⟨S4x4096, .f32⟩
  | 35 => ⟨S4x4096x1, .f32⟩
  | 36 => ⟨S4x4096x256, .f32⟩
  | 37 => ⟨S4x4096x256, .i1⟩
  | 38 => ⟨S4x4096x256, .f32⟩
  | 39 => ⟨S_, .f32⟩
  | 40 => ⟨S4x4096, .f32⟩
  | 41 => ⟨S_, .f32⟩
  | 42 => ⟨S4x4096, .f32⟩
  | 43 => ⟨S4x4096, .f32⟩
  | 44 => ⟨S_, .f32⟩
  | 45 => ⟨S4x4096, .f32⟩
  | 46 => ⟨S4x4096, .i1⟩
  | 47 => ⟨S_, .f32⟩
  | 48 => ⟨S4x4096, .f32⟩
  | 49 => ⟨S4x4096, .i1⟩
  | 50 => ⟨S_, .f32⟩
  | 51 => ⟨S4x4096, .f32⟩
  | 52 => ⟨S_, .f32⟩
  | 53 => ⟨S4x4096, .f32⟩
  | 54 => ⟨S_, .f32⟩
  | 55 => ⟨S4x4096, .f32⟩
  | 56 => ⟨S4x4096, .f32⟩
  | 57 => ⟨S4x4096, .f32⟩
  | 58 => ⟨S4x4096x1, .f32⟩
  | 59 => ⟨S4x4096x256, .f32⟩
  | 60 => ⟨S4x4096x256, .f32⟩
  | 61 => ⟨S4x4096x256, .f32⟩
  | 62 => ⟨S_, .f32⟩
  | 63 => ⟨S4x4096, .f32⟩
  | 64 => ⟨S4x4096x1, .f32⟩
  | 65 => ⟨S4x4096x256, .f32⟩
  | 66 => ⟨S4x4096x256, .f32⟩
  | 67 => ⟨S4x4096x1, .f32⟩
  | 68 => ⟨S_, .f32⟩
  | 69 => ⟨S4x4096x1, .f32⟩
  | 70 => ⟨S4x4096x1, .f32⟩
  | 71 => ⟨S4x512x4096, .f32⟩
  | 72 => ⟨S4096x4x512, .f32⟩
  | 73 => ⟨S4096x2048, .f32⟩
  | 74 => ⟨S4096x2048, .f32⟩
  | 75 => ⟨S2048x2048, .f32⟩
  | 76 => ⟨S2048x2048, .f32⟩
  | 77 => ⟨S4096x2048, .f32⟩
  | 78 => ⟨S4096x4x512, .f32⟩
  | 79 => ⟨S4x512x4096, .f32⟩
  | 80 => ⟨S4x4096x256, .f32⟩
  | 81 => ⟨S4x512x256, .f32⟩
  | 82 => ⟨S256x4x512, .f32⟩
  | 83 => ⟨S4x4096x256, .f32⟩
  | 84 => ⟨S4x4096x256, .f32⟩
  | 85 => ⟨S4x4096x256, .f32⟩
  | 86 => ⟨S_, .f32⟩
  | 87 => ⟨S4x4096, .f32⟩
  | 88 => ⟨S4x4096x1, .f32⟩
  | 89 => ⟨S4x4096x1, .f32⟩
  | 90 => ⟨S4x4096x256, .f32⟩
  | 91 => ⟨S4x4096x256, .f32⟩
  | 92 => ⟨S_, .f32⟩
  | 93 => ⟨S4x4096, .f32⟩
  | 94 => ⟨S4x4096x256, .f32⟩
  | 95 => ⟨S4x4096x256, .f32⟩
  | 96 => ⟨S4x4096x256, .f32⟩
  | 97 => ⟨S_, .f32⟩
  | 98 => ⟨S4x4096x256, .f32⟩
  | 99 => ⟨S4x4096x256, .f32⟩
  | 100 => ⟨S4x256x512, .f32⟩
  | 101 => ⟨S256x4x512, .f32⟩
  | 102 => ⟨S4x4096x512, .f32⟩
  | 103 => ⟨S4096x4x512, .f32⟩
  | 104 => ⟨S256x2048, .f32⟩
  | 105 => ⟨S1x256x2048, .f32⟩
  | 106 => ⟨S_, .f32⟩
  | 107 => ⟨S2x256x2048, .f32⟩
  | 108 => ⟨S256x2048, .f32⟩
  | 109 => ⟨S1x256x2048, .f32⟩
  | 110 => ⟨S_, .f32⟩
  | 111 => ⟨S2x256x2048, .f32⟩
  | 112 => ⟨S2x256x2048, .f32⟩
  | 113 => ⟨S4096x2048, .f32⟩
  | 114 => ⟨S1x256x2048, .f32⟩
  | 115 => ⟨S256x2048, .f32⟩
  | 116 => ⟨S1x256x2048, .f32⟩
  | 117 => ⟨S256x2048, .f32⟩
  | 118 => ⟨S256x4096, .f32⟩
  | 119 => ⟨S2048x2048, .f32⟩
  | 120 => ⟨S2048x2048, .f32⟩
  | 121 => ⟨S4096x2048, .f32⟩
  | 122 => ⟨S4096x2048, .f32⟩
  | 123 => ⟨S2048x4096, .f32⟩
  | 124 => ⟨S256x2048, .f32⟩
  | 125 => ⟨S4096x2048, .bf16⟩
  | 126 => ⟨S4096x2048, .bf16⟩
  | 127 => ⟨S256x2048, .f32⟩
  | _ => ⟨S4096x2048, .bf16⟩

abbrev hbmTy0_1 (i : Nat) : BufTy := match i % 128 with
  | 0 => ⟨S256x2048, .f32⟩
  | 1 => ⟨S1x256x2048, .f32⟩
  | 2 => ⟨S1x256x2048, .f32⟩
  | 3 => ⟨S2x256x2048, .f32⟩
  | 4 => ⟨S2x256x2048, .bf16⟩
  | 5 => ⟨S2048x2048, .bf16⟩
  | 6 => ⟨S2048x4096, .bf16⟩
  | 7 => ⟨S2048x2048, .bf16⟩
  | _ => ⟨S4096x2048, .bf16⟩

abbrev hbmTy (i : Nat) : BufTy := match i / 128 with
  | 0 => hbmTy0_0 i
  | 1 => hbmTy0_1 i
  | _ => ⟨S4096x2048, .bf16⟩

abbrev bufTy : (tb : Table) → Fin (tcTables nBuf tb) → BufTy
  | .hbm, ⟨i, _⟩ => hbmTy i
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst : Ref sig .tc := ⟨.hbm, 30, rfl⟩
abbrev main_v24 : Ref sig .tc := ⟨.hbm, 31, rfl⟩
abbrev main_v25 : Ref sig .tc := ⟨.hbm, 32, rfl⟩
abbrev main_cst_0 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_1 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_10 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_11 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_12 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_cst_13 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_cst_14 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩

abbrev nD : Nat := 1
abbrev τ : Topo := Topo.v7x

variable {F : FTy → Type} [FloatOps F]
-- ==== NormPreKernel.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_14 : BitVec 32 := 0#32
  let v34 : BitVec 1 := Scalar.cmpi .ne v33 c0_i32_14
  v34

def k0_cond2 (i : grid0.Coords) : BitVec 1 :=
  let arg0 : BitVec 32 := BitVec.ofNat 32 (i 0).val
  let c0_i32_15 : BitVec 32 := 0#32
  let v35 : BitVec 1 := Scalar.cmpi .sgt arg0 c0_i32_15
  let v36 : BitVec 32 := Scalar.extui v35
  let c0_i32_16 : BitVec 32 := 0#32
  let v37 : BitVec 1 := Scalar.cmpi .ne v36 c0_i32_16
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormPreReferenceIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S2048, .f32⟩
  | .hbm, ⟨34, _⟩ => ⟨S4096x2048, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== NormPostKernel.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S1x2048, .f32⟩
  | .hbm, ⟨2, _⟩ => ⟨S4096x2048, .f32⟩
  | .hbm, ⟨3, _⟩ => ⟨S4096x2048, .bf16⟩
  | .hbm, ⟨4, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_12 : BitVec 32 := 0#32
  let v33 : BitVec 1 := Scalar.cmpi .ne v32 c0_i32_12
  v33

def k0_cond2 (i : grid0.Coords) : BitVec 1 :=
  let arg0 : BitVec 32 := BitVec.ofNat 32 (i 0).val
  let c0_i32_13 : BitVec 32 := 0#32
  let v34 : BitVec 1 := Scalar.cmpi .sgt arg0 c0_i32_13
  let v35 : BitVec 32 := Scalar.extui v34
  let c0_i32_14 : BitVec 32 := 0#32
  let v36 : BitVec 1 := Scalar.cmpi .ne v35 c0_i32_14
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormPostReferenceIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .bf16⟩
  | .hbm, ⟨51, _⟩ => ⟨S1x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== NormMemKernel.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S2048 : Shape := ⟨1, ![2048]⟩

abbrev nBuf : Space → Nat
  | .hbm => 5
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S256x2048, .f32⟩
  | .hbm, ⟨4, _⟩ => ⟨S1x2048, .f32⟩
  | .local _ .vmem, ⟨0, _⟩ => ⟨S256x2048, .f32⟩
  | .local _ .vmem, ⟨1, _⟩ => ⟨S1x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v29 : BitVec 1 := Scalar.cmpi .eq arg0 c0_i32
  let v30 : BitVec 32 := Scalar.extui v29
  let c0_i32_12 : BitVec 32 := 0#32
  let v31 : BitVec 1 := Scalar.cmpi .ne v30 c0_i32_12
  v31

def k0_cond2 (i : grid0.Coords) : BitVec 1 :=
  let arg0 : BitVec 32 := BitVec.ofNat 32 (i 0).val
  let c0_i32_13 : BitVec 32 := 0#32
  let v32 : BitVec 1 := Scalar.cmpi .sgt arg0 c0_i32_13
  let v33 : BitVec 32 := Scalar.extui v32
  let c0_i32_14 : BitVec 32 := 0#32
  let v34 : BitVec 1 := Scalar.cmpi .ne v33 c0_i32_14
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormMemReferenceIdeal.lean ====
abbrev S256x2048 : Shape := ⟨2, ![256, 2048]⟩
abbrev S1x2048 : Shape := ⟨2, ![1, 2048]⟩
abbrev S2048 : Shape := ⟨1, ![2048]⟩
abbrev S_ : Shape := ⟨0, ![]⟩
abbrev S256 : Shape := ⟨1, ![256]⟩
abbrev S256x1 : Shape := ⟨2, ![256, 1]⟩

abbrev nBuf : Space → Nat
  | .hbm => 50
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S2048, .f32⟩
  | .hbm, ⟨4, _⟩ => ⟨S256x2048, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x2048, .f32⟩
  | .hbm, ⟨20, _⟩ => ⟨S256x2048, .f32⟩
  | .hbm, ⟨21, _⟩ => ⟨S1x2048, .f32⟩
  | .hbm, ⟨22, _⟩ => ⟨S256x2048, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S256x2048, .f32⟩
  | .hbm, ⟨29, _⟩ => ⟨S256x2048, .f32⟩
  | .hbm, ⟨30, _⟩ => ⟨S_, .f32⟩
  | .hbm, ⟨31, _⟩ => ⟨S2048, .f32⟩
  | .hbm, ⟨32, _⟩ => ⟨S256x2048, .f32⟩
  | .hbm, ⟨33, _⟩ => ⟨S_, .f32⟩
  | .hbm, ⟨34, _⟩ => ⟨S256, .f32⟩
  | .hbm, ⟨35, _⟩ => ⟨S256x1, .f32⟩
  | .hbm, ⟨36, _⟩ => ⟨S256x2048, .f32⟩
  | .hbm, ⟨37, _⟩ => ⟨S256x2048, .f32⟩
  | .hbm, ⟨38, _⟩ => ⟨S256x1, .f32⟩
  | .hbm, ⟨39, _⟩ => ⟨S_, .f32⟩
  | .hbm, ⟨40, _⟩ => ⟨S256x1, .f32⟩
  | .hbm, ⟨41, _⟩ => ⟨S256x1, .f32⟩
  | .hbm, ⟨42, _⟩ => ⟨S_, .f32⟩
  | .hbm, ⟨43, _⟩ => ⟨S256, .f32⟩
  | .hbm, ⟨44, _⟩ => ⟨S256x2048, .f32⟩
  | .hbm, ⟨45, _⟩ => ⟨S256x2048, .f32⟩
  | .hbm, ⟨46, _⟩ => ⟨S256x2048, .f32⟩
  | .hbm, ⟨47, _⟩ => ⟨S256x2048, .f32⟩
  | .hbm, ⟨48, _⟩ => ⟨S256x2048, .f32⟩
  | .hbm, ⟨49, _⟩ => ⟨S1x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== CLnKernel.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S1x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== CLnReferenceIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 105
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S1x2048, .f32⟩
  | .hbm, ⟨37, _⟩ => ⟨S4096x2048, .f32⟩
  | .hbm, ⟨38, _⟩ => ⟨S4096x2048, .f32⟩
  | .hbm, ⟨39, _⟩ => ⟨S1x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S_, .f32⟩
  | .hbm, ⟨60, _⟩ => ⟨S2048, .f32⟩
  | .hbm, ⟨61, _⟩ => ⟨S1x2048, .f32⟩
  | .hbm, ⟨62, _⟩ => ⟨S_, .f32⟩
  | .hbm, ⟨63, _⟩ => ⟨S2048, .f32⟩
  | .hbm, ⟨64, _⟩ => ⟨S4096x2048, .f32⟩
  | .hbm, ⟨65, _⟩ => ⟨S_, .f32⟩
  | .hbm, ⟨66, _⟩ => ⟨S2048, .f32⟩
  | .hbm, ⟨67, _⟩ => ⟨S1x2048, .f32⟩
  | .hbm, ⟨68, _⟩ => ⟨S4096x2048, .f32⟩
  | .hbm, ⟨69, _⟩ => ⟨S4096x2048, .f32⟩
  | .hbm, ⟨70, _⟩ => ⟨S_, .f32⟩
  | .hbm, ⟨71, _⟩ => ⟨S2048, .f32⟩
  | .hbm, ⟨72, _⟩ => ⟨S4096x2048, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S4096x2048, .f32⟩
  | .hbm, ⟨77, _⟩ => ⟨S4096x2048, .f32⟩
  | .hbm, ⟨78, _⟩ => ⟨S4096x1, .f32⟩
  | .hbm, ⟨79, _⟩ => ⟨S4096x2048, .f32⟩
  | .hbm, ⟨80, _⟩ => ⟨S_, .f32⟩
  | .hbm, ⟨81, _⟩ => ⟨S4096, .f32⟩
  | .hbm, ⟨82, _⟩ => ⟨S4096x1, .f32⟩
  | .hbm, ⟨83, _⟩ => ⟨S_, .f32⟩
  | .hbm, ⟨84, _⟩ => ⟨S4096x1, .f32⟩
  | .hbm, ⟨85, _⟩ => ⟨S4096x1, .f32⟩
  | .hbm, ⟨86, _⟩ => ⟨S_, .f32⟩
  | .hbm, ⟨87, _⟩ => ⟨S4096, .f32⟩
  | .hbm, ⟨88, _⟩ => ⟨S4096x2048, .f32⟩
  | .hbm, ⟨89, _⟩ => ⟨S4096x2048, .f32⟩
  | .hbm, ⟨90, _⟩ => ⟨S4096x2048, .f32⟩
  | .hbm, ⟨91, _⟩ => ⟨S_, .f32⟩
  | .hbm, ⟨92, _⟩ => ⟨S4096, .f32⟩
  | .hbm, ⟨93, _⟩ => ⟨S4096x1, .f32⟩
  | .hbm, ⟨94, _⟩ => ⟨S4096x2048, .f32⟩
  | .hbm, ⟨95, _⟩ => ⟨S4096x1, .f32⟩
  | .hbm, ⟨96, _⟩ => ⟨S_, .f32⟩
  | .hbm, ⟨97, _⟩ => ⟨S4096x1, .f32⟩
  | .hbm, ⟨98, _⟩ => ⟨S4096x1, .f32⟩
  | .hbm, ⟨99, _⟩ => ⟨S_, .f32⟩
  | .hbm, ⟨100, _⟩ => ⟨S4096, .f32⟩
  | .hbm, ⟨101, _⟩ => ⟨S4096x2048, .f32⟩
  | .hbm, ⟨102, _⟩ => ⟨S4096x2048, .f32⟩
  | .hbm, ⟨103, _⟩ => ⟨S1x2048, .f32⟩
  | .hbm, ⟨104, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v31_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v31_1 : Ref sig .tc := ⟨.hbm, 53, rfl⟩
abbrev main_v31_0 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v32 : Ref sig .tc := ⟨.hbm, 58, rfl⟩
abbrev main_cst_6 : Ref sig .tc := ⟨.hbm, 59, rfl⟩
abbrev main_v33 : Ref sig .tc := ⟨.hbm, 60, rfl⟩
abbrev main_v34 : Ref sig .tc := ⟨.hbm, 61, rfl⟩
abbrev main_cst_7 : Ref sig .tc := ⟨.hbm, 62, rfl⟩
abbrev main_v35 : Ref sig .tc := ⟨.hbm, 63, rfl⟩
abbrev main_v36 : Ref sig .tc := ⟨.hbm, 64, rfl⟩
abbrev main_cst_8 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_9 : Ref sig .tc := ⟨.hbm, 70, rfl⟩
abbrev main_v41 : Ref sig .tc := ⟨.hbm, 71, rfl⟩
abbrev main_v42 : Ref sig .tc := ⟨.hbm, 72, rfl⟩
abbrev main_cst_10 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_11 : Ref sig .tc := ⟨.hbm, 80, rfl⟩
abbrev main_v49 : Ref sig .tc := ⟨.hbm, 81, rfl⟩
abbrev main_v50 : Ref sig .tc := ⟨.hbm, 82, rfl⟩
abbrev main_cst_12 : Ref sig .tc := ⟨.hbm, 83, rfl⟩
abbrev main_v51 : Ref sig .tc := ⟨.hbm, 84, rfl⟩
abbrev main_v52 : Ref sig .tc := ⟨.hbm, 85, rfl⟩
abbrev main_cst_13 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_14 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_15 : Ref sig .tc := ⟨.hbm, 96, rfl⟩
abbrev main_v61 : Ref sig .tc := ⟨.hbm, 97, rfl⟩
abbrev main_v62 : Ref sig .tc := ⟨.hbm, 98, rfl⟩
abbrev main_cst_16 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩

abbrev nD : Nat := 1
abbrev τ : Topo := Topo.v7x

variable {F : FTy → Type} [FloatOps F]
-- ==== RmsKernel.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsReferenceIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== RmsMemKernel.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== RmsMemReferenceIdeal.lean ====
abbrev S256x2048 : Shape := ⟨2, ![256, 2048]⟩
abbrev S1x2048 : Shape := ⟨2, ![1, 2048]⟩
abbrev S2048 : Shape := ⟨1, ![2048]⟩
abbrev S_ : Shape := ⟨0, ![]⟩
abbrev S256 : Shape := ⟨1, ![256]⟩
abbrev S256x1 : Shape := ⟨2, ![256, 1]⟩

abbrev nBuf : Space → Nat
  | .hbm => 20
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S2048, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x2048, .f32⟩
  | .hbm, ⟨15, _⟩ => ⟨S256x2048, .f32⟩
  | .hbm, ⟨16, _⟩ => ⟨S1x2048, .f32⟩
  | .hbm, ⟨17, _⟩ => ⟨S256x2048, .f32⟩
  | .hbm, ⟨18, _⟩ => ⟨S256x2048, .f32⟩
  | .hbm, ⟨19, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== ResKernel.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResReferenceIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 41
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x2048, .f32⟩
  | .hbm, ⟨18, _⟩ => ⟨S4096x2048, .f32⟩
  | .hbm, ⟨19, _⟩ => ⟨S1x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S2048, .f32⟩
  | .hbm, ⟨24, _⟩ => ⟨S4096x2048, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x2048, .f32⟩
  | .hbm, ⟨36, _⟩ => ⟨S4096x2048, .f32⟩
  | .hbm, ⟨37, _⟩ => ⟨S1x2048, .f32⟩
  | .hbm, ⟨38, _⟩ => ⟨S4096x2048, .f32⟩
  | .hbm, ⟨39, _⟩ => ⟨S4096x2048, .f32⟩
  | .hbm, ⟨40, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== ResLastKernel.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S1x2048, .f32⟩
  | .hbm, ⟨3, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ResLastReferenceIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S1x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x2048, .f32⟩
  | .hbm, ⟨17, _⟩ => ⟨S4096x2048, .f32⟩
  | .hbm, ⟨18, _⟩ => ⟨S1x2048, .f32⟩
  | .hbm, ⟨19, _⟩ => ⟨S4096x2048, .f32⟩
  | .hbm, ⟨20, _⟩ => ⟨S4096x2048, .f32⟩
  | .hbm, ⟨21, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== CLnFKernel.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S256x2048, .bf16⟩
  | .local _ .vmem, ⟨5, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CLnFReferenceIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 44
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x2048, .f32⟩
  | .hbm, ⟨27, _⟩ => ⟨S4096x2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S1x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096x2048, .f32⟩
  | .hbm, ⟨38, _⟩ => ⟨S4096x2048, .f32⟩
  | .hbm, ⟨39, _⟩ => ⟨S_, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== LossKernel.lean ====
abbrev S4096x2048 : Shape := ⟨2, ![4096, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S8x128, .f32⟩
  | .hbm, ⟨3, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S8x128, .f32⟩
  | .local _ .vmem, ⟨5, _⟩ => ⟨S256x2048, .f32⟩
  | .local _ .vmem, ⟨6, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v17 : BitVec 1 := Scalar.cmpi .eq arg0 c0_i32
  let v18 : BitVec 32 := Scalar.extui v17
  let c0_i32_9 : BitVec 32 := 0#32
  let v19 : BitVec 1 := Scalar.cmpi .ne v18 c0_i32_9
  v19

def k0_cond2 (i : grid0.Coords) : BitVec 1 :=
  let arg0 : BitVec 32 := BitVec.ofNat 32 (i 0).val
  let c0_i32_10 : BitVec 32 := 0#32
  let v20 : BitVec 1 := Scalar.cmpi .sgt arg0 c0_i32_10
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossReferenceIdeal.lean ====
abbrev S4096x2048 : Shape := ⟨2, ![4096, 2048]⟩
abbrev S_ : Shape := ⟨0, ![]⟩
abbrev S4096 : Shape := ⟨1, ![4096]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x2048, .f32⟩
  | .hbm, ⟨24, _⟩ => ⟨S4096x2048, .f32⟩
  | .hbm, ⟨25, _⟩ => ⟨S8x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== CConvFKernel.lean ====
abbrev S2x4096x2048 : Shape := ⟨3, ![2, 4096, 2048]⟩
abbrev S31x2048 : Shape := ⟨2, ![31, 2048]⟩
abbrev S1x2048 : Shape := ⟨2, ![1, 2048]⟩
abbrev S4096x2048 : Shape := ⟨2, ![4096, 2048]⟩
abbrev S2x256x256 : Shape := ⟨3, ![2, 256, 256]⟩
abbrev S2x32x256 : Shape := ⟨3, ![2, 32, 256]⟩
abbrev S31x256 : Shape := ⟨2, ![31, 256]⟩
abbrev S1x256 : Shape := ⟨2, ![1, 256]⟩
abbrev S256x256 : Shape := ⟨2, ![256, 256]⟩
abbrev S1x256x256 : Shape := ⟨3, ![1, 256, 256]⟩
abbrev S1x32x256 : Shape := ⟨3, ![1, 32, 256]⟩
abbrev S32x256 : Shape := ⟨2, ![32, 256]⟩
abbrev S288x256 : Shape := ⟨2, ![288, 256]⟩

abbrev nBuf : Space → Nat
  | .hbm => 4
  | .vmem => 10
  | .smem => 0
  | _ => 0

abbrev bufTy : (tb : Table) → Fin (tcTables nBuf tb) → BufTy
  | .hbm, ⟨0, _⟩ => ⟨S2x4096x2048, .bf16⟩
  | .hbm, ⟨1, _⟩ => ⟨S31x2048, .f32⟩
  | .hbm, ⟨2, _⟩ => ⟨S1x2048, .f32⟩
  | .hbm, ⟨3, _⟩ => ⟨S4096x2048, .f32⟩
  | .local _ .vmem, ⟨0, _⟩ => ⟨S2x256x256, .bf16⟩
  | .local _ .vmem, ⟨1, _⟩ => ⟨S2x256x256, .bf16⟩
  | .local _ .vmem, ⟨2, _⟩ => ⟨S2x32x256, .bf16⟩
  | .local _ .vmem, ⟨3, _⟩ => ⟨S2x32x256, .bf16⟩
  | .local _ .vmem, ⟨4, _⟩ => ⟨S31x256, .f32⟩
  | .local _ .vmem, ⟨5, _⟩ => ⟨S31x256, .f32⟩
  | .local _ .vmem, ⟨6, _⟩ => ⟨S1x256, .f32⟩
  | .local _ .vmem, ⟨7, _⟩ => ⟨S1x256, .f32⟩
  | .local _ .vmem, ⟨8, _⟩ => ⟨S256x256, .f32⟩
  | .local _ .vmem, ⟨9, _⟩ => ⟨S256x256, .f32⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x32x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S31x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== CConvFReferenceIdeal.lean ====
abbrev S2x4096x2048 : Shape := ⟨3, ![2, 4096, 2048]⟩
abbrev S31x2048 : Shape := ⟨2, ![31, 2048]⟩
abbrev S1x2048 : Shape := ⟨2, ![1, 2048]⟩
abbrev S1x4096x2048 : Shape := ⟨3, ![1, 4096, 2048]⟩
abbrev S4096x2048 : Shape := ⟨2, ![4096, 2048]⟩
abbrev S_ : Shape := ⟨0, ![]⟩
abbrev S30x2048 : Shape := ⟨2, ![30, 2048]⟩
abbrev S4126x2048 : Shape := ⟨2, ![4126, 2048]⟩
abbrev S2048 : Shape := ⟨1, ![2048]⟩

abbrev nBuf : Space → Nat
  | .hbm => 243
  | .vmem => 0
  | .smem => 0
  | _ => 0

abbrev hbmTy0_0 (i : Nat) : BufTy := match i % 128 with
  | 0 => ⟨S2x4096x2048, .bf16⟩
  | 1 => ⟨S31x2048, .f32⟩
  | 2 => ⟨S1x2048, .f32⟩
  | 3 => ⟨S2x4096x2048, .f32⟩
  | 4 => ⟨S1x4096x2048, .f32⟩
  | 5 => ⟨S4096x2048, .f32⟩
  | 6 => ⟨S1x4096x2048, .f32⟩
  | 7 => ⟨S4096x2048, .f32⟩
  | 8 => ⟨S4096x2048, .f32⟩
  | 9 => ⟨S4096x2048, .f32⟩
  | 10 => ⟨S_, .f32⟩
  | 11 => ⟨S4096x2048, .f32⟩
  | 12 => ⟨S4096x2048, .f32⟩
  | 13 => ⟨S_, .f32⟩
  | 14 => ⟨S4096x2048, .f32⟩
  | 15 => ⟨S4096x2048, .f32⟩
  | 16 => ⟨S4096x2048, .f32⟩
  | 17 => ⟨S_, .f32⟩
  | 18 => ⟨S30x2048, .f32⟩
  | 19 => ⟨S4126x2048, .f32⟩
  | 20 => ⟨S1x2048, .f32⟩
  | 21 => ⟨S2048, .f32⟩
  | 22 => ⟨S4096x2048, .f32⟩
  | 23 => ⟨S1x2048, .f32⟩
  | 24 => ⟨S4096x2048, .f32⟩
  | 25 => ⟨S4096x2048, .f32⟩
  | 26 => ⟨S_, .f32⟩
  | 27 => ⟨S4096x2048, .f32⟩
  | 28 => ⟨S4096x2048, .f32⟩
  | 29 => ⟨S1x2048, .f32⟩
  | 30 => ⟨S2048, .f32⟩
  | 31 => ⟨S4096x2048, .f32⟩
  | 32 => ⟨S1x2048, .f32⟩
  | 33 => ⟨S4096x2048, .f32⟩
  | 34 => ⟨S4096x2048, .f32⟩
  | 35 => ⟨S4096x2048, .f32⟩
  | 36 => ⟨S1x2048, .f32⟩
  | 37 => ⟨S2048, .f32⟩
  | 38 => ⟨S4096x2048, .f32⟩
  | 39 => ⟨S1x2048, .f32⟩
  | 40 => ⟨S4096x2048, .f32⟩
  | 41 => ⟨S4096x2048, .f32⟩
  | 42 => ⟨S4096x2048, .f32⟩
  | 43 => ⟨S1x2048, .f32⟩
  | 44 => ⟨S2048, .f32⟩
  | 45 => ⟨S4096x2048, .f32⟩
  | 46 => ⟨S1x2048, .f32⟩
  | 47 => ⟨S4096x2048, .f32⟩
  | 48 => ⟨S4096x2048, .f32⟩
  | 49 => ⟨S4096x2048, .f32⟩
  | 50 => ⟨S1x2048, .f32⟩
  | 51 => ⟨S2048, .f32⟩
  | 52 => ⟨S4096x2048, .f32⟩
  | 53 => ⟨S1x2048, .f32⟩
  | 54 => ⟨S4096x2048, .f32⟩
  | 55 => ⟨S4096x2048, .f32⟩
  | 56 => ⟨S4096x2048, .f32⟩
  | 57 => ⟨S1x2048, .f32⟩
  | 58 => ⟨S2048, .f32⟩
  | 59 => ⟨S4096x2048, .f32⟩
  | 60 => ⟨S1x2048, .f32⟩
  | 61 => ⟨S4096x2048, .f32⟩
  | 62 => ⟨S4096x2048, .f32⟩
  | 63 => ⟨S4096x2048, .f32⟩
  | 64 => ⟨S1x2048, .f32⟩
  | 65 => ⟨S2048, .f32⟩
  | 66 => ⟨S4096x2048, .f32⟩
  | 67 => ⟨S1x2048, .f32⟩
  | 68 => ⟨S4096x2048, .f32⟩
  | 69 => ⟨S4096x2048, .f32⟩
  | 70 => ⟨S4096x2048, .f32⟩
  | 71 => ⟨S1x2048, .f32⟩
  | 72 => ⟨S2048, .f32⟩
  | 73 => ⟨S4096x2048, .f32⟩
  | 74 => ⟨S1x2048, .f32⟩
  | 75 => ⟨S4096x2048, .f32⟩
  | 76 => ⟨S4096x2048, .f32⟩
  | 77 => ⟨S4096x2048, .f32⟩
  | 78 => ⟨S1x2048, .f32⟩
  | 79 => ⟨S2048, .f32⟩
  | 80 => ⟨S4096x2048, .f32⟩
  | 81 => ⟨S1x2048, .f32⟩
  | 82 => ⟨S4096x2048, .f32⟩
  | 83 => ⟨S4096x2048, .f32⟩
  | 84 => ⟨S4096x2048, .f32⟩
  | 85 => ⟨S1x2048, .f32⟩
  | 86 => ⟨S2048, .f32⟩
  | 87 => ⟨S4096x2048, .f32⟩
  | 88 => ⟨S1x2048, .f32⟩
  | 89 => ⟨S4096x2048, .f32⟩
  | 90 => ⟨S4096x2048, .f32⟩
  | 91 => ⟨S4096x2048, .f32⟩
  | 92 => ⟨S1x2048, .f32⟩
  | 93 => ⟨S2048, .f32⟩
  | 94 => ⟨S4096x2048, .f32⟩
  | 95 => ⟨S1x2048, .f32⟩
  | 96 => ⟨S4096x2048, .f32⟩
  | 97 => ⟨S4096x2048, .f32⟩
  | 98 => ⟨S4096x2048, .f32⟩
  | 99 => ⟨S1x2048, .f32⟩
  | 100 => ⟨S2048, .f32⟩
  | 101 => ⟨S4096x2048, .f32⟩
  | 102 => ⟨S1x2048, .f32⟩
  | 103 => ⟨S4096x2048, .f32⟩
  | 104 => ⟨S4096x2048, .f32⟩
  | 105 => ⟨S4096x2048, .f32⟩
  | 106 => ⟨S1x2048, .f32⟩
  | 107 => ⟨S2048, .f32⟩
  | 108 => ⟨S4096x2048, .f32⟩
  | 109 => ⟨S1x2048, .f32⟩
  | 110 => ⟨S4096x2048, .f32⟩
  | 111 => ⟨S4096x2048, .f32⟩
  | 112 => ⟨S4096x2048, .f32⟩
  | 113 => ⟨S1x2048, .f32⟩
  | 114 => ⟨S2048, .f32⟩
  | 115 => ⟨S4096x2048, .f32⟩
  | 116 => ⟨S1x2048, .f32⟩
  | 117 => ⟨S4096x2048, .f32⟩
  | 118 => ⟨S4096x2048, .f32⟩
  | 119 => ⟨S4096x2048, .f32⟩
  | 120 => ⟨S1x2048, .f32⟩
  | 121 => ⟨S2048, .f32⟩
  | 122 => ⟨S4096x2048, .f32⟩
  | 123 => ⟨S1x2048, .f32⟩
  | 124 => ⟨S4096x2048, .f32⟩
  | 125 => ⟨S4096x2048, .f32⟩
  | 126 => ⟨S4096x2048, .f32⟩
  | 127 => ⟨S1x2048, .f32⟩
  | _ => ⟨S2x4096x2048, .bf16⟩

abbrev hbmTy0_1 (i : Nat) : BufTy := match i % 128 with
  | 0 => ⟨S2048, .f32⟩
  | 1 => ⟨S4096x2048, .f32⟩
  | 2 => ⟨S1x2048, .f32⟩
  | 3 => ⟨S4096x2048, .f32⟩
  | 4 => ⟨S4096x2048, .f32⟩
  | 5 => ⟨S4096x2048, .f32⟩
  | 6 => ⟨S1x2048, .f32⟩
  | 7 => ⟨S2048, .f32⟩
  | 8 => ⟨S4096x2048, .f32⟩
  | 9 => ⟨S1x2048, .f32⟩
  | 10 => ⟨S4096x2048, .f32⟩
  | 11 => ⟨S4096x2048, .f32⟩
  | 12 => ⟨S4096x2048, .f32⟩
  | 13 => ⟨S1x2048, .f32⟩
  | 14 => ⟨S2048, .f32⟩
  | 15 => ⟨S4096x2048, .f32⟩
  | 16 => ⟨S1x2048, .f32⟩
  | 17 => ⟨S4096x2048, .f32⟩
  | 18 => ⟨S4096x2048, .f32⟩
  | 19 => ⟨S4096x2048, .f32⟩
  | 20 => ⟨S1x2048, .f32⟩
  | 21 => ⟨S2048, .f32⟩
  | 22 => ⟨S4096x2048, .f32⟩
  | 23 => ⟨S1x2048, .f32⟩
  | 24 => ⟨S4096x2048, .f32⟩
  | 25 => ⟨S4096x2048, .f32⟩
  | 26 => ⟨S4096x2048, .f32⟩
  | 27 => ⟨S1x2048, .f32⟩
  | 28 => ⟨S2048, .f32⟩
  | 29 => ⟨S4096x2048, .f32⟩
  | 30 => ⟨S1x2048, .f32⟩
  | 31 => ⟨S4096x2048, .f32⟩
  | 32 => ⟨S4096x2048, .f32⟩
  | 33 => ⟨S4096x2048, .f32⟩
  | 34 => ⟨S1x2048, .f32⟩
  | 35 => ⟨S2048, .f32⟩
  | 36 => ⟨S4096x2048, .f32⟩
  | 37 => ⟨S1x2048, .f32⟩
  | 38 => ⟨S4096x2048, .f32⟩
  | 39 => ⟨S4096x2048, .f32⟩
  | 40 => ⟨S4096x2048, .f32⟩
  | 41 => ⟨S1x2048, .f32⟩
  | 42 => ⟨S2048, .f32⟩
  | 43 => ⟨S4096x2048, .f32⟩
  | 44 => ⟨S1x2048, .f32⟩
  | 45 => ⟨S4096x2048, .f32⟩
  | 46 => ⟨S4096x2048, .f32⟩
  | 47 => ⟨S4096x2048, .f32⟩
  | 48 => ⟨S1x2048, .f32⟩
  | 49 => ⟨S2048, .f32⟩
  | 50 => ⟨S4096x2048, .f32⟩
  | 51 => ⟨S1x2048, .f32⟩
  | 52 => ⟨S4096x2048, .f32⟩
  | 53 => ⟨S4096x2048, .f32⟩
  | 54 => ⟨S4096x2048, .f32⟩
  | 55 => ⟨S1x2048, .f32⟩
  | 56 => ⟨S2048, .f32⟩
  | 57 => ⟨S4096x2048, .f32⟩
  | 58 => ⟨S1x2048, .f32⟩
  | 59 => ⟨S4096x2048, .f32⟩
  | 60 => ⟨S4096x2048, .f32⟩
  | 61 => ⟨S4096x2048, .f32⟩
  | 62 => ⟨S1x2048, .f32⟩
  | 63 => ⟨S2048, .f32⟩
  | 64 => ⟨S4096x2048, .f32⟩
  | 65 => ⟨S1x2048, .f32⟩
  | 66 => ⟨S4096x2048, .f32⟩
  | 67 => ⟨S4096x2048, .f32⟩
  | 68 => ⟨S4096x2048, .f32⟩
  | 69 => ⟨S1x2048, .f32⟩
  | 70 => ⟨S2048, .f32⟩
  | 71 => ⟨S4096x2048, .f32⟩
  | 72 => ⟨S1x2048, .f32⟩
  | 73 => ⟨S4096x2048, .f32⟩
  | 74 => ⟨S4096x2048, .f32⟩
  | 75 => ⟨S4096x2048, .f32⟩
  | 76 => ⟨S1x2048, .f32⟩
  | 77 => ⟨S2048, .f32⟩
  | 78 => ⟨S4096x2048, .f32⟩
  | 79 => ⟨S1x2048, .f32⟩
  | 80 => ⟨S4096x2048, .f32⟩
  | 81 => ⟨S4096x2048, .f32⟩
  | 82 => ⟨S4096x2048, .f32⟩
  | 83 => ⟨S1x2048, .f32⟩
  | 84 => ⟨S2048, .f32⟩
  | 85 => ⟨S4096x2048, .f32⟩
  | 86 => ⟨S1x2048, .f32⟩
  | 87 => ⟨S4096x2048, .f32⟩
  | 88 => ⟨S4096x2048, .f32⟩
  | 89 => ⟨S4096x2048, .f32⟩
  | 90 => ⟨S1x2048, .f32⟩
  | 91 => ⟨S2048, .f32⟩
  | 92 => ⟨S4096x2048, .f32⟩
  | 93 => ⟨S1x2048, .f32⟩
  | 94 => ⟨S4096x2048, .f32⟩
  | 95 => ⟨S4096x2048, .f32⟩
  | 96 => ⟨S4096x2048, .f32⟩
  | 97 => ⟨S1x2048, .f32⟩
  | 98 => ⟨S2048, .f32⟩
  | 99 => ⟨S4096x2048, .f32⟩
  | 100 => ⟨S1x2048, .f32⟩
  | 101 => ⟨S4096x2048, .f32⟩
  | 102 => ⟨S4096x2048, .f32⟩
  | 103 => ⟨S4096x2048, .f32⟩
  | 104 => ⟨S1x2048, .f32⟩
  | 105 => ⟨S2048, .f32⟩
  | 106 => ⟨S4096x2048, .f32⟩
  | 107 => ⟨S1x2048, .f32⟩
  | 108 => ⟨S4096x2048, .f32⟩
  | 109 => ⟨S4096x2048, .f32⟩
  | 110 => ⟨S4096x2048, .f32⟩
  | 111 => ⟨S2048, .f32⟩
  | 112 => ⟨S1x2048, .f32⟩
  | 113 => ⟨S4096x2048, .f32⟩
  | 114 => ⟨S4096x2048, .f32⟩
  | _ => ⟨S2x4096x2048, .bf16⟩

abbrev hbmTy (i : Nat) : BufTy := match i / 128 with
  | 0 => hbmTy0_0 i
  | 1 => hbmTy0_1 i
  | _ => ⟨S2x4096x2048, .bf16⟩

abbrev bufTy : (tb : Table) → Fin (tcTables nBuf tb) → BufTy
  | .hbm, ⟨i, _⟩ => hbmTy i
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_v223 : Ref sig .tc := ⟨.hbm, 230, rfl⟩
abbrev main_v224 : Ref sig .tc := ⟨.hbm, 231, rfl⟩
abbrev main_v225 : Ref sig .tc := ⟨.hbm, 232, rfl⟩
abbrev main_v226 : Ref sig .tc := ⟨.hbm, 233, rfl⟩
abbrev main_v227 : Ref sig .tc := ⟨.hbm, 234, rfl⟩
abbrev main_v228 : Ref sig .tc := ⟨.hbm, 235, rfl⟩
abbrev main_v229 : Ref sig .tc := ⟨.hbm, 236, rfl⟩
abbrev main_v230 : Ref sig .tc := ⟨.hbm, 237, rfl⟩
abbrev main_v231 : Ref sig .tc := ⟨.hbm, 238, rfl⟩
abbrev main_v232 : Ref sig .tc := ⟨.hbm, 239, rfl⟩
abbrev main_v233 : Ref sig .tc := ⟨.hbm, 240, rfl⟩
abbrev main_v234 : Ref sig .tc := ⟨.hbm, 241, rfl⟩
abbrev main_v235 : Ref sig .tc := ⟨.hbm, 242, rfl⟩

abbrev nD : Nat := 1
abbrev τ : Topo := Topo.v7x

variable {F : FTy → Type} [FloatOps F]
-- ==== CConvKernel.lean ====
abbrev S2x4096x2048 : Shape := ⟨3, ![2, 4096, 2048]⟩
abbrev S4096x2048 : Shape := ⟨2, ![4096, 2048]⟩
abbrev S31x2048 : Shape := ⟨2, ![31, 2048]⟩
abbrev S1x2048 : Shape := ⟨2, ![1, 2048]⟩
abbrev S2x256x256 : Shape := ⟨3, ![2, 256, 256]⟩
abbrev S2x32x256 : Shape := ⟨3, ![2, 32, 256]⟩
abbrev S256x256 : Shape := ⟨2, ![256, 256]⟩
abbrev S32x256 : Shape := ⟨2, ![32, 256]⟩
abbrev S31x256 : Shape := ⟨2, ![31, 256]⟩
abbrev S1x256 : Shape := ⟨2, ![1, 256]⟩
abbrev S1x256x256 : Shape := ⟨3, ![1, 256, 256]⟩
abbrev S1x32x256 : Shape := ⟨3, ![1, 32, 256]⟩
abbrev S288x256 : Shape := ⟨2, ![288, 256]⟩
abbrev S256 : Shape := ⟨1, ![256]⟩

abbrev nBuf : Space → Nat
  | .hbm => 6
  | .vmem => 16
  | .smem => 0
  | _ => 0

abbrev bufTy : (tb : Table) → Fin (tcTables nBuf tb) → BufTy
  | .hbm, ⟨0, _⟩ => ⟨S2x4096x2048, .bf16⟩
  | .hbm, ⟨1, _⟩ => ⟨S4096x2048, .f32⟩
  | .hbm, ⟨2, _⟩ => ⟨S31x2048, .f32⟩
  | .hbm, ⟨3, _⟩ => ⟨S2x4096x2048, .bf16⟩
  | .hbm, ⟨4, _⟩ => ⟨S31x2048, .f32⟩
  | .hbm, ⟨5, _⟩ => ⟨S1x2048, .f32⟩
  | .local _ .vmem, ⟨0, _⟩ => ⟨S2x256x256, .bf16⟩
  | .local _ .vmem, ⟨1, _⟩ => ⟨S2x256x256, .bf16⟩
  | .local _ .vmem, ⟨2, _⟩ => ⟨S2x32x256, .bf16⟩
  | .local _ .vmem, ⟨3, _⟩ => ⟨S2x32x256, .bf16⟩
  | .local _ .vmem, ⟨4, _⟩ => ⟨S256x256, .f32⟩
  | .local _ .vmem, ⟨5, _⟩ => ⟨S256x256, .f32⟩
  | .local _ .vmem, ⟨6, _⟩ => ⟨S32x256, .f32⟩
  | .local _ .vmem, ⟨7, _⟩ => ⟨S32x256, .f32⟩
  | .local _ .vmem, ⟨8, _⟩ => ⟨S31x256, .f32⟩
  | .local _ .vmem, ⟨9, _⟩ => ⟨S31x256, .f32⟩
  | .local _ .vmem, ⟨10, _⟩ => ⟨S2x256x256, .bf16⟩
  | .local _ .vmem, ⟨11, _⟩ => ⟨S2x256x256, .bf16⟩
  | .local _ .vmem, ⟨12, _⟩ => ⟨S31x256, .f32⟩
  | .local _ .vmem, ⟨13, _⟩ => ⟨S31x256, .f32⟩
  | .local _ .vmem, ⟨14, _⟩ => ⟨S1x256, .f32⟩
  | .local _ .vmem, ⟨15, _⟩ => ⟨S1x256, .f32⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x32x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S31x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S31x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== CConvReferenceIdeal.lean ====
abbrev S2x4096x2048 : Shape := ⟨3, ![2, 4096, 2048]⟩
abbrev S4096x2048 : Shape := ⟨2, ![4096, 2048]⟩
abbrev S31x2048 : Shape := ⟨2, ![31, 2048]⟩
abbrev S_ : Shape := ⟨0, ![]⟩
abbrev S1x2048 : Shape := ⟨2, ![1, 2048]⟩
abbrev S1x4096x2048 : Shape := ⟨3, ![1, 4096, 2048]⟩
abbrev S30x2048 : Shape := ⟨2, ![30, 2048]⟩
abbrev S4126x2048 : Shape := ⟨2, ![4126, 2048]⟩
abbrev S2048 : Shape := ⟨1, ![2048]⟩

abbrev nBuf : Space → Nat
  | .hbm => 730
  | .vmem => 0
  | .smem => 0
  | _ => 0

abbrev hbmTy0_0 (i : Nat) : BufTy := match i % 128 with
  | 0 => ⟨S2x4096x2048, .bf16⟩
  | 1 => ⟨S4096x2048, .f32⟩
  | 2 => ⟨S31x2048, .f32⟩
  | 3 => ⟨S_, .f32⟩
  | 4 => ⟨S1x2048, .f32⟩
  | 5 => ⟨S2x4096x2048, .f32⟩
  | 6 => ⟨S1x4096x2048, .f32⟩
  | 7 => ⟨S4096x2048, .f32⟩
  | 8 => ⟨S1x4096x2048, .f32⟩
  | 9 => ⟨S4096x2048, .f32⟩
  | 10 => ⟨S4096x2048, .f32⟩
  | 11 => ⟨S4096x2048, .f32⟩
  | 12 => ⟨S_, .f32⟩
  | 13 => ⟨S4096x2048, .f32⟩
  | 14 => ⟨S4096x2048, .f32⟩
  | 15 => ⟨S_, .f32⟩
  | 16 => ⟨S4096x2048, .f32⟩
  | 17 => ⟨S4096x2048, .f32⟩
  | 18 => ⟨S_, .f32⟩
  | 19 => ⟨S4096x2048, .f32⟩
  | 20 => ⟨S4096x2048, .f32⟩
  | 21 => ⟨S4096x2048, .f32⟩
  | 22 => ⟨S4096x2048, .f32⟩
  | 23 => ⟨S_, .f32⟩
  | 24 => ⟨S30x2048, .f32⟩
  | 25 => ⟨S4126x2048, .f32⟩
  | 26 => ⟨S_, .f32⟩
  | 27 => ⟨S30x2048, .f32⟩
  | 28 => ⟨S1x2048, .f32⟩
  | 29 => ⟨S2048, .f32⟩
  | 30 => ⟨S4096x2048, .f32⟩
  | 31 => ⟨S1x2048, .f32⟩
  | 32 => ⟨S4096x2048, .f32⟩
  | 33 => ⟨S4096x2048, .f32⟩
  | 34 => ⟨S_, .f32⟩
  | 35 => ⟨S4096x2048, .f32⟩
  | 36 => ⟨S4096x2048, .f32⟩
  | 37 => ⟨S1x2048, .f32⟩
  | 38 => ⟨S2048, .f32⟩
  | 39 => ⟨S4096x2048, .f32⟩
  | 40 => ⟨S1x2048, .f32⟩
  | 41 => ⟨S4096x2048, .f32⟩
  | 42 => ⟨S4096x2048, .f32⟩
  | 43 => ⟨S4096x2048, .f32⟩
  | 44 => ⟨S1x2048, .f32⟩
  | 45 => ⟨S2048, .f32⟩
  | 46 => ⟨S4096x2048, .f32⟩
  | 47 => ⟨S1x2048, .f32⟩
  | 48 => ⟨S4096x2048, .f32⟩
  | 49 => ⟨S4096x2048, .f32⟩
  | 50 => ⟨S4096x2048, .f32⟩
  | 51 => ⟨S1x2048, .f32⟩
  | 52 => ⟨S2048, .f32⟩
  | 53 => ⟨S4096x2048, .f32⟩
  | 54 => ⟨S1x2048, .f32⟩
  | 55 => ⟨S4096x2048, .f32⟩
  | 56 => ⟨S4096x2048, .f32⟩
  | 57 => ⟨S4096x2048, .f32⟩
  | 58 => ⟨S1x2048, .f32⟩
  | 59 => ⟨S2048, .f32⟩
  | 60 => ⟨S4096x2048, .f32⟩
  | 61 => ⟨S1x2048, .f32⟩
  | 62 => ⟨S4096x2048, .f32⟩
  | 63 => ⟨S4096x2048, .f32⟩
  | 64 => ⟨S4096x2048, .f32⟩
  | 65 => ⟨S1x2048, .f32⟩
  | 66 => ⟨S2048, .f32⟩
  | 67 => ⟨S4096x2048, .f32⟩
  | 68 => ⟨S1x2048, .f32⟩
  | 69 => ⟨S4096x2048, .f32⟩
  | 70 => ⟨S4096x2048, .f32⟩
  | 71 => ⟨S4096x2048, .f32⟩
  | 72 => ⟨S1x2048, .f32⟩
  | 73 => ⟨S2048, .f32⟩
  | 74 => ⟨S4096x2048, .f32⟩
  | 75 => ⟨S1x2048, .f32⟩
  | 76 => ⟨S4096x2048, .f32⟩
  | 77 => ⟨S4096x2048, .f32⟩
  | 78 => ⟨S4096x2048, .f32⟩
  | 79 => ⟨S1x2048, .f32⟩
  | 80 => ⟨S2048, .f32⟩
  | 81 => ⟨S4096x2048, .f32⟩
  | 82 => ⟨S1x2048, .f32⟩
  | 83 => ⟨S4096x2048, .f32⟩
  | 84 => ⟨S4096x2048, .f32⟩
  | 85 => ⟨S4096x2048, .f32⟩
  | 86 => ⟨S1x2048, .f32⟩
  | 87 => ⟨S2048, .f32⟩
  | 88 => ⟨S4096x2048, .f32⟩
  | 89 => ⟨S1x2048, .f32⟩
  | 90 => ⟨S4096x2048, .f32⟩
  | 91 => ⟨S4096x2048, .f32⟩
  | 92 => ⟨S4096x2048, .f32⟩
  | 93 => ⟨S1x2048, .f32⟩
  | 94 => ⟨S2048, .f32⟩
  | 95 => ⟨S4096x2048, .f32⟩
  | 96 => ⟨S1x2048, .f32⟩
  | 97 => ⟨S4096x2048, .f32⟩
  | 98 => ⟨S4096x2048, .f32⟩
  | 99 => ⟨S4096x2048, .f32⟩
  | 100 => ⟨S1x2048, .f32⟩
  | 101 => ⟨S2048, .f32⟩
  | 102 => ⟨S4096x2048, .f32⟩
  | 103 => ⟨S1x2048, .f32⟩
  | 104 => ⟨S4096x2048, .f32⟩
  | 105 => ⟨S4096x2048, .f32⟩
  | 106 => ⟨S4096x2048, .f32⟩
  | 107 => ⟨S1x2048, .f32⟩
  | 108 => ⟨S2048, .f32⟩
  | 109 => ⟨S4096x2048, .f32⟩
  | 110 => ⟨S1x2048, .f32⟩
  | 111 => ⟨S4096x2048, .f32⟩
  | 112 => ⟨S4096x2048, .f32⟩
  | 113 => ⟨S4096x2048, .f32⟩
  | 114 => ⟨S1x2048, .f32⟩
  | 115 => ⟨S2048, .f32⟩
  | 116 => ⟨S4096x2048, .f32⟩
  | 117 => ⟨S1x2048, .f32⟩
  | 118 => ⟨S4096x2048, .f32⟩
  | 119 => ⟨S4096x2048, .f32⟩
  | 120 => ⟨S4096x2048, .f32⟩
  | 121 => ⟨S1x2048, .f32⟩
  | 122 => ⟨S2048, .f32⟩
  | 123 => ⟨S4096x2048, .f32⟩
  | 124 => ⟨S1x2048, .f32⟩
  | 125 => ⟨S4096x2048, .f32⟩
  | 126 => ⟨S4096x2048, .f32⟩
  | 127 => ⟨S4096x2048, .f32⟩
  | _ => ⟨S2x4096x2048, .bf16⟩

abbrev hbmTy0_1 (i : Nat) : BufTy := match i % 128 with
  | 0 => ⟨S1x2048, .f32⟩
  | 1 => ⟨S2048, .f32⟩
  | 2 => ⟨S4096x2048, .f32⟩
  | 3 => ⟨S1x2048, .f32⟩
  | 4 => ⟨S4096x2048, .f32⟩
  | 5 => ⟨S4096x2048, .f32⟩
  | 6 => ⟨S4096x2048, .f32⟩
  | 7 => ⟨S1x2048, .f32⟩
  | 8 => ⟨S2048, .f32⟩
  | 9 => ⟨S4096x2048, .f32⟩
  | 10 => ⟨S1x2048, .f32⟩
  | 11 => ⟨S4096x2048, .f32⟩
  | 12 => ⟨S4096x2048, .f32⟩
  | 13 => ⟨S4096x2048, .f32⟩
  | 14 => ⟨S1x2048, .f32⟩
  | 15 => ⟨S2048, .f32⟩
  | 16 => ⟨S4096x2048, .f32⟩
  | 17 => ⟨S1x2048, .f32⟩
  | 18 => ⟨S4096x2048, .f32⟩
  | 19 => ⟨S4096x2048, .f32⟩
  | 20 => ⟨S4096x2048, .f32⟩
  | 21 => ⟨S1x2048, .f32⟩
  | 22 => ⟨S2048, .f32⟩
  | 23 => ⟨S4096x2048, .f32⟩
  | 24 => ⟨S1x2048, .f32⟩
  | 25 => ⟨S4096x2048, .f32⟩
  | 26 => ⟨S4096x2048, .f32⟩
  | 27 => ⟨S4096x2048, .f32⟩
  | 28 => ⟨S1x2048, .f32⟩
  | 29 => ⟨S2048, .f32⟩
  | 30 => ⟨S4096x2048, .f32⟩
  | 31 => ⟨S1x2048, .f32⟩
  | 32 => ⟨S4096x2048, .f32⟩
  | 33 => ⟨S4096x2048, .f32⟩
  | 34 => ⟨S4096x2048, .f32⟩
  | 35 => ⟨S1x2048, .f32⟩
  | 36 => ⟨S2048, .f32⟩
  | 37 => ⟨S4096x2048, .f32⟩
  | 38 => ⟨S1x2048, .f32⟩
  | 39 => ⟨S4096x2048, .f32⟩
  | 40 => ⟨S4096x2048, .f32⟩
  | 41 => ⟨S4096x2048, .f32⟩
  | 42 => ⟨S1x2048, .f32⟩
  | 43 => ⟨S2048, .f32⟩
  | 44 => ⟨S4096x2048, .f32⟩
  | 45 => ⟨S1x2048, .f32⟩
  | 46 => ⟨S4096x2048, .f32⟩
  | 47 => ⟨S4096x2048, .f32⟩
  | 48 => ⟨S4096x2048, .f32⟩
  | 49 => ⟨S1x2048, .f32⟩
  | 50 => ⟨S2048, .f32⟩
  | 51 => ⟨S4096x2048, .f32⟩
  | 52 => ⟨S1x2048, .f32⟩
  | 53 => ⟨S4096x2048, .f32⟩
  | 54 => ⟨S4096x2048, .f32⟩
  | 55 => ⟨S4096x2048, .f32⟩
  | 56 => ⟨S1x2048, .f32⟩
  | 57 => ⟨S2048, .f32⟩
  | 58 => ⟨S4096x2048, .f32⟩
  | 59 => ⟨S1x2048, .f32⟩
  | 60 => ⟨S4096x2048, .f32⟩
  | 61 => ⟨S4096x2048, .f32⟩
  | 62 => ⟨S4096x2048, .f32⟩
  | 63 => ⟨S1x2048, .f32⟩
  | 64 => ⟨S2048, .f32⟩
  | 65 => ⟨S4096x2048, .f32⟩
  | 66 => ⟨S1x2048, .f32⟩
  | 67 => ⟨S4096x2048, .f32⟩
  | 68 => ⟨S4096x2048, .f32⟩
  | 69 => ⟨S4096x2048, .f32⟩
  | 70 => ⟨S1x2048, .f32⟩
  | 71 => ⟨S2048, .f32⟩
  | 72 => ⟨S4096x2048, .f32⟩
  | 73 => ⟨S1x2048, .f32⟩
  | 74 => ⟨S4096x2048, .f32⟩
  | 75 => ⟨S4096x2048, .f32⟩
  | 76 => ⟨S4096x2048, .f32⟩
  | 77 => ⟨S1x2048, .f32⟩
  | 78 => ⟨S2048, .f32⟩
  | 79 => ⟨S4096x2048, .f32⟩
  | 80 => ⟨S1x2048, .f32⟩
  | 81 => ⟨S4096x2048, .f32⟩
  | 82 => ⟨S4096x2048, .f32⟩
  | 83 => ⟨S4096x2048, .f32⟩
  | 84 => ⟨S1x2048, .f32⟩
  | 85 => ⟨S2048, .f32⟩
  | 86 => ⟨S4096x2048, .f32⟩
  | 87 => ⟨S1x2048, .f32⟩
  | 88 => ⟨S4096x2048, .f32⟩
  | 89 => ⟨S4096x2048, .f32⟩
  | 90 => ⟨S4096x2048, .f32⟩
  | 91 => ⟨S1x2048, .f32⟩
  | 92 => ⟨S2048, .f32⟩
  | 93 => ⟨S4096x2048, .f32⟩
  | 94 => ⟨S1x2048, .f32⟩
  | 95 => ⟨S4096x2048, .f32⟩
  | 96 => ⟨S4096x2048, .f32⟩
  | 97 => ⟨S4096x2048, .f32⟩
  | 98 => ⟨S1x2048, .f32⟩
  | 99 => ⟨S2048, .f32⟩
  | 100 => ⟨S4096x2048, .f32⟩
  | 101 => ⟨S1x2048, .f32⟩
  | 102 => ⟨S4096x2048, .f32⟩
  | 103 => ⟨S4096x2048, .f32⟩
  | 104 => ⟨S4096x2048, .f32⟩
  | 105 => ⟨S1x2048, .f32⟩
  | 106 => ⟨S2048, .f32⟩
  | 107 => ⟨S4096x2048, .f32⟩
  | 108 => ⟨S1x2048, .f32⟩
  | 109 => ⟨S4096x2048, .f32⟩
  | 110 => ⟨S4096x2048, .f32⟩
  | 111 => ⟨S4096x2048, .f32⟩
  | 112 => ⟨S1x2048, .f32⟩
  | 113 => ⟨S2048, .f32⟩
  | 114 => ⟨S4096x2048, .f32⟩
  | 115 => ⟨S1x2048, .f32⟩
  | 116 => ⟨S4096x2048, .f32⟩
  | 117 => ⟨S4096x2048, .f32⟩
  | 118 => ⟨S4096x2048, .f32⟩
  | 119 => ⟨S2048, .f32⟩
  | 120 => ⟨S1x2048, .f32⟩
  | 121 => ⟨S4096x2048, .f32⟩
  | 122 => ⟨S4096x2048, .f32⟩
  | 123 => ⟨S4096x2048, .f32⟩
  | 124 => ⟨S_, .f32⟩
  | 125 => ⟨S2048, .f32⟩
  | 126 => ⟨S1x2048, .f32⟩
  | 127 => ⟨S_, .f32⟩
  | _ => ⟨S2x4096x2048, .bf16⟩

abbrev hbmTy0_2 (i : Nat) : BufTy := match i % 128 with
  | 0 => ⟨S2048, .f32⟩
  | 1 => ⟨S1x2048, .f32⟩
  | 2 => ⟨S4096x2048, .f32⟩
  | 3 => ⟨S4096x2048, .f32⟩
  | 4 => ⟨S4096x2048, .f32⟩
  | 5 => ⟨S_, .f32⟩
  | 6 => ⟨S2048, .f32⟩
  | 7 => ⟨S1x2048, .f32⟩
  | 8 => ⟨S_, .f32⟩
  | 9 => ⟨S2048, .f32⟩
  | 10 => ⟨S_, .f32⟩
  | 11 => ⟨S4126x2048, .f32⟩
  | 12 => ⟨S1x2048, .f32⟩
  | 13 => ⟨S_, .f32⟩
  | 14 => ⟨S31x2048, .f32⟩
  | 15 => ⟨S4096x2048, .f32⟩
  | 16 => ⟨S4096x2048, .f32⟩
  | 17 => ⟨S4096x2048, .f32⟩
  | 18 => ⟨S_, .f32⟩
  | 19 => ⟨S2048, .f32⟩
  | 20 => ⟨S1x2048, .f32⟩
  | 21 => ⟨S_, .f32⟩
  | 22 => ⟨S2048, .f32⟩
  | 23 => ⟨S_, .f32⟩
  | 24 => ⟨S4126x2048, .f32⟩
  | 25 => ⟨S4126x2048, .f32⟩
  | 26 => ⟨S1x2048, .f32⟩
  | 27 => ⟨S_, .f32⟩
  | 28 => ⟨S31x2048, .f32⟩
  | 29 => ⟨S31x2048, .f32⟩
  | 30 => ⟨S4096x2048, .f32⟩
  | 31 => ⟨S4096x2048, .f32⟩
  | 32 => ⟨S4096x2048, .f32⟩
  | 33 => ⟨S_, .f32⟩
  | 34 => ⟨S2048, .f32⟩
  | 35 => ⟨S1x2048, .f32⟩
  | 36 => ⟨S_, .f32⟩
  | 37 => ⟨S2048, .f32⟩
  | 38 => ⟨S_, .f32⟩
  | 39 => ⟨S4126x2048, .f32⟩
  | 40 => ⟨S4126x2048, .f32⟩
  | 41 => ⟨S1x2048, .f32⟩
  | 42 => ⟨S_, .f32⟩
  | 43 => ⟨S31x2048, .f32⟩
  | 44 => ⟨S31x2048, .f32⟩
  | 45 => ⟨S4096x2048, .f32⟩
  | 46 => ⟨S4096x2048, .f32⟩
  | 47 => ⟨S4096x2048, .f32⟩
  | 48 => ⟨S_, .f32⟩
  | 49 => ⟨S2048, .f32⟩
  | 50 => ⟨S1x2048, .f32⟩
  | 51 => ⟨S_, .f32⟩
  | 52 => ⟨S2048, .f32⟩
  | 53 => ⟨S_, .f32⟩
  | 54 => ⟨S4126x2048, .f32⟩
  | 55 => ⟨S4126x2048, .f32⟩
  | 56 => ⟨S1x2048, .f32⟩
  | 57 => ⟨S_, .f32⟩
  | 58 => ⟨S31x2048, .f32⟩
  | 59 => ⟨S31x2048, .f32⟩
  | 60 => ⟨S4096x2048, .f32⟩
  | 61 => ⟨S4096x2048, .f32⟩
  | 62 => ⟨S4096x2048, .f32⟩
  | 63 => ⟨S_, .f32⟩
  | 64 => ⟨S2048, .f32⟩
  | 65 => ⟨S1x2048, .f32⟩
  | 66 => ⟨S_, .f32⟩
  | 67 => ⟨S2048, .f32⟩
  | 68 => ⟨S_, .f32⟩
  | 69 => ⟨S4126x2048, .f32⟩
  | 70 => ⟨S4126x2048, .f32⟩
  | 71 => ⟨S1x2048, .f32⟩
  | 72 => ⟨S_, .f32⟩
  | 73 => ⟨S31x2048, .f32⟩
  | 74 => ⟨S31x2048, .f32⟩
  | 75 => ⟨S4096x2048, .f32⟩
  | 76 => ⟨S4096x2048, .f32⟩
  | 77 => ⟨S4096x2048, .f32⟩
  | 78 => ⟨S_, .f32⟩
  | 79 => ⟨S2048, .f32⟩
  | 80 => ⟨S1x2048, .f32⟩
  | 81 => ⟨S_, .f32⟩
  | 82 => ⟨S2048, .f32⟩
  | 83 => ⟨S_, .f32⟩
  | 84 => ⟨S4126x2048, .f32⟩
  | 85 => ⟨S4126x2048, .f32⟩
  | 86 => ⟨S1x2048, .f32⟩
  | 87 => ⟨S_, .f32⟩
  | 88 => ⟨S31x2048, .f32⟩
  | 89 => ⟨S31x2048, .f32⟩
  | 90 => ⟨S4096x2048, .f32⟩
  | 91 => ⟨S4096x2048, .f32⟩
  | 92 => ⟨S4096x2048, .f32⟩
  | 93 => ⟨S_, .f32⟩
  | 94 => ⟨S2048, .f32⟩
  | 95 => ⟨S1x2048, .f32⟩
  | 96 => ⟨S_, .f32⟩
  | 97 => ⟨S2048, .f32⟩
  | 98 => ⟨S_, .f32⟩
  | 99 => ⟨S4126x2048, .f32⟩
  | 100 => ⟨S4126x2048, .f32⟩
  | 101 => ⟨S1x2048, .f32⟩
  | 102 => ⟨S_, .f32⟩
  | 103 => ⟨S31x2048, .f32⟩
  | 104 => ⟨S31x2048, .f32⟩
  | 105 => ⟨S4096x2048, .f32⟩
  | 106 => ⟨S4096x2048, .f32⟩
  | 107 => ⟨S4096x2048, .f32⟩
  | 108 => ⟨S_, .f32⟩
  | 109 => ⟨S2048, .f32⟩
  | 110 => ⟨S1x2048, .f32⟩
  | 111 => ⟨S_, .f32⟩
  | 112 => ⟨S2048, .f32⟩
  | 113 => ⟨S_, .f32⟩
  | 114 => ⟨S4126x2048, .f32⟩
  | 115 => ⟨S4126x2048, .f32⟩
  | 116 => ⟨S1x2048, .f32⟩
  | 117 => ⟨S_, .f32⟩
  | 118 => ⟨S31x2048, .f32⟩
  | 119 => ⟨S31x2048, .f32⟩
  | 120 => ⟨S4096x2048, .f32⟩
  | 121 => ⟨S4096x2048, .f32⟩
  | 122 => ⟨S4096x2048, .f32⟩
  | 123 => ⟨S_, .f32⟩
  | 124 => ⟨S2048, .f32⟩
  | 125 => ⟨S1x2048, .f32⟩
  | 126 => ⟨S_, .f32⟩
  | 127 => ⟨S2048, .f32⟩
  | _ => ⟨S2x4096x2048, .bf16⟩

abbrev hbmTy0_3 (i : Nat) : BufTy := match i % 128 with
  | 0 => ⟨S_, .f32⟩
  | 1 => ⟨S4126x2048, .f32⟩
  | 2 => ⟨S4126x2048, .f32⟩
  | 3 => ⟨S1x2048, .f32⟩
  | 4 => ⟨S_, .f32⟩
  | 5 => ⟨S31x2048, .f32⟩
  | 6 => ⟨S31x2048, .f32⟩
  | 7 => ⟨S4096x2048, .f32⟩
  | 8 => ⟨S4096x2048, .f32⟩
  | 9 => ⟨S4096x2048, .f32⟩
  | 10 => ⟨S_, .f32⟩
  | 11 => ⟨S2048, .f32⟩
  | 12 => ⟨S1x2048, .f32⟩
  | 13 => ⟨S_, .f32⟩
  | 14 => ⟨S2048, .f32⟩
  | 15 => ⟨S_, .f32⟩
  | 16 => ⟨S4126x2048, .f32⟩
  | 17 => ⟨S4126x2048, .f32⟩
  | 18 => ⟨S1x2048, .f32⟩
  | 19 => ⟨S_, .f32⟩
  | 20 => ⟨S31x2048, .f32⟩
  | 21 => ⟨S31x2048, .f32⟩
  | 22 => ⟨S4096x2048, .f32⟩
  | 23 => ⟨S4096x2048, .f32⟩
  | 24 => ⟨S4096x2048, .f32⟩
  | 25 => ⟨S_, .f32⟩
  | 26 => ⟨S2048, .f32⟩
  | 27 => ⟨S1x2048, .f32⟩
  | 28 => ⟨S_, .f32⟩
  | 29 => ⟨S2048, .f32⟩
  | 30 => ⟨S_, .f32⟩
  | 31 => ⟨S4126x2048, .f32⟩
  | 32 => ⟨S4126x2048, .f32⟩
  | 33 => ⟨S1x2048, .f32⟩
  | 34 => ⟨S_, .f32⟩
  | 35 => ⟨S31x2048, .f32⟩
  | 36 => ⟨S31x2048, .f32⟩
  | 37 => ⟨S4096x2048, .f32⟩
  | 38 => ⟨S4096x2048, .f32⟩
  | 39 => ⟨S4096x2048, .f32⟩
  | 40 => ⟨S_, .f32⟩
  | 41 => ⟨S2048, .f32⟩
  | 42 => ⟨S1x2048, .f32⟩
  | 43 => ⟨S_, .f32⟩
  | 44 => ⟨S2048, .f32⟩
  | 45 => ⟨S_, .f32⟩
  | 46 => ⟨S4126x2048, .f32⟩
  | 47 => ⟨S4126x2048, .f32⟩
  | 48 => ⟨S1x2048, .f32⟩
  | 49 => ⟨S_, .f32⟩
  | 50 => ⟨S31x2048, .f32⟩
  | 51 => ⟨S31x2048, .f32⟩
  | 52 => ⟨S4096x2048, .f32⟩
  | 53 => ⟨S4096x2048, .f32⟩
  | 54 => ⟨S4096x2048, .f32⟩
  | 55 => ⟨S_, .f32⟩
  | 56 => ⟨S2048, .f32⟩
  | 57 => ⟨S1x2048, .f32⟩
  | 58 => ⟨S_, .f32⟩
  | 59 => ⟨S2048, .f32⟩
  | 60 => ⟨S_, .f32⟩
  | 61 => ⟨S4126x2048, .f32⟩
  | 62 => ⟨S4126x2048, .f32⟩
  | 63 => ⟨S1x2048, .f32⟩
  | 64 => ⟨S_, .f32⟩
  | 65 => ⟨S31x2048, .f32⟩
  | 66 => ⟨S31x2048, .f32⟩
  | 67 => ⟨S4096x2048, .f32⟩
  | 68 => ⟨S4096x2048, .f32⟩
  | 69 => ⟨S4096x2048, .f32⟩
  | 70 => ⟨S_, .f32⟩
  | 71 => ⟨S2048, .f32⟩
  | 72 => ⟨S1x2048, .f32⟩
  | 73 => ⟨S_, .f32⟩
  | 74 => ⟨S2048, .f32⟩
  | 75 => ⟨S_, .f32⟩
  | 76 => ⟨S4126x2048, .f32⟩
  | 77 => ⟨S4126x2048, .f32⟩
  | 78 => ⟨S1x2048, .f32⟩
  | 79 => ⟨S_, .f32⟩
  | 80 => ⟨S31x2048, .f32⟩
  | 81 => ⟨S31x2048, .f32⟩
  | 82 => ⟨S4096x2048, .f32⟩
  | 83 => ⟨S4096x2048, .f32⟩
  | 84 => ⟨S4096x2048, .f32⟩
  | 85 => ⟨S_, .f32⟩
  | 86 => ⟨S2048, .f32⟩
  | 87 => ⟨S1x2048, .f32⟩
  | 88 => ⟨S_, .f32⟩
  | 89 => ⟨S2048, .f32⟩
  | 90 => ⟨S_, .f32⟩
  | 91 => ⟨S4126x2048, .f32⟩
  | 92 => ⟨S4126x2048, .f32⟩
  | 93 => ⟨S1x2048, .f32⟩
  | 94 => ⟨S_, .f32⟩
  | 95 => ⟨S31x2048, .f32⟩
  | 96 => ⟨S31x2048, .f32⟩
  | 97 => ⟨S4096x2048, .f32⟩
  | 98 => ⟨S4096x2048, .f32⟩
  | 99 => ⟨S4096x2048, .f32⟩
  | 100 => ⟨S_, .f32⟩
  | 101 => ⟨S2048, .f32⟩
  | 102 => ⟨S1x2048, .f32⟩
  | 103 => ⟨S_, .f32⟩
  | 104 => ⟨S2048, .f32⟩
  | 105 => ⟨S_, .f32⟩
  | 106 => ⟨S4126x2048, .f32⟩
  | 107 => ⟨S4126x2048, .f32⟩
  | 108 => ⟨S1x2048, .f32⟩
  | 109 => ⟨S_, .f32⟩
  | 110 => ⟨S31x2048, .f32⟩
  | 111 => ⟨S31x2048, .f32⟩
  | 112 => ⟨S4096x2048, .f32⟩
  | 113 => ⟨S4096x2048, .f32⟩
  | 114 => ⟨S4096x2048, .f32⟩
  | 115 => ⟨S_, .f32⟩
  | 116 => ⟨S2048, .f32⟩
  | 117 => ⟨S1x2048, .f32⟩
  | 118 => ⟨S_, .f32⟩
  | 119 => ⟨S2048, .f32⟩
  | 120 => ⟨S_, .f32⟩
  | 121 => ⟨S4126x2048, .f32⟩
  | 122 => ⟨S4126x2048, .f32⟩
  | 123 => ⟨S1x2048, .f32⟩
  | 124 => ⟨S_, .f32⟩
  | 125 => ⟨S31x2048, .f32⟩
  | 126 => ⟨S31x2048, .f32⟩
  | 127 => ⟨S4096x2048, .f32⟩
  | _ => ⟨S2x4096x2048, .bf16⟩

abbrev hbmTy0_4 (i : Nat) : BufTy := match i % 128 with
  | 0 => ⟨S4096x2048, .f32⟩
  | 1 => ⟨S4096x2048, .f32⟩
  | 2 => ⟨S_, .f32⟩
  | 3 => ⟨S2048, .f32⟩
  | 4 => ⟨S1x2048, .f32⟩
  | 5 => ⟨S_, .f32⟩
  | 6 => ⟨S2048, .f32⟩
  | 7 => ⟨S_, .f32⟩
  | 8 => ⟨S4126x2048, .f32⟩
  | 9 => ⟨S4126x2048, .f32⟩
  | 10 => ⟨S1x2048, .f32⟩
  | 11 => ⟨S_, .f32⟩
  | 12 => ⟨S31x2048, .f32⟩
  | 13 => ⟨S31x2048, .f32⟩
  | 14 => ⟨S4096x2048, .f32⟩
  | 15 => ⟨S4096x2048, .f32⟩
  | 16 => ⟨S4096x2048, .f32⟩
  | 17 => ⟨S_, .f32⟩
  | 18 => ⟨S2048, .f32⟩
  | 19 => ⟨S1x2048, .f32⟩
  | 20 => ⟨S_, .f32⟩
  | 21 => ⟨S2048, .f32⟩
  | 22 => ⟨S_, .f32⟩
  | 23 => ⟨S4126x2048, .f32⟩
  | 24 => ⟨S4126x2048, .f32⟩
  | 25 => ⟨S1x2048, .f32⟩
  | 26 => ⟨S_, .f32⟩
  | 27 => ⟨S31x2048, .f32⟩
  | 28 => ⟨S31x2048, .f32⟩
  | 29 => ⟨S4096x2048, .f32⟩
  | 30 => ⟨S4096x2048, .f32⟩
  | 31 => ⟨S4096x2048, .f32⟩
  | 32 => ⟨S_, .f32⟩
  | 33 => ⟨S2048, .f32⟩
  | 34 => ⟨S1x2048, .f32⟩
  | 35 => ⟨S_, .f32⟩
  | 36 => ⟨S2048, .f32⟩
  | 37 => ⟨S_, .f32⟩
  | 38 => ⟨S4126x2048, .f32⟩
  | 39 => ⟨S4126x2048, .f32⟩
  | 40 => ⟨S1x2048, .f32⟩
  | 41 => ⟨S_, .f32⟩
  | 42 => ⟨S31x2048, .f32⟩
  | 43 => ⟨S31x2048, .f32⟩
  | 44 => ⟨S4096x2048, .f32⟩
  | 45 => ⟨S4096x2048, .f32⟩
  | 46 => ⟨S4096x2048, .f32⟩
  | 47 => ⟨S_, .f32⟩
  | 48 => ⟨S2048, .f32⟩
  | 49 => ⟨S1x2048, .f32⟩
  | 50 => ⟨S_, .f32⟩
  | 51 => ⟨S2048, .f32⟩
  | 52 => ⟨S_, .f32⟩
  | 53 => ⟨S4126x2048, .f32⟩
  | 54 => ⟨S4126x2048, .f32⟩
  | 55 => ⟨S1x2048, .f32⟩
  | 56 => ⟨S_, .f32⟩
  | 57 => ⟨S31x2048, .f32⟩
  | 58 => ⟨S31x2048, .f32⟩
  | 59 => ⟨S4096x2048, .f32⟩
  | 60 => ⟨S4096x2048, .f32⟩
  | 61 => ⟨S4096x2048, .f32⟩
  | 62 => ⟨S_, .f32⟩
  | 63 => ⟨S2048, .f32⟩
  | 64 => ⟨S1x2048, .f32⟩
  | 65 => ⟨S_, .f32⟩
  | 66 => ⟨S2048, .f32⟩
  | 67 => ⟨S_, .f32⟩
  | 68 => ⟨S4126x2048, .f32⟩
  | 69 => ⟨S4126x2048, .f32⟩
  | 70 => ⟨S1x2048, .f32⟩
  | 71 => ⟨S_, .f32⟩
  | 72 => ⟨S31x2048, .f32⟩
  | 73 => ⟨S31x2048, .f32⟩
  | 74 => ⟨S4096x2048, .f32⟩
  | 75 => ⟨S4096x2048, .f32⟩
  | 76 => ⟨S4096x2048, .f32⟩
  | 77 => ⟨S_, .f32⟩
  | 78 => ⟨S2048, .f32⟩
  | 79 => ⟨S1x2048, .f32⟩
  | 80 => ⟨S_, .f32⟩
  | 81 => ⟨S2048, .f32⟩
  | 82 => ⟨S_, .f32⟩
  | 83 => ⟨S4126x2048, .f32⟩
  | 84 => ⟨S4126x2048, .f32⟩
  | 85 => ⟨S1x2048, .f32⟩
  | 86 => ⟨S_, .f32⟩
  | 87 => ⟨S31x2048, .f32⟩
  | 88 => ⟨S31x2048, .f32⟩
  | 89 => ⟨S4096x2048, .f32⟩
  | 90 => ⟨S4096x2048, .f32⟩
  | 91 => ⟨S4096x2048, .f32⟩
  | 92 => ⟨S_, .f32⟩
  | 93 => ⟨S2048, .f32⟩
  | 94 => ⟨S1x2048, .f32⟩
  | 95 => ⟨S_, .f32⟩
  | 96 => ⟨S2048, .f32⟩
  | 97 => ⟨S_, .f32⟩
  | 98 => ⟨S4126x2048, .f32⟩
  | 99 => ⟨S4126x2048, .f32⟩
  | 100 => ⟨S1x2048, .f32⟩
  | 101 => ⟨S_, .f32⟩
  | 102 => ⟨S31x2048, .f32⟩
  | 103 => ⟨S31x2048, .f32⟩
  | 104 => ⟨S4096x2048, .f32⟩
  | 105 => ⟨S4096x2048, .f32⟩
  | 106 => ⟨S4096x2048, .f32⟩
  | 107 => ⟨S_, .f32⟩
  | 108 => ⟨S2048, .f32⟩
  | 109 => ⟨S1x2048, .f32⟩
  | 110 => ⟨S_, .f32⟩
  | 111 => ⟨S2048, .f32⟩
  | 112 => ⟨S_, .f32⟩
  | 113 => ⟨S4126x2048, .f32⟩
  | 114 => ⟨S4126x2048, .f32⟩
  | 115 => ⟨S1x2048, .f32⟩
  | 116 => ⟨S_, .f32⟩
  | 117 => ⟨S31x2048, .f32⟩
  | 118 => ⟨S31x2048, .f32⟩
  | 119 => ⟨S4096x2048, .f32⟩
  | 120 => ⟨S4096x2048, .f32⟩
  | 121 => ⟨S4096x2048, .f32⟩
  | 122 => ⟨S_, .f32⟩
  | 123 => ⟨S2048, .f32⟩
  | 124 => ⟨S1x2048, .f32⟩
  | 125 => ⟨S_, .f32⟩
  | 126 => ⟨S2048, .f32⟩
  | 127 => ⟨S_, .f32⟩
  | _ => ⟨S2x4096x2048, .bf16⟩

abbrev hbmTy0_5 (i : Nat) : BufTy := match i % 128 with
  | 0 => ⟨S4126x2048, .f32⟩
  | 1 => ⟨S4126x2048, .f32⟩
  | 2 => ⟨S1x2048, .f32⟩
  | 3 => ⟨S_, .f32⟩
  | 4 => ⟨S31x2048, .f32⟩
  | 5 => ⟨S31x2048, .f32⟩
  | 6 => ⟨S4096x2048, .f32⟩
  | 7 => ⟨S4096x2048, .f32⟩
  | 8 => ⟨S4096x2048, .f32⟩
  | 9 => ⟨S_, .f32⟩
  | 10 => ⟨S2048, .f32⟩
  | 11 => ⟨S1x2048, .f32⟩
  | 12 => ⟨S_, .f32⟩
  | 13 => ⟨S2048, .f32⟩
  | 14 => ⟨S_, .f32⟩
  | 15 => ⟨S4126x2048, .f32⟩
  | 16 => ⟨S4126x2048, .f32⟩
  | 17 => ⟨S1x2048, .f32⟩
  | 18 => ⟨S_, .f32⟩
  | 19 => ⟨S31x2048, .f32⟩
  | 20 => ⟨S31x2048, .f32⟩
  | 21 => ⟨S4096x2048, .f32⟩
  | 22 => ⟨S4096x2048, .f32⟩
  | 23 => ⟨S4096x2048, .f32⟩
  | 24 => ⟨S_, .f32⟩
  | 25 => ⟨S2048, .f32⟩
  | 26 => ⟨S1x2048, .f32⟩
  | 27 => ⟨S_, .f32⟩
  | 28 => ⟨S2048, .f32⟩
  | 29 => ⟨S_, .f32⟩
  | 30 => ⟨S4126x2048, .f32⟩
  | 31 => ⟨S4126x2048, .f32⟩
  | 32 => ⟨S1x2048, .f32⟩
  | 33 => ⟨S_, .f32⟩
  | 34 => ⟨S31x2048, .f32⟩
  | 35 => ⟨S31x2048, .f32⟩
  | 36 => ⟨S4096x2048, .f32⟩
  | 37 => ⟨S4096x2048, .f32⟩
  | 38 => ⟨S4096x2048, .f32⟩
  | 39 => ⟨S_, .f32⟩
  | 40 => ⟨S2048, .f32⟩
  | 41 => ⟨S1x2048, .f32⟩
  | 42 => ⟨S_, .f32⟩
  | 43 => ⟨S2048, .f32⟩
  | 44 => ⟨S_, .f32⟩
  | 45 => ⟨S4126x2048, .f32⟩
  | 46 => ⟨S4126x2048, .f32⟩
  | 47 => ⟨S1x2048, .f32⟩
  | 48 => ⟨S_, .f32⟩
  | 49 => ⟨S31x2048, .f32⟩
  | 50 => ⟨S31x2048, .f32⟩
  | 51 => ⟨S4096x2048, .f32⟩
  | 52 => ⟨S4096x2048, .f32⟩
  | 53 => ⟨S4096x2048, .f32⟩
  | 54 => ⟨S_, .f32⟩
  | 55 => ⟨S2048, .f32⟩
  | 56 => ⟨S1x2048, .f32⟩
  | 57 => ⟨S_, .f32⟩
  | 58 => ⟨S2048, .f32⟩
  | 59 => ⟨S_, .f32⟩
  | 60 => ⟨S4126x2048, .f32⟩
  | 61 => ⟨S4126x2048, .f32⟩
  | 62 => ⟨S1x2048, .f32⟩
  | 63 => ⟨S_, .f32⟩
  | 64 => ⟨S31x2048, .f32⟩
  | 65 => ⟨S31x2048, .f32⟩
  | 66 => ⟨S4096x2048, .f32⟩
  | 67 => ⟨S4096x2048, .f32⟩
  | 68 => ⟨S4096x2048, .f32⟩
  | 69 => ⟨S_, .f32⟩
  | 70 => ⟨S2048, .f32⟩
  | 71 => ⟨S1x2048, .f32⟩
  | 72 => ⟨S_, .f32⟩
  | 73 => ⟨S2048, .f32⟩
  | 74 => ⟨S_, .f32⟩
  | 75 => ⟨S4126x2048, .f32⟩
  | 76 => ⟨S4126x2048, .f32⟩
  | 77 => ⟨S1x2048, .f32⟩
  | 78 => ⟨S_, .f32⟩
  | 79 => ⟨S31x2048, .f32⟩
  | 80 => ⟨S31x2048, .f32⟩
  | 81 => ⟨S30x2048, .f32⟩
  | 82 => ⟨S4096x2048, .f32⟩
  | 83 => ⟨S4096x2048, .f32⟩
  | 84 => ⟨S4096x2048, .f32⟩
  | 85 => ⟨S4096x2048, .f32⟩
  | 86 => ⟨S1x4096x2048, .f32⟩
  | 87 => ⟨S1x4096x2048, .f32⟩
  | 88 => ⟨S2x4096x2048, .f32⟩
  | 89 => ⟨S2x4096x2048, .bf16⟩
  | _ => ⟨S2x4096x2048, .bf16⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2x4096x2048, .bf16⟩

abbrev bufTy : (tb : Table) → Fin (tcTables nBuf tb) → BufTy
  | .hbm, ⟨i, _⟩ => hbmTy i
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_v236 : Ref sig .tc := ⟨.hbm, 246, rfl⟩
abbrev main_v237 : Ref sig .tc := ⟨.hbm, 247, rfl⟩
abbrev main_v238 : Ref sig .tc := ⟨.hbm, 248, rfl⟩
abbrev main_v239 : Ref sig .tc := ⟨.hbm, 249, rfl⟩
abbrev main_v240 : Ref sig .tc := ⟨.hbm, 250, rfl⟩
abbrev main_v241 : Ref sig .tc := ⟨.hbm, 251, rfl⟩
abbrev main_cst_6 : Ref sig .tc := ⟨.hbm, 252, rfl⟩
abbrev main_v242 : Ref sig .tc := ⟨.hbm, 253, rfl⟩
abbrev main_v243 : Ref sig .tc := ⟨.hbm, 254, rfl⟩
abbrev main_cst_7 : Ref sig .tc := ⟨.hbm, 255, rfl⟩
abbrev main_v244 : Ref sig .tc := ⟨.hbm, 256, rfl⟩
abbrev main_v245 : Ref sig .tc := ⟨.hbm, 257, rfl⟩
abbrev main_v246 : Ref sig .tc := ⟨.hbm, 258, rfl⟩
abbrev main_v247 : Ref sig .tc := ⟨.hbm, 259, rfl⟩
abbrev main_v248 : Ref sig .tc := ⟨.hbm, 260, rfl⟩
abbrev main_cst_8 : Ref sig .tc := ⟨.hbm, 261, rfl⟩
abbrev main_v249 : Ref sig .tc := ⟨.hbm, 262, rfl⟩
abbrev main_v250 : Ref sig .tc := ⟨.hbm, 263, rfl⟩
abbrev main_cst_9 : Ref sig .tc := ⟨.hbm, 264, rfl⟩
abbrev main_v251 : Ref sig .tc := ⟨.hbm, 265, rfl⟩
abbrev main_cst_10 : Ref sig .tc := ⟨.hbm, 266, rfl⟩
abbrev main_v252 : Ref sig .tc := ⟨.hbm, 267, rfl⟩
abbrev main_v253 : Ref sig .tc := ⟨.hbm, 268, rfl⟩
abbrev main_cst_11 : Ref sig .tc := ⟨.hbm, 269, rfl⟩
abbrev main_v254 : Ref sig .tc := ⟨.hbm, 270, rfl⟩
abbrev main_v255 : Ref sig .tc := ⟨.hbm, 271, rfl⟩
abbrev main_v256 : Ref sig .tc := ⟨.hbm, 272, rfl⟩
abbrev main_v257 : Ref sig .tc := ⟨.hbm, 273, rfl⟩
abbrev main_cst_12 : Ref sig .tc := ⟨.hbm, 274, rfl⟩
abbrev main_v258 : Ref sig .tc := ⟨.hbm, 275, rfl⟩
abbrev main_v259 : Ref sig .tc := ⟨.hbm, 276, rfl⟩
abbrev main_cst_13 : Ref sig .tc := ⟨.hbm, 277, rfl⟩
abbrev main_v260 : Ref sig .tc := ⟨.hbm, 278, rfl⟩
abbrev main_cst_14 : Ref sig .tc := ⟨.hbm, 279, rfl⟩
abbrev main_v261 : Ref sig .tc := ⟨.hbm, 280, rfl⟩
abbrev main_v262 : Ref sig .tc := ⟨.hbm, 281, rfl⟩
abbrev main_v263 : Ref sig .tc := ⟨.hbm, 282, rfl⟩
abbrev main_cst_15 : Ref sig .tc := ⟨.hbm, 283, rfl⟩
abbrev main_v264 : Ref sig .tc := ⟨.hbm, 284, rfl⟩
abbrev main_v265 : Ref sig .tc := ⟨.hbm, 285, rfl⟩
abbrev main_v266 : Ref sig .tc := ⟨.hbm, 286, rfl⟩
abbrev main_v267 : Ref sig .tc := ⟨.hbm, 287, rfl⟩
abbrev main_v268 : Ref sig .tc := ⟨.hbm, 288, rfl⟩
abbrev main_cst_16 : Ref sig .tc := ⟨.hbm, 289, rfl⟩
abbrev main_v269 : Ref sig .tc := ⟨.hbm, 290, rfl⟩
abbrev main_v270 : Ref sig .tc := ⟨.hbm, 291, rfl⟩
abbrev main_cst_17 : Ref sig .tc := ⟨.hbm, 292, rfl⟩
abbrev main_v271 : Ref sig .tc := ⟨.hbm, 293, rfl⟩
abbrev main_cst_18 : Ref sig .tc := ⟨.hbm, 294, rfl⟩
abbrev main_v272 : Ref sig .tc := ⟨.hbm, 295, rfl⟩
abbrev main_v273 : Ref sig .tc := ⟨.hbm, 296, rfl⟩
abbrev main_v274 : Ref sig .tc := ⟨.hbm, 297, rfl⟩
abbrev main_cst_19 : Ref sig .tc := ⟨.hbm, 298, rfl⟩
abbrev main_v275 : Ref sig .tc := ⟨.hbm, 299, rfl⟩
abbrev main_v276 : Ref sig .tc := ⟨.hbm, 300, rfl⟩
abbrev main_v277 : Ref sig .tc := ⟨.hbm, 301, rfl⟩
abbrev main_v278 : Ref sig .tc := ⟨.hbm, 302, rfl⟩
abbrev main_v279 : Ref sig .tc := ⟨.hbm, 303, rfl⟩
abbrev main_cst_20 : Ref sig .tc := ⟨.hbm, 304, rfl⟩
abbrev main_v280 : Ref sig .tc := ⟨.hbm, 305, rfl⟩
abbrev main_v281 : Ref sig .tc := ⟨.hbm, 306, rfl⟩
abbrev main_cst_21 : Ref sig .tc := ⟨.hbm, 307, rfl⟩
abbrev main_v282 : Ref sig .tc := ⟨.hbm, 308, rfl⟩
abbrev main_cst_22 : Ref sig .tc := ⟨.hbm, 309, rfl⟩
abbrev main_v283 : Ref sig .tc := ⟨.hbm, 310, rfl⟩
abbrev main_v284 : Ref sig .tc := ⟨.hbm, 311, rfl⟩
abbrev main_v285 : Ref sig .tc := ⟨.hbm, 312, rfl⟩
abbrev main_cst_23 : Ref sig .tc := ⟨.hbm, 313, rfl⟩
abbrev main_v286 : Ref sig .tc := ⟨.hbm, 314, rfl⟩
abbrev main_v287 : Ref sig .tc := ⟨.hbm, 315, rfl⟩
abbrev main_v288 : Ref sig .tc := ⟨.hbm, 316, rfl⟩
abbrev main_v289 : Ref sig .tc := ⟨.hbm, 317, rfl⟩
abbrev main_v290 : Ref sig .tc := ⟨.hbm, 318, rfl⟩
abbrev main_cst_24 : Ref sig .tc := ⟨.hbm, 319, rfl⟩
abbrev main_v291 : Ref sig .tc := ⟨.hbm, 320, rfl⟩
abbrev main_v292 : Ref sig .tc := ⟨.hbm, 321, rfl⟩
abbrev main_cst_25 : Ref sig .tc := ⟨.hbm, 322, rfl⟩
abbrev main_v293 : Ref sig .tc := ⟨.hbm, 323, rfl⟩
abbrev main_cst_26 : Ref sig .tc := ⟨.hbm, 324, rfl⟩
abbrev main_v294 : Ref sig .tc := ⟨.hbm, 325, rfl⟩
abbrev main_v295 : Ref sig .tc := ⟨.hbm, 326, rfl⟩
abbrev main_v296 : Ref sig .tc := ⟨.hbm, 327, rfl⟩
abbrev main_cst_27 : Ref sig .tc := ⟨.hbm, 328, rfl⟩
abbrev main_v297 : Ref sig .tc := ⟨.hbm, 329, rfl⟩
abbrev main_v298 : Ref sig .tc := ⟨.hbm, 330, rfl⟩
abbrev main_v299 : Ref sig .tc := ⟨.hbm, 331, rfl⟩
abbrev main_v300 : Ref sig .tc := ⟨.hbm, 332, rfl⟩
abbrev main_v301 : Ref sig .tc := ⟨.hbm, 333, rfl⟩
abbrev main_cst_28 : Ref sig .tc := ⟨.hbm, 334, rfl⟩
abbrev main_v302 : Ref sig .tc := ⟨.hbm, 335, rfl⟩
abbrev main_v303 : Ref sig .tc := ⟨.hbm, 336, rfl⟩
abbrev main_cst_29 : Ref sig .tc := ⟨.hbm, 337, rfl⟩
abbrev main_v304 : Ref sig .tc := ⟨.hbm, 338, rfl⟩
abbrev main_cst_30 : Ref sig .tc := ⟨.hbm, 339, rfl⟩
abbrev main_v305 : Ref sig .tc := ⟨.hbm, 340, rfl⟩
abbrev main_v306 : Ref sig .tc := ⟨.hbm, 341, rfl⟩
abbrev main_v307 : Ref sig .tc := ⟨.hbm, 342, rfl⟩
abbrev main_cst_31 : Ref sig .tc := ⟨.hbm, 343, rfl⟩
abbrev main_v308 : Ref sig .tc := ⟨.hbm, 344, rfl⟩
abbrev main_v309 : Ref sig .tc := ⟨.hbm, 345, rfl⟩
abbrev main_v310 : Ref sig .tc := ⟨.hbm, 346, rfl⟩
abbrev main_v311 : Ref sig .tc := ⟨.hbm, 347, rfl⟩
abbrev main_v312 : Ref sig .tc := ⟨.hbm, 348, rfl⟩
abbrev main_cst_32 : Ref sig .tc := ⟨.hbm, 349, rfl⟩
abbrev main_v313 : Ref sig .tc := ⟨.hbm, 350, rfl⟩
abbrev main_v314 : Ref sig .tc := ⟨.hbm, 351, rfl⟩
abbrev main_cst_33 : Ref sig .tc := ⟨.hbm, 352, rfl⟩
abbrev main_v315 : Ref sig .tc := ⟨.hbm, 353, rfl⟩
abbrev main_cst_34 : Ref sig .tc := ⟨.hbm, 354, rfl⟩
abbrev main_v316 : Ref sig .tc := ⟨.hbm, 355, rfl⟩
abbrev main_v317 : Ref sig .tc := ⟨.hbm, 356, rfl⟩
abbrev main_v318 : Ref sig .tc := ⟨.hbm, 357, rfl⟩
abbrev main_cst_35 : Ref sig .tc := ⟨.hbm, 358, rfl⟩
abbrev main_v319 : Ref sig .tc := ⟨.hbm, 359, rfl⟩
abbrev main_v320 : Ref sig .tc := ⟨.hbm, 360, rfl⟩
abbrev main_v321 : Ref sig .tc := ⟨.hbm, 361, rfl⟩
abbrev main_v322 : Ref sig .tc := ⟨.hbm, 362, rfl⟩
abbrev main_v323 : Ref sig .tc := ⟨.hbm, 363, rfl⟩
abbrev main_cst_36 : Ref sig .tc := ⟨.hbm, 364, rfl⟩
abbrev main_v324 : Ref sig .tc := ⟨.hbm, 365, rfl⟩
abbrev main_v325 : Ref sig .tc := ⟨.hbm, 366, rfl⟩
abbrev main_cst_37 : Ref sig .tc := ⟨.hbm, 367, rfl⟩
abbrev main_v326 : Ref sig .tc := ⟨.hbm, 368, rfl⟩
abbrev main_cst_38 : Ref sig .tc := ⟨.hbm, 369, rfl⟩
abbrev main_v327 : Ref sig .tc := ⟨.hbm, 370, rfl⟩
abbrev main_v328 : Ref sig .tc := ⟨.hbm, 371, rfl⟩
abbrev main_v329 : Ref sig .tc := ⟨.hbm, 372, rfl⟩
abbrev main_cst_39 : Ref sig .tc := ⟨.hbm, 373, rfl⟩
abbrev main_v330 : Ref sig .tc := ⟨.hbm, 374, rfl⟩
abbrev main_v331 : Ref sig .tc := ⟨.hbm, 375, rfl⟩
abbrev main_v332 : Ref sig .tc := ⟨.hbm, 376, rfl⟩
abbrev main_v333 : Ref sig .tc := ⟨.hbm, 377, rfl⟩
abbrev main_v334 : Ref sig .tc := ⟨.hbm, 378, rfl⟩
abbrev main_cst_40 : Ref sig .tc := ⟨.hbm, 379, rfl⟩
abbrev main_v335 : Ref sig .tc := ⟨.hbm, 380, rfl⟩
abbrev main_v336 : Ref sig .tc := ⟨.hbm, 381, rfl⟩
abbrev main_cst_41 : Ref sig .tc := ⟨.hbm, 382, rfl⟩
abbrev main_v337 : Ref sig .tc := ⟨.hbm, 383, rfl⟩
abbrev main_cst_42 : Ref sig .tc := ⟨.hbm, 384, rfl⟩
abbrev main_v338 : Ref sig .tc := ⟨.hbm, 385, rfl⟩
abbrev main_v339 : Ref sig .tc := ⟨.hbm, 386, rfl⟩
abbrev main_v340 : Ref sig .tc := ⟨.hbm, 387, rfl⟩
abbrev main_cst_43 : Ref sig .tc := ⟨.hbm, 388, rfl⟩
abbrev main_v341 : Ref sig .tc := ⟨.hbm, 389, rfl⟩
abbrev main_v342 : Ref sig .tc := ⟨.hbm, 390, rfl⟩
abbrev main_v343 : Ref sig .tc := ⟨.hbm, 391, rfl⟩
abbrev main_v344 : Ref sig .tc := ⟨.hbm, 392, rfl⟩
abbrev main_v345 : Ref sig .tc := ⟨.hbm, 393, rfl⟩
abbrev main_cst_44 : Ref sig .tc := ⟨.hbm, 394, rfl⟩
abbrev main_v346 : Ref sig .tc := ⟨.hbm, 395, rfl⟩
abbrev main_v347 : Ref sig .tc := ⟨.hbm, 396, rfl⟩
abbrev main_cst_45 : Ref sig .tc := ⟨.hbm, 397, rfl⟩
abbrev main_v348 : Ref sig .tc := ⟨.hbm, 398, rfl⟩
abbrev main_cst_46 : Ref sig .tc := ⟨.hbm, 399, rfl⟩
abbrev main_v349 : Ref sig .tc := ⟨.hbm, 400, rfl⟩
abbrev main_v350 : Ref sig .tc := ⟨.hbm, 401, rfl⟩
abbrev main_v351 : Ref sig .tc := ⟨.hbm, 402, rfl⟩
abbrev main_cst_47 : Ref sig .tc := ⟨.hbm, 403, rfl⟩
abbrev main_v352 : Ref sig .tc := ⟨.hbm, 404, rfl⟩
abbrev main_v353 : Ref sig .tc := ⟨.hbm, 405, rfl⟩
abbrev main_v354 : Ref sig .tc := ⟨.hbm, 406, rfl⟩
abbrev main_v355 : Ref sig .tc := ⟨.hbm, 407, rfl⟩
abbrev main_v356 : Ref sig .tc := ⟨.hbm, 408, rfl⟩
abbrev main_cst_48 : Ref sig .tc := ⟨.hbm, 409, rfl⟩
abbrev main_v357 : Ref sig .tc := ⟨.hbm, 410, rfl⟩
abbrev main_v358 : Ref sig .tc := ⟨.hbm, 411, rfl⟩
abbrev main_cst_49 : Ref sig .tc := ⟨.hbm, 412, rfl⟩
abbrev main_v359 : Ref sig .tc := ⟨.hbm, 413, rfl⟩
abbrev main_cst_50 : Ref sig .tc := ⟨.hbm, 414, rfl⟩
abbrev main_v360 : Ref sig .tc := ⟨.hbm, 415, rfl⟩
abbrev main_v361 : Ref sig .tc := ⟨.hbm, 416, rfl⟩
abbrev main_v362 : Ref sig .tc := ⟨.hbm, 417, rfl⟩
abbrev main_cst_51 : Ref sig .tc := ⟨.hbm, 418, rfl⟩
abbrev main_v363 : Ref sig .tc := ⟨.hbm, 419, rfl⟩
abbrev main_v364 : Ref sig .tc := ⟨.hbm, 420, rfl⟩
abbrev main_v365 : Ref sig .tc := ⟨.hbm, 421, rfl⟩
abbrev main_v366 : Ref sig .tc := ⟨.hbm, 422, rfl⟩
abbrev main_v367 : Ref sig .tc := ⟨.hbm, 423, rfl⟩
abbrev main_cst_52 : Ref sig .tc := ⟨.hbm, 424, rfl⟩
abbrev main_v368 : Ref sig .tc := ⟨.hbm, 425, rfl⟩
abbrev main_v369 : Ref sig .tc := ⟨.hbm, 426, rfl⟩
abbrev main_cst_53 : Ref sig .tc := ⟨.hbm, 427, rfl⟩
abbrev main_v370 : Ref sig .tc := ⟨.hbm, 428, rfl⟩
abbrev main_cst_54 : Ref sig .tc := ⟨.hbm, 429, rfl⟩
abbrev main_v371 : Ref sig .tc := ⟨.hbm, 430, rfl⟩
abbrev main_v372 : Ref sig .tc := ⟨.hbm, 431, rfl⟩
abbrev main_v373 : Ref sig .tc := ⟨.hbm, 432, rfl⟩
abbrev main_cst_55 : Ref sig .tc := ⟨.hbm, 433, rfl⟩
abbrev main_v374 : Ref sig .tc := ⟨.hbm, 434, rfl⟩
abbrev main_v375 : Ref sig .tc := ⟨.hbm, 435, rfl⟩
abbrev main_v376 : Ref sig .tc := ⟨.hbm, 436, rfl⟩
abbrev main_v377 : Ref sig .tc := ⟨.hbm, 437, rfl⟩
abbrev main_v378 : Ref sig .tc := ⟨.hbm, 438, rfl⟩
abbrev main_cst_56 : Ref sig .tc := ⟨.hbm, 439, rfl⟩
abbrev main_v379 : Ref sig .tc := ⟨.hbm, 440, rfl⟩
abbrev main_v380 : Ref sig .tc := ⟨.hbm, 441, rfl⟩
abbrev main_cst_57 : Ref sig .tc := ⟨.hbm, 442, rfl⟩
abbrev main_v381 : Ref sig .tc := ⟨.hbm, 443, rfl⟩
abbrev main_cst_58 : Ref sig .tc := ⟨.hbm, 444, rfl⟩
abbrev main_v382 : Ref sig .tc := ⟨.hbm, 445, rfl⟩
abbrev main_v383 : Ref sig .tc := ⟨.hbm, 446, rfl⟩
abbrev main_v384 : Ref sig .tc := ⟨.hbm, 447, rfl⟩
abbrev main_cst_59 : Ref sig .tc := ⟨.hbm, 448, rfl⟩
abbrev main_v385 : Ref sig .tc := ⟨.hbm, 449, rfl⟩
abbrev main_v386 : Ref sig .tc := ⟨.hbm, 450, rfl⟩
abbrev main_v387 : Ref sig .tc := ⟨.hbm, 451, rfl⟩
abbrev main_v388 : Ref sig .tc := ⟨.hbm, 452, rfl⟩
abbrev main_v389 : Ref sig .tc := ⟨.hbm, 453, rfl⟩
abbrev main_cst_60 : Ref sig .tc := ⟨.hbm, 454, rfl⟩
abbrev main_v390 : Ref sig .tc := ⟨.hbm, 455, rfl⟩
abbrev main_v391 : Ref sig .tc := ⟨.hbm, 456, rfl⟩
abbrev main_cst_61 : Ref sig .tc := ⟨.hbm, 457, rfl⟩
abbrev main_v392 : Ref sig .tc := ⟨.hbm, 458, rfl⟩
abbrev main_cst_62 : Ref sig .tc := ⟨.hbm, 459, rfl⟩
abbrev main_v393 : Ref sig .tc := ⟨.hbm, 460, rfl⟩
abbrev main_v394 : Ref sig .tc := ⟨.hbm, 461, rfl⟩
abbrev main_v395 : Ref sig .tc := ⟨.hbm, 462, rfl⟩
abbrev main_cst_63 : Ref sig .tc := ⟨.hbm, 463, rfl⟩
abbrev main_v396 : Ref sig .tc := ⟨.hbm, 464, rfl⟩
abbrev main_v397 : Ref sig .tc := ⟨.hbm, 465, rfl⟩
abbrev main_v398 : Ref sig .tc := ⟨.hbm, 466, rfl⟩
abbrev main_v399 : Ref sig .tc := ⟨.hbm, 467, rfl⟩
abbrev main_v400 : Ref sig .tc := ⟨.hbm, 468, rfl⟩
abbrev main_cst_64 : Ref sig .tc := ⟨.hbm, 469, rfl⟩
abbrev main_v401 : Ref sig .tc := ⟨.hbm, 470, rfl⟩
abbrev main_v402 : Ref sig .tc := ⟨.hbm, 471, rfl⟩
abbrev main_cst_65 : Ref sig .tc := ⟨.hbm, 472, rfl⟩
abbrev main_v403 : Ref sig .tc := ⟨.hbm, 473, rfl⟩
abbrev main_cst_66 : Ref sig .tc := ⟨.hbm, 474, rfl⟩
abbrev main_v404 : Ref sig .tc := ⟨.hbm, 475, rfl⟩
abbrev main_v405 : Ref sig .tc := ⟨.hbm, 476, rfl⟩
abbrev main_v406 : Ref sig .tc := ⟨.hbm, 477, rfl⟩
abbrev main_cst_67 : Ref sig .tc := ⟨.hbm, 478, rfl⟩
abbrev main_v407 : Ref sig .tc := ⟨.hbm, 479, rfl⟩
abbrev main_v408 : Ref sig .tc := ⟨.hbm, 480, rfl⟩
abbrev main_v409 : Ref sig .tc := ⟨.hbm, 481, rfl⟩
abbrev main_v410 : Ref sig .tc := ⟨.hbm, 482, rfl⟩
abbrev main_v411 : Ref sig .tc := ⟨.hbm, 483, rfl⟩
abbrev main_cst_68 : Ref sig .tc := ⟨.hbm, 484, rfl⟩
abbrev main_v412 : Ref sig .tc := ⟨.hbm, 485, rfl⟩
abbrev main_v413 : Ref sig .tc := ⟨.hbm, 486, rfl⟩
abbrev main_cst_69 : Ref sig .tc := ⟨.hbm, 487, rfl⟩
abbrev main_v414 : Ref sig .tc := ⟨.hbm, 488, rfl⟩
abbrev main_cst_70 : Ref sig .tc := ⟨.hbm, 489, rfl⟩
abbrev main_v415 : Ref sig .tc := ⟨.hbm, 490, rfl⟩
abbrev main_v416 : Ref sig .tc := ⟨.hbm, 491, rfl⟩
abbrev main_v417 : Ref sig .tc := ⟨.hbm, 492, rfl⟩
abbrev main_cst_71 : Ref sig .tc := ⟨.hbm, 493, rfl⟩
abbrev main_v418 : Ref sig .tc := ⟨.hbm, 494, rfl⟩
abbrev main_v419 : Ref sig .tc := ⟨.hbm, 495, rfl⟩
abbrev main_v420 : Ref sig .tc := ⟨.hbm, 496, rfl⟩
abbrev main_v421 : Ref sig .tc := ⟨.hbm, 497, rfl⟩
abbrev main_v422 : Ref sig .tc := ⟨.hbm, 498, rfl⟩
abbrev main_cst_72 : Ref sig .tc := ⟨.hbm, 499, rfl⟩
abbrev main_v423 : Ref sig .tc := ⟨.hbm, 500, rfl⟩
abbrev main_v424 : Ref sig .tc := ⟨.hbm, 501, rfl⟩
abbrev main_cst_73 : Ref sig .tc := ⟨.hbm, 502, rfl⟩
abbrev main_v425 : Ref sig .tc := ⟨.hbm, 503, rfl⟩
abbrev main_cst_74 : Ref sig .tc := ⟨.hbm, 504, rfl⟩
abbrev main_v426 : Ref sig .tc := ⟨.hbm, 505, rfl⟩
abbrev main_v427 : Ref sig .tc := ⟨.hbm, 506, rfl⟩
abbrev main_v428 : Ref sig .tc := ⟨.hbm, 507, rfl⟩
abbrev main_cst_75 : Ref sig .tc := ⟨.hbm, 508, rfl⟩
abbrev main_v429 : Ref sig .tc := ⟨.hbm, 509, rfl⟩
abbrev main_v430 : Ref sig .tc := ⟨.hbm, 510, rfl⟩
abbrev main_v431 : Ref sig .tc := ⟨.hbm, 511, rfl⟩
abbrev main_v432 : Ref sig .tc := ⟨.hbm, 512, rfl⟩
abbrev main_v433 : Ref sig .tc := ⟨.hbm, 513, rfl⟩
abbrev main_cst_76 : Ref sig .tc := ⟨.hbm, 514, rfl⟩
abbrev main_v434 : Ref sig .tc := ⟨.hbm, 515, rfl⟩
abbrev main_v435 : Ref sig .tc := ⟨.hbm, 516, rfl⟩
abbrev main_cst_77 : Ref sig .tc := ⟨.hbm, 517, rfl⟩
abbrev main_v436 : Ref sig .tc := ⟨.hbm, 518, rfl⟩
abbrev main_cst_78 : Ref sig .tc := ⟨.hbm, 519, rfl⟩
abbrev main_v437 : Ref sig .tc := ⟨.hbm, 520, rfl⟩
abbrev main_v438 : Ref sig .tc := ⟨.hbm, 521, rfl⟩
abbrev main_v439 : Ref sig .tc := ⟨.hbm, 522, rfl⟩
abbrev main_cst_79 : Ref sig .tc := ⟨.hbm, 523, rfl⟩
abbrev main_v440 : Ref sig .tc := ⟨.hbm, 524, rfl⟩
abbrev main_v441 : Ref sig .tc := ⟨.hbm, 525, rfl⟩
abbrev main_v442 : Ref sig .tc := ⟨.hbm, 526, rfl⟩
abbrev main_v443 : Ref sig .tc := ⟨.hbm, 527, rfl⟩
abbrev main_v444 : Ref sig .tc := ⟨.hbm, 528, rfl⟩
abbrev main_cst_80 : Ref sig .tc := ⟨.hbm, 529, rfl⟩
abbrev main_v445 : Ref sig .tc := ⟨.hbm, 530, rfl⟩
abbrev main_v446 : Ref sig .tc := ⟨.hbm, 531, rfl⟩
abbrev main_cst_81 : Ref sig .tc := ⟨.hbm, 532, rfl⟩
abbrev main_v447 : Ref sig .tc := ⟨.hbm, 533, rfl⟩
abbrev main_cst_82 : Ref sig .tc := ⟨.hbm, 534, rfl⟩
abbrev main_v448 : Ref sig .tc := ⟨.hbm, 535, rfl⟩
abbrev main_v449 : Ref sig .tc := ⟨.hbm, 536, rfl⟩
abbrev main_v450 : Ref sig .tc := ⟨.hbm, 537, rfl⟩
abbrev main_cst_83 : Ref sig .tc := ⟨.hbm, 538, rfl⟩
abbrev main_v451 : Ref sig .tc := ⟨.hbm, 539, rfl⟩
abbrev main_v452 : Ref sig .tc := ⟨.hbm, 540, rfl⟩
abbrev main_v453 : Ref sig .tc := ⟨.hbm, 541, rfl⟩
abbrev main_v454 : Ref sig .tc := ⟨.hbm, 542, rfl⟩
abbrev main_v455 : Ref sig .tc := ⟨.hbm, 543, rfl⟩
abbrev main_cst_84 : Ref sig .tc := ⟨.hbm, 544, rfl⟩
abbrev main_v456 : Ref sig .tc := ⟨.hbm, 545, rfl⟩
abbrev main_v457 : Ref sig .tc := ⟨.hbm, 546, rfl⟩
abbrev main_cst_85 : Ref sig .tc := ⟨.hbm, 547, rfl⟩
abbrev main_v458 : Ref sig .tc := ⟨.hbm, 548, rfl⟩
abbrev main_cst_86 : Ref sig .tc := ⟨.hbm, 549, rfl⟩
abbrev main_v459 : Ref sig .tc := ⟨.hbm, 550, rfl⟩
abbrev main_v460 : Ref sig .tc := ⟨.hbm, 551, rfl⟩
abbrev main_v461 : Ref sig .tc := ⟨.hbm, 552, rfl⟩
abbrev main_cst_87 : Ref sig .tc := ⟨.hbm, 553, rfl⟩
abbrev main_v462 : Ref sig .tc := ⟨.hbm, 554, rfl⟩
abbrev main_v463 : Ref sig .tc := ⟨.hbm, 555, rfl⟩
abbrev main_v464 : Ref sig .tc := ⟨.hbm, 556, rfl⟩
abbrev main_v465 : Ref sig .tc := ⟨.hbm, 557, rfl⟩
abbrev main_v466 : Ref sig .tc := ⟨.hbm, 558, rfl⟩
abbrev main_cst_88 : Ref sig .tc := ⟨.hbm, 559, rfl⟩
abbrev main_v467 : Ref sig .tc := ⟨.hbm, 560, rfl⟩
abbrev main_v468 : Ref sig .tc := ⟨.hbm, 561, rfl⟩
abbrev main_cst_89 : Ref sig .tc := ⟨.hbm, 562, rfl⟩
abbrev main_v469 : Ref sig .tc := ⟨.hbm, 563, rfl⟩
abbrev main_cst_90 : Ref sig .tc := ⟨.hbm, 564, rfl⟩
abbrev main_v470 : Ref sig .tc := ⟨.hbm, 565, rfl⟩
abbrev main_v471 : Ref sig .tc := ⟨.hbm, 566, rfl⟩
abbrev main_v472 : Ref sig .tc := ⟨.hbm, 567, rfl⟩
abbrev main_cst_91 : Ref sig .tc := ⟨.hbm, 568, rfl⟩
abbrev main_v473 : Ref sig .tc := ⟨.hbm, 569, rfl⟩
abbrev main_v474 : Ref sig .tc := ⟨.hbm, 570, rfl⟩
abbrev main_v475 : Ref sig .tc := ⟨.hbm, 571, rfl⟩
abbrev main_v476 : Ref sig .tc := ⟨.hbm, 572, rfl⟩
abbrev main_v477 : Ref sig .tc := ⟨.hbm, 573, rfl⟩
abbrev main_cst_92 : Ref sig .tc := ⟨.hbm, 574, rfl⟩
abbrev main_v478 : Ref sig .tc := ⟨.hbm, 575, rfl⟩
abbrev main_v479 : Ref sig .tc := ⟨.hbm, 576, rfl⟩
abbrev main_cst_93 : Ref sig .tc := ⟨.hbm, 577, rfl⟩
abbrev main_v480 : Ref sig .tc := ⟨.hbm, 578, rfl⟩
abbrev main_cst_94 : Ref sig .tc := ⟨.hbm, 579, rfl⟩
abbrev main_v481 : Ref sig .tc := ⟨.hbm, 580, rfl⟩
abbrev main_v482 : Ref sig .tc := ⟨.hbm, 581, rfl⟩
abbrev main_v483 : Ref sig .tc := ⟨.hbm, 582, rfl⟩
abbrev main_cst_95 : Ref sig .tc := ⟨.hbm, 583, rfl⟩
abbrev main_v484 : Ref sig .tc := ⟨.hbm, 584, rfl⟩
abbrev main_v485 : Ref sig .tc := ⟨.hbm, 585, rfl⟩
abbrev main_v486 : Ref sig .tc := ⟨.hbm, 586, rfl⟩
abbrev main_v487 : Ref sig .tc := ⟨.hbm, 587, rfl⟩
abbrev main_v488 : Ref sig .tc := ⟨.hbm, 588, rfl⟩
abbrev main_cst_96 : Ref sig .tc := ⟨.hbm, 589, rfl⟩
abbrev main_v489 : Ref sig .tc := ⟨.hbm, 590, rfl⟩
abbrev main_v490 : Ref sig .tc := ⟨.hbm, 591, rfl⟩
abbrev main_cst_97 : Ref sig .tc := ⟨.hbm, 592, rfl⟩
abbrev main_v491 : Ref sig .tc := ⟨.hbm, 593, rfl⟩
abbrev main_cst_98 : Ref sig .tc := ⟨.hbm, 594, rfl⟩
abbrev main_v492 : Ref sig .tc := ⟨.hbm, 595, rfl⟩
abbrev main_v493 : Ref sig .tc := ⟨.hbm, 596, rfl⟩
abbrev main_v494 : Ref sig .tc := ⟨.hbm, 597, rfl⟩
abbrev main_cst_99 : Ref sig .tc := ⟨.hbm, 598, rfl⟩
abbrev main_v495 : Ref sig .tc := ⟨.hbm, 599, rfl⟩
abbrev main_v496 : Ref sig .tc := ⟨.hbm, 600, rfl⟩
abbrev main_v497 : Ref sig .tc := ⟨.hbm, 601, rfl⟩
abbrev main_v498 : Ref sig .tc := ⟨.hbm, 602, rfl⟩
abbrev main_v499 : Ref sig .tc := ⟨.hbm, 603, rfl⟩
abbrev main_cst_100 : Ref sig .tc := ⟨.hbm, 604, rfl⟩
abbrev main_v500 : Ref sig .tc := ⟨.hbm, 605, rfl⟩
abbrev main_v501 : Ref sig .tc := ⟨.hbm, 606, rfl⟩
abbrev main_cst_101 : Ref sig .tc := ⟨.hbm, 607, rfl⟩
abbrev main_v502 : Ref sig .tc := ⟨.hbm, 608, rfl⟩
abbrev main_cst_102 : Ref sig .tc := ⟨.hbm, 609, rfl⟩
abbrev main_v503 : Ref sig .tc := ⟨.hbm, 610, rfl⟩
abbrev main_v504 : Ref sig .tc := ⟨.hbm, 611, rfl⟩
abbrev main_v505 : Ref sig .tc := ⟨.hbm, 612, rfl⟩
abbrev main_cst_103 : Ref sig .tc := ⟨.hbm, 613, rfl⟩
abbrev main_v506 : Ref sig .tc := ⟨.hbm, 614, rfl⟩
abbrev main_v507 : Ref sig .tc := ⟨.hbm, 615, rfl⟩
abbrev main_v508 : Ref sig .tc := ⟨.hbm, 616, rfl⟩
abbrev main_v509 : Ref sig .tc := ⟨.hbm, 617, rfl⟩
abbrev main_v510 : Ref sig .tc := ⟨.hbm, 618, rfl⟩
abbrev main_cst_104 : Ref sig .tc := ⟨.hbm, 619, rfl⟩
abbrev main_v511 : Ref sig .tc := ⟨.hbm, 620, rfl⟩
abbrev main_v512 : Ref sig .tc := ⟨.hbm, 621, rfl⟩
abbrev main_cst_105 : Ref sig .tc := ⟨.hbm, 622, rfl⟩
abbrev main_v513 : Ref sig .tc := ⟨.hbm, 623, rfl⟩
abbrev main_cst_106 : Ref sig .tc := ⟨.hbm, 624, rfl⟩
abbrev main_v514 : Ref sig .tc := ⟨.hbm, 625, rfl⟩
abbrev main_v515 : Ref sig .tc := ⟨.hbm, 626, rfl⟩
abbrev main_v516 : Ref sig .tc := ⟨.hbm, 627, rfl⟩
abbrev main_cst_107 : Ref sig .tc := ⟨.hbm, 628, rfl⟩
abbrev main_v517 : Ref sig .tc := ⟨.hbm, 629, rfl⟩
abbrev main_v518 : Ref sig .tc := ⟨.hbm, 630, rfl⟩
abbrev main_v519 : Ref sig .tc := ⟨.hbm, 631, rfl⟩
abbrev main_v520 : Ref sig .tc := ⟨.hbm, 632, rfl⟩
abbrev main_v521 : Ref sig .tc := ⟨.hbm, 633, rfl⟩
abbrev main_cst_108 : Ref sig .tc := ⟨.hbm, 634, rfl⟩
abbrev main_v522 : Ref sig .tc := ⟨.hbm, 635, rfl⟩
abbrev main_v523 : Ref sig .tc := ⟨.hbm, 636, rfl⟩
abbrev main_cst_109 : Ref sig .tc := ⟨.hbm, 637, rfl⟩
abbrev main_v524 : Ref sig .tc := ⟨.hbm, 638, rfl⟩
abbrev main_cst_110 : Ref sig .tc := ⟨.hbm, 639, rfl⟩
abbrev main_v525 : Ref sig .tc := ⟨.hbm, 640, rfl⟩
abbrev main_v526 : Ref sig .tc := ⟨.hbm, 641, rfl⟩
abbrev main_v527 : Ref sig .tc := ⟨.hbm, 642, rfl⟩
abbrev main_cst_111 : Ref sig .tc := ⟨.hbm, 643, rfl⟩
abbrev main_v528 : Ref sig .tc := ⟨.hbm, 644, rfl⟩
abbrev main_v529 : Ref sig .tc := ⟨.hbm, 645, rfl⟩
abbrev main_v530 : Ref sig .tc := ⟨.hbm, 646, rfl⟩
abbrev main_v531 : Ref sig .tc := ⟨.hbm, 647, rfl⟩
abbrev main_v532 : Ref sig .tc := ⟨.hbm, 648, rfl⟩
abbrev main_cst_112 : Ref sig .tc := ⟨.hbm, 649, rfl⟩
abbrev main_v533 : Ref sig .tc := ⟨.hbm, 650, rfl⟩
abbrev main_v534 : Ref sig .tc := ⟨.hbm, 651, rfl⟩
abbrev main_cst_113 : Ref sig .tc := ⟨.hbm, 652, rfl⟩
abbrev main_v535 : Ref sig .tc := ⟨.hbm, 653, rfl⟩
abbrev main_cst_114 : Ref sig .tc := ⟨.hbm, 654, rfl⟩
abbrev main_v536 : Ref sig .tc := ⟨.hbm, 655, rfl⟩
abbrev main_v537 : Ref sig .tc := ⟨.hbm, 656, rfl⟩
abbrev main_v538 : Ref sig .tc := ⟨.hbm, 657, rfl⟩
abbrev main_cst_115 : Ref sig .tc := ⟨.hbm, 658, rfl⟩
abbrev main_v539 : Ref sig .tc := ⟨.hbm, 659, rfl⟩
abbrev main_v540 : Ref sig .tc := ⟨.hbm, 660, rfl⟩
abbrev main_v541 : Ref sig .tc := ⟨.hbm, 661, rfl⟩
abbrev main_v542 : Ref sig .tc := ⟨.hbm, 662, rfl⟩
abbrev main_v543 : Ref sig .tc := ⟨.hbm, 663, rfl⟩
abbrev main_cst_116 : Ref sig .tc := ⟨.hbm, 664, rfl⟩
abbrev main_v544 : Ref sig .tc := ⟨.hbm, 665, rfl⟩
abbrev main_v545 : Ref sig .tc := ⟨.hbm, 666, rfl⟩
abbrev main_cst_117 : Ref sig .tc := ⟨.hbm, 667, rfl⟩
abbrev main_v546 : Ref sig .tc := ⟨.hbm, 668, rfl⟩
abbrev main_cst_118 : Ref sig .tc := ⟨.hbm, 669, rfl⟩
abbrev main_v547 : Ref sig .tc := ⟨.hbm, 670, rfl⟩
abbrev main_v548 : Ref sig .tc := ⟨.hbm, 671, rfl⟩
abbrev main_v549 : Ref sig .tc := ⟨.hbm, 672, rfl⟩
abbrev main_cst_119 : Ref sig .tc := ⟨.hbm, 673, rfl⟩
abbrev main_v550 : Ref sig .tc := ⟨.hbm, 674, rfl⟩
abbrev main_v551 : Ref sig .tc := ⟨.hbm, 675, rfl⟩
abbrev main_v552 : Ref sig .tc := ⟨.hbm, 676, rfl⟩
abbrev main_v553 : Ref sig .tc := ⟨.hbm, 677, rfl⟩
abbrev main_v554 : Ref sig .tc := ⟨.hbm, 678, rfl⟩
abbrev main_cst_120 : Ref sig .tc := ⟨.hbm, 679, rfl⟩
abbrev main_v555 : Ref sig .tc := ⟨.hbm, 680, rfl⟩
abbrev main_v556 : Ref sig .tc := ⟨.hbm, 681, rfl⟩
abbrev main_cst_121 : Ref sig .tc := ⟨.hbm, 682, rfl⟩
abbrev main_v557 : Ref sig .tc := ⟨.hbm, 683, rfl⟩
abbrev main_cst_122 : Ref sig .tc := ⟨.hbm, 684, rfl⟩
abbrev main_v558 : Ref sig .tc := ⟨.hbm, 685, rfl⟩
abbrev main_v559 : Ref sig .tc := ⟨.hbm, 686, rfl⟩
abbrev main_v560 : Ref sig .tc := ⟨.hbm, 687, rfl⟩
abbrev main_cst_123 : Ref sig .tc := ⟨.hbm, 688, rfl⟩
abbrev main_v561 : Ref sig .tc := ⟨.hbm, 689, rfl⟩
abbrev main_v562 : Ref sig .tc := ⟨.hbm, 690, rfl⟩
abbrev main_v563 : Ref sig .tc := ⟨.hbm, 691, rfl⟩
abbrev main_v564 : Ref sig .tc := ⟨.hbm, 692, rfl⟩
abbrev main_v565 : Ref sig .tc := ⟨.hbm, 693, rfl⟩
abbrev main_cst_124 : Ref sig .tc := ⟨.hbm, 694, rfl⟩
abbrev main_v566 : Ref sig .tc := ⟨.hbm, 695, rfl⟩
abbrev main_v567 : Ref sig .tc := ⟨.hbm, 696, rfl⟩
abbrev main_cst_125 : Ref sig .tc := ⟨.hbm, 697, rfl⟩
abbrev main_v568 : Ref sig .tc := ⟨.hbm, 698, rfl⟩
abbrev main_cst_126 : Ref sig .tc := ⟨.hbm, 699, rfl⟩
abbrev main_v569 : Ref sig .tc := ⟨.hbm, 700, rfl⟩
abbrev main_v570 : Ref sig .tc := ⟨.hbm, 701, rfl⟩
abbrev main_v571 : Ref sig .tc := ⟨.hbm, 702, rfl⟩
abbrev main_cst_127 : Ref sig .tc := ⟨.hbm, 703, rfl⟩
abbrev main_v572 : Ref sig .tc := ⟨.hbm, 704, rfl⟩
abbrev main_v573 : Ref sig .tc := ⟨.hbm, 705, rfl⟩
abbrev main_v574 : Ref sig .tc := ⟨.hbm, 706, rfl⟩
abbrev main_v575 : Ref sig .tc := ⟨.hbm, 707, rfl⟩
abbrev main_v576 : Ref sig .tc := ⟨.hbm, 708, rfl⟩
abbrev main_cst_128 : Ref sig .tc := ⟨.hbm, 709, rfl⟩
abbrev main_v577 : Ref sig .tc := ⟨.hbm, 710, rfl⟩
abbrev main_v578 : Ref sig .tc := ⟨.hbm, 711, rfl⟩
abbrev main_cst_129 : Ref sig .tc := ⟨.hbm, 712, rfl⟩
abbrev main_v579 : Ref sig .tc := ⟨.hbm, 713, rfl⟩
abbrev main_cst_130 : Ref sig .tc := ⟨.hbm, 714, rfl⟩
abbrev main_v580 : Ref sig .tc := ⟨.hbm, 715, rfl⟩
abbrev main_v581 : Ref sig .tc := ⟨.hbm, 716, rfl⟩
abbrev main_v582 : Ref sig .tc := ⟨.hbm, 717, rfl⟩
abbrev main_cst_131 : Ref sig .tc := ⟨.hbm, 718, rfl⟩
abbrev main_v583 : Ref sig .tc := ⟨.hbm, 719, rfl⟩
abbrev main_v584 : Ref sig .tc := ⟨.hbm, 720, rfl⟩
abbrev main_v585 : Ref sig .tc := ⟨.hbm, 721, rfl⟩
abbrev main_v586 : Ref sig .tc := ⟨.hbm, 722, rfl⟩
abbrev main_v587 : Ref sig .tc := ⟨.hbm, 723, rfl⟩
abbrev main_v588 : Ref sig .tc := ⟨.hbm, 724, rfl⟩
abbrev main_v589 : Ref sig .tc := ⟨.hbm, 725, rfl⟩
abbrev main_v590 : Ref sig .tc := ⟨.hbm, 726, rfl⟩
abbrev main_v591 : Ref sig .tc := ⟨.hbm, 727, rfl⟩
abbrev main_v592 : Ref sig .tc := ⟨.hbm, 728, rfl⟩
abbrev main_v593 : Ref sig .tc := ⟨.hbm, 729, rfl⟩

abbrev nD : Nat := 1
abbrev τ : Topo := Topo.v7x

variable {F : FTy → Type} [FloatOps F]
-- ==== Proof.Attn.Softmax.lean ====
/- The gradient of one row of a softmax over the extended reals: the form `p · (d − Σ d·p)` in which a kernel writes it and the form in which the
   derivative of `exp(s − max s) / Σ exp(s − max s)` comes out of the chain rule, and that the two agree at finite scores. -/
module

public import Idealize.ShloMosaic.PureOps.Ideal
public import Idealize.ShloMosaic.Lib.IdealHost

@[expose] public section

noncomputable section

open Idealize.ShloMosaic

namespace Cert.Attn

variable {n : ℕ}

/-- The factor `512 ^ (-1/2)` on the scores, as the f32 word both programs hold. -/
def scale : EReal := Ideal.ofBits .f32 0x3D3504F3#32

/-- The largest score of a row. -/
def top (s : Fin n → EReal) : EReal := Finset.univ.fold max ⊥ s

/-- The exponential of a score's distance below the largest. -/
def ex (s : Fin n → EReal) (m : Fin n) : EReal := Ideal.exp (s m - top s)

/-- The sum of a row's exponentials. -/
def tot (s : Fin n → EReal) : EReal := ∑ j, ex s j

/-- The probability of a row's entry. -/
def prob (s : Fin n → EReal) (m : Fin n) : EReal := Ideal.div (ex s m) (tot s)

/-- The gradient of the scaled scores in the product form: `d` is the gradient of the probabilities. -/
def grad (s d : Fin n → EReal) (m : Fin n) : EReal := prob s m * (d m - ∑ j, d j * prob s j) * scale

/-- The f32 word of minus infinity is the least extended real. -/
theorem ofBits_least : Ideal.ofBits .f32 0xFF800000#32 = ⊥ := by
  simp [Ideal.ofBits, Ideal.ieee]

/-- The scale is a real number. -/
theorem scale_real : ∃ r : ℝ, scale = r := by
  simp [scale, Ideal.ofBits, Ideal.ieee, -EReal.coe_mul]

/-- A finite sum of reals, read among the extended reals. -/
theorem coe_sum {ι : Type*} (t : Finset ι) (a : ι → ℝ) : ((∑ j ∈ t, a j : ℝ) : EReal) = ∑ j ∈ t, (a j : EReal) := by
  classical
  induction t using Finset.induction_on with
  | empty => simp
  | insert x t hx ih => rw [Finset.sum_insert hx, Finset.sum_insert hx, EReal.coe_add, ih]

/-- A sum of products of reals is a real. -/
theorem sum_mul_real {ι : Type*} (t : Finset ι) (a b : ι → EReal) (ha : ∀ k, ∃ r : ℝ, a k = r) (hb : ∀ k, ∃ r : ℝ, b k = r) :
    ∃ r : ℝ, ∑ k ∈ t, a k * b k = r := by
  choose x hx using ha
  choose y hy using hb
  refine ⟨∑ k ∈ t, x k * y k, ?_⟩
  rw [coe_sum]
  exact Finset.sum_congr rfl fun k _ => by rw [hx, hy, EReal.coe_mul]

/-- A nonnegative real factor moves out of a finite sum of extended reals. -/
theorem sum_mul_coe {ι : Type*} (t : Finset ι) (f : ι → EReal) {c : ℝ} (hc : 0 ≤ c) : ∑ j ∈ t, f j * (c : EReal) = (∑ j ∈ t, f j) * c := by
  classical
  induction t using Finset.induction_on with
  | empty => simp
  | insert x t hx ih =>
    rw [Finset.sum_insert hx, Finset.sum_insert hx, ih,
      EReal.right_distrib_of_nonneg_of_ne_top (EReal.coe_nonneg.mpr hc) (EReal.coe_ne_top c)]

/-- The largest of finitely many finite scores is one of them. -/
theorem top_attained [NeZero n] (s : Fin n → EReal) : ∃ m, top s = s m := by
  obtain ⟨m, -, h⟩ := Finset.exists_mem_eq_sup Finset.univ ⟨(0 : Fin n), Finset.mem_univ _⟩ s
  exact ⟨m, h⟩

/-- At finite scores the exponentials are nonnegative reals and their sum is a positive real. -/
theorem ex_real [NeZero n] (s : Fin n → EReal) (hs : ∀ m, ∃ r : ℝ, s m = r) :
    ∃ (a : Fin n → ℝ) (t : ℝ), (∀ m, 0 ≤ a m) ∧ 0 < t ∧ (∀ m, ex s m = a m) ∧ tot s = t := by
  choose x hx using hs
  obtain ⟨m₀, hm₀⟩ := top_attained s
  have he : ∀ m, ex s m = (Real.exp (x m - x m₀) : EReal) := fun m => by
    rw [ex, hm₀, hx, hx, ← EReal.coe_sub, Ideal.exp_coe]
  refine ⟨fun m => Real.exp (x m - x m₀), ∑ m, Real.exp (x m - x m₀), fun m => (Real.exp_pos _).le,
    Finset.sum_pos (fun m _ => Real.exp_pos _) ⟨(0 : Fin n), Finset.mem_univ _⟩, he, ?_⟩
  rw [tot, coe_sum]
  exact Finset.sum_congr rfl fun m _ => he m

/-- The chain rule's form of the gradient, with the quotient's derivative written out, is the product form, at finite scores and any gradient `d`. -/
theorem grad_of_quotient [NeZero n] (s d : Fin n → EReal) (hs : ∀ m, ∃ r : ℝ, s m = r) (m : Fin n) :
    (Ideal.div (d m) (tot s) + -(∑ j, d j * Ideal.div 1 (tot s * tot s) * ex s j)) * ex s m * scale = grad s d m := by
  obtain ⟨a, t, ha, ht, he, hS⟩ := ex_real s hs
  have ht' : t ≠ 0 := ht.ne'
  have hp : ∀ j, prob s j = ((a j * (1 / t) : ℝ) : EReal) := fun j => by
    rw [prob, hS, Ideal.div_coe ht', he, ← EReal.coe_mul]
  have hsum : ∑ j, d j * Ideal.div 1 (tot s * tot s) * ex s j = (∑ j, d j * prob s j) * ((1 / t : ℝ) : EReal) := by
    rw [← sum_mul_coe _ _ (by positivity)]
    refine Finset.sum_congr rfl fun j _ => ?_
    rw [hS, ← EReal.coe_mul, Ideal.div_coe (mul_ne_zero ht' ht'), one_mul, he, hp, mul_assoc, mul_assoc, ← EReal.coe_mul, ← EReal.coe_mul]
    congr 2
    field_simp
  rw [grad, hsum, hS, Ideal.div_coe ht', ← EReal.neg_mul, ← EReal.right_distrib_of_nonneg_of_ne_top (EReal.coe_nonneg.mpr (by positivity)) (EReal.coe_ne_top _),
    he, hp, sub_eq_add_neg, mul_assoc (d m + _), ← EReal.coe_mul, mul_comm (d m + _), mul_comm (1 / t)]

/-! ### The four heads of a row -/

/-- The place in a row of 2048 entries of entry `l` of head `h`. -/
def place (h : Fin 4) (l : Fin 512) : Fin 2048 := ⟨h.val * 512 + l.val, by omega⟩

/-- The head that an entry of the row belongs to, -/
def headOf (k : Fin 2048) : Fin 4 := ⟨k.val / 512, by omega⟩

/-- and its place within the head. -/
def laneOf (k : Fin 2048) : Fin 512 := ⟨k.val % 512, by omega⟩

/-- The scaled scores of a head's row of queries against the head's keys. -/
def hscore (q : Fin 512 → EReal) (K : Fin 256 → Fin 512 → EReal) (m : Fin 256) : EReal := (∑ l, q l * K m l) * scale

/-- The gradient of a row's probabilities: the output gradient `g` of the head against its values. -/
def hdprob (g : Fin 512 → EReal) (V : Fin 256 → Fin 512 → EReal) (m : Fin 256) : EReal := ∑ l, g l * V m l

/-- The part of head `h` of a row, -/
abbrev part (q : Fin 2048 → EReal) (h : Fin 4) : Fin 512 → EReal := fun l => q (place h l)

/-- and of all the keys or values. -/
abbrev parts (K : Fin 256 → Fin 2048 → EReal) (h : Fin 4) : Fin 256 → Fin 512 → EReal := fun m l => K m (place h l)

/-- The scaled scores of a row `q` against the keys `K`, in head `h`. -/
def score (q : Fin 2048 → EReal) (K : Fin 256 → Fin 2048 → EReal) (h : Fin 4) : Fin 256 → EReal := hscore (part q h) (parts K h)

/-- The gradient of the probabilities of a row: the row's output gradient `g` against the values `V`. -/
def dprob (g : Fin 2048 → EReal) (V : Fin 256 → Fin 2048 → EReal) (h : Fin 4) : Fin 256 → EReal := hdprob (part g h) (parts V h)

/-- The gradient of a row's queries. -/
def gradQ (q : Fin 2048 → EReal) (K V : Fin 256 → Fin 2048 → EReal) (g : Fin 2048 → EReal) (h : Fin 4) (l : Fin 512) : EReal :=
  ∑ m : Fin 256, grad (score q K h) (dprob g V h) m * K m (place h l)

/-- A row's contribution to the gradient of the keys. -/
def gradK (q : Fin 2048 → EReal) (K V : Fin 256 → Fin 2048 → EReal) (g : Fin 2048 → EReal) (h : Fin 4) (m : Fin 256) (l : Fin 512) : EReal :=
  grad (score q K h) (dprob g V h) m * q (place h l)

/-- A row's contribution to the gradient of the values. -/
def gradV (q : Fin 2048 → EReal) (K : Fin 256 → Fin 2048 → EReal) (g : Fin 2048 → EReal) (h : Fin 4) (m : Fin 256) (l : Fin 512) : EReal :=
  prob (score q K h) m * g (place h l)

/-- Scores of finite queries and keys are finite. -/
theorem score_real (q : Fin 2048 → EReal) (K : Fin 256 → Fin 2048 → EReal) (hq : ∀ k, ∃ r : ℝ, q k = r) (hK : ∀ m k, ∃ r : ℝ, K m k = r)
    (h : Fin 4) (m : Fin 256) : ∃ r : ℝ, score q K h m = r := by
  obtain ⟨x, hx⟩ := sum_mul_real Finset.univ (fun l => q (place h l)) (fun l => K m (place h l)) (fun l => hq _) (fun l => hK m _)
  obtain ⟨y, hy⟩ := scale_real
  exact ⟨x * y, by rw [score, hscore, hx, hy, EReal.coe_mul]⟩

end Cert.Attn

end
-- ==== Proof.Attn.Ref.lean ====
/- The reference's two results read at an index: the gradients of the queries, and of the keys and values, row by row and head by head. -/
module

public import proofs.«01_k».proof.Proof.Gen.ReferenceIdeal.Read
public import proofs.«01_k».proof.Proof.Attn.Softmax
public import Idealize.ShloMosaic.Lib.Pipeline.ValueKit

@[expose] public section

set_option maxRecDepth 16384

noncomputable section

open Idealize.ShloMosaic Cert.ReferenceIdeal Cert.ReferenceIdeal.Read

namespace Cert.Attn.Ref

variable (Q : FVec Ideal S4096x2048 .bf16) (KV : FVec Ideal S2x256x2048 .bf16) (G : FVec Ideal S4096x2048 .bf16)

/-- Row `i` of the queries or of the output gradient, -/
abbrev row (X : FVec Ideal S4096x2048 .bf16) (i : Fin 4096) : Fin 2048 → EReal := fun k => X (ix2 i k)

/-- and the keys (`a = 0`) or values (`a = 1`). -/
abbrev mem (a : Fin 2) : Fin 256 → Fin 2048 → EReal := fun m k => KV (ix3 a m k)

/-- A host maximum over the last axis is the fold of `max` over it. -/
theorem host_max (v : FVec Ideal S4x4096x256 .f32) (c : FVec Ideal S_ .f32) (h : Fin 4) (i : Fin 4096) :
    Host.reduce FloatOps.maximumf v c Gen.reducesTo_S4x4096x256_S4x4096_d2 Gen.h_S_ (ix2 h i)
      = Finset.univ.fold max (c ix0) (fun m : Fin 256 => v (ix3 h i m)) := by
  rw [Host.reduce_eq_fold, Shape.ReducesTo.fold_fiber_r3_a2]
  show Finset.univ.fold max _ _ = _
  refine congrArg₂ (fun a f => Finset.univ.fold max a f) (congrArg c ?_) (funext fun x => congrArg v ?_)
  · exact funext fun a => a.elim0
  · rfl

/-- The reference's score of a row against a memory slot. -/
theorem at_score (h : Fin 4) (i : Fin 4096) (m : Fin 256) :
    val_main_v12 (F := Ideal) Q KV (ix3 h i m) = score (row Q i) (mem KV 0) h m := by
  pointwise [val_main_v12, val_main_v11, val_main_v10, val_main_cst, val_main_v3, val_main_v0, val_main_v1, val_main_v4, val_main_v5, val_main_v6]
  rfl

/-- The largest score of a row. -/
theorem at_top (h : Fin 4) (i : Fin 4096) : val_main_v13 (F := Ideal) Q KV (ix2 h i) = top (score (row Q i) (mem KV 0) h) := by
  refine (host_max (val_main_v12 (F := Ideal) Q KV) (val_main_cst_0 (F := Ideal)) h i).trans ?_
  have e : val_main_cst_0 (F := Ideal) ix0 = ⊥ := (val_main_cst_0_apply (F := Ideal) ix0).trans ofBits_least
  have f : (fun m : Fin 256 => val_main_v12 (F := Ideal) Q KV (ix3 h i m)) = score (row Q i) (mem KV 0) h := funext fun m => at_score Q KV h i m
  rw [e, f, top]

/-- The largest score, as the reference guards it. -/
theorem at_top' (h : Fin 4) (i : Fin 4096) : val_main_v20 (F := Ideal) Q KV (ix2 h i) = top (score (row Q i) (mem KV 0) h) := by
  have e : val_main_v19 (F := Ideal) (ix2 h i) = ⊥ := (val_main_v19_apply (F := Ideal) _).trans ((val_main_cst_2_apply (F := Ideal) _).trans ofBits_least)
  have f := at_top Q KV h i
  rw [val_main_v20_apply]
  generalize val_main_v19 (F := Ideal) = x at e ⊢
  generalize val_main_v13 (F := Ideal) Q KV = y at f ⊢
  rw [e, f]
  exact max_eq_right bot_le

/-- The exponential of a score less the largest. -/
theorem at_ex (h : Fin 4) (i : Fin 4096) (m : Fin 256) :
    val_main_v33 (F := Ideal) Q KV (ix3 h i m) = ex (score (row Q i) (mem KV 0) h) m := by
  have e := at_top' Q KV h i
  have f := at_score Q KV h i m
  unfold val_main_v33 val_main_v32 val_main_v31 val_main_v30
  generalize val_main_v20 (F := Ideal) Q KV = x at e ⊢
  generalize val_main_v12 (F := Ideal) Q KV = y at f ⊢
  pointwise
  rw [e, f, ex]

/-- The sum of a row's exponentials. -/
theorem at_tot (h : Fin 4) (i : Fin 4096) : val_main_v34 (F := Ideal) Q KV (ix2 h i) = tot (score (row Q i) (mem KV 0) h) := by
  have e := at_ex Q KV h i
  unfold val_main_v34
  generalize val_main_v33 (F := Ideal) Q KV = x at e ⊢
  pointwise [val_main_cst_8, e, tot]

/-- The weight of a memory slot. -/
theorem at_prob (h : Fin 4) (i : Fin 4096) (m : Fin 256) :
    val_main_v37 (F := Ideal) Q KV (ix3 h i m) = prob (score (row Q i) (mem KV 0) h) m := by
  have e := at_tot Q KV h i
  have f := at_ex Q KV h i m
  unfold val_main_v37 val_main_v36 val_main_v35
  generalize val_main_v34 (F := Ideal) Q KV = x at e ⊢
  generalize val_main_v33 (F := Ideal) Q KV = y at f ⊢
  pointwise [e, f, prob]

/-- The gradient arriving at a weight. -/
theorem at_dprob (h : Fin 4) (i : Fin 4096) (m : Fin 256) :
    val_main_v46 (F := Ideal) KV G (ix3 h i m) = dprob (row G i) (mem KV 1) h m := by
  pointwise [val_main_v46, val_main_v45, val_main_v44, val_main_v2, val_main_v1, val_main_v7, val_main_v8, val_main_v9]
  rfl

/-- The gradient of the scores before the finiteness of the queries and keys is used: the derivative of a quotient. -/
theorem at_quotient (h : Fin 4) (i : Fin 4096) (m : Fin 256) :
    val_main_v62 (F := Ideal) Q KV G (ix3 h i m)
      = (Ideal.div (dprob (row G i) (mem KV 1) h m) (tot (score (row Q i) (mem KV 0) h))
          + -(∑ j, dprob (row G i) (mem KV 1) h j
                * Ideal.div 1 (tot (score (row Q i) (mem KV 0) h) * tot (score (row Q i) (mem KV 0) h)) * ex (score (row Q i) (mem KV 0) h) j))
        * ex (score (row Q i) (mem KV 0) h) m * scale := by
  have e := at_tot Q KV h i
  have f := fun m => at_ex Q KV h i m
  have g := fun m => at_dprob KV G h i m
  unfold val_main_v62 val_main_v60 val_main_v59 val_main_v58 val_main_v57 val_main_v56 val_main_v55 val_main_v54 val_main_v53 val_main_v52
    val_main_v51 val_main_v50 val_main_v49 val_main_v40 val_main_v38 val_main_v35
  generalize val_main_v34 (F := Ideal) Q KV = x at e ⊢
  generalize val_main_v33 (F := Ideal) Q KV = y at f ⊢
  generalize val_main_v46 (F := Ideal) KV G = z at g ⊢
  pointwise [val_main_cst_11, val_main_cst_10, val_main_v39, val_main_cst_9, val_main_v61, val_main_cst_12, e, f, g]
  rw [Fin.sum_univ_one]
  rfl

/-- The gradient of a value entry. -/
theorem at_dv (h : Fin 4) (l : Fin 512) (m : Fin 256) :
    val_main_v47 (F := Ideal) Q KV G (ix3 h l m) = ∑ i : Fin 4096, gradV (row Q i) (mem KV 0) (row G i) h m l := by
  have e := fun i => at_prob Q KV h i m
  unfold val_main_v47
  generalize val_main_v37 (F := Ideal) Q KV = x at e ⊢
  pointwise [val_main_v45, val_main_v44, val_main_v2, e]
  exact Finset.sum_congr rfl fun i _ => mul_comm _ _

variable (hQ : ∀ i k, ∃ r : ℝ, row Q i k = r) (hK : ∀ m k, ∃ r : ℝ, mem KV 0 m k = r)

include hQ hK

/-- The gradient of a score. -/
theorem at_grad (h : Fin 4) (i : Fin 4096) (m : Fin 256) :
    val_main_v62 (F := Ideal) Q KV G (ix3 h i m) = grad (score (row Q i) (mem KV 0) h) (dprob (row G i) (mem KV 1) h) m :=
  (at_quotient Q KV G h i m).trans (grad_of_quotient _ _ (score_real _ _ (hQ i) hK h) m)

/-- The gradient of a key entry. -/
theorem at_dk (h : Fin 4) (m : Fin 256) (l : Fin 512) :
    val_main_v63 (F := Ideal) Q KV G (ix3 h m l) = ∑ i : Fin 4096, gradK (row Q i) (mem KV 0) (mem KV 1) (row G i) h m l := by
  have e := fun i => at_grad Q KV G hQ hK h i m
  unfold val_main_v63
  generalize val_main_v62 (F := Ideal) Q KV G = x at e ⊢
  pointwise [val_main_v3, val_main_v0, e]
  rfl

/-- The gradient of a query entry. -/
theorem at_dq (h : Fin 4) (i : Fin 4096) (l : Fin 512) :
    val_main_v65 (F := Ideal) Q KV G (ix3 h i l) = gradQ (row Q i) (mem KV 0) (mem KV 1) (row G i) h l := by
  have e := fun m => at_grad Q KV G hQ hK h i m
  unfold val_main_v65
  generalize val_main_v62 (F := Ideal) Q KV G = x at e ⊢
  pointwise [val_main_v6, val_main_v5, val_main_v4, val_main_v1, e]
  rfl

/-- The gradient of the queries. -/
theorem dq (i : Fin 4096) (k : Fin 2048) :
    val_main_v75 (F := Ideal) Q KV G (ix2 i k) = gradQ (row Q i) (mem KV 0) (mem KV 1) (row G i) (headOf k) (laneOf k) := by
  have e := at_dq Q KV G hQ hK
  unfold val_main_v75 val_main_v74 val_main_v66
  generalize val_main_v65 (F := Ideal) Q KV G = x at e ⊢
  pointwise
  exact e _ _ _

/-- The gradient of the keys, -/
theorem dkv_0 (m : Fin 256) (k : Fin 2048) :
    val_main_v73 (F := Ideal) Q KV G (ix3 0 m k) = ∑ i : Fin 4096, gradK (row Q i) (mem KV 0) (mem KV 1) (row G i) (headOf k) m (laneOf k) := by
  have e := at_dk Q KV G hQ hK
  unfold val_main_v73 val_main_v72 val_main_v71 val_main_v70 val_main_v69 val_main_v68 val_main_v67 val_main_v64 val_main_v48
  generalize val_main_v63 (F := Ideal) Q KV G = x at e ⊢
  generalize val_main_v47 (F := Ideal) Q KV G = y
  pointwise [val_main_cst_13, val_main_cst_14]
  exact e _ _ _

omit hQ hK in
/-- and of the values. -/
theorem dkv_1 (m : Fin 256) (k : Fin 2048) :
    val_main_v73 (F := Ideal) Q KV G (ix3 1 m k) = ∑ i : Fin 4096, gradV (row Q i) (mem KV 0) (row G i) (headOf k) m (laneOf k) := by
  have e := at_dv Q KV G
  unfold val_main_v73 val_main_v72 val_main_v71 val_main_v70 val_main_v69 val_main_v68 val_main_v67 val_main_v64 val_main_v48
  generalize val_main_v63 (F := Ideal) Q KV G = x
  generalize val_main_v47 (F := Ideal) Q KV G = y at e ⊢
  pointwise [val_main_cst_13, val_main_cst_14]
  exact e _ _ _

end Cert.Attn.Ref

end
-- ==== Proof.Attn.Head.lean ====
/- One head of the kernel's body: what it stores, in the words of the mathematics, from the head's parts of the queries, keys, values and output gradients. -/
module

public import proofs.«01_k».proof.Proof.Gen.KernelIdeal.Skeleton
public import proofs.«01_k».proof.Proof.Attn.Softmax
public import Idealize.ShloMosaic.Lib.Pipeline.ValueKit

@[expose] public section

set_option maxRecDepth 16384

noncomputable section

open Idealize.ShloMosaic Cert.KernelIdeal Cert.KernelIdeal.Gen

namespace Cert.Attn.Head

/-! ### The four heads are the same computation, cut at different places -/

section Same

variable {F : FTy → Type} [FloatOps F] (q g : FVec F S256x512 .bf16) (k v : FVec F S1x256x512 .bf16) (acc : FVec F S1x256x512 .f32)

/-- The first head's query gradient is the third head's operations. -/
theorem dq_0 : k0_pay11 (k0_pay5 k) (k0_pay6 q k) (k0_pay8 g v) (k0_pay9 q k g v) = k0_pay24 q k g v := rfl

/-- The first head's key gradient, likewise. -/
theorem dk_0 : k0_pay12 q (k0_pay6 q k) (k0_pay8 g v) (k0_pay9 q k g v) acc = k0_pay25 q (k0_pay23 q k g v) acc := rfl

/-- The first head's value gradient, likewise. -/
theorem dv_0 : k0_pay7 q k g acc = k0_pay22 q k g acc := rfl

/-- The second head's query gradient is the third head's operations. -/
theorem dq_1 : k0_pay18 (k0_pay13 k) g (k0_pay14 q k) v = k0_pay24 q k g v := rfl

/-- The second head's key gradient, likewise. -/
theorem dk_1 : k0_pay19 q g (k0_pay14 q k) v acc = k0_pay25 q (k0_pay23 q k g v) acc := rfl

/-- The second head's value gradient, likewise. -/
theorem dv_1 : k0_pay16 g (k0_pay15 q k) acc = k0_pay22 q k g acc := rfl

/-- The fourth head's query gradient is the third head's operations. -/
theorem dq_3 : k0_pay2 (k0_pay26 k) g (k0_pay27 q k) v = k0_pay24 q k g v := rfl

/-- The fourth head's key gradient, likewise. -/
theorem dk_3 : k0_pay3 q g (k0_pay27 q k) v acc = k0_pay25 q (k0_pay23 q k g v) acc := rfl

/-- The fourth head's value gradient, likewise. -/
theorem dv_3 : k0_pay28 q k g acc = k0_pay22 q k g acc := rfl

end Same

/-! ### What a head stores -/

variable (q g : FVec Ideal S256x512 .bf16) (k v : FVec Ideal S1x256x512 .bf16) (acc : FVec Ideal S1x256x512 .f32)

/-- The probabilities: the softmax of the row's scores. -/
theorem at_prob (r j : Fin 256) :
    k0_pay21 (F := Ideal) q k (ix2 r j) = prob (hscore (fun l => q (ix2 r l)) fun i l => k (ix3 0 i l)) j := by
  pointwise [k0_pay21, k0_pay20]
  rw [ofBits_least]
  rfl

/-- The gradient of the scores. -/
theorem at_grad (r j : Fin 256) :
    k0_pay23 (F := Ideal) q k g v (ix2 r j)
      = grad (hscore (fun l => q (ix2 r l)) fun i l => k (ix3 0 i l)) (hdprob (fun l => g (ix2 r l)) fun i l => v (ix3 0 i l)) j := by
  have e := fun j => at_prob q k r j
  unfold k0_pay23
  generalize k0_pay21 (F := Ideal) q k = p at e ⊢
  pointwise [e]
  rfl

/-- The gradient of the queries. -/
theorem at_dq (r : Fin 256) (l : Fin 512) :
    k0_pay24 (F := Ideal) q k g v (ix2 r l)
      = ∑ j, grad (hscore (fun l => q (ix2 r l)) fun i l => k (ix3 0 i l)) (hdprob (fun l => g (ix2 r l)) fun i l => v (ix3 0 i l)) j
          * k (ix3 0 j l) := by
  have e := fun j => at_grad q g k v r j
  unfold k0_pay24
  generalize k0_pay23 (F := Ideal) q k g v = p at e ⊢
  pointwise [k0_pay20, e]

/-- The block's contribution to the gradient of the keys, added to what was there. -/
theorem at_dk (j : Fin 256) (l : Fin 512) :
    k0_pay25 q (k0_pay23 q k g v) acc (ix3 0 j l)
      = acc (ix3 0 j l)
        + ∑ r : Fin 256, grad (hscore (fun l => q (ix2 r l)) fun i l => k (ix3 0 i l)) (hdprob (fun l => g (ix2 r l)) fun i l => v (ix3 0 i l)) j
          * q (ix2 r l) := by
  have e := fun r => at_grad q g k v r j
  generalize k0_pay23 (F := Ideal) q k g v = p at e ⊢
  pointwise [k0_pay25, e]

/-- The block's contribution to the gradient of the values, added to what was there. -/
theorem at_dv (j : Fin 256) (l : Fin 512) :
    k0_pay22 q k g acc (ix3 0 j l)
      = acc (ix3 0 j l) + ∑ r : Fin 256, prob (hscore (fun l => q (ix2 r l)) fun i l => k (ix3 0 i l)) j * g (ix2 r l) := by
  have e := fun r => at_prob q k r j
  unfold k0_pay22
  generalize k0_pay21 (F := Ideal) q k = p at e ⊢
  pointwise [e]

end Cert.Attn.Head

end
-- ==== Proof.Attn.Point.lean ====
/- What one grid point leaves in the two output blocks: its rows' gradients of the queries, and its rows' contribution to the gradients of the keys and values added to what was there. -/
module

public import proofs.«01_k».proof.Proof.Gen.KernelIdeal.Value
public import proofs.«01_k».proof.Proof.Attn.Head
public import Idealize.ShloMosaic.Lib.Pipeline.ValueKit
public import Idealize.ShloMosaic.Lib.Pipeline.ReadBack

@[expose] public section

set_option maxRecDepth 16384

noncomputable section

open Idealize.ShloMosaic Cert.KernelIdeal Cert.KernelIdeal.Gen

namespace Cert.Attn.Point

/-! ### The pieces of a block, one head each -/

variable (q g : FVec Ideal S256x2048 .bf16) (K : FVec Ideal S2x256x2048 .bf16) (old : FVec Ideal S2x256x2048 .f32)

/-- Row `r` of a block of rows, -/
abbrev row (x : FVec Ideal S256x2048 .bf16) (r : Fin 256) : Fin 2048 → EReal := fun k => x (ix2 r k)

/-- and the keys (`a = 0`) or values (`a = 1`). -/
abbrev mem (K : FVec Ideal S2x256x2048 .bf16) (a : Fin 2) : Fin 256 → Fin 2048 → EReal := fun j k => K (ix3 a j k)

/-- The block of query gradients. -/
def outQ : FVec Ideal S256x2048 .bf16 := fun y =>
  gradQ (row q (y 0)) (mem K 0) (mem K 1) (row g (y 0)) (headOf (y 1)) (laneOf (y 1))

/-- The block's contribution to the gradients of the keys and of the values, -/
def addKV (a : Fin 2) (j : Fin 256) (k : Fin 2048) : EReal :=
  if a = 0 then ∑ r : Fin 256, gradK (row q r) (mem K 0) (mem K 1) (row g r) (headOf k) j (laneOf k)
  else ∑ r : Fin 256, gradV (row q r) (mem K 0) (row g r) (headOf k) j (laneOf k)

/-- and the block after it is added. -/
def outKV : FVec Ideal S2x256x2048 .f32 := fun y => old y + addKV q g K (y 0) (y 1) (y 2)

/-- The part of a block of rows that starts at column `o`, as a load reads it, -/
def cols (x : FVec Ideal S256x2048 .bf16) (o : ℕ) (i : ∀ a, (![0, o] : Fin 2 → ℕ) a + S256x512.size a ≤ S256x2048.size a) : FVec Ideal S256x512 .bf16 :=
  View.ld (Val := Elt Ideal) (e' := .bf16) x (Rect.unit (s := S256x2048) ![0, o] S256x512.size i)

/-- and that of the keys' (`b = 0`) or the values' (`b = 1`) array. -/
def cols3 {e : EltTy} (x : Vec Ideal S2x256x2048 e) (b : Fin 2) (o : ℕ)
    (i : ∀ a, (![b.val, 0, o] : Fin 3 → ℕ) a + S1x256x512.size a ≤ S2x256x2048.size a) : Vec Ideal S1x256x512 e :=
  View.ld (Val := Elt Ideal) (e' := e) x (Rect.unit (s := S2x256x2048) ![b.val, 0, o] S1x256x512.size i)

section Pieces

/-- The columns of head `h` start at `512 h`. -/
theorem place_of {h : Fin 4} {o : ℕ} {k : Fin 2048} {l : Fin 512} (ho : o = h.val * 512) (hk : k.val = o + l.val) :
    headOf k = h ∧ laneOf k = l ∧ k = place h l := by
  refine ⟨Fin.ext ?_, Fin.ext ?_, Fin.ext ?_⟩ <;> simp only [headOf, laneOf, place] <;> omega

variable {h : Fin 4} {o : ℕ} (ho : o = h.val * 512)
    (i : ∀ a, (![0, o] : Fin 2 → ℕ) a + S256x512.size a ≤ S256x2048.size a)
    (i0 : ∀ a, (![(0 : Fin 2).val, 0, o] : Fin 3 → ℕ) a + S1x256x512.size a ≤ S2x256x2048.size a)
    (i1 : ∀ a, (![(1 : Fin 2).val, 0, o] : Fin 3 → ℕ) a + S1x256x512.size a ≤ S2x256x2048.size a)

include ho

/-- An entry of a head's columns. -/
theorem at_cols (x : FVec Ideal S256x2048 .bf16) (r : Fin 256) (l : Fin 512) : cols x o i (ix2 r l) = x (ix2 r (place h l)) := by
  refine View.ld_unit_apply_of (Val := Elt Ideal) (e := .bf16) x _ _ _ _ _ fun a => ?_
  fin_cases a
  · exact (Nat.zero_add _).symm
  · show _ = o + l.val
    rw [ho]; rfl

/-- An entry of a head's columns of keys or values. -/
theorem at_cols3 {e : EltTy} (x : Vec Ideal S2x256x2048 e) (b : Fin 2)
    (i : ∀ a, (![b.val, 0, o] : Fin 3 → ℕ) a + S1x256x512.size a ≤ S2x256x2048.size a) (j : Fin 256) (l : Fin 512) :
    cols3 x b o i (ix3 0 j l) = x (ix3 b j (place h l)) := by
  refine View.ld_unit_apply_of (Val := Elt Ideal) (e := e) x _ _ _ _ _ fun a => ?_
  fin_cases a
  · rfl
  · exact (Nat.zero_add _).symm
  · show _ = o + l.val
    rw [ho]; rfl

/-- The stored query gradients of head `h` are the head's columns of the block. -/
theorem piece_q (y : S256x2048.Idx) (x : S256x512.Idx) (hr : (y 0).val = (x 0).val) (hk : (y 1).val = o + (x 1).val) :
    k0_pay24 (F := Ideal) (cols q o i) (cols3 K 0 o i0) (cols g o i) (cols3 K 1 o i1) x = outQ q g K y := by
  obtain ⟨r, l, rfl⟩ : ∃ (r : Fin 256) (l : Fin 512), x = ix2 r l := ⟨x 0, x 1, eq_ix2 x⟩
  obtain ⟨r', k, rfl⟩ : ∃ (r : Fin 256) (k : Fin 2048), y = ix2 r k := ⟨y 0, y 1, eq_ix2 y⟩
  obtain rfl : r' = r := Fin.ext hr
  obtain ⟨e1, e2, -⟩ := place_of (k := k) (l := l) ho hk
  rw [Head.at_dq]
  simp only [at_cols ho, at_cols3 ho]
  show _ = gradQ (row q r') (mem K 0) (mem K 1) (row g r') (headOf k) (laneOf k)
  rw [e1, e2]
  rfl

/-- The stored key gradients of head `h` are the head's columns of the first half of the block, -/
theorem piece_k (x : S1x256x512.Idx) :
    k0_pay25 (F := Ideal) (cols q o i) (k0_pay23 (F := Ideal) (cols q o i) (cols3 K 0 o i0) (cols g o i) (cols3 K 1 o i1)) (cols3 old 0 o i0) x
      = outKV q g K old ((Rect.unit (s := S2x256x2048) ![(0 : Fin 2).val, 0, o] S1x256x512.size i0).emb x) := by
  have hb := Rect.idx_unit_val (s := S2x256x2048) ![(0 : Fin 2).val, 0, o] S1x256x512.size i0 x 0
  have hr := Rect.idx_unit_val (s := S2x256x2048) ![(0 : Fin 2).val, 0, o] S1x256x512.size i0 x 1
  have hk := Rect.idx_unit_val (s := S2x256x2048) ![(0 : Fin 2).val, 0, o] S1x256x512.size i0 x 2
  change _ = outKV q g K old ((Rect.unit (s := S2x256x2048) ![(0 : Fin 2).val, 0, o] S1x256x512.size i0).idx x)
  generalize (Rect.unit (s := S2x256x2048) ![(0 : Fin 2).val, 0, o] S1x256x512.size i0).idx x = y at hb hr hk ⊢
  obtain ⟨u, j, l, rfl⟩ : ∃ (u : Fin 1) (j : Fin 256) (l : Fin 512), x = ix3 u j l := ⟨x 0, x 1, x 2, eq_ix3 x⟩
  obtain ⟨b, j', k, rfl⟩ : ∃ (b : Fin 2) (j : Fin 256) (k : Fin 2048), y = ix3 b j k := ⟨y 0, y 1, y 2, eq_ix3 y⟩
  obtain rfl : u = 0 := Subsingleton.elim _ _
  obtain rfl : b = 0 := Fin.ext hb
  obtain rfl : j' = j := Fin.ext (hr.trans (Nat.zero_add _))
  obtain ⟨e1, e2, e3⟩ := place_of (k := k) (l := l) ho hk
  rw [Head.at_dk]
  simp only [at_cols ho, at_cols3 ho]
  show _ = old (ix3 0 j' k) + addKV q g K 0 j' k
  rw [addKV, if_pos rfl, e1, e2, e3]
  rfl

/-- and the stored value gradients those of the second half. -/
theorem piece_v (x : S1x256x512.Idx) :
    k0_pay22 (F := Ideal) (cols q o i) (cols3 K 0 o i0) (cols g o i) (cols3 old 1 o i1) x = outKV q g K old ((Rect.unit (s := S2x256x2048) ![(1 : Fin 2).val, 0, o] S1x256x512.size i1).emb x) := by
  have hb := Rect.idx_unit_val (s := S2x256x2048) ![(1 : Fin 2).val, 0, o] S1x256x512.size i1 x 0
  have hr := Rect.idx_unit_val (s := S2x256x2048) ![(1 : Fin 2).val, 0, o] S1x256x512.size i1 x 1
  have hk := Rect.idx_unit_val (s := S2x256x2048) ![(1 : Fin 2).val, 0, o] S1x256x512.size i1 x 2
  change _ = outKV q g K old ((Rect.unit (s := S2x256x2048) ![(1 : Fin 2).val, 0, o] S1x256x512.size i1).idx x)
  generalize (Rect.unit (s := S2x256x2048) ![(1 : Fin 2).val, 0, o] S1x256x512.size i1).idx x = y at hb hr hk ⊢
  obtain ⟨u, j, l, rfl⟩ : ∃ (u : Fin 1) (j : Fin 256) (l : Fin 512), x = ix3 u j l := ⟨x 0, x 1, x 2, eq_ix3 x⟩
  obtain ⟨b, j', k, rfl⟩ : ∃ (b : Fin 2) (j : Fin 256) (k : Fin 2048), y = ix3 b j k := ⟨y 0, y 1, y 2, eq_ix3 y⟩
  obtain rfl : u = 0 := Subsingleton.elim _ _
  obtain rfl : b = 1 := Fin.ext hb
  obtain rfl : j' = j := Fin.ext (hr.trans (Nat.zero_add _))
  obtain ⟨e1, e2, e3⟩ := place_of (k := k) (l := l) ho hk
  rw [Head.at_dv]
  simp only [at_cols ho, at_cols3 ho]
  show _ = old (ix3 1 j' k) + addKV q g K 1 j' k
  rw [addKV, if_neg (by decide), e1, e2, e3]
  rfl

end Pieces

/-! ### The blocks after a grid point -/

variable (m : (ℓ : Loc nD τ sig) → Buf (Elt Ideal) ℓ) (c : Dev nD)

/-- The query gradients a point writes, first point or later. -/
theorem dq_at (t : Fin cfg0.N) : (outsAt0 m c t.val t.isLt).1 = outQ (iblk m c 0 t) (iblk m c 2 t) (iblk m c 1 t) := by
  funext y
  by_cases ht : t.val % 16 = 0
  all_goals
    first | rw [outsAt0_A m c t ht] | rw [outsAt0_B m c t ht]
    frame_out
    generalize iblk m c 0 t = q
    generalize iblk m c 1 t = K
    generalize iblk m c 2 t = g
    canon_tiles x h
    · exact (congrFun (Head.dq_3 ..) _).trans (piece_q q g K (h := 3) (o := 1536) rfl _ _ _ y x (by omega) (by omega))
    · exact piece_q q g K (h := 2) (o := 1024) rfl _ _ _ y x (by omega) (by omega)
    · exact (congrFun (Head.dq_1 ..) _).trans (piece_q q g K (h := 1) (o := 512) rfl _ _ _ y x (by omega) (by omega))
    · exact (congrFun (Head.dq_0 ..) _).trans (piece_q q g K (h := 0) (o := 0) rfl _ _ _ y x (by omega) (by omega))

/-- The key and value gradients after the first point: its rows' contribution over zero. -/
theorem dkv_first (t : Fin cfg0.N) (ht : t.val % 16 = 0) :
    (outsAt0 m c t.val t.isLt).2 = outKV (iblk m c 0 t) (iblk m c 2 t) (iblk m c 1 t) (k0_pay4 (F := Ideal)) := by
  funext y
  rw [outsAt0_A m c t ht]
  frame_open
  simp (disch := decide) only [↓ View.readCov_skip, ↓ View.readCov_cons_toLoadRect, ↓ View.readCov_fill]
  frame_out
  generalize iblk m c 0 t = q
  generalize iblk m c 1 t = K
  generalize iblk m c 2 t = g
  refine View.canon_append_of_piecesOf (Val := Elt Ideal) (e := .f32) (outKV q g K (k0_pay4 (F := Ideal))) [_] [_, _, _, _, _, _, _, _]
    ⟨fun x => ?_, fun x => ?_, fun x => ?_, fun x => ?_, fun x => ?_, fun x => ?_, fun x => ?_, fun x => ?_, trivial⟩ y (View.cover_of_tiledL (s := S2x256x2048) _ S1x256x512.size (by sl_kernel_rfl) y)
  · exact (congrFun (Head.dk_3 ..) x).trans (piece_k q g K (k0_pay4 (F := Ideal)) (h := 3) (o := 1536) rfl inb_S256x2048_S256x512_0_1536 inb_S2x256x2048_S1x256x512_0_0_1536 inb_S2x256x2048_S1x256x512_1_0_1536 x)
  · exact (congrFun (Head.dv_3 ..) x).trans (piece_v q g K (k0_pay4 (F := Ideal)) (h := 3) (o := 1536) rfl inb_S256x2048_S256x512_0_1536 inb_S2x256x2048_S1x256x512_0_0_1536 inb_S2x256x2048_S1x256x512_1_0_1536 x)
  · exact piece_k q g K (k0_pay4 (F := Ideal)) (h := 2) (o := 1024) rfl inb_S256x2048_S256x512_0_1024 inb_S2x256x2048_S1x256x512_0_0_1024 inb_S2x256x2048_S1x256x512_1_0_1024 x
  · exact piece_v q g K (k0_pay4 (F := Ideal)) (h := 2) (o := 1024) rfl inb_S256x2048_S256x512_0_1024 inb_S2x256x2048_S1x256x512_0_0_1024 inb_S2x256x2048_S1x256x512_1_0_1024 x
  · exact (congrFun (Head.dk_1 ..) x).trans (piece_k q g K (k0_pay4 (F := Ideal)) (h := 1) (o := 512) rfl inb_S256x2048_S256x512_0_512 inb_S2x256x2048_S1x256x512_0_0_512 inb_S2x256x2048_S1x256x512_1_0_512 x)
  · exact (congrFun (Head.dv_1 ..) x).trans (piece_v q g K (k0_pay4 (F := Ideal)) (h := 1) (o := 512) rfl inb_S256x2048_S256x512_0_512 inb_S2x256x2048_S1x256x512_0_0_512 inb_S2x256x2048_S1x256x512_1_0_512 x)
  · exact (congrFun (Head.dk_0 ..) x).trans (piece_k q g K (k0_pay4 (F := Ideal)) (h := 0) (o := 0) rfl inb_S256x2048_S256x512_0_0 inb_S2x256x2048_S1x256x512_0_0_0 inb_S2x256x2048_S1x256x512_1_0_0 x)
  · exact (congrFun (Head.dv_0 ..) x).trans (piece_v q g K (k0_pay4 (F := Ideal)) (h := 0) (o := 0) rfl inb_S256x2048_S256x512_0_0 inb_S2x256x2048_S1x256x512_0_0_0 inb_S2x256x2048_S1x256x512_1_0_0 x)

/-- The key and value gradients after a later point: its rows' contribution over what the point before left. -/
theorem dkv_later (t : Fin cfg0.N) (ht : ¬t.val % 16 = 0) :
    (outsAt0 m c t.val t.isLt).2
      = outKV (iblk m c 0 t) (iblk m c 2 t) (iblk m c 1 t) (outsAt0 m c (t.val - 1) (Nat.lt_of_le_of_lt (Nat.sub_le _ _) t.isLt)).2 := by
  funext y
  rw [outsAt0_B m c t ht]
  generalize (outsAt0 m c (t.val - 1) (Nat.lt_of_le_of_lt (Nat.sub_le _ _) t.isLt)).2 = old
  frame_open
  try simp (disch := decide) only [↓ View.readCov_skip, ↓ View.readCov_cons_toLoadRect, ↓ View.readCov_fill]
  frame_out
  generalize iblk m c 0 t = q
  generalize iblk m c 1 t = K
  generalize iblk m c 2 t = g
  refine View.canon_append_of_piecesOf (Val := Elt Ideal) (e := .f32) (outKV q g K old) [] [_, _, _, _, _, _, _, _]
    ⟨fun x => ?_, fun x => ?_, fun x => ?_, fun x => ?_, fun x => ?_, fun x => ?_, fun x => ?_, fun x => ?_, trivial⟩ y (View.cover_of_tiledL (s := S2x256x2048) _ S1x256x512.size (by sl_kernel_rfl) y)
  · exact (congrFun (Head.dk_3 ..) x).trans (piece_k q g K old (h := 3) (o := 1536) rfl inb_S256x2048_S256x512_0_1536 inb_S2x256x2048_S1x256x512_0_0_1536 inb_S2x256x2048_S1x256x512_1_0_1536 x)
  · exact (congrFun (Head.dv_3 ..) x).trans (piece_v q g K old (h := 3) (o := 1536) rfl inb_S256x2048_S256x512_0_1536 inb_S2x256x2048_S1x256x512_0_0_1536 inb_S2x256x2048_S1x256x512_1_0_1536 x)
  · exact piece_k q g K old (h := 2) (o := 1024) rfl inb_S256x2048_S256x512_0_1024 inb_S2x256x2048_S1x256x512_0_0_1024 inb_S2x256x2048_S1x256x512_1_0_1024 x
  · exact piece_v q g K old (h := 2) (o := 1024) rfl inb_S256x2048_S256x512_0_1024 inb_S2x256x2048_S1x256x512_0_0_1024 inb_S2x256x2048_S1x256x512_1_0_1024 x
  · exact (congrFun (Head.dk_1 ..) x).trans (piece_k q g K old (h := 1) (o := 512) rfl inb_S256x2048_S256x512_0_512 inb_S2x256x2048_S1x256x512_0_0_512 inb_S2x256x2048_S1x256x512_1_0_512 x)
  · exact (congrFun (Head.dv_1 ..) x).trans (piece_v q g K old (h := 1) (o := 512) rfl inb_S256x2048_S256x512_0_512 inb_S2x256x2048_S1x256x512_0_0_512 inb_S2x256x2048_S1x256x512_1_0_512 x)
  · exact (congrFun (Head.dk_0 ..) x).trans (piece_k q g K old (h := 0) (o := 0) rfl inb_S256x2048_S256x512_0_0 inb_S2x256x2048_S1x256x512_0_0_0 inb_S2x256x2048_S1x256x512_1_0_0 x)
  · exact (congrFun (Head.dv_0 ..) x).trans (piece_v q g K old (h := 0) (o := 0) rfl inb_S256x2048_S256x512_0_0 inb_S2x256x2048_S1x256x512_0_0_0 inb_S2x256x2048_S1x256x512_1_0_0 x)

end Cert.Attn.Point

end
-- ==== Proof.Attn.Array.lean ====
/- The kernel's two result arrays after the launch. -/
module

public import proofs.«01_k».proof.Proof.Attn.Point

@[expose] public section

set_option maxRecDepth 16384

noncomputable section

open Idealize.ShloMosaic Idealize.ShloMosaic.TcCoe Cert.KernelIdeal Cert.KernelIdeal.Gen

namespace Cert.Attn.Array

variable (m : (ℓ : Loc nD τ sig) → Buf (Elt Ideal) ℓ) (c : Dev nD)

/-- The queries, -/
abbrev Q : FVec Ideal S4096x2048 .bf16 := m ((c : Thread nD τ).loc main_arg0)
/-- the keys and values -/
abbrev KV : FVec Ideal S2x256x2048 .bf16 := m ((c : Thread nD τ).loc main_arg1)
/-- and the output gradients, as launched. -/
abbrev G : FVec Ideal S4096x2048 .bf16 := m ((c : Thread nD τ).loc main_arg2)

/-- Row `i` of an array of rows, -/
abbrev row (X : FVec Ideal S4096x2048 .bf16) (i : Fin 4096) : Fin 2048 → EReal := fun k => X (ix2 i k)

/-- and the keys (`a = 0`) or values (`a = 1`). -/
abbrev mem (X : FVec Ideal S2x256x2048 .bf16) (a : Fin 2) : Fin 256 → Fin 2048 → EReal := fun j k => X (ix3 a j k)

/-- The blocks each of the sixteen iterations names: its own rows of the queries and of the output's gradient, the whole memory. -/
theorem idx : ∀ t : Fin cfg0.N, win0_0.index t = ![t.val, 0] ∧ win0_1.index t = ![0, 0, 0] ∧ win0_2.index t = ![t.val, 0]
    ∧ win0_3.index t = ![t.val, 0] ∧ win0_4.index t = ![0, 0, 0] :=
  (by decide +kernel : ∀ t : Fin grid0.N, _)

/-- The array row that is row `r` of point `t`'s block. -/
def rowOf (t : Fin cfg0.N) (r : Fin 256) : Fin 4096 := ⟨t.val * 256 + r.val, by have := t.isLt; have : cfg0.N = 16 := N_0; omega⟩

/-- A block of the queries is the rows of its iteration. -/
theorem blk_q (t : Fin cfg0.N) (r : Fin 256) (k : Fin 2048) : iblk m c 0 t (ix2 r k) = Q m c (ix2 (rowOf t r) k) := by
  blk_point [iblk, V, idx t]
  rfl

/-- A block of the output's gradient is the rows of its iteration. -/
theorem blk_g (t : Fin cfg0.N) (r : Fin 256) (k : Fin 2048) : iblk m c 2 t (ix2 r k) = G m c (ix2 (rowOf t r) k) := by
  blk_point [iblk, V, idx t]
  rfl

/-- The block of keys and values is the whole array. -/
theorem blk_kv (t : Fin cfg0.N) (b : Fin 2) (j : Fin 256) (k : Fin 2048) : iblk m c 1 t (ix3 b j k) = KV m c (ix3 b j k) := by
  blk_point [iblk, V, idx t]

/-- The gradient of the queries, as an array, -/
def finalQ : FVec Ideal S4096x2048 .bf16 := fun y =>
  gradQ (row (Q m c) (y 0)) (mem (KV m c) 0) (mem (KV m c) 1) (row (G m c) (y 0)) (headOf (y 1)) (laneOf (y 1))

/-- and those of the keys and values: every point's contribution, added up. -/
def finalKV : FVec Ideal S2x256x2048 .f32 := fun y =>
  ∑ t : Fin cfg0.N, Point.addKV (iblk m c 0 t) (iblk m c 2 t) (iblk m c 1 t) (y 0) (y 1) (y 2)

/-- The array of query gradients after the last iteration. -/
theorem arr_q : (dats m 0 c).arrAt 3 cfg0.N = finalQ m c := by
  refine (dats m 0 c).arrAt_eq_of_covers 3 _ (by decide +kernel) fun t hf y => ?_
  blk_simp [idx t]
  rw [after0_3, Point.dq_at]
  obtain ⟨r, k, rfl⟩ : ∃ (r : Fin 256) (k : Fin 2048), y = ix2 r k := ⟨y 0, y 1, eq_ix2 y⟩
  have e : (win0_3.blk t).view.emb (ix2 r k) = ix2 (rowOf t r) k := by
    blk_ext [idx t]
    rfl
  rw [e]
  show gradQ (Point.row _ r) (Point.mem _ 0) (Point.mem _ 1) (Point.row _ r) (headOf k) (laneOf k) = gradQ _ _ _ _ (headOf k) (laneOf k)
  congr 1
  · exact funext fun k => blk_q m c t r k
  · exact funext fun j => funext fun k => blk_kv m c t 0 j k
  · exact funext fun j => funext fun k => blk_kv m c t 1 j k
  · exact funext fun k => blk_g m c t r k

/-- The array of key and value gradients after the last iteration. -/
theorem arr_kv : (dats m 0 c).arrAt 4 cfg0.N = finalKV m c := by
  refine (dats m 0 c).arrAt_eq_of_after_last 4 t0_15 (by decide +kernel) _ fun j => ?_
  blk_simp [idx t0_15]
  have first : ∀ t : Fin cfg0.N, t.val % 16 = 0 → ∀ y : S2x256x2048.Idx, (outsAt0 m c t.val t.isLt).2 y
      = 0 + Point.addKV (iblk m c 0 t) (iblk m c 2 t) (iblk m c 1 t) (y 0) (y 1) (y 2) := fun t h y =>
    (congrFun (Point.dkv_first m c t h) y).trans (congrArg (· + _) Ideal.ofBits_zero_f32)
  have later : ∀ t : Fin cfg0.N, ¬t.val % 16 = 0 → ∀ y : S2x256x2048.Idx, (outsAt0 m c t.val t.isLt).2 y
      = (outsAt0 m c (t.val - 1) (Nat.lt_of_le_of_lt (Nat.sub_le _ _) t.isLt)).2 y
        + Point.addKV (iblk m c 0 t) (iblk m c 2 t) (iblk m c 1 t) (y 0) (y 1) (y 2) := fun t h y =>
    congrFun (Point.dkv_later m c t h) y
  rw [after0_4, Pipeline.eq_sum_fin_of_reset_step_apply_last (M := EReal) (fun n h => (outsAt0 m c n h).2) 16 (fun _ => 0)
    (fun t y => Point.addKV (iblk m c 0 t) (iblk m c 2 t) (iblk m c 1 t) (y 0) (y 1) (y 2)) first later (le_of_eq N_0) t0_15 rfl j]
  exact zero_add (finalKV m c j : EReal)

/-- The same, a row at a time. -/
theorem rows_q (t : Fin cfg0.N) (r : Fin 256) : Point.row (iblk m c 0 t) r = row (Q m c) (rowOf t r) := funext fun k => blk_q m c t r k

/-- The same, a row at a time. -/
theorem rows_g (t : Fin cfg0.N) (r : Fin 256) : Point.row (iblk m c 2 t) r = row (G m c) (rowOf t r) := funext fun k => blk_g m c t r k

/-- The same, the keys or the values at a time. -/
theorem mem_kv (t : Fin cfg0.N) (b : Fin 2) : Point.mem (iblk m c 1 t) b = mem (KV m c) b :=
  funext fun j => funext fun k => blk_kv m c t b j k

/-- The gradient of the keys: the sum over all rows, -/
theorem finalKV_0 (j : Fin 256) (k : Fin 2048) :
    finalKV m c (ix3 0 j k)
      = ∑ i : Fin 4096, gradK (row (Q m c) i) (mem (KV m c) 0) (mem (KV m c) 1) (row (G m c) i) (headOf k) j (laneOf k) := by
  refine Fin.sum_mul_add_congr (S := cfg0.N) (n := 256)
    (F := fun t r => gradK (Point.row (iblk m c 0 t) r) (Point.mem (iblk m c 1 t) 0) (Point.mem (iblk m c 1 t) 1) (Point.row (iblk m c 2 t) r) (headOf k) j (laneOf k)) fun t r hl => ?_
  simp only [rows_q, rows_g, mem_kv]
  rfl

/-- and likewise of the values. -/
theorem finalKV_1 (j : Fin 256) (k : Fin 2048) :
    finalKV m c (ix3 1 j k) = ∑ i : Fin 4096, gradV (row (Q m c) i) (mem (KV m c) 0) (row (G m c) i) (headOf k) j (laneOf k) := by
  refine Fin.sum_mul_add_congr (S := cfg0.N) (n := 256)
    (F := fun t r => gradV (Point.row (iblk m c 0 t) r) (Point.mem (iblk m c 1 t) 0) (Point.row (iblk m c 2 t) r) (headOf k) j (laneOf k)) fun t r hl => ?_
  simp only [rows_q, rows_g, mem_kv]
  rfl

end Cert.Attn.Array

end
-- ==== Proof.Attn.Pre.lean ====
module

public import proofs.«01_k».proof.Pre_finite_scores
public import Idealize.ShloMosaic.Lib.ReduceAll
public import Idealize.ShloMosaic.Lib.Affine
public import Idealize.ShloMosaic.Lib.Pipeline.ValueKit
public import Idealize.ShloMosaic.PureOps.Ideal

@[expose] public section

noncomputable section

/-!
  What the precondition says: every query entry and every key entry is a real number.
-/

open Idealize.ShloMosaic Cert.Pre_finite_scores

namespace Cert.Attn.Pre

/-- The shape relations the printed precondition takes. -/
theorem facts : Cert.Pre_finite_scores.Facts where
  bcast_S_S4096x2048 := by decide
  reducesTo_S4096x2048_S_d0_1 := by decide
  h_S_ := by decide
  slices_S2x256x2048_S1x256x2048_0_0_0 := by decide
  shapeCasts_S1x256x2048_S256x2048 := by decide
  bcast_S_S256x2048 := by decide
  reducesTo_S256x2048_S_d0_1 := by decide

/-- A rank-zero shape has one index. -/
instance : Subsingleton S_.Idx := ⟨fun a b => funext fun i => i.elim0⟩

/-- The bit pattern of the bf16 infinity reads as the top of the extended reals. -/
theorem ofBits_inf : Ideal.ofBits .bf16 0x7F80#16 = ⊤ := by
  simp [Ideal.ofBits, Ideal.ieee]

/-- An extended real whose absolute value is below infinity is a real number. -/
theorem real_of_abs (x : EReal) (h : Ideal.cmp .olt (max x (-x)) (Ideal.ofBits .bf16 0x7F80#16) = 1#1) : ∃ r : ℝ, x = r := by
  rw [ofBits_inf] at h
  induction x using EReal.rec with
  | bot => simp [Ideal.cmp] at h
  | coe r => exact ⟨r, rfl⟩
  | top => simp [Ideal.cmp] at h

variable [Cert.Pre_finite_scores.Facts]

/-- Under the precondition the queries and the keys are real numbers. -/
theorem finite (Q : FVec Ideal S4096x2048 .bf16) (KV : FVec Ideal S2x256x2048 .bf16) (G : FVec Ideal S4096x2048 .bf16)
    (h : fn (F := Ideal) Q KV G = fun _ => 1#1) :
    (∀ i k, ∃ r : ℝ, Q (ix2 i k) = r) ∧ ∀ j k, ∃ r : ℝ, KV (ix3 0 j k) = r := by
  obtain ⟨hq, hk⟩ := IntOp.andi_eq_one.1 (congrFun h (fun i => i.elim0))
  constructor
  · intro i k
    have e := Host.reduce_andi_all _ _ _ _ _ hq (ix2 i k)
    exact real_of_abs _ e
  · intro j k
    have e := Host.reduce_andi_all _ _ _ _ _ hk (ix2 j k)
    obtain ⟨r, hr⟩ := real_of_abs _ e
    refine ⟨r, hr ▸ ?_⟩
    pointwise

end Cert.Attn.Pre

end
-- ==== Proof.Attn.Claims.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Attn.Ref
public import proofs.«01_k».proof.Proof.Attn.Array
public import proofs.«01_k».proof.Proof.Attn.Pre
public import Idealize.ShloMosaic.Lib.Quiescent

@[expose] public section

noncomputable section

/-!
  The claims about the gradients of the cross-attention.
-/

open Idealize.ShloMosaic Idealize.SL.Sem

namespace Cert.Attn

attribute [local instance] Cert.Attn.Pre.facts

/-- The kernel ends, leaves its arguments and every counter as they were, on the machine's numbers. -/
theorem frame_kernel : Cert.quiescent_Kernel := fun m ρ _ => Cert.Kernel.Gen.frame m ρ

/-- The same over the extended reals. -/
theorem frame_ideal : Cert.quiescent_KernelIdeal := fun m ρ _ => Cert.KernelIdeal.Gen.frame m ρ

/-- The same under the precondition. -/
theorem frame_ideal_pre : Cert.quiescent_KernelIdeal_pre_finite_scores := fun m ρ _ => Cert.KernelIdeal.Gen.frame m ρ

/-- The reference ends and leaves its arguments as they were; it declares no counter. -/
theorem frame_ref : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run m ρ)

/-- The same under the precondition. -/
theorem frame_ref_pre : Cert.quiescent_ReferenceIdeal_pre_finite_scores := fun m ρ _ => frame_ref m ρ trivial

/-- Where queries and keys are real numbers, the reference's first result is the array of query gradients the kernel leaves. -/
theorem result_q (m : (ℓ : Loc Cert.KernelIdeal.nD Cert.KernelIdeal.τ Cert.KernelIdeal.sig) → Buf (Elt Ideal) ℓ)
    (c : Dev Cert.KernelIdeal.nD)
    (hQ : ∀ i k, ∃ r : ℝ, Ref.row (Array.Q m c) i k = r) (hK : ∀ j k, ∃ r : ℝ, Ref.mem (Array.KV m c) 0 j k = r) :
    Cert.ReferenceIdeal.Read.val_main_v75 (F := Ideal) (Array.Q m c) (Array.KV m c) (Array.G m c) = Array.finalQ m c := by
  funext y
  obtain ⟨i, k, rfl⟩ : ∃ i k, y = ix2 i k := ⟨y 0, y 1, eq_ix2 y⟩
  exact Ref.dq _ _ _ hQ hK i k

/-- Likewise the second result: the gradients of the keys, then those of the values. -/
theorem result_kv (m : (ℓ : Loc Cert.KernelIdeal.nD Cert.KernelIdeal.τ Cert.KernelIdeal.sig) → Buf (Elt Ideal) ℓ)
    (c : Dev Cert.KernelIdeal.nD)
    (hQ : ∀ i k, ∃ r : ℝ, Ref.row (Array.Q m c) i k = r) (hK : ∀ j k, ∃ r : ℝ, Ref.mem (Array.KV m c) 0 j k = r) :
    Cert.ReferenceIdeal.Read.val_main_v73 (F := Ideal) (Array.Q m c) (Array.KV m c) (Array.G m c) = Array.finalKV m c := by
  funext y
  obtain ⟨a, j, k, rfl⟩ : ∃ a j k, y = ix3 a j k := ⟨y 0, y 1, y 2, eq_ix3 y⟩
  obtain rfl | rfl : a = 0 ∨ a = 1 := by revert a; decide
  · exact (Ref.dkv_0 _ _ _ hQ hK j k).trans (Array.finalKV_0 m c j k).symm
  · exact (Ref.dkv_1 _ _ _ j k).trans (Array.finalKV_1 m c j k).symm

/-- The kernel and the reference agree over the extended reals where queries and keys are real numbers. -/
theorem algebraic : Cert.algebraic_KernelIdeal_ReferenceIdeal_pre_finite_scores := by
  intro m ρ m' ρ' hpre hagree
  refine ⟨fun c => Array.finalQ m c, fun c => Array.finalKV m c, ?_, ?_⟩
  · exact (θ_run Cert.KernelIdeal.defs _ _).mono
      (fun r h c => ⟨(h c).1.trans (Array.arr_q m c), (h c).2.1.trans (Array.arr_kv m c), (h c).2.2⟩)
      (Cert.KernelIdeal.Value.run_blocks m ρ)
  · refine (θ_run Cert.ReferenceIdeal.defs _ _).mono (fun r h c => ?_) (Cert.ReferenceIdeal.Value.run m' ρ')
    obtain ⟨hQ, hK⟩ := Pre.finite _ _ _ (hpre c)
    obtain ⟨a0, a1, a2⟩ := hagree c
    refine ⟨(h c).1.trans ?_, (h c).2.1.trans ?_, (h c).2.2⟩
    · refine (Cert.ReferenceIdeal.Read.val_main_v75_eq m' c).trans ?_
      rw [a0, a1, a2]
      exact result_q m c hQ hK
    · refine (Cert.ReferenceIdeal.Read.val_main_v73_eq m' c).trans ?_
      rw [a0, a1, a2]
      exact result_kv m c hQ hK

end Cert.Attn

end
-- ==== Proof.Ffn.Run.lean ====
/- The feed-forward layer's four launches, run one after another: what the three results hold when the last has ended. -/
module

public import proofs.«01_k».proof.Proof.Gen.FfnKernelIdeal.Frame

@[expose] public section

set_option maxRecDepth 16384

noncomputable section

namespace Cert.Ffn

open Cert.FfnKernelIdeal Cert.FfnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The gradient of the two halves, made by the third launch, is only read by the fourth. -/
theorem end_dgu : W4 m ρ c (Proc.devRef .tc main_v2) = (dat2 (V2 m ρ) c).arrAt 3 cfg2.N :=
  (W4_of m ρ c main_v2 (by decide)).trans (W3_arr m ρ c 3)

/-- The gradient of the first weights is made by the fourth. -/
theorem end_dwgu : W4 m ρ c (Proc.devRef .tc main_v3) = (dat3 (V3 m ρ) c).arrAt 2 cfg3.N := W4_arr m ρ c 2

/-- The gradient of the second weights, made by the second launch, is touched by neither of the two that follow. -/
theorem end_dwdown : W4 m ρ c (Proc.devRef .tc main_v1) = (dat1 (V1 m ρ) c).arrAt 2 cfg1.N :=
  (W4_of m ρ c main_v1 (by decide)).trans ((W3_of m ρ c main_v1 (by decide)).trans (W2_arr m ρ c 2))

/-- What the second launch finds in the activations is what the first left there, -/
theorem in1_act : V1 m ρ c main_v0_1 = (dat0 (V0 m ρ) c).arrAt 4 cfg0.N := W1_arr m ρ c 4

/-- with the output's gradient as launched. -/
theorem in1_dy : V1 m ρ c main_arg3 = m ((c : Thread nD τ).loc main_arg3) := W1_args m ρ c main_arg3 (by decide)

/-- What the third launch finds in the two halves is what the first left there, -/
theorem in2_gu : V2 m ρ c main_v0_0 = (dat0 (V0 m ρ) c).arrAt 3 cfg0.N :=
  (W2_of m ρ c main_v0_0 (by decide)).trans (W1_arr m ρ c 3)

/-- with the output's gradient -/
theorem in2_dy : V2 m ρ c main_arg3 = m ((c : Thread nD τ).loc main_arg3) := W2_args m ρ c main_arg3 (by decide)

/-- and the second weights as launched. -/
theorem in2_wdown : V2 m ρ c main_arg2 = m ((c : Thread nD τ).loc main_arg2) := W2_args m ρ c main_arg2 (by decide)

/-- What the fourth launch finds in the halves' gradient is what the third left there, -/
theorem in3_dgu : V3 m ρ c main_v2 = (dat2 (V2 m ρ) c).arrAt 3 cfg2.N := W3_arr m ρ c 3

/-- with the layer's input as launched. -/
theorem in3_h : V3 m ρ c main_arg0 = m ((c : Thread nD τ).loc main_arg0) := W3_args m ρ c main_arg0 (by decide)

set_option backward.isDefEq.respectTransparency.types false in
/-- The run: each result ends as its own launch leaves it, and the arguments as launched. -/
theorem run : θ_run defs (onTc (τ := τ) (main (F := F))) ⟨m, fun _ => 0, ρ⟩ (fun r => ∀ c : Dev nD,
      (r.2.mem ((c.tc : Thread nD τ).loc main_v2) = (dat2 (V2 m ρ) c).arrAt 3 cfg2.N
      ∧ r.2.mem ((c.tc : Thread nD τ).loc main_v3) = (dat3 (V3 m ρ) c).arrAt 2 cfg3.N
      ∧ r.2.mem ((c.tc : Thread nD τ).loc main_v1) = (dat1 (V1 m ρ) c).arrAt 2 cfg1.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨⟨(h c _ (mem_uc main_v2 (by decide))).trans (end_dgu m ρ c),
        (h c _ (mem_uc main_v3 (by decide))).trans (end_dwgu m ρ c),
        (h c _ (mem_uc main_v1 (by decide))).trans (end_dwdown m ρ c)⟩,
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.Ffn

end
-- ==== Proof.Ffn.Array.lean ====
/- The arrays the feed-forward layer's four launches leave, each from the contents it is entered with. -/
module

public import proofs.«01_k».proof.Proof.Gen.FfnKernelIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Cert.FfnKernelIdeal Cert.FfnKernelIdeal.Gen

namespace Cert.Ffn

/-- Column `j` of half `a` (the gate's or the up projection's) of the layer's input times its first weights. -/
def half (H : FVec Ideal S4096x2048 .bf16) (W : FVec Ideal S1x2048x11264 .bf16) (a : Fin 2) (i : Fin 4096) (j : Fin 5632) : EReal :=
  ∑ k : Fin 2048, H (ix2 i k) * W (ix3 0 k ⟨a.val * 5632 + j.val, by omega⟩)

/-- Both halves, one plane each. -/
def gu (H : FVec Ideal S4096x2048 .bf16) (W : FVec Ideal S1x2048x11264 .bf16) : FVec Ideal S2x4096x5632 .bf16 := fun y =>
  half H W (y 0) (y 1) (y 2)

/-- The activations: the gate through its sigmoid, times the up projection. -/
def act (H : FVec Ideal S4096x2048 .bf16) (W : FVec Ideal S1x2048x11264 .bf16) : FVec Ideal S4096x5632 .bf16 := fun y =>
  half H W 0 (y 0) (y 1) * Ideal.logistic (half H W 0 (y 0) (y 1)) * half H W 1 (y 0) (y 1)

/-- The gradient of the second weights: the transposed activations times the output's gradient. -/
def down (A : FVec Ideal S4096x5632 .bf16) (Y : FVec Ideal S4096x2048 .bf16) (i : Fin 5632) (j : Fin 2048) : EReal :=
  ∑ n : Fin 4096, A (ix2 n i) * Y (ix2 n j)

/-- The same as an array. -/
def dwdown (A : FVec Ideal S4096x5632 .bf16) (Y : FVec Ideal S4096x2048 .bf16) : FVec Ideal S5632x2048 .bf16 := fun y => down A Y (y 0) (y 1)

/-- The gradient of the activations: the output's times the transposed second weights. -/
def da (Y : FVec Ideal S4096x2048 .bf16) (W : FVec Ideal S1x5632x2048 .bf16) (i : Fin 4096) (j : Fin 5632) : EReal :=
  ∑ k : Fin 2048, Y (ix2 i k) * W (ix3 0 j k)

/-- The gate's gradient, from the activations' `a`, the gate `g` and the up projection `u`. -/
def dgate (a g u : EReal) : EReal :=
  a * u * (Ideal.logistic g + g * Ideal.logistic g * (1 - Ideal.logistic g))

/-- The up projection's. -/
def dup (a g : EReal) : EReal := a * g * Ideal.logistic g

/-- The gradients of both halves, one plane each. -/
def dgu (Y : FVec Ideal S4096x2048 .bf16) (W : FVec Ideal S1x5632x2048 .bf16) (G : FVec Ideal S2x4096x5632 .bf16) : FVec Ideal S2x4096x5632 .bf16 := fun y =>
  if (y 0).val = 0 then dgate (da Y W (y 1) (y 2)) (G (ix3 0 (y 1) (y 2))) (G (ix3 1 (y 1) (y 2)))
  else dup (da Y W (y 1) (y 2)) (G (ix3 0 (y 1) (y 2)))

/-- The gradient of the first weights: the transposed input times the halves' gradients side by side. -/
def first (H : FVec Ideal S4096x2048 .bf16) (D : FVec Ideal S2x4096x5632 .bf16) (i : Fin 2048) (j : Fin 11264) : EReal :=
  ∑ n : Fin 4096, H (ix2 n i) * D (ix3 ⟨j.val / 5632, by omega⟩ n ⟨j.val % 5632, Nat.mod_lt _ (by decide)⟩)

/-- The same as an array. -/
def dwgu (H : FVec Ideal S4096x2048 .bf16) (D : FVec Ideal S2x4096x5632 .bf16) : FVec Ideal S2048x11264 .bf16 := fun y => first H D (y 0) (y 1)

variable (V : (c : Dev nD) → (b : Ref sig .tc) → Buf (Elt Ideal) ((c : Thread nD τ).loc b)) (c : Dev nD)

/-- The layer's input, as a launch finds it, -/
abbrev vH : FVec Ideal S4096x2048 .bf16 := V c main_arg0
/-- the first weights, -/
abbrev vW : FVec Ideal S1x2048x11264 .bf16 := V c main_arg1
/-- the second weights, -/
abbrev vWd : FVec Ideal S1x5632x2048 .bf16 := V c main_arg2
/-- the output's gradient, -/
abbrev vY : FVec Ideal S4096x2048 .bf16 := V c main_arg3
/-- the two halves, -/
abbrev vG : FVec Ideal S2x4096x5632 .bf16 := V c main_v0_0
/-- the activations, -/
abbrev vA : FVec Ideal S4096x5632 .bf16 := V c main_v0_1
/-- and the halves' gradients. -/
abbrev vD : FVec Ideal S2x4096x5632 .bf16 := V c main_v2

/-! ## The first launch: the two halves and the activations -/

/-- The blocks each iteration names. -/
theorem idx0 : ∀ t : Fin cfg0.N, win0_0.index t = ![t.val / 11, 0] ∧ win0_1.index t = ![0, 0, t.val % 11] ∧ win0_2.index t = ![0, 0, t.val % 11 + 11]
    ∧ win0_3.index t = ![0, t.val / 11, t.val % 11] ∧ win0_4.index t = ![t.val / 11, t.val % 11] :=
  (by decide +kernel : ∀ t : Fin grid0.N, _)

/-- Row `r` of point `t`'s block, in the array, -/
def row0 (t : Fin cfg0.N) (r : Fin 1024) : Fin 4096 := ⟨t.val / 11 * 1024 + r.val, by have := t.isLt; have : cfg0.N = 44 := N_0; omega⟩
/-- and column `s`. -/
def col0 (t : Fin cfg0.N) (s : Fin 512) : Fin 5632 := ⟨t.val % 11 * 512 + s.val, by omega⟩

/-- A block of the layer's input, -/
theorem blk0_h (t : Fin cfg0.N) (r : Fin 1024) (k : Fin 2048) : iblk0 V c 0 t (ix2 r k) = vH V c (ix2 (row0 t r) k) := by
  blk_point [iblk0, idx0 t, row0]

/-- of the gate's weights, -/
theorem blk0_g (t : Fin cfg0.N) (k : Fin 2048) (s : Fin 512) :
    iblk0 V c 1 t (ix3 0 k s) = vW V c (ix3 0 k ⟨(0 : Fin 2).val * 5632 + (col0 t s).val, by have := (col0 t s).isLt; show 0 * 5632 + _ < _; omega⟩) := by
  blk_point [iblk0, idx0 t, col0]
  all_goals omega

/-- and of the up projection's. -/
theorem blk0_u (t : Fin cfg0.N) (k : Fin 2048) (s : Fin 512) :
    iblk0 V c 2 t (ix3 0 k s) = vW V c (ix3 0 k ⟨(1 : Fin 2).val * 5632 + (col0 t s).val, by have := (col0 t s).isLt; show 1 * 5632 + _ < _; omega⟩) := by
  blk_point [iblk0, idx0 t, col0]
  all_goals omega

/-- The body's product with the gate's weights, -/
theorem pay0_g (t : Fin cfg0.N) (r : Fin 1024) (s : Fin 512) :
    k0_pay1 (F := Ideal) (iblk0 V c 0 t) (iblk0 V c 1 t) (ix2 r s) = half (vH V c) (vW V c) 0 (row0 t r) (col0 t s) := by
  refine Eq.trans ?_ (Finset.sum_congr rfl fun k _ => congrArg₂ (· * ·) (blk0_h V c t r k) (blk0_g V c t k s))
  generalize iblk0 V c 0 t = a
  generalize iblk0 V c 1 t = b
  pointwise [k0_pay1]

/-- and with the up projection's. -/
theorem pay0_u (t : Fin cfg0.N) (r : Fin 1024) (s : Fin 512) :
    k0_pay2 (F := Ideal) (iblk0 V c 0 t) (iblk0 V c 2 t) (ix2 r s) = half (vH V c) (vW V c) 1 (row0 t r) (col0 t s) := by
  refine Eq.trans ?_ (Finset.sum_congr rfl fun k _ => congrArg₂ (· * ·) (blk0_h V c t r k) (blk0_u V c t k s))
  generalize iblk0 V c 0 t = a
  generalize iblk0 V c 2 t = b
  pointwise [k0_pay2]

/-- The halves the first launch leaves. -/
theorem arr0_gu : (dat0 V c).arrAt 3 cfg0.N = gu (vH V c) (vW V c) := by
  refine (dat0 V c).arrAt_eq_of_covers 3 _ (by decide +kernel) fun t hf y => ?_
  blk_simp [idx0 t]
  rw [after0_3]
  obtain ⟨a, r, s, rfl⟩ : ∃ (a : Fin 2) (r : Fin 1024) (s : Fin 512), y = ix3 a r s := ⟨y 0, y 1, y 2, eq_ix3 y⟩
  have e : (win0_3.blk t).view.emb (ix3 a r s) = ix3 a (row0 t r) (col0 t s) := by
    blk_ext [idx0 t]
    all_goals first | rfl | omega
  rw [e]
  have eg := pay0_g V c t
  have eu := pay0_u V c t
  frame_out
  generalize iblk0 V c 0 t = x at eg eu ⊢
  generalize iblk0 V c 1 t = g at eg ⊢
  generalize iblk0 V c 2 t = u at eu ⊢
  canon_tiles z h
  · obtain ⟨q, r', s', rfl⟩ : ∃ (q : Fin 1) (r : Fin 1024) (s : Fin 512), z = ix3 q r s := ⟨z 0, z 1, z 2, eq_ix3 z⟩
    obtain rfl : r = r' := Fin.ext h1
    obtain rfl : s = s' := Fin.ext h2
    obtain rfl : a = 1 := Fin.ext (by have : a.val = 1 + q.val := h0; omega)
    pointwise [k0_pay4]
    exact eu r s
  · obtain ⟨q, r', s', rfl⟩ : ∃ (q : Fin 1) (r : Fin 1024) (s : Fin 512), z = ix3 q r s := ⟨z 0, z 1, z 2, eq_ix3 z⟩
    obtain rfl : r = r' := Fin.ext h1
    obtain rfl : s = s' := Fin.ext h2
    obtain rfl : a = 0 := Fin.ext (by have : a.val = q.val := h0; omega)
    pointwise [k0_pay3]
    exact eg r s

/-- The activations it leaves. -/
theorem arr0_act : (dat0 V c).arrAt 4 cfg0.N = act (vH V c) (vW V c) := by
  refine (dat0 V c).arrAt_eq_of_covers 4 _ (by decide +kernel) fun t hf y => ?_
  blk_simp [idx0 t]
  rw [after0_4]
  unfold out0_4
  frame_out
  obtain ⟨r, s, rfl⟩ : ∃ (r : Fin 1024) (s : Fin 512), y = ix2 r s := ⟨y 0, y 1, eq_ix2 y⟩
  have e : (win0_4.blk t).view.emb (ix2 r s) = ix2 (row0 t r) (col0 t s) := by
    blk_ext [idx0 t]
    all_goals rfl
  rw [e]
  unfold k0_pay5
  pointwise []
  rw [pay0_g, pay0_u]
  rfl

/-! ## The second launch: the gradient of the second weights -/

/-- The blocks each iteration names. -/
theorem idx1 : ∀ t : Fin cfg1.N, win1_0.index t = ![0, t.val / 2] ∧ win1_1.index t = ![0, t.val % 2] ∧ win1_2.index t = ![t.val / 2, t.val % 2] :=
  (by decide +kernel : ∀ t : Fin grid1.N, _)

/-- Row `r` of point `t`'s block, in the array, -/
def row1 (t : Fin cfg1.N) (r : Fin 512) : Fin 5632 := ⟨t.val / 2 * 512 + r.val, by have := t.isLt; have : cfg1.N = 22 := N_1; omega⟩
/-- and column `s`. -/
def col1 (t : Fin cfg1.N) (s : Fin 1024) : Fin 2048 := ⟨t.val % 2 * 1024 + s.val, by omega⟩

/-- A block of the activations, -/
theorem blk1_a (t : Fin cfg1.N) (n : Fin 4096) (r : Fin 512) : iblk1 V c 0 t (ix2 n r) = vA V c (ix2 n (row1 t r)) := by
  blk_point [iblk1, idx1 t, row1]

/-- and of the output's gradient. -/
theorem blk1_y (t : Fin cfg1.N) (n : Fin 4096) (s : Fin 1024) : iblk1 V c 1 t (ix2 n s) = vY V c (ix2 n (col1 t s)) := by
  blk_point [iblk1, idx1 t, col1]

/-- The body's product. -/
theorem pay1_dw (t : Fin cfg1.N) (r : Fin 512) (s : Fin 1024) :
    k1_pay1 (F := Ideal) (iblk1 V c 0 t) (iblk1 V c 1 t) (ix2 r s) = down (vA V c) (vY V c) (row1 t r) (col1 t s) := by
  refine Eq.trans ?_ (Finset.sum_congr rfl fun n _ => congrArg₂ (· * ·) (blk1_a V c t n r) (blk1_y V c t n s))
  generalize iblk1 V c 0 t = a
  generalize iblk1 V c 1 t = b
  pointwise [k1_pay1]

/-- The gradient of the second weights it leaves. -/
theorem arr1 : (dat1 V c).arrAt 2 cfg1.N = dwdown (vA V c) (vY V c) := by
  refine (dat1 V c).arrAt_eq_of_covers 2 _ (by decide +kernel) fun t hf y => ?_
  blk_simp [idx1 t]
  rw [after1_2]
  obtain ⟨r, s, rfl⟩ : ∃ (r : Fin 512) (s : Fin 1024), y = ix2 r s := ⟨y 0, y 1, eq_ix2 y⟩
  have e : (win1_2.blk t).view.emb (ix2 r s) = ix2 (row1 t r) (col1 t s) := by
    blk_ext [idx1 t]
    all_goals rfl
  rw [e]
  unfold out1_2
  frame_out
  exact pay1_dw V c t r s

/-! ## The third launch: the gradients of the two halves -/

/-- The blocks each iteration names. -/
theorem idx2 : ∀ t : Fin cfg2.N, win2_0.index t = ![t.val / 11, 0] ∧ win2_1.index t = ![0, t.val % 11, 0] ∧ win2_2.index t = ![0, t.val / 11, t.val % 11]
    ∧ win2_3.index t = ![0, t.val / 11, t.val % 11] :=
  (by decide +kernel : ∀ t : Fin grid2.N, _)

/-- Row `r` of point `t`'s block, in the array, -/
def row2 (t : Fin cfg2.N) (r : Fin 1024) : Fin 4096 := ⟨t.val / 11 * 1024 + r.val, by have := t.isLt; have : cfg2.N = 44 := N_2; omega⟩
/-- and column `s`. -/
def col2 (t : Fin cfg2.N) (s : Fin 512) : Fin 5632 := ⟨t.val % 11 * 512 + s.val, by omega⟩

/-- A block of the output's gradient, -/
theorem blk2_y (t : Fin cfg2.N) (r : Fin 1024) (k : Fin 2048) : iblk2 V c 0 t (ix2 r k) = vY V c (ix2 (row2 t r) k) := by
  blk_point [iblk2, idx2 t, row2]

/-- of the second weights, -/
theorem blk2_w (t : Fin cfg2.N) (s : Fin 512) (k : Fin 2048) : iblk2 V c 1 t (ix3 0 s k) = vWd V c (ix3 0 (col2 t s) k) := by
  blk_point [iblk2, idx2 t, col2]

/-- and of the two halves. -/
theorem blk2_g (t : Fin cfg2.N) (a : Fin 2) (r : Fin 1024) (s : Fin 512) : iblk2 V c 2 t (ix3 a r s) = vG V c (ix3 a (row2 t r) (col2 t s)) := by
  blk_point [iblk2, idx2 t, row2, col2]

/-- The body's product: the activations' gradient. -/
theorem pay2_da (t : Fin cfg2.N) (r : Fin 1024) (s : Fin 512) :
    k2_pay1 (F := Ideal) (iblk2 V c 0 t) (iblk2 V c 1 t) (ix2 r s) = da (vY V c) (vWd V c) (row2 t r) (col2 t s) := by
  refine Eq.trans ?_ (Finset.sum_congr rfl fun k _ => congrArg₂ (· * ·) (blk2_y V c t r k) (blk2_w V c t s k))
  generalize iblk2 V c 0 t = a
  generalize iblk2 V c 1 t = b
  pointwise [k2_pay1]

/-- The plane at `o` of two, loaded from a block. -/
theorem plane (x : FVec Ideal S2x1024x512 .bf16) (o : Fin 2) (inb) (q : Fin 1) (r : Fin 1024) (s : Fin 512) :
    View.ld (Val := Elt Ideal) (e' := .bf16) x (Rect.unit (s := S2x1024x512) ![o.val, 0, 0] S1x1024x512.size inb) (ix3 q r s) = x (ix3 o r s) := by
  refine View.ld_unit_apply_of (Val := Elt Ideal) (e := .bf16) x _ _ _ _ _ fun a => ?_
  fin_cases a
  · show o.val = o.val + q.val
    omega
  · show r.val = 0 + r.val
    omega
  · show s.val = 0 + s.val
    omega

/-- The gate's gradient, as the body makes it from its product and two planes, -/
theorem pay2_gate (x : FVec Ideal S1024x2048 .bf16) (w : FVec Ideal S1x512x2048 .bf16) (g u : FVec Ideal S1x1024x512 .bf16) (q : Fin 1) (r : Fin 1024) (s : Fin 512) :
    k2_pay4 (F := Ideal) x w g u (ix3 q r s) = dgate (k2_pay1 (F := Ideal) x w (ix2 r s)) (g (ix3 0 r s)) (u (ix3 0 r s)) := by
  unfold k2_pay4 dgate
  generalize k2_pay1 (F := Ideal) x w = a
  pointwise [k2_pay3, k2_pay2]

/-- and the up projection's. -/
theorem pay2_up (x : FVec Ideal S1024x2048 .bf16) (w : FVec Ideal S1x512x2048 .bf16) (g : FVec Ideal S1x1024x512 .bf16) (q : Fin 1) (r : Fin 1024) (s : Fin 512) :
    k2_pay5 (F := Ideal) x w g (ix3 q r s) = dup (k2_pay1 (F := Ideal) x w (ix2 r s)) (g (ix3 0 r s)) := by
  unfold k2_pay5 dup
  generalize k2_pay1 (F := Ideal) x w = a
  pointwise [k2_pay3, k2_pay2]

/-- The halves' gradients it leaves. -/
theorem arr2 : (dat2 V c).arrAt 3 cfg2.N = dgu (vY V c) (vWd V c) (vG V c) := by
  refine (dat2 V c).arrAt_eq_of_covers 3 _ (by decide +kernel) fun t hf y => ?_
  blk_simp [idx2 t]
  rw [after2_3]
  obtain ⟨a, r, s, rfl⟩ : ∃ (a : Fin 2) (r : Fin 1024) (s : Fin 512), y = ix3 a r s := ⟨y 0, y 1, y 2, eq_ix3 y⟩
  have e : (win2_3.blk t).view.emb (ix3 a r s) = ix3 a (row2 t r) (col2 t s) := by
    blk_ext [idx2 t]
    all_goals first | rfl | omega
  rw [e]
  have ep := pay2_da V c t
  have eg := blk2_g V c t
  frame_out
  generalize iblk2 V c 0 t = x at ep ⊢
  generalize iblk2 V c 1 t = w at ep ⊢
  generalize iblk2 V c 2 t = g at eg ⊢
  canon_tiles z h
  · obtain ⟨q, r', s', rfl⟩ : ∃ (q : Fin 1) (r : Fin 1024) (s : Fin 512), z = ix3 q r s := ⟨z 0, z 1, z 2, eq_ix3 z⟩
    obtain rfl : r = r' := Fin.ext h1
    obtain rfl : s = s' := Fin.ext h2
    obtain rfl : a = 1 := Fin.ext (by have : a.val = 1 + q.val := h0; omega)
    rw [pay2_up, ep]
    exact congrArg (dup _) ((plane g 0 _ 0 r s).trans (eg 0 r s))
  · obtain ⟨q, r', s', rfl⟩ : ∃ (q : Fin 1) (r : Fin 1024) (s : Fin 512), z = ix3 q r s := ⟨z 0, z 1, z 2, eq_ix3 z⟩
    obtain rfl : r = r' := Fin.ext h1
    obtain rfl : s = s' := Fin.ext h2
    obtain rfl : a = 0 := Fin.ext (by have : a.val = q.val := h0; omega)
    rw [pay2_gate, ep]
    exact congrArg₂ (dgate _) ((plane g 0 _ 0 r s).trans (eg 0 r s)) ((plane g 1 _ 0 r s).trans (eg 1 r s))

/-! ## The fourth launch: the gradient of the first weights -/

/-- The blocks each iteration names. -/
theorem idx3 : ∀ t : Fin cfg3.N, win3_0.index t = ![0, t.val / 22] ∧ win3_1.index t = ![t.val % 22 / 11, 0, t.val % 22 % 11] ∧ win3_2.index t = ![t.val / 22, t.val % 22] :=
  (by decide +kernel : ∀ t : Fin grid3.N, _)

/-- Row `r` of point `t`'s block, in the array, -/
def row3 (t : Fin cfg3.N) (r : Fin 512) : Fin 2048 := ⟨t.val / 22 * 512 + r.val, by have := t.isLt; have : cfg3.N = 88 := N_3; omega⟩
/-- and column `s`. -/
def col3 (t : Fin cfg3.N) (s : Fin 512) : Fin 11264 := ⟨t.val % 22 * 512 + s.val, by omega⟩

/-- A block of the layer's input, -/
theorem blk3_h (t : Fin cfg3.N) (n : Fin 4096) (r : Fin 512) : iblk3 V c 0 t (ix2 n r) = vH V c (ix2 n (row3 t r)) := by
  blk_point [iblk3, idx3 t, row3]

/-- and of the halves' gradients. -/
theorem blk3_d (t : Fin cfg3.N) (n : Fin 4096) (s : Fin 512) :
    iblk3 V c 1 t (ix3 0 n s) = vD V c (ix3 ⟨(col3 t s).val / 5632, by have := (col3 t s).isLt; omega⟩ n ⟨(col3 t s).val % 5632, Nat.mod_lt _ (by decide)⟩) := by
  blk_point [iblk3, idx3 t, col3]
  all_goals omega

/-- The body's product. -/
theorem pay3_dw (t : Fin cfg3.N) (r s : Fin 512) :
    k3_pay1 (F := Ideal) (iblk3 V c 0 t) (iblk3 V c 1 t) (ix2 r s) = first (vH V c) (vD V c) (row3 t r) (col3 t s) := by
  refine Eq.trans ?_ (Finset.sum_congr rfl fun n _ => congrArg₂ (· * ·) (blk3_h V c t n r) (blk3_d V c t n s))
  generalize iblk3 V c 0 t = a
  generalize iblk3 V c 1 t = b
  pointwise [k3_pay1]

/-- The gradient of the first weights it leaves. -/
theorem arr3 : (dat3 V c).arrAt 2 cfg3.N = dwgu (vH V c) (vD V c) := by
  refine (dat3 V c).arrAt_eq_of_covers 2 _ (by decide +kernel) fun t hf y => ?_
  blk_simp [idx3 t]
  rw [after3_2]
  obtain ⟨r, s, rfl⟩ : ∃ (r s : Fin 512), y = ix2 r s := ⟨y 0, y 1, eq_ix2 y⟩
  have e : (win3_2.blk t).view.emb (ix2 r s) = ix2 (row3 t r) (col3 t s) := by
    blk_ext [idx3 t]
    all_goals rfl
  rw [e]
  unfold out3_2
  frame_out
  exact pay3_dw V c t r s

end Cert.Ffn

end
-- ==== Proof.Ffn.Ref.lean ====
/- The reference for the feed-forward layer's backward pass, read at an index. -/
module

public import proofs.«01_k».proof.Proof.Gen.FfnReferenceIdeal.Read
public import proofs.«01_k».proof.Proof.Ffn.Array
public import Idealize.ShloMosaic.Lib.Pipeline.ValueKit
public import Idealize.ShloMosaic.PureOps.Ideal

@[expose] public section

set_option maxRecDepth 16384

noncomputable section

open Idealize.ShloMosaic Cert.FfnReferenceIdeal Cert.FfnReferenceIdeal.Read

namespace Cert.Ffn

/-! ## Real numbers -/

/-- A finite sum of real numbers is one. -/
theorem real_sum {n : ℕ} (f : Fin n → EReal) (h : ∀ k, ∃ r : ℝ, f k = r) : ∃ r : ℝ, ∑ k, f k = r :=
  Finset.sum_induction f (fun x => ∃ r : ℝ, x = r)
    (fun _ _ ⟨a, ha⟩ ⟨b, hb⟩ => ⟨a + b, by rw [ha, hb, EReal.coe_add]⟩) ⟨0, EReal.coe_zero.symm⟩ (fun k _ => h k)

/-- So is the product of two. -/
theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

/-- The sigmoid's part and the gate's part of the derivative may be added before the product, whatever the gate, where the factor they are multiplied
    with is a real number. -/
theorem gate_real {a g u : EReal} (ha : ∃ r : ℝ, a = r) (hu : ∃ r : ℝ, u = r) :
    a * u * Ideal.logistic g + g * (a * u) * (Ideal.logistic g * (1 - Ideal.logistic g)) = dgate a g u := by
  obtain ⟨a, rfl⟩ := ha
  obtain ⟨u, rfl⟩ := hu
  unfold dgate
  have h1 : (1 : EReal) - 1 = 0 := by rw [← EReal.coe_one, ← EReal.coe_sub, sub_self, EReal.coe_zero]
  induction g using EReal.rec with
  | bot => simp only [Ideal.logistic_bot, mul_zero, zero_mul, add_zero]
  | top => simp only [Ideal.logistic_top, h1, mul_zero, add_zero]
  | coe g =>
    rw [Ideal.logistic_coe]
    generalize (1 + Real.exp (-g))⁻¹ = s
    rw [← EReal.coe_one, ← EReal.coe_sub]
    simp only [← EReal.coe_mul, ← EReal.coe_add]
    congr 1
    ring

/-- Two places of an array of two planes with equal coordinates hold one value. -/
theorem same (D : FVec Ideal S2x4096x5632 .bf16) {a a' : Fin 2} {k k' : Fin 5632} (i : Fin 4096) (ha : a.val = a'.val) (hk : k.val = k'.val) :
    D (ix3 a i k) = D (ix3 a' i k') := by
  rw [Fin.ext ha, Fin.ext hk]

variable (H : FVec Ideal S4096x2048 .bf16) (W : FVec Ideal S1x2048x11264 .bf16) (Wd : FVec Ideal S1x5632x2048 .bf16) (Y : FVec Ideal S4096x2048 .bf16)

/-! ## The forward values -/

/-- The gate, -/
theorem ref_gate (i : Fin 4096) (j : Fin 5632) : val_main_v7 (F := Ideal) H W (ix2 i j) = half H W 0 i j := by
  unfold half
  pointwise [val_main_v7, val_main_v6, val_main_v0, val_main_v2, val_main_v1]

/-- and the up projection. -/
theorem ref_up (i : Fin 4096) (j : Fin 5632) : val_main_v8 (F := Ideal) H W (ix2 i j) = half H W 1 i j := by
  unfold half
  pointwise [val_main_v8, val_main_v6, val_main_v0, val_main_v2, val_main_v1]

/-- The gate's sigmoid. -/
theorem ref_sigmoid (i : Fin 4096) (j : Fin 5632) : val_main_v9_2 (F := Ideal) H W (ix2 i j) = Ideal.logistic (half H W 0 i j) := by
  have e := ref_gate H W i j
  unfold val_main_v9_2 val_main_call0_v3 val_main_call0_v1 val_main_call0_v0
  generalize val_main_v7 (F := Ideal) H W = x at e ⊢
  pointwise [val_main_call0_v4, val_main_call0_v2, val_main_call0_cst, val_main_call0_cst_0]
  rw [e]
  rfl

/-- The activations. -/
theorem ref_act (i : Fin 4096) (j : Fin 5632) : val_main_v10 (F := Ideal) H W (ix2 i j) = act H W (ix2 i j) := by
  have eg := ref_gate H W i j
  have eu := ref_up H W i j
  have es := ref_sigmoid H W i j
  unfold val_main_v10 val_main_v9_0
  generalize val_main_v7 (F := Ideal) H W = g at eg ⊢
  generalize val_main_v8 (F := Ideal) H W = u at eu ⊢
  generalize val_main_v9_2 (F := Ideal) H W = s at es ⊢
  pointwise []
  rw [eg, eu, es]
  rfl

/-! ## The backward values -/

/-- The gradient of the activations. -/
theorem ref_da (i : Fin 4096) (j : Fin 5632) : val_main_v14 (F := Ideal) Wd Y (ix2 i j) = da Y Wd i j := by
  unfold da
  pointwise [val_main_v14, val_main_v5, val_main_v4, val_main_v3]

/-- The gradient of the second weights. -/
theorem ref_dwdown : val_main_v29 (F := Ideal) H W Y = dwdown (act H W) Y := by
  funext y
  obtain ⟨i, k, rfl⟩ : ∃ (i : Fin 5632) (k : Fin 2048), y = ix2 i k := ⟨y 0, y 1, eq_ix2 y⟩
  have e := fun n => ref_act H W n i
  unfold val_main_v29 val_main_v13 val_main_v12
  generalize val_main_v10 (F := Ideal) H W = x at e ⊢
  pointwise [val_main_v5]
  exact Finset.sum_congr rfl fun n _ => (congrArg (_ * ·) (e n)).trans (mul_comm _ _)

/-- The up projection's gradient. -/
theorem ref_dup (i : Fin 4096) (j : Fin 5632) : val_main_v15 (F := Ideal) H W Wd Y (ix2 i j) = dup (da Y Wd i j) (half H W 0 i j) := by
  have eg := ref_gate H W i j
  have es := ref_sigmoid H W i j
  have ea := ref_da Wd Y i j
  unfold val_main_v15 val_main_v9_0
  generalize val_main_v7 (F := Ideal) H W = g at eg ⊢
  generalize val_main_v9_2 (F := Ideal) H W = s at es ⊢
  generalize val_main_v14 (F := Ideal) Wd Y = a at ea ⊢
  pointwise []
  rw [eg, es, ea]
  unfold dup
  rw [mul_comm, ← mul_assoc]

variable (hH : ∀ i k, ∃ r : ℝ, H (ix2 i k) = r) (hW : ∀ k (j : Fin 11264), 5632 ≤ j.val → ∃ r : ℝ, W (ix3 0 k j) = r)
  (hWd : ∀ j k, ∃ r : ℝ, Wd (ix3 0 j k) = r) (hY : ∀ i k, ∃ r : ℝ, Y (ix2 i k) = r)

include hH hW hWd hY

/-- The gate's gradient, where the arguments it multiplies are real numbers. -/
theorem ref_dgate (i : Fin 4096) (j : Fin 5632) :
    val_main_v17 (F := Ideal) H W Wd Y (ix2 i j) = dgate (da Y Wd i j) (half H W 0 i j) (half H W 1 i j) := by
  have eg := ref_gate H W i j
  have eu := ref_up H W i j
  have es := ref_sigmoid H W i j
  have ea := ref_da Wd Y i j
  unfold val_main_v17 val_main_call1_v2 val_main_call1_v1 val_main_call1_v0 val_main_v16 val_main_v9_1 val_main_call0_v7
  generalize val_main_v7 (F := Ideal) H W = g at eg ⊢
  generalize val_main_v8 (F := Ideal) H W = u at eu ⊢
  generalize val_main_v9_2 (F := Ideal) H W = s at es ⊢
  generalize val_main_v14 (F := Ideal) Wd Y = a at ea ⊢
  pointwise [val_main_call0_v6, val_main_call0_cst_1]
  rw [eg, eu, es, ea]
  exact gate_real (real_sum _ fun k => real_mul (hY i k) (hWd j k)) (real_sum _ fun k => real_mul (hH i k) (hW k _ (Nat.le_add_right _ _)))

/-- The gradients of the two halves, side by side. -/
theorem ref_beside (i : Fin 4096) (j : Fin 11264) : val_main_v18 (F := Ideal) H W Wd Y (ix2 i j)
    = dgu Y Wd (gu H W) (ix3 ⟨j.val / 5632, by omega⟩ i ⟨j.val % 5632, Nat.mod_lt _ (by decide)⟩) := by
  have e0 := ref_dgate H W Wd Y hH hW hWd hY
  have e1 := ref_dup H W Wd Y
  unfold val_main_v18
  generalize val_main_v17 (F := Ideal) H W Wd Y = a at e0 ⊢
  generalize val_main_v15 (F := Ideal) H W Wd Y = b at e1 ⊢
  pointwise []
  by_cases hj : j.val < 5632
  · rw [dif_pos hj, e0]
    exact same (dgu Y Wd (gu H W)) (a := 0) i (show 0 = j.val / 5632 by omega) (show j.val = j.val % 5632 by omega)
  · rw [dif_neg hj, e1]
    exact same (dgu Y Wd (gu H W)) (a := 1) i (show 1 = j.val / 5632 by omega) (show j.val - 5632 = j.val % 5632 by omega)

/-- The gradient of the first weights. -/
theorem ref_dwgu : val_main_v28 (F := Ideal) H W Wd Y = dwgu H (dgu Y Wd (gu H W)) := by
  funext y
  obtain ⟨k, j, rfl⟩ : ∃ (k : Fin 2048) (j : Fin 11264), y = ix2 k j := ⟨y 0, y 1, eq_ix2 y⟩
  have e := fun n => ref_beside H W Wd Y hH hW hWd hY n j
  unfold val_main_v28 val_main_v20 val_main_v19
  generalize val_main_v18 (F := Ideal) H W Wd Y = x at e ⊢
  pointwise [val_main_v0]
  exact Finset.sum_congr rfl fun n _ => (congrArg (· * _) (e n)).trans (mul_comm _ _)

/-- The gradients of the two halves, one plane each. -/
theorem ref_dgu : val_main_v27 (F := Ideal) H W Wd Y = dgu Y Wd (gu H W) := by
  funext y
  obtain ⟨a, i, j, rfl⟩ : ∃ (a : Fin 2) (i : Fin 4096) (j : Fin 5632), y = ix3 a i j := ⟨y 0, y 1, y 2, eq_ix3 y⟩
  have e := ref_beside H W Wd Y hH hW hWd hY i
  unfold val_main_v27 val_main_v26 val_main_v25 val_main_v24 val_main_v23 val_main_v22
  generalize val_main_v18 (F := Ideal) H W Wd Y = x at e ⊢
  pointwise []
  by_cases ha : a.val < 1
  · rw [dif_pos ha, e]
    exact same (dgu Y Wd (gu H W)) i (show j.val / 5632 = a.val by omega) (show j.val % 5632 = j.val by omega)
  · rw [dif_neg ha, e]
    exact same (dgu Y Wd (gu H W)) i (show (5632 + j.val) / 5632 = a.val by omega) (show (5632 + j.val) % 5632 = j.val by omega)

end Cert.Ffn

end
-- ==== Proof.Ffn.Pre.lean ====
/- What the feed-forward layer's precondition says: every entry of its four arguments is a real number, save the gate's half of the first weights. -/
module

public import proofs.«01_k».proof.Pre_finite_ffn
public import proofs.«01_k».proof.Proof.Attn.Pre

@[expose] public section

noncomputable section

open Idealize.ShloMosaic Cert.Pre_finite_ffn

namespace Cert.Ffn.Pre

/-- The shape relations the printed precondition takes. -/
theorem facts : Cert.Pre_finite_ffn.Facts where
  bcast_S_S4096x2048 := by decide
  reducesTo_S4096x2048_S_d0_1 := by decide
  h_S_ := by decide
  slices_S1x2048x11264_S1x2048x5632_0_0_5632 := by decide
  shapeCasts_S1x2048x5632_S2048x5632 := by decide
  bcast_S_S2048x5632 := by decide
  reducesTo_S2048x5632_S_d0_1 := by decide
  bcast_S_S1x5632x2048 := by decide
  reducesTo_S1x5632x2048_S_d0_1_2 := by decide

/-- A rank-zero shape has one index. -/
instance : Subsingleton S_.Idx := ⟨fun a b => funext fun i => i.elim0⟩

variable [Cert.Pre_finite_ffn.Facts]

/-- Under the precondition the four arguments are real numbers, of the first weights the up projection's half. -/
theorem finite (H : FVec Ideal S4096x2048 .bf16) (W : FVec Ideal S1x2048x11264 .bf16) (Wd : FVec Ideal S1x5632x2048 .bf16) (Y : FVec Ideal S4096x2048 .bf16)
    (h : fn (F := Ideal) H W Wd Y = fun _ => 1#1) :
    (∀ i k, ∃ r : ℝ, H (ix2 i k) = r) ∧ (∀ k (j : Fin 11264), 5632 ≤ j.val → ∃ r : ℝ, W (ix3 0 k j) = r) ∧ (∀ j k, ∃ r : ℝ, Wd (ix3 0 j k) = r) ∧ ∀ i k, ∃ r : ℝ, Y (ix2 i k) = r := by
  obtain ⟨h3, hy⟩ := IntOp.andi_eq_one.1 (congrFun h (fun i => i.elim0))
  obtain ⟨h2, hd⟩ := IntOp.andi_eq_one.1 h3
  obtain ⟨hh, hw⟩ := IntOp.andi_eq_one.1 h2
  refine ⟨fun i k => Cert.Attn.Pre.real_of_abs _ (Host.reduce_andi_all _ _ _ _ _ hh (ix2 i k)),
    fun k j hj => ?_,
    fun j k => Cert.Attn.Pre.real_of_abs _ (Host.reduce_andi_all _ _ _ _ _ hd (ix3 0 j k)),
    fun i k => Cert.Attn.Pre.real_of_abs _ (Host.reduce_andi_all _ _ _ _ _ hy (ix2 i k))⟩
  obtain ⟨r, hr⟩ := Cert.Attn.Pre.real_of_abs _ (Host.reduce_andi_all _ _ _ _ _ hw (ix2 k (⟨j.val - 5632, by omega⟩ : Fin 5632)))
  refine ⟨r, hr ▸ ?_⟩
  pointwise
  have e : (⟨5632 + (j.val - 5632), by omega⟩ : Fin 11264) = j := Fin.ext (by show 5632 + (j.val - 5632) = j.val; omega)
  exact congrArg (fun j => W (ix3 0 k j)) e.symm

end Cert.Ffn.Pre

end
-- ==== Proof.Ffn.Claims.lean ====
/- The claims about the feed-forward layer's gradients. -/
module

public import proofs.«01_k».proof.Defs
public import proofs.«01_k».proof.Proof.Gen.FfnKernel.Frame
public import proofs.«01_k».proof.Proof.Gen.FfnReferenceIdeal.Run
public import proofs.«01_k».proof.Proof.Ffn.Run
public import proofs.«01_k».proof.Proof.Ffn.Ref
public import proofs.«01_k».proof.Proof.Ffn.Pre
public import Idealize.ShloMosaic.Lib.Quiescent

@[expose] public section

set_option maxRecDepth 16384

noncomputable section

open Idealize.ShloMosaic Idealize.ShloMosaic.TcCoe Idealize.SL.Sem

namespace Cert.Ffn

attribute [local instance] Cert.Ffn.Pre.facts

/-- The four launches end, leave the arguments and every counter as they were, on the machine's numbers. -/
theorem frame_kernel : Cert.quiescent_FfnKernel := fun m ρ _ => Cert.FfnKernel.Gen.frame m ρ

/-- The same over the extended reals. -/
theorem frame_ideal : Cert.quiescent_FfnKernelIdeal := fun m ρ _ => Cert.FfnKernelIdeal.Gen.frame m ρ

/-- The same under the precondition. -/
theorem frame_ideal_pre : Cert.quiescent_FfnKernelIdeal_pre_finite_ffn := fun m ρ _ => Cert.FfnKernelIdeal.Gen.frame m ρ

/-- The reference ends and leaves its arguments as they were; it declares no counter. -/
theorem frame_ref : Cert.quiescent_FfnReferenceIdeal := fun m ρ _ =>
  (θ_run Cert.FfnReferenceIdeal.defs _ _).mono
    (fun r h => ⟨fun c => (h c).2.2.2, sem_eq_zero_of_no_sems (by decide) r.2⟩)
    (Cert.FfnReferenceIdeal.Value.run m ρ)

/-- The same under the precondition. -/
theorem frame_ref_pre : Cert.quiescent_FfnReferenceIdeal_pre_finite_ffn := fun m ρ _ => frame_ref m ρ trivial

section Arrays

open Cert.FfnKernelIdeal Cert.FfnKernelIdeal.Gen

variable (m : (ℓ : Loc nD τ sig) → Buf (Elt Ideal) ℓ) (ρ : Dev nD → PrngReg) (c : Dev nD)

/-- The layer's input as launched, -/
abbrev H : FVec Ideal S4096x2048 .bf16 := m ((c : Thread nD τ).loc main_arg0)
/-- the first weights, -/
abbrev W : FVec Ideal S1x2048x11264 .bf16 := m ((c : Thread nD τ).loc main_arg1)
/-- the second, -/
abbrev Wd : FVec Ideal S1x5632x2048 .bf16 := m ((c : Thread nD τ).loc main_arg2)
/-- and the output's gradient. -/
abbrev Y : FVec Ideal S4096x2048 .bf16 := m ((c : Thread nD τ).loc main_arg3)

/-- The gradients of the halves, from the arguments as launched. -/
theorem final_dgu : (dat2 (V2 m ρ) c).arrAt 3 cfg2.N = dgu (Y m c) (Wd m c) (gu (H m c) (W m c)) := by
  have eg : vG (V2 m ρ) c = gu (H m c) (W m c) := (in2_gu m ρ c).trans (arr0_gu (V0 m ρ) c)
  have ey : vY (V2 m ρ) c = Y m c := in2_dy m ρ c
  have ew : vWd (V2 m ρ) c = Wd m c := in2_wdown m ρ c
  rw [arr2, eg, ey, ew]

/-- The gradient of the first weights. -/
theorem final_dwgu : (dat3 (V3 m ρ) c).arrAt 2 cfg3.N = dwgu (H m c) (dgu (Y m c) (Wd m c) (gu (H m c) (W m c))) := by
  have ed : vD (V3 m ρ) c = dgu (Y m c) (Wd m c) (gu (H m c) (W m c)) := (in3_dgu m ρ c).trans (final_dgu m ρ c)
  have eh : vH (V3 m ρ) c = H m c := in3_h m ρ c
  rw [arr3, ed, eh]

/-- The gradient of the second weights. -/
theorem final_dwdown : (dat1 (V1 m ρ) c).arrAt 2 cfg1.N = dwdown (act (H m c) (W m c)) (Y m c) := by
  have ea : vA (V1 m ρ) c = act (H m c) (W m c) := (in1_act m ρ c).trans (arr0_act (V0 m ρ) c)
  have ey : vY (V1 m ρ) c = Y m c := in1_dy m ρ c
  rw [arr1, ea, ey]

end Arrays

/-- The four launches and the reference agree over the extended reals, where the arguments are real numbers. -/
theorem algebraic : Cert.algebraic_FfnKernelIdeal_FfnReferenceIdeal_pre_finite_ffn := by
  intro m ρ m' ρ' hpre hagree
  refine ⟨fun c => dgu (Y m c) (Wd m c) (gu (H m c) (W m c)), fun c => dwgu (H m c) (dgu (Y m c) (Wd m c) (gu (H m c) (W m c))),
    fun c => dwdown (act (H m c) (W m c)) (Y m c), ?_, ?_⟩
  · exact (θ_run Cert.FfnKernelIdeal.defs _ _).mono
      (fun r h c => ⟨(h c).1.1.trans (final_dgu m ρ c), (h c).1.2.1.trans (final_dwgu m ρ c), (h c).1.2.2.trans (final_dwdown m ρ c), (h c).2⟩)
      (run m ρ)
  · refine (θ_run Cert.FfnReferenceIdeal.defs _ _).mono (fun r h c => ?_) (Cert.FfnReferenceIdeal.Value.run m' ρ')
    obtain ⟨hH, hW, hWd, hY⟩ := Pre.finite _ _ _ _ (hpre c)
    obtain ⟨a0, a1, a2, a3⟩ := hagree c
    refine ⟨(h c).1.trans ?_, (h c).2.1.trans ?_, (h c).2.2.1.trans ?_, (h c).2.2.2⟩
    · refine (Cert.FfnReferenceIdeal.Read.val_main_v27_eq m' c).trans ?_
      rw [a0, a1, a2, a3]
      exact ref_dgu _ _ _ _ hH hW hWd hY
    · refine (Cert.FfnReferenceIdeal.Read.val_main_v28_eq m' c).trans ?_
      rw [a0, a1, a2, a3]
      exact ref_dwgu _ _ _ _ hH hW hWd hY
    · rw [Cert.FfnReferenceIdeal.Read.val_main_v29_eq, a0, a1, a3]
      exact ref_dwdown _ _ _

end Cert.Ffn

end
-- ==== Proof.Dh.Array.lean ====
/- The gradient of the feed-forward layer's input: what the four steps over the contracted axis leave in each block, and the array they tile. -/
module

public import proofs.«01_k».proof.Proof.Gen.DhKernelIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Cert.DhKernelIdeal Cert.DhKernelIdeal.Gen

namespace Cert.Dh

variable (m : (ℓ : Loc nD τ sig) → Buf (Elt Ideal) ℓ) (c : Dev nD)

/-- The gradients of the gate's and the up projection's outputs, -/
abbrev D : FVec Ideal S2x4096x5632 .bf16 := m ((c : Thread nD τ).loc main_arg0)
/-- and the weights, as launched. -/
abbrev W : FVec Ideal S1x2048x11264 .bf16 := m ((c : Thread nD τ).loc main_arg1)

/-- The two halves of the gradient side by side. -/
def beside (D : FVec Ideal S2x4096x5632 .bf16) (i : Fin 4096) (j : Fin 11264) : EReal :=
  D (ix3 ⟨j.val / 5632, by omega⟩ i ⟨j.val % 5632, Nat.mod_lt _ (by decide)⟩)

/-- Their product with the transposed weights, as an array. -/
def final (D : FVec Ideal S2x4096x5632 .bf16) (W : FVec Ideal S1x2048x11264 .bf16) : FVec Ideal S4096x2048 .bf16 := fun y =>
  ∑ j : Fin 11264, beside D (y 0) j * W (ix3 0 (y 1) j)

/-- The product of two blocks over their common axis. -/
def part (a b : FVec Ideal S1x1024x2816 .bf16) : FVec Ideal S1024x1024 .f32 := fun y =>
  ∑ k : Fin 2816, a (ix3 0 (y 0) k) * b (ix3 0 (y 1) k)

/-- The body's product of its two blocks. -/
theorem at_part (a b : FVec Ideal S1x1024x2816 .bf16) : k0_pay1 (F := Ideal) a b = part a b := by
  funext y
  obtain ⟨r, s, rfl⟩ : ∃ (r s : Fin 1024), y = ix2 r s := ⟨y 0, y 1, eq_ix2 y⟩
  pointwise [k0_pay1]
  rfl

/-- The first step over the contracted axis leaves its product, -/
theorem first (t : Fin cfg0.N) (h : t.val % 4 = 0) (y : S1024x1024.Idx) :
    (outsAt0 m c t.val t.isLt).2 y = part (iblk m c 0 t) (iblk m c 1 t) y := by
  rw [outsAt0_A m c t h (by omega) (by omega), ← at_part]
  frame_out
  unfold k0_pay2
  exact congrFun (shapeCast_self _ _) y

/-- a middle one adds its own, -/
theorem middle (t : Fin cfg0.N) (h : 1 ≤ t.val % 4 ∧ t.val % 4 ≤ 2) (y : S1024x1024.Idx) :
    (outsAt0 m c t.val t.isLt).2 y
      = (outsAt0 m c (t.val - 1) (Nat.lt_of_le_of_lt (Nat.sub_le _ _) t.isLt)).2 y + part (iblk m c 0 t) (iblk m c 1 t) y := by
  rw [outsAt0_B m c t (by omega) h (by omega), ← at_part]
  generalize (outsAt0 m c (t.val - 1) (Nat.lt_of_le_of_lt (Nat.sub_le _ _) t.isLt)).2 = old
  frame_out
  rw [read_unread_whole]
  unfold k0_pay3
  exact congrFun (shapeCast_self _ _) y

/-- and the last stores the sum of all. -/
theorem last (t : Fin cfg0.N) (h : t.val % 4 = 3) (y : S1024x1024.Idx) :
    (outsAt0 m c t.val t.isLt).1 y
      = (outsAt0 m c (t.val - 1) (Nat.lt_of_le_of_lt (Nat.sub_le _ _) t.isLt)).2 y + part (iblk m c 0 t) (iblk m c 1 t) y := by
  rw [outsAt0_C m c t (by omega) (by omega) h, ← at_part]
  generalize (outsAt0 m c (t.val - 1) (Nat.lt_of_le_of_lt (Nat.sub_le _ _) t.isLt)).2 = old
  frame_out
  rw [read_unread_whole]
  rfl

/-- The blocks each iteration names. -/
theorem idx : ∀ t : Fin cfg0.N, win0_0.index t = ![t.val % 4 / 2, t.val / 8, t.val % 4 % 2] ∧ win0_1.index t = ![0, t.val / 4 % 2, t.val % 4]
    ∧ win0_2.index t = ![t.val / 8, t.val / 4 % 2] :=
  (by decide +kernel : ∀ t : Fin grid0.N, _)

/-- The row of the gradient that is row `r` of point `t`'s block, -/
def rowOf (t : Fin cfg0.N) (r : Fin 1024) : Fin 4096 := ⟨t.val / 8 * 1024 + r.val, by have := t.isLt; have : cfg0.N = 32 := N_0; omega⟩

/-- the row of the weights, -/
def outOf (t : Fin cfg0.N) (s : Fin 1024) : Fin 2048 := ⟨t.val / 4 % 2 * 1024 + s.val, by omega⟩

/-- and the place on the contracted axis. -/
def conOf (t : Fin cfg0.N) (k : Fin 2816) : Fin 11264 := ⟨t.val % 4 * 2816 + k.val, by omega⟩

/-- A block of the gradient. -/
theorem blk_d (t : Fin cfg0.N) (r : Fin 1024) (k : Fin 2816) : iblk m c 0 t (ix3 0 r k) = beside (D m c) (rowOf t r) (conOf t k) := by
  unfold beside
  blk_point [iblk, V, idx t, rowOf, conOf]
  all_goals omega

/-- A block of the weights. -/
theorem blk_w (t : Fin cfg0.N) (s : Fin 1024) (k : Fin 2816) : iblk m c 1 t (ix3 0 s k) = W m c (ix3 0 (outOf t s) (conOf t k)) := by
  blk_point [iblk, V, idx t, outOf, conOf]

/-- One step's product, in the arrays' own places. -/
theorem part_at (t : Fin cfg0.N) (r s : Fin 1024) : part (iblk m c 0 t) (iblk m c 1 t) (ix2 r s)
    = ∑ k : Fin 2816, beside (D m c) (rowOf t r) (conOf t k) * W m c (ix3 0 (outOf t s) (conOf t k)) :=
  Finset.sum_congr rfl fun k _ => congrArg₂ (· * ·) (blk_d m c t r k) (blk_w m c t s k)

/-- The array the launch leaves. -/
theorem arr : (dats m 0 c).arrAt 2 cfg0.N = final (D m c) (W m c) := by
  refine (dats m 0 c).arrAt_eq_of_covers 2 _ (by decide +kernel) fun t hf y => ?_
  have h3 : t.val % 4 = 3 := (flush0_2 t).mp hf
  blk_simp [idx t]
  rw [after0_2]
  obtain ⟨r, s, rfl⟩ : ∃ (r s : Fin 1024), y = ix2 r s := ⟨y 0, y 1, eq_ix2 y⟩
  have e : (win0_2.blk t).view.emb (ix2 r s) = ix2 (rowOf t r) (outOf t s) := by
    blk_ext [idx t]
    all_goals rfl
  rw [e, last m c t h3]
  have hN : t.val < 32 := lt_of_lt_of_eq t.isLt N_0
  set t2 : Fin cfg0.N := ⟨t.val - 1, lt_of_lt_of_eq (by omega) N_0.symm⟩ with ht2
  set t1 : Fin cfg0.N := ⟨t.val - 2, lt_of_lt_of_eq (by omega) N_0.symm⟩ with ht1
  set t0 : Fin cfg0.N := ⟨t.val - 3, lt_of_lt_of_eq (by omega) N_0.symm⟩ with ht0
  have e2 := middle m c t2 (by simp only [ht2]; omega) (ix2 r s)
  have e1 := middle m c t1 (by simp only [ht1]; omega) (ix2 r s)
  have e0 := first m c t0 (by simp only [ht0]; omega) (ix2 r s)
  have e21 : (outsAt0 m c (t2.val - 1) (Nat.lt_of_le_of_lt (Nat.sub_le _ _) t2.isLt)).2 = (outsAt0 m c t1.val t1.isLt).2 := rfl
  have e10 : (outsAt0 m c (t1.val - 1) (Nat.lt_of_le_of_lt (Nat.sub_le _ _) t1.isLt)).2 = (outsAt0 m c t0.val t0.isLt).2 := rfl
  rw [e21] at e2
  rw [e10] at e1
  refine (congrArg (· + _) (e2.trans (congrArg (· + _) (e1.trans (congrArg (· + _) e0))))).trans ?_
  simp only [part_at]
  show _ = ∑ j : Fin 11264, beside (D m c) (rowOf t r) j * W m c (ix3 0 (outOf t s) j)
  refine Eq.trans ?_ (Fin.sum_mul_add_congr (S := 4) (n := 2816) (F := fun q k =>
    beside (D m c) (rowOf t r) ⟨q.val * 2816 + k.val, by omega⟩ * W m c (ix3 0 (outOf t s) ⟨q.val * 2816 + k.val, by omega⟩)) fun q k hl => rfl)
  rw [Fin.sum_univ_four]
  have r0 : rowOf t0 = rowOf t := funext fun r => Fin.ext (by simp only [rowOf, ht0]; omega)
  have r1 : rowOf t1 = rowOf t := funext fun r => Fin.ext (by simp only [rowOf, ht1]; omega)
  have r2 : rowOf t2 = rowOf t := funext fun r => Fin.ext (by simp only [rowOf, ht2]; omega)
  have o0 : outOf t0 = outOf t := funext fun r => Fin.ext (by simp only [outOf, ht0]; omega)
  have o1 : outOf t1 = outOf t := funext fun r => Fin.ext (by simp only [outOf, ht1]; omega)
  have o2 : outOf t2 = outOf t := funext fun r => Fin.ext (by simp only [outOf, ht2]; omega)
  have c0 : ∀ k, conOf t0 k = ⟨(0 : Fin 4).val * 2816 + k.val, by omega⟩ := fun k => Fin.ext (by simp only [conOf, ht0]; show _ = 0 * 2816 + k.val; omega)
  have c1 : ∀ k, conOf t1 k = ⟨(1 : Fin 4).val * 2816 + k.val, by omega⟩ := fun k => Fin.ext (by simp only [conOf, ht1]; show _ = 1 * 2816 + k.val; omega)
  have c2 : ∀ k, conOf t2 k = ⟨(2 : Fin 4).val * 2816 + k.val, by omega⟩ := fun k => Fin.ext (by simp only [conOf, ht2]; show _ = 2 * 2816 + k.val; omega)
  have c3 : ∀ k, conOf t k = ⟨(3 : Fin 4).val * 2816 + k.val, by omega⟩ := fun k => Fin.ext (by simp only [conOf]; show _ = 3 * 2816 + k.val; omega)
  simp only [r0, r1, r2, o0, o1, o2, c0, c1, c2, c3]

end Cert.Dh

end
-- ==== Proof.Dh.Ref.lean ====
/- The reference for the gradient of the feed-forward layer's input, read at an index. -/
module

public import proofs.«01_k».proof.Proof.Gen.DhReferenceIdeal.Read
public import proofs.«01_k».proof.Proof.Dh.Array
public import Idealize.ShloMosaic.Lib.Pipeline.ValueKit

@[expose] public section

set_option maxRecDepth 16384

noncomputable section

open Idealize.ShloMosaic Cert.DhReferenceIdeal Cert.DhReferenceIdeal.Read

namespace Cert.Dh

variable (D : FVec Ideal S2x4096x5632 .bf16) (W : FVec Ideal S1x2048x11264 .bf16)

/-- Two places of the gradient with equal coordinates hold one value. -/
theorem same {a a' : Fin 2} {k k' : Fin 5632} (i : Fin 4096) (ha : a.val = a'.val) (hk : k.val = k'.val) : D (ix3 a i k) = D (ix3 a' i k') := by
  rw [Fin.ext ha, Fin.ext hk]

/-- The two halves of the gradient, side by side. -/
theorem ref_beside (i : Fin 4096) (j : Fin 11264) : val_main_v4 (F := Ideal) D (ix2 i j) = beside D i j := by
  unfold beside
  pointwise [val_main_v4, val_main_v3, val_main_v2, val_main_v1, val_main_v0]
  by_cases hj : j.val < 5632
  · rw [dif_pos hj]
    exact same D i (show 0 = j.val / 5632 by omega) (show j.val = j.val % 5632 by omega)
  · rw [dif_neg hj]
    exact same D i (show 1 = j.val / 5632 by omega) (show j.val - 5632 = j.val % 5632 by omega)

/-- The reference's result is their product with the transposed weights. -/
theorem ref : val_main_v9 (F := Ideal) D W = final D W := by
  funext y
  obtain ⟨i, s, rfl⟩ : ∃ (i : Fin 4096) (s : Fin 2048), y = ix2 i s := ⟨y 0, y 1, eq_ix2 y⟩
  have e := ref_beside D i
  unfold val_main_v9 val_main_v8 val_main_v5
  generalize val_main_v4 (F := Ideal) D = x at e ⊢
  pointwise [val_main_v7, val_main_v6]
  exact Finset.sum_congr rfl fun j _ => congrArg (· * _) (e j)

end Cert.Dh

end
-- ==== Proof.Dh.Claims.lean ====
module

public import proofs.«01_k».proof.Defs
public import proofs.«01_k».proof.Proof.Gen.DhKernel.Frame
public import proofs.«01_k».proof.Proof.Gen.DhReferenceIdeal.Run
public import proofs.«01_k».proof.Proof.Dh.Ref
public import Idealize.ShloMosaic.Lib.Quiescent

@[expose] public section

set_option maxRecDepth 16384

noncomputable section

/-!
  The claims about the gradient of the feed-forward layer's input.
-/

open Idealize.ShloMosaic Idealize.SL.Sem

namespace Cert.Dh

/-- The kernel ends, leaves its arguments and every counter as they were, on the machine's numbers. -/
theorem frame_kernel : Cert.quiescent_DhKernel := fun m ρ _ => Cert.DhKernel.Gen.frame m ρ

/-- The same over the extended reals. -/
theorem frame_ideal : Cert.quiescent_DhKernelIdeal := fun m ρ _ => Cert.DhKernelIdeal.Gen.frame m ρ

/-- The reference ends and leaves its arguments as they were; it declares no counter. -/
theorem frame_ref : Cert.quiescent_DhReferenceIdeal := fun m ρ _ =>
  (θ_run Cert.DhReferenceIdeal.defs _ _).mono
    (fun r h => ⟨fun c => (h c).2, sem_eq_zero_of_no_sems (by decide) r.2⟩)
    (Cert.DhReferenceIdeal.Value.run m ρ)

/-- The kernel and the reference agree over the extended reals, on any arguments. -/
theorem algebraic : Cert.algebraic_DhKernelIdeal_DhReferenceIdeal := by
  intro m ρ m' ρ' _ hagree
  refine ⟨fun c => final (D m c) (W m c), ?_, ?_⟩
  · exact (θ_run Cert.DhKernelIdeal.defs _ _).mono (fun r h c => ⟨(h c).1.trans (arr m c), (h c).2⟩)
      (Cert.DhKernelIdeal.Value.run_blocks m ρ)
  · refine (θ_run Cert.DhReferenceIdeal.defs _ _).mono (fun r h c => ⟨(h c).1.trans ?_, (h c).2⟩) (Cert.DhReferenceIdeal.Value.run m' ρ')
    obtain ⟨a0, a1⟩ := hagree c
    rw [Cert.DhReferenceIdeal.Read.val_main_v9_eq, a0, a1]
    exact ref _ _

end Cert.Dh

end
-- ==== Proof.Down.Array.lean ====
/- The feed-forward network's second product: what the two steps over the contracted axis leave in each block, and the array they tile. -/
module

public import proofs.«01_k».proof.Proof.Gen.DownKernelIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Cert.DownKernelIdeal Cert.DownKernelIdeal.Gen

namespace Cert.Down

variable (m : (ℓ : Loc nD τ sig) → Buf (Elt Ideal) ℓ) (c : Dev nD)

/-- The activations -/
abbrev D : FVec Ideal S4096x5632 .bf16 := m ((c : Thread nD τ).loc main_arg0)
/-- and the weights, as launched. -/
abbrev W : FVec Ideal S1x5632x2048 .bf16 := m ((c : Thread nD τ).loc main_arg1)

/-- Their product, as an array. -/
def final (D : FVec Ideal S4096x5632 .bf16) (W : FVec Ideal S1x5632x2048 .bf16) : FVec Ideal S4096x2048 .bf16 := fun y =>
  ∑ j : Fin 5632, D (ix2 (y 0) j) * W (ix3 0 j (y 1))

/-- The product of two blocks over their common axis. -/
def part (a : FVec Ideal S1024x2816 .bf16) (b : FVec Ideal S1x2816x1024 .bf16) : FVec Ideal S1024x1024 .f32 := fun y =>
  ∑ k : Fin 2816, a (ix2 (y 0) k) * b (ix3 0 k (y 1))

/-- The body's product of its two blocks. -/
theorem at_part (a : FVec Ideal S1024x2816 .bf16) (b : FVec Ideal S1x2816x1024 .bf16) : k0_pay1 (F := Ideal) a b = part a b := by
  funext y
  obtain ⟨r, s, rfl⟩ : ∃ (r : Fin 1024) (s : Fin 1024), y = ix2 r s := ⟨y 0, y 1, eq_ix2 y⟩
  pointwise [k0_pay1]
  rfl

/-- The first step over the contracted axis leaves its product, -/
theorem first (t : Fin cfg0.N) (h : t.val % 2 = 0) (y : S1024x1024.Idx) :
    (outsAt0 m c t.val t.isLt).2 y = part (iblk m c 0 t) (iblk m c 1 t) y := by
  rw [outsAt0_A m c t h (by omega), ← at_part]
  frame_out
  unfold k0_pay2
  exact congrFun (shapeCast_self _ _) y

/-- and the last stores the sum of all. -/
theorem last (t : Fin cfg0.N) (h : t.val % 2 = 1) (y : S1024x1024.Idx) :
    (outsAt0 m c t.val t.isLt).1 y
      = (outsAt0 m c (t.val - 1) (Nat.lt_of_le_of_lt (Nat.sub_le _ _) t.isLt)).2 y + part (iblk m c 0 t) (iblk m c 1 t) y := by
  rw [outsAt0_B m c t (by omega) h, ← at_part]
  generalize (outsAt0 m c (t.val - 1) (Nat.lt_of_le_of_lt (Nat.sub_le _ _) t.isLt)).2 = old
  frame_out
  rw [read_unread_whole]
  rfl

/-- The blocks each iteration names. -/
theorem idx : ∀ t : Fin cfg0.N, win0_0.index t = ![t.val / 4, t.val % 2] ∧ win0_1.index t = ![0, t.val % 2, t.val / 2 % 2]
    ∧ win0_2.index t = ![t.val / 4, t.val / 2 % 2] :=
  (by decide +kernel : ∀ t : Fin grid0.N, _)

/-- The row of the activations that is row `r` of point `t`'s block, -/
def rowOf (t : Fin cfg0.N) (r : Fin 1024) : Fin 4096 := ⟨t.val / 4 * 1024 + r.val, by have := t.isLt; have : cfg0.N = 16 := N_0; omega⟩

/-- the column of the weights, -/
def outOf (t : Fin cfg0.N) (s : Fin 1024) : Fin 2048 := ⟨t.val / 2 % 2 * 1024 + s.val, by omega⟩

/-- and the place on the contracted axis. -/
def conOf (t : Fin cfg0.N) (k : Fin 2816) : Fin 5632 := ⟨t.val % 2 * 2816 + k.val, by omega⟩

/-- A block of the activations. -/
theorem blk_d (t : Fin cfg0.N) (r : Fin 1024) (k : Fin 2816) : iblk m c 0 t (ix2 r k) = D m c (ix2 (rowOf t r) (conOf t k)) := by
  blk_point [iblk, V, idx t, rowOf, conOf]

/-- A block of the weights. -/
theorem blk_w (t : Fin cfg0.N) (s : Fin 1024) (k : Fin 2816) : iblk m c 1 t (ix3 0 k s) = W m c (ix3 0 (conOf t k) (outOf t s)) := by
  blk_point [iblk, V, idx t, outOf, conOf]

/-- One step's product, in the arrays' own places. -/
theorem part_at (t : Fin cfg0.N) (r : Fin 1024) (s : Fin 1024) : part (iblk m c 0 t) (iblk m c 1 t) (ix2 r s)
    = ∑ k : Fin 2816, D m c (ix2 (rowOf t r) (conOf t k)) * W m c (ix3 0 (conOf t k) (outOf t s)) :=
  Finset.sum_congr rfl fun k _ => congrArg₂ (· * ·) (blk_d m c t r k) (blk_w m c t s k)

/-- The array the launch leaves. -/
theorem arr : (dats m 0 c).arrAt 2 cfg0.N = final (D m c) (W m c) := by
  refine (dats m 0 c).arrAt_eq_of_covers 2 _ (by decide +kernel) fun t hf y => ?_
  have hl : t.val % 2 = 1 := (flush0_2 t).mp hf
  blk_simp [idx t]
  rw [after0_2]
  obtain ⟨r, s, rfl⟩ : ∃ (r : Fin 1024) (s : Fin 1024), y = ix2 r s := ⟨y 0, y 1, eq_ix2 y⟩
  have e : (win0_2.blk t).view.emb (ix2 r s) = ix2 (rowOf t r) (outOf t s) := by
    blk_ext [idx t]
    all_goals rfl
  rw [e, last m c t hl]
  have hN : t.val < 16 := lt_of_lt_of_eq t.isLt N_0
  set t0 : Fin cfg0.N := ⟨t.val - 1, lt_of_lt_of_eq (by omega) N_0.symm⟩ with ht0
  refine (congrArg (· + _) (first m c t0 (by simp only [ht0]; omega) (ix2 r s))).trans ?_
  simp only [part_at]
  show _ = ∑ j : Fin 5632, D m c (ix2 (rowOf t r) j) * W m c (ix3 0 j (outOf t s))
  refine Eq.trans ?_ (Fin.sum_mul_add_congr (S := 2) (n := 2816) (F := fun q k =>
    D m c (ix2 (rowOf t r) ⟨q.val * 2816 + k.val, by omega⟩) * W m c (ix3 0 ⟨q.val * 2816 + k.val, by omega⟩ (outOf t s))) fun q k hl => rfl)
  rw [Fin.sum_univ_two]
  have r0 : rowOf t0 = rowOf t := funext fun r => Fin.ext (by simp only [rowOf, ht0]; omega)
  have o0 : outOf t0 = outOf t := funext fun r => Fin.ext (by simp only [outOf, ht0]; omega)
  have c0 : ∀ k, conOf t0 k = ⟨(0 : Fin 2).val * 2816 + k.val, by omega⟩ := fun k => Fin.ext (by simp only [conOf, ht0]; show _ = 0 * 2816 + k.val; omega)
  have c1 : ∀ k, conOf t k = ⟨(1 : Fin 2).val * 2816 + k.val, by omega⟩ := fun k => Fin.ext (by simp only [conOf]; show _ = 1 * 2816 + k.val; omega)
  simp only [r0, o0, c0, c1]

end Cert.Down

end
-- ==== Proof.Down.Ref.lean ====
/- The reference for the feed-forward network's second product, read at an index. -/
module

public import proofs.«01_k».proof.Proof.Gen.DownReferenceIdeal.Read
public import proofs.«01_k».proof.Proof.Down.Array
public import Idealize.ShloMosaic.Lib.Pipeline.ValueKit

@[expose] public section

set_option maxRecDepth 16384

noncomputable section

open Idealize.ShloMosaic Cert.DownReferenceIdeal Cert.DownReferenceIdeal.Read

namespace Cert.Down

/-- The reference's result is the product. -/
theorem ref (D : FVec Ideal S4096x5632 .bf16) (W : FVec Ideal S1x5632x2048 .bf16) : val_main_v4 (F := Ideal) D W = final D W := by
  funext y
  obtain ⟨i, s, rfl⟩ : ∃ (i : Fin 4096) (s : Fin 2048), y = ix2 i s := ⟨y 0, y 1, eq_ix2 y⟩
  pointwise [val_main_v4, val_main_v3, val_main_v2, val_main_v1, val_main_v0]
  rfl

end Cert.Down

end
-- ==== Proof.Down.Claims.lean ====
/- The claims about the feed-forward network's second product. -/
module

public import proofs.«01_k».proof.Defs
public import proofs.«01_k».proof.Proof.Gen.DownKernel.Frame
public import proofs.«01_k».proof.Proof.Gen.DownReferenceIdeal.Run
public import proofs.«01_k».proof.Proof.Down.Ref
public import Idealize.ShloMosaic.Lib.Quiescent

@[expose] public section

set_option maxRecDepth 16384

noncomputable section

open Idealize.ShloMosaic Idealize.SL.Sem

namespace Cert.Down

/-- The kernel ends, leaves its arguments and every counter as they were, on the machine's numbers. -/
theorem frame_kernel : Cert.quiescent_DownKernel := fun m ρ _ => Cert.DownKernel.Gen.frame m ρ

/-- The same over the extended reals. -/
theorem frame_ideal : Cert.quiescent_DownKernelIdeal := fun m ρ _ => Cert.DownKernelIdeal.Gen.frame m ρ

/-- The reference ends and leaves its arguments as they were; it declares no counter. -/
theorem frame_ref : Cert.quiescent_DownReferenceIdeal := fun m ρ _ =>
  (θ_run Cert.DownReferenceIdeal.defs _ _).mono
    (fun r h => ⟨fun c => (h c).2, sem_eq_zero_of_no_sems (by decide) r.2⟩)
    (Cert.DownReferenceIdeal.Value.run m ρ)

/-- The kernel and the reference agree over the extended reals, on any arguments. -/
theorem algebraic : Cert.algebraic_DownKernelIdeal_DownReferenceIdeal := by
  intro m ρ m' ρ' _ hagree
  refine ⟨fun c => final (D m c) (W m c), ?_, ?_⟩
  · exact (θ_run Cert.DownKernelIdeal.defs _ _).mono (fun r h c => ⟨(h c).1.trans (arr m c), (h c).2⟩)
      (Cert.DownKernelIdeal.Value.run_blocks m ρ)
  · refine (θ_run Cert.DownReferenceIdeal.defs _ _).mono (fun r h c => ⟨(h c).1.trans ?_, (h c).2⟩) (Cert.DownReferenceIdeal.Value.run m' ρ')
    obtain ⟨a0, a1⟩ := hagree c
    rw [Cert.DownReferenceIdeal.Read.val_main_v4_eq, a0, a1]
    exact ref _ _

end Cert.Down

end
-- ==== Proof.Dh3.Array.lean ====
/- The gradient of the input of the short convolution's mixer: what the three steps over the contracted axis leave in each block, and the array they tile. -/
module

public import proofs.«01_k».proof.Proof.Gen.Dh3KernelIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Cert.Dh3KernelIdeal Cert.Dh3KernelIdeal.Gen

namespace Cert.Dh3

variable (m : (ℓ : Loc nD τ sig) → Buf (Elt Ideal) ℓ) (c : Dev nD)

/-- The gradient of the first product, in three planes, -/
abbrev D : FVec Ideal S3x4096x2048 .bf16 := m ((c : Thread nD τ).loc main_arg0)
/-- and the weights, as launched. -/
abbrev W : FVec Ideal S1x2048x6144 .bf16 := m ((c : Thread nD τ).loc main_arg1)

/-- The planes of the gradient side by side. -/
def beside (D : FVec Ideal S3x4096x2048 .bf16) (i : Fin 4096) (j : Fin 6144) : EReal :=
  D (ix3 ⟨j.val / 2048, by omega⟩ i ⟨j.val % 2048, Nat.mod_lt _ (by decide)⟩)

/-- Their product with the transposed weights, as an array. -/
def final (D : FVec Ideal S3x4096x2048 .bf16) (W : FVec Ideal S1x2048x6144 .bf16) : FVec Ideal S4096x2048 .bf16 := fun y =>
  ∑ j : Fin 6144, beside D (y 0) j * W (ix3 0 (y 1) j)

/-- The product of two blocks over their common axis. -/
def part (a : FVec Ideal S1x1024x2048 .bf16) (b : FVec Ideal S1x1024x2048 .bf16) : FVec Ideal S1024x1024 .f32 := fun y =>
  ∑ k : Fin 2048, a (ix3 0 (y 0) k) * b (ix3 0 (y 1) k)

/-- The body's product of its two blocks. -/
theorem at_part (a : FVec Ideal S1x1024x2048 .bf16) (b : FVec Ideal S1x1024x2048 .bf16) : k0_pay1 (F := Ideal) a b = part a b := by
  funext y
  obtain ⟨r, s, rfl⟩ : ∃ (r : Fin 1024) (s : Fin 1024), y = ix2 r s := ⟨y 0, y 1, eq_ix2 y⟩
  pointwise [k0_pay1]
  rfl

/-- The first step over the contracted axis leaves its product, -/
theorem first (t : Fin cfg0.N) (h : t.val % 3 = 0) (y : S1024x1024.Idx) :
    (outsAt0 m c t.val t.isLt).2 y = part (iblk m c 0 t) (iblk m c 1 t) y := by
  rw [outsAt0_A m c t h (by omega) (by omega), ← at_part]
  frame_out
  unfold k0_pay2
  exact congrFun (shapeCast_self _ _) y

/-- the middle one adds its own, -/
theorem middle (t : Fin cfg0.N) (h : t.val % 3 = 1) (y : S1024x1024.Idx) :
    (outsAt0 m c t.val t.isLt).2 y
      = (outsAt0 m c (t.val - 1) (Nat.lt_of_le_of_lt (Nat.sub_le _ _) t.isLt)).2 y + part (iblk m c 0 t) (iblk m c 1 t) y := by
  rw [outsAt0_B m c t (by omega) h (by omega), ← at_part]
  generalize (outsAt0 m c (t.val - 1) (Nat.lt_of_le_of_lt (Nat.sub_le _ _) t.isLt)).2 = old
  frame_out
  rw [read_unread_whole]
  unfold k0_pay3
  exact congrFun (shapeCast_self _ _) y

/-- and the last stores the sum of all. -/
theorem last (t : Fin cfg0.N) (h : t.val % 3 = 2) (y : S1024x1024.Idx) :
    (outsAt0 m c t.val t.isLt).1 y
      = (outsAt0 m c (t.val - 1) (Nat.lt_of_le_of_lt (Nat.sub_le _ _) t.isLt)).2 y + part (iblk m c 0 t) (iblk m c 1 t) y := by
  rw [outsAt0_C m c t (by omega) (by omega) h, ← at_part]
  generalize (outsAt0 m c (t.val - 1) (Nat.lt_of_le_of_lt (Nat.sub_le _ _) t.isLt)).2 = old
  frame_out
  rw [read_unread_whole]
  rfl

/-- The blocks each iteration names. -/
theorem idx : ∀ t : Fin cfg0.N, win0_0.index t = ![t.val % 3, t.val / 6, 0] ∧ win0_1.index t = ![0, t.val / 3 % 2, t.val % 3]
    ∧ win0_2.index t = ![t.val / 6, t.val / 3 % 2] :=
  (by decide +kernel : ∀ t : Fin grid0.N, _)

/-- The row of the gradient that is row `r` of point `t`'s block, -/
def rowOf (t : Fin cfg0.N) (r : Fin 1024) : Fin 4096 := ⟨t.val / 6 * 1024 + r.val, by have := t.isLt; have : cfg0.N = 24 := N_0; omega⟩

/-- the row of the weights, -/
def outOf (t : Fin cfg0.N) (s : Fin 1024) : Fin 2048 := ⟨t.val / 3 % 2 * 1024 + s.val, by omega⟩

/-- and the place on the contracted axis. -/
def conOf (t : Fin cfg0.N) (k : Fin 2048) : Fin 6144 := ⟨t.val % 3 * 2048 + k.val, by omega⟩

/-- A block of the gradient. -/
theorem blk_d (t : Fin cfg0.N) (r : Fin 1024) (k : Fin 2048) : iblk m c 0 t (ix3 0 r k) = beside (D m c) (rowOf t r) (conOf t k) := by
  unfold beside
  blk_point [iblk, V, idx t, rowOf, conOf]
  all_goals omega

/-- A block of the weights. -/
theorem blk_w (t : Fin cfg0.N) (s : Fin 1024) (k : Fin 2048) : iblk m c 1 t (ix3 0 s k) = W m c (ix3 0 (outOf t s) (conOf t k)) := by
  blk_point [iblk, V, idx t, outOf, conOf]

/-- One step's product, in the arrays' own places. -/
theorem part_at (t : Fin cfg0.N) (r : Fin 1024) (s : Fin 1024) : part (iblk m c 0 t) (iblk m c 1 t) (ix2 r s)
    = ∑ k : Fin 2048, beside (D m c) (rowOf t r) (conOf t k) * W m c (ix3 0 (outOf t s) (conOf t k)) :=
  Finset.sum_congr rfl fun k _ => congrArg₂ (· * ·) (blk_d m c t r k) (blk_w m c t s k)

/-- The array the launch leaves. -/
theorem arr : (dats m 0 c).arrAt 2 cfg0.N = final (D m c) (W m c) := by
  refine (dats m 0 c).arrAt_eq_of_covers 2 _ (by decide +kernel) fun t hf y => ?_
  have hl : t.val % 3 = 2 := (flush0_2 t).mp hf
  blk_simp [idx t]
  rw [after0_2]
  obtain ⟨r, s, rfl⟩ : ∃ (r : Fin 1024) (s : Fin 1024), y = ix2 r s := ⟨y 0, y 1, eq_ix2 y⟩
  have e : (win0_2.blk t).view.emb (ix2 r s) = ix2 (rowOf t r) (outOf t s) := by
    blk_ext [idx t]
    all_goals rfl
  rw [e, last m c t hl]
  have hN : t.val < 24 := lt_of_lt_of_eq t.isLt N_0
  set t1 : Fin cfg0.N := ⟨t.val - 1, lt_of_lt_of_eq (by omega) N_0.symm⟩ with ht1
  set t0 : Fin cfg0.N := ⟨t.val - 2, lt_of_lt_of_eq (by omega) N_0.symm⟩ with ht0
  have e1 := middle m c t1 (by simp only [ht1]; omega) (ix2 r s)
  have e0 := first m c t0 (by simp only [ht0]; omega) (ix2 r s)
  have e10 : (outsAt0 m c (t1.val - 1) (Nat.lt_of_le_of_lt (Nat.sub_le _ _) t1.isLt)).2 = (outsAt0 m c t0.val t0.isLt).2 := rfl
  rw [e10] at e1
  refine (congrArg (· + _) (e1.trans (congrArg (· + _) e0))).trans ?_
  simp only [part_at]
  show _ = ∑ j : Fin 6144, beside (D m c) (rowOf t r) j * W m c (ix3 0 (outOf t s) j)
  refine Eq.trans ?_ (Fin.sum_mul_add_congr (S := 3) (n := 2048) (F := fun q k =>
    beside (D m c) (rowOf t r) ⟨q.val * 2048 + k.val, by omega⟩ * W m c (ix3 0 (outOf t s) ⟨q.val * 2048 + k.val, by omega⟩)) fun q k hl => rfl)
  rw [Fin.sum_univ_three]
  have r0 : rowOf t0 = rowOf t := funext fun r => Fin.ext (by simp only [rowOf, ht0]; omega)
  have o0 : outOf t0 = outOf t := funext fun r => Fin.ext (by simp only [outOf, ht0]; omega)
  have r1 : rowOf t1 = rowOf t := funext fun r => Fin.ext (by simp only [rowOf, ht1]; omega)
  have o1 : outOf t1 = outOf t := funext fun r => Fin.ext (by simp only [outOf, ht1]; omega)
  have c0 : ∀ k, conOf t0 k = ⟨(0 : Fin 3).val * 2048 + k.val, by omega⟩ := fun k => Fin.ext (by simp only [conOf, ht0]; show _ = 0 * 2048 + k.val; omega)
  have c1 : ∀ k, conOf t1 k = ⟨(1 : Fin 3).val * 2048 + k.val, by omega⟩ := fun k => Fin.ext (by simp only [conOf, ht1]; show _ = 1 * 2048 + k.val; omega)
  have c2 : ∀ k, conOf t k = ⟨(2 : Fin 3).val * 2048 + k.val, by omega⟩ := fun k => Fin.ext (by simp only [conOf]; show _ = 2 * 2048 + k.val; omega)
  simp only [r0, r1, o0, o1, c0, c1, c2]

end Cert.Dh3

end
-- ==== Proof.Dh3.Ref.lean ====
/- The reference for the gradient of the input of the short convolution's mixer, read at an index. -/
module

public import proofs.«01_k».proof.Proof.Gen.Dh3ReferenceIdeal.Read
public import proofs.«01_k».proof.Proof.Dh3.Array
public import Idealize.ShloMosaic.Lib.Pipeline.ValueKit

@[expose] public section

set_option maxRecDepth 16384

noncomputable section

open Idealize.ShloMosaic Cert.Dh3ReferenceIdeal Cert.Dh3ReferenceIdeal.Read

namespace Cert.Dh3

variable (D : FVec Ideal S3x4096x2048 .bf16) (W : FVec Ideal S1x2048x6144 .bf16)

/-- Two places of the gradient with equal coordinates hold one value. -/
theorem same {a a' : Fin 3} {k k' : Fin 2048} (i : Fin 4096) (ha : a.val = a'.val) (hk : k.val = k'.val) : D (ix3 a i k) = D (ix3 a' i k') := by
  rw [Fin.ext ha, Fin.ext hk]

/-- The planes of the gradient, side by side. -/
theorem ref_beside (i : Fin 4096) (j : Fin 6144) : val_main_v6 (F := Ideal) D (ix2 i j) = beside D i j := by
  unfold beside
  pointwise [val_main_v6, val_main_v5, val_main_v4, val_main_v3, val_main_v2, val_main_v1, val_main_v0]
  by_cases hj : j.val < 2048
  · rw [dif_pos hj]
    exact same D i (show 0 = j.val / 2048 by omega) (show j.val = j.val % 2048 by omega)
  rw [dif_neg hj]
  by_cases hj2 : j.val - 2048 < 2048
  · rw [dif_pos hj2]
    exact same D i (show 1 = j.val / 2048 by omega) (show j.val - 2048 = j.val % 2048 by omega)
  · rw [dif_neg hj2]
    exact same D i (show 2 = j.val / 2048 by omega) (show j.val - 2048 - 2048 = j.val % 2048 by omega)

/-- The reference's result is their product with the transposed weights. -/
theorem ref : val_main_v11 (F := Ideal) D W = final D W := by
  funext y
  obtain ⟨i, s, rfl⟩ : ∃ (i : Fin 4096) (s : Fin 2048), y = ix2 i s := ⟨y 0, y 1, eq_ix2 y⟩
  have e := ref_beside D i
  unfold val_main_v11 val_main_v10 val_main_v7
  generalize val_main_v6 (F := Ideal) D = x at e ⊢
  pointwise [val_main_v9, val_main_v8]
  exact Finset.sum_congr rfl fun j _ => congrArg (· * _) (e j)

end Cert.Dh3

end
-- ==== Proof.Dh3.Claims.lean ====
/- The claims about the gradient of the input of the short convolution's mixer. -/
module

public import proofs.«01_k».proof.Defs
public import proofs.«01_k».proof.Proof.Gen.Dh3Kernel.Frame
public import proofs.«01_k».proof.Proof.Gen.Dh3ReferenceIdeal.Run
public import proofs.«01_k».proof.Proof.Dh3.Ref
public import Idealize.ShloMosaic.Lib.Quiescent

@[expose] public section

set_option maxRecDepth 16384

noncomputable section

open Idealize.ShloMosaic Idealize.SL.Sem

namespace Cert.Dh3

/-- The kernel ends, leaves its arguments and every counter as they were, on the machine's numbers. -/
theorem frame_kernel : Cert.quiescent_Dh3Kernel := fun m ρ _ => Cert.Dh3Kernel.Gen.frame m ρ

/-- The same over the extended reals. -/
theorem frame_ideal : Cert.quiescent_Dh3KernelIdeal := fun m ρ _ => Cert.Dh3KernelIdeal.Gen.frame m ρ

/-- The reference ends and leaves its arguments as they were; it declares no counter. -/
theorem frame_ref : Cert.quiescent_Dh3ReferenceIdeal := fun m ρ _ =>
  (θ_run Cert.Dh3ReferenceIdeal.defs _ _).mono
    (fun r h => ⟨fun c => (h c).2, sem_eq_zero_of_no_sems (by decide) r.2⟩)
    (Cert.Dh3ReferenceIdeal.Value.run m ρ)

/-- The kernel and the reference agree over the extended reals, on any arguments. -/
theorem algebraic : Cert.algebraic_Dh3KernelIdeal_Dh3ReferenceIdeal := by
  intro m ρ m' ρ' _ hagree
  refine ⟨fun c => final (D m c) (W m c), ?_, ?_⟩
  · exact (θ_run Cert.Dh3KernelIdeal.defs _ _).mono (fun r h c => ⟨(h c).1.trans (arr m c), (h c).2⟩)
      (Cert.Dh3KernelIdeal.Value.run_blocks m ρ)
  · refine (θ_run Cert.Dh3ReferenceIdeal.defs _ _).mono (fun r h c => ⟨(h c).1.trans ?_, (h c).2⟩) (Cert.Dh3ReferenceIdeal.Value.run m' ρ')
    obtain ⟨a0, a1⟩ := hagree c
    rw [Cert.Dh3ReferenceIdeal.Read.val_main_v11_eq, a0, a1]
    exact ref _ _

end Cert.Dh3

end
-- ==== Proof.Dh2.Array.lean ====
/- The gradient of the input of the two mixers with two planes: what the two steps over the contracted axis leave in each block, and the array they tile. -/
module

public import proofs.«01_k».proof.Proof.Gen.Dh2KernelIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Cert.Dh2KernelIdeal Cert.Dh2KernelIdeal.Gen

namespace Cert.Dh2

variable (m : (ℓ : Loc nD τ sig) → Buf (Elt Ideal) ℓ) (c : Dev nD)

/-- The gradient of the first product, in two planes, -/
abbrev D : FVec Ideal S2x4096x2048 .bf16 := m ((c : Thread nD τ).loc main_arg0)
/-- and the weights, as launched. -/
abbrev W : FVec Ideal S1x2048x4096 .bf16 := m ((c : Thread nD τ).loc main_arg1)

/-- The planes of the gradient side by side. -/
def beside (D : FVec Ideal S2x4096x2048 .bf16) (i : Fin 4096) (j : Fin 4096) : EReal :=
  D (ix3 ⟨j.val / 2048, by omega⟩ i ⟨j.val % 2048, Nat.mod_lt _ (by decide)⟩)

/-- Their product with the transposed weights, as an array. -/
def final (D : FVec Ideal S2x4096x2048 .bf16) (W : FVec Ideal S1x2048x4096 .bf16) : FVec Ideal S4096x2048 .bf16 := fun y =>
  ∑ j : Fin 4096, beside D (y 0) j * W (ix3 0 (y 1) j)

/-- The product of two blocks over their common axis. -/
def part (a : FVec Ideal S1x1024x2048 .bf16) (b : FVec Ideal S1x1024x2048 .bf16) : FVec Ideal S1024x1024 .f32 := fun y =>
  ∑ k : Fin 2048, a (ix3 0 (y 0) k) * b (ix3 0 (y 1) k)

/-- The body's product of its two blocks. -/
theorem at_part (a : FVec Ideal S1x1024x2048 .bf16) (b : FVec Ideal S1x1024x2048 .bf16) : k0_pay1 (F := Ideal) a b = part a b := by
  funext y
  obtain ⟨r, s, rfl⟩ : ∃ (r : Fin 1024) (s : Fin 1024), y = ix2 r s := ⟨y 0, y 1, eq_ix2 y⟩
  pointwise [k0_pay1]
  rfl

/-- The first step over the contracted axis leaves its product, -/
theorem first (t : Fin cfg0.N) (h : t.val % 2 = 0) (y : S1024x1024.Idx) :
    (outsAt0 m c t.val t.isLt).2 y = part (iblk m c 0 t) (iblk m c 1 t) y := by
  rw [outsAt0_A m c t h (by omega), ← at_part]
  frame_out
  unfold k0_pay2
  exact congrFun (shapeCast_self _ _) y

/-- and the last stores the sum of all. -/
theorem last (t : Fin cfg0.N) (h : t.val % 2 = 1) (y : S1024x1024.Idx) :
    (outsAt0 m c t.val t.isLt).1 y
      = (outsAt0 m c (t.val - 1) (Nat.lt_of_le_of_lt (Nat.sub_le _ _) t.isLt)).2 y + part (iblk m c 0 t) (iblk m c 1 t) y := by
  rw [outsAt0_B m c t (by omega) h, ← at_part]
  generalize (outsAt0 m c (t.val - 1) (Nat.lt_of_le_of_lt (Nat.sub_le _ _) t.isLt)).2 = old
  frame_out
  rw [read_unread_whole]
  rfl

/-- The blocks each iteration names. -/
theorem idx : ∀ t : Fin cfg0.N, win0_0.index t = ![t.val % 2, t.val / 4, 0] ∧ win0_1.index t = ![0, t.val / 2 % 2, t.val % 2]
    ∧ win0_2.index t = ![t.val / 4, t.val / 2 % 2] :=
  (by decide +kernel : ∀ t : Fin grid0.N, _)

/-- The row of the gradient that is row `r` of point `t`'s block, -/
def rowOf (t : Fin cfg0.N) (r : Fin 1024) : Fin 4096 := ⟨t.val / 4 * 1024 + r.val, by have := t.isLt; have : cfg0.N = 16 := N_0; omega⟩

/-- the row of the weights, -/
def outOf (t : Fin cfg0.N) (s : Fin 1024) : Fin 2048 := ⟨t.val / 2 % 2 * 1024 + s.val, by omega⟩

/-- and the place on the contracted axis. -/
def conOf (t : Fin cfg0.N) (k : Fin 2048) : Fin 4096 := ⟨t.val % 2 * 2048 + k.val, by omega⟩

/-- A block of the gradient. -/
theorem blk_d (t : Fin cfg0.N) (r : Fin 1024) (k : Fin 2048) : iblk m c 0 t (ix3 0 r k) = beside (D m c) (rowOf t r) (conOf t k) := by
  unfold beside
  blk_point [iblk, V, idx t, rowOf, conOf]
  all_goals omega

/-- A block of the weights. -/
theorem blk_w (t : Fin cfg0.N) (s : Fin 1024) (k : Fin 2048) : iblk m c 1 t (ix3 0 s k) = W m c (ix3 0 (outOf t s) (conOf t k)) := by
  blk_point [iblk, V, idx t, outOf, conOf]

/-- One step's product, in the arrays' own places. -/
theorem part_at (t : Fin cfg0.N) (r : Fin 1024) (s : Fin 1024) : part (iblk m c 0 t) (iblk m c 1 t) (ix2 r s)
    = ∑ k : Fin 2048, beside (D m c) (rowOf t r) (conOf t k) * W m c (ix3 0 (outOf t s) (conOf t k)) :=
  Finset.sum_congr rfl fun k _ => congrArg₂ (· * ·) (blk_d m c t r k) (blk_w m c t s k)

/-- The array the launch leaves. -/
theorem arr : (dats m 0 c).arrAt 2 cfg0.N = final (D m c) (W m c) := by
  refine (dats m 0 c).arrAt_eq_of_covers 2 _ (by decide +kernel) fun t hf y => ?_
  have hl : t.val % 2 = 1 := (flush0_2 t).mp hf
  blk_simp [idx t]
  rw [after0_2]
  obtain ⟨r, s, rfl⟩ : ∃ (r : Fin 1024) (s : Fin 1024), y = ix2 r s := ⟨y 0, y 1, eq_ix2 y⟩
  have e : (win0_2.blk t).view.emb (ix2 r s) = ix2 (rowOf t r) (outOf t s) := by
    blk_ext [idx t]
    all_goals rfl
  rw [e, last m c t hl]
  have hN : t.val < 16 := lt_of_lt_of_eq t.isLt N_0
  set t0 : Fin cfg0.N := ⟨t.val - 1, lt_of_lt_of_eq (by omega) N_0.symm⟩ with ht0
  refine (congrArg (· + _) (first m c t0 (by simp only [ht0]; omega) (ix2 r s))).trans ?_
  simp only [part_at]
  show _ = ∑ j : Fin 4096, beside (D m c) (rowOf t r) j * W m c (ix3 0 (outOf t s) j)
  refine Eq.trans ?_ (Fin.sum_mul_add_congr (S := 2) (n := 2048) (F := fun q k =>
    beside (D m c) (rowOf t r) ⟨q.val * 2048 + k.val, by omega⟩ * W m c (ix3 0 (outOf t s) ⟨q.val * 2048 + k.val, by omega⟩)) fun q k hl => rfl)
  rw [Fin.sum_univ_two]
  have r0 : rowOf t0 = rowOf t := funext fun r => Fin.ext (by simp only [rowOf, ht0]; omega)
  have o0 : outOf t0 = outOf t := funext fun r => Fin.ext (by simp only [outOf, ht0]; omega)
  have c0 : ∀ k, conOf t0 k = ⟨(0 : Fin 2).val * 2048 + k.val, by omega⟩ := fun k => Fin.ext (by simp only [conOf, ht0]; show _ = 0 * 2048 + k.val; omega)
  have c1 : ∀ k, conOf t k = ⟨(1 : Fin 2).val * 2048 + k.val, by omega⟩ := fun k => Fin.ext (by simp only [conOf]; show _ = 1 * 2048 + k.val; omega)
  simp only [r0, o0, c0, c1]

end Cert.Dh2

end
-- ==== Proof.Dh2.Ref.lean ====
/- The reference for the gradient of the input of the two mixers with two planes, read at an index. -/
module

public import proofs.«01_k».proof.Proof.Gen.Dh2ReferenceIdeal.Read
public import proofs.«01_k».proof.Proof.Dh2.Array
public import Idealize.ShloMosaic.Lib.Pipeline.ValueKit

@[expose] public section

set_option maxRecDepth 16384

noncomputable section

open Idealize.ShloMosaic Cert.Dh2ReferenceIdeal Cert.Dh2ReferenceIdeal.Read

namespace Cert.Dh2

variable (D : FVec Ideal S2x4096x2048 .bf16) (W : FVec Ideal S1x2048x4096 .bf16)

/-- Two places of the gradient with equal coordinates hold one value. -/
theorem same {a a' : Fin 2} {k k' : Fin 2048} (i : Fin 4096) (ha : a.val = a'.val) (hk : k.val = k'.val) : D (ix3 a i k) = D (ix3 a' i k') := by
  rw [Fin.ext ha, Fin.ext hk]

/-- The planes of the gradient, side by side. -/
theorem ref_beside (i : Fin 4096) (j : Fin 4096) : val_main_v4 (F := Ideal) D (ix2 i j) = beside D i j := by
  unfold beside
  pointwise [val_main_v4, val_main_v3, val_main_v2, val_main_v1, val_main_v0]
  by_cases hj : j.val < 2048
  · rw [dif_pos hj]
    exact same D i (show 0 = j.val / 2048 by omega) (show j.val = j.val % 2048 by omega)
  · rw [dif_neg hj]
    exact same D i (show 1 = j.val / 2048 by omega) (show j.val - 2048 = j.val % 2048 by omega)

/-- The reference's result is their product with the transposed weights. -/
theorem ref : val_main_v9 (F := Ideal) D W = final D W := by
  funext y
  obtain ⟨i, s, rfl⟩ : ∃ (i : Fin 4096) (s : Fin 2048), y = ix2 i s := ⟨y 0, y 1, eq_ix2 y⟩
  have e := ref_beside D i
  unfold val_main_v9 val_main_v8 val_main_v5
  generalize val_main_v4 (F := Ideal) D = x at e ⊢
  pointwise [val_main_v7, val_main_v6]
  exact Finset.sum_congr rfl fun j _ => congrArg (· * _) (e j)

end Cert.Dh2

end
-- ==== Proof.Dh2.Claims.lean ====
/- The claims about the gradient of the input of the two mixers with two planes. -/
module

public import proofs.«01_k».proof.Defs
public import proofs.«01_k».proof.Proof.Gen.Dh2Kernel.Frame
public import proofs.«01_k».proof.Proof.Gen.Dh2ReferenceIdeal.Run
public import proofs.«01_k».proof.Proof.Dh2.Ref
public import Idealize.ShloMosaic.Lib.Quiescent

@[expose] public section

set_option maxRecDepth 16384

noncomputable section

open Idealize.ShloMosaic Idealize.SL.Sem

namespace Cert.Dh2

/-- The kernel ends, leaves its arguments and every counter as they were, on the machine's numbers. -/
theorem frame_kernel : Cert.quiescent_Dh2Kernel := fun m ρ _ => Cert.Dh2Kernel.Gen.frame m ρ

/-- The same over the extended reals. -/
theorem frame_ideal : Cert.quiescent_Dh2KernelIdeal := fun m ρ _ => Cert.Dh2KernelIdeal.Gen.frame m ρ

/-- The reference ends and leaves its arguments as they were; it declares no counter. -/
theorem frame_ref : Cert.quiescent_Dh2ReferenceIdeal := fun m ρ _ =>
  (θ_run Cert.Dh2ReferenceIdeal.defs _ _).mono
    (fun r h => ⟨fun c => (h c).2, sem_eq_zero_of_no_sems (by decide) r.2⟩)
    (Cert.Dh2ReferenceIdeal.Value.run m ρ)

/-- The kernel and the reference agree over the extended reals, on any arguments. -/
theorem algebraic : Cert.algebraic_Dh2KernelIdeal_Dh2ReferenceIdeal := by
  intro m ρ m' ρ' _ hagree
  refine ⟨fun c => final (D m c) (W m c), ?_, ?_⟩
  · exact (θ_run Cert.Dh2KernelIdeal.defs _ _).mono (fun r h c => ⟨(h c).1.trans (arr m c), (h c).2⟩)
      (Cert.Dh2KernelIdeal.Value.run_blocks m ρ)
  · refine (θ_run Cert.Dh2ReferenceIdeal.defs _ _).mono (fun r h c => ⟨(h c).1.trans ?_, (h c).2⟩) (Cert.Dh2ReferenceIdeal.Value.run m' ρ')
    obtain ⟨a0, a1⟩ := hagree c
    rw [Cert.Dh2ReferenceIdeal.Read.val_main_v9_eq, a0, a1]
    exact ref _ _

end Cert.Dh2

end
-- ==== Proof.Dmem.Array.lean ====
/- The gradient of the memory: what the two steps over the contracted axis leave in each block, and the array they tile. -/
module

public import proofs.«01_k».proof.Proof.Gen.DmemKernelIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Cert.DmemKernelIdeal Cert.DmemKernelIdeal.Gen

namespace Cert.Dmem

variable (m : (ℓ : Loc nD τ sig) → Buf (Elt Ideal) ℓ) (c : Dev nD)

/-- The gradient of the keys and values, in two planes, -/
abbrev D : FVec Ideal S2x256x2048 .bf16 := m ((c : Thread nD τ).loc main_arg0)
/-- and the weights, as launched. -/
abbrev W : FVec Ideal S1x2048x4096 .bf16 := m ((c : Thread nD τ).loc main_arg1)

/-- The planes of the gradient side by side. -/
def beside (D : FVec Ideal S2x256x2048 .bf16) (i : Fin 256) (j : Fin 4096) : EReal :=
  D (ix3 ⟨j.val / 2048, by omega⟩ i ⟨j.val % 2048, Nat.mod_lt _ (by decide)⟩)

/-- Their product with the transposed weights, as an array. -/
def final (D : FVec Ideal S2x256x2048 .bf16) (W : FVec Ideal S1x2048x4096 .bf16) : FVec Ideal S256x2048 .f32 := fun y =>
  ∑ j : Fin 4096, beside D (y 0) j * W (ix3 0 (y 1) j)

/-- The product of two blocks over their common axis. -/
def part (a : FVec Ideal S1x256x2048 .bf16) (b : FVec Ideal S1x1024x2048 .bf16) : FVec Ideal S256x1024 .f32 := fun y =>
  ∑ k : Fin 2048, a (ix3 0 (y 0) k) * b (ix3 0 (y 1) k)

/-- The body's product of its two blocks. -/
theorem at_part (a : FVec Ideal S1x256x2048 .bf16) (b : FVec Ideal S1x1024x2048 .bf16) : k0_pay1 (F := Ideal) a b = part a b := by
  funext y
  obtain ⟨r, s, rfl⟩ : ∃ (r : Fin 256) (s : Fin 1024), y = ix2 r s := ⟨y 0, y 1, eq_ix2 y⟩
  pointwise [k0_pay1]
  rfl

/-- The first step over the contracted axis leaves its product, -/
theorem first (t : Fin cfg0.N) (h : t.val % 2 = 0) (y : S256x1024.Idx) :
    (outsAt0 m c t.val t.isLt).2 y = part (iblk m c 0 t) (iblk m c 1 t) y := by
  rw [outsAt0_A m c t h (by omega), ← at_part]
  frame_out
  unfold k0_pay2
  exact congrFun (shapeCast_self _ _) y

/-- and the last stores the sum of all. -/
theorem last (t : Fin cfg0.N) (h : t.val % 2 = 1) (y : S256x1024.Idx) :
    (outsAt0 m c t.val t.isLt).1 y
      = (outsAt0 m c (t.val - 1) (Nat.lt_of_le_of_lt (Nat.sub_le _ _) t.isLt)).2 y + part (iblk m c 0 t) (iblk m c 1 t) y := by
  rw [outsAt0_B m c t (by omega) h, ← at_part]
  generalize (outsAt0 m c (t.val - 1) (Nat.lt_of_le_of_lt (Nat.sub_le _ _) t.isLt)).2 = old
  frame_out
  rw [read_unread_whole]
  rfl

/-- The blocks each iteration names. -/
theorem idx : ∀ t : Fin cfg0.N, win0_0.index t = ![t.val % 2, t.val / 4, 0] ∧ win0_1.index t = ![0, t.val / 2 % 2, t.val % 2]
    ∧ win0_2.index t = ![t.val / 4, t.val / 2 % 2] :=
  (by decide +kernel : ∀ t : Fin grid0.N, _)

/-- The row of the gradient that is row `r` of point `t`'s block, -/
def rowOf (t : Fin cfg0.N) (r : Fin 256) : Fin 256 := ⟨t.val / 4 * 256 + r.val, by have := t.isLt; have : cfg0.N = 4 := N_0; omega⟩

/-- the row of the weights, -/
def outOf (t : Fin cfg0.N) (s : Fin 1024) : Fin 2048 := ⟨t.val / 2 % 2 * 1024 + s.val, by omega⟩

/-- and the place on the contracted axis. -/
def conOf (t : Fin cfg0.N) (k : Fin 2048) : Fin 4096 := ⟨t.val % 2 * 2048 + k.val, by omega⟩

/-- A block of the gradient. -/
theorem blk_d (t : Fin cfg0.N) (r : Fin 256) (k : Fin 2048) : iblk m c 0 t (ix3 0 r k) = beside (D m c) (rowOf t r) (conOf t k) := by
  unfold beside
  blk_point [iblk, V, idx t, rowOf, conOf]
  all_goals omega

/-- A block of the weights. -/
theorem blk_w (t : Fin cfg0.N) (s : Fin 1024) (k : Fin 2048) : iblk m c 1 t (ix3 0 s k) = W m c (ix3 0 (outOf t s) (conOf t k)) := by
  blk_point [iblk, V, idx t, outOf, conOf]

/-- One step's product, in the arrays' own places. -/
theorem part_at (t : Fin cfg0.N) (r : Fin 256) (s : Fin 1024) : part (iblk m c 0 t) (iblk m c 1 t) (ix2 r s)
    = ∑ k : Fin 2048, beside (D m c) (rowOf t r) (conOf t k) * W m c (ix3 0 (outOf t s) (conOf t k)) :=
  Finset.sum_congr rfl fun k _ => congrArg₂ (· * ·) (blk_d m c t r k) (blk_w m c t s k)

/-- The array the launch leaves. -/
theorem arr : (dats m 0 c).arrAt 2 cfg0.N = final (D m c) (W m c) := by
  refine (dats m 0 c).arrAt_eq_of_covers 2 _ (by decide +kernel) fun t hf y => ?_
  have hl : t.val % 2 = 1 := (flush0_2 t).mp hf
  blk_simp [idx t]
  rw [after0_2]
  obtain ⟨r, s, rfl⟩ : ∃ (r : Fin 256) (s : Fin 1024), y = ix2 r s := ⟨y 0, y 1, eq_ix2 y⟩
  have e : (win0_2.blk t).view.emb (ix2 r s) = ix2 (rowOf t r) (outOf t s) := by
    blk_ext [idx t]
    all_goals rfl
  rw [e, last m c t hl]
  have hN : t.val < 4 := lt_of_lt_of_eq t.isLt N_0
  set t0 : Fin cfg0.N := ⟨t.val - 1, lt_of_lt_of_eq (by omega) N_0.symm⟩ with ht0
  refine (congrArg (· + _) (first m c t0 (by simp only [ht0]; omega) (ix2 r s))).trans ?_
  simp only [part_at]
  show _ = ∑ j : Fin 4096, beside (D m c) (rowOf t r) j * W m c (ix3 0 (outOf t s) j)
  refine Eq.trans ?_ (Fin.sum_mul_add_congr (S := 2) (n := 2048) (F := fun q k =>
    beside (D m c) (rowOf t r) ⟨q.val * 2048 + k.val, by omega⟩ * W m c (ix3 0 (outOf t s) ⟨q.val * 2048 + k.val, by omega⟩)) fun q k hl => rfl)
  rw [Fin.sum_univ_two]
  have r0 : rowOf t0 = rowOf t := funext fun r => Fin.ext (by simp only [rowOf, ht0]; omega)
  have o0 : outOf t0 = outOf t := funext fun r => Fin.ext (by simp only [outOf, ht0]; omega)
  have c0 : ∀ k, conOf t0 k = ⟨(0 : Fin 2).val * 2048 + k.val, by omega⟩ := fun k => Fin.ext (by simp only [conOf, ht0]; show _ = 0 * 2048 + k.val; omega)
  have c1 : ∀ k, conOf t k = ⟨(1 : Fin 2).val * 2048 + k.val, by omega⟩ := fun k => Fin.ext (by simp only [conOf]; show _ = 1 * 2048 + k.val; omega)
  simp only [r0, o0, c0, c1]

end Cert.Dmem

end
-- ==== Proof.Dmem.Ref.lean ====
/- The reference for the gradient of the memory, read at an index. -/
module

public import proofs.«01_k».proof.Proof.Gen.DmemReferenceIdeal.Read
public import proofs.«01_k».proof.Proof.Dmem.Array
public import Idealize.ShloMosaic.Lib.Pipeline.ValueKit

@[expose] public section

set_option maxRecDepth 16384

noncomputable section

open Idealize.ShloMosaic Cert.DmemReferenceIdeal Cert.DmemReferenceIdeal.Read

namespace Cert.Dmem

variable (D : FVec Ideal S2x256x2048 .bf16) (W : FVec Ideal S1x2048x4096 .bf16)

/-- Two places of the gradient with equal coordinates hold one value. -/
theorem same {a a' : Fin 2} {k k' : Fin 2048} (i : Fin 256) (ha : a.val = a'.val) (hk : k.val = k'.val) : D (ix3 a i k) = D (ix3 a' i k') := by
  rw [Fin.ext ha, Fin.ext hk]

/-- The planes of the gradient, side by side. -/
theorem ref_beside (i : Fin 256) (j : Fin 4096) : val_main_v4 (F := Ideal) D (ix2 i j) = beside D i j := by
  unfold beside
  pointwise [val_main_v4, val_main_v3, val_main_v2, val_main_v1, val_main_v0]
  by_cases hj : j.val < 2048
  · rw [dif_pos hj]
    exact same D i (show 0 = j.val / 2048 by omega) (show j.val = j.val % 2048 by omega)
  · rw [dif_neg hj]
    exact same D i (show 1 = j.val / 2048 by omega) (show j.val - 2048 = j.val % 2048 by omega)

/-- The reference's result is their product with the transposed weights. -/
theorem ref : val_main_v8 (F := Ideal) D W = final D W := by
  funext y
  obtain ⟨i, s, rfl⟩ : ∃ (i : Fin 256) (s : Fin 2048), y = ix2 i s := ⟨y 0, y 1, eq_ix2 y⟩
  have e := ref_beside D i
  unfold val_main_v8 val_main_v5
  generalize val_main_v4 (F := Ideal) D = x at e ⊢
  pointwise [val_main_v7, val_main_v6]
  exact Finset.sum_congr rfl fun j _ => congrArg (· * _) (e j)

end Cert.Dmem

end
-- ==== Proof.Dmem.Claims.lean ====
/- The claims about the gradient of the memory. -/
module

public import proofs.«01_k».proof.Defs
public import proofs.«01_k».proof.Proof.Gen.DmemKernel.Frame
public import proofs.«01_k».proof.Proof.Gen.DmemReferenceIdeal.Run
public import proofs.«01_k».proof.Proof.Dmem.Ref
public import Idealize.ShloMosaic.Lib.Quiescent

@[expose] public section

set_option maxRecDepth 16384

noncomputable section

open Idealize.ShloMosaic Idealize.SL.Sem

namespace Cert.Dmem

/-- The kernel ends, leaves its arguments and every counter as they were, on the machine's numbers. -/
theorem frame_kernel : Cert.quiescent_DmemKernel := fun m ρ _ => Cert.DmemKernel.Gen.frame m ρ

/-- The same over the extended reals. -/
theorem frame_ideal : Cert.quiescent_DmemKernelIdeal := fun m ρ _ => Cert.DmemKernelIdeal.Gen.frame m ρ

/-- The reference ends and leaves its arguments as they were; it declares no counter. -/
theorem frame_ref : Cert.quiescent_DmemReferenceIdeal := fun m ρ _ =>
  (θ_run Cert.DmemReferenceIdeal.defs _ _).mono
    (fun r h => ⟨fun c => (h c).2, sem_eq_zero_of_no_sems (by decide) r.2⟩)
    (Cert.DmemReferenceIdeal.Value.run m ρ)

/-- The kernel and the reference agree over the extended reals, on any arguments. -/
theorem algebraic : Cert.algebraic_DmemKernelIdeal_DmemReferenceIdeal := by
  intro m ρ m' ρ' _ hagree
  refine ⟨fun c => final (D m c) (W m c), ?_, ?_⟩
  · exact (θ_run Cert.DmemKernelIdeal.defs _ _).mono (fun r h c => ⟨(h c).1.trans (arr m c), (h c).2⟩)
      (Cert.DmemKernelIdeal.Value.run_blocks m ρ)
  · refine (θ_run Cert.DmemReferenceIdeal.defs _ _).mono (fun r h c => ⟨(h c).1.trans ?_, (h c).2⟩) (Cert.DmemReferenceIdeal.Value.run m' ρ')
    obtain ⟨a0, a1⟩ := hagree c
    rw [Cert.DmemReferenceIdeal.Read.val_main_v8_eq, a0, a1]
    exact ref _ _

end Cert.Dmem

end
-- ==== Proof.Io.Array.lean ====
/- The arrays left by the five launches of a mixer's products, each from the contents it is entered with. -/
module

public import proofs.«01_k».proof.Proof.Gen.IoKernelIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Cert.IoKernelIdeal Cert.IoKernelIdeal.Gen

namespace Cert.Io

/-- The first product: the mixer's input times its first weights, at a place, -/
def pre (A : FVec Ideal S4096x2048 .bf16) (B : FVec Ideal S1x2048x4096 .bf16) (i : Fin 4096) (j : Fin 4096) : EReal :=
  ∑ k : Fin 2048, A (ix2 i k) * B (ix3 0 k j)

/-- and as an array. -/
def preA (A : FVec Ideal S4096x2048 .bf16) (B : FVec Ideal S1x2048x4096 .bf16) : FVec Ideal S2x4096x2048 .bf16 := fun y =>
  pre A B (y 1) ⟨(y 0).val * 2048 + (y 2).val, by have h0 : (y 0).val < 2 := (y 0).isLt; have h2 : (y 2).val < 2048 := (y 2).isLt; omega⟩

/-- The second product: what the mixer mixed times its second weights, at a place, -/
def out (A : FVec Ideal S4096x2048 .bf16) (B : FVec Ideal S1x2048x2048 .bf16) (i : Fin 4096) (j : Fin 2048) : EReal :=
  ∑ k : Fin 2048, A (ix2 i k) * B (ix3 0 k j)

/-- and as an array. -/
def outA (A : FVec Ideal S4096x2048 .bf16) (B : FVec Ideal S1x2048x2048 .bf16) : FVec Ideal S4096x2048 .bf16 := fun y => out A B (y 0) (y 1)

/-- The gradient of the second weights: what was mixed, transposed, times the output's gradient, at a place, -/
def dwout (A : FVec Ideal S4096x2048 .bf16) (B : FVec Ideal S4096x2048 .bf16) (i : Fin 2048) (j : Fin 2048) : EReal :=
  ∑ k : Fin 4096, A (ix2 k i) * B (ix2 k j)

/-- and as an array. -/
def dwoutA (A : FVec Ideal S4096x2048 .bf16) (B : FVec Ideal S4096x2048 .bf16) : FVec Ideal S2048x2048 .bf16 := fun y => dwout A B (y 0) (y 1)

/-- The gradient of what was mixed: the output's times the transposed second weights, at a place, -/
def dmid (A : FVec Ideal S4096x2048 .bf16) (B : FVec Ideal S1x2048x2048 .bf16) (i : Fin 4096) (j : Fin 2048) : EReal :=
  ∑ k : Fin 2048, A (ix2 i k) * B (ix3 0 j k)

/-- and as an array. -/
def dmidA (A : FVec Ideal S4096x2048 .bf16) (B : FVec Ideal S1x2048x2048 .bf16) : FVec Ideal S4096x2048 .f32 := fun y => dmid A B (y 0) (y 1)

/-- The gradient of the first weights: the input transposed times the first product's gradient, its planes side by side, at a place, -/
def dwin (A : FVec Ideal S4096x2048 .bf16) (B : FVec Ideal S2x4096x2048 .bf16) (i : Fin 2048) (j : Fin 4096) : EReal :=
  ∑ k : Fin 4096, A (ix2 k i) * B (ix3 ⟨j.val / 2048, by omega⟩ k ⟨j.val % 2048, Nat.mod_lt _ (by decide)⟩)

/-- and as an array. -/
def dwinA (A : FVec Ideal S4096x2048 .bf16) (B : FVec Ideal S2x4096x2048 .bf16) : FVec Ideal S2048x4096 .bf16 := fun y => dwin A B (y 0) (y 1)

variable (V : (c : Dev nD) → (b : Ref sig .tc) → Buf (Elt Ideal) ((c : Thread nD τ).loc b)) (c : Dev nD)

/-- The mixer's input, as a launch finds it, -/
abbrev vH : FVec Ideal S4096x2048 .bf16 := V c main_arg0
/-- the first weights, -/
abbrev vWi : FVec Ideal S1x2048x4096 .bf16 := V c main_arg1
/-- what the mixer mixed, -/
abbrev vM : FVec Ideal S4096x2048 .bf16 := V c main_arg2
/-- the second weights, -/
abbrev vWo : FVec Ideal S1x2048x2048 .bf16 := V c main_arg3
/-- the first product's gradient, -/
abbrev vD : FVec Ideal S2x4096x2048 .bf16 := V c main_arg4
/-- and the output's. -/
abbrev vY : FVec Ideal S4096x2048 .bf16 := V c main_arg5

/-! ## The first product -/

/-- The blocks each iteration names. -/
theorem idx0 : ∀ t : Fin cfg0.N, win0_0.index t = ![t.val / 4, 0] ∧ win0_1.index t = ![0, 0, t.val % 4] ∧ win0_2.index t = ![t.val % 4 / 2, t.val / 4, t.val % 4 % 2] :=
  (by decide +kernel : ∀ t : Fin grid0.N, _)

/-- Row `r` of point `t`'s block, in the array, -/
def row0 (t : Fin cfg0.N) (r : Fin 1024) : Fin 4096 := ⟨t.val / 4 * 1024 + r.val, by have := t.isLt; have : cfg0.N = 16 := N_0; omega⟩
/-- and column `s`. -/
def col0 (t : Fin cfg0.N) (s : Fin 1024) : Fin 4096 := ⟨t.val % 4 * 1024 + s.val, by omega⟩

/-- A block of the first factor, -/
theorem blk0_a (t : Fin cfg0.N) (r : Fin 1024) (k : Fin 2048) : iblk0 V c 0 t (ix2 r k) = vH V c (ix2 (row0 t r) k) := by
  blk_point [iblk0, idx0 t, row0]

/-- and of the second. -/
theorem blk0_b (t : Fin cfg0.N) (s : Fin 1024) (k : Fin 2048) :
    iblk0 V c 1 t (ix3 0 k s) = vWi V c (ix3 0 k (col0 t s)) := by
  blk_point [iblk0, idx0 t, col0]

/-- The body's product. -/
theorem pay0 (t : Fin cfg0.N) (q : Fin 1) (r : Fin 1024) (s : Fin 1024) :
    k0_pay1 (F := Ideal) (iblk0 V c 0 t) (iblk0 V c 1 t) (ix3 q r s) = pre (vH V c) (vWi V c) (row0 t r) (col0 t s) := by
  refine Eq.trans ?_ (Finset.sum_congr rfl fun k _ => congrArg₂ (· * ·) (blk0_a V c t r k) (blk0_b V c t s k))
  generalize iblk0 V c 0 t = a
  generalize iblk0 V c 1 t = b
  pointwise [k0_pay1]

/-- The array the launch leaves. -/
theorem arr0 : (dat0 V c).arrAt 2 cfg0.N = preA (vH V c) (vWi V c) := by
  refine (dat0 V c).arrAt_eq_of_covers 2 _ (by decide +kernel) fun t hf y => ?_
  blk_simp [idx0 t]
  rw [after0_2]
  obtain ⟨q, r, s, rfl⟩ : ∃ (q : Fin 1) (r : Fin 1024) (s : Fin 1024), y = ix3 q r s := ⟨y 0, y 1, y 2, eq_ix3 y⟩
  have hc := (col0 t s).isLt
  have e : (win0_2.blk t).view.emb (ix3 q r s)
      = ix3 ⟨(col0 t s).val / 2048, by omega⟩ (row0 t r) ⟨(col0 t s).val % 2048, Nat.mod_lt _ (by decide)⟩ := by
    unfold row0 col0
    blk_ext [idx0 t]
    all_goals first | rfl | omega
  rw [e]
  unfold out0_2
  frame_out
  refine (pay0 V c t q r s).trans (congrArg (pre _ _ _) (Fin.ext ?_))
  show (col0 t s).val = (col0 t s).val / 2048 * 2048 + (col0 t s).val % 2048
  omega

/-! ## The second product -/

/-- The blocks each iteration names. -/
theorem idx1 : ∀ t : Fin cfg1.N, win1_0.index t = ![t.val / 2, 0] ∧ win1_1.index t = ![0, 0, t.val % 2] ∧ win1_2.index t = ![t.val / 2, t.val % 2] :=
  (by decide +kernel : ∀ t : Fin grid1.N, _)

/-- Row `r` of point `t`'s block, in the array, -/
def row1 (t : Fin cfg1.N) (r : Fin 1024) : Fin 4096 := ⟨t.val / 2 * 1024 + r.val, by have := t.isLt; have : cfg1.N = 8 := N_1; omega⟩
/-- and column `s`. -/
def col1 (t : Fin cfg1.N) (s : Fin 1024) : Fin 2048 := ⟨t.val % 2 * 1024 + s.val, by omega⟩

/-- A block of the first factor, -/
theorem blk1_a (t : Fin cfg1.N) (r : Fin 1024) (k : Fin 2048) : iblk1 V c 0 t (ix2 r k) = vM V c (ix2 (row1 t r) k) := by
  blk_point [iblk1, idx1 t, row1]

/-- and of the second. -/
theorem blk1_b (t : Fin cfg1.N) (s : Fin 1024) (k : Fin 2048) :
    iblk1 V c 1 t (ix3 0 k s) = vWo V c (ix3 0 k (col1 t s)) := by
  blk_point [iblk1, idx1 t, col1]

/-- The body's product. -/
theorem pay1 (t : Fin cfg1.N) (r : Fin 1024) (s : Fin 1024) :
    k1_pay1 (F := Ideal) (iblk1 V c 0 t) (iblk1 V c 1 t) (ix2 r s) = out (vM V c) (vWo V c) (row1 t r) (col1 t s) := by
  refine Eq.trans ?_ (Finset.sum_congr rfl fun k _ => congrArg₂ (· * ·) (blk1_a V c t r k) (blk1_b V c t s k))
  generalize iblk1 V c 0 t = a
  generalize iblk1 V c 1 t = b
  pointwise [k1_pay1]

/-- The array the launch leaves. -/
theorem arr1 : (dat1 V c).arrAt 2 cfg1.N = outA (vM V c) (vWo V c) := by
  refine (dat1 V c).arrAt_eq_of_covers 2 _ (by decide +kernel) fun t hf y => ?_
  blk_simp [idx1 t]
  rw [after1_2]
  obtain ⟨r, s, rfl⟩ : ∃ (r : Fin 1024) (s : Fin 1024), y = ix2 r s := ⟨y 0, y 1, eq_ix2 y⟩
  have e : (win1_2.blk t).view.emb (ix2 r s) = ix2 (row1 t r) (col1 t s) := by
    blk_ext [idx1 t]
    all_goals rfl
  rw [e]
  unfold out1_2
  frame_out
  exact pay1 V c t r s

/-! ## The gradient of the second weights -/

/-- The blocks each iteration names. -/
theorem idx2 : ∀ t : Fin cfg2.N, win2_0.index t = ![0, t.val / 2] ∧ win2_1.index t = ![0, t.val % 2] ∧ win2_2.index t = ![t.val / 2, t.val % 2] :=
  (by decide +kernel : ∀ t : Fin grid2.N, _)

/-- Row `r` of point `t`'s block, in the array, -/
def row2 (t : Fin cfg2.N) (r : Fin 512) : Fin 2048 := ⟨t.val / 2 * 512 + r.val, by have := t.isLt; have : cfg2.N = 8 := N_2; omega⟩
/-- and column `s`. -/
def col2 (t : Fin cfg2.N) (s : Fin 1024) : Fin 2048 := ⟨t.val % 2 * 1024 + s.val, by omega⟩

/-- A block of the first factor, -/
theorem blk2_a (t : Fin cfg2.N) (r : Fin 512) (k : Fin 4096) : iblk2 V c 0 t (ix2 k r) = vM V c (ix2 k (row2 t r)) := by
  blk_point [iblk2, idx2 t, row2]

/-- and of the second. -/
theorem blk2_b (t : Fin cfg2.N) (s : Fin 1024) (k : Fin 4096) :
    iblk2 V c 1 t (ix2 k s) = vY V c (ix2 k (col2 t s)) := by
  blk_point [iblk2, idx2 t, col2]

/-- The body's product. -/
theorem pay2 (t : Fin cfg2.N) (r : Fin 512) (s : Fin 1024) :
    k2_pay1 (F := Ideal) (iblk2 V c 0 t) (iblk2 V c 1 t) (ix2 r s) = dwout (vM V c) (vY V c) (row2 t r) (col2 t s) := by
  refine Eq.trans ?_ (Finset.sum_congr rfl fun k _ => congrArg₂ (· * ·) (blk2_a V c t r k) (blk2_b V c t s k))
  generalize iblk2 V c 0 t = a
  generalize iblk2 V c 1 t = b
  pointwise [k2_pay1]

/-- The array the launch leaves. -/
theorem arr2 : (dat2 V c).arrAt 2 cfg2.N = dwoutA (vM V c) (vY V c) := by
  refine (dat2 V c).arrAt_eq_of_covers 2 _ (by decide +kernel) fun t hf y => ?_
  blk_simp [idx2 t]
  rw [after2_2]
  obtain ⟨r, s, rfl⟩ : ∃ (r : Fin 512) (s : Fin 1024), y = ix2 r s := ⟨y 0, y 1, eq_ix2 y⟩
  have e : (win2_2.blk t).view.emb (ix2 r s) = ix2 (row2 t r) (col2 t s) := by
    blk_ext [idx2 t]
    all_goals rfl
  rw [e]
  unfold out2_2
  frame_out
  exact pay2 V c t r s

/-! ## The gradient of what was mixed -/

/-- The blocks each iteration names. -/
theorem idx3 : ∀ t : Fin cfg3.N, win3_0.index t = ![t.val / 2, 0] ∧ win3_1.index t = ![0, t.val % 2, 0] ∧ win3_2.index t = ![t.val / 2, t.val % 2] :=
  (by decide +kernel : ∀ t : Fin grid3.N, _)

/-- Row `r` of point `t`'s block, in the array, -/
def row3 (t : Fin cfg3.N) (r : Fin 1024) : Fin 4096 := ⟨t.val / 2 * 1024 + r.val, by have := t.isLt; have : cfg3.N = 8 := N_3; omega⟩
/-- and column `s`. -/
def col3 (t : Fin cfg3.N) (s : Fin 1024) : Fin 2048 := ⟨t.val % 2 * 1024 + s.val, by omega⟩

/-- A block of the first factor, -/
theorem blk3_a (t : Fin cfg3.N) (r : Fin 1024) (k : Fin 2048) : iblk3 V c 0 t (ix2 r k) = vY V c (ix2 (row3 t r) k) := by
  blk_point [iblk3, idx3 t, row3]

/-- and of the second. -/
theorem blk3_b (t : Fin cfg3.N) (s : Fin 1024) (k : Fin 2048) :
    iblk3 V c 1 t (ix3 0 s k) = vWo V c (ix3 0 (col3 t s) k) := by
  blk_point [iblk3, idx3 t, col3]

/-- The body's product. -/
theorem pay3 (t : Fin cfg3.N) (r : Fin 1024) (s : Fin 1024) :
    k3_pay1 (F := Ideal) (iblk3 V c 0 t) (iblk3 V c 1 t) (ix2 r s) = dmid (vY V c) (vWo V c) (row3 t r) (col3 t s) := by
  refine Eq.trans ?_ (Finset.sum_congr rfl fun k _ => congrArg₂ (· * ·) (blk3_a V c t r k) (blk3_b V c t s k))
  generalize iblk3 V c 0 t = a
  generalize iblk3 V c 1 t = b
  pointwise [k3_pay1]

/-- The array the launch leaves. -/
theorem arr3 : (dat3 V c).arrAt 2 cfg3.N = dmidA (vY V c) (vWo V c) := by
  refine (dat3 V c).arrAt_eq_of_covers 2 _ (by decide +kernel) fun t hf y => ?_
  blk_simp [idx3 t]
  rw [after3_2]
  obtain ⟨r, s, rfl⟩ : ∃ (r : Fin 1024) (s : Fin 1024), y = ix2 r s := ⟨y 0, y 1, eq_ix2 y⟩
  have e : (win3_2.blk t).view.emb (ix2 r s) = ix2 (row3 t r) (col3 t s) := by
    blk_ext [idx3 t]
    all_goals rfl
  rw [e]
  unfold out3_2
  frame_out
  exact pay3 V c t r s

/-! ## The gradient of the first weights -/

/-- The blocks each iteration names. -/
theorem idx4 : ∀ t : Fin cfg4.N, win4_0.index t = ![0, t.val / 4] ∧ win4_1.index t = ![t.val % 4 / 2, 0, t.val % 4 % 2] ∧ win4_2.index t = ![t.val / 4, t.val % 4] :=
  (by decide +kernel : ∀ t : Fin grid4.N, _)

/-- Row `r` of point `t`'s block, in the array, -/
def row4 (t : Fin cfg4.N) (r : Fin 512) : Fin 2048 := ⟨t.val / 4 * 512 + r.val, by have := t.isLt; have : cfg4.N = 16 := N_4; omega⟩
/-- and column `s`. -/
def col4 (t : Fin cfg4.N) (s : Fin 1024) : Fin 4096 := ⟨t.val % 4 * 1024 + s.val, by omega⟩

/-- A block of the first factor, -/
theorem blk4_a (t : Fin cfg4.N) (r : Fin 512) (k : Fin 4096) : iblk4 V c 0 t (ix2 k r) = vH V c (ix2 k (row4 t r)) := by
  blk_point [iblk4, idx4 t, row4]

/-- and of the second. -/
theorem blk4_b (t : Fin cfg4.N) (s : Fin 1024) (k : Fin 4096) :
    iblk4 V c 1 t (ix3 0 k s) = vD V c (ix3 ⟨((col4 t s)).val / 2048, by have := (col4 t s).isLt; omega⟩ k ⟨((col4 t s)).val % 2048, Nat.mod_lt _ (by decide)⟩) := by
  blk_point [iblk4, idx4 t, col4]
  all_goals omega

/-- The body's product. -/
theorem pay4 (t : Fin cfg4.N) (r : Fin 512) (s : Fin 1024) :
    k4_pay1 (F := Ideal) (iblk4 V c 0 t) (iblk4 V c 1 t) (ix2 r s) = dwin (vH V c) (vD V c) (row4 t r) (col4 t s) := by
  refine Eq.trans ?_ (Finset.sum_congr rfl fun k _ => congrArg₂ (· * ·) (blk4_a V c t r k) (blk4_b V c t s k))
  generalize iblk4 V c 0 t = a
  generalize iblk4 V c 1 t = b
  pointwise [k4_pay1]

/-- The array the launch leaves. -/
theorem arr4 : (dat4 V c).arrAt 2 cfg4.N = dwinA (vH V c) (vD V c) := by
  refine (dat4 V c).arrAt_eq_of_covers 2 _ (by decide +kernel) fun t hf y => ?_
  blk_simp [idx4 t]
  rw [after4_2]
  obtain ⟨r, s, rfl⟩ : ∃ (r : Fin 512) (s : Fin 1024), y = ix2 r s := ⟨y 0, y 1, eq_ix2 y⟩
  have e : (win4_2.blk t).view.emb (ix2 r s) = ix2 (row4 t r) (col4 t s) := by
    blk_ext [idx4 t]
    all_goals rfl
  rw [e]
  unfold out4_2
  frame_out
  exact pay4 V c t r s

end Cert.Io

end
-- ==== Proof.Io.Ref.lean ====
/- The reference for a mixer's products, read at an index. -/
module

public import proofs.«01_k».proof.Proof.Gen.IoReferenceIdeal.Read
public import proofs.«01_k».proof.Proof.Io.Array
public import Idealize.ShloMosaic.Lib.Pipeline.ValueKit

@[expose] public section

set_option maxRecDepth 16384

noncomputable section

open Idealize.ShloMosaic Cert.IoReferenceIdeal Cert.IoReferenceIdeal.Read

namespace Cert.Io

variable (H : FVec Ideal S4096x2048 .bf16) (Wi : FVec Ideal S1x2048x4096 .bf16) (M : FVec Ideal S4096x2048 .bf16) (Wo : FVec Ideal S1x2048x2048 .bf16)
  (D : FVec Ideal S2x4096x2048 .bf16) (Y : FVec Ideal S4096x2048 .bf16)

/-- The first product, -/
theorem ref_first (i : Fin 4096) (j : Fin 4096) : val_main_v7 (F := Ideal) H Wi (ix2 i j) = pre H Wi i j := by
  unfold pre
  pointwise [val_main_v7, val_main_v2, val_main_v1, val_main_v0]

/-- the same with its halves in planes. -/
theorem ref_pre : val_main_v26 (F := Ideal) H Wi = preA H Wi := by
  funext y
  obtain ⟨a, i, j, rfl⟩ : ∃ (a : Fin 2) (i : Fin 4096) (j : Fin 2048), y = ix3 a i j := ⟨y 0, y 1, y 2, eq_ix3 y⟩
  have e := ref_first H Wi i
  unfold val_main_v26 val_main_v25 val_main_v24 val_main_v23 val_main_v22 val_main_v21
  generalize val_main_v7 (F := Ideal) H Wi = x at e ⊢
  pointwise []
  by_cases ha : a.val < 1
  · rw [dif_pos ha, e]
    exact congrArg (pre H Wi i) (Fin.ext (show _ = a.val * 2048 + j.val by simp only []; omega))
  · rw [dif_neg ha, e]
    exact congrArg (pre H Wi i) (Fin.ext (show _ = a.val * 2048 + j.val by simp only []; omega))

/-- The second product. -/
theorem ref_out : val_main_v27 (F := Ideal) M Wo = outA M Wo := by
  funext y
  obtain ⟨i, j, rfl⟩ : ∃ (i : Fin 4096) (j : Fin 2048), y = ix2 i j := ⟨y 0, y 1, eq_ix2 y⟩
  pointwise [val_main_v27, val_main_v8, val_main_v5, val_main_v4, val_main_v3]
  rfl

/-- The gradient of the second weights. -/
theorem ref_dwout : val_main_v28 (F := Ideal) M Y = dwoutA M Y := by
  funext y
  obtain ⟨i, j, rfl⟩ : ∃ (i j : Fin 2048), y = ix2 i j := ⟨y 0, y 1, eq_ix2 y⟩
  pointwise [val_main_v28, val_main_v10, val_main_v9, val_main_v6, val_main_v3]
  exact Finset.sum_congr rfl fun n _ => mul_comm _ _

/-- The gradient of what was mixed. -/
theorem ref_dmid : val_main_v11 (F := Ideal) Wo Y = dmidA Y Wo := by
  funext y
  obtain ⟨i, j, rfl⟩ : ∃ (i : Fin 4096) (j : Fin 2048), y = ix2 i j := ⟨y 0, y 1, eq_ix2 y⟩
  pointwise [val_main_v11, val_main_v6, val_main_v5, val_main_v4]
  rfl

/-- Two places of the first product's gradient with equal coordinates hold one value. -/
theorem same {a a' : Fin 2} {k k' : Fin 2048} (i : Fin 4096) (ha : a.val = a'.val) (hk : k.val = k'.val) : D (ix3 a i k) = D (ix3 a' i k') := by
  rw [Fin.ext ha, Fin.ext hk]

/-- The planes of the first product's gradient, side by side. -/
theorem ref_beside (i : Fin 4096) (j : Fin 4096) :
    val_main_v16 (F := Ideal) D (ix2 i j) = D (ix3 ⟨j.val / 2048, by omega⟩ i ⟨j.val % 2048, Nat.mod_lt _ (by decide)⟩) := by
  pointwise [val_main_v16, val_main_v15, val_main_v14, val_main_v13, val_main_v12]
  by_cases hj : j.val < 2048
  · rw [dif_pos hj]
    exact same D i (show 0 = j.val / 2048 by omega) (show j.val = j.val % 2048 by omega)
  · rw [dif_neg hj]
    exact same D i (show 1 = j.val / 2048 by omega) (show j.val - 2048 = j.val % 2048 by omega)

/-- The gradient of the first weights. -/
theorem ref_dwin : val_main_v29 (F := Ideal) H D = dwinA H D := by
  funext y
  obtain ⟨i, j, rfl⟩ : ∃ (i : Fin 2048) (j : Fin 4096), y = ix2 i j := ⟨y 0, y 1, eq_ix2 y⟩
  have e := fun n => ref_beside D n j
  unfold val_main_v29 val_main_v19 val_main_v18 val_main_v17
  generalize val_main_v16 (F := Ideal) D = x at e ⊢
  pointwise [val_main_v0]
  refine (Finset.sum_congr rfl fun n _ => (congrArg (· * _) (e n)).trans (mul_comm _ _)).trans ?_
  rfl

end Cert.Io

end
-- ==== Proof.Io.Run.lean ====
/- The five launches of a mixer's products, run one after another: what the results hold when the last has ended. -/
module

public import proofs.«01_k».proof.Proof.Gen.IoKernelIdeal.Frame

@[expose] public section

set_option maxRecDepth 16384

noncomputable section

namespace Cert.Io

open Cert.IoKernelIdeal Cert.IoKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The first product's array is touched by none of the launches that follow it, -/
theorem end_pre : W5 m ρ c (Proc.devRef .tc main_v0) = (dat0 (V0 m ρ) c).arrAt 2 cfg0.N :=
  (W5_of m ρ c main_v0 (by decide)).trans ((W4_of m ρ c main_v0 (by decide)).trans ((W3_of m ρ c main_v0 (by decide)).trans ((W2_of m ρ c main_v0 (by decide)).trans (W1_arr m ρ c 2))))

/-- nor is the second's, -/
theorem end_out : W5 m ρ c (Proc.devRef .tc main_v1) = (dat1 (V1 m ρ) c).arrAt 2 cfg1.N :=
  (W5_of m ρ c main_v1 (by decide)).trans ((W4_of m ρ c main_v1 (by decide)).trans ((W3_of m ρ c main_v1 (by decide)).trans (W2_arr m ρ c 2)))

/-- nor the second weights' gradient, -/
theorem end_dwout : W5 m ρ c (Proc.devRef .tc main_v2) = (dat2 (V2 m ρ) c).arrAt 2 cfg2.N :=
  (W5_of m ρ c main_v2 (by decide)).trans ((W4_of m ρ c main_v2 (by decide)).trans (W3_arr m ρ c 2))

/-- nor the gradient of what was mixed; -/
theorem end_dmid : W5 m ρ c (Proc.devRef .tc main_v3) = (dat3 (V3 m ρ) c).arrAt 2 cfg3.N :=
  (W5_of m ρ c main_v3 (by decide)).trans (W4_arr m ρ c 2)

/-- the first weights' gradient is made by the last. -/
theorem end_dwin : W5 m ρ c (Proc.devRef .tc main_v4) = (dat4 (V4 m ρ) c).arrAt 2 cfg4.N :=
  W5_arr m ρ c 2

/-- Launch 1 finds its argument as launched. -/
theorem in0_arg0 : V0 m ρ c main_arg0 = m ((c : Thread nD τ).loc main_arg0) := rfl

/-- Launch 1 finds its argument as launched. -/
theorem in0_arg1 : V0 m ρ c main_arg1 = m ((c : Thread nD τ).loc main_arg1) := rfl

/-- Launch 2 finds its argument as launched. -/
theorem in1_arg2 : V1 m ρ c main_arg2 = m ((c : Thread nD τ).loc main_arg2) := W1_args m ρ c main_arg2 (by decide)

/-- Launch 2 finds its argument as launched. -/
theorem in1_arg3 : V1 m ρ c main_arg3 = m ((c : Thread nD τ).loc main_arg3) := W1_args m ρ c main_arg3 (by decide)

/-- Launch 3 finds its argument as launched. -/
theorem in2_arg2 : V2 m ρ c main_arg2 = m ((c : Thread nD τ).loc main_arg2) := W2_args m ρ c main_arg2 (by decide)

/-- Launch 3 finds its argument as launched. -/
theorem in2_arg5 : V2 m ρ c main_arg5 = m ((c : Thread nD τ).loc main_arg5) := W2_args m ρ c main_arg5 (by decide)

/-- Launch 4 finds its argument as launched. -/
theorem in3_arg5 : V3 m ρ c main_arg5 = m ((c : Thread nD τ).loc main_arg5) := W3_args m ρ c main_arg5 (by decide)

/-- Launch 4 finds its argument as launched. -/
theorem in3_arg3 : V3 m ρ c main_arg3 = m ((c : Thread nD τ).loc main_arg3) := W3_args m ρ c main_arg3 (by decide)

/-- Launch 5 finds its argument as launched. -/
theorem in4_arg0 : V4 m ρ c main_arg0 = m ((c : Thread nD τ).loc main_arg0) := W4_args m ρ c main_arg0 (by decide)

/-- Launch 5 finds its argument as launched. -/
theorem in4_arg4 : V4 m ρ c main_arg4 = m ((c : Thread nD τ).loc main_arg4) := W4_args m ρ c main_arg4 (by decide)

set_option backward.isDefEq.respectTransparency.types false in
/-- The run: each result ends as its own launch leaves it, and the arguments as launched. -/
theorem run : θ_run defs (onTc (τ := τ) (main (F := F))) ⟨m, fun _ => 0, ρ⟩ (fun r => ∀ c : Dev nD,
      (r.2.mem ((c.tc : Thread nD τ).loc main_v0) = (dat0 (V0 m ρ) c).arrAt 2 cfg0.N
      ∧ r.2.mem ((c.tc : Thread nD τ).loc main_v1) = (dat1 (V1 m ρ) c).arrAt 2 cfg1.N
      ∧ r.2.mem ((c.tc : Thread nD τ).loc main_v2) = (dat2 (V2 m ρ) c).arrAt 2 cfg2.N
      ∧ r.2.mem ((c.tc : Thread nD τ).loc main_v3) = (dat3 (V3 m ρ) c).arrAt 2 cfg3.N
      ∧ r.2.mem ((c.tc : Thread nD τ).loc main_v4) = (dat4 (V4 m ρ) c).arrAt 2 cfg4.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨⟨(h c _ (mem_uc main_v0 (by decide))).trans (end_pre m ρ c),
        (h c _ (mem_uc main_v1 (by decide))).trans (end_out m ρ c),
        (h c _ (mem_uc main_v2 (by decide))).trans (end_dwout m ρ c),
        (h c _ (mem_uc main_v3 (by decide))).trans (end_dmid m ρ c),
        (h c _ (mem_uc main_v4 (by decide))).trans (end_dwin m ρ c)⟩,
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.Io

end
-- ==== Proof.Io.Claims.lean ====
/- The claims about the products of a mixer. -/
module

public import proofs.«01_k».proof.Defs
public import proofs.«01_k».proof.Proof.Gen.IoKernel.Frame
public import proofs.«01_k».proof.Proof.Gen.IoReferenceIdeal.Run
public import proofs.«01_k».proof.Proof.Io.Ref
public import proofs.«01_k».proof.Proof.Io.Run
public import Idealize.ShloMosaic.Lib.Quiescent

@[expose] public section

set_option maxRecDepth 16384

noncomputable section

open Idealize.ShloMosaic Idealize.ShloMosaic.TcCoe Idealize.SL.Sem

namespace Cert.Io

/-- The kernel ends, leaves its arguments and every counter as they were, on the machine's numbers. -/
theorem frame_kernel : Cert.quiescent_IoKernel := fun m ρ _ => Cert.IoKernel.Gen.frame m ρ

/-- The same over the extended reals. -/
theorem frame_ideal : Cert.quiescent_IoKernelIdeal := fun m ρ _ => Cert.IoKernelIdeal.Gen.frame m ρ

/-- The reference ends and leaves its arguments as they were; it declares no counter. -/
theorem frame_ref : Cert.quiescent_IoReferenceIdeal := fun m ρ _ =>
  (θ_run Cert.IoReferenceIdeal.defs _ _).mono
    (fun r h => ⟨fun c => (h c).2.2.2.2.2, sem_eq_zero_of_no_sems (by decide) r.2⟩)
    (Cert.IoReferenceIdeal.Value.run m ρ)

section Arrays

open Cert.IoKernelIdeal Cert.IoKernelIdeal.Gen

variable (m : (ℓ : Loc nD τ sig) → Buf (Elt Ideal) ℓ) (ρ : Dev nD → PrngReg) (c : Dev nD)

/-- The mixer's input as launched, -/
abbrev H : FVec Ideal S4096x2048 .bf16 := m ((c : Thread nD τ).loc main_arg0)
/-- the first weights, -/
abbrev Wi : FVec Ideal S1x2048x4096 .bf16 := m ((c : Thread nD τ).loc main_arg1)
/-- what the mixer mixed, -/
abbrev M : FVec Ideal S4096x2048 .bf16 := m ((c : Thread nD τ).loc main_arg2)
/-- the second weights, -/
abbrev Wo : FVec Ideal S1x2048x2048 .bf16 := m ((c : Thread nD τ).loc main_arg3)
/-- the first product's gradient, -/
abbrev D : FVec Ideal S2x4096x2048 .bf16 := m ((c : Thread nD τ).loc main_arg4)
/-- and the output's. -/
abbrev Y : FVec Ideal S4096x2048 .bf16 := m ((c : Thread nD τ).loc main_arg5)

/-- The first product, from the arguments as launched; -/
theorem final_pre : (dat0 (V0 m ρ) c).arrAt 2 cfg0.N = preA (H m c) (Wi m c) :=
  (arr0 (V0 m ρ) c).trans (congrArg₂ preA (in0_arg0 m ρ c) (in0_arg1 m ρ c))

/-- the second; -/
theorem final_out : (dat1 (V1 m ρ) c).arrAt 2 cfg1.N = outA (M m c) (Wo m c) :=
  (arr1 (V1 m ρ) c).trans (congrArg₂ outA (in1_arg2 m ρ c) (in1_arg3 m ρ c))

/-- the gradient of the second weights; -/
theorem final_dwout : (dat2 (V2 m ρ) c).arrAt 2 cfg2.N = dwoutA (M m c) (Y m c) :=
  (arr2 (V2 m ρ) c).trans (congrArg₂ dwoutA (in2_arg2 m ρ c) (in2_arg5 m ρ c))

/-- the gradient of what was mixed; -/
theorem final_dmid : (dat3 (V3 m ρ) c).arrAt 2 cfg3.N = dmidA (Y m c) (Wo m c) :=
  (arr3 (V3 m ρ) c).trans (congrArg₂ dmidA (in3_arg5 m ρ c) (in3_arg3 m ρ c))

/-- the gradient of the first weights. -/
theorem final_dwin : (dat4 (V4 m ρ) c).arrAt 2 cfg4.N = dwinA (H m c) (D m c) :=
  (arr4 (V4 m ρ) c).trans (congrArg₂ dwinA (in4_arg0 m ρ c) (in4_arg4 m ρ c))

end Arrays

/-- The five launches and the reference agree over the extended reals, on any arguments. -/
theorem algebraic : Cert.algebraic_IoKernelIdeal_IoReferenceIdeal := by
  intro m ρ m' ρ' _ hagree
  refine ⟨fun c => preA (H m c) (Wi m c), fun c => outA (M m c) (Wo m c), fun c => dwoutA (M m c) (Y m c), fun c => dmidA (Y m c) (Wo m c),
    fun c => dwinA (H m c) (D m c), ?_, ?_⟩
  · exact (θ_run Cert.IoKernelIdeal.defs _ _).mono
      (fun r h c => ⟨(h c).1.1.trans (final_pre m ρ c), (h c).1.2.1.trans (final_out m ρ c), (h c).1.2.2.1.trans (final_dwout m ρ c),
        (h c).1.2.2.2.1.trans (final_dmid m ρ c), (h c).1.2.2.2.2.trans (final_dwin m ρ c), (h c).2⟩)
      (run m ρ)
  · refine (θ_run Cert.IoReferenceIdeal.defs _ _).mono (fun r h c => ?_) (Cert.IoReferenceIdeal.Value.run m' ρ')
    obtain ⟨a0, a1, a2, a3, a4, a5⟩ := hagree c
    refine ⟨(h c).1.trans ?_, (h c).2.1.trans ?_, (h c).2.2.1.trans ?_, (h c).2.2.2.1.trans ?_, (h c).2.2.2.2.1.trans ?_, (h c).2.2.2.2.2⟩
    · rw [Cert.IoReferenceIdeal.Read.val_main_v26_eq, a0, a1]
      exact ref_pre _ _
    · rw [Cert.IoReferenceIdeal.Read.val_main_v27_eq, a2, a3]
      exact ref_out _ _
    · rw [Cert.IoReferenceIdeal.Read.val_main_v28_eq, a2, a5]
      exact ref_dwout _ _
    · rw [Cert.IoReferenceIdeal.Read.val_main_v11_eq, a3, a5]
      exact ref_dmid _ _
    · rw [Cert.IoReferenceIdeal.Read.val_main_v29_eq, a0, a4]
      exact ref_dwin _ _

end Cert.Io

end
-- ==== Proof.A.Array.lean ====
/- The arrays left by the five launches of the first layer's products, each from the contents it is entered with. -/
module

public import proofs.«01_k».proof.Proof.Gen.AKernelIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Cert.AKernelIdeal Cert.AKernelIdeal.Gen

namespace Cert.A

/-- The first product: the layer's input times its first weights, three planes side by side, at a place, -/
def pre (A : FVec Ideal S4096x2048 .bf16) (B : FVec Ideal S1x2048x6144 .bf16) (i : Fin 4096) (j : Fin 6144) : EReal :=
  ∑ k : Fin 2048, A (ix2 i k) * B (ix3 0 k j)

/-- and as an array. -/
def preA (A : FVec Ideal S4096x2048 .bf16) (B : FVec Ideal S1x2048x6144 .bf16) : FVec Ideal S3x4096x2048 .bf16 := fun y =>
  pre A B (y 1) ⟨(y 0).val * 2048 + (y 2).val, by have h0 : (y 0).val < 3 := (y 0).isLt; have h2 : (y 2).val < 2048 := (y 2).isLt; omega⟩

/-- The second product: what is mixed times the second weights, at a place, -/
def out (A : FVec Ideal S4096x2048 .bf16) (B : FVec Ideal S1x2048x2048 .bf16) (i : Fin 4096) (j : Fin 2048) : EReal :=
  ∑ k : Fin 2048, A (ix2 i k) * B (ix3 0 k j)

/-- and as an array. -/
def outA (A : FVec Ideal S4096x2048 .bf16) (B : FVec Ideal S1x2048x2048 .bf16) : FVec Ideal S4096x2048 .bf16 := fun y => out A B (y 0) (y 1)

/-- The gradient of the second weights: what is mixed, transposed, times the output's gradient, at a place, -/
def dwout (A : FVec Ideal S4096x2048 .bf16) (B : FVec Ideal S4096x2048 .bf16) (i : Fin 2048) (j : Fin 2048) : EReal :=
  ∑ k : Fin 4096, A (ix2 k i) * B (ix2 k j)

/-- and as an array. -/
def dwoutA (A : FVec Ideal S4096x2048 .bf16) (B : FVec Ideal S4096x2048 .bf16) : FVec Ideal S2048x2048 .bf16 := fun y => dwout A B (y 0) (y 1)

/-- The gradient of what is mixed: the output's times the transposed second weights, at a place, -/
def dmid (A : FVec Ideal S4096x2048 .bf16) (B : FVec Ideal S1x2048x2048 .bf16) (i : Fin 4096) (j : Fin 2048) : EReal :=
  ∑ k : Fin 2048, A (ix2 i k) * B (ix3 0 j k)

/-- and as an array. -/
def dmidA (A : FVec Ideal S4096x2048 .bf16) (B : FVec Ideal S1x2048x2048 .bf16) : FVec Ideal S4096x2048 .f32 := fun y => dmid A B (y 0) (y 1)

/-- The gradient of the first weights: the input transposed times the first product's gradient, its planes side by side, at a place, -/
def dwin (A : FVec Ideal S4096x2048 .bf16) (B : FVec Ideal S3x4096x2048 .bf16) (i : Fin 2048) (j : Fin 6144) : EReal :=
  ∑ k : Fin 4096, A (ix2 k i) * B (ix3 ⟨j.val / 2048, by omega⟩ k ⟨j.val % 2048, Nat.mod_lt _ (by decide)⟩)

/-- and as an array. -/
def dwinA (A : FVec Ideal S4096x2048 .bf16) (B : FVec Ideal S3x4096x2048 .bf16) : FVec Ideal S2048x6144 .bf16 := fun y => dwin A B (y 0) (y 1)

variable (V : (c : Dev nD) → (b : Ref sig .tc) → Buf (Elt Ideal) ((c : Thread nD τ).loc b)) (c : Dev nD)

/-- The layer's input, as a launch finds it, -/
abbrev vH : FVec Ideal S4096x2048 .bf16 := V c main_arg0
/-- the first weights, -/
abbrev vWi : FVec Ideal S1x2048x6144 .bf16 := V c main_arg1
/-- the convolution's weights, -/
abbrev vWc : FVec Ideal S3x2048 .f32 := V c main_arg2
/-- the second weights, -/
abbrev vWo : FVec Ideal S1x2048x2048 .bf16 := V c main_arg3
/-- the output's gradient, -/
abbrev vY : FVec Ideal S4096x2048 .bf16 := V c main_arg4
/-- the first product's three planes, -/
abbrev vP : FVec Ideal S3x4096x2048 .bf16 := V c main_v0
/-- what is mixed, -/
abbrev vM : FVec Ideal S4096x2048 .bf16 := V c main_v1
/-- its gradient, -/
abbrev vDm : FVec Ideal S4096x2048 .f32 := V c main_v4
/-- and the planes' gradients. -/
abbrev vD : FVec Ideal S3x4096x2048 .bf16 := V c main_v5_0

/-! ## The first product -/

/-- The blocks each iteration names. -/
theorem idx0 : ∀ t : Fin cfg0.N, win0_0.index t = ![t.val / 6, 0] ∧ win0_1.index t = ![0, 0, t.val % 6] ∧ win0_2.index t = ![t.val % 6 / 2, t.val / 6, t.val % 6 % 2] :=
  (by decide +kernel : ∀ t : Fin grid0.N, _)

/-- Row `r` of point `t`'s block, in the array, -/
def row0 (t : Fin cfg0.N) (r : Fin 1024) : Fin 4096 := ⟨t.val / 6 * 1024 + r.val, by have := t.isLt; have : cfg0.N = 24 := N_0; omega⟩
/-- and column `s`. -/
def col0 (t : Fin cfg0.N) (s : Fin 1024) : Fin 6144 := ⟨t.val % 6 * 1024 + s.val, by omega⟩

/-- A block of the first factor, -/
theorem blk0_a (t : Fin cfg0.N) (r : Fin 1024) (k : Fin 2048) : iblk0 V c 0 t (ix2 r k) = vH V c (ix2 (row0 t r) k) := by
  blk_point [iblk0, idx0 t, row0]

/-- and of the second. -/
theorem blk0_b (t : Fin cfg0.N) (s : Fin 1024) (k : Fin 2048) :
    iblk0 V c 1 t (ix3 0 k s) = vWi V c (ix3 0 k (col0 t s)) := by
  blk_point [iblk0, idx0 t, col0]

/-- The body's product. -/
theorem pay0 (t : Fin cfg0.N) (q : Fin 1) (r : Fin 1024) (s : Fin 1024) :
    k0_pay1 (F := Ideal) (iblk0 V c 0 t) (iblk0 V c 1 t) (ix3 q r s) = pre (vH V c) (vWi V c) (row0 t r) (col0 t s) := by
  refine Eq.trans ?_ (Finset.sum_congr rfl fun k _ => congrArg₂ (· * ·) (blk0_a V c t r k) (blk0_b V c t s k))
  generalize iblk0 V c 0 t = a
  generalize iblk0 V c 1 t = b
  pointwise [k0_pay1]

/-- The array the launch leaves. -/
theorem arr0 : (dat0 V c).arrAt 2 cfg0.N = preA (vH V c) (vWi V c) := by
  refine (dat0 V c).arrAt_eq_of_covers 2 _ (by decide +kernel) fun t hf y => ?_
  blk_simp [idx0 t]
  rw [after0_2]
  obtain ⟨q, r, s, rfl⟩ : ∃ (q : Fin 1) (r : Fin 1024) (s : Fin 1024), y = ix3 q r s := ⟨y 0, y 1, y 2, eq_ix3 y⟩
  have hc := (col0 t s).isLt
  have e : (win0_2.blk t).view.emb (ix3 q r s)
      = ix3 ⟨(col0 t s).val / 2048, by omega⟩ (row0 t r) ⟨(col0 t s).val % 2048, Nat.mod_lt _ (by decide)⟩ := by
    unfold row0 col0
    blk_ext [idx0 t]
    all_goals first | rfl | omega
  rw [e]
  unfold out0_2
  frame_out
  refine (pay0 V c t q r s).trans (congrArg (pre _ _ _) (Fin.ext ?_))
  show (col0 t s).val = (col0 t s).val / 2048 * 2048 + (col0 t s).val % 2048
  omega

/-! ## The second product -/

/-- The blocks each iteration names. -/
theorem idx2 : ∀ t : Fin cfg2.N, win2_0.index t = ![t.val / 2, 0] ∧ win2_1.index t = ![0, 0, t.val % 2] ∧ win2_2.index t = ![t.val / 2, t.val % 2] :=
  (by decide +kernel : ∀ t : Fin grid2.N, _)

/-- Row `r` of point `t`'s block, in the array, -/
def row2 (t : Fin cfg2.N) (r : Fin 1024) : Fin 4096 := ⟨t.val / 2 * 1024 + r.val, by have := t.isLt; have : cfg2.N = 8 := N_2; omega⟩
/-- and column `s`. -/
def col2 (t : Fin cfg2.N) (s : Fin 1024) : Fin 2048 := ⟨t.val % 2 * 1024 + s.val, by omega⟩

/-- A block of the first factor, -/
theorem blk2_a (t : Fin cfg2.N) (r : Fin 1024) (k : Fin 2048) : iblk2 V c 0 t (ix2 r k) = vM V c (ix2 (row2 t r) k) := by
  blk_point [iblk2, idx2 t, row2]

/-- and of the second. -/
theorem blk2_b (t : Fin cfg2.N) (s : Fin 1024) (k : Fin 2048) :
    iblk2 V c 1 t (ix3 0 k s) = vWo V c (ix3 0 k (col2 t s)) := by
  blk_point [iblk2, idx2 t, col2]

/-- The body's product. -/
theorem pay2 (t : Fin cfg2.N) (r : Fin 1024) (s : Fin 1024) :
    k2_pay1 (F := Ideal) (iblk2 V c 0 t) (iblk2 V c 1 t) (ix2 r s) = out (vM V c) (vWo V c) (row2 t r) (col2 t s) := by
  refine Eq.trans ?_ (Finset.sum_congr rfl fun k _ => congrArg₂ (· * ·) (blk2_a V c t r k) (blk2_b V c t s k))
  generalize iblk2 V c 0 t = a
  generalize iblk2 V c 1 t = b
  pointwise [k2_pay1]

/-- The array the launch leaves. -/
theorem arr2 : (dat2 V c).arrAt 2 cfg2.N = outA (vM V c) (vWo V c) := by
  refine (dat2 V c).arrAt_eq_of_covers 2 _ (by decide +kernel) fun t hf y => ?_
  blk_simp [idx2 t]
  rw [after2_2]
  obtain ⟨r, s, rfl⟩ : ∃ (r : Fin 1024) (s : Fin 1024), y = ix2 r s := ⟨y 0, y 1, eq_ix2 y⟩
  have e : (win2_2.blk t).view.emb (ix2 r s) = ix2 (row2 t r) (col2 t s) := by
    blk_ext [idx2 t]
    all_goals rfl
  rw [e]
  unfold out2_2
  frame_out
  exact pay2 V c t r s

/-! ## The gradient of the second weights -/

/-- The blocks each iteration names. -/
theorem idx3 : ∀ t : Fin cfg3.N, win3_0.index t = ![0, t.val / 2] ∧ win3_1.index t = ![0, t.val % 2] ∧ win3_2.index t = ![t.val / 2, t.val % 2] :=
  (by decide +kernel : ∀ t : Fin grid3.N, _)

/-- Row `r` of point `t`'s block, in the array, -/
def row3 (t : Fin cfg3.N) (r : Fin 512) : Fin 2048 := ⟨t.val / 2 * 512 + r.val, by have := t.isLt; have : cfg3.N = 8 := N_3; omega⟩
/-- and column `s`. -/
def col3 (t : Fin cfg3.N) (s : Fin 1024) : Fin 2048 := ⟨t.val % 2 * 1024 + s.val, by omega⟩

/-- A block of the first factor, -/
theorem blk3_a (t : Fin cfg3.N) (r : Fin 512) (k : Fin 4096) : iblk3 V c 0 t (ix2 k r) = vM V c (ix2 k (row3 t r)) := by
  blk_point [iblk3, idx3 t, row3]

/-- and of the second. -/
theorem blk3_b (t : Fin cfg3.N) (s : Fin 1024) (k : Fin 4096) :
    iblk3 V c 1 t (ix2 k s) = vY V c (ix2 k (col3 t s)) := by
  blk_point [iblk3, idx3 t, col3]

/-- The body's product. -/
theorem pay3 (t : Fin cfg3.N) (r : Fin 512) (s : Fin 1024) :
    k3_pay1 (F := Ideal) (iblk3 V c 0 t) (iblk3 V c 1 t) (ix2 r s) = dwout (vM V c) (vY V c) (row3 t r) (col3 t s) := by
  refine Eq.trans ?_ (Finset.sum_congr rfl fun k _ => congrArg₂ (· * ·) (blk3_a V c t r k) (blk3_b V c t s k))
  generalize iblk3 V c 0 t = a
  generalize iblk3 V c 1 t = b
  pointwise [k3_pay1]

/-- The array the launch leaves. -/
theorem arr3 : (dat3 V c).arrAt 2 cfg3.N = dwoutA (vM V c) (vY V c) := by
  refine (dat3 V c).arrAt_eq_of_covers 2 _ (by decide +kernel) fun t hf y => ?_
  blk_simp [idx3 t]
  rw [after3_2]
  obtain ⟨r, s, rfl⟩ : ∃ (r : Fin 512) (s : Fin 1024), y = ix2 r s := ⟨y 0, y 1, eq_ix2 y⟩
  have e : (win3_2.blk t).view.emb (ix2 r s) = ix2 (row3 t r) (col3 t s) := by
    blk_ext [idx3 t]
    all_goals rfl
  rw [e]
  unfold out3_2
  frame_out
  exact pay3 V c t r s

/-! ## The gradient of what is mixed -/

/-- The blocks each iteration names. -/
theorem idx4 : ∀ t : Fin cfg4.N, win4_0.index t = ![t.val / 2, 0] ∧ win4_1.index t = ![0, t.val % 2, 0] ∧ win4_2.index t = ![t.val / 2, t.val % 2] :=
  (by decide +kernel : ∀ t : Fin grid4.N, _)

/-- Row `r` of point `t`'s block, in the array, -/
def row4 (t : Fin cfg4.N) (r : Fin 1024) : Fin 4096 := ⟨t.val / 2 * 1024 + r.val, by have := t.isLt; have : cfg4.N = 8 := N_4; omega⟩
/-- and column `s`. -/
def col4 (t : Fin cfg4.N) (s : Fin 1024) : Fin 2048 := ⟨t.val % 2 * 1024 + s.val, by omega⟩

/-- A block of the first factor, -/
theorem blk4_a (t : Fin cfg4.N) (r : Fin 1024) (k : Fin 2048) : iblk4 V c 0 t (ix2 r k) = vY V c (ix2 (row4 t r) k) := by
  blk_point [iblk4, idx4 t, row4]

/-- and of the second. -/
theorem blk4_b (t : Fin cfg4.N) (s : Fin 1024) (k : Fin 2048) :
    iblk4 V c 1 t (ix3 0 s k) = vWo V c (ix3 0 (col4 t s) k) := by
  blk_point [iblk4, idx4 t, col4]

/-- The body's product. -/
theorem pay4 (t : Fin cfg4.N) (r : Fin 1024) (s : Fin 1024) :
    k4_pay1 (F := Ideal) (iblk4 V c 0 t) (iblk4 V c 1 t) (ix2 r s) = dmid (vY V c) (vWo V c) (row4 t r) (col4 t s) := by
  refine Eq.trans ?_ (Finset.sum_congr rfl fun k _ => congrArg₂ (· * ·) (blk4_a V c t r k) (blk4_b V c t s k))
  generalize iblk4 V c 0 t = a
  generalize iblk4 V c 1 t = b
  pointwise [k4_pay1]

/-- The array the launch leaves. -/
theorem arr4 : (dat4 V c).arrAt 2 cfg4.N = dmidA (vY V c) (vWo V c) := by
  refine (dat4 V c).arrAt_eq_of_covers 2 _ (by decide +kernel) fun t hf y => ?_
  blk_simp [idx4 t]
  rw [after4_2]
  obtain ⟨r, s, rfl⟩ : ∃ (r : Fin 1024) (s : Fin 1024), y = ix2 r s := ⟨y 0, y 1, eq_ix2 y⟩
  have e : (win4_2.blk t).view.emb (ix2 r s) = ix2 (row4 t r) (col4 t s) := by
    blk_ext [idx4 t]
    all_goals rfl
  rw [e]
  unfold out4_2
  frame_out
  exact pay4 V c t r s

/-! ## The gradient of the first weights -/

/-- The blocks each iteration names. -/
theorem idx6 : ∀ t : Fin cfg6.N, win6_0.index t = ![0, t.val / 6] ∧ win6_1.index t = ![t.val % 6 / 2, 0, t.val % 6 % 2] ∧ win6_2.index t = ![t.val / 6, t.val % 6] :=
  (by decide +kernel : ∀ t : Fin grid6.N, _)

/-- Row `r` of point `t`'s block, in the array, -/
def row6 (t : Fin cfg6.N) (r : Fin 512) : Fin 2048 := ⟨t.val / 6 * 512 + r.val, by have := t.isLt; have : cfg6.N = 24 := N_6; omega⟩
/-- and column `s`. -/
def col6 (t : Fin cfg6.N) (s : Fin 1024) : Fin 6144 := ⟨t.val % 6 * 1024 + s.val, by omega⟩

/-- A block of the first factor, -/
theorem blk6_a (t : Fin cfg6.N) (r : Fin 512) (k : Fin 4096) : iblk6 V c 0 t (ix2 k r) = vH V c (ix2 k (row6 t r)) := by
  blk_point [iblk6, idx6 t, row6]

/-- and of the second. -/
theorem blk6_b (t : Fin cfg6.N) (s : Fin 1024) (k : Fin 4096) :
    iblk6 V c 1 t (ix3 0 k s) = vD V c (ix3 ⟨((col6 t s)).val / 2048, by have := (col6 t s).isLt; omega⟩ k ⟨((col6 t s)).val % 2048, Nat.mod_lt _ (by decide)⟩) := by
  blk_point [iblk6, idx6 t, col6]
  all_goals omega

/-- The body's product. -/
theorem pay6 (t : Fin cfg6.N) (r : Fin 512) (s : Fin 1024) :
    k6_pay1 (F := Ideal) (iblk6 V c 0 t) (iblk6 V c 1 t) (ix2 r s) = dwin (vH V c) (vD V c) (row6 t r) (col6 t s) := by
  refine Eq.trans ?_ (Finset.sum_congr rfl fun k _ => congrArg₂ (· * ·) (blk6_a V c t r k) (blk6_b V c t s k))
  generalize iblk6 V c 0 t = a
  generalize iblk6 V c 1 t = b
  pointwise [k6_pay1]

/-- The array the launch leaves. -/
theorem arr6 : (dat6 V c).arrAt 2 cfg6.N = dwinA (vH V c) (vD V c) := by
  refine (dat6 V c).arrAt_eq_of_covers 2 _ (by decide +kernel) fun t hf y => ?_
  blk_simp [idx6 t]
  rw [after6_2]
  obtain ⟨r, s, rfl⟩ : ∃ (r : Fin 512) (s : Fin 1024), y = ix2 r s := ⟨y 0, y 1, eq_ix2 y⟩
  have e : (win6_2.blk t).view.emb (ix2 r s) = ix2 (row6 t r) (col6 t s) := by
    blk_ext [idx6 t]
    all_goals rfl
  rw [e]
  unfold out6_2
  frame_out
  exact pay6 V c t r s

end Cert.A

end
-- ==== Proof.A.Mix.lean ====
/- The short convolution of the first mixer: what it computes, and what the bodies of its two launches compute at one place of a block. -/
module

public import proofs.«01_k».proof.Proof.Gen.AKernelIdeal.Skeleton
public import Idealize.ShloMosaic.Lib.Pipeline.ValueKit

@[expose] public section

set_option maxRecDepth 16384

noncomputable section

open Idealize.ShloMosaic Idealize.ShloMosaic.TcCoe Cert.AKernelIdeal Cert.AKernelIdeal.Gen

namespace Cert.A

/-! ## The mathematics -/

/-- The convolution's input: the second and third planes multiplied. -/
def cz (P : FVec Ideal S3x4096x2048 .bf16) (i : Fin 4096) (j : Fin 2048) : EReal := P (ix3 1 i j) * P (ix3 2 i j)

/-- The input with two rows of zeros in front. -/
def lag (P : FVec Ideal S3x4096x2048 .bf16) (a : ℕ) (j : Fin 2048) : EReal :=
  if h : 2 ≤ a ∧ a < 4098 then cz P ⟨a - 2, by omega⟩ j else 0

/-- The convolution along the rows, three weights a column. -/
def conv (P : FVec Ideal S3x4096x2048 .bf16) (W : FVec Ideal S3x2048 .f32) (i : Fin 4096) (j : Fin 2048) : EReal :=
  W (ix2 0 j) * lag P i.val j + W (ix2 1 j) * lag P (i.val + 1) j + W (ix2 2 j) * lag P (i.val + 2) j

/-- What is mixed: the first plane times the convolution. -/
def mid (P : FVec Ideal S3x4096x2048 .bf16) (W : FVec Ideal S3x2048 .f32) : FVec Ideal S4096x2048 .bf16 := fun y =>
  P (ix3 0 (y 0) (y 1)) * conv P W (y 0) (y 1)

/-- The convolution's gradient, from the gradient of what was mixed. -/
def dconv (P : FVec Ideal S3x4096x2048 .bf16) (D : FVec Ideal S4096x2048 .f32) (i : Fin 4096) (j : Fin 2048) : EReal :=
  D (ix2 i j) * P (ix3 0 i j)

/-- The same with zeros past the last row. -/
def lead (P : FVec Ideal S3x4096x2048 .bf16) (D : FVec Ideal S4096x2048 .f32) (a : ℕ) (j : Fin 2048) : EReal :=
  if h : a < 4096 then dconv P D ⟨a, h⟩ j else 0

/-- The gradient of the convolution's input. -/
def dcz (P : FVec Ideal S3x4096x2048 .bf16) (W : FVec Ideal S3x2048 .f32) (D : FVec Ideal S4096x2048 .f32) (i : Fin 4096) (j : Fin 2048) : EReal :=
  W (ix2 0 j) * lead P D (i.val + 2) j + W (ix2 1 j) * lead P D (i.val + 1) j + W (ix2 2 j) * lead P D i.val j

/-- The gradients of the three planes. -/
def dpre (P : FVec Ideal S3x4096x2048 .bf16) (W : FVec Ideal S3x2048 .f32) (D : FVec Ideal S4096x2048 .f32) : FVec Ideal S3x4096x2048 .bf16 := fun y =>
  if (y 0).val = 0 then D (ix2 (y 1) (y 2)) * conv P W (y 1) (y 2)
  else if (y 0).val = 1 then dcz P W D (y 1) (y 2) * P (ix3 2 (y 1) (y 2))
  else dcz P W D (y 1) (y 2) * P (ix3 1 (y 1) (y 2))

/-- The gradient of the convolution's weights. -/
def dweight (P : FVec Ideal S3x4096x2048 .bf16) (D : FVec Ideal S4096x2048 .f32) (k : Fin 3) (j : Fin 2048) : EReal :=
  ∑ i : Fin 4096, dconv P D i j * lag P (i.val + k.val) j

/-- The same as an array. -/
def dconvw (P : FVec Ideal S3x4096x2048 .bf16) (D : FVec Ideal S4096x2048 .f32) : FVec Ideal S3x2048 .f32 := fun y => dweight P D (y 0) (y 1)

/-! ## The bodies at one place -/

/-- A choice by whether a grid coordinate is the first, -/
theorem pick_first (n : ℕ) (h : n < 16) (x y : EReal) :
    Scalar.select (Scalar.cmpi .eq (BitVec.ofNat 32 n) 0#32) x y = if n = 0 then x else y := by
  interval_cases n <;> rfl

/-- and by whether it is the last. -/
theorem pick_last (n : ℕ) (h : n < 16) (x y : EReal) :
    Scalar.select (Scalar.cmpi .eq (BitVec.ofNat 32 n) 15#32) x y = if n = 15 then x else y := by
  interval_cases n <;> rfl

/-- The rows the convolution reads: the eight before the block, zeros before the first, then the block's own. -/
theorem rows_before (i : grid5.Coords) (b z : FVec Ideal S1x256x256 .bf16) (b' z' : FVec Ideal S1x8x256 .bf16) (a : Fin 264) (s : Fin 256) :
    k5_pay4 (F := Ideal) i b z b' z' (ix2 a s)
      = if h : a.val < 8 then (if (i 1).val = 0 then 0 else b' (ix3 0 ⟨a.val, h⟩ s) * z' (ix3 0 ⟨a.val, h⟩ s))
        else b (ix3 0 ⟨a.val - 8, by omega⟩ s) * z (ix3 0 ⟨a.val - 8, by omega⟩ s) := by
  pointwise [k5_pay4, k5_pay2, k5_pay3]
  exact dite_congr rfl (fun _ => pick_first _ (i 1).isLt _ _) fun _ => rfl

/-- The convolution at a place, from the rows it reads. -/
theorem conv_at (i : grid5.Coords) (w : FVec Ideal S3x256 .f32) (b z : FVec Ideal S1x256x256 .bf16) (b' z' : FVec Ideal S1x8x256 .bf16) (r s : Fin 256) :
    addf (k5_pay5 (F := Ideal) i w b z b' z') (k5_pay6 (F := Ideal) i w b z b' z') (ix2 r s)
      = w (ix2 0 s) * k5_pay4 (F := Ideal) i b z b' z' (ix2 ⟨r.val + 6, by omega⟩ s)
        + w (ix2 1 s) * k5_pay4 (F := Ideal) i b z b' z' (ix2 ⟨r.val + 7, by omega⟩ s)
        + w (ix2 2 s) * k5_pay4 (F := Ideal) i b z b' z' (ix2 ⟨r.val + 8, by omega⟩ s) := by
  unfold k5_pay5 k5_pay6
  generalize k5_pay4 (F := Ideal) i b z b' z' = x
  pointwise []
  have e6 : (⟨(r.val + 264 - 258) % 264, by omega⟩ : Fin 264) = ⟨r.val + 6, by omega⟩ := Fin.ext (by show (r.val + 264 - 258) % 264 = r.val + 6; omega)
  have e7 : (⟨(r.val + 264 - 257) % 264, by omega⟩ : Fin 264) = ⟨r.val + 7, by omega⟩ := Fin.ext (by show (r.val + 264 - 257) % 264 = r.val + 7; omega)
  have e8 : (⟨8 + r.val, by omega⟩ : Fin 264) = ⟨r.val + 8, by omega⟩ := Fin.ext (by show 8 + r.val = r.val + 8; omega)
  rw [e6, e7, e8]

/-- The first launch's body makes the same convolution. -/
theorem conv_first (i : grid1.Coords) (i' : grid5.Coords) (h : (i' 1).val = (i 0).val) (w : FVec Ideal S3x256 .f32) (b z : FVec Ideal S1x256x256 .bf16)
    (b' z' : FVec Ideal S1x8x256 .bf16) :
    k1_pay2 (F := Ideal) i b z b' z' w = addf (k5_pay5 (F := Ideal) i' w b z b' z') (k5_pay6 (F := Ideal) i' w b z b' z') := by
  unfold k1_pay2 k5_pay5 k5_pay6 k5_pay4 k5_pay2 k5_pay3
  rw [h]

/-- The rows the convolution's transpose reads: the block's own, then the eight that follow, zeros past the last. -/
def after (n : Fin 16) (a : FVec Ideal S256x256 .f32) (d : FVec Ideal S256x256 .f32) (d' : FVec Ideal S8x256 .f32) (a' : FVec Ideal S1x8x256 .bf16) (q : Fin 264) (s : Fin 256) : EReal :=
  if h : q.val < 256 then d (ix2 ⟨q.val, h⟩ s) * a (ix2 ⟨q.val, h⟩ s)
  else if n.val = 15 then 0 else d' (ix2 ⟨q.val - 256, by omega⟩ s) * a' (ix3 0 ⟨q.val - 256, by omega⟩ s)

/-- The transpose at a place. -/
theorem dcz_at (n : Fin 16) (w : FVec Ideal S3x256 .f32) (a : FVec Ideal S256x256 .f32) (d : FVec Ideal S256x256 .f32) (d' : FVec Ideal S8x256 .f32) (a' : FVec Ideal S1x8x256 .bf16) (r s : Fin 256) :
    k5_pay9 (F := Ideal) (BitVec.ofNat 32 n.val) w a d d' a' (ix2 r s)
      = w (ix2 0 s) * after n a d d' a' ⟨r.val + 2, by omega⟩ s + w (ix2 1 s) * after n a d d' a' ⟨r.val + 1, by omega⟩ s
        + w (ix2 2 s) * after n a d d' a' ⟨r.val, by omega⟩ s := by
  unfold after
  pointwise [k5_pay9, k5_pay8, k5_pay7]
  simp only [pick_last _ n.isLt]
  have e2 : (r.val + 264 - 262) % 264 = r.val + 2 := by omega
  have e1 : (r.val + 264 - 263) % 264 = r.val + 1 := by omega
  simp only [e2, e1]

/-- The contribution of a block's rows to the weights' gradients, the first's, -/
theorem dw_0 (x : FVec Ideal S264x256 .f32) (d : FVec Ideal S256x256 .f32) (o : FVec Ideal S1x256 .f32) (q : Fin 1) (s : Fin 256) :
    k5_pay15 (F := Ideal) x d o (ix2 q s) = o (ix2 0 s) + ∑ r : Fin 256, d (ix2 r s) * x (ix2 ⟨r.val + 6, by omega⟩ s) := by
  have e (r : Fin 256) : (⟨(r.val + 264 - 258) % 264, by omega⟩ : Fin 264) = ⟨r.val + 6, by omega⟩ := Fin.ext (by show (r.val + 264 - 258) % 264 = r.val + 6; omega)
  simp only [← e]
  obtain rfl : q = 0 := Subsingleton.elim _ _
  pointwise [k5_pay15]

/-- the second's -/
theorem dw_1 (x : FVec Ideal S264x256 .f32) (d : FVec Ideal S256x256 .f32) (o : FVec Ideal S1x256 .f32) (q : Fin 1) (s : Fin 256) :
    k5_pay16 (F := Ideal) x d o (ix2 q s) = o (ix2 0 s) + ∑ r : Fin 256, d (ix2 r s) * x (ix2 ⟨r.val + 7, by omega⟩ s) := by
  have e (r : Fin 256) : (⟨(r.val + 264 - 257) % 264, by omega⟩ : Fin 264) = ⟨r.val + 7, by omega⟩ := Fin.ext (by show (r.val + 264 - 257) % 264 = r.val + 7; omega)
  simp only [← e]
  obtain rfl : q = 0 := Subsingleton.elim _ _
  pointwise [k5_pay16]

/-- and the third's. -/
theorem dw_2 (x : FVec Ideal S264x256 .f32) (d : FVec Ideal S256x256 .f32) (o : FVec Ideal S1x256 .f32) (q : Fin 1) (s : Fin 256) :
    k5_pay17 (F := Ideal) x d o (ix2 q s) = o (ix2 0 s) + ∑ r : Fin 256, d (ix2 r s) * x (ix2 ⟨r.val + 8, by omega⟩ s) := by
  have e (r : Fin 256) : (⟨8 + r.val, by omega⟩ : Fin 264) = ⟨r.val + 8, by omega⟩ := Fin.ext (by show 8 + r.val = r.val + 8; omega)
  simp only [← e]
  obtain rfl : q = 0 := Subsingleton.elim _ _
  pointwise [k5_pay17]

end Cert.A

end
-- ==== Proof.A.Conv.lean ====
/- What the first layer mixes: the array left by the launch that takes the short convolution. -/
module

public import proofs.«01_k».proof.Proof.A.Array
public import proofs.«01_k».proof.Proof.A.Mix

@[expose] public section

set_option maxRecDepth 16384

noncomputable section

open Idealize.ShloMosaic Idealize.ShloMosaic.TcCoe Cert.AKernelIdeal Cert.AKernelIdeal.Gen

namespace Cert.A

variable (V : (c : Dev nD) → (b : Ref sig .tc) → Buf (Elt Ideal) ((c : Thread nD τ).loc b)) (c : Dev nD)

/-! ## Loads of one plane of a block -/

/-- One plane of three, loaded from a block, -/
theorem plane (x : FVec Ideal S3x256x256 .bf16) (o : Fin 3) (inb) (q : Fin 1) (r s : Fin 256) :
    View.ld (Val := Elt Ideal) (e' := .bf16) x (Rect.unit (s := S3x256x256) ![o.val, 0, 0] S1x256x256.size inb) (ix3 q r s) = x (ix3 o r s) := by
  refine View.ld_unit_apply_of (Val := Elt Ideal) (e := .bf16) x _ _ _ _ _ fun a => ?_
  fin_cases a
  · show o.val = o.val + q.val
    omega
  · show r.val = 0 + r.val
    omega
  · show s.val = 0 + s.val
    omega

/-- and from the eight rows beside it. -/
theorem plane8 (x : FVec Ideal S3x8x256 .bf16) (o : Fin 3) (inb) (q : Fin 1) (r : Fin 8) (s : Fin 256) :
    View.ld (Val := Elt Ideal) (e' := .bf16) x (Rect.unit (s := S3x8x256) ![o.val, 0, 0] S1x8x256.size inb) (ix3 q r s) = x (ix3 o r s) := by
  refine View.ld_unit_apply_of (Val := Elt Ideal) (e := .bf16) x _ _ _ _ _ fun a => ?_
  fin_cases a
  · show o.val = o.val + q.val
    omega
  · show r.val = 0 + r.val
    omega
  · show s.val = 0 + s.val
    omega

/-! ## The rows the convolution reads -/

/-- If a block of three planes is rows `256 n` and after of the array and the eight rows beside it are those just before, the rows
    the body puts together are the convolution's input with its zeros in front. -/
theorem rows_lag (P : FVec Ideal S3x4096x2048 .bf16) (i : grid5.Coords) (x : FVec Ideal S3x256x256 .bf16) (x' : FVec Ideal S3x8x256 .bf16)
    (b z : FVec Ideal S1x256x256 .bf16) (b' z' : FVec Ideal S1x8x256 .bf16) (row : Fin 256 → Fin 4096) (row' : Fin 8 → Fin 4096) (col : Fin 256 → Fin 2048)
    (hrow : ∀ r, (row r).val = (i 1).val * 256 + r.val) (hrow' : (i 1).val ≠ 0 → ∀ r, (row' r).val + 8 = (i 1).val * 256 + r.val)
    (hx : ∀ a r s, x (ix3 a r s) = P (ix3 a (row r) (col s))) (hx' : ∀ a r s, x' (ix3 a r s) = P (ix3 a (row' r) (col s)))
    (hb : ∀ r s, b (ix3 0 r s) = x (ix3 1 r s)) (hz : ∀ r s, z (ix3 0 r s) = x (ix3 2 r s))
    (hb' : ∀ r s, b' (ix3 0 r s) = x' (ix3 1 r s)) (hz' : ∀ r s, z' (ix3 0 r s) = x' (ix3 2 r s))
    (q : Fin 264) (hq : 6 ≤ q.val) (s : Fin 256) :
    k5_pay4 (F := Ideal) i b z b' z' (ix2 q s) = lag P ((i 1).val * 256 + (q.val - 6)) (col s) := by
  have hi : (i 1).val < 16 := (i 1).isLt
  rw [rows_before]
  unfold lag cz
  by_cases h8 : q.val < 8
  · rw [dif_pos h8]
    by_cases h0 : (i 1).val = 0
    · rw [if_pos h0, dif_neg (by omega)]
    · have := hrow' h0 ⟨q.val, h8⟩
      rw [if_neg h0, dif_pos (by omega), hb', hz', hx', hx']
      have e : row' ⟨q.val, h8⟩ = ⟨(i 1).val * 256 + (q.val - 6) - 2, by omega⟩ := Fin.ext (by show (row' ⟨q.val, h8⟩).val = _; simp only at this ⊢; omega)
      rw [e]
  · rw [dif_neg h8, dif_pos (by omega), hb, hz, hx, hx]
    have := hrow ⟨q.val - 8, by omega⟩
    have e : row ⟨q.val - 8, by omega⟩ = ⟨(i 1).val * 256 + (q.val - 6) - 2, by omega⟩ := Fin.ext (by show (row ⟨q.val - 8, _⟩).val = _; simp only at this ⊢; omega)
    rw [e]

/-! ## The second launch -/

/-- The blocks each iteration names. -/
theorem idx1 : ∀ t : Fin cfg1.N, win1_0.index t = ![0, t.val / 8, t.val % 8] ∧ win1_1.index t = ![0, t.val / 8 * 32 - 1, t.val % 8]
    ∧ win1_2.index t = ![0, t.val % 8] ∧ win1_3.index t = ![t.val / 8, t.val % 8] :=
  (by decide +kernel : ∀ t : Fin grid1.N, _)

/-- Row `r` of point `t`'s block, in the array, -/
def row1 (t : Fin cfg1.N) (r : Fin 256) : Fin 4096 := ⟨t.val / 8 * 256 + r.val, by have := t.isLt; have : cfg1.N = 128 := N_1; omega⟩
/-- row `r` of the eight beside it -/
def prev1 (t : Fin cfg1.N) (r : Fin 8) : Fin 4096 := ⟨(t.val / 8 * 32 - 1) * 8 + r.val, by have := t.isLt; have : cfg1.N = 128 := N_1; omega⟩
/-- and column `s`. -/
def col1 (t : Fin cfg1.N) (s : Fin 256) : Fin 2048 := ⟨t.val % 8 * 256 + s.val, by omega⟩

/-- A block of the three planes, -/
theorem blk1_p (t : Fin cfg1.N) (a : Fin 3) (r s : Fin 256) : iblk1 V c 0 t (ix3 a r s) = vP V c (ix3 a (row1 t r) (col1 t s)) := by
  blk_point [iblk1, idx1 t, row1, col1]

/-- the eight rows before it, -/
theorem blk1_b (t : Fin cfg1.N) (a : Fin 3) (r : Fin 8) (s : Fin 256) : iblk1 V c 1 t (ix3 a r s) = vP V c (ix3 a (prev1 t r) (col1 t s)) := by
  blk_point [iblk1, idx1 t, prev1, col1]

/-- and the convolution's weights. -/
theorem blk1_w (t : Fin cfg1.N) (k : Fin 3) (s : Fin 256) : iblk1 V c 2 t (ix2 k s) = vWc V c (ix2 k (col1 t s)) := by
  blk_point [iblk1, idx1 t, col1]

/-- Point `t`'s first grid coordinate. -/
theorem coords1 : ∀ t : Fin cfg1.N, (grid1.coords t 0).val = t.val / 8 :=
  (by decide +kernel : ∀ t : Fin grid1.N, _)

/-- The body's last product. -/
theorem pay1_mid (x : FVec Ideal S256x256 .f32) (a : FVec Ideal S1x256x256 .bf16) (r s : Fin 256) :
    k1_pay1 (F := Ideal) x (k1_pay3 (F := Ideal) a) (ix2 r s) = a (ix3 0 r s) * x (ix2 r s) := by
  pointwise [k1_pay1, k1_pay3]

/-- The sixth launch's grid coordinates with a given second one. -/
def coord (n : Fin 16) : grid5.Coords := fun
  | 0 => (0 : Fin 8)
  | 1 => n

/-- What the second launch leaves. -/
theorem arr1 : (dat1 V c).arrAt 3 cfg1.N = mid (vP V c) (vWc V c) := by
  refine (dat1 V c).arrAt_eq_of_covers 3 _ (by decide +kernel) fun t hf y => ?_
  blk_simp [idx1 t]
  rw [after1_3]
  obtain ⟨r, s, rfl⟩ : ∃ (r s : Fin 256), y = ix2 r s := ⟨y 0, y 1, eq_ix2 y⟩
  have e : (win1_3.blk t).view.emb (ix2 r s) = ix2 (row1 t r) (col1 t s) := by
    blk_ext [idx1 t]
    all_goals first | rfl | omega
  rw [e]
  have hp := blk1_p V c t
  have hb := blk1_b V c t
  have hw := blk1_w V c t
  have hc := coords1 t
  unfold out1_3
  frame_out
  generalize iblk1 V c 0 t = x at hp ⊢
  generalize iblk1 V c 1 t = x' at hb ⊢
  generalize iblk1 V c 2 t = w at hw ⊢
  have hi : (grid1.coords t 0).val < 16 := (grid1.coords t 0).isLt
  have e0 : (row1 t r).val = (grid1.coords t 0).val * 256 + r.val := by
    show t.val / 8 * 256 + r.val = _
    rw [hc]
  have hl (q : Fin 264) (k : ℕ) (hk : q.val = r.val + 6 + k) := (rows_lag (vP V c) (coord ⟨(grid1.coords t 0).val, hi⟩) x x' (View.ld x r1_0) (View.ld x r1_1) (View.ld x' r1_2) (View.ld x' r1_3)
    (row1 t) (prev1 t) (col1 t)
    (fun r => by show t.val / 8 * 256 + r.val = (grid1.coords t 0).val * 256 + r.val; rw [hc])
    (fun h r => by
      have h : (grid1.coords t 0).val ≠ 0 := h
      show (t.val / 8 * 32 - 1) * 8 + r.val + 8 = (grid1.coords t 0).val * 256 + r.val
      omega)
    hp hb (fun r s => plane x 1 _ 0 r s) (fun r s => plane x 2 _ 0 r s) (fun r s => plane8 x' 1 _ 0 r s) (fun r s => plane8 x' 2 _ 0 r s) q (by omega) s).trans
    (congrArg (fun a => lag (vP V c) a (col1 t s)) (show (grid1.coords t 0).val * 256 + (q.val - 6) = (row1 t r).val + k by omega))
  rw [pay1_mid, conv_first _ (coord ⟨(grid1.coords t 0).val, hi⟩) rfl, conv_at]
  exact congrArg₂ (· * ·) ((plane x 0 _ 0 r s).trans (hp 0 r s)) (congrArg₂ (· + ·)
    (congrArg₂ (· + ·) (congrArg₂ (· * ·) (hw 0 s) (hl _ 0 rfl)) (congrArg₂ (· * ·) (hw 1 s) (hl _ 1 rfl))) (congrArg₂ (· * ·) (hw 2 s) (hl _ 2 rfl)))

end Cert.A

end
-- ==== Proof.A.ConvB.lean ====
/- The gradients of what the first layer mixes: the two arrays left by the launch that takes the short convolution backwards. -/
module

public import proofs.«01_k».proof.Proof.A.Conv

@[expose] public section

set_option maxRecDepth 16384

noncomputable section

open Idealize.ShloMosaic Idealize.ShloMosaic.TcCoe Cert.AKernelIdeal Cert.AKernelIdeal.Gen

namespace Cert.A

variable (V : (c : Dev nD) → (b : Ref sig .tc) → Buf (Elt Ideal) ((c : Thread nD τ).loc b)) (c : Dev nD)

/-! ## The payloads at one place -/

/-- A plane, -/
theorem pay5_plane (a : FVec Ideal S1x256x256 .bf16) (r s : Fin 256) : k5_pay1 (F := Ideal) a (ix2 r s) = a (ix3 0 r s) := by
  pointwise [k5_pay1]

/-- the first plane's gradient, -/
theorem pay5_first (x y d : FVec Ideal S256x256 .f32) (q : Fin 1) (r s : Fin 256) :
    k5_pay10 (F := Ideal) x y d (ix3 q r s) = d (ix2 r s) * addf x y (ix2 r s) := by
  pointwise [k5_pay10, k5_pay7]

/-- the second's, -/
theorem pay5_second (n : BitVec 32) (w : FVec Ideal S3x256 .f32) (a d : FVec Ideal S256x256 .f32) (z : FVec Ideal S1x256x256 .bf16) (d' : FVec Ideal S8x256 .f32)
    (a' : FVec Ideal S1x8x256 .bf16) (q : Fin 1) (r s : Fin 256) :
    k5_pay11 (F := Ideal) n w a (k5_pay3 (F := Ideal) z) d d' a' (ix3 q r s) = k5_pay9 (F := Ideal) n w a d d' a' (ix2 r s) * z (ix3 0 r s) := by
  unfold k5_pay11
  generalize k5_pay9 (F := Ideal) n w a d d' a' = x
  pointwise [k5_pay3]

/-- the third's, -/
theorem pay5_third (n : BitVec 32) (w : FVec Ideal S3x256 .f32) (a d : FVec Ideal S256x256 .f32) (b : FVec Ideal S1x256x256 .bf16) (d' : FVec Ideal S8x256 .f32)
    (a' : FVec Ideal S1x8x256 .bf16) (q : Fin 1) (r s : Fin 256) :
    k5_pay13 (F := Ideal) (k5_pay12 (F := Ideal) n w a (k5_pay2 (F := Ideal) b) d d' a') (ix3 q r s) = k5_pay9 (F := Ideal) n w a d d' a' (ix2 r s) * b (ix3 0 r s) := by
  unfold k5_pay12
  generalize k5_pay9 (F := Ideal) n w a d d' a' = x
  pointwise [k5_pay13, k5_pay2]

/-- and the convolution's. -/
theorem pay5_conv (a : FVec Ideal S1x256x256 .bf16) (d : FVec Ideal S256x256 .f32) (r s : Fin 256) :
    k5_pay8 (F := Ideal) (k5_pay1 (F := Ideal) a) d (ix2 r s) = d (ix2 r s) * a (ix3 0 r s) := by
  pointwise [k5_pay8, k5_pay7, k5_pay1]

/-! ## The rows the transpose reads -/

/-- If a block is rows `256 n` and after of the array and the eight rows beside it are those just after, the rows the body puts together are
    the convolution's gradient with its zeros behind. -/
theorem rows_lead (P : FVec Ideal S3x4096x2048 .bf16) (D : FVec Ideal S4096x2048 .f32) (n : Fin 16) (a : FVec Ideal S1x256x256 .bf16) (d : FVec Ideal S256x256 .f32)
    (d' : FVec Ideal S8x256 .f32) (a' : FVec Ideal S1x8x256 .bf16) (row : Fin 256 → Fin 4096) (row' : Fin 8 → Fin 4096) (col : Fin 256 → Fin 2048)
    (hrow : ∀ r, (row r).val = n.val * 256 + r.val) (hrow' : n.val ≠ 15 → ∀ r, (row' r).val = n.val * 256 + 256 + r.val)
    (ha : ∀ r s, a (ix3 0 r s) = P (ix3 0 (row r) (col s))) (hd : ∀ r s, d (ix2 r s) = D (ix2 (row r) (col s)))
    (ha' : ∀ r s, a' (ix3 0 r s) = P (ix3 0 (row' r) (col s))) (hd' : ∀ r s, d' (ix2 r s) = D (ix2 (row' r) (col s)))
    (q : Fin 264) (s : Fin 256) :
    after n (k5_pay1 (F := Ideal) a) d d' a' q s = lead P D (n.val * 256 + q.val) (col s) := by
  unfold after lead dconv
  by_cases h : q.val < 256
  · rw [dif_pos h, dif_pos (by omega), pay5_plane, ha, hd]
    have := hrow ⟨q.val, h⟩
    have e : row ⟨q.val, h⟩ = ⟨n.val * 256 + q.val, by omega⟩ := Fin.ext this
    rw [e]
  · rw [dif_neg h]
    by_cases h15 : n.val = 15
    · rw [if_pos h15, dif_neg (by omega)]
    · have := hrow' h15 ⟨q.val - 256, by omega⟩
      rw [if_neg h15, dif_pos (by omega), ha', hd']
      have e : row' ⟨q.val - 256, by omega⟩ = ⟨n.val * 256 + q.val, by omega⟩ := Fin.ext (by show (row' ⟨q.val - 256, _⟩).val = _; simp only at this ⊢; omega)
      rw [e]

/-! ## The sixth launch -/

/-- The blocks each iteration names. -/
theorem idx5 : ∀ t : Fin cfg5.N, win5_0.index t = ![0, t.val % 16, t.val / 16] ∧ win5_1.index t = ![0, t.val % 16 * 32 - 1, t.val / 16]
    ∧ win5_2.index t = ![0, min (t.val % 16 * 32 + 32) 511, t.val / 16] ∧ win5_3.index t = ![t.val % 16, t.val / 16]
    ∧ win5_4.index t = ![min (t.val % 16 * 32 + 32) 511, t.val / 16] ∧ win5_5.index t = ![0, t.val / 16]
    ∧ win5_6.index t = ![0, t.val % 16, t.val / 16] ∧ win5_7.index t = ![0, t.val / 16] :=
  (by decide +kernel : ∀ t : Fin grid5.N, _)

/-- Row `r` of point `t`'s block, in the array, -/
def row5 (t : Fin cfg5.N) (r : Fin 256) : Fin 4096 := ⟨t.val % 16 * 256 + r.val, by omega⟩
/-- row `r` of the eight before it, -/
def prev5 (t : Fin cfg5.N) (r : Fin 8) : Fin 4096 := ⟨(t.val % 16 * 32 - 1) * 8 + r.val, by omega⟩
/-- of the eight after it, -/
def next5 (t : Fin cfg5.N) (r : Fin 8) : Fin 4096 := ⟨min (t.val % 16 * 32 + 32) 511 * 8 + r.val, by omega⟩
/-- and column `s`. -/
def col5 (t : Fin cfg5.N) (s : Fin 256) : Fin 2048 := ⟨t.val / 16 * 256 + s.val, by have := t.isLt; have : cfg5.N = 128 := N_5; omega⟩

/-- A block of the three planes, -/
theorem blk5_p (t : Fin cfg5.N) (a : Fin 3) (r s : Fin 256) : iblk5 V c 0 t (ix3 a r s) = vP V c (ix3 a (row5 t r) (col5 t s)) := by
  blk_point [iblk5, idx5 t, row5, col5]

/-- the eight rows before it, -/
theorem blk5_b (t : Fin cfg5.N) (a : Fin 3) (r : Fin 8) (s : Fin 256) : iblk5 V c 1 t (ix3 a r s) = vP V c (ix3 a (prev5 t r) (col5 t s)) := by
  blk_point [iblk5, idx5 t, prev5, col5]

/-- and after it, -/
theorem blk5_n (t : Fin cfg5.N) (a : Fin 3) (r : Fin 8) (s : Fin 256) : iblk5 V c 2 t (ix3 a r s) = vP V c (ix3 a (next5 t r) (col5 t s)) := by
  blk_point [iblk5, idx5 t, next5, col5]

/-- a block of the gradient of what was mixed, -/
theorem blk5_d (t : Fin cfg5.N) (r s : Fin 256) : iblk5 V c 3 t (ix2 r s) = vDm V c (ix2 (row5 t r) (col5 t s)) := by
  blk_point [iblk5, idx5 t, row5, col5]

/-- the eight rows after it, -/
theorem blk5_e (t : Fin cfg5.N) (r : Fin 8) (s : Fin 256) : iblk5 V c 4 t (ix2 r s) = vDm V c (ix2 (next5 t r) (col5 t s)) := by
  blk_point [iblk5, idx5 t, next5, col5]

/-- and the convolution's weights. -/
theorem blk5_w (t : Fin cfg5.N) (k : Fin 3) (s : Fin 256) : iblk5 V c 5 t (ix2 k s) = vWc V c (ix2 k (col5 t s)) := by
  blk_point [iblk5, idx5 t, col5]

/-- Point `t`'s second grid coordinate. -/
theorem coords5 : ∀ t : Fin cfg5.N, (grid5.coords t 1).val = t.val % 16 :=
  (by decide +kernel : ∀ t : Fin grid5.N, _)

/-! ## A point's blocks and what the body makes of them -/

/-- The three planes of a block, -/
abbrev ld0 (x : FVec Ideal S3x256x256 .bf16) : FVec Ideal S1x256x256 .bf16 :=
  View.ld (Val := Elt Ideal) (e' := .bf16) x (Rect.unit (s := S3x256x256) ![0, 0, 0] S1x256x256.size inb_S3x256x256_S1x256x256_0_0_0)
/-- the second -/
abbrev ld1 (x : FVec Ideal S3x256x256 .bf16) : FVec Ideal S1x256x256 .bf16 :=
  View.ld (Val := Elt Ideal) (e' := .bf16) x (Rect.unit (s := S3x256x256) ![1, 0, 0] S1x256x256.size inb_S3x256x256_S1x256x256_1_0_0)
/-- and the third; -/
abbrev ld2 (x : FVec Ideal S3x256x256 .bf16) : FVec Ideal S1x256x256 .bf16 :=
  View.ld (Val := Elt Ideal) (e' := .bf16) x (Rect.unit (s := S3x256x256) ![2, 0, 0] S1x256x256.size inb_S3x256x256_S1x256x256_2_0_0)
/-- the same of eight rows, the first, -/
abbrev ed0 (x : FVec Ideal S3x8x256 .bf16) : FVec Ideal S1x8x256 .bf16 :=
  View.ld (Val := Elt Ideal) (e' := .bf16) x (Rect.unit (s := S3x8x256) ![0, 0, 0] S1x8x256.size inb_S3x8x256_S1x8x256_0_0_0)
/-- the second -/
abbrev ed1 (x : FVec Ideal S3x8x256 .bf16) : FVec Ideal S1x8x256 .bf16 :=
  View.ld (Val := Elt Ideal) (e' := .bf16) x (Rect.unit (s := S3x8x256) ![1, 0, 0] S1x8x256.size inb_S3x8x256_S1x8x256_1_0_0)
/-- and the third. -/
abbrev ed2 (x : FVec Ideal S3x8x256 .bf16) : FVec Ideal S1x8x256 .bf16 :=
  View.ld (Val := Elt Ideal) (e' := .bf16) x (Rect.unit (s := S3x8x256) ![2, 0, 0] S1x8x256.size inb_S3x8x256_S1x8x256_2_0_0)

/-- A point's six blocks are parts of the arrays: its own rows and the eight on either side, in its columns. -/
structure Blocks (P : FVec Ideal S3x4096x2048 .bf16) (W : FVec Ideal S3x2048 .f32) (D : FVec Ideal S4096x2048 .f32) (i : grid5.Coords)
    (x : FVec Ideal S3x256x256 .bf16) (x' x'' : FVec Ideal S3x8x256 .bf16) (d : FVec Ideal S256x256 .f32) (e : FVec Ideal S8x256 .f32) (w : FVec Ideal S3x256 .f32)
    (row : Fin 256 → Fin 4096) (prev next : Fin 8 → Fin 4096) (col : Fin 256 → Fin 2048) : Prop where
  row_val : ∀ r, (row r).val = (i 1).val * 256 + r.val
  prev_val : (i 1).val ≠ 0 → ∀ r, (prev r).val + 8 = (i 1).val * 256 + r.val
  next_val : (i 1).val ≠ 15 → ∀ r, (next r).val = (i 1).val * 256 + 256 + r.val
  planes : ∀ a r s, x (ix3 a r s) = P (ix3 a (row r) (col s))
  planes_prev : ∀ a r s, x' (ix3 a r s) = P (ix3 a (prev r) (col s))
  planes_next : ∀ a r s, x'' (ix3 a r s) = P (ix3 a (next r) (col s))
  grad : ∀ r s, d (ix2 r s) = D (ix2 (row r) (col s))
  grad_next : ∀ r s, e (ix2 r s) = D (ix2 (next r) (col s))
  weights : ∀ k s, w (ix2 k s) = W (ix2 k (col s))

section
variable {P : FVec Ideal S3x4096x2048 .bf16} {W : FVec Ideal S3x2048 .f32} {D : FVec Ideal S4096x2048 .f32} {i : grid5.Coords}
    {x : FVec Ideal S3x256x256 .bf16} {x' x'' : FVec Ideal S3x8x256 .bf16} {d : FVec Ideal S256x256 .f32} {e : FVec Ideal S8x256 .f32} {w : FVec Ideal S3x256 .f32}
    {row : Fin 256 → Fin 4096} {prev next : Fin 8 → Fin 4096} {col : Fin 256 → Fin 2048}
    (B : Blocks P W D i x x' x'' d e w row prev next col)
include B

/-- The rows before row `r` of the block, `k` further on, -/
theorem lag_of (r : Fin 256) (k : ℕ) (q : Fin 264) (hq : q.val = r.val + 6 + k) (s : Fin 256) :
    k5_pay4 (F := Ideal) i (ld1 x) (ld2 x) (ed1 x') (ed2 x') (ix2 q s) = lag P ((row r).val + k) (col s) :=
  (rows_lag P i x x' (ld1 x) (ld2 x) (ed1 x') (ed2 x') row prev col B.row_val B.prev_val B.planes B.planes_prev
    (fun r s => plane x 1 _ 0 r s) (fun r s => plane x 2 _ 0 r s) (fun r s => plane8 x' 1 _ 0 r s) (fun r s => plane8 x' 2 _ 0 r s) q (by omega) s).trans
    (congrArg (fun a => lag P a (col s)) (by rw [B.row_val]; omega))

/-- and the rows after it. -/
theorem lead_of (r : Fin 256) (k : ℕ) (q : Fin 264) (hq : q.val = r.val + k) (s : Fin 256) :
    after (i 1) (k5_pay1 (F := Ideal) (ld0 x)) d e (ed0 x'') q s = lead P D ((row r).val + k) (col s) :=
  (rows_lead P D (i 1) (ld0 x) d e (ed0 x'') row next col B.row_val B.next_val (fun r s => (plane x 0 _ 0 r s).trans (B.planes 0 r s)) B.grad
    (fun r s => (plane8 x'' 0 _ 0 r s).trans (B.planes_next 0 r s)) B.grad_next q s).trans
    (congrArg (fun a => lead P D a (col s)) (by rw [B.row_val]; omega))

/-- The transpose at a place. -/
theorem dcz_of (r s : Fin 256) :
    k5_pay9 (F := Ideal) (BitVec.ofNat 32 (i 1).val) w (k5_pay1 (F := Ideal) (ld0 x)) d e (ed0 x'') (ix2 r s) = dcz P W D (row r) (col s) :=
  (dcz_at (i 1) w _ d e _ r s).trans (congrArg₂ (· + ·)
    (congrArg₂ (· + ·) (congrArg₂ (· * ·) (B.weights 0 s) (lead_of B r 2 _ rfl s)) (congrArg₂ (· * ·) (B.weights 1 s) (lead_of B r 1 _ rfl s)))
    (congrArg₂ (· * ·) (B.weights 2 s) (lead_of B r 0 _ rfl s)))

/-- The first plane's gradient, -/
theorem first_of (q : Fin 1) (r s : Fin 256) :
    k5_pay10 (F := Ideal) (k5_pay5 (F := Ideal) i w (ld1 x) (ld2 x) (ed1 x') (ed2 x')) (k5_pay6 (F := Ideal) i w (ld1 x) (ld2 x) (ed1 x') (ed2 x')) d (ix3 q r s)
      = dpre P W D (ix3 0 (row r) (col s)) := by
  rw [pay5_first, conv_at]
  exact congrArg₂ (· * ·) (B.grad r s) (congrArg₂ (· + ·)
    (congrArg₂ (· + ·) (congrArg₂ (· * ·) (B.weights 0 s) (lag_of B r 0 _ rfl s)) (congrArg₂ (· * ·) (B.weights 1 s) (lag_of B r 1 _ rfl s)))
    (congrArg₂ (· * ·) (B.weights 2 s) (lag_of B r 2 _ rfl s)))

/-- the second's -/
theorem second_of (q : Fin 1) (r s : Fin 256) :
    k5_pay11 (F := Ideal) (BitVec.ofNat 32 (i 1).val) w (k5_pay1 (F := Ideal) (ld0 x)) (k5_pay3 (F := Ideal) (ld2 x)) d e (ed0 x'') (ix3 q r s)
      = dpre P W D (ix3 1 (row r) (col s)) :=
  (pay5_second ..).trans (congrArg₂ (· * ·) (dcz_of B r s) ((plane x 2 _ 0 r s).trans (B.planes 2 r s)))

/-- and the third's. -/
theorem third_of (q : Fin 1) (r s : Fin 256) :
    k5_pay13 (F := Ideal) (k5_pay12 (F := Ideal) (BitVec.ofNat 32 (i 1).val) w (k5_pay1 (F := Ideal) (ld0 x)) (k5_pay2 (F := Ideal) (ld1 x)) d e (ed0 x'')) (ix3 q r s)
      = dpre P W D (ix3 2 (row r) (col s)) :=
  (pay5_third ..).trans (congrArg₂ (· * ·) (dcz_of B r s) ((plane x 1 _ 0 r s).trans (B.planes 1 r s)))

/-- The block's rows' part of the gradient of a weight, term by term. -/
theorem term_of (k : ℕ) (r s : Fin 256) (q : Fin 264) (hq : q.val = r.val + 6 + k) :
    k5_pay8 (F := Ideal) (k5_pay1 (F := Ideal) (ld0 x)) d (ix2 r s) * k5_pay4 (F := Ideal) i (ld1 x) (ld2 x) (ed1 x') (ed2 x') (ix2 q s)
      = dconv P D (row r) (col s) * lag P ((row r).val + k) (col s) :=
  congrArg₂ (· * ·) ((pay5_conv ..).trans (congrArg₂ (· * ·) (B.grad r s) ((plane x 0 _ 0 r s).trans (B.planes 0 r s)))) (lag_of B r k q hq s)

end

/-- Three planes stored one by one. -/
theorem canon_planes (f : FVec Ideal S3x256x256 .bf16) (p0 p1 p2 : FVec Ideal S1x256x256 .bf16) (e0 : ∀ q r s, p0 (ix3 q r s) = f (ix3 0 r s))
    (e1 : ∀ q r s, p1 (ix3 q r s) = f (ix3 1 r s)) (e2 : ∀ q r s, p2 (ix3 q r s) = f (ix3 2 r s)) (y : S3x256x256.Idx) :
    View.canon (Val := Elt Ideal) (e := .bf16) [⟨Rect.unit (s := S3x256x256) ![2, 0, 0] ![1, 256, 256] inb_S3x256x256_S1x256x256_2_0_0, p2⟩,
      ⟨Rect.unit (s := S3x256x256) ![1, 0, 0] ![1, 256, 256] inb_S3x256x256_S1x256x256_1_0_0, p1⟩,
      ⟨Rect.unit (s := S3x256x256) ![0, 0, 0] ![1, 256, 256] inb_S3x256x256_S1x256x256_0_0_0, p0⟩] y = f y := by
  obtain ⟨a, r, s, rfl⟩ : ∃ (a : Fin 3) (r s : Fin 256), y = ix3 a r s := ⟨y 0, y 1, y 2, eq_ix3 y⟩
  canon_tiles z h
  · obtain ⟨q, r', s', rfl⟩ : ∃ (q : Fin 1) (r s : Fin 256), z = ix3 q r s := ⟨z 0, z 1, z 2, eq_ix3 z⟩
    obtain rfl : r = r' := Fin.ext h1
    obtain rfl : s = s' := Fin.ext h2
    obtain rfl : a = 2 := Fin.ext (by have : a.val = 2 + q.val := h0; omega)
    exact e2 q r s
  · obtain ⟨q, r', s', rfl⟩ : ∃ (q : Fin 1) (r s : Fin 256), z = ix3 q r s := ⟨z 0, z 1, z 2, eq_ix3 z⟩
    obtain rfl : r = r' := Fin.ext h1
    obtain rfl : s = s' := Fin.ext h2
    obtain rfl : a = 1 := Fin.ext (by have : a.val = 1 + q.val := h0; omega)
    exact e1 q r s
  · obtain ⟨q, r', s', rfl⟩ : ∃ (q : Fin 1) (r s : Fin 256), z = ix3 q r s := ⟨z 0, z 1, z 2, eq_ix3 z⟩
    obtain rfl : r = r' := Fin.ext h1
    obtain rfl : s = s' := Fin.ext h2
    obtain rfl : a = 0 := Fin.ext (by have : a.val = q.val := h0; omega)
    exact e0 q r s

/-- Where a row's places are, -/
theorem emb_row (k : Fin 3) (inb) (q : Fin 1) (s : Fin 256) : (Rect.unit (s := S3x256) ![k.val, 0] ![1, 256] inb).idx (ix2 q s) = ix2 k s := by
  have h0 := Rect.idx_unit_val (s := S3x256) ![k.val, 0] ![1, 256] inb (ix2 q s) 0
  have h1 := Rect.idx_unit_val (s := S3x256) ![k.val, 0] ![1, 256] inb (ix2 q s) 1
  generalize (Rect.unit (s := S3x256) ![k.val, 0] ![1, 256] inb).idx (ix2 q s) = y at h0 h1 ⊢
  obtain ⟨a, b, rfl⟩ : ∃ (a : Fin 3) (b : Fin 256), y = ix2 a b := ⟨y 0, y 1, eq_ix2 y⟩
  obtain rfl : a = k := Fin.ext (by have : a.val = k.val + q.val := h0; omega)
  obtain rfl : b = s := Fin.ext (by have : b.val = 0 + s.val := h1; omega)
  rfl

/-- and a row loaded. -/
theorem ld_row (o : FVec Ideal S3x256 .f32) (k : Fin 3) (inb) (q : Fin 1) (s : Fin 256) :
    View.ld (Val := Elt Ideal) (e' := .f32) o (Rect.unit (s := S3x256) ![k.val, 0] ![1, 256] inb) (ix2 q s) = o (ix2 k s) := by
  refine View.ld_unit_apply_of (Val := Elt Ideal) (e := .f32) o _ _ _ _ _ fun a => ?_
  fin_cases a
  · show k.val = k.val + q.val
    omega
  · show s.val = 0 + s.val
    omega

/-- Three rows stored one by one, whatever was stored before. -/
theorem canon_rows (f : FVec Ideal S3x256 .f32) (p0 p1 p2 : FVec Ideal S1x256 .f32) (L : List (View.Piece (Elt Ideal) S3x256 .f32))
    (e0 : ∀ q s, p0 (ix2 q s) = f (ix2 0 s)) (e1 : ∀ q s, p1 (ix2 q s) = f (ix2 1 s)) (e2 : ∀ q s, p2 (ix2 q s) = f (ix2 2 s)) (y : S3x256.Idx) :
    View.canon (Val := Elt Ideal) (e := .f32) (⟨Rect.unit (s := S3x256) ![2, 0] ![1, 256] inb_S3x256_S1x256_2_0, p2⟩
      :: ⟨Rect.unit (s := S3x256) ![1, 0] ![1, 256] inb_S3x256_S1x256_1_0, p1⟩
      :: ⟨Rect.unit (s := S3x256) ![0, 0] ![1, 256] inb_S3x256_S1x256_0_0, p0⟩ :: L) y = f y := by
  refine View.canon_append_of_piecesOf (Val := Elt Ideal) (e := .f32) f L [_, _, _]
    ⟨fun x => ?_, fun x => ?_, fun x => ?_, trivial⟩ y (View.cover_of_tiledL (s := S3x256) _ S1x256.size (by sl_kernel_rfl) y)
  all_goals obtain ⟨q, s, rfl⟩ : ∃ (q : Fin 1) (s : Fin 256), x = ix2 q s := ⟨x 0, x 1, eq_ix2 x⟩
  · exact (e2 q s).trans (congrArg f (emb_row 2 inb_S3x256_S1x256_2_0 q s).symm)
  · exact (e1 q s).trans (congrArg f (emb_row 1 inb_S3x256_S1x256_1_0 q s).symm)
  · exact (e0 q s).trans (congrArg f (emb_row 0 inb_S3x256_S1x256_0_0 q s).symm)

/-- Point `t`'s blocks are such parts. -/
theorem blocks5 (t : Fin cfg5.N) : Blocks (vP V c) (vWc V c) (vDm V c) (grid5.coords t) (iblk5 V c 0 t) (iblk5 V c 1 t) (iblk5 V c 2 t) (iblk5 V c 3 t) (iblk5 V c 4 t)
    (iblk5 V c 5 t) (row5 t) (prev5 t) (next5 t) (col5 t) where
  row_val r := by
    rw [coords5]
    rfl
  prev_val h r := by
    rw [coords5] at h ⊢
    show (t.val % 16 * 32 - 1) * 8 + r.val + 8 = _
    omega
  next_val h r := by
    rw [coords5] at h ⊢
    show min (t.val % 16 * 32 + 32) 511 * 8 + r.val = _
    omega
  planes := blk5_p V c t
  planes_prev := blk5_b V c t
  planes_next := blk5_n V c t
  grad := blk5_d V c t
  grad_next := blk5_e V c t
  weights := blk5_w V c t

/-- The planes' gradients after a point. -/
theorem planes5 (t : Fin cfg5.N) (y : S3x256x256.Idx) :
    (outsAt5 V c t.val t.isLt).1 y = dpre (vP V c) (vWc V c) (vDm V c) (ix3 (y 0) (row5 t (y 1)) (col5 t (y 2))) := by
  have B := blocks5 V c t
  by_cases ht : t.val % 16 = 0
  · rw [outsAt5_A V c t ht]
    frame_open
    frame_out
    exact canon_planes (fun y => dpre (vP V c) (vWc V c) (vDm V c) (ix3 (y 0) (row5 t (y 1)) (col5 t (y 2)))) _ _ _ (first_of B) (second_of B) (third_of B) y
  · rw [outsAt5_B V c t ht]
    frame_open
    frame_out
    exact canon_planes (fun y => dpre (vP V c) (vWc V c) (vDm V c) (ix3 (y 0) (row5 t (y 1)) (col5 t (y 2)))) _ _ _ (first_of B) (second_of B) (third_of B) y

/-- A point's part of the gradient of the weights. -/
def part5 (t : Fin cfg5.N) (y : S3x256.Idx) : EReal :=
  ∑ r : Fin 256, dconv (vP V c) (vDm V c) (row5 t r) (col5 t (y 1)) * lag (vP V c) ((row5 t r).val + (y 0).val) (col5 t (y 1))

/-- What the weights' gradient holds after a column's first point, -/
theorem dw5_first (t : Fin cfg5.N) (ht : t.val % 16 = 0) (y : S3x256.Idx) : (outsAt5 V c t.val t.isLt).2 y = 0 + part5 V c t y := by
  have B := blocks5 V c t
  rw [outsAt5_A V c t ht]
  frame_open
  simp (disch := decide) only [↓ View.readCov_skip, ↓ View.readCov_cons_toLoadRect, ↓ View.readCov_fill]
  frame_out
  exact canon_rows (fun y => 0 + part5 V c t y) _ _ _ _
    (fun q s => (dw_0 _ _ _ q s).trans (congrArg₂ (· + ·) ((ld_row _ 0 _ 0 s).trans Ideal.ofBits_zero_f32) (Finset.sum_congr rfl fun r _ => term_of B 0 r s _ rfl)))
    (fun q s => (dw_1 _ _ _ q s).trans (congrArg₂ (· + ·) ((ld_row _ 1 _ 0 s).trans Ideal.ofBits_zero_f32) (Finset.sum_congr rfl fun r _ => term_of B 1 r s _ rfl)))
    (fun q s => (dw_2 _ _ _ q s).trans (congrArg₂ (· + ·) ((ld_row _ 2 _ 0 s).trans Ideal.ofBits_zero_f32) (Finset.sum_congr rfl fun r _ => term_of B 2 r s _ rfl)))
    y

/-- and after a later one, over what the point before left. -/
theorem dw5_later (t : Fin cfg5.N) (ht : ¬t.val % 16 = 0) (y : S3x256.Idx) :
    (outsAt5 V c t.val t.isLt).2 y = (outsAt5 V c (t.val - 1) (Nat.lt_of_le_of_lt (Nat.sub_le _ _) t.isLt)).2 y + part5 V c t y := by
  have B := blocks5 V c t
  rw [outsAt5_B V c t ht]
  generalize (outsAt5 V c (t.val - 1) (Nat.lt_of_le_of_lt (Nat.sub_le _ _) t.isLt)).2 = old
  frame_open
  try simp (disch := decide) only [↓ View.readCov_skip, ↓ View.readCov_cons_toLoadRect, ↓ View.readCov_fill]
  frame_out
  exact canon_rows (fun y => old y + part5 V c t y) _ _ _ []
    (fun q s => (dw_0 _ _ _ q s).trans (congrArg₂ (· + ·) (ld_row old 0 _ 0 s) (Finset.sum_congr rfl fun r _ => term_of B 0 r s _ rfl)))
    (fun q s => (dw_1 _ _ _ q s).trans (congrArg₂ (· + ·) (ld_row old 1 _ 0 s) (Finset.sum_congr rfl fun r _ => term_of B 1 r s _ rfl)))
    (fun q s => (dw_2 _ _ _ q s).trans (congrArg₂ (· + ·) (ld_row old 2 _ 0 s) (Finset.sum_congr rfl fun r _ => term_of B 2 r s _ rfl)))
    y

/-- After a column's last point: the sum over all rows. -/
theorem dw5_last (t : Fin cfg5.N) (ht : t.val % 16 = 16 - 1) (y : S3x256.Idx) :
    (outsAt5 V c t.val t.isLt).2 y = dweight (vP V c) (vDm V c) (y 0) (col5 t (y 1)) := by
  rw [Pipeline.eq_sum_fin_of_reset_step_apply_of_flush (M := EReal) (fun n h => (outsAt5 V c n h).2) 16 (fun _ => 0) (part5 V c) (dw5_first V c) (dw5_later V c) t ht y]
  rw [zero_add]
  refine Fin.sum_mul_add_congr (S := 16) (n := 256)
    (F := fun p r => dconv (vP V c) (vDm V c) (row5 ⟨16 * (t.val / 16) + p.val, by have := t.isLt; omega⟩ r) (col5 ⟨16 * (t.val / 16) + p.val, by have := t.isLt; omega⟩ (y 1))
      * lag (vP V c) ((row5 ⟨16 * (t.val / 16) + p.val, by have := t.isLt; omega⟩ r).val + (y 0).val) (col5 ⟨16 * (t.val / 16) + p.val, by have := t.isLt; omega⟩ (y 1))) fun p r hl => ?_
  have er : row5 ⟨16 * (t.val / 16) + p.val, by have := t.isLt; omega⟩ r = ⟨p.val * 256 + r.val, hl⟩ :=
    Fin.ext (by show (16 * (t.val / 16) + p.val) % 16 * 256 + r.val = p.val * 256 + r.val; omega)
  have ec : col5 ⟨16 * (t.val / 16) + p.val, by have := t.isLt; omega⟩ (y 1) = col5 t (y 1) :=
    Fin.ext (by show (16 * (t.val / 16) + p.val) / 16 * 256 + (y 1).val = t.val / 16 * 256 + (y 1).val; omega)
  show dconv _ _ _ _ * lag _ _ _ = dconv _ _ _ _ * lag _ _ _
  rw [er, ec]

/-- The planes' gradients the sixth launch leaves, -/
theorem arr5_planes : (dat5 V c).arrAt 6 cfg5.N = dpre (vP V c) (vWc V c) (vDm V c) := by
  refine (dat5 V c).arrAt_eq_of_covers 6 _ (by decide +kernel) fun t hf y => ?_
  blk_simp [idx5 t]
  rw [after5_6]
  obtain ⟨a, r, s, rfl⟩ : ∃ (a : Fin 3) (r s : Fin 256), y = ix3 a r s := ⟨y 0, y 1, y 2, eq_ix3 y⟩
  have e : (win5_6.blk t).view.emb (ix3 a r s) = ix3 a (row5 t r) (col5 t s) := by
    blk_ext [idx5 t]
    all_goals first | rfl | omega
  rw [e]
  exact planes5 V c t (ix3 a r s)

/-- and the gradient of the weights. -/
theorem arr5_weights : (dat5 V c).arrAt 7 cfg5.N = dconvw (vP V c) (vDm V c) := by
  refine (dat5 V c).arrAt_eq_of_covers 7 _ (by decide +kernel) fun t hf y => ?_
  have hl := (flush5_7 t).mp hf
  blk_simp [idx5 t]
  rw [after5_7]
  obtain ⟨k, s, rfl⟩ : ∃ (k : Fin 3) (s : Fin 256), y = ix2 k s := ⟨y 0, y 1, eq_ix2 y⟩
  have e : (win5_7.blk t).view.emb (ix2 k s) = ix2 k (col5 t s) := by
    blk_ext [idx5 t]
    all_goals first | rfl | omega
  rw [e]
  exact dw5_last V c t hl (ix2 k s)

end Cert.A

end
-- ==== Proof.A.Ref.lean ====
/- The first layer's reference, read at an index. -/
module

public import proofs.«01_k».proof.Proof.Gen.AReferenceIdeal.Read
public import proofs.«01_k».proof.Proof.A.Array
public import proofs.«01_k».proof.Proof.A.Mix
public import Idealize.ShloMosaic.Lib.KernelVsHost
public import Idealize.ShloMosaic.Lib.Pipeline.ValueKit

@[expose] public section

set_option maxRecDepth 16384

noncomputable section

open Idealize.ShloMosaic Cert.AReferenceIdeal Cert.AReferenceIdeal.Read

namespace Cert.A

/-- Rows of one value put before and after an array. -/
theorem pad_rows {n k : ℕ} (lo hi : ℕ) (x : FVec Ideal ⟨2, ![n, 2048]⟩ .f32) (v : FVec Ideal S_ .f32) (h) (hu) (a : Fin k) (j : Fin 2048) :
    pad ⟨2, ![k, 2048]⟩ ![lo, 0] ![hi, 0] ![0, 0] x v h hu (ix2 a j)
      = if ha : lo ≤ a.val ∧ a.val - lo < n then x (ix2 ⟨a.val - lo, ha.2⟩ j) else v (Shape.Idx.first hu) := by
  by_cases ha : lo ≤ a.val ∧ a.val - lo < n
  · rw [dif_pos ha]
    refine pad_apply_of_inside _ _ _ x v h hu _ _ fun b => ?_
    fin_cases b
    · show a.val = lo + (a.val - lo) * (0 + 1)
      omega
    · show j.val = 0 + j.val * (0 + 1)
      omega
  · rw [dif_neg ha]
    refine pad_apply_of_not_inside _ _ _ x v h hu _ 0 fun hh => ha ?_
    have h1 : lo ≤ a.val := hh.1
    have h2 : (a.val - lo) / (0 + 1) < n := hh.2.2
    exact ⟨h1, by omega⟩

variable (H : FVec Ideal S4096x2048 .bf16) (Wi : FVec Ideal S1x2048x6144 .bf16) (Wc : FVec Ideal S3x2048 .f32) (Wo : FVec Ideal S1x2048x2048 .bf16)
  (Y : FVec Ideal S4096x2048 .bf16)

/-- The first product. -/
theorem ref_first (i : Fin 4096) (j : Fin 6144) : val_main_v6 (F := Ideal) H Wi (ix2 i j) = pre H Wi i j := by
  unfold pre
  pointwise [val_main_v6, val_main_v2, val_main_v1, val_main_v0]

/-- Its first third, -/
theorem ref_plane0 (i : Fin 4096) (j : Fin 2048) : val_main_v7 (F := Ideal) H Wi (ix2 i j) = preA H Wi (ix3 0 i j) := by
  have e := ref_first H Wi i
  unfold val_main_v7
  generalize val_main_v6 (F := Ideal) H Wi = x at e ⊢
  pointwise []
  rw [e]
  exact congrArg (pre H Wi i) (Fin.ext (show j.val = 0 * 2048 + j.val by omega))

/-- its second -/
theorem ref_plane1 (i : Fin 4096) (j : Fin 2048) : val_main_v8 (F := Ideal) H Wi (ix2 i j) = preA H Wi (ix3 1 i j) := by
  have e := ref_first H Wi i
  unfold val_main_v8
  generalize val_main_v6 (F := Ideal) H Wi = x at e ⊢
  pointwise []
  rw [e]
  exact congrArg (pre H Wi i) (Fin.ext (show 2048 + j.val = 1 * 2048 + j.val by omega))

/-- and its third. -/
theorem ref_plane2 (i : Fin 4096) (j : Fin 2048) : val_main_v9 (F := Ideal) H Wi (ix2 i j) = preA H Wi (ix3 2 i j) := by
  have e := ref_first H Wi i
  unfold val_main_v9
  generalize val_main_v6 (F := Ideal) H Wi = x at e ⊢
  pointwise []
  rw [e]
  exact congrArg (pre H Wi i) (Fin.ext (show 4096 + j.val = 2 * 2048 + j.val by omega))

/-- The convolution's input under two rows of zeros. -/
theorem ref_lag (a : Fin 4098) (j : Fin 2048) : val_main_v12 (F := Ideal) H Wi (ix2 a j) = lag (preA H Wi) a.val j := by
  have e1 := ref_plane1 H Wi
  have e2 := ref_plane2 H Wi
  unfold val_main_v12 val_main_v11 val_main_v10 val_main_cst
  generalize val_main_v8 (F := Ideal) H Wi = x at e1 ⊢
  generalize val_main_v9 (F := Ideal) H Wi = z at e2 ⊢
  pointwise []
  unfold lag
  by_cases ha : a.val < 2
  · rw [dif_pos ha, dif_neg (by omega)]
  · rw [dif_neg ha, dif_pos ⟨by omega, a.isLt⟩, e1, e2]
    rfl

/-- The convolution. -/
theorem ref_conv (i : Fin 4096) (j : Fin 2048) : val_main_v35 (F := Ideal) H Wi Wc (ix2 i j) = conv (preA H Wi) Wc i j := by
  have e := ref_lag H Wi
  unfold val_main_v35 val_main_v34 val_main_v33 val_main_v32 val_main_v31 val_main_v30 val_main_v29 val_main_v28 val_main_v27 val_main_v26 val_main_v25
    val_main_v24 val_main_v23 val_main_v22 val_main_v21 val_main_v20 val_main_v19 val_main_v18 val_main_v17 val_main_v16 val_main_v15 val_main_v14 val_main_cst_1
  generalize val_main_v12 (F := Ideal) H Wi = x at e ⊢
  pointwise []
  rw [e, e, e]
  show _ = Wc (ix2 0 j) * lag (preA H Wi) i.val j + Wc (ix2 1 j) * lag (preA H Wi) (i.val + 1) j + Wc (ix2 2 j) * lag (preA H Wi) (i.val + 2) j
  exact congrArg₂ (· + ·) (congrArg₂ (· + ·) rfl (congrArg (fun a => Wc (ix2 1 j) * lag (preA H Wi) a j) (show 1 + i.val = i.val + 1 by omega)))
    (congrArg (fun a => Wc (ix2 2 j) * lag (preA H Wi) a j) (show 2 + i.val = i.val + 2 by omega))

/-- What is mixed. -/
theorem ref_mid (i : Fin 4096) (j : Fin 2048) : val_main_v36 (F := Ideal) H Wi Wc (ix2 i j) = mid (preA H Wi) Wc (ix2 i j) :=
  congrArg₂ (· * ·) (ref_plane0 H Wi i j) (ref_conv H Wi Wc i j)

/-- The layer's output. -/
theorem ref_out : val_main_v82 (F := Ideal) H Wi Wc Wo = outA (mid (preA H Wi) Wc) Wo := by
  funext y
  obtain ⟨i, j, rfl⟩ : ∃ (i : Fin 4096) (j : Fin 2048), y = ix2 i j := ⟨y 0, y 1, eq_ix2 y⟩
  have e := ref_mid H Wi Wc
  unfold val_main_v82 val_main_v37
  generalize val_main_v36 (F := Ideal) H Wi Wc = x at e ⊢
  pointwise [val_main_v4, val_main_v3]
  refine (Finset.sum_congr rfl fun n _ => congrArg (· * _) (e i n)).trans ?_
  rfl

/-- The gradient of the second weights. -/
theorem ref_dwout : val_main_v92 (F := Ideal) H Wi Wc Y = dwoutA (mid (preA H Wi) Wc) Y := by
  funext y
  obtain ⟨i, j, rfl⟩ : ∃ (i j : Fin 2048), y = ix2 i j := ⟨y 0, y 1, eq_ix2 y⟩
  have e := ref_mid H Wi Wc
  unfold val_main_v92 val_main_v39 val_main_v38
  generalize val_main_v36 (F := Ideal) H Wi Wc = x at e ⊢
  pointwise [val_main_v5]
  refine (Finset.sum_congr rfl fun n _ => (congrArg (_ * ·) (e n i)).trans (mul_comm _ _)).trans ?_
  rfl

/-- The gradient of what was mixed. -/
theorem ref_dmid (i : Fin 4096) (j : Fin 2048) : val_main_v40 (F := Ideal) Wo Y (ix2 i j) = dmidA Y Wo (ix2 i j) := by
  pointwise [val_main_v40, val_main_v5, val_main_v4, val_main_v3]
  rfl

/-- The gradient of the convolution. -/
theorem ref_dconv (i : Fin 4096) (j : Fin 2048) : val_main_v41 (F := Ideal) H Wi Wo Y (ix2 i j) = dconv (preA H Wi) (dmidA Y Wo) i j :=
  (congrArg₂ (· * ·) (ref_plane0 H Wi i j) (ref_dmid Wo Y i j)).trans (mul_comm _ _)

/-- The same weighted by the last of the three weights, -/
theorem ref_weigh2 (i : Fin 4096) (j : Fin 2048) : val_main_v44 (F := Ideal) H Wi Wc Wo Y (ix2 i j) = Wc (ix2 2 j) * dconv (preA H Wi) (dmidA Y Wo) i j := by
  refine congrArg₂ (· * ·) ?_ (ref_dconv H Wi Wo Y i j)
  pointwise [val_main_v43, val_main_v32, val_main_v30, val_main_v29]

/-- by the second -/
theorem ref_weigh1 (i : Fin 4096) (j : Fin 2048) : val_main_v53 (F := Ideal) H Wi Wc Wo Y (ix2 i j) = Wc (ix2 1 j) * dconv (preA H Wi) (dmidA Y Wo) i j := by
  refine congrArg₂ (· * ·) ?_ (ref_dconv H Wi Wo Y i j)
  pointwise [val_main_v52, val_main_v25, val_main_v23, val_main_v22]

/-- and by the first. -/
theorem ref_weigh0 (i : Fin 4096) (j : Fin 2048) : val_main_v64 (F := Ideal) H Wi Wc Wo Y (ix2 i j) = Wc (ix2 0 j) * dconv (preA H Wi) (dmidA Y Wo) i j := by
  refine congrArg₂ (· * ·) ?_ (ref_dconv H Wi Wo Y i j)
  pointwise [val_main_v63, val_main_v17, val_main_v15, val_main_v14]

/-- A weighted gradient moved along the rows, zeros where it does not reach. -/
theorem lead_pad (P : FVec Ideal S3x4096x2048 .bf16) (D : FVec Ideal S4096x2048 .f32) (w : EReal) (j : Fin 2048) (lo hi : ℕ) (hlo : lo ≤ 2) (x : FVec Ideal S4096x2048 .f32)
    (v : FVec Ideal S_ .f32) (hv : v (Shape.Idx.first Gen.h_S_) = 0) (h) (hx : ∀ n, x (ix2 n j) = w * dconv P D n j) (i : Fin 4096) (a : Fin 4098) (ha : a.val = 2 + i.val) :
    pad S4098x2048 ![lo, 0] ![hi, 0] ![0, 0] x v h Gen.h_S_ (ix2 a j) = w * lead P D (i.val + (2 - lo)) j := by
  refine (pad_rows lo hi x v h Gen.h_S_ a j).trans ?_
  have el : a.val - lo = i.val + (2 - lo) := by omega
  unfold lead
  by_cases hn : i.val + (2 - lo) < 4096
  · rw [dif_pos ⟨by omega, by omega⟩, dif_pos hn, hx]
    exact congrArg (fun n => w * dconv P D n j) (Fin.ext el)
  · rw [dif_neg (by omega), dif_neg hn, hv, mul_zero]

/-- The gradient of the convolution's input. -/
theorem ref_dcz (i : Fin 4096) (j : Fin 2048) : val_main_v75 (F := Ideal) H Wi Wc Wo Y (ix2 i j) = dcz (preA H Wi) Wc (dmidA Y Wo) i j := by
  have ea : val_main_v75 (F := Ideal) H Wi Wc Wo Y (ix2 i j) = val_main_v70 (F := Ideal) H Wi Wc Wo Y (ix2 ⟨2 + i.val, by omega⟩ j) := by
    unfold val_main_v75
    generalize val_main_v70 (F := Ideal) H Wi Wc Wo Y = x
    pointwise []
  rw [ea]
  have e2 := lead_pad (preA H Wi) (dmidA Y Wo) (Wc (ix2 2 j)) j 2 0 (by omega) (val_main_v44 (F := Ideal) H Wi Wc Wo Y) (val_main_cst_4 (F := Ideal))
    Ideal.ofBits_zero_f32 Gen.pads_S4096x2048_S4098x2048_200_000 (fun n => ref_weigh2 H Wi Wc Wo Y n j) i ⟨2 + i.val, by omega⟩ rfl
  have e1 := lead_pad (preA H Wi) (dmidA Y Wo) (Wc (ix2 1 j)) j 1 1 (by omega) (val_main_v53 (F := Ideal) H Wi Wc Wo Y) (val_main_cst_8 (F := Ideal))
    Ideal.ofBits_zero_f32 Gen.pads_S4096x2048_S4098x2048_110_000 (fun n => ref_weigh1 H Wi Wc Wo Y n j) i ⟨2 + i.val, by omega⟩ rfl
  have e0 := lead_pad (preA H Wi) (dmidA Y Wo) (Wc (ix2 0 j)) j 0 2 (by omega) (val_main_v64 (F := Ideal) H Wi Wc Wo Y) (val_main_cst_12 (F := Ideal))
    Ideal.ofBits_zero_f32 Gen.pads_S4096x2048_S4098x2048_020_000 (fun n => ref_weigh0 H Wi Wc Wo Y n j) i ⟨2 + i.val, by omega⟩ rfl
  refine (congrArg₂ (· + ·) (congrArg₂ (· + ·) e2 e1) e0).trans ?_
  show _ + _ + _ = _ + _ + _
  rw [add_comm, add_comm (_ * _) (_ * _), add_assoc]
  rfl

/-- The gradient of the first plane, -/
theorem dpre_0 (P : FVec Ideal S3x4096x2048 .bf16) (D : FVec Ideal S4096x2048 .f32) (a : Fin 3) (ha : a.val = 0) (i : Fin 4096) (k : Fin 2048) :
    dpre P Wc D (ix3 a i k) = D (ix2 i k) * conv P Wc i k := if_pos ha

/-- of the second -/
theorem dpre_1 (P : FVec Ideal S3x4096x2048 .bf16) (D : FVec Ideal S4096x2048 .f32) (a : Fin 3) (ha : a.val = 1) (i : Fin 4096) (k : Fin 2048) :
    dpre P Wc D (ix3 a i k) = dcz P Wc D i k * P (ix3 2 i k) := (if_neg (show ¬a.val = 0 by omega)).trans (if_pos ha)

/-- and of the third. -/
theorem dpre_2 (P : FVec Ideal S3x4096x2048 .bf16) (D : FVec Ideal S4096x2048 .f32) (a : Fin 3) (ha : a.val = 2) (i : Fin 4096) (k : Fin 2048) :
    dpre P Wc D (ix3 a i k) = dcz P Wc D i k * P (ix3 1 i k) := (if_neg (show ¬a.val = 0 by omega)).trans (if_neg (show ¬a.val = 1 by omega))

/-- The first product's gradient, its planes side by side. -/
theorem ref_beside (i : Fin 4096) (j : Fin 6144) (a : Fin 3) (k : Fin 2048) (h : j.val = a.val * 2048 + k.val) :
    val_main_v78 (F := Ideal) H Wi Wc Wo Y (ix2 i j) = dpre (preA H Wi) Wc (dmidA Y Wo) (ix3 a i k) := by
  have e0 : ∀ n k, val_main_v42 (F := Ideal) H Wi Wc Wo Y (ix2 n k) = dmidA Y Wo (ix2 n k) * conv (preA H Wi) Wc n k :=
    fun n k => congrArg₂ (· * ·) (ref_dmid Wo Y n k) (ref_conv H Wi Wc n k)
  have e1 : ∀ n k, val_main_v77 (F := Ideal) H Wi Wc Wo Y (ix2 n k) = dcz (preA H Wi) Wc (dmidA Y Wo) n k * preA H Wi (ix3 2 n k) :=
    fun n k => congrArg₂ (· * ·) (ref_dcz H Wi Wc Wo Y n k) (ref_plane2 H Wi n k)
  have e2 : ∀ n k, val_main_v76 (F := Ideal) H Wi Wc Wo Y (ix2 n k) = dcz (preA H Wi) Wc (dmidA Y Wo) n k * preA H Wi (ix3 1 n k) :=
    fun n k => (congrArg₂ (· * ·) (ref_plane1 H Wi n k) (ref_dcz H Wi Wc Wo Y n k)).trans (mul_comm _ _)
  unfold val_main_v78
  generalize val_main_v42 (F := Ideal) H Wi Wc Wo Y = x at e0 ⊢
  generalize val_main_v77 (F := Ideal) H Wi Wc Wo Y = z at e1 ⊢
  generalize val_main_v76 (F := Ideal) H Wi Wc Wo Y = w at e2 ⊢
  pointwise []
  have hk := k.isLt
  by_cases h0 : j.val < 2048
  · rw [dif_pos h0, e0, dpre_0 Wc _ _ a (by omega)]
    rw [show (⟨j.val, h0⟩ : Fin 2048) = k from Fin.ext (show j.val = k.val by omega)]
  · rw [dif_neg h0]
    by_cases h1 : j.val - 2048 < 2048
    · rw [dif_pos h1, e1, dpre_1 Wc _ _ a (by omega)]
      rw [show (⟨j.val - 2048, h1⟩ : Fin 2048) = k from Fin.ext (show j.val - 2048 = k.val by omega)]
    · rw [dif_neg h1, e2, dpre_2 Wc _ _ a (by omega)]
      rw [show (⟨j.val - 2048 - 2048, by omega⟩ : Fin 2048) = k from Fin.ext (show j.val - 2048 - 2048 = k.val by omega)]

/-- The gradient of the first weights. -/
theorem ref_dwin : val_main_v91 (F := Ideal) H Wi Wc Wo Y = dwinA H (dpre (preA H Wi) Wc (dmidA Y Wo)) := by
  funext y
  obtain ⟨i, j, rfl⟩ : ∃ (i : Fin 2048) (j : Fin 6144), y = ix2 i j := ⟨y 0, y 1, eq_ix2 y⟩
  have e := fun n => ref_beside H Wi Wc Wo Y n j ⟨j.val / 2048, by omega⟩ ⟨j.val % 2048, Nat.mod_lt _ (by decide)⟩ (show j.val = j.val / 2048 * 2048 + j.val % 2048 by omega)
  unfold val_main_v91 val_main_v80 val_main_v79
  generalize val_main_v78 (F := Ideal) H Wi Wc Wo Y = x at e ⊢
  pointwise [val_main_v0]
  refine (Finset.sum_congr rfl fun n _ => (congrArg (· * _) (e n)).trans (mul_comm _ _)).trans ?_
  rfl

/-- The gradients of the planes. -/
theorem ref_dpre : val_main_v90 (F := Ideal) H Wi Wc Wo Y = dpre (preA H Wi) Wc (dmidA Y Wo) := by
  funext y
  obtain ⟨a, i, j, rfl⟩ : ∃ (a : Fin 3) (i : Fin 4096) (j : Fin 2048), y = ix3 a i j := ⟨y 0, y 1, y 2, eq_ix3 y⟩
  have e := ref_beside H Wi Wc Wo Y i
  unfold val_main_v90 val_main_v89 val_main_v88 val_main_v87 val_main_v86 val_main_v85 val_main_v84 val_main_v83
  generalize val_main_v78 (F := Ideal) H Wi Wc Wo Y = x at e ⊢
  pointwise []
  by_cases h0 : a.val < 1
  · rw [dif_pos h0]
    exact e _ a j (show j.val = a.val * 2048 + j.val by omega)
  · rw [dif_neg h0]
    by_cases h1 : a.val - 1 < 1
    · rw [dif_pos h1]
      exact e _ a j (show 2048 + j.val = a.val * 2048 + j.val by omega)
    · rw [dif_neg h1]
      exact e _ a j (show 4096 + j.val = a.val * 2048 + j.val by omega)

/-- The last row of the convolution weights' gradient, -/
theorem ref_row2 (q : Fin 1) (j : Fin 2048) : val_main_v50 (F := Ideal) H Wi Wo Y (ix2 q j) = dweight (preA H Wi) (dmidA Y Wo) 2 j := by
  have e : ∀ n, val_main_v45 (F := Ideal) H Wi Wo Y (ix2 n j) = dconv (preA H Wi) (dmidA Y Wo) n j * lag (preA H Wi) (n.val + 2) j := fun n => by
    refine congrArg₂ (· * ·) (ref_dconv H Wi Wo Y n j) ?_
    have e' := ref_lag H Wi
    unfold val_main_v31
    generalize val_main_v12 (F := Ideal) H Wi = x at e' ⊢
    pointwise []
    rw [e']
    exact congrArg (fun a => lag (preA H Wi) a j) (show 2 + n.val = n.val + 2 by omega)
  unfold val_main_v50 val_main_v48 val_main_v47 val_main_v46 val_main_cst_2 val_main_cst_3
  generalize val_main_v45 (F := Ideal) H Wi Wo Y = x at e ⊢
  pointwise []
  exact (Fin.sum_univ_one _).trans (Finset.sum_congr rfl fun n _ => e n)

/-- the second -/
theorem ref_row1 (q : Fin 1) (j : Fin 2048) : val_main_v60 (F := Ideal) H Wi Wo Y (ix2 q j) = dweight (preA H Wi) (dmidA Y Wo) 1 j := by
  have e : ∀ n, val_main_v54 (F := Ideal) H Wi Wo Y (ix2 n j) = dconv (preA H Wi) (dmidA Y Wo) n j * lag (preA H Wi) (n.val + 1) j := fun n => by
    refine congrArg₂ (· * ·) (ref_dconv H Wi Wo Y n j) ?_
    have e' := ref_lag H Wi
    unfold val_main_v24
    generalize val_main_v12 (F := Ideal) H Wi = x at e' ⊢
    pointwise []
    rw [e']
    exact congrArg (fun a => lag (preA H Wi) a j) (show 1 + n.val = n.val + 1 by omega)
  unfold val_main_v60 val_main_v57 val_main_v56 val_main_v55 val_main_cst_6 val_main_cst_7
  generalize val_main_v54 (F := Ideal) H Wi Wo Y = x at e ⊢
  pointwise []
  exact (Fin.sum_univ_one _).trans (Finset.sum_congr rfl fun n _ => e n)

/-- and the first. -/
theorem ref_row0 (q : Fin 1) (j : Fin 2048) : val_main_v71 (F := Ideal) H Wi Wo Y (ix2 q j) = dweight (preA H Wi) (dmidA Y Wo) 0 j := by
  have e : ∀ n, val_main_v65 (F := Ideal) H Wi Wo Y (ix2 n j) = dconv (preA H Wi) (dmidA Y Wo) n j * lag (preA H Wi) (n.val + 0) j := fun n => by
    refine congrArg₂ (· * ·) (ref_dconv H Wi Wo Y n j) ?_
    have e' := ref_lag H Wi
    unfold val_main_v16
    generalize val_main_v12 (F := Ideal) H Wi = x at e' ⊢
    pointwise []
    rw [e']
  unfold val_main_v71 val_main_v68 val_main_v67 val_main_v66 val_main_cst_10 val_main_cst_11
  generalize val_main_v65 (F := Ideal) H Wi Wo Y = x at e ⊢
  pointwise []
  exact (Fin.sum_univ_one _).trans (Finset.sum_congr rfl fun n _ => e n)

/-- The gradient of the convolution's weights: each row alone in its place. -/
theorem ref_dconvw : val_main_v73 (F := Ideal) H Wi Wo Y = dconvw (preA H Wi) (dmidA Y Wo) := by
  funext y
  obtain ⟨k, j, rfl⟩ : ∃ (k : Fin 3) (j : Fin 2048), y = ix2 k j := ⟨y 0, y 1, eq_ix2 y⟩
  have e2 := pad_rows 2 0 (val_main_v50 (F := Ideal) H Wi Wo Y) (val_main_cst_5 (F := Ideal)) Gen.pads_S1x2048_S3x2048_200_000 Gen.h_S_ k j
  have e1 := pad_rows 1 1 (val_main_v60 (F := Ideal) H Wi Wo Y) (val_main_cst_9 (F := Ideal)) Gen.pads_S1x2048_S3x2048_110_000 Gen.h_S_ k j
  have e0 := pad_rows 0 2 (val_main_v71 (F := Ideal) H Wi Wo Y) (val_main_cst_13 (F := Ideal)) Gen.pads_S1x2048_S3x2048_020_000 Gen.h_S_ k j
  refine (congrArg₂ (· + ·) (congrArg₂ (· + ·) e2 e1) e0).trans ?_
  have z2 : val_main_cst_5 (F := Ideal) (Shape.Idx.first Gen.h_S_) = 0 := Ideal.ofBits_zero_f32
  have z1 : val_main_cst_9 (F := Ideal) (Shape.Idx.first Gen.h_S_) = 0 := Ideal.ofBits_zero_f32
  have z0 : val_main_cst_13 (F := Ideal) (Shape.Idx.first Gen.h_S_) = 0 := Ideal.ofBits_zero_f32
  rw [z2, z1, z0]
  show _ = dweight (preA H Wi) (dmidA Y Wo) k j
  by_cases h2 : k.val = 2
  · obtain rfl : k = 2 := Fin.ext h2
    rw [dif_pos (by decide), dif_neg (by decide), dif_neg (by decide), ref_row2, add_zero, add_zero]
  · by_cases h1 : k.val = 1
    · obtain rfl : k = 1 := Fin.ext h1
      rw [dif_neg (by decide), dif_pos (by decide), dif_neg (by decide), ref_row1, zero_add, add_zero]
    · obtain rfl : k = 0 := Fin.ext (show k.val = 0 by omega)
      rw [dif_neg (by decide), dif_neg (by decide), dif_pos (by decide), ref_row0, zero_add, zero_add]

end Cert.A

end
-- ==== Proof.A.Run.lean ====
/- The seven launches of the first layer, run one after another: what the results hold when the last has ended. -/
module

public import proofs.«01_k».proof.Proof.Gen.AKernelIdeal.Frame

@[expose] public section

set_option maxRecDepth 16384

noncomputable section

namespace Cert.A

open Cert.AKernelIdeal Cert.AKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The layer's output is touched by none of the launches that follow, -/
theorem end_y : W7 m ρ c (Proc.devRef .tc main_v2) = (dat2 (V2 m ρ) c).arrAt 2 cfg2.N :=
  (W7_of m ρ c main_v2 (by decide)).trans ((W6_of m ρ c main_v2 (by decide)).trans ((W5_of m ρ c main_v2 (by decide)).trans ((W4_of m ρ c main_v2 (by decide)).trans (W3_arr m ρ c 2))))

/-- nor are the planes' gradients, -/
theorem end_dpre : W7 m ρ c (Proc.devRef .tc main_v5_0) = (dat5 (V5 m ρ) c).arrAt 6 cfg5.N :=
  (W7_of m ρ c main_v5_0 (by decide)).trans (W6_arr m ρ c 6)

/-- the first weights' gradient is made by the last, -/
theorem end_dwin : W7 m ρ c (Proc.devRef .tc main_v6) = (dat6 (V6 m ρ) c).arrAt 2 cfg6.N :=
  W7_arr m ρ c 2

/-- the convolution weights' gradient by the one before -/
theorem end_dconv : W7 m ρ c (Proc.devRef .tc main_v5_1) = (dat5 (V5 m ρ) c).arrAt 7 cfg5.N :=
  (W7_of m ρ c main_v5_1 (by decide)).trans (W6_arr m ρ c 7)

/-- and the second weights' by the fourth. -/
theorem end_dwout : W7 m ρ c (Proc.devRef .tc main_v3) = (dat3 (V3 m ρ) c).arrAt 2 cfg3.N :=
  (W7_of m ρ c main_v3 (by decide)).trans ((W6_of m ρ c main_v3 (by decide)).trans ((W5_of m ρ c main_v3 (by decide)).trans (W4_arr m ρ c 2)))

/-- Launch 1 finds its argument as launched. -/
theorem in0_arg0 : V0 m ρ c main_arg0 = m ((c : Thread nD τ).loc main_arg0) := rfl

/-- Launch 1 finds its argument as launched. -/
theorem in0_arg1 : V0 m ρ c main_arg1 = m ((c : Thread nD τ).loc main_arg1) := rfl

/-- Launch 2 finds its argument as launched. -/
theorem in1_arg2 : V1 m ρ c main_arg2 = m ((c : Thread nD τ).loc main_arg2) := W1_args m ρ c main_arg2 (by decide)

/-- Launch 3 finds its argument as launched. -/
theorem in2_arg3 : V2 m ρ c main_arg3 = m ((c : Thread nD τ).loc main_arg3) := W2_args m ρ c main_arg3 (by decide)

/-- Launch 4 finds its argument as launched. -/
theorem in3_arg4 : V3 m ρ c main_arg4 = m ((c : Thread nD τ).loc main_arg4) := W3_args m ρ c main_arg4 (by decide)

/-- Launch 5 finds its argument as launched. -/
theorem in4_arg4 : V4 m ρ c main_arg4 = m ((c : Thread nD τ).loc main_arg4) := W4_args m ρ c main_arg4 (by decide)

/-- Launch 5 finds its argument as launched. -/
theorem in4_arg3 : V4 m ρ c main_arg3 = m ((c : Thread nD τ).loc main_arg3) := W4_args m ρ c main_arg3 (by decide)

/-- Launch 6 finds its argument as launched. -/
theorem in5_arg2 : V5 m ρ c main_arg2 = m ((c : Thread nD τ).loc main_arg2) := W5_args m ρ c main_arg2 (by decide)

/-- Launch 7 finds its argument as launched. -/
theorem in6_arg0 : V6 m ρ c main_arg0 = m ((c : Thread nD τ).loc main_arg0) := W6_args m ρ c main_arg0 (by decide)

/-- The second launch finds the three planes the first left, -/
theorem in1_v0 : V1 m ρ c main_v0 = (dat0 (V0 m ρ) c).arrAt 2 cfg0.N :=
  W1_arr m ρ c 2

/-- the third what the second mixed, -/
theorem in2_v1 : V2 m ρ c main_v1 = (dat1 (V1 m ρ) c).arrAt 3 cfg1.N :=
  W2_arr m ρ c 3

/-- and so does the fourth; -/
theorem in3_v1 : V3 m ρ c main_v1 = (dat1 (V1 m ρ) c).arrAt 3 cfg1.N :=
  (W3_of m ρ c main_v1 (by decide)).trans (W2_arr m ρ c 3)

/-- the sixth finds the planes -/
theorem in5_v0 : V5 m ρ c main_v0 = (dat0 (V0 m ρ) c).arrAt 2 cfg0.N :=
  (W5_of m ρ c main_v0 (by decide)).trans ((W4_of m ρ c main_v0 (by decide)).trans ((W3_of m ρ c main_v0 (by decide)).trans ((W2_of m ρ c main_v0 (by decide)).trans (W1_arr m ρ c 2))))

/-- and the gradient of what was mixed, -/
theorem in5_v4 : V5 m ρ c main_v4 = (dat4 (V4 m ρ) c).arrAt 2 cfg4.N :=
  W5_arr m ρ c 2

/-- and the seventh the planes' gradients. -/
theorem in6_v5 : V6 m ρ c main_v5_0 = (dat5 (V5 m ρ) c).arrAt 6 cfg5.N :=
  W6_arr m ρ c 6

set_option backward.isDefEq.respectTransparency.types false in
/-- The run: each result ends as its own launch leaves it, and the arguments as launched. -/
theorem run : θ_run defs (onTc (τ := τ) (main (F := F))) ⟨m, fun _ => 0, ρ⟩ (fun r => ∀ c : Dev nD,
      (r.2.mem ((c.tc : Thread nD τ).loc main_v2) = (dat2 (V2 m ρ) c).arrAt 2 cfg2.N
      ∧ r.2.mem ((c.tc : Thread nD τ).loc main_v5_0) = (dat5 (V5 m ρ) c).arrAt 6 cfg5.N
      ∧ r.2.mem ((c.tc : Thread nD τ).loc main_v6) = (dat6 (V6 m ρ) c).arrAt 2 cfg6.N
      ∧ r.2.mem ((c.tc : Thread nD τ).loc main_v5_1) = (dat5 (V5 m ρ) c).arrAt 7 cfg5.N
      ∧ r.2.mem ((c.tc : Thread nD τ).loc main_v3) = (dat3 (V3 m ρ) c).arrAt 2 cfg3.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c =>
      ⟨⟨(h c _ (mem_uc main_v2 (by decide))).trans (end_y m ρ c),
        (h c _ (mem_uc main_v5_0 (by decide))).trans (end_dpre m ρ c),
        (h c _ (mem_uc main_v6 (by decide))).trans (end_dwin m ρ c),
        (h c _ (mem_uc main_v5_1 (by decide))).trans (end_dconv m ρ c),
        (h c _ (mem_uc main_v3 (by decide))).trans (end_dwout m ρ c)⟩,
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.A

end
-- ==== Proof.A.Claims.lean ====
/- The claims about the first layer. -/
module

public import proofs.«01_k».proof.Defs
public import proofs.«01_k».proof.Proof.Gen.AKernel.Frame
public import proofs.«01_k».proof.Proof.Gen.AReferenceIdeal.Run
public import proofs.«01_k».proof.Proof.A.ConvB
public import proofs.«01_k».proof.Proof.A.Ref
public import proofs.«01_k».proof.Proof.A.Run
public import Idealize.ShloMosaic.Lib.Quiescent

@[expose] public section

set_option maxRecDepth 16384

noncomputable section

open Idealize.ShloMosaic Idealize.ShloMosaic.TcCoe Idealize.SL.Sem

namespace Cert.A

/-- The kernel ends, leaves its arguments and every counter as they were, on the machine's numbers. -/
theorem frame_kernel : Cert.quiescent_AKernel := fun m ρ _ => Cert.AKernel.Gen.frame m ρ

/-- The same over the extended reals. -/
theorem frame_ideal : Cert.quiescent_AKernelIdeal := fun m ρ _ => Cert.AKernelIdeal.Gen.frame m ρ

/-- The reference ends and leaves its arguments as they were; it declares no counter. -/
theorem frame_ref : Cert.quiescent_AReferenceIdeal := fun m ρ _ =>
  (θ_run Cert.AReferenceIdeal.defs _ _).mono
    (fun r h => ⟨fun c => (h c).2.2.2.2.2, sem_eq_zero_of_no_sems (by decide) r.2⟩)
    (Cert.AReferenceIdeal.Value.run m ρ)

section Arrays

open Cert.AKernelIdeal Cert.AKernelIdeal.Gen

variable (m : (ℓ : Loc nD τ sig) → Buf (Elt Ideal) ℓ) (ρ : Dev nD → PrngReg) (c : Dev nD)

/-- The layer's input as launched, -/
abbrev H : FVec Ideal S4096x2048 .bf16 := m ((c : Thread nD τ).loc main_arg0)
/-- the first weights, -/
abbrev Wi : FVec Ideal S1x2048x6144 .bf16 := m ((c : Thread nD τ).loc main_arg1)
/-- the convolution's, -/
abbrev Wc : FVec Ideal S3x2048 .f32 := m ((c : Thread nD τ).loc main_arg2)
/-- the second weights, -/
abbrev Wo : FVec Ideal S1x2048x2048 .bf16 := m ((c : Thread nD τ).loc main_arg3)
/-- and the output's gradient. -/
abbrev Y : FVec Ideal S4096x2048 .bf16 := m ((c : Thread nD τ).loc main_arg4)

/-- The planes, from the arguments as launched; -/
theorem final_pre : (dat0 (V0 m ρ) c).arrAt 2 cfg0.N = preA (H m c) (Wi m c) :=
  (arr0 (V0 m ρ) c).trans (congrArg₂ preA (in0_arg0 m ρ c) (in0_arg1 m ρ c))

/-- what is mixed; -/
theorem final_mid : (dat1 (V1 m ρ) c).arrAt 3 cfg1.N = mid (preA (H m c) (Wi m c)) (Wc m c) :=
  (arr1 (V1 m ρ) c).trans (congrArg₂ mid ((in1_v0 m ρ c).trans (final_pre m ρ c)) (in1_arg2 m ρ c))

/-- the layer's output; -/
theorem final_out : (dat2 (V2 m ρ) c).arrAt 2 cfg2.N = outA (mid (preA (H m c) (Wi m c)) (Wc m c)) (Wo m c) :=
  (arr2 (V2 m ρ) c).trans (congrArg₂ outA ((in2_v1 m ρ c).trans (final_mid m ρ c)) (in2_arg3 m ρ c))

/-- the gradient of the second weights; -/
theorem final_dwout : (dat3 (V3 m ρ) c).arrAt 2 cfg3.N = dwoutA (mid (preA (H m c) (Wi m c)) (Wc m c)) (Y m c) :=
  (arr3 (V3 m ρ) c).trans (congrArg₂ dwoutA ((in3_v1 m ρ c).trans (final_mid m ρ c)) (in3_arg4 m ρ c))

/-- the gradient of what was mixed; -/
theorem final_dmid : (dat4 (V4 m ρ) c).arrAt 2 cfg4.N = dmidA (Y m c) (Wo m c) :=
  (arr4 (V4 m ρ) c).trans (congrArg₂ dmidA (in4_arg4 m ρ c) (in4_arg3 m ρ c))

/-- the gradients of the planes -/
theorem final_dpre : (dat5 (V5 m ρ) c).arrAt 6 cfg5.N = dpre (preA (H m c) (Wi m c)) (Wc m c) (dmidA (Y m c) (Wo m c)) :=
  (arr5_planes (V5 m ρ) c).trans ((congrArg₂ (fun P D => dpre P _ D) ((in5_v0 m ρ c).trans (final_pre m ρ c)) ((in5_v4 m ρ c).trans (final_dmid m ρ c))).trans
    (congrArg (fun W => dpre _ W _) (in5_arg2 m ρ c)))

/-- and of the convolution's weights; -/
theorem final_dconv : (dat5 (V5 m ρ) c).arrAt 7 cfg5.N = dconvw (preA (H m c) (Wi m c)) (dmidA (Y m c) (Wo m c)) :=
  (arr5_weights (V5 m ρ) c).trans (congrArg₂ dconvw ((in5_v0 m ρ c).trans (final_pre m ρ c)) ((in5_v4 m ρ c).trans (final_dmid m ρ c)))

/-- the gradient of the first weights. -/
theorem final_dwin : (dat6 (V6 m ρ) c).arrAt 2 cfg6.N = dwinA (H m c) (dpre (preA (H m c) (Wi m c)) (Wc m c) (dmidA (Y m c) (Wo m c))) :=
  (arr6 (V6 m ρ) c).trans (congrArg₂ dwinA (in6_arg0 m ρ c) ((in6_v5 m ρ c).trans (final_dpre m ρ c)))

end Arrays

/-- The seven launches and the reference agree over the extended reals, on any arguments. -/
theorem algebraic : Cert.algebraic_AKernelIdeal_AReferenceIdeal := by
  intro m ρ m' ρ' _ hagree
  refine ⟨fun c => outA (mid (preA (H m c) (Wi m c)) (Wc m c)) (Wo m c), fun c => dpre (preA (H m c) (Wi m c)) (Wc m c) (dmidA (Y m c) (Wo m c)),
    fun c => dwinA (H m c) (dpre (preA (H m c) (Wi m c)) (Wc m c) (dmidA (Y m c) (Wo m c))), fun c => dconvw (preA (H m c) (Wi m c)) (dmidA (Y m c) (Wo m c)),
    fun c => dwoutA (mid (preA (H m c) (Wi m c)) (Wc m c)) (Y m c), ?_, ?_⟩
  · exact (θ_run Cert.AKernelIdeal.defs _ _).mono
      (fun r h c => ⟨(h c).1.1.trans (final_out m ρ c), (h c).1.2.1.trans (final_dpre m ρ c), (h c).1.2.2.1.trans (final_dwin m ρ c),
        (h c).1.2.2.2.1.trans (final_dconv m ρ c), (h c).1.2.2.2.2.trans (final_dwout m ρ c), (h c).2⟩)
      (run m ρ)
  · refine (θ_run Cert.AReferenceIdeal.defs _ _).mono (fun r h c => ?_) (Cert.AReferenceIdeal.Value.run m' ρ')
    obtain ⟨a0, a1, a2, a3, a4⟩ := hagree c
    refine ⟨(h c).1.trans ?_, (h c).2.1.trans ?_, (h c).2.2.1.trans ?_, (h c).2.2.2.1.trans ?_, (h c).2.2.2.2.1.trans ?_, (h c).2.2.2.2.2⟩
    · rw [Cert.AReferenceIdeal.Read.val_main_v82_eq, a0, a1, a2, a3]
      exact ref_out _ _ _ _
    · rw [Cert.AReferenceIdeal.Read.val_main_v90_eq, a0, a1, a2, a3, a4]
      exact ref_dpre _ _ _ _ _
    · rw [Cert.AReferenceIdeal.Read.val_main_v91_eq, a0, a1, a2, a3, a4]
      exact ref_dwin _ _ _ _ _
    · rw [Cert.AReferenceIdeal.Read.val_main_v73_eq, a0, a1, a3, a4]
      exact ref_dconvw _ _ _ _
    · rw [Cert.AReferenceIdeal.Read.val_main_v92_eq, a0, a1, a2, a4]
      exact ref_dwout _ _ _ _

end Cert.A

end
-- ==== Proof.Xa.Array.lean ====
/- The arrays left by the eight launches of the cross-attention layer's products, each from the contents it is entered with. -/
module

public import proofs.«01_k».proof.Proof.Gen.XaKernelIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Cert.XaKernelIdeal Cert.XaKernelIdeal.Gen

namespace Cert.Xa

/-- The queries: the layer's input times its first weights, at a place, -/
def qry (A : FVec Ideal S4096x2048 .bf16) (B : FVec Ideal S1x2048x2048 .bf16) (i : Fin 4096) (j : Fin 2048) : EReal :=
  ∑ k : Fin 2048, A (ix2 i k) * B (ix3 0 k j)

/-- and as an array. -/
def qryA (A : FVec Ideal S4096x2048 .bf16) (B : FVec Ideal S1x2048x2048 .bf16) : FVec Ideal S4096x2048 .bf16 := fun y => qry A B (y 0) (y 1)

/-- The keys and the values: the memory times the second weights, two planes side by side, at a place, -/
def kvs (A : FVec Ideal S256x2048 .bf16) (B : FVec Ideal S1x2048x4096 .bf16) (i : Fin 256) (j : Fin 4096) : EReal :=
  ∑ k : Fin 2048, A (ix2 i k) * B (ix3 0 k j)

/-- and as an array. -/
def kvsA (A : FVec Ideal S256x2048 .bf16) (B : FVec Ideal S1x2048x4096 .bf16) : FVec Ideal S2x256x2048 .bf16 := fun y =>
  kvs A B (y 1) ⟨(y 0).val * 2048 + (y 2).val, by have h0 : (y 0).val < 2 := (y 0).isLt; have h2 : (y 2).val < 2048 := (y 2).isLt; omega⟩

/-- The layer's output: what is attended to times the third weights, at a place, -/
def out (A : FVec Ideal S4096x2048 .bf16) (B : FVec Ideal S1x2048x2048 .bf16) (i : Fin 4096) (j : Fin 2048) : EReal :=
  ∑ k : Fin 2048, A (ix2 i k) * B (ix3 0 k j)

/-- and as an array. -/
def outA (A : FVec Ideal S4096x2048 .bf16) (B : FVec Ideal S1x2048x2048 .bf16) : FVec Ideal S4096x2048 .bf16 := fun y => out A B (y 0) (y 1)

/-- The gradient of the third weights: what is attended to, transposed, times the output's gradient, at a place, -/
def dwo (A : FVec Ideal S4096x2048 .bf16) (B : FVec Ideal S4096x2048 .bf16) (i : Fin 2048) (j : Fin 2048) : EReal :=
  ∑ k : Fin 4096, A (ix2 k i) * B (ix2 k j)

/-- and as an array. -/
def dwoA (A : FVec Ideal S4096x2048 .bf16) (B : FVec Ideal S4096x2048 .bf16) : FVec Ideal S2048x2048 .bf16 := fun y => dwo A B (y 0) (y 1)

/-- The gradient of what is attended to: the output's times the transposed third weights, at a place, -/
def datt (A : FVec Ideal S4096x2048 .bf16) (B : FVec Ideal S1x2048x2048 .bf16) (i : Fin 4096) (j : Fin 2048) : EReal :=
  ∑ k : Fin 2048, A (ix2 i k) * B (ix3 0 j k)

/-- and as an array. -/
def dattA (A : FVec Ideal S4096x2048 .bf16) (B : FVec Ideal S1x2048x2048 .bf16) : FVec Ideal S4096x2048 .bf16 := fun y => datt A B (y 0) (y 1)

/-- The gradient of the first weights: the input, transposed, times the queries' gradient, at a place, -/
def dwq (A : FVec Ideal S4096x2048 .bf16) (B : FVec Ideal S4096x2048 .bf16) (i : Fin 2048) (j : Fin 2048) : EReal :=
  ∑ k : Fin 4096, A (ix2 k i) * B (ix2 k j)

/-- and as an array. -/
def dwqA (A : FVec Ideal S4096x2048 .bf16) (B : FVec Ideal S4096x2048 .bf16) : FVec Ideal S2048x2048 .bf16 := fun y => dwq A B (y 0) (y 1)

/-- The gradient of the input: the queries' times the transposed first weights, at a place, -/
def din (A : FVec Ideal S4096x2048 .bf16) (B : FVec Ideal S1x2048x2048 .bf16) (i : Fin 4096) (j : Fin 2048) : EReal :=
  ∑ k : Fin 2048, A (ix2 i k) * B (ix3 0 j k)

/-- and as an array. -/
def dinA (A : FVec Ideal S4096x2048 .bf16) (B : FVec Ideal S1x2048x2048 .bf16) : FVec Ideal S4096x2048 .bf16 := fun y => din A B (y 0) (y 1)

/-- The gradient of the second weights: the memory, transposed, times the gradients of the keys and the values side by side, at a place, -/
def dwkv (A : FVec Ideal S256x2048 .bf16) (B : FVec Ideal S2x256x2048 .bf16) (i : Fin 2048) (j : Fin 4096) : EReal :=
  ∑ k : Fin 256, A (ix2 k i) * B (ix3 ⟨j.val / 2048, by omega⟩ k ⟨j.val % 2048, Nat.mod_lt _ (by decide)⟩)

/-- and as an array. -/
def dwkvA (A : FVec Ideal S256x2048 .bf16) (B : FVec Ideal S2x256x2048 .bf16) : FVec Ideal S2048x4096 .bf16 := fun y => dwkv A B (y 0) (y 1)

variable (V : (c : Dev nD) → (b : Ref sig .tc) → Buf (Elt Ideal) ((c : Thread nD τ).loc b)) (c : Dev nD)

/-- The layer's input, as a launch finds it, -/
abbrev vH : FVec Ideal S4096x2048 .bf16 := V c main_arg0
/-- the memory, -/
abbrev vM : FVec Ideal S256x2048 .bf16 := V c main_arg1
/-- the first weights, -/
abbrev vWq : FVec Ideal S1x2048x2048 .bf16 := V c main_arg2
/-- the second -/
abbrev vWkv : FVec Ideal S1x2048x4096 .bf16 := V c main_arg3
/-- and the third, -/
abbrev vWo : FVec Ideal S1x2048x2048 .bf16 := V c main_arg4
/-- the output's gradient, -/
abbrev vY : FVec Ideal S4096x2048 .bf16 := V c main_arg5
/-- the queries, -/
abbrev vQ : FVec Ideal S4096x2048 .bf16 := V c main_v0
/-- the keys and the values, -/
abbrev vKV : FVec Ideal S2x256x2048 .bf16 := V c main_v1
/-- what is attended to, -/
abbrev vO : FVec Ideal S4096x2048 .bf16 := V c main_v2
/-- its gradient, -/
abbrev vG : FVec Ideal S4096x2048 .bf16 := V c main_v5
/-- the queries' gradient, -/
abbrev vDq : FVec Ideal S4096x2048 .bf16 := V c main_v6_0
/-- and the keys' and the values'. -/
abbrev vDkv : FVec Ideal S2x256x2048 .bf16 := V c main_v9

/-! ## The queries -/

/-- The blocks each iteration names. -/
theorem idx0 : ∀ t : Fin cfg0.N, win0_0.index t = ![t.val / 2, 0] ∧ win0_1.index t = ![0, 0, t.val % 2] ∧ win0_2.index t = ![t.val / 2, t.val % 2] :=
  (by decide +kernel : ∀ t : Fin grid0.N, _)

/-- Row `r` of point `t`'s block, in the array, -/
def row0 (t : Fin cfg0.N) (r : Fin 1024) : Fin 4096 := ⟨t.val / 2 * 1024 + r.val, by have := t.isLt; have : cfg0.N = 8 := N_0; omega⟩
/-- and column `s`. -/
def col0 (t : Fin cfg0.N) (s : Fin 1024) : Fin 2048 := ⟨t.val % 2 * 1024 + s.val, by omega⟩

/-- A block of the first factor, -/
theorem blk0_a (t : Fin cfg0.N) (r : Fin 1024) (k : Fin 2048) : iblk0 V c 0 t (ix2 r k) = vH V c (ix2 (row0 t r) k) := by
  blk_point [iblk0, idx0 t, row0]

/-- and of the second. -/
theorem blk0_b (t : Fin cfg0.N) (s : Fin 1024) (k : Fin 2048) :
    iblk0 V c 1 t (ix3 0 k s) = vWq V c (ix3 0 k (col0 t s)) := by
  blk_point [iblk0, idx0 t, col0]

/-- The body's product. -/
theorem pay0 (t : Fin cfg0.N) (r : Fin 1024) (s : Fin 1024) :
    k0_pay1 (F := Ideal) (iblk0 V c 0 t) (iblk0 V c 1 t) (ix2 r s) = qry (vH V c) (vWq V c) (row0 t r) (col0 t s) := by
  refine Eq.trans ?_ (Finset.sum_congr rfl fun k _ => congrArg₂ (· * ·) (blk0_a V c t r k) (blk0_b V c t s k))
  generalize iblk0 V c 0 t = a
  generalize iblk0 V c 1 t = b
  pointwise [k0_pay1]

/-- The array the launch leaves. -/
theorem arr0 : (dat0 V c).arrAt 2 cfg0.N = qryA (vH V c) (vWq V c) := by
  refine (dat0 V c).arrAt_eq_of_covers 2 _ (by decide +kernel) fun t hf y => ?_
  blk_simp [idx0 t]
  rw [after0_2]
  obtain ⟨r, s, rfl⟩ : ∃ (r : Fin 1024) (s : Fin 1024), y = ix2 r s := ⟨y 0, y 1, eq_ix2 y⟩
  have e : (win0_2.blk t).view.emb (ix2 r s) = ix2 (row0 t r) (col0 t s) := by
    blk_ext [idx0 t]
    all_goals rfl
  rw [e]
  unfold out0_2
  frame_out
  exact pay0 V c t r s

/-! ## The keys and the values -/

/-- The blocks each iteration names. -/
theorem idx1 : ∀ t : Fin cfg1.N, win1_0.index t = ![t.val / 4, 0] ∧ win1_1.index t = ![0, 0, t.val % 4] ∧ win1_2.index t = ![t.val % 4 / 2, t.val / 4, t.val % 4 % 2] :=
  (by decide +kernel : ∀ t : Fin grid1.N, _)

/-- Row `r` of point `t`'s block, in the array, -/
def row1 (t : Fin cfg1.N) (r : Fin 256) : Fin 256 := ⟨t.val / 4 * 256 + r.val, by have := t.isLt; have : cfg1.N = 4 := N_1; omega⟩
/-- and column `s`. -/
def col1 (t : Fin cfg1.N) (s : Fin 1024) : Fin 4096 := ⟨t.val % 4 * 1024 + s.val, by omega⟩

/-- A block of the first factor, -/
theorem blk1_a (t : Fin cfg1.N) (r : Fin 256) (k : Fin 2048) : iblk1 V c 0 t (ix2 r k) = vM V c (ix2 (row1 t r) k) := by
  blk_point [iblk1, idx1 t, row1]

/-- and of the second. -/
theorem blk1_b (t : Fin cfg1.N) (s : Fin 1024) (k : Fin 2048) :
    iblk1 V c 1 t (ix3 0 k s) = vWkv V c (ix3 0 k (col1 t s)) := by
  blk_point [iblk1, idx1 t, col1]

/-- The body's product. -/
theorem pay1 (t : Fin cfg1.N) (q : Fin 1) (r : Fin 256) (s : Fin 1024) :
    k1_pay1 (F := Ideal) (iblk1 V c 0 t) (iblk1 V c 1 t) (ix3 q r s) = kvs (vM V c) (vWkv V c) (row1 t r) (col1 t s) := by
  refine Eq.trans ?_ (Finset.sum_congr rfl fun k _ => congrArg₂ (· * ·) (blk1_a V c t r k) (blk1_b V c t s k))
  generalize iblk1 V c 0 t = a
  generalize iblk1 V c 1 t = b
  pointwise [k1_pay1]

/-- The array the launch leaves. -/
theorem arr1 : (dat1 V c).arrAt 2 cfg1.N = kvsA (vM V c) (vWkv V c) := by
  refine (dat1 V c).arrAt_eq_of_covers 2 _ (by decide +kernel) fun t hf y => ?_
  blk_simp [idx1 t]
  rw [after1_2]
  obtain ⟨q, r, s, rfl⟩ : ∃ (q : Fin 1) (r : Fin 256) (s : Fin 1024), y = ix3 q r s := ⟨y 0, y 1, y 2, eq_ix3 y⟩
  have hc := (col1 t s).isLt
  have e : (win1_2.blk t).view.emb (ix3 q r s)
      = ix3 ⟨(col1 t s).val / 2048, by omega⟩ (row1 t r) ⟨(col1 t s).val % 2048, Nat.mod_lt _ (by decide)⟩ := by
    unfold row1 col1
    blk_ext [idx1 t]
    all_goals first | rfl | omega
  rw [e]
  unfold out1_2
  frame_out
  refine (pay1 V c t q r s).trans (congrArg (kvs _ _ _) (Fin.ext ?_))
  show (col1 t s).val = (col1 t s).val / 2048 * 2048 + (col1 t s).val % 2048
  omega

/-! ## The layer's output -/

/-- The blocks each iteration names. -/
theorem idx3 : ∀ t : Fin cfg3.N, win3_0.index t = ![t.val / 2, 0] ∧ win3_1.index t = ![0, 0, t.val % 2] ∧ win3_2.index t = ![t.val / 2, t.val % 2] :=
  (by decide +kernel : ∀ t : Fin grid3.N, _)

/-- Row `r` of point `t`'s block, in the array, -/
def row3 (t : Fin cfg3.N) (r : Fin 1024) : Fin 4096 := ⟨t.val / 2 * 1024 + r.val, by have := t.isLt; have : cfg3.N = 8 := N_3; omega⟩
/-- and column `s`. -/
def col3 (t : Fin cfg3.N) (s : Fin 1024) : Fin 2048 := ⟨t.val % 2 * 1024 + s.val, by omega⟩

/-- A block of the first factor, -/
theorem blk3_a (t : Fin cfg3.N) (r : Fin 1024) (k : Fin 2048) : iblk3 V c 0 t (ix2 r k) = vO V c (ix2 (row3 t r) k) := by
  blk_point [iblk3, idx3 t, row3]

/-- and of the second. -/
theorem blk3_b (t : Fin cfg3.N) (s : Fin 1024) (k : Fin 2048) :
    iblk3 V c 1 t (ix3 0 k s) = vWo V c (ix3 0 k (col3 t s)) := by
  blk_point [iblk3, idx3 t, col3]

/-- The body's product. -/
theorem pay3 (t : Fin cfg3.N) (r : Fin 1024) (s : Fin 1024) :
    k3_pay1 (F := Ideal) (iblk3 V c 0 t) (iblk3 V c 1 t) (ix2 r s) = out (vO V c) (vWo V c) (row3 t r) (col3 t s) := by
  refine Eq.trans ?_ (Finset.sum_congr rfl fun k _ => congrArg₂ (· * ·) (blk3_a V c t r k) (blk3_b V c t s k))
  generalize iblk3 V c 0 t = a
  generalize iblk3 V c 1 t = b
  pointwise [k3_pay1]

/-- The array the launch leaves. -/
theorem arr3 : (dat3 V c).arrAt 2 cfg3.N = outA (vO V c) (vWo V c) := by
  refine (dat3 V c).arrAt_eq_of_covers 2 _ (by decide +kernel) fun t hf y => ?_
  blk_simp [idx3 t]
  rw [after3_2]
  obtain ⟨r, s, rfl⟩ : ∃ (r : Fin 1024) (s : Fin 1024), y = ix2 r s := ⟨y 0, y 1, eq_ix2 y⟩
  have e : (win3_2.blk t).view.emb (ix2 r s) = ix2 (row3 t r) (col3 t s) := by
    blk_ext [idx3 t]
    all_goals rfl
  rw [e]
  unfold out3_2
  frame_out
  exact pay3 V c t r s

/-! ## The gradient of the third weights -/

/-- The blocks each iteration names. -/
theorem idx4 : ∀ t : Fin cfg4.N, win4_0.index t = ![0, t.val / 2] ∧ win4_1.index t = ![0, t.val % 2] ∧ win4_2.index t = ![t.val / 2, t.val % 2] :=
  (by decide +kernel : ∀ t : Fin grid4.N, _)

/-- Row `r` of point `t`'s block, in the array, -/
def row4 (t : Fin cfg4.N) (r : Fin 512) : Fin 2048 := ⟨t.val / 2 * 512 + r.val, by have := t.isLt; have : cfg4.N = 8 := N_4; omega⟩
/-- and column `s`. -/
def col4 (t : Fin cfg4.N) (s : Fin 1024) : Fin 2048 := ⟨t.val % 2 * 1024 + s.val, by omega⟩

/-- A block of the first factor, -/
theorem blk4_a (t : Fin cfg4.N) (r : Fin 512) (k : Fin 4096) : iblk4 V c 0 t (ix2 k r) = vO V c (ix2 k (row4 t r)) := by
  blk_point [iblk4, idx4 t, row4]

/-- and of the second. -/
theorem blk4_b (t : Fin cfg4.N) (s : Fin 1024) (k : Fin 4096) :
    iblk4 V c 1 t (ix2 k s) = vY V c (ix2 k (col4 t s)) := by
  blk_point [iblk4, idx4 t, col4]

/-- The body's product. -/
theorem pay4 (t : Fin cfg4.N) (r : Fin 512) (s : Fin 1024) :
    k4_pay1 (F := Ideal) (iblk4 V c 0 t) (iblk4 V c 1 t) (ix2 r s) = dwo (vO V c) (vY V c) (row4 t r) (col4 t s) := by
  refine Eq.trans ?_ (Finset.sum_congr rfl fun k _ => congrArg₂ (· * ·) (blk4_a V c t r k) (blk4_b V c t s k))
  generalize iblk4 V c 0 t = a
  generalize iblk4 V c 1 t = b
  pointwise [k4_pay1]

/-- The array the launch leaves. -/
theorem arr4 : (dat4 V c).arrAt 2 cfg4.N = dwoA (vO V c) (vY V c) := by
  refine (dat4 V c).arrAt_eq_of_covers 2 _ (by decide +kernel) fun t hf y => ?_
  blk_simp [idx4 t]
  rw [after4_2]
  obtain ⟨r, s, rfl⟩ : ∃ (r : Fin 512) (s : Fin 1024), y = ix2 r s := ⟨y 0, y 1, eq_ix2 y⟩
  have e : (win4_2.blk t).view.emb (ix2 r s) = ix2 (row4 t r) (col4 t s) := by
    blk_ext [idx4 t]
    all_goals rfl
  rw [e]
  unfold out4_2
  frame_out
  exact pay4 V c t r s

/-! ## The gradient of what is attended to -/

/-- The blocks each iteration names. -/
theorem idx5 : ∀ t : Fin cfg5.N, win5_0.index t = ![t.val / 2, 0] ∧ win5_1.index t = ![0, t.val % 2, 0] ∧ win5_2.index t = ![t.val / 2, t.val % 2] :=
  (by decide +kernel : ∀ t : Fin grid5.N, _)

/-- Row `r` of point `t`'s block, in the array, -/
def row5 (t : Fin cfg5.N) (r : Fin 1024) : Fin 4096 := ⟨t.val / 2 * 1024 + r.val, by have := t.isLt; have : cfg5.N = 8 := N_5; omega⟩
/-- and column `s`. -/
def col5 (t : Fin cfg5.N) (s : Fin 1024) : Fin 2048 := ⟨t.val % 2 * 1024 + s.val, by omega⟩

/-- A block of the first factor, -/
theorem blk5_a (t : Fin cfg5.N) (r : Fin 1024) (k : Fin 2048) : iblk5 V c 0 t (ix2 r k) = vY V c (ix2 (row5 t r) k) := by
  blk_point [iblk5, idx5 t, row5]

/-- and of the second. -/
theorem blk5_b (t : Fin cfg5.N) (s : Fin 1024) (k : Fin 2048) :
    iblk5 V c 1 t (ix3 0 s k) = vWo V c (ix3 0 (col5 t s) k) := by
  blk_point [iblk5, idx5 t, col5]

/-- The body's product. -/
theorem pay5 (t : Fin cfg5.N) (r : Fin 1024) (s : Fin 1024) :
    k5_pay1 (F := Ideal) (iblk5 V c 0 t) (iblk5 V c 1 t) (ix2 r s) = datt (vY V c) (vWo V c) (row5 t r) (col5 t s) := by
  refine Eq.trans ?_ (Finset.sum_congr rfl fun k _ => congrArg₂ (· * ·) (blk5_a V c t r k) (blk5_b V c t s k))
  generalize iblk5 V c 0 t = a
  generalize iblk5 V c 1 t = b
  pointwise [k5_pay1]

/-- The array the launch leaves. -/
theorem arr5 : (dat5 V c).arrAt 2 cfg5.N = dattA (vY V c) (vWo V c) := by
  refine (dat5 V c).arrAt_eq_of_covers 2 _ (by decide +kernel) fun t hf y => ?_
  blk_simp [idx5 t]
  rw [after5_2]
  obtain ⟨r, s, rfl⟩ : ∃ (r : Fin 1024) (s : Fin 1024), y = ix2 r s := ⟨y 0, y 1, eq_ix2 y⟩
  have e : (win5_2.blk t).view.emb (ix2 r s) = ix2 (row5 t r) (col5 t s) := by
    blk_ext [idx5 t]
    all_goals rfl
  rw [e]
  unfold out5_2
  frame_out
  exact pay5 V c t r s

/-! ## The gradient of the first weights -/

/-- The blocks each iteration names. -/
theorem idx7 : ∀ t : Fin cfg7.N, win7_0.index t = ![0, t.val / 2] ∧ win7_1.index t = ![0, t.val % 2] ∧ win7_2.index t = ![t.val / 2, t.val % 2] :=
  (by decide +kernel : ∀ t : Fin grid7.N, _)

/-- Row `r` of point `t`'s block, in the array, -/
def row7 (t : Fin cfg7.N) (r : Fin 512) : Fin 2048 := ⟨t.val / 2 * 512 + r.val, by have := t.isLt; have : cfg7.N = 8 := N_7; omega⟩
/-- and column `s`. -/
def col7 (t : Fin cfg7.N) (s : Fin 1024) : Fin 2048 := ⟨t.val % 2 * 1024 + s.val, by omega⟩

/-- A block of the first factor, -/
theorem blk7_a (t : Fin cfg7.N) (r : Fin 512) (k : Fin 4096) : iblk7 V c 0 t (ix2 k r) = vH V c (ix2 k (row7 t r)) := by
  blk_point [iblk7, idx7 t, row7]

/-- and of the second. -/
theorem blk7_b (t : Fin cfg7.N) (s : Fin 1024) (k : Fin 4096) :
    iblk7 V c 1 t (ix2 k s) = vDq V c (ix2 k (col7 t s)) := by
  blk_point [iblk7, idx7 t, col7]

/-- The body's product. -/
theorem pay7 (t : Fin cfg7.N) (r : Fin 512) (s : Fin 1024) :
    k7_pay1 (F := Ideal) (iblk7 V c 0 t) (iblk7 V c 1 t) (ix2 r s) = dwq (vH V c) (vDq V c) (row7 t r) (col7 t s) := by
  refine Eq.trans ?_ (Finset.sum_congr rfl fun k _ => congrArg₂ (· * ·) (blk7_a V c t r k) (blk7_b V c t s k))
  generalize iblk7 V c 0 t = a
  generalize iblk7 V c 1 t = b
  pointwise [k7_pay1]

/-- The array the launch leaves. -/
theorem arr7 : (dat7 V c).arrAt 2 cfg7.N = dwqA (vH V c) (vDq V c) := by
  refine (dat7 V c).arrAt_eq_of_covers 2 _ (by decide +kernel) fun t hf y => ?_
  blk_simp [idx7 t]
  rw [after7_2]
  obtain ⟨r, s, rfl⟩ : ∃ (r : Fin 512) (s : Fin 1024), y = ix2 r s := ⟨y 0, y 1, eq_ix2 y⟩
  have e : (win7_2.blk t).view.emb (ix2 r s) = ix2 (row7 t r) (col7 t s) := by
    blk_ext [idx7 t]
    all_goals rfl
  rw [e]
  unfold out7_2
  frame_out
  exact pay7 V c t r s

/-! ## The gradient of the input -/

/-- The blocks each iteration names. -/
theorem idx8 : ∀ t : Fin cfg8.N, win8_0.index t = ![t.val / 2, 0] ∧ win8_1.index t = ![0, t.val % 2, 0] ∧ win8_2.index t = ![t.val / 2, t.val % 2] :=
  (by decide +kernel : ∀ t : Fin grid8.N, _)

/-- Row `r` of point `t`'s block, in the array, -/
def row8 (t : Fin cfg8.N) (r : Fin 1024) : Fin 4096 := ⟨t.val / 2 * 1024 + r.val, by have := t.isLt; have : cfg8.N = 8 := N_8; omega⟩
/-- and column `s`. -/
def col8 (t : Fin cfg8.N) (s : Fin 1024) : Fin 2048 := ⟨t.val % 2 * 1024 + s.val, by omega⟩

/-- A block of the first factor, -/
theorem blk8_a (t : Fin cfg8.N) (r : Fin 1024) (k : Fin 2048) : iblk8 V c 0 t (ix2 r k) = vDq V c (ix2 (row8 t r) k) := by
  blk_point [iblk8, idx8 t, row8]

/-- and of the second. -/
theorem blk8_b (t : Fin cfg8.N) (s : Fin 1024) (k : Fin 2048) :
    iblk8 V c 1 t (ix3 0 s k) = vWq V c (ix3 0 (col8 t s) k) := by
  blk_point [iblk8, idx8 t, col8]

/-- The body's product. -/
theorem pay8 (t : Fin cfg8.N) (r : Fin 1024) (s : Fin 1024) :
    k8_pay1 (F := Ideal) (iblk8 V c 0 t) (iblk8 V c 1 t) (ix2 r s) = din (vDq V c) (vWq V c) (row8 t r) (col8 t s) := by
  refine Eq.trans ?_ (Finset.sum_congr rfl fun k _ => congrArg₂ (· * ·) (blk8_a V c t r k) (blk8_b V c t s k))
  generalize iblk8 V c 0 t = a
  generalize iblk8 V c 1 t = b
  pointwise [k8_pay1]

/-- The array the launch leaves. -/
theorem arr8 : (dat8 V c).arrAt 2 cfg8.N = dinA (vDq V c) (vWq V c) := by
  refine (dat8 V c).arrAt_eq_of_covers 2 _ (by decide +kernel) fun t hf y => ?_
  blk_simp [idx8 t]
  rw [after8_2]
  obtain ⟨r, s, rfl⟩ : ∃ (r : Fin 1024) (s : Fin 1024), y = ix2 r s := ⟨y 0, y 1, eq_ix2 y⟩
  have e : (win8_2.blk t).view.emb (ix2 r s) = ix2 (row8 t r) (col8 t s) := by
    blk_ext [idx8 t]
    all_goals rfl
  rw [e]
  unfold out8_2
  frame_out
  exact pay8 V c t r s

/-! ## The gradient of the second weights -/

/-- The blocks each iteration names. -/
theorem idx9 : ∀ t : Fin cfg9.N, win9_0.index t = ![0, t.val / 4] ∧ win9_1.index t = ![t.val % 4 / 2, 0, t.val % 4 % 2] ∧ win9_2.index t = ![t.val / 4, t.val % 4] :=
  (by decide +kernel : ∀ t : Fin grid9.N, _)

/-- Row `r` of point `t`'s block, in the array, -/
def row9 (t : Fin cfg9.N) (r : Fin 512) : Fin 2048 := ⟨t.val / 4 * 512 + r.val, by have := t.isLt; have : cfg9.N = 16 := N_9; omega⟩
/-- and column `s`. -/
def col9 (t : Fin cfg9.N) (s : Fin 1024) : Fin 4096 := ⟨t.val % 4 * 1024 + s.val, by omega⟩

/-- A block of the first factor, -/
theorem blk9_a (t : Fin cfg9.N) (r : Fin 512) (k : Fin 256) : iblk9 V c 0 t (ix2 k r) = vM V c (ix2 k (row9 t r)) := by
  blk_point [iblk9, idx9 t, row9]

/-- and of the second. -/
theorem blk9_b (t : Fin cfg9.N) (s : Fin 1024) (k : Fin 256) :
    iblk9 V c 1 t (ix3 0 k s) = vDkv V c (ix3 ⟨((col9 t s)).val / 2048, by have := (col9 t s).isLt; omega⟩ k ⟨((col9 t s)).val % 2048, Nat.mod_lt _ (by decide)⟩) := by
  blk_point [iblk9, idx9 t, col9]
  all_goals omega

/-- The body's product. -/
theorem pay9 (t : Fin cfg9.N) (r : Fin 512) (s : Fin 1024) :
    k9_pay1 (F := Ideal) (iblk9 V c 0 t) (iblk9 V c 1 t) (ix2 r s) = dwkv (vM V c) (vDkv V c) (row9 t r) (col9 t s) := by
  refine Eq.trans ?_ (Finset.sum_congr rfl fun k _ => congrArg₂ (· * ·) (blk9_a V c t r k) (blk9_b V c t s k))
  generalize iblk9 V c 0 t = a
  generalize iblk9 V c 1 t = b
  pointwise [k9_pay1]

/-- The array the launch leaves. -/
theorem arr9 : (dat9 V c).arrAt 2 cfg9.N = dwkvA (vM V c) (vDkv V c) := by
  refine (dat9 V c).arrAt_eq_of_covers 2 _ (by decide +kernel) fun t hf y => ?_
  blk_simp [idx9 t]
  rw [after9_2]
  obtain ⟨r, s, rfl⟩ : ∃ (r : Fin 512) (s : Fin 1024), y = ix2 r s := ⟨y 0, y 1, eq_ix2 y⟩
  have e : (win9_2.blk t).view.emb (ix2 r s) = ix2 (row9 t r) (col9 t s) := by
    blk_ext [idx9 t]
    all_goals rfl
  rw [e]
  unfold out9_2
  frame_out
  exact pay9 V c t r s

end Cert.Xa

end
-- ==== Proof.Xa.Head.lean ====
/- One head of the cross-attention's bodies: what the forward and the backward body store, in the words of the mathematics. -/
module

public import proofs.«01_k».proof.Proof.Gen.XaKernelIdeal.Skeleton
public import proofs.«01_k».proof.Proof.Attn.Head

@[expose] public section

set_option maxRecDepth 16384

noncomputable section

open Idealize.ShloMosaic Cert.XaKernelIdeal Cert.XaKernelIdeal.Gen
open Cert.KernelIdeal.Gen (k0_pay4 k0_pay22 k0_pay23 k0_pay24 k0_pay25)
open Cert.Attn (prob hscore ofBits_least)

namespace Cert.Xa.Head

/-- The values a body loads are kept as they are. -/
theorem keep (q : FVec Ideal S256x512 .bf16) : k6_pay6 (F := Ideal) q = q := shapeCast_self q _

variable (q g : FVec Ideal S256x512 .bf16) (k v : FVec Ideal S1x256x512 .bf16) (acc : FVec Ideal S1x256x512 .f32)

/-! ### The backward body's heads are the operations of the call proved by itself -/

/-- The first head's query gradient, -/
theorem dq_0 : k6_pay14 (F := Ideal) (k6_pay7 (F := Ideal) k) (k6_pay9 (F := Ideal) q k) (k6_pay11 (F := Ideal) g v) (k6_pay12 (F := Ideal) q k g v) = k0_pay24 (F := Ideal) q k g v :=
  (show _ = k0_pay24 (F := Ideal) (k6_pay6 (F := Ideal) q) k (k6_pay6 (F := Ideal) g) v from rfl).trans (by rw [keep, keep])

/-- its key gradient -/
theorem dk_0 : k6_pay15 (F := Ideal) (k6_pay6 (F := Ideal) q) (k6_pay9 (F := Ideal) q k) (k6_pay11 (F := Ideal) g v) (k6_pay12 (F := Ideal) q k g v) acc = k0_pay25 (F := Ideal) q (k0_pay23 (F := Ideal) q k g v) acc :=
  (show _ = k0_pay25 (F := Ideal) (k6_pay6 (F := Ideal) q) (k0_pay23 (F := Ideal) (k6_pay6 (F := Ideal) q) k (k6_pay6 (F := Ideal) g) v) acc from rfl).trans (by rw [keep, keep])

/-- and its value gradient; -/
theorem dv_0 : k6_pay10 (F := Ideal) q k g acc = k0_pay22 (F := Ideal) q k g acc :=
  (show _ = k0_pay22 (F := Ideal) (k6_pay6 (F := Ideal) q) k (k6_pay6 (F := Ideal) g) acc from rfl).trans (by rw [keep, keep])

/-- the second head's; -/
theorem dq_1 : k6_pay24 (F := Ideal) (k6_pay17 (F := Ideal) k) (k6_pay18 (F := Ideal) g) (k6_pay19 (F := Ideal) q k) (k6_pay20 (F := Ideal) q k) v = k0_pay24 (F := Ideal) q k g v :=
  (show _ = k0_pay24 (F := Ideal) (k6_pay6 (F := Ideal) q) k (k6_pay6 (F := Ideal) g) v from rfl).trans (by rw [keep, keep])

/-- the same, -/
theorem dk_1 : k6_pay25 (F := Ideal) (k6_pay16 (F := Ideal) q) (k6_pay18 (F := Ideal) g) (k6_pay19 (F := Ideal) q k) (k6_pay20 (F := Ideal) q k) v acc = k0_pay25 (F := Ideal) q (k0_pay23 (F := Ideal) q k g v) acc :=
  (show _ = k0_pay25 (F := Ideal) (k6_pay6 (F := Ideal) q) (k0_pay23 (F := Ideal) (k6_pay6 (F := Ideal) q) k (k6_pay6 (F := Ideal) g) v) acc from rfl).trans (by rw [keep, keep])

/-- the same; -/
theorem dv_1 : k6_pay22 (F := Ideal) (k6_pay18 (F := Ideal) g) (k6_pay19 (F := Ideal) q k) (k6_pay20 (F := Ideal) q k) acc = k0_pay22 (F := Ideal) q k g acc :=
  (show _ = k0_pay22 (F := Ideal) (k6_pay6 (F := Ideal) q) k (k6_pay6 (F := Ideal) g) acc from rfl).trans (by rw [keep, keep])

/-- the third head's; -/
theorem dq_2 : k6_pay32 (F := Ideal) (k6_pay27 (F := Ideal) k) (k6_pay31 (F := Ideal) q k g v) = k0_pay24 (F := Ideal) q k g v :=
  (show _ = k0_pay24 (F := Ideal) (k6_pay6 (F := Ideal) q) k (k6_pay6 (F := Ideal) g) v from rfl).trans (by rw [keep, keep])

/-- the same, -/
theorem dk_2 : k6_pay33 (F := Ideal) (k6_pay26 (F := Ideal) q) (k6_pay31 (F := Ideal) q k g v) acc = k0_pay25 (F := Ideal) q (k0_pay23 (F := Ideal) q k g v) acc :=
  (show _ = k0_pay25 (F := Ideal) (k6_pay6 (F := Ideal) q) (k0_pay23 (F := Ideal) (k6_pay6 (F := Ideal) q) k (k6_pay6 (F := Ideal) g) v) acc from rfl).trans (by rw [keep, keep])

/-- the same; -/
theorem dv_2 : k6_pay30 (F := Ideal) q k g acc = k0_pay22 (F := Ideal) q k g acc :=
  (show _ = k0_pay22 (F := Ideal) (k6_pay6 (F := Ideal) q) k (k6_pay6 (F := Ideal) g) acc from rfl).trans (by rw [keep, keep])

/-- the fourth head's, -/
theorem dq_3 : k6_pay3 (F := Ideal) (k6_pay35 (F := Ideal) k) (k6_pay36 (F := Ideal) g) (k6_pay37 (F := Ideal) q k) v = k0_pay24 (F := Ideal) q k g v :=
  (show _ = k0_pay24 (F := Ideal) (k6_pay6 (F := Ideal) q) k (k6_pay6 (F := Ideal) g) v from rfl).trans (by rw [keep, keep])

/-- the same, -/
theorem dk_3 : k6_pay4 (F := Ideal) (k6_pay34 (F := Ideal) q) (k6_pay36 (F := Ideal) g) (k6_pay37 (F := Ideal) q k) v acc = k0_pay25 (F := Ideal) q (k0_pay23 (F := Ideal) q k g v) acc :=
  (show _ = k0_pay25 (F := Ideal) (k6_pay6 (F := Ideal) q) (k0_pay23 (F := Ideal) (k6_pay6 (F := Ideal) q) k (k6_pay6 (F := Ideal) g) v) acc from rfl).trans (by rw [keep, keep])

/-- the same, -/
theorem dv_3 : k6_pay1 (F := Ideal) (k6_pay38 (F := Ideal) q k g acc) = k0_pay22 (F := Ideal) q k g acc :=
  (show _ = k0_pay22 (F := Ideal) (k6_pay6 (F := Ideal) q) k (k6_pay6 (F := Ideal) g) acc from rfl).trans (by rw [keep, keep])

/-- and the zeros the first iteration starts from. -/
theorem zeros : k6_pay5 (F := Ideal) = k0_pay4 (F := Ideal) := rfl

/-! ### The forward body's heads -/

/-- The first head is the third head's operations, -/
theorem att_0 : k2_pay2 (F := Ideal) q k v = k2_pay5 (F := Ideal) q k v := rfl

/-- and so is the second -/
theorem att_1 : k2_pay4 (F := Ideal) (k2_pay3 (F := Ideal) q k) v = k2_pay5 (F := Ideal) q k v := rfl

/-- and the fourth. -/
theorem att_3 : k2_pay1 (F := Ideal) (k2_pay6 (F := Ideal) q) k v = k2_pay5 (F := Ideal) q k v := rfl

/-- What a head stores: the values weighed by the softmax of the row's scores. -/
theorem at_att (r : Fin 256) (l : Fin 512) :
    k2_pay5 (F := Ideal) q k v (ix2 r l) = ∑ j, prob (hscore (fun l => q (ix2 r l)) fun i l => k (ix3 0 i l)) j * v (ix3 0 j l) := by
  pointwise [k2_pay5]
  rw [ofBits_least]
  rfl

end Cert.Xa.Head

end
-- ==== Proof.Xa.Point.lean ====
/- What one iteration of the cross-attention's two attention launches leaves in its output blocks. -/
module

public import proofs.«01_k».proof.Proof.Gen.XaKernelIdeal.Frame
public import proofs.«01_k».proof.Proof.Xa.Head
public import proofs.«01_k».proof.Proof.Attn.Point
public import Idealize.ShloMosaic.Lib.Pipeline.ValueKit
public import Idealize.ShloMosaic.Lib.Pipeline.ReadBack

@[expose] public section

set_option maxRecDepth 16384

noncomputable section

open Idealize.ShloMosaic Idealize.ShloMosaic.TcCoe Cert.XaKernelIdeal Cert.XaKernelIdeal.Gen
open Cert.Attn (prob score place headOf laneOf)
open Cert.Attn.Point (row mem outQ outKV addKV cols cols3 at_cols at_cols3 place_of piece_q piece_k piece_v)

namespace Cert.Xa.Point

/-! ### The forward body -/

/-- What a row attends to: in each head the values, weighed by the softmax of the row's scores. -/
def att (q : Fin 2048 → EReal) (K V : Fin 256 → Fin 2048 → EReal) (k : Fin 2048) : EReal :=
  ∑ j, prob (score q K (headOf k)) j * V j k

/-- The block of it. -/
def outO (q : FVec Ideal S256x2048 .bf16) (K : FVec Ideal S2x256x2048 .bf16) : FVec Ideal S256x2048 .bf16 := fun y =>
  att (row q (y 0)) (mem K 0) (mem K 1) (y 1)

/-- What is stored of head `h` is the head's columns of the block. -/
theorem piece_o (q : FVec Ideal S256x2048 .bf16) (K : FVec Ideal S2x256x2048 .bf16) {h : Fin 4} {o : ℕ} (ho : o = h.val * 512)
    (i : ∀ a, (![0, o] : Fin 2 → ℕ) a + S256x512.size a ≤ S256x2048.size a)
    (i0 : ∀ a, (![(0 : Fin 2).val, 0, o] : Fin 3 → ℕ) a + S1x256x512.size a ≤ S2x256x2048.size a)
    (i1 : ∀ a, (![(1 : Fin 2).val, 0, o] : Fin 3 → ℕ) a + S1x256x512.size a ≤ S2x256x2048.size a)
    (y : S256x2048.Idx) (x : S256x512.Idx) (hr : (y 0).val = (x 0).val) (hk : (y 1).val = o + (x 1).val) :
    k2_pay5 (F := Ideal) (cols q o i) (cols3 K 0 o i0) (cols3 K 1 o i1) x = outO q K y := by
  obtain ⟨r, l, rfl⟩ : ∃ (r : Fin 256) (l : Fin 512), x = ix2 r l := ⟨x 0, x 1, eq_ix2 x⟩
  obtain ⟨r', k, rfl⟩ : ∃ (r : Fin 256) (k : Fin 2048), y = ix2 r k := ⟨y 0, y 1, eq_ix2 y⟩
  obtain rfl : r' = r := Fin.ext hr
  obtain ⟨e1, -, e3⟩ := place_of (k := k) (l := l) ho hk
  rw [Head.at_att]
  simp only [at_cols ho, at_cols3 ho]
  show _ = ∑ j, prob (score (row q r') (mem K 0) (headOf k)) j * K (ix3 1 j k)
  rw [e1, e3]
  rfl

/-- The block the forward body leaves. -/
theorem fwd (q : FVec Ideal S256x2048 .bf16) (K : FVec Ideal S2x256x2048 .bf16) : out2_2 (F := Ideal) q K = outO q K := by
  funext y
  unfold out2_2
  canon_tiles x h
  · exact (congrFun (Head.att_3 ..) _).trans (piece_o q K (h := 3) (o := 1536) rfl _ _ _ y x (by omega) (by omega))
  · exact piece_o q K (h := 2) (o := 1024) rfl _ _ _ y x (by omega) (by omega)
  · exact (congrFun (Head.att_1 ..) _).trans (piece_o q K (h := 1) (o := 512) rfl _ _ _ y x (by omega) (by omega))
  · exact (congrFun (Head.att_0 ..) _).trans (piece_o q K (h := 0) (o := 0) rfl _ _ _ y x (by omega) (by omega))

/-! ### The backward body -/

variable (V : (c : Dev nD) → (b : Ref sig .tc) → Buf (Elt Ideal) ((c : Thread nD τ).loc b)) (c : Dev nD)

/-- The query gradients an iteration writes, the first or a later. -/
theorem dq_at (t : Fin cfg6.N) : (outsAt6 V c t.val t.isLt).1 = outQ (iblk6 V c 0 t) (iblk6 V c 2 t) (iblk6 V c 1 t) := by
  funext y
  by_cases ht : t.val % 16 = 0
  all_goals
    first | rw [outsAt6_A V c t ht] | rw [outsAt6_B V c t ht]
    frame_out
    generalize iblk6 V c 0 t = q
    generalize iblk6 V c 1 t = K
    generalize iblk6 V c 2 t = g
    canon_tiles x h
    · exact (congrFun (Head.dq_3 ..) _).trans (piece_q q g K (h := 3) (o := 1536) rfl _ _ _ y x (by omega) (by omega))
    · exact (congrFun (Head.dq_2 ..) _).trans (piece_q q g K (h := 2) (o := 1024) rfl _ _ _ y x (by omega) (by omega))
    · exact (congrFun (Head.dq_1 ..) _).trans (piece_q q g K (h := 1) (o := 512) rfl _ _ _ y x (by omega) (by omega))
    · exact (congrFun (Head.dq_0 ..) _).trans (piece_q q g K (h := 0) (o := 0) rfl _ _ _ y x (by omega) (by omega))

/-- The key and value gradients after the first iteration: its rows' contribution over zero. -/
theorem dkv_first (t : Fin cfg6.N) (ht : t.val % 16 = 0) :
    (outsAt6 V c t.val t.isLt).2 = outKV (iblk6 V c 0 t) (iblk6 V c 2 t) (iblk6 V c 1 t) (k6_pay5 (F := Ideal)) := by
  funext y
  rw [outsAt6_A V c t ht]
  frame_open
  simp (disch := decide) only [↓ View.readCov_skip, ↓ View.readCov_cons_toLoadRect, ↓ View.readCov_fill]
  frame_out
  generalize iblk6 V c 0 t = q
  generalize iblk6 V c 1 t = K
  generalize iblk6 V c 2 t = g
  refine View.canon_append_of_piecesOf (Val := Elt Ideal) (e := .f32) (outKV q g K (k6_pay5 (F := Ideal))) [_] [_, _, _, _, _, _, _, _]
    ⟨fun x => ?_, fun x => ?_, fun x => ?_, fun x => ?_, fun x => ?_, fun x => ?_, fun x => ?_, fun x => ?_, trivial⟩ y (View.cover_of_tiledL (s := S2x256x2048) _ S1x256x512.size (by sl_kernel_rfl) y)
  · exact (congrFun (Head.dk_3 ..) x).trans (piece_k q g K (k6_pay5 (F := Ideal)) (h := 3) (o := 1536) rfl inb_S256x2048_S256x512_0_1536 inb_S2x256x2048_S1x256x512_0_0_1536 inb_S2x256x2048_S1x256x512_1_0_1536 x)
  · exact (congrFun (Head.dv_3 ..) x).trans (piece_v q g K (k6_pay5 (F := Ideal)) (h := 3) (o := 1536) rfl inb_S256x2048_S256x512_0_1536 inb_S2x256x2048_S1x256x512_0_0_1536 inb_S2x256x2048_S1x256x512_1_0_1536 x)
  · exact (congrFun (Head.dk_2 ..) x).trans (piece_k q g K (k6_pay5 (F := Ideal)) (h := 2) (o := 1024) rfl inb_S256x2048_S256x512_0_1024 inb_S2x256x2048_S1x256x512_0_0_1024 inb_S2x256x2048_S1x256x512_1_0_1024 x)
  · exact (congrFun (Head.dv_2 ..) x).trans (piece_v q g K (k6_pay5 (F := Ideal)) (h := 2) (o := 1024) rfl inb_S256x2048_S256x512_0_1024 inb_S2x256x2048_S1x256x512_0_0_1024 inb_S2x256x2048_S1x256x512_1_0_1024 x)
  · exact (congrFun (Head.dk_1 ..) x).trans (piece_k q g K (k6_pay5 (F := Ideal)) (h := 1) (o := 512) rfl inb_S256x2048_S256x512_0_512 inb_S2x256x2048_S1x256x512_0_0_512 inb_S2x256x2048_S1x256x512_1_0_512 x)
  · exact (congrFun (Head.dv_1 ..) x).trans (piece_v q g K (k6_pay5 (F := Ideal)) (h := 1) (o := 512) rfl inb_S256x2048_S256x512_0_512 inb_S2x256x2048_S1x256x512_0_0_512 inb_S2x256x2048_S1x256x512_1_0_512 x)
  · exact (congrFun (Head.dk_0 ..) x).trans (piece_k q g K (k6_pay5 (F := Ideal)) (h := 0) (o := 0) rfl inb_S256x2048_S256x512_0_0 inb_S2x256x2048_S1x256x512_0_0_0 inb_S2x256x2048_S1x256x512_1_0_0 x)
  · exact (congrFun (Head.dv_0 ..) x).trans (piece_v q g K (k6_pay5 (F := Ideal)) (h := 0) (o := 0) rfl inb_S256x2048_S256x512_0_0 inb_S2x256x2048_S1x256x512_0_0_0 inb_S2x256x2048_S1x256x512_1_0_0 x)

/-- The key and value gradients after a later iteration: its rows' contribution over what the one before left. -/
theorem dkv_later (t : Fin cfg6.N) (ht : ¬t.val % 16 = 0) :
    (outsAt6 V c t.val t.isLt).2
      = outKV (iblk6 V c 0 t) (iblk6 V c 2 t) (iblk6 V c 1 t) (outsAt6 V c (t.val - 1) (Nat.lt_of_le_of_lt (Nat.sub_le _ _) t.isLt)).2 := by
  funext y
  rw [outsAt6_B V c t ht]
  generalize (outsAt6 V c (t.val - 1) (Nat.lt_of_le_of_lt (Nat.sub_le _ _) t.isLt)).2 = old
  frame_open
  try simp (disch := decide) only [↓ View.readCov_skip, ↓ View.readCov_cons_toLoadRect, ↓ View.readCov_fill]
  frame_out
  generalize iblk6 V c 0 t = q
  generalize iblk6 V c 1 t = K
  generalize iblk6 V c 2 t = g
  refine View.canon_append_of_piecesOf (Val := Elt Ideal) (e := .f32) (outKV q g K old) [] [_, _, _, _, _, _, _, _]
    ⟨fun x => ?_, fun x => ?_, fun x => ?_, fun x => ?_, fun x => ?_, fun x => ?_, fun x => ?_, fun x => ?_, trivial⟩ y (View.cover_of_tiledL (s := S2x256x2048) _ S1x256x512.size (by sl_kernel_rfl) y)
  · exact (congrFun (Head.dk_3 ..) x).trans (piece_k q g K old (h := 3) (o := 1536) rfl inb_S256x2048_S256x512_0_1536 inb_S2x256x2048_S1x256x512_0_0_1536 inb_S2x256x2048_S1x256x512_1_0_1536 x)
  · exact (congrFun (Head.dv_3 ..) x).trans (piece_v q g K old (h := 3) (o := 1536) rfl inb_S256x2048_S256x512_0_1536 inb_S2x256x2048_S1x256x512_0_0_1536 inb_S2x256x2048_S1x256x512_1_0_1536 x)
  · exact (congrFun (Head.dk_2 ..) x).trans (piece_k q g K old (h := 2) (o := 1024) rfl inb_S256x2048_S256x512_0_1024 inb_S2x256x2048_S1x256x512_0_0_1024 inb_S2x256x2048_S1x256x512_1_0_1024 x)
  · exact (congrFun (Head.dv_2 ..) x).trans (piece_v q g K old (h := 2) (o := 1024) rfl inb_S256x2048_S256x512_0_1024 inb_S2x256x2048_S1x256x512_0_0_1024 inb_S2x256x2048_S1x256x512_1_0_1024 x)
  · exact (congrFun (Head.dk_1 ..) x).trans (piece_k q g K old (h := 1) (o := 512) rfl inb_S256x2048_S256x512_0_512 inb_S2x256x2048_S1x256x512_0_0_512 inb_S2x256x2048_S1x256x512_1_0_512 x)
  · exact (congrFun (Head.dv_1 ..) x).trans (piece_v q g K old (h := 1) (o := 512) rfl inb_S256x2048_S256x512_0_512 inb_S2x256x2048_S1x256x512_0_0_512 inb_S2x256x2048_S1x256x512_1_0_512 x)
  · exact (congrFun (Head.dk_0 ..) x).trans (piece_k q g K old (h := 0) (o := 0) rfl inb_S256x2048_S256x512_0_0 inb_S2x256x2048_S1x256x512_0_0_0 inb_S2x256x2048_S1x256x512_1_0_0 x)
  · exact (congrFun (Head.dv_0 ..) x).trans (piece_v q g K old (h := 0) (o := 0) rfl inb_S256x2048_S256x512_0_0 inb_S2x256x2048_S1x256x512_0_0_0 inb_S2x256x2048_S1x256x512_1_0_0 x)

end Cert.Xa.Point

end
-- ==== Proof.Xa.Att.lean ====
/- The arrays left by the cross-attention's two attention launches, each from the contents it is entered with. -/
module

public import proofs.«01_k».proof.Proof.Xa.Array
public import proofs.«01_k».proof.Proof.Xa.Point

@[expose] public section

set_option maxRecDepth 16384

noncomputable section

open Idealize.ShloMosaic Idealize.ShloMosaic.TcCoe Cert.XaKernelIdeal Cert.XaKernelIdeal.Gen
open Cert.Attn (prob score gradQ gradK gradV headOf laneOf)

namespace Cert.Xa

/-- Row `i` of an array of rows, -/
abbrev row (X : FVec Ideal S4096x2048 .bf16) (i : Fin 4096) : Fin 2048 → EReal := fun k => X (ix2 i k)

/-- and the keys (`a = 0`) or values (`a = 1`). -/
abbrev mem (X : FVec Ideal S2x256x2048 .bf16) (a : Fin 2) : Fin 256 → Fin 2048 → EReal := fun j k => X (ix3 a j k)

/-- What the rows attend to, -/
def attA (Q : FVec Ideal S4096x2048 .bf16) (KV : FVec Ideal S2x256x2048 .bf16) : FVec Ideal S4096x2048 .bf16 := fun y =>
  Point.att (row Q (y 0)) (mem KV 0) (mem KV 1) (y 1)

/-- the gradient of the queries, -/
def dqA (Q : FVec Ideal S4096x2048 .bf16) (KV : FVec Ideal S2x256x2048 .bf16) (G : FVec Ideal S4096x2048 .bf16) : FVec Ideal S4096x2048 .bf16 := fun y =>
  gradQ (row Q (y 0)) (mem KV 0) (mem KV 1) (row G (y 0)) (headOf (y 1)) (laneOf (y 1))

/-- that of a key's or a value's entry, -/
def dkv (Q : FVec Ideal S4096x2048 .bf16) (KV : FVec Ideal S2x256x2048 .bf16) (G : FVec Ideal S4096x2048 .bf16) (a : Fin 2) (j : Fin 256) (k : Fin 2048) : EReal :=
  if a = 0 then ∑ i, gradK (row Q i) (mem KV 0) (mem KV 1) (row G i) (headOf k) j (laneOf k)
  else ∑ i, gradV (row Q i) (mem KV 0) (row G i) (headOf k) j (laneOf k)

/-- and the array of them, -/
def dkvA (Q : FVec Ideal S4096x2048 .bf16) (KV : FVec Ideal S2x256x2048 .bf16) (G : FVec Ideal S4096x2048 .bf16) : FVec Ideal S2x256x2048 .f32 := fun y =>
  dkv Q KV G (y 0) (y 1) (y 2)

/-- cast to the narrower type. -/
def dkvB (Q : FVec Ideal S4096x2048 .bf16) (KV : FVec Ideal S2x256x2048 .bf16) (G : FVec Ideal S4096x2048 .bf16) : FVec Ideal S2x256x2048 .bf16 :=
  truncf .bf16 (dkvA Q KV G) bitsLt_bf16_f32

variable (V : (c : Dev nD) → (b : Ref sig .tc) → Buf (Elt Ideal) ((c : Thread nD τ).loc b)) (c : Dev nD)

/-! ## The forward launch -/

/-- The blocks each iteration names: its own rows, the whole memory. -/
theorem idx2 : ∀ t : Fin cfg2.N, win2_0.index t = ![t.val, 0] ∧ win2_1.index t = ![0, 0, 0] ∧ win2_2.index t = ![t.val, 0] :=
  (by decide +kernel : ∀ t : Fin grid2.N, _)

/-- Row `r` of iteration `t`'s block, in the array. -/
def row2 (t : Fin cfg2.N) (r : Fin 256) : Fin 4096 := ⟨t.val * 256 + r.val, by have := t.isLt; have : cfg2.N = 16 := N_2; omega⟩

/-- A block of the queries, -/
theorem blk2_q (t : Fin cfg2.N) (r : Fin 256) (k : Fin 2048) : iblk2 V c 0 t (ix2 r k) = vQ V c (ix2 (row2 t r) k) := by
  blk_point [iblk2, idx2 t]
  rfl

/-- and of the keys and the values. -/
theorem blk2_kv (t : Fin cfg2.N) (b : Fin 2) (j : Fin 256) (k : Fin 2048) : iblk2 V c 1 t (ix3 b j k) = vKV V c (ix3 b j k) := by
  blk_point [iblk2, idx2 t]

/-- The array the launch leaves. -/
theorem arr2 : (dat2 V c).arrAt 2 cfg2.N = attA (vQ V c) (vKV V c) := by
  refine (dat2 V c).arrAt_eq_of_covers 2 _ (by decide +kernel) fun t hf y => ?_
  blk_simp [idx2 t]
  rw [after2_2, Point.fwd]
  obtain ⟨r, k, rfl⟩ : ∃ (r : Fin 256) (k : Fin 2048), y = ix2 r k := ⟨y 0, y 1, eq_ix2 y⟩
  have e : (win2_2.blk t).view.emb (ix2 r k) = ix2 (row2 t r) k := by
    blk_ext [idx2 t]
    rfl
  rw [e]
  show Point.att (Cert.Attn.Point.row _ r) (Cert.Attn.Point.mem _ 0) (Cert.Attn.Point.mem _ 1) k = Point.att _ _ _ k
  congr 1
  · exact funext fun k => blk2_q V c t r k
  · exact funext fun j => funext fun k => blk2_kv V c t 0 j k
  · exact funext fun j => funext fun k => blk2_kv V c t 1 j k

/-! ## The backward launch -/

/-- The blocks each iteration names: its own rows of the queries and of the gradient, the whole memory. -/
theorem idx6 : ∀ t : Fin cfg6.N, win6_0.index t = ![t.val, 0] ∧ win6_1.index t = ![0, 0, 0] ∧ win6_2.index t = ![t.val, 0]
    ∧ win6_3.index t = ![t.val, 0] ∧ win6_4.index t = ![0, 0, 0] :=
  (by decide +kernel : ∀ t : Fin grid6.N, _)

/-- Row `r` of iteration `t`'s block, in the array. -/
def row6 (t : Fin cfg6.N) (r : Fin 256) : Fin 4096 := ⟨t.val * 256 + r.val, by have := t.isLt; have : cfg6.N = 16 := N_6; omega⟩

/-- A row of a block of the queries, -/
theorem rows6_q (t : Fin cfg6.N) (r : Fin 256) : Cert.Attn.Point.row (iblk6 V c 0 t) r = row (vQ V c) (row6 t r) := by
  funext k
  show iblk6 V c 0 t (ix2 r k) = vQ V c (ix2 (row6 t r) k)
  blk_point [iblk6, idx6 t]
  rfl

/-- and of the gradient, -/
theorem rows6_g (t : Fin cfg6.N) (r : Fin 256) : Cert.Attn.Point.row (iblk6 V c 2 t) r = row (vG V c) (row6 t r) := by
  funext k
  show iblk6 V c 2 t (ix2 r k) = vG V c (ix2 (row6 t r) k)
  blk_point [iblk6, idx6 t]
  rfl

/-- and the keys or the values. -/
theorem mem6 (t : Fin cfg6.N) (b : Fin 2) : Cert.Attn.Point.mem (iblk6 V c 1 t) b = mem (vKV V c) b := by
  funext j k
  show iblk6 V c 1 t (ix3 b j k) = vKV V c (ix3 b j k)
  blk_point [iblk6, idx6 t]

/-- The array of query gradients. -/
theorem arr6_q : (dat6 V c).arrAt 3 cfg6.N = dqA (vQ V c) (vKV V c) (vG V c) := by
  refine (dat6 V c).arrAt_eq_of_covers 3 _ (by decide +kernel) fun t hf y => ?_
  blk_simp [idx6 t]
  rw [after6_3, Point.dq_at]
  obtain ⟨r, k, rfl⟩ : ∃ (r : Fin 256) (k : Fin 2048), y = ix2 r k := ⟨y 0, y 1, eq_ix2 y⟩
  have e : (win6_3.blk t).view.emb (ix2 r k) = ix2 (row6 t r) k := by
    blk_ext [idx6 t]
    rfl
  rw [e]
  show gradQ (Cert.Attn.Point.row _ r) (Cert.Attn.Point.mem _ 0) (Cert.Attn.Point.mem _ 1) (Cert.Attn.Point.row _ r) (headOf k) (laneOf k)
    = gradQ _ _ _ _ (headOf k) (laneOf k)
  congr 1
  · exact rows6_q V c t r
  · exact mem6 V c t 0
  · exact mem6 V c t 1
  · exact rows6_g V c t r

/-- Every iteration's contribution to the gradients of the keys and the values, added up, is the sum over all rows. -/
theorem sum6 (a : Fin 2) (j : Fin 256) (k : Fin 2048) :
    ∑ t : Fin cfg6.N, Cert.Attn.Point.addKV (iblk6 V c 0 t) (iblk6 V c 2 t) (iblk6 V c 1 t) a j k = dkv (vQ V c) (vKV V c) (vG V c) a j k := by
  unfold Cert.Attn.Point.addKV dkv
  by_cases ha : a = 0
  · simp only [if_pos ha]
    refine Fin.sum_mul_add_congr (S := cfg6.N) (n := 256)
      (F := fun t r => gradK (Cert.Attn.Point.row (iblk6 V c 0 t) r) (Cert.Attn.Point.mem (iblk6 V c 1 t) 0) (Cert.Attn.Point.mem (iblk6 V c 1 t) 1)
        (Cert.Attn.Point.row (iblk6 V c 2 t) r) (headOf k) j (laneOf k)) fun t r hl => ?_
    simp only [rows6_q, rows6_g, mem6]
    rfl
  · simp only [if_neg ha]
    refine Fin.sum_mul_add_congr (S := cfg6.N) (n := 256)
      (F := fun t r => gradV (Cert.Attn.Point.row (iblk6 V c 0 t) r) (Cert.Attn.Point.mem (iblk6 V c 1 t) 0)
        (Cert.Attn.Point.row (iblk6 V c 2 t) r) (headOf k) j (laneOf k)) fun t r hl => ?_
    simp only [rows6_q, rows6_g, mem6]
    rfl

/-- The array of key and value gradients. -/
theorem arr6_kv : (dat6 V c).arrAt 4 cfg6.N = dkvA (vQ V c) (vKV V c) (vG V c) := by
  refine (dat6 V c).arrAt_eq_of_after_last 4 t6_15 (by decide +kernel) _ fun y => ?_
  blk_simp [idx6 t6_15]
  have first : ∀ t : Fin cfg6.N, t.val % 16 = 0 → ∀ y : S2x256x2048.Idx, (outsAt6 V c t.val t.isLt).2 y
      = 0 + Cert.Attn.Point.addKV (iblk6 V c 0 t) (iblk6 V c 2 t) (iblk6 V c 1 t) (y 0) (y 1) (y 2) := fun t h y =>
    (congrFun (Point.dkv_first V c t h) y).trans (congrArg (· + _) Ideal.ofBits_zero_f32)
  have later : ∀ t : Fin cfg6.N, ¬t.val % 16 = 0 → ∀ y : S2x256x2048.Idx, (outsAt6 V c t.val t.isLt).2 y
      = (outsAt6 V c (t.val - 1) (Nat.lt_of_le_of_lt (Nat.sub_le _ _) t.isLt)).2 y
        + Cert.Attn.Point.addKV (iblk6 V c 0 t) (iblk6 V c 2 t) (iblk6 V c 1 t) (y 0) (y 1) (y 2) := fun t h y =>
    congrFun (Point.dkv_later V c t h) y
  rw [after6_4, Pipeline.eq_sum_fin_of_reset_step_apply_last (M := EReal) (fun n h => (outsAt6 V c n h).2) 16 (fun _ => 0)
    (fun t y => Cert.Attn.Point.addKV (iblk6 V c 0 t) (iblk6 V c 2 t) (iblk6 V c 1 t) (y 0) (y 1) (y 2)) first later (le_of_eq N_6) t6_15 rfl y]
  exact (congrArg ((0 : EReal) + ·) (sum6 V c (y 0) (y 1) (y 2))).trans (zero_add (dkvA (vQ V c) (vKV V c) (vG V c) y : EReal))

end Cert.Xa

end
-- ==== Proof.Xa.Run.lean ====
/- The ten launches of the cross-attention layer, run one after another: what the results hold when the last has ended. -/
module

public import proofs.«01_k».proof.Proof.Gen.XaKernelIdeal.Frame

@[expose] public section

set_option maxRecDepth 16384

noncomputable section

namespace Cert.Xa

open Cert.XaKernelIdeal Cert.XaKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The layer's output is touched by none of the launches that follow, -/
theorem end_out : W11 m ρ c (Proc.devRef .tc main_v3) = (dat3 (V3 m ρ) c).arrAt 2 cfg3.N :=
  (W11_of m ρ c main_v3 (by decide)).trans ((W10_of m ρ c main_v3 (by decide)).trans ((W9_of m ρ c main_v3 (by decide)).trans ((W8_of m ρ c main_v3 (by decide)).trans ((W7_of m ρ c main_v3 (by decide)).trans ((W6_of m ρ c main_v3 (by decide)).trans ((W5_of m ρ c main_v3 (by decide)).trans (W4_arr m ρ c 2)))))))

/-- nor is the input's gradient, -/
theorem end_din : W11 m ρ c (Proc.devRef .tc main_v8) = (dat8 (V8 m ρ) c).arrAt 2 cfg8.N :=
  (W11_of m ρ c main_v8 (by decide)).trans ((W10_of m ρ c main_v8 (by decide)).trans (W9_arr m ρ c 2))

/-- nor the first weights' gradient, -/
theorem end_dwq : W11 m ρ c (Proc.devRef .tc main_v7) = (dat7 (V7 m ρ) c).arrAt 2 cfg7.N :=
  (W11_of m ρ c main_v7 (by decide)).trans ((W10_of m ρ c main_v7 (by decide)).trans ((W9_of m ρ c main_v7 (by decide)).trans (W8_arr m ρ c 2)))

/-- nor the third weights'. -/
theorem end_dwo : W11 m ρ c (Proc.devRef .tc main_v4) = (dat4 (V4 m ρ) c).arrAt 2 cfg4.N :=
  (W11_of m ρ c main_v4 (by decide)).trans ((W10_of m ρ c main_v4 (by decide)).trans ((W9_of m ρ c main_v4 (by decide)).trans ((W8_of m ρ c main_v4 (by decide)).trans ((W7_of m ρ c main_v4 (by decide)).trans ((W6_of m ρ c main_v4 (by decide)).trans (W5_arr m ρ c 2))))))

/-- The second weights' gradient is made by the last launch. -/
theorem end_dwkv : W11 m ρ c (Proc.devRef .tc main_v10) = (dat9 (V10 m ρ) c).arrAt 2 cfg9.N := W11_arr m ρ c 2

/-- The keys' and values' gradients are as the last launch finds them. -/
theorem end_dkv : W11 m ρ c (Proc.devRef .tc main_v9) = V10 m ρ c main_v9 := W11_of m ρ c main_v9 (by decide)

/-- The last launch finds the keys' and values' gradients of the seventh, cast. -/
theorem in10_v9 : V10 m ρ c main_v9 = truncf .bf16 ((dat6 (V6 m ρ) c).arrAt 4 cfg6.N) bitsLt_bf16_f32 := by
  refine Eq.trans ?_ (congrArg (fun x : (⟨S2x256x2048, .f32⟩ : BufTy).Contents (Elt F) => truncf .bf16 x bitsLt_bf16_f32) ((W9_of m ρ c main_v6_1 (by decide)).trans ((W8_of m ρ c main_v6_1 (by decide)).trans (W7_arr m ρ c 4))))
  rfl

/-- Launch 1 finds its argument as launched. -/
theorem in0_arg0 : V0 m ρ c main_arg0 = m ((c : Thread nD τ).loc main_arg0) := rfl

/-- Launch 1 finds its argument as launched. -/
theorem in0_arg2 : V0 m ρ c main_arg2 = m ((c : Thread nD τ).loc main_arg2) := rfl

/-- Launch 2 finds its argument as launched. -/
theorem in1_arg1 : V1 m ρ c main_arg1 = m ((c : Thread nD τ).loc main_arg1) := W1_args m ρ c main_arg1 (by decide)

/-- Launch 2 finds its argument as launched. -/
theorem in1_arg3 : V1 m ρ c main_arg3 = m ((c : Thread nD τ).loc main_arg3) := W1_args m ρ c main_arg3 (by decide)

/-- Launch 4 finds its argument as launched. -/
theorem in3_arg4 : V3 m ρ c main_arg4 = m ((c : Thread nD τ).loc main_arg4) := W3_args m ρ c main_arg4 (by decide)

/-- Launch 5 finds its argument as launched. -/
theorem in4_arg5 : V4 m ρ c main_arg5 = m ((c : Thread nD τ).loc main_arg5) := W4_args m ρ c main_arg5 (by decide)

/-- Launch 6 finds its argument as launched. -/
theorem in5_arg5 : V5 m ρ c main_arg5 = m ((c : Thread nD τ).loc main_arg5) := W5_args m ρ c main_arg5 (by decide)

/-- Launch 6 finds its argument as launched. -/
theorem in5_arg4 : V5 m ρ c main_arg4 = m ((c : Thread nD τ).loc main_arg4) := W5_args m ρ c main_arg4 (by decide)

/-- Launch 8 finds its argument as launched. -/
theorem in7_arg0 : V7 m ρ c main_arg0 = m ((c : Thread nD τ).loc main_arg0) := W7_args m ρ c main_arg0 (by decide)

/-- Launch 9 finds its argument as launched. -/
theorem in8_arg2 : V8 m ρ c main_arg2 = m ((c : Thread nD τ).loc main_arg2) := W8_args m ρ c main_arg2 (by decide)

/-- The last launch finds its argument as launched. -/
theorem in10_arg1 : V10 m ρ c main_arg1 = m ((c : Thread nD τ).loc main_arg1) := W10_args m ρ c main_arg1 (by decide)

/-- The third launch finds the queries -/
theorem in2_v0 : V2 m ρ c main_v0 = (dat0 (V0 m ρ) c).arrAt 2 cfg0.N :=
  (W2_of m ρ c main_v0 (by decide)).trans (W1_arr m ρ c 2)

/-- and the keys and values, -/
theorem in2_v1 : V2 m ρ c main_v1 = (dat1 (V1 m ρ) c).arrAt 2 cfg1.N :=
  W2_arr m ρ c 2

/-- the fourth what is attended to, -/
theorem in3_v2 : V3 m ρ c main_v2 = (dat2 (V2 m ρ) c).arrAt 2 cfg2.N :=
  W3_arr m ρ c 2

/-- and so does the fifth; -/
theorem in4_v2 : V4 m ρ c main_v2 = (dat2 (V2 m ρ) c).arrAt 2 cfg2.N :=
  (W4_of m ρ c main_v2 (by decide)).trans (W3_arr m ρ c 2)

/-- the seventh finds the queries, -/
theorem in6_v0 : V6 m ρ c main_v0 = (dat0 (V0 m ρ) c).arrAt 2 cfg0.N :=
  (W6_of m ρ c main_v0 (by decide)).trans ((W5_of m ρ c main_v0 (by decide)).trans ((W4_of m ρ c main_v0 (by decide)).trans ((W3_of m ρ c main_v0 (by decide)).trans ((W2_of m ρ c main_v0 (by decide)).trans (W1_arr m ρ c 2)))))

/-- the keys and values -/
theorem in6_v1 : V6 m ρ c main_v1 = (dat1 (V1 m ρ) c).arrAt 2 cfg1.N :=
  (W6_of m ρ c main_v1 (by decide)).trans ((W5_of m ρ c main_v1 (by decide)).trans ((W4_of m ρ c main_v1 (by decide)).trans ((W3_of m ρ c main_v1 (by decide)).trans (W2_arr m ρ c 2))))

/-- and the gradient of what is attended to, -/
theorem in6_v5 : V6 m ρ c main_v5 = (dat5 (V5 m ρ) c).arrAt 2 cfg5.N :=
  W6_arr m ρ c 2

/-- the eighth the queries' gradient, -/
theorem in7_v6 : V7 m ρ c main_v6_0 = (dat6 (V6 m ρ) c).arrAt 3 cfg6.N :=
  W7_arr m ρ c 3

/-- and so does the ninth. -/
theorem in8_v6 : V8 m ρ c main_v6_0 = (dat6 (V6 m ρ) c).arrAt 3 cfg6.N :=
  (W8_of m ρ c main_v6_0 (by decide)).trans (W7_arr m ρ c 3)

set_option backward.isDefEq.respectTransparency.types false in
/-- The run: each result ends as its own launch leaves it, and the arguments as launched. -/
theorem run : θ_run defs (onTc (τ := τ) (main (F := F))) ⟨m, fun _ => 0, ρ⟩ (fun r => ∀ c : Dev nD,
      (r.2.mem ((c.tc : Thread nD τ).loc main_v3) = (dat3 (V3 m ρ) c).arrAt 2 cfg3.N
      ∧ r.2.mem ((c.tc : Thread nD τ).loc main_v8) = (dat8 (V8 m ρ) c).arrAt 2 cfg8.N
      ∧ r.2.mem ((c.tc : Thread nD τ).loc main_v9) = V10 m ρ c main_v9
      ∧ r.2.mem ((c.tc : Thread nD τ).loc main_v7) = (dat7 (V7 m ρ) c).arrAt 2 cfg7.N
      ∧ r.2.mem ((c.tc : Thread nD τ).loc main_v10) = (dat9 (V10 m ρ) c).arrAt 2 cfg9.N
      ∧ r.2.mem ((c.tc : Thread nD τ).loc main_v4) = (dat4 (V4 m ρ) c).arrAt 2 cfg4.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h _ c =>
      ⟨⟨(h c _ (mem_uc main_v3 (by decide))).trans (end_out m ρ c),
        (h c _ (mem_uc main_v8 (by decide))).trans (end_din m ρ c),
        (h c _ (mem_uc main_v9 (by decide))).trans (end_dkv m ρ c),
        (h c _ (mem_uc main_v7 (by decide))).trans (end_dwq m ρ c),
        (h c _ (mem_uc main_v10 (by decide))).trans (end_dwkv m ρ c),
        (h c _ (mem_uc main_v4 (by decide))).trans (end_dwo m ρ c)⟩,
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c)⟩)

end Cert.Xa

end
-- ==== Proof.Xa.Final.lean ====
/- What the ten launches of the cross-attention layer leave, from the arguments as launched. -/
module

public import proofs.«01_k».proof.Proof.Xa.Att
public import proofs.«01_k».proof.Proof.Xa.Run

@[expose] public section

set_option maxRecDepth 16384

noncomputable section

open Idealize.ShloMosaic Idealize.ShloMosaic.TcCoe Cert.XaKernelIdeal Cert.XaKernelIdeal.Gen

namespace Cert.Xa

variable (m : (ℓ : Loc nD τ sig) → Buf (Elt Ideal) ℓ) (ρ : Dev nD → PrngReg) (c : Dev nD)

/-- The layer's input as launched, -/
abbrev H : FVec Ideal S4096x2048 .bf16 := m ((c : Thread nD τ).loc main_arg0)
/-- the memory, -/
abbrev M : FVec Ideal S256x2048 .bf16 := m ((c : Thread nD τ).loc main_arg1)
/-- the first weights, -/
abbrev Wq : FVec Ideal S1x2048x2048 .bf16 := m ((c : Thread nD τ).loc main_arg2)
/-- the second, -/
abbrev Wkv : FVec Ideal S1x2048x4096 .bf16 := m ((c : Thread nD τ).loc main_arg3)
/-- the third, -/
abbrev Wo : FVec Ideal S1x2048x2048 .bf16 := m ((c : Thread nD τ).loc main_arg4)
/-- and the output's gradient. -/
abbrev Y : FVec Ideal S4096x2048 .bf16 := m ((c : Thread nD τ).loc main_arg5)

/-- The queries they make, -/
abbrev Q : FVec Ideal S4096x2048 .bf16 := qryA (H m c) (Wq m c)
/-- the keys and the values, -/
abbrev KV : FVec Ideal S2x256x2048 .bf16 := kvsA (M m c) (Wkv m c)
/-- what is attended to, -/
abbrev O : FVec Ideal S4096x2048 .bf16 := attA (Q m c) (KV m c)
/-- and its gradient. -/
abbrev G : FVec Ideal S4096x2048 .bf16 := dattA (Y m c) (Wo m c)

/-- The queries, from the arguments as launched; -/
theorem final_q : (dat0 (V0 m ρ) c).arrAt 2 cfg0.N = Q m c :=
  (arr0 (V0 m ρ) c).trans (congrArg₂ qryA (in0_arg0 m ρ c) (in0_arg2 m ρ c))

/-- the keys and the values; -/
theorem final_kv : (dat1 (V1 m ρ) c).arrAt 2 cfg1.N = KV m c :=
  (arr1 (V1 m ρ) c).trans (congrArg₂ kvsA (in1_arg1 m ρ c) (in1_arg3 m ρ c))

/-- what is attended to; -/
theorem final_att : (dat2 (V2 m ρ) c).arrAt 2 cfg2.N = O m c :=
  (arr2 (V2 m ρ) c).trans (congrArg₂ attA ((in2_v0 m ρ c).trans (final_q m ρ c)) ((in2_v1 m ρ c).trans (final_kv m ρ c)))

/-- the layer's output; -/
theorem final_out : (dat3 (V3 m ρ) c).arrAt 2 cfg3.N = outA (O m c) (Wo m c) :=
  (arr3 (V3 m ρ) c).trans (congrArg₂ outA ((in3_v2 m ρ c).trans (final_att m ρ c)) (in3_arg4 m ρ c))

/-- the gradient of the third weights; -/
theorem final_dwo : (dat4 (V4 m ρ) c).arrAt 2 cfg4.N = dwoA (O m c) (Y m c) :=
  (arr4 (V4 m ρ) c).trans (congrArg₂ dwoA ((in4_v2 m ρ c).trans (final_att m ρ c)) (in4_arg5 m ρ c))

/-- that of what is attended to; -/
theorem final_datt : (dat5 (V5 m ρ) c).arrAt 2 cfg5.N = G m c :=
  (arr5 (V5 m ρ) c).trans (congrArg₂ dattA (in5_arg5 m ρ c) (in5_arg4 m ρ c))

/-- that of the queries; -/
theorem final_dq : (dat6 (V6 m ρ) c).arrAt 3 cfg6.N = dqA (Q m c) (KV m c) (G m c) :=
  (arr6_q (V6 m ρ) c).trans ((congrArg₂ (fun a b => dqA a b _) ((in6_v0 m ρ c).trans (final_q m ρ c)) ((in6_v1 m ρ c).trans (final_kv m ρ c))).trans
    (congrArg (dqA _ _) ((in6_v5 m ρ c).trans (final_datt m ρ c))))

/-- those of the keys and the values, -/
theorem final_dkv6 : (dat6 (V6 m ρ) c).arrAt 4 cfg6.N = dkvA (Q m c) (KV m c) (G m c) :=
  (arr6_kv (V6 m ρ) c).trans ((congrArg₂ (fun a b => dkvA a b _) ((in6_v0 m ρ c).trans (final_q m ρ c)) ((in6_v1 m ρ c).trans (final_kv m ρ c))).trans
    (congrArg (dkvA _ _) ((in6_v5 m ρ c).trans (final_datt m ρ c))))

/-- cast; -/
theorem final_dkv : V10 m ρ c main_v9 = dkvB (Q m c) (KV m c) (G m c) :=
  (in10_v9 m ρ c).trans (congrArg (fun x : FVec Ideal S2x256x2048 .f32 => truncf .bf16 x bitsLt_bf16_f32) (final_dkv6 m ρ c))

/-- the gradient of the first weights; -/
theorem final_dwq : (dat7 (V7 m ρ) c).arrAt 2 cfg7.N = dwqA (H m c) (dqA (Q m c) (KV m c) (G m c)) :=
  (arr7 (V7 m ρ) c).trans (congrArg₂ dwqA (in7_arg0 m ρ c) ((in7_v6 m ρ c).trans (final_dq m ρ c)))

/-- that of the input; -/
theorem final_din : (dat8 (V8 m ρ) c).arrAt 2 cfg8.N = dinA (dqA (Q m c) (KV m c) (G m c)) (Wq m c) :=
  (arr8 (V8 m ρ) c).trans (congrArg₂ dinA ((in8_v6 m ρ c).trans (final_dq m ρ c)) (in8_arg2 m ρ c))

/-- that of the second weights. -/
theorem final_dwkv : (dat9 (V10 m ρ) c).arrAt 2 cfg9.N = dwkvA (M m c) (dkvB (Q m c) (KV m c) (G m c)) :=
  (arr9 (V10 m ρ) c).trans (congrArg₂ dwkvA (in10_arg1 m ρ c) (final_dkv m ρ c))

/-- Where the input and the first weights are real numbers, so are the queries; -/
theorem real_q (hH : ∀ i k, ∃ r : ℝ, H m c (ix2 i k) = r) (hW : ∀ k j, ∃ r : ℝ, Wq m c (ix3 0 k j) = r) (i : Fin 4096) (k : Fin 2048) :
    ∃ r : ℝ, row (Q m c) i k = r :=
  Cert.Attn.sum_mul_real Finset.univ (fun l => H m c (ix2 i l)) (fun l => Wq m c (ix3 0 l k)) (fun l => hH i l) (fun l => hW l k)

/-- and where the memory and the keys' half of the second weights are, so are the keys. -/
theorem real_k (hM : ∀ i k, ∃ r : ℝ, M m c (ix2 i k) = r) (hW : ∀ k (j : Fin 4096), j.val < 2048 → ∃ r : ℝ, Wkv m c (ix3 0 k j) = r)
    (j : Fin 256) (k : Fin 2048) : ∃ r : ℝ, mem (KV m c) 0 j k = r :=
  Cert.Attn.sum_mul_real Finset.univ (fun l => M m c (ix2 j l)) (fun l => Wkv m c (ix3 0 l (⟨0 * 2048 + k.val, by omega⟩ : Fin 4096)))
    (fun l => hM j l) (fun l => hW l _ (by show 0 * 2048 + k.val < 2048; omega))

end Cert.Xa

end
-- ==== Proof.Xa.Pre.lean ====
/- What the cross-attention layer's precondition says: the input, the memory, the first weights and the keys' half of the second are real numbers. -/
module

public import proofs.«01_k».proof.Pre_finite_xa
public import proofs.«01_k».proof.Proof.Attn.Pre

@[expose] public section

noncomputable section

open Idealize.ShloMosaic Cert.Pre_finite_xa

namespace Cert.Xa.Pre

/-- The shape relations the printed precondition takes. -/
theorem facts : Cert.Pre_finite_xa.Facts where
  bcast_S_S4096x2048 := by decide
  reducesTo_S4096x2048_S_d0_1 := by decide
  h_S_ := by decide
  bcast_S_S256x2048 := by decide
  reducesTo_S256x2048_S_d0_1 := by decide
  bcast_S_S1x2048x2048 := by decide
  reducesTo_S1x2048x2048_S_d0_1_2 := by decide
  slices_S1x2048x4096_S1x2048x2048_0_0_0 := by decide
  shapeCasts_S1x2048x2048_S2048x2048 := by decide
  bcast_S_S2048x2048 := by decide
  reducesTo_S2048x2048_S_d0_1 := by decide

/-- A rank-zero shape has one index. -/
instance : Subsingleton S_.Idx := ⟨fun a b => funext fun i => i.elim0⟩

variable [Cert.Pre_finite_xa.Facts]

/-- Under the precondition the input, the memory, the first weights and the second weights' columns that make the keys are real numbers. -/
theorem finite (H : FVec Ideal S4096x2048 .bf16) (M : FVec Ideal S256x2048 .bf16) (Wq : FVec Ideal S1x2048x2048 .bf16) (Wkv : FVec Ideal S1x2048x4096 .bf16)
    (Wo : FVec Ideal S1x2048x2048 .bf16) (Y : FVec Ideal S4096x2048 .bf16) (h : fn (F := Ideal) H M Wq Wkv Wo Y = fun _ => 1#1) :
    (∀ i k, ∃ r : ℝ, H (ix2 i k) = r) ∧ (∀ i k, ∃ r : ℝ, M (ix2 i k) = r) ∧ (∀ k j, ∃ r : ℝ, Wq (ix3 0 k j) = r)
      ∧ ∀ k (j : Fin 4096), j.val < 2048 → ∃ r : ℝ, Wkv (ix3 0 k j) = r := by
  obtain ⟨h3, hw⟩ := IntOp.andi_eq_one.1 (congrFun h (fun i => i.elim0))
  obtain ⟨h2, hq⟩ := IntOp.andi_eq_one.1 h3
  obtain ⟨hh, hm⟩ := IntOp.andi_eq_one.1 h2
  refine ⟨fun i k => Cert.Attn.Pre.real_of_abs _ (Host.reduce_andi_all _ _ _ _ _ hh (ix2 i k)),
    fun i k => Cert.Attn.Pre.real_of_abs _ (Host.reduce_andi_all _ _ _ _ _ hm (ix2 i k)),
    fun k j => Cert.Attn.Pre.real_of_abs _ (Host.reduce_andi_all _ _ _ _ _ hq (ix3 0 k j)),
    fun k j hj => ?_⟩
  obtain ⟨r, hr⟩ := Cert.Attn.Pre.real_of_abs _ (Host.reduce_andi_all _ _ _ _ _ hw (ix2 k (⟨j.val, hj⟩ : Fin 2048)))
  refine ⟨r, hr ▸ ?_⟩
  pointwise

end Cert.Xa.Pre

end
-- ==== Proof.Xa.Ref.lean ====
/- The cross-attention layer's reference, read at an index: between its products stand the values of the reference of the attention proved by itself. -/
module

public import proofs.«01_k».proof.Proof.Gen.XaReferenceIdeal.Read
public import proofs.«01_k».proof.Proof.Xa.Att
public import proofs.«01_k».proof.Proof.Attn.Ref
public import Idealize.ShloMosaic.Lib.Pipeline.ValueKit

@[expose] public section

set_option maxRecDepth 16384

noncomputable section

open Idealize.ShloMosaic Cert.XaReferenceIdeal Cert.XaReferenceIdeal.Read
open Cert.Attn (prob score headOf laneOf)

namespace Cert.Xa

variable (H : FVec Ideal S4096x2048 .bf16) (M : FVec Ideal S256x2048 .bf16) (Wq : FVec Ideal S1x2048x2048 .bf16) (Wkv : FVec Ideal S1x2048x4096 .bf16)
  (Wo : FVec Ideal S1x2048x2048 .bf16) (Y : FVec Ideal S4096x2048 .bf16)

/-! ### The products before the attention -/

/-- The queries. -/
theorem ref_q : (fun y => val_main_v10 (F := Ideal) H Wq y) = qryA H Wq := by
  funext y
  obtain ⟨i, j, rfl⟩ : ∃ (i : Fin 4096) (j : Fin 2048), y = ix2 i j := ⟨y 0, y 1, eq_ix2 y⟩
  show val_main_v10 (F := Ideal) H Wq (ix2 i j) = qry H Wq i j
  unfold qry
  pointwise [val_main_v10, val_main_v4, val_main_v3, val_main_v0]

/-- The keys and the values, side by side, -/
theorem ref_kvs (i : Fin 256) (j : Fin 4096) : val_main_v9 (F := Ideal) M Wkv (ix2 i j) = kvs M Wkv i j := by
  unfold kvs
  pointwise [val_main_v9, val_main_v6, val_main_v5, val_main_v1]

/-- and as two planes. -/
theorem ref_kv : (fun y => val_main_v15 (F := Ideal) M Wkv y) = kvsA M Wkv := by
  funext y
  obtain ⟨a, i, j, rfl⟩ : ∃ (a : Fin 2) (i : Fin 256) (j : Fin 2048), y = ix3 a i j := ⟨y 0, y 1, y 2, eq_ix3 y⟩
  show val_main_v15 (F := Ideal) M Wkv (ix3 a i j) = kvs M Wkv i ⟨a.val * 2048 + j.val, by omega⟩
  have e := ref_kvs M Wkv i
  unfold val_main_v15 val_main_v14 val_main_v13 val_main_v12 val_main_v11
  generalize val_main_v9 (F := Ideal) M Wkv = x at e ⊢
  obtain rfl | rfl : a = 0 ∨ a = 1 := by revert a; decide
  · pointwise []
    exact e _
  · pointwise []
    refine (e _).trans (congrArg (kvs M Wkv i) (Fin.ext ?_))
    show 2048 + j.val = 1 * 2048 + j.val
    omega

/-- The gradient of what is attended to. -/
theorem ref_g : (fun y => val_main_v60 (F := Ideal) Wo Y y) = dattA Y Wo := by
  funext y
  obtain ⟨i, j, rfl⟩ : ∃ (i : Fin 4096) (j : Fin 2048), y = ix2 i j := ⟨y 0, y 1, eq_ix2 y⟩
  show val_main_v60 (F := Ideal) Wo Y (ix2 i j) = datt Y Wo i j
  unfold datt
  pointwise [val_main_v60, val_main_v2, val_main_v8, val_main_v7]

/-! ### The attention: the same values as those of the reference of the attention alone -/

/-- The probabilities. -/
theorem same_prob : val_main_v50 (F := Ideal) H M Wq Wkv
    = Cert.ReferenceIdeal.Read.val_main_v37 (F := Ideal) (fun y => val_main_v10 (F := Ideal) H Wq y) (fun y => val_main_v15 (F := Ideal) M Wkv y) := rfl

/-- The gradient of the queries. -/
theorem same_dq : val_main_v91 (F := Ideal) H M Wq Wkv Wo Y
    = Cert.ReferenceIdeal.Read.val_main_v74 (F := Ideal) (fun y => val_main_v10 (F := Ideal) H Wq y) (fun y => val_main_v15 (F := Ideal) M Wkv y)
        (fun y => val_main_v60 (F := Ideal) Wo Y y) := rfl

/-- The gradients of the keys and of the values. -/
theorem same_dkv : val_main_v90 (F := Ideal) H M Wq Wkv Wo Y
    = Cert.ReferenceIdeal.Read.val_main_v73 (F := Ideal) (fun y => val_main_v10 (F := Ideal) H Wq y) (fun y => val_main_v15 (F := Ideal) M Wkv y)
        (fun y => val_main_v60 (F := Ideal) Wo Y y) := rfl

/-- The probability of a memory slot. -/
theorem ref_prob (h : Fin 4) (i : Fin 4096) (j : Fin 256) :
    val_main_v50 (F := Ideal) H M Wq Wkv (ix3 h i j) = prob (score (row (qryA H Wq) i) (mem (kvsA M Wkv) 0) h) j := by
  have e := Cert.Attn.Ref.at_prob (fun y => val_main_v10 (F := Ideal) H Wq y) (fun y => val_main_v15 (F := Ideal) M Wkv y) h i j
  rw [ref_q, ref_kv] at e
  refine Eq.trans ?_ e
  rw [← ref_q, ← ref_kv]
  exact congrFun (same_prob H M Wq Wkv) _

/-- What is attended to. -/
theorem ref_att (i : Fin 4096) (k : Fin 2048) :
    val_main_v56 (F := Ideal) H M Wq Wkv (ix2 i k) = attA (qryA H Wq) (kvsA M Wkv) (ix2 i k) := by
  have e := ref_prob H M Wq Wkv
  have f : ∀ a j k, val_main_v15 (F := Ideal) M Wkv (ix3 a j k) = kvsA M Wkv (ix3 a j k) := fun a j k => congrFun (ref_kv M Wkv) (ix3 a j k)
  show _ = ∑ j, prob (score (row (qryA H Wq) i) (mem (kvsA M Wkv) 0) (headOf k)) j * kvsA M Wkv (ix3 1 j k)
  unfold val_main_v56 val_main_v55 val_main_v54
  generalize val_main_v50 (F := Ideal) H M Wq Wkv = p at e ⊢
  unfold val_main_v22 val_main_v21 val_main_v20
  generalize val_main_v15 (F := Ideal) M Wkv = x at f ⊢
  pointwise []
  refine Finset.sum_congr rfl fun j _ => (congrArg₂ (· * ·) (f _ _ _) (e _ _ _)).trans (mul_comm _ _)

/-! ### The products after the attention that need nothing finite -/

/-- The layer's output. -/
theorem ref_out : val_main_v103 (F := Ideal) H M Wq Wkv Wo = outA (attA (qryA H Wq) (kvsA M Wkv)) Wo := by
  funext y
  obtain ⟨i, j, rfl⟩ : ∃ (i : Fin 4096) (j : Fin 2048), y = ix2 i j := ⟨y 0, y 1, eq_ix2 y⟩
  have e := ref_att H M Wq Wkv
  unfold val_main_v103 val_main_v57
  generalize val_main_v56 (F := Ideal) H M Wq Wkv = x at e ⊢
  pointwise [val_main_v8, val_main_v7]
  exact Finset.sum_congr rfl fun n _ => congrArg (· * _) (e i n)

/-- The gradient of the third weights. -/
theorem ref_dwo : val_main_v113 (F := Ideal) H M Wq Wkv Y = dwoA (attA (qryA H Wq) (kvsA M Wkv)) Y := by
  funext y
  obtain ⟨i, j, rfl⟩ : ∃ (i j : Fin 2048), y = ix2 i j := ⟨y 0, y 1, eq_ix2 y⟩
  have e := ref_att H M Wq Wkv
  unfold val_main_v113 val_main_v59 val_main_v58
  generalize val_main_v56 (F := Ideal) H M Wq Wkv = x at e ⊢
  pointwise [val_main_v2]
  exact Finset.sum_congr rfl fun n _ => (congrArg (_ * ·) (e n i)).trans (mul_comm _ _)

/-! ### Where queries and keys are real numbers -/

variable (hQ : ∀ i k, ∃ r : ℝ, row (qryA H Wq) i k = r) (hK : ∀ j k, ∃ r : ℝ, mem (kvsA M Wkv) 0 j k = r)

include hQ hK

/-- The gradient of the queries. -/
theorem ref_dq (i : Fin 4096) (k : Fin 2048) :
    val_main_v91 (F := Ideal) H M Wq Wkv Wo Y (ix2 i k) = dqA (qryA H Wq) (kvsA M Wkv) (dattA Y Wo) (ix2 i k) := by
  refine (congrFun (same_dq H M Wq Wkv Wo Y) _).trans ?_
  rw [ref_q, ref_kv, ref_g]
  exact Cert.Attn.Ref.dq (qryA H Wq) (kvsA M Wkv) (dattA Y Wo) hQ hK i k

/-- The gradients of the keys and of the values. -/
theorem ref_dkvs (a : Fin 2) (j : Fin 256) (k : Fin 2048) :
    val_main_v90 (F := Ideal) H M Wq Wkv Wo Y (ix3 a j k) = dkv (qryA H Wq) (kvsA M Wkv) (dattA Y Wo) a j k := by
  refine (congrFun (same_dkv H M Wq Wkv Wo Y) _).trans ?_
  rw [ref_q, ref_kv, ref_g]
  obtain rfl | rfl : a = 0 ∨ a = 1 := by revert a; decide
  · exact Cert.Attn.Ref.dkv_0 (qryA H Wq) (kvsA M Wkv) (dattA Y Wo) hQ hK j k
  · exact Cert.Attn.Ref.dkv_1 (qryA H Wq) (kvsA M Wkv) (dattA Y Wo) j k

/-- The same side by side. -/
theorem ref_side (j : Fin 256) (k : Fin 4096) :
    val_main_v96 (F := Ideal) H M Wq Wkv Wo Y (ix2 j k)
      = dkv (qryA H Wq) (kvsA M Wkv) (dattA Y Wo) ⟨k.val / 2048, by omega⟩ j ⟨k.val % 2048, Nat.mod_lt _ (by decide)⟩ := by
  have e := ref_dkvs H M Wq Wkv Wo Y hQ hK
  unfold val_main_v96 val_main_v95 val_main_v94 val_main_v93 val_main_v92
  generalize val_main_v90 (F := Ideal) H M Wq Wkv Wo Y = x at e ⊢
  pointwise []
  by_cases hk : k.val < 2048
  · rw [dif_pos hk]
    refine (e _ _ _).trans (congrArg₂ (fun a k => dkv _ _ _ a j k) (Fin.ext ?_) (Fin.ext ?_))
    · show 0 = k.val / 2048
      omega
    · show k.val = k.val % 2048
      omega
  · rw [dif_neg hk]
    refine (e _ _ _).trans (congrArg₂ (fun a k => dkv _ _ _ a j k) (Fin.ext ?_) (Fin.ext ?_))
    · show 1 = k.val / 2048
      omega
    · show k.val - 2048 = k.val % 2048
      omega

/-- The gradient of the input. -/
theorem ref_din : val_main_v104 (F := Ideal) H M Wq Wkv Wo Y = dinA (dqA (qryA H Wq) (kvsA M Wkv) (dattA Y Wo)) Wq := by
  funext y
  obtain ⟨i, j, rfl⟩ : ∃ (i : Fin 4096) (j : Fin 2048), y = ix2 i j := ⟨y 0, y 1, eq_ix2 y⟩
  have e := ref_dq H M Wq Wkv Wo Y hQ hK
  unfold val_main_v104 val_main_v99
  generalize val_main_v91 (F := Ideal) H M Wq Wkv Wo Y = x at e ⊢
  pointwise [val_main_v4, val_main_v3]
  exact Finset.sum_congr rfl fun n _ => congrArg (· * _) (e i n)

/-- The gradient of the first weights. -/
theorem ref_dwq : val_main_v111 (F := Ideal) H M Wq Wkv Wo Y = dwqA H (dqA (qryA H Wq) (kvsA M Wkv) (dattA Y Wo)) := by
  funext y
  obtain ⟨i, j, rfl⟩ : ∃ (i j : Fin 2048), y = ix2 i j := ⟨y 0, y 1, eq_ix2 y⟩
  have e := ref_dq H M Wq Wkv Wo Y hQ hK
  unfold val_main_v111 val_main_v98 val_main_v97
  generalize val_main_v91 (F := Ideal) H M Wq Wkv Wo Y = x at e ⊢
  pointwise [val_main_v0]
  exact Finset.sum_congr rfl fun n _ => (congrArg (· * _) (e n j)).trans (mul_comm _ _)

/-- The gradients of the keys and of the values, as two planes. -/
theorem ref_dkv : val_main_v110 (F := Ideal) H M Wq Wkv Wo Y = dkvB (qryA H Wq) (kvsA M Wkv) (dattA Y Wo) := by
  funext y
  obtain ⟨a, j, k, rfl⟩ : ∃ (a : Fin 2) (j : Fin 256) (k : Fin 2048), y = ix3 a j k := ⟨y 0, y 1, y 2, eq_ix3 y⟩
  have e := ref_side H M Wq Wkv Wo Y hQ hK j
  show _ = dkv (qryA H Wq) (kvsA M Wkv) (dattA Y Wo) a j k
  unfold val_main_v110 val_main_v109 val_main_v108 val_main_v107 val_main_v106 val_main_v105
  generalize val_main_v96 (F := Ideal) H M Wq Wkv Wo Y = x at e ⊢
  obtain rfl | rfl : a = 0 ∨ a = 1 := by revert a; decide
  · pointwise []
    refine (e _).trans (congrArg₂ (fun a k => dkv _ _ _ a j k) (Fin.ext ?_) (Fin.ext ?_))
    · show k.val / 2048 = 0
      omega
    · show k.val % 2048 = k.val
      omega
  · pointwise []
    refine (e _).trans (congrArg₂ (fun a k => dkv _ _ _ a j k) (Fin.ext ?_) (Fin.ext ?_))
    · show (2048 + k.val) / 2048 = 1
      omega
    · show (2048 + k.val) % 2048 = k.val
      omega

/-- The gradient of the second weights. -/
theorem ref_dwkv : val_main_v112 (F := Ideal) H M Wq Wkv Wo Y = dwkvA M (dkvB (qryA H Wq) (kvsA M Wkv) (dattA Y Wo)) := by
  funext y
  obtain ⟨i, j, rfl⟩ : ∃ (i : Fin 2048) (j : Fin 4096), y = ix2 i j := ⟨y 0, y 1, eq_ix2 y⟩
  have e := ref_side H M Wq Wkv Wo Y hQ hK
  unfold val_main_v112 val_main_v101 val_main_v100
  generalize val_main_v96 (F := Ideal) H M Wq Wkv Wo Y = x at e ⊢
  pointwise [val_main_v1]
  exact Finset.sum_congr rfl fun n _ => (congrArg (· * _) (e n j)).trans (mul_comm _ _)

end Cert.Xa

end
-- ==== Proof.Xa.Claims.lean ====
/- The claims about the cross-attention layer. -/
module

public import proofs.«01_k».proof.Defs
public import proofs.«01_k».proof.Proof.Gen.XaKernel.Frame
public import proofs.«01_k».proof.Proof.Gen.XaReferenceIdeal.Run
public import proofs.«01_k».proof.Proof.Xa.Final
public import proofs.«01_k».proof.Proof.Xa.Pre
public import proofs.«01_k».proof.Proof.Xa.Ref
public import Idealize.ShloMosaic.Lib.Quiescent

@[expose] public section

set_option maxRecDepth 16384

noncomputable section

open Idealize.ShloMosaic Idealize.ShloMosaic.TcCoe Idealize.SL.Sem

namespace Cert.Xa

attribute [local instance] Cert.Xa.Pre.facts

/-- The kernel ends, leaves its arguments and every counter as they were, on the machine's numbers. -/
theorem frame_kernel : Cert.quiescent_XaKernel := fun m ρ _ => Cert.XaKernel.Gen.frame m ρ

/-- The same over the extended reals. -/
theorem frame_ideal : Cert.quiescent_XaKernelIdeal := fun m ρ _ => Cert.XaKernelIdeal.Gen.frame m ρ

/-- The same under the precondition. -/
theorem frame_ideal_pre : Cert.quiescent_XaKernelIdeal_pre_finite_xa := fun m ρ _ => Cert.XaKernelIdeal.Gen.frame m ρ

/-- The reference ends and leaves its arguments as they were; it declares no counter. -/
theorem frame_ref : Cert.quiescent_XaReferenceIdeal := fun m ρ _ =>
  (θ_run Cert.XaReferenceIdeal.defs _ _).mono
    (fun r h => ⟨fun c => (h c).2.2.2.2.2.2, sem_eq_zero_of_no_sems (by decide) r.2⟩)
    (Cert.XaReferenceIdeal.Value.run m ρ)

/-- The same under the precondition. -/
theorem frame_ref_pre : Cert.quiescent_XaReferenceIdeal_pre_finite_xa := fun m ρ _ => frame_ref m ρ trivial

/-- The ten launches and the reference agree over the extended reals, where the arguments the scores are made of are real numbers. -/
theorem algebraic : Cert.algebraic_XaKernelIdeal_XaReferenceIdeal_pre_finite_xa := by
  intro m ρ m' ρ' hpre hagree
  refine ⟨fun c => outA (O m c) (Wo m c), fun c => dinA (dqA (Q m c) (KV m c) (G m c)) (Wq m c), fun c => dkvB (Q m c) (KV m c) (G m c),
    fun c => dwqA (H m c) (dqA (Q m c) (KV m c) (G m c)), fun c => dwkvA (M m c) (dkvB (Q m c) (KV m c) (G m c)), fun c => dwoA (O m c) (Y m c), ?_, ?_⟩
  · exact (θ_run Cert.XaKernelIdeal.defs _ _).mono
      (fun r h c => ⟨(h c).1.1.trans (final_out m ρ c), (h c).1.2.1.trans (final_din m ρ c), (h c).1.2.2.1.trans (final_dkv m ρ c),
        (h c).1.2.2.2.1.trans (final_dwq m ρ c), (h c).1.2.2.2.2.1.trans (final_dwkv m ρ c), (h c).1.2.2.2.2.2.trans (final_dwo m ρ c), (h c).2⟩)
      (run m ρ)
  · refine (θ_run Cert.XaReferenceIdeal.defs _ _).mono (fun r h c => ?_) (Cert.XaReferenceIdeal.Value.run m' ρ')
    obtain ⟨hH, hM, hWq, hWkv⟩ := Pre.finite _ _ _ _ _ _ (hpre c)
    have hQ := real_q m c hH hWq
    have hK := real_k m c hM hWkv
    obtain ⟨a0, a1, a2, a3, a4, a5⟩ := hagree c
    have e0 : StableHlo.launchContents m' c (Proc.devRef .tc Cert.XaReferenceIdeal.main_arg0) = H m c := a0
    have e1 : StableHlo.launchContents m' c (Proc.devRef .tc Cert.XaReferenceIdeal.main_arg1) = M m c := a1
    have e2 : StableHlo.launchContents m' c (Proc.devRef .tc Cert.XaReferenceIdeal.main_arg2) = Wq m c := a2
    have e3 : StableHlo.launchContents m' c (Proc.devRef .tc Cert.XaReferenceIdeal.main_arg3) = Wkv m c := a3
    have e4 : StableHlo.launchContents m' c (Proc.devRef .tc Cert.XaReferenceIdeal.main_arg4) = Wo m c := a4
    have e5 : StableHlo.launchContents m' c (Proc.devRef .tc Cert.XaReferenceIdeal.main_arg5) = Y m c := a5
    refine ⟨(h c).1.trans ?_, (h c).2.1.trans ?_, (h c).2.2.1.trans ?_, (h c).2.2.2.1.trans ?_, (h c).2.2.2.2.1.trans ?_, (h c).2.2.2.2.2.1.trans ?_,
      (h c).2.2.2.2.2.2⟩
    · refine (Cert.XaReferenceIdeal.Read.val_main_v103_eq (StableHlo.launchContents m' c)).trans ?_
      rw [e0, e1, e2, e3, e4]
      exact ref_out _ _ _ _ _
    · refine (Cert.XaReferenceIdeal.Read.val_main_v104_eq (StableHlo.launchContents m' c)).trans ?_
      rw [e0, e1, e2, e3, e4, e5]
      exact ref_din _ _ _ _ _ _ hQ hK
    · refine (Cert.XaReferenceIdeal.Read.val_main_v110_eq (StableHlo.launchContents m' c)).trans ?_
      rw [e0, e1, e2, e3, e4, e5]
      exact ref_dkv _ _ _ _ _ _ hQ hK
    · refine (Cert.XaReferenceIdeal.Read.val_main_v111_eq (StableHlo.launchContents m' c)).trans ?_
      rw [e0, e1, e2, e3, e4, e5]
      exact ref_dwq _ _ _ _ _ _ hQ hK
    · refine (Cert.XaReferenceIdeal.Read.val_main_v112_eq (StableHlo.launchContents m' c)).trans ?_
      rw [e0, e1, e2, e3, e4, e5]
      exact ref_dwkv _ _ _ _ _ _ hQ hK
    · refine (Cert.XaReferenceIdeal.Read.val_main_v113_eq (StableHlo.launchContents m' c)).trans ?_
      rw [e0, e1, e2, e3, e5]
      exact ref_dwo _ _ _ _ _

end Cert.Xa

end
-- ==== Proof.Norm.Row.lean ====
/- One row of a root-mean-square normalization and its derivative, over the extended reals. -/
module

public import Idealize.ShloMosaic.PureOps.Ideal.Laws

@[expose] public section

noncomputable section

open Idealize.ShloMosaic

namespace Cert.Norm

/-- The number of entries in a row, as the programs write it, -/
def len : EReal := Ideal.ofBits .f32 0x45000000#32

/-- the number added to the mean square, -/
def eps : EReal := Ideal.ofBits .f32 0x358637BD#32

/-- and the factor `-1/2` of the derivative of `1 / √s`. -/
def half : EReal := Ideal.ofBits .f32 0xBF000000#32

/-- The mean square of a row, a little raised, -/
def meanSq (x : Fin 2048 → EReal) : EReal := Ideal.div (∑ k, x k * x k) len + eps

/-- and one over its root. -/
def root (x : Fin 2048 → EReal) : EReal := Ideal.rsqrt (meanSq x)

/-- The derivative as the kernel writes it: the mean of `u` against the normalized row is taken off `u` along that row. -/
def back (x u : Fin 2048 → EReal) (j : Fin 2048) : EReal :=
  root x * (u j - x j * root x * Ideal.div (∑ k, u k * (x k * root x)) len)

/-- The factor of `x` in the derivative of a sum of squares, as the chain rule gives it. -/
def coef (x u : Fin 2048 → EReal) : EReal :=
  Ideal.div ((∑ k, x k * u k) * (half * Ideal.div (root x) (meanSq x))) len

/-- The length is the number 2048. -/
theorem len_eq : len = ((2048 : ℝ) : EReal) := by
  simp [len, Ideal.ofBits, Ideal.ieee, -EReal.coe_mul]
  norm_num

/-- The factor is minus one half. -/
theorem half_eq : half = ((-(1 / 2) : ℝ) : EReal) := by
  simp [half, Ideal.ofBits, Ideal.ieee, -EReal.coe_mul]
  norm_num

/-- The added number is real and positive. -/
theorem eps_pos : ∃ e : ℝ, 0 < e ∧ eps = e := by
  refine ⟨_, ?_, by simp [eps, Ideal.ofBits, Ideal.ieee, -EReal.coe_mul]; rfl⟩
  norm_num

/-- Division by the length is a product with a positive real. -/
theorem div_len (a : EReal) : Ideal.div a len = a * ((2048⁻¹ : ℝ) : EReal) := by
  rw [len_eq, Ideal.div, if_neg (by norm_num), EReal.coe_inv]

/-- A square is not negative. -/
theorem sq_nonneg' (a : EReal) : 0 ≤ a * a := by
  induction a with
  | bot => simp
  | top => simp
  | coe r => exact_mod_cast mul_self_nonneg r

/-- The raised mean square is infinite or a positive real. -/
theorem meanSq_cases (x : Fin 2048 → EReal) : meanSq x = ⊤ ∨ ∃ s : ℝ, 0 < s ∧ meanSq x = s := by
  obtain ⟨e, he, hs⟩ := eps_pos
  have h : 0 ≤ Ideal.div (∑ k, x k * x k) len := by
    rw [div_len]
    exact mul_nonneg (Finset.sum_nonneg fun k _ => sq_nonneg' (x k)) (by positivity)
  rw [meanSq, hs]
  generalize Ideal.div (∑ k, x k * x k) len = a at h
  induction a with
  | bot => exact absurd h (by simp)
  | top => exact .inl (EReal.top_add_coe e)
  | coe r => exact .inr ⟨r + e, add_pos_of_nonneg_of_pos (by exact_mod_cast h) he, by push_cast; rfl⟩

/-- So either the root and its derivative vanish, or both are real. -/
theorem root_cases (x : Fin 2048 → EReal) :
    (root x = 0 ∧ Ideal.div (root x) (meanSq x) = 0)
      ∨ ∃ r : ℝ, 0 < r ∧ root x = r ∧ Ideal.div (root x) (meanSq x) = ((r * r * r : ℝ) : EReal) := by
  rw [root]
  rcases meanSq_cases x with h | ⟨s, hs, h⟩
  · left
    rw [h]
    simp [Ideal.div]
  · right
    have hr : 0 < (Real.sqrt s)⁻¹ := inv_pos.mpr (Real.sqrt_pos.mpr hs)
    have e : Ideal.rsqrt (s : EReal) = (((Real.sqrt s)⁻¹ : ℝ) : EReal) := by
      rw [Ideal.rsqrt_coe, if_neg hs.le.not_gt, if_neg hs.ne']
    refine ⟨(Real.sqrt s)⁻¹, hr, by rw [h, e], ?_⟩
    rw [h, e, Ideal.div, if_neg (by exact_mod_cast hs.ne'), ← EReal.coe_inv, ← EReal.coe_mul]
    congr 1
    rw [mul_assoc, ← mul_inv (Real.sqrt s) (Real.sqrt s), Real.mul_self_sqrt hs.le]

/-- A sum times a real that is not negative is the sum of the products. -/
theorem sum_mul_real {ι : Type} (s : Finset ι) (f : ι → EReal) (r : ℝ) (h : 0 ≤ r) :
    ∑ k ∈ s, f k * r = (∑ k ∈ s, f k) * r := by
  classical
  induction s using Finset.induction_on with
  | empty => simp
  | insert a s ha ih =>
    rw [Finset.sum_insert ha, Finset.sum_insert ha, ih, EReal.right_distrib_of_nonneg_of_ne_top (by exact_mod_cast h) (EReal.coe_ne_top r)]

/-- Twice a product with a negative real. -/
theorem add_self_neg (a : EReal) (q : ℝ) (h : q < 0) : a * q + a * q = a * ((2 * q : ℝ) : EReal) := by
  have h2 : 2 * q < 0 := by linarith
  induction a with
  | bot => rw [EReal.bot_mul_coe_of_neg h, EReal.bot_mul_coe_of_neg h2]; rfl
  | top => rw [EReal.top_mul_coe_of_neg h, EReal.top_mul_coe_of_neg h2]; rfl
  | coe r => rw [← EReal.coe_mul, ← EReal.coe_add, ← EReal.coe_mul, two_mul, mul_add]

/-- The two writings of the derivative agree, whatever the row holds. -/
theorem back_eq (x u : Fin 2048 → EReal) (j : Fin 2048) :
    u j * root x + (x j * coef x u + coef x u * x j) = back x u j := by
  rcases root_cases x with ⟨h, h'⟩ | ⟨r, hr, h, h'⟩
  · have c : coef x u = 0 := by rw [coef, h', div_len, mul_zero, mul_zero, zero_mul]
    rw [back, c, h]
    simp
  · have c : coef x u = (∑ k, x k * u k) * ((-(1 / 2) * (r * r * r) * 2048⁻¹ : ℝ) : EReal) := by
      rw [coef, h', half_eq, div_len, mul_assoc, ← EReal.coe_mul, ← EReal.coe_mul]
    have s : ∑ k, u k * (x k * (r : EReal)) = (∑ k, x k * u k) * r := by
      rw [← sum_mul_real _ _ r hr.le]
      exact Finset.sum_congr rfl fun k _ => by rw [← mul_assoc, mul_comm (u k)]
    have q : (-(1 / 2) * (r * r * r) * 2048⁻¹ : ℝ) < 0 := by
      have : 0 < r * r * r := by positivity
      linarith
    rw [back, h, s, div_len, c]
    generalize (∑ k, x k * u k) = S
    rw [mul_comm (S * _) (x j), ← mul_assoc (x j), add_self_neg _ _ q, sub_eq_add_neg,
      EReal.left_distrib_of_nonneg_of_ne_top (by exact_mod_cast hr.le) (EReal.coe_ne_top r), mul_comm (u j)]
    congr 1
    have e : (2 * (-(1 / 2) * (r * r * r) * 2048⁻¹) : ℝ) = -(r * r * r * 2048⁻¹) := by ring
    rw [e, EReal.coe_neg, mul_neg, mul_neg, EReal.coe_mul, EReal.coe_mul, EReal.coe_mul]
    congr 1
    ac_rfl

end Cert.Norm

end
-- ==== Proof.NormPre.Array.lean ====
/- The derivative of the normalization in front of the stack: what each point leaves in its two blocks, and the two arrays. -/
module

public import proofs.«01_k».proof.Proof.Gen.NormPreKernelIdeal.Value
public import proofs.«01_k».proof.Proof.Norm.Row
public import Idealize.ShloMosaic.Lib.Pipeline.ValueKit
public import Idealize.ShloMosaic.Lib.Pipeline.ReadBack

@[expose] public section

set_option maxRecDepth 16384

noncomputable section

open Idealize.ShloMosaic Idealize.ShloMosaic.TcCoe Cert.NormPreKernelIdeal Cert.NormPreKernelIdeal.Gen

namespace Cert.NormPre

open Cert.Norm

variable (m : (ℓ : Loc nD τ sig) → Buf (Elt Ideal) ℓ) (c : Dev nD)

/-- The rows that were normalized, -/
abbrev X : FVec Ideal S4096x2048 .f32 := m ((c : Thread nD τ).loc main_arg0)
/-- the gains, -/
abbrev G : FVec Ideal S1x2048 .f32 := m ((c : Thread nD τ).loc main_arg1)
/-- the gradient of the normalized rows -/
abbrev D : FVec Ideal S4096x2048 .bf16 := m ((c : Thread nD τ).loc main_arg2)
/-- and the gradient that passes by the normalization, as launched. -/
abbrev E : FVec Ideal S4096x2048 .f32 := m ((c : Thread nD τ).loc main_arg3)

/-- The gradient of the rows, as an array, -/
def finalX (X : FVec Ideal S4096x2048 .f32) (G : FVec Ideal S1x2048 .f32) (D : FVec Ideal S4096x2048 .bf16)
    (E : FVec Ideal S4096x2048 .f32) : FVec Ideal S4096x2048 .f32 := fun y =>
  back (fun k => X (ix2 (y 0) k)) (fun k => D (ix2 (y 0) k) * G (ix2 0 k)) (y 1) + E (ix2 (y 0) (y 1))

/-- and that of the gains: over all rows, the gradient times the normalized row. -/
def finalG (X : FVec Ideal S4096x2048 .f32) (D : FVec Ideal S4096x2048 .bf16) : FVec Ideal S1x2048 .f32 := fun y =>
  ∑ i : Fin 4096, D (ix2 i (y 1)) * (X (ix2 i (y 1)) * root (fun k => X (ix2 i k)))

/-- One row's share of the gradient of the gains, -/
def share (x : FVec Ideal S256x2048 .f32) (d : FVec Ideal S256x2048 .bf16) (r : Fin 256) (k : Fin 2048) : EReal :=
  d (ix2 r k) * (x (ix2 r k) * root (fun k => x (ix2 r k)))

/-- and one block's. -/
def part (x : FVec Ideal S256x2048 .f32) (d : FVec Ideal S256x2048 .bf16) : FVec Ideal S1x2048 .f32 := fun y =>
  ∑ r : Fin 256, share x d r (y 1)

/-- The body's reciprocal root of a row, -/
theorem at_root (x : FVec Ideal S256x2048 .f32) (r : Fin 256) : k0_pay3 (F := Ideal) x (ix2 r 0) = root (fun k => x (ix2 r k)) := by
  pointwise [k0_pay3]
  rfl

/-- its normalized row, -/
theorem at_norm (x : FVec Ideal S256x2048 .f32) (r : Fin 256) (k : Fin 2048) :
    k0_pay4 (F := Ideal) x (ix2 r k) = x (ix2 r k) * root (fun k => x (ix2 r k)) := by
  have e := at_root x
  unfold k0_pay4
  generalize k0_pay3 (F := Ideal) x = y at e ⊢
  pointwise [e]

/-- the gradient of its rows -/
theorem at_back (x : FVec Ideal S256x2048 .f32) (d : FVec Ideal S256x2048 .bf16) (g : FVec Ideal S1x2048 .f32) (e : FVec Ideal S256x2048 .f32)
    (r : Fin 256) (k : Fin 2048) : k0_pay5 (F := Ideal) x d g e (ix2 r k)
      = back (fun k => x (ix2 r k)) (fun k => d (ix2 r k) * g (ix2 0 k)) k + e (ix2 r k) := by
  have h := at_root x
  have h' := at_norm x
  unfold k0_pay5
  generalize k0_pay3 (F := Ideal) x = y at h ⊢
  generalize k0_pay4 (F := Ideal) x = z at h' ⊢
  pointwise [k0_pay2, h, h']
  rfl

/-- and its share of the gradient of the gains. -/
theorem at_part (x : FVec Ideal S256x2048 .f32) (d : FVec Ideal S256x2048 .bf16) : k0_pay6 (F := Ideal) x d = part x d := by
  funext y
  obtain ⟨a, k, rfl⟩ : ∃ (a : Fin 1) (k : Fin 2048), y = ix2 a k := ⟨y 0, y 1, eq_ix2 y⟩
  have h' := at_norm x
  unfold k0_pay6
  generalize k0_pay4 (F := Ideal) x = z at h' ⊢
  pointwise [k0_pay2, h']
  rfl

/-- What a point leaves in its block of the rows' gradient, -/
theorem row_at (t : Fin cfg0.N) : (outsAt0 m c t.val t.isLt).1 = k0_pay5 (F := Ideal) (iblk m c 0 t) (iblk m c 2 t) (iblk m c 1 t) (iblk m c 3 t) := by
  funext y
  have hN : t.val < 16 := lt_of_lt_of_eq t.isLt N_0
  by_cases ht : t.val % 16 = 0
  · rw [outsAt0_A m c t ht (by omega)]
    frame_out
  · rw [outsAt0_B m c t ht (by omega)]
    frame_out

/-- the first point's share of the gains' gradient, -/
theorem gain_first (t : Fin cfg0.N) (ht : t.val % 16 = 0) (y : S1x2048.Idx) :
    (outsAt0 m c t.val t.isLt).2 y = part (iblk m c 0 t) (iblk m c 2 t) y := by
  have hN : t.val < 16 := lt_of_lt_of_eq t.isLt N_0
  rw [outsAt0_A m c t ht (by omega), ← at_part]
  frame_out

/-- and a later point's, over what the point before left. -/
theorem gain_later (t : Fin cfg0.N) (ht : ¬t.val % 16 = 0) (y : S1x2048.Idx) :
    (outsAt0 m c t.val t.isLt).2 y
      = (outsAt0 m c (t.val - 1) (Nat.lt_of_le_of_lt (Nat.sub_le _ _) t.isLt)).2 y + part (iblk m c 0 t) (iblk m c 2 t) y := by
  rw [outsAt0_B m c t ht (by omega), ← at_part]
  generalize (outsAt0 m c (t.val - 1) (Nat.lt_of_le_of_lt (Nat.sub_le _ _) t.isLt)).2 = old
  frame_out
  unfold k0_pay1
  exact congrArg (· + _) (congrFun (shapeCast_self _ _) y)

/-- The blocks each of the sixteen points names: its own rows, the gains whole. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] :=
  (by decide +kernel : ∀ t : Fin grid0.N, _)

/-- The array row that is row `r` of point `t`'s block. -/
def rowOf (t : Fin cfg0.N) (r : Fin 256) : Fin 4096 := ⟨t.val * 256 + r.val, by have := t.isLt; have : cfg0.N = 16 := N_0; omega⟩

/-- A block of the rows, -/
theorem blk_x (t : Fin cfg0.N) (r : Fin 256) (k : Fin 2048) : iblk m c 0 t (ix2 r k) = X m c (ix2 (rowOf t r) k) := by
  blk_point [iblk, V, idx t]
  rfl

/-- the gains, -/
theorem blk_g (t : Fin cfg0.N) (k : Fin 2048) : iblk m c 1 t (ix2 0 k) = G m c (ix2 0 k) := by
  blk_point [iblk, V, idx t]

/-- a block of the gradient -/
theorem blk_d (t : Fin cfg0.N) (r : Fin 256) (k : Fin 2048) : iblk m c 2 t (ix2 r k) = D m c (ix2 (rowOf t r) k) := by
  blk_point [iblk, V, idx t]
  rfl

/-- and one of the gradient that passes by. -/
theorem blk_e (t : Fin cfg0.N) (r : Fin 256) (k : Fin 2048) : iblk m c 3 t (ix2 r k) = E m c (ix2 (rowOf t r) k) := by
  blk_point [iblk, V, idx t]
  rfl

/-- One row's share, in the arrays' own places. -/
theorem share_at (t : Fin cfg0.N) (r : Fin 256) (k : Fin 2048) : share (iblk m c 0 t) (iblk m c 2 t) r k
    = D m c (ix2 (rowOf t r) k) * (X m c (ix2 (rowOf t r) k) * root (fun k => X m c (ix2 (rowOf t r) k))) :=
  congrArg₂ (· * ·) (blk_d m c t r k) (congrArg₂ (· * ·) (blk_x m c t r k) (congrArg root (funext fun k => blk_x m c t r k)))

/-- The array of the rows' gradient after the launch. -/
theorem arr_x : (dats m 0 c).arrAt 4 cfg0.N = finalX (X m c) (G m c) (D m c) (E m c) := by
  refine (dats m 0 c).arrAt_eq_of_covers 4 _ (by decide +kernel) fun t hf y => ?_
  blk_simp [idx t]
  rw [after0_4, row_at]
  obtain ⟨r, k, rfl⟩ : ∃ (r : Fin 256) (k : Fin 2048), y = ix2 r k := ⟨y 0, y 1, eq_ix2 y⟩
  have e : (win0_4.blk t).view.emb (ix2 r k) = ix2 (rowOf t r) k := by
    blk_ext [idx t]
    rfl
  rw [e, at_back]
  exact congrArg₂ (· + ·) (congrArg₂ (fun a b => back a b k) (funext fun k => blk_x m c t r k)
    (funext fun k => congrArg₂ (· * ·) (blk_d m c t r k) (blk_g m c t k))) (blk_e m c t r k)

/-- The array of the gains' gradient after the launch. -/
theorem arr_g : (dats m 0 c).arrAt 5 cfg0.N = finalG (X m c) (D m c) := by
  refine (dats m 0 c).arrAt_eq_of_after_last 5 t0_15 (by decide +kernel) _ fun j => ?_
  blk_simp [idx t0_15]
  have first : ∀ t : Fin cfg0.N, t.val % 16 = 0 → ∀ y : S1x2048.Idx, (outsAt0 m c t.val t.isLt).2 y
      = 0 + part (iblk m c 0 t) (iblk m c 2 t) y := fun t h y =>
    (gain_first m c t h y).trans (zero_add (part (iblk m c 0 t) (iblk m c 2 t) y : EReal)).symm
  rw [after0_5, Pipeline.eq_sum_fin_of_reset_step_apply_last (M := EReal) (fun n h => (outsAt0 m c n h).2) 16 (fun _ => 0)
    (fun t y => part (iblk m c 0 t) (iblk m c 2 t) y) first (gain_later m c) (le_of_eq N_0) t0_15 rfl j]
  refine (zero_add (_ : EReal)).trans ?_
  obtain ⟨a, k, rfl⟩ : ∃ (a : Fin 1) (k : Fin 2048), j = ix2 a k := ⟨j 0, j 1, eq_ix2 j⟩
  exact Fin.sum_mul_add_congr (S := cfg0.N) (n := 256) (F := fun t r => share (iblk m c 0 t) (iblk m c 2 t) r k) fun t r hl =>
    share_at m c t r k

end Cert.NormPre

end
-- ==== Proof.NormPre.Ref.lean ====
/- The reference's two results read at an index: the gradients of the rows and of the gains. -/
module

public import proofs.«01_k».proof.Proof.Gen.NormPreReferenceIdeal.Read
public import proofs.«01_k».proof.Proof.Norm.Row
public import Idealize.ShloMosaic.Lib.Pipeline.ValueKit

@[expose] public section

set_option maxRecDepth 16384

noncomputable section

open Idealize.ShloMosaic Cert.NormPreReferenceIdeal Cert.NormPreReferenceIdeal.Read

namespace Cert.NormPre.Ref

open Cert.Norm

variable (X : FVec Ideal S4096x2048 .f32) (G : FVec Ideal S1x2048 .f32) (D : FVec Ideal S4096x2048 .bf16) (E : FVec Ideal S4096x2048 .f32)

/-- The mean square of a row, a little raised. -/
theorem at_meanSq (i : Fin 4096) : val_main_v7 (F := Ideal) X (ix2 i 0) = meanSq (fun k => X (ix2 i k)) := by
  pointwise [val_main_v7, val_main_v6, val_main_cst_1, val_main_v5, val_main_v4, val_main_cst_0, val_main_v3, val_main_v2, val_main_cst, val_main_v1]
  rfl

/-- One over its root. -/
theorem at_root (i : Fin 4096) : val_main_v8 (F := Ideal) X (ix2 i 0) = root (fun k => X (ix2 i k)) := by
  have e := at_meanSq X i
  unfold val_main_v8
  generalize val_main_v7 (F := Ideal) X = y at e ⊢
  pointwise [e]
  rfl

/-- The gradient at a normalized entry before its scaling. -/
theorem at_up (i : Fin 4096) (k : Fin 2048) : val_main_v22 (F := Ideal) G D (ix2 i k) = D (ix2 i k) * G (ix2 0 k) := by
  pointwise [val_main_v22, val_main_v21, val_main_v17, val_main_v14, val_main_v0]

/-- The factor of a row in the derivative of its sum of squares. -/
theorem at_coef (i : Fin 4096) : val_main_v33 (F := Ideal) X G D (ix1 i)
    = coef (fun k => X (ix2 i k)) (fun k => D (ix2 i k) * G (ix2 0 k)) := by
  have e := at_meanSq X i
  have f := at_root X i
  have g := at_up G D i
  unfold val_main_v33 val_main_v32 val_main_v30 val_main_v11 val_main_v9 val_main_v26 val_main_v25 val_main_v24
  generalize val_main_v7 (F := Ideal) X = x at e ⊢
  generalize val_main_v8 (F := Ideal) X = y at f ⊢
  generalize val_main_v22 (F := Ideal) G D = z at g ⊢
  pointwise [val_main_v31, val_main_cst_7, val_main_cst_6, val_main_cst_5, val_main_v10, val_main_cst_2, e, f, g]
  rw [Fin.sum_univ_one]
  pointwise [e, f, g]
  rfl

/-- The gradient of the rows. -/
theorem dx (i : Fin 4096) (k : Fin 2048) : val_main_v38 (F := Ideal) X G D E (ix2 i k)
    = back (fun k => X (ix2 i k)) (fun k => D (ix2 i k) * G (ix2 0 k)) k + E (ix2 i k) := by
  have e := at_coef X G D i
  have f := at_root X i
  have g := at_up G D i k
  rw [← back_eq]
  unfold val_main_v38 val_main_v37 val_main_v36 val_main_v35 val_main_v34 val_main_v29 val_main_v28 val_main_v27
  generalize val_main_v33 (F := Ideal) X G D = x at e ⊢
  generalize val_main_v8 (F := Ideal) X = y at f ⊢
  generalize val_main_v22 (F := Ideal) G D = z at g ⊢
  pointwise [e, f, g]
  ac_rfl

/-- The gradient of the gains. -/
theorem dg (a : Fin 1) (k : Fin 2048) : val_main_v39 (F := Ideal) X D (ix2 a k)
    = ∑ i : Fin 4096, D (ix2 i k) * (X (ix2 i k) * root (fun k => X (ix2 i k))) := by
  have f := at_root X
  unfold val_main_v39 val_main_v23 val_main_v20 val_main_v19 val_main_v18 val_main_v13 val_main_v12
  generalize val_main_v8 (F := Ideal) X = y at f ⊢
  pointwise [val_main_cst_4, val_main_cst_3, val_main_v17]
  rw [Fin.sum_univ_one]
  pointwise [f]
  exact Finset.sum_congr rfl fun i _ => mul_comm _ _

end Cert.NormPre.Ref

end
-- ==== Proof.NormPre.Claims.lean ====
/- The claims about the derivative of the normalization in front of the stack. -/
module

public import proofs.«01_k».proof.Defs
public import proofs.«01_k».proof.Proof.Gen.NormPreKernel.Frame
public import proofs.«01_k».proof.Proof.Gen.NormPreReferenceIdeal.Run
public import proofs.«01_k».proof.Proof.NormPre.Array
public import proofs.«01_k».proof.Proof.NormPre.Ref
public import Idealize.ShloMosaic.Lib.Quiescent

@[expose] public section

set_option maxRecDepth 16384

noncomputable section

open Idealize.ShloMosaic Idealize.SL.Sem

namespace Cert.NormPre

/-- The kernel ends, leaves its arguments and every counter as they were, on the machine's numbers. -/
theorem frame_kernel : Cert.quiescent_NormPreKernel := fun m ρ _ => Cert.NormPreKernel.Gen.frame m ρ

/-- The same over the extended reals. -/
theorem frame_ideal : Cert.quiescent_NormPreKernelIdeal := fun m ρ _ => Cert.NormPreKernelIdeal.Gen.frame m ρ

/-- The reference ends and leaves its arguments as they were; it declares no counter. -/
theorem frame_ref : Cert.quiescent_NormPreReferenceIdeal := fun m ρ _ =>
  (θ_run Cert.NormPreReferenceIdeal.defs _ _).mono
    (fun r h => ⟨fun c => (h c).2.2, sem_eq_zero_of_no_sems (by decide) r.2⟩)
    (Cert.NormPreReferenceIdeal.Value.run m ρ)

/-- The reference's first result is the gradient of the rows, -/
theorem result_x (X : FVec Ideal Cert.NormPreReferenceIdeal.S4096x2048 .f32) (G : FVec Ideal Cert.NormPreReferenceIdeal.S1x2048 .f32)
    (D : FVec Ideal Cert.NormPreReferenceIdeal.S4096x2048 .bf16) (E : FVec Ideal Cert.NormPreReferenceIdeal.S4096x2048 .f32) :
    Cert.NormPreReferenceIdeal.Read.val_main_v38 (F := Ideal) X G D E = finalX X G D E := by
  funext y
  obtain ⟨i, k, rfl⟩ : ∃ i k, y = ix2 i k := ⟨y 0, y 1, eq_ix2 y⟩
  exact Ref.dx X G D E i k

/-- and the second that of the gains. -/
theorem result_g (X : FVec Ideal Cert.NormPreReferenceIdeal.S4096x2048 .f32) (D : FVec Ideal Cert.NormPreReferenceIdeal.S4096x2048 .bf16) :
    Cert.NormPreReferenceIdeal.Read.val_main_v39 (F := Ideal) X D = finalG X D := by
  funext y
  obtain ⟨a, k, rfl⟩ : ∃ a k, y = ix2 a k := ⟨y 0, y 1, eq_ix2 y⟩
  exact Ref.dg X D a k

/-- The kernel and the reference agree over the extended reals, on any arguments. -/
theorem algebraic : Cert.algebraic_NormPreKernelIdeal_NormPreReferenceIdeal := by
  intro m ρ m' ρ' _ hagree
  refine ⟨fun c => finalX (X m c) (G m c) (D m c) (E m c), fun c => finalG (X m c) (D m c), ?_, ?_⟩
  · exact (θ_run Cert.NormPreKernelIdeal.defs _ _).mono
      (fun r h c => ⟨(h c).1.trans (arr_x m c), (h c).2.1.trans (arr_g m c), (h c).2.2⟩)
      (Cert.NormPreKernelIdeal.Value.run_blocks m ρ)
  · refine (θ_run Cert.NormPreReferenceIdeal.defs _ _).mono (fun r h c => ?_) (Cert.NormPreReferenceIdeal.Value.run m' ρ')
    obtain ⟨a0, a1, a2, a3⟩ := hagree c
    refine ⟨(h c).1.trans ?_, (h c).2.1.trans ?_, (h c).2.2⟩
    · rw [Cert.NormPreReferenceIdeal.Read.val_main_v38_eq, a0, a1, a2, a3]
      exact result_x _ _ _ _
    · rw [Cert.NormPreReferenceIdeal.Read.val_main_v39_eq, a0, a2]
      exact result_g _ _

end Cert.NormPre

end
-- ==== Proof.NormPost.Array.lean ====
/- The derivative of the normalization behind the stack: what each point leaves in its two blocks, and the two arrays. -/
module

public import proofs.«01_k».proof.Proof.Gen.NormPostKernelIdeal.Value
public import proofs.«01_k».proof.Proof.Norm.Row
public import Idealize.ShloMosaic.Lib.Pipeline.ValueKit
public import Idealize.ShloMosaic.Lib.Pipeline.ReadBack

@[expose] public section

set_option maxRecDepth 16384

noncomputable section

open Idealize.ShloMosaic Idealize.ShloMosaic.TcCoe Cert.NormPostKernelIdeal Cert.NormPostKernelIdeal.Gen

namespace Cert.NormPost

open Cert.Norm

variable (m : (ℓ : Loc nD τ sig) → Buf (Elt Ideal) ℓ) (c : Dev nD)

/-- The rows that were normalized, -/
abbrev X : FVec Ideal S4096x2048 .bf16 := m ((c : Thread nD τ).loc main_arg0)
/-- the gains, -/
abbrev G : FVec Ideal S1x2048 .f32 := m ((c : Thread nD τ).loc main_arg1)
/-- and the gradient of the normalized rows, as launched. -/
abbrev D : FVec Ideal S4096x2048 .f32 := m ((c : Thread nD τ).loc main_arg2)

/-- The gradient of the rows, as an array, -/
def finalX (X : FVec Ideal S4096x2048 .bf16) (G : FVec Ideal S1x2048 .f32) (D : FVec Ideal S4096x2048 .f32) : FVec Ideal S4096x2048 .bf16 := fun y =>
  back (fun k => X (ix2 (y 0) k)) (fun k => D (ix2 (y 0) k) * G (ix2 0 k)) (y 1)

/-- and that of the gains: over all rows, the gradient times the normalized row. -/
def finalG (X : FVec Ideal S4096x2048 .bf16) (D : FVec Ideal S4096x2048 .f32) : FVec Ideal S1x2048 .f32 := fun y =>
  ∑ i : Fin 4096, D (ix2 i (y 1)) * (X (ix2 i (y 1)) * root (fun k => X (ix2 i k)))

/-- One row's share of the gradient of the gains, -/
def share (x : FVec Ideal S256x2048 .bf16) (d : FVec Ideal S256x2048 .f32) (r : Fin 256) (k : Fin 2048) : EReal :=
  d (ix2 r k) * (x (ix2 r k) * root (fun k => x (ix2 r k)))

/-- and one block's. -/
def part (x : FVec Ideal S256x2048 .bf16) (d : FVec Ideal S256x2048 .f32) : FVec Ideal S1x2048 .f32 := fun y =>
  ∑ r : Fin 256, share x d r (y 1)

/-- The body's reciprocal root of a row, -/
theorem at_root (x : FVec Ideal S256x2048 .bf16) (r : Fin 256) : k0_pay2 (F := Ideal) x (ix2 r 0) = root (fun k => x (ix2 r k)) := by
  pointwise [k0_pay2, k0_pay1]
  rfl

/-- its normalized row, -/
theorem at_norm (x : FVec Ideal S256x2048 .bf16) (r : Fin 256) (k : Fin 2048) :
    k0_pay3 (F := Ideal) x (ix2 r k) = x (ix2 r k) * root (fun k => x (ix2 r k)) := by
  have e := at_root x
  unfold k0_pay3
  generalize k0_pay2 (F := Ideal) x = y at e ⊢
  pointwise [k0_pay1, e]

/-- the gradient of its rows -/
theorem at_back (x : FVec Ideal S256x2048 .bf16) (d : FVec Ideal S256x2048 .f32) (g : FVec Ideal S1x2048 .f32)
    (r : Fin 256) (k : Fin 2048) : k0_pay4 (F := Ideal) x d g (ix2 r k)
      = back (fun k => x (ix2 r k)) (fun k => d (ix2 r k) * g (ix2 0 k)) k := by
  have h := at_root x
  have h' := at_norm x
  unfold k0_pay4
  generalize k0_pay2 (F := Ideal) x = y at h ⊢
  generalize k0_pay3 (F := Ideal) x = z at h' ⊢
  pointwise [h, h']
  rfl

/-- and its share of the gradient of the gains. -/
theorem at_part (x : FVec Ideal S256x2048 .bf16) (d : FVec Ideal S256x2048 .f32) : k0_pay5 (F := Ideal) x d = part x d := by
  funext y
  obtain ⟨a, k, rfl⟩ : ∃ (a : Fin 1) (k : Fin 2048), y = ix2 a k := ⟨y 0, y 1, eq_ix2 y⟩
  have h' := at_norm x
  unfold k0_pay5
  generalize k0_pay3 (F := Ideal) x = z at h' ⊢
  pointwise [h']
  rfl

/-- What a point leaves in its block of the rows' gradient, -/
theorem row_at (t : Fin cfg0.N) : (outsAt0 m c t.val t.isLt).1 = k0_pay4 (F := Ideal) (iblk m c 0 t) (iblk m c 2 t) (iblk m c 1 t) := by
  funext y
  have hN : t.val < 16 := lt_of_lt_of_eq t.isLt N_0
  by_cases ht : t.val % 16 = 0
  · rw [outsAt0_A m c t ht (by omega)]
    frame_out
  · rw [outsAt0_B m c t ht (by omega)]
    frame_out

/-- the first point's share of the gains' gradient, -/
theorem gain_first (t : Fin cfg0.N) (ht : t.val % 16 = 0) (y : S1x2048.Idx) :
    (outsAt0 m c t.val t.isLt).2 y = part (iblk m c 0 t) (iblk m c 2 t) y := by
  have hN : t.val < 16 := lt_of_lt_of_eq t.isLt N_0
  rw [outsAt0_A m c t ht (by omega), ← at_part]
  frame_out

/-- and a later point's, over what the point before left. -/
theorem gain_later (t : Fin cfg0.N) (ht : ¬t.val % 16 = 0) (y : S1x2048.Idx) :
    (outsAt0 m c t.val t.isLt).2 y
      = (outsAt0 m c (t.val - 1) (Nat.lt_of_le_of_lt (Nat.sub_le _ _) t.isLt)).2 y + part (iblk m c 0 t) (iblk m c 2 t) y := by
  rw [outsAt0_B m c t ht (by omega), ← at_part]
  generalize (outsAt0 m c (t.val - 1) (Nat.lt_of_le_of_lt (Nat.sub_le _ _) t.isLt)).2 = old
  frame_out
  unfold k0_pay6
  exact congrArg (· + _) (congrFun (shapeCast_self _ _) y)

/-- The blocks each of the sixteen points names: its own rows, the gains whole. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] :=
  (by decide +kernel : ∀ t : Fin grid0.N, _)

/-- The array row that is row `r` of point `t`'s block. -/
def rowOf (t : Fin cfg0.N) (r : Fin 256) : Fin 4096 := ⟨t.val * 256 + r.val, by have := t.isLt; have : cfg0.N = 16 := N_0; omega⟩

/-- A block of the rows, -/
theorem blk_x (t : Fin cfg0.N) (r : Fin 256) (k : Fin 2048) : iblk m c 0 t (ix2 r k) = X m c (ix2 (rowOf t r) k) := by
  blk_point [iblk, V, idx t]
  rfl

/-- the gains -/
theorem blk_g (t : Fin cfg0.N) (k : Fin 2048) : iblk m c 1 t (ix2 0 k) = G m c (ix2 0 k) := by
  blk_point [iblk, V, idx t]

/-- and a block of the gradient. -/
theorem blk_d (t : Fin cfg0.N) (r : Fin 256) (k : Fin 2048) : iblk m c 2 t (ix2 r k) = D m c (ix2 (rowOf t r) k) := by
  blk_point [iblk, V, idx t]
  rfl

/-- One row's share, in the arrays' own places. -/
theorem share_at (t : Fin cfg0.N) (r : Fin 256) (k : Fin 2048) : share (iblk m c 0 t) (iblk m c 2 t) r k
    = D m c (ix2 (rowOf t r) k) * (X m c (ix2 (rowOf t r) k) * root (fun k => X m c (ix2 (rowOf t r) k))) :=
  congrArg₂ (· * ·) (blk_d m c t r k) (congrArg₂ (· * ·) (blk_x m c t r k) (congrArg root (funext fun k => blk_x m c t r k)))

/-- The array of the rows' gradient after the launch. -/
theorem arr_x : (dats m 0 c).arrAt 3 cfg0.N = finalX (X m c) (G m c) (D m c) := by
  refine (dats m 0 c).arrAt_eq_of_covers 3 _ (by decide +kernel) fun t hf y => ?_
  blk_simp [idx t]
  rw [after0_3, row_at]
  obtain ⟨r, k, rfl⟩ : ∃ (r : Fin 256) (k : Fin 2048), y = ix2 r k := ⟨y 0, y 1, eq_ix2 y⟩
  have e : (win0_3.blk t).view.emb (ix2 r k) = ix2 (rowOf t r) k := by
    blk_ext [idx t]
    rfl
  rw [e, at_back]
  exact congrArg₂ (fun a b => back a b k) (funext fun k => blk_x m c t r k)
    (funext fun k => congrArg₂ (· * ·) (blk_d m c t r k) (blk_g m c t k))

/-- The array of the gains' gradient after the launch. -/
theorem arr_g : (dats m 0 c).arrAt 4 cfg0.N = finalG (X m c) (D m c) := by
  refine (dats m 0 c).arrAt_eq_of_after_last 4 t0_15 (by decide +kernel) _ fun j => ?_
  blk_simp [idx t0_15]
  have first : ∀ t : Fin cfg0.N, t.val % 16 = 0 → ∀ y : S1x2048.Idx, (outsAt0 m c t.val t.isLt).2 y
      = 0 + part (iblk m c 0 t) (iblk m c 2 t) y := fun t h y =>
    (gain_first m c t h y).trans (zero_add (part (iblk m c 0 t) (iblk m c 2 t) y : EReal)).symm
  rw [after0_4, Pipeline.eq_sum_fin_of_reset_step_apply_last (M := EReal) (fun n h => (outsAt0 m c n h).2) 16 (fun _ => 0)
    (fun t y => part (iblk m c 0 t) (iblk m c 2 t) y) first (gain_later m c) (le_of_eq N_0) t0_15 rfl j]
  refine (zero_add (_ : EReal)).trans ?_
  obtain ⟨a, k, rfl⟩ : ∃ (a : Fin 1) (k : Fin 2048), j = ix2 a k := ⟨j 0, j 1, eq_ix2 j⟩
  exact Fin.sum_mul_add_congr (S := cfg0.N) (n := 256) (F := fun t r => share (iblk m c 0 t) (iblk m c 2 t) r k) fun t r hl =>
    share_at m c t r k

end Cert.NormPost

end
-- ==== Proof.NormPost.Ref.lean ====
/- The reference's two results read at an index: the gradients of the rows and of the gains. -/
module

public import proofs.«01_k».proof.Proof.Gen.NormPostReferenceIdeal.Read
public import proofs.«01_k».proof.Proof.Norm.Row
public import Idealize.ShloMosaic.Lib.Pipeline.ValueKit

@[expose] public section

set_option maxRecDepth 16384

noncomputable section

open Idealize.ShloMosaic Cert.NormPostReferenceIdeal Cert.NormPostReferenceIdeal.Read

namespace Cert.NormPost.Ref

open Cert.Norm

variable (X : FVec Ideal S4096x2048 .bf16) (G : FVec Ideal S1x2048 .f32) (D : FVec Ideal S4096x2048 .f32)

/-- The mean square of a row, a little raised. -/
theorem at_meanSq (i : Fin 4096) : val_main_v8 (F := Ideal) X (ix2 i 0) = meanSq (fun k => X (ix2 i k)) := by
  pointwise [val_main_v8, val_main_v7, val_main_cst_1, val_main_v6, val_main_v5, val_main_cst_0, val_main_v4, val_main_v3, val_main_cst, val_main_v2, val_main_v0]
  rfl

/-- One over its root. -/
theorem at_root (i : Fin 4096) : val_main_v9 (F := Ideal) X (ix2 i 0) = root (fun k => X (ix2 i k)) := by
  have e := at_meanSq X i
  unfold val_main_v9
  generalize val_main_v8 (F := Ideal) X = y at e ⊢
  pointwise [e]
  rfl

/-- The gradient at a normalized entry before its scaling. -/
theorem at_up (i : Fin 4096) (k : Fin 2048) : val_main_v22 (F := Ideal) G D (ix2 i k) = D (ix2 i k) * G (ix2 0 k) := by
  pointwise [val_main_v22, val_main_v21, val_main_v15, val_main_v1]

/-- The factor of a row in the derivative of its sum of squares. -/
theorem at_coef (i : Fin 4096) : val_main_v32 (F := Ideal) X G D (ix1 i)
    = coef (fun k => X (ix2 i k)) (fun k => D (ix2 i k) * G (ix2 0 k)) := by
  have e := at_meanSq X i
  have f := at_root X i
  have g := at_up G D i
  unfold val_main_v32 val_main_v31 val_main_v29 val_main_v12 val_main_v10 val_main_v26 val_main_v25 val_main_v24
  generalize val_main_v8 (F := Ideal) X = x at e ⊢
  generalize val_main_v9 (F := Ideal) X = y at f ⊢
  generalize val_main_v22 (F := Ideal) G D = z at g ⊢
  pointwise [val_main_v30, val_main_cst_7, val_main_cst_6, val_main_cst_5, val_main_v11, val_main_cst_2, e, f, g]
  rw [Fin.sum_univ_one]
  pointwise [e, f, g]
  rfl

/-- The gradient of the rows. -/
theorem dx (i : Fin 4096) (k : Fin 2048) : val_main_v38 (F := Ideal) X G D (ix2 i k)
    = back (fun k => X (ix2 i k)) (fun k => D (ix2 i k) * G (ix2 0 k)) k := by
  have e := at_coef X G D i
  have f := at_root X i
  have g := at_up G D i k
  rw [← back_eq]
  unfold val_main_v38 val_main_v37 val_main_v36 val_main_v35 val_main_v34 val_main_v33 val_main_v28 val_main_v27
  generalize val_main_v32 (F := Ideal) X G D = x at e ⊢
  generalize val_main_v9 (F := Ideal) X = y at f ⊢
  generalize val_main_v22 (F := Ideal) G D = z at g ⊢
  pointwise [e, f, g]
  exact add_assoc _ _ _

/-- The gradient of the gains. -/
theorem dg (a : Fin 1) (k : Fin 2048) : val_main_v39 (F := Ideal) X D (ix2 a k)
    = ∑ i : Fin 4096, D (ix2 i k) * (X (ix2 i k) * root (fun k => X (ix2 i k))) := by
  have f := at_root X
  unfold val_main_v39 val_main_v23 val_main_v20 val_main_v19 val_main_v18 val_main_v14 val_main_v13
  generalize val_main_v9 (F := Ideal) X = y at f ⊢
  pointwise [val_main_cst_4, val_main_cst_3]
  rw [Fin.sum_univ_one]
  pointwise [f]
  exact Finset.sum_congr rfl fun i _ => mul_comm _ _

end Cert.NormPost.Ref

end
-- ==== Proof.NormPost.Claims.lean ====
/- The claims about the derivative of the normalization behind the stack. -/
module

public import proofs.«01_k».proof.Defs
public import proofs.«01_k».proof.Proof.Gen.NormPostKernel.Frame
public import proofs.«01_k».proof.Proof.Gen.NormPostReferenceIdeal.Run
public import proofs.«01_k».proof.Proof.NormPost.Array
public import proofs.«01_k».proof.Proof.NormPost.Ref
public import Idealize.ShloMosaic.Lib.Quiescent

@[expose] public section

set_option maxRecDepth 16384

noncomputable section

open Idealize.ShloMosaic Idealize.SL.Sem

namespace Cert.NormPost

/-- The kernel ends, leaves its arguments and every counter as they were, on the machine's numbers. -/
theorem frame_kernel : Cert.quiescent_NormPostKernel := fun m ρ _ => Cert.NormPostKernel.Gen.frame m ρ

/-- The same over the extended reals. -/
theorem frame_ideal : Cert.quiescent_NormPostKernelIdeal := fun m ρ _ => Cert.NormPostKernelIdeal.Gen.frame m ρ

/-- The reference ends and leaves its arguments as they were; it declares no counter. -/
theorem frame_ref : Cert.quiescent_NormPostReferenceIdeal := fun m ρ _ =>
  (θ_run Cert.NormPostReferenceIdeal.defs _ _).mono
    (fun r h => ⟨fun c => (h c).2.2, sem_eq_zero_of_no_sems (by decide) r.2⟩)
    (Cert.NormPostReferenceIdeal.Value.run m ρ)

/-- The reference's first result is the gradient of the rows, -/
theorem result_x (X : FVec Ideal Cert.NormPostReferenceIdeal.S4096x2048 .bf16) (G : FVec Ideal Cert.NormPostReferenceIdeal.S1x2048 .f32)
    (D : FVec Ideal Cert.NormPostReferenceIdeal.S4096x2048 .f32) :
    Cert.NormPostReferenceIdeal.Read.val_main_v38 (F := Ideal) X G D = finalX X G D := by
  funext y
  obtain ⟨i, k, rfl⟩ : ∃ i k, y = ix2 i k := ⟨y 0, y 1, eq_ix2 y⟩
  exact Ref.dx X G D i k

/-- and the second that of the gains. -/
theorem result_g (X : FVec Ideal Cert.NormPostReferenceIdeal.S4096x2048 .bf16) (D : FVec Ideal Cert.NormPostReferenceIdeal.S4096x2048 .f32) :
    Cert.NormPostReferenceIdeal.Read.val_main_v39 (F := Ideal) X D = finalG X D := by
  funext y
  obtain ⟨a, k, rfl⟩ : ∃ a k, y = ix2 a k := ⟨y 0, y 1, eq_ix2 y⟩
  exact Ref.dg X D a k

/-- The kernel and the reference agree over the extended reals, on any arguments. -/
theorem algebraic : Cert.algebraic_NormPostKernelIdeal_NormPostReferenceIdeal := by
  intro m ρ m' ρ' _ hagree
  refine ⟨fun c => finalX (X m c) (G m c) (D m c), fun c => finalG (X m c) (D m c), ?_, ?_⟩
  · exact (θ_run Cert.NormPostKernelIdeal.defs _ _).mono
      (fun r h c => ⟨(h c).1.trans (arr_x m c), (h c).2.1.trans (arr_g m c), (h c).2.2⟩)
      (Cert.NormPostKernelIdeal.Value.run_blocks m ρ)
  · refine (θ_run Cert.NormPostReferenceIdeal.defs _ _).mono (fun r h c => ?_) (Cert.NormPostReferenceIdeal.Value.run m' ρ')
    obtain ⟨a0, a1, a2⟩ := hagree c
    refine ⟨(h c).1.trans ?_, (h c).2.1.trans ?_, (h c).2.2⟩
    · rw [Cert.NormPostReferenceIdeal.Read.val_main_v38_eq, a0, a1, a2]
      exact result_x _ _ _
    · rw [Cert.NormPostReferenceIdeal.Read.val_main_v39_eq, a0, a2]
      exact result_g _ _

end Cert.NormPost

end
-- ==== Proof.NormMem.Array.lean ====
/- The derivative of the normalization of the memory: what the one point leaves in its two blocks, and the two arrays. -/
module

public import proofs.«01_k».proof.Proof.Gen.NormMemKernelIdeal.Value
public import proofs.«01_k».proof.Proof.Norm.Row
public import Idealize.ShloMosaic.Lib.Pipeline.ValueKit
public import Idealize.ShloMosaic.Lib.Pipeline.ReadBack

@[expose] public section

set_option maxRecDepth 16384

noncomputable section

open Idealize.ShloMosaic Idealize.ShloMosaic.TcCoe Cert.NormMemKernelIdeal Cert.NormMemKernelIdeal.Gen

namespace Cert.NormMem

open Cert.Norm

variable (m : (ℓ : Loc nD τ sig) → Buf (Elt Ideal) ℓ) (c : Dev nD)

/-- The rows that were normalized, -/
abbrev X : FVec Ideal S256x2048 .f32 := m ((c : Thread nD τ).loc main_arg0)
/-- the gains, -/
abbrev G : FVec Ideal S1x2048 .f32 := m ((c : Thread nD τ).loc main_arg1)
/-- and the gradient of the normalized rows, as launched. -/
abbrev D : FVec Ideal S256x2048 .f32 := m ((c : Thread nD τ).loc main_arg2)

/-- The gradient of the rows, as an array, -/
def finalX (X : FVec Ideal S256x2048 .f32) (G : FVec Ideal S1x2048 .f32) (D : FVec Ideal S256x2048 .f32) : FVec Ideal S256x2048 .f32 := fun y =>
  back (fun k => X (ix2 (y 0) k)) (fun k => D (ix2 (y 0) k) * G (ix2 0 k)) (y 1)

/-- and that of the gains: over all rows, the gradient times the normalized row. -/
def finalG (X : FVec Ideal S256x2048 .f32) (D : FVec Ideal S256x2048 .f32) : FVec Ideal S1x2048 .f32 := fun y =>
  ∑ i : Fin 256, D (ix2 i (y 1)) * (X (ix2 i (y 1)) * root (fun k => X (ix2 i k)))

/-- The body's reciprocal root of a row, -/
theorem at_root (x : FVec Ideal S256x2048 .f32) (r : Fin 256) : k0_pay1 (F := Ideal) x (ix2 r 0) = root (fun k => x (ix2 r k)) := by
  pointwise [k0_pay1]
  rfl

/-- its normalized row, -/
theorem at_norm (x : FVec Ideal S256x2048 .f32) (r : Fin 256) (k : Fin 2048) :
    k0_pay2 (F := Ideal) x (ix2 r k) = x (ix2 r k) * root (fun k => x (ix2 r k)) := by
  have e := at_root x
  unfold k0_pay2
  generalize k0_pay1 (F := Ideal) x = y at e ⊢
  pointwise [e]

/-- the gradient of its rows -/
theorem at_back (x : FVec Ideal S256x2048 .f32) (d : FVec Ideal S256x2048 .f32) (g : FVec Ideal S1x2048 .f32)
    (r : Fin 256) (k : Fin 2048) : k0_pay3 (F := Ideal) x d g (ix2 r k)
      = back (fun k => x (ix2 r k)) (fun k => d (ix2 r k) * g (ix2 0 k)) k := by
  have h := at_root x
  have h' := at_norm x
  unfold k0_pay3
  generalize k0_pay1 (F := Ideal) x = y at h ⊢
  generalize k0_pay2 (F := Ideal) x = z at h' ⊢
  pointwise [h, h']
  rfl

/-- and its share of the gradient of the gains. -/
theorem at_part (x : FVec Ideal S256x2048 .f32) (d : FVec Ideal S256x2048 .f32) : k0_pay4 (F := Ideal) x d = finalG x d := by
  funext y
  obtain ⟨a, k, rfl⟩ : ∃ (a : Fin 1) (k : Fin 2048), y = ix2 a k := ⟨y 0, y 1, eq_ix2 y⟩
  have h' := at_norm x
  unfold k0_pay4
  generalize k0_pay2 (F := Ideal) x = z at h' ⊢
  pointwise [h']
  rfl

/-- What the point leaves in the block of the rows' gradient, -/
theorem row_at (t : Fin cfg0.N) : (outsAt0 m c t).1 = k0_pay3 (F := Ideal) (iblk m c 0 t) (iblk m c 2 t) (iblk m c 1 t) := by
  funext y
  unfold outsAt0
  frame_out

/-- and in that of the gains'. -/
theorem gain_at (t : Fin cfg0.N) : (outsAt0 m c t).2 = finalG (iblk m c 0 t) (iblk m c 2 t) := by
  funext y
  rw [← at_part]
  unfold outsAt0
  frame_out

/-- The blocks the point names: the arrays whole. -/
theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- The block of the rows, -/
theorem blk_x (t : Fin cfg0.N) (r : Fin 256) (k : Fin 2048) : iblk m c 0 t (ix2 r k) = X m c (ix2 r k) := by
  blk_point [iblk, V, idx t]

/-- the gains -/
theorem blk_g (t : Fin cfg0.N) (k : Fin 2048) : iblk m c 1 t (ix2 0 k) = G m c (ix2 0 k) := by
  blk_point [iblk, V, idx t]

/-- and the block of the gradient. -/
theorem blk_d (t : Fin cfg0.N) (r : Fin 256) (k : Fin 2048) : iblk m c 2 t (ix2 r k) = D m c (ix2 r k) := by
  blk_point [iblk, V, idx t]

/-- The array of the rows' gradient after the launch. -/
theorem arr_x : (dats m 0 c).arrAt 3 cfg0.N = finalX (X m c) (G m c) (D m c) := by
  refine (dats m 0 c).arrAt_eq_of_covers 3 _ (by decide +kernel) fun t hf y => ?_
  blk_simp [idx t]
  rw [after0_3, row_at]
  obtain ⟨r, k, rfl⟩ : ∃ (r : Fin 256) (k : Fin 2048), y = ix2 r k := ⟨y 0, y 1, eq_ix2 y⟩
  have e : (win0_3.blk t).view.emb (ix2 r k) = ix2 r k := by
    blk_ext [idx t]
  rw [e, at_back]
  exact congrArg₂ (fun a b => back a b k) (funext fun k => blk_x m c t r k)
    (funext fun k => congrArg₂ (· * ·) (blk_d m c t r k) (blk_g m c t k))

/-- The array of the gains' gradient after the launch. -/
theorem arr_g : (dats m 0 c).arrAt 4 cfg0.N = finalG (X m c) (D m c) := by
  refine (dats m 0 c).arrAt_eq_of_covers 4 _ (by decide +kernel) fun t hf y => ?_
  blk_simp [idx t]
  rw [after0_4, gain_at]
  obtain ⟨a, k, rfl⟩ : ∃ (a : Fin 1) (k : Fin 2048), y = ix2 a k := ⟨y 0, y 1, eq_ix2 y⟩
  have e : (win0_4.blk t).view.emb (ix2 a k) = ix2 a k := by
    blk_ext [idx t]
  rw [e]
  refine congrFun (congrArg₂ finalG (funext fun z => ?_) (funext fun z => ?_)) (ix2 a k)
  · rw [eq_ix2 z]
    exact blk_x m c t (z 0) (z 1)
  · rw [eq_ix2 z]
    exact blk_d m c t (z 0) (z 1)

end Cert.NormMem

end
-- ==== Proof.NormMem.Ref.lean ====
/- The reference's two results read at an index: the gradients of the rows and of the gains. -/
module

public import proofs.«01_k».proof.Proof.Gen.NormMemReferenceIdeal.Read
public import proofs.«01_k».proof.Proof.Norm.Row
public import Idealize.ShloMosaic.Lib.Pipeline.ValueKit

@[expose] public section

set_option maxRecDepth 16384

noncomputable section

open Idealize.ShloMosaic Cert.NormMemReferenceIdeal Cert.NormMemReferenceIdeal.Read

namespace Cert.NormMem.Ref

open Cert.Norm

variable (X : FVec Ideal S256x2048 .f32) (G : FVec Ideal S1x2048 .f32) (D : FVec Ideal S256x2048 .f32)

/-- The mean square of a row, a little raised. -/
theorem at_meanSq (i : Fin 256) : val_main_v7 (F := Ideal) X (ix2 i 0) = meanSq (fun k => X (ix2 i k)) := by
  pointwise [val_main_v7, val_main_v6, val_main_cst_1, val_main_v5, val_main_v4, val_main_cst_0, val_main_v3, val_main_v2, val_main_cst, val_main_v1]
  rfl

/-- One over its root. -/
theorem at_root (i : Fin 256) : val_main_v8 (F := Ideal) X (ix2 i 0) = root (fun k => X (ix2 i k)) := by
  have e := at_meanSq X i
  unfold val_main_v8
  generalize val_main_v7 (F := Ideal) X = y at e ⊢
  pointwise [e]
  rfl

/-- The gradient at a normalized entry before its scaling. -/
theorem at_up (i : Fin 256) (k : Fin 2048) : val_main_v21 (F := Ideal) G D (ix2 i k) = D (ix2 i k) * G (ix2 0 k) := by
  pointwise [val_main_v21, val_main_v20, val_main_v14, val_main_v0]

/-- The factor of a row in the derivative of its sum of squares. -/
theorem at_coef (i : Fin 256) : val_main_v31 (F := Ideal) X G D (ix1 i)
    = coef (fun k => X (ix2 i k)) (fun k => D (ix2 i k) * G (ix2 0 k)) := by
  have e := at_meanSq X i
  have f := at_root X i
  have g := at_up G D i
  unfold val_main_v31 val_main_v30 val_main_v28 val_main_v11 val_main_v9 val_main_v25 val_main_v24 val_main_v23
  generalize val_main_v7 (F := Ideal) X = x at e ⊢
  generalize val_main_v8 (F := Ideal) X = y at f ⊢
  generalize val_main_v21 (F := Ideal) G D = z at g ⊢
  pointwise [val_main_v29, val_main_cst_7, val_main_cst_6, val_main_cst_5, val_main_v10, val_main_cst_2, e, f, g]
  rw [Fin.sum_univ_one]
  pointwise [e, f, g]
  rfl

/-- The gradient of the rows. -/
theorem dx (i : Fin 256) (k : Fin 2048) : val_main_v36 (F := Ideal) X G D (ix2 i k)
    = back (fun k => X (ix2 i k)) (fun k => D (ix2 i k) * G (ix2 0 k)) k := by
  have e := at_coef X G D i
  have f := at_root X i
  have g := at_up G D i k
  rw [← back_eq]
  unfold val_main_v36 val_main_v35 val_main_v34 val_main_v33 val_main_v32 val_main_v27 val_main_v26
  generalize val_main_v31 (F := Ideal) X G D = x at e ⊢
  generalize val_main_v8 (F := Ideal) X = y at f ⊢
  generalize val_main_v21 (F := Ideal) G D = z at g ⊢
  pointwise [e, f, g]
  exact add_assoc _ _ _

/-- The gradient of the gains. -/
theorem dg (a : Fin 1) (k : Fin 2048) : val_main_v37 (F := Ideal) X D (ix2 a k)
    = ∑ i : Fin 256, D (ix2 i k) * (X (ix2 i k) * root (fun k => X (ix2 i k))) := by
  have f := at_root X
  unfold val_main_v37 val_main_v22 val_main_v19 val_main_v18 val_main_v17 val_main_v13 val_main_v12
  generalize val_main_v8 (F := Ideal) X = y at f ⊢
  pointwise [val_main_cst_4, val_main_cst_3]
  rw [Fin.sum_univ_one]
  pointwise [f]
  exact Finset.sum_congr rfl fun i _ => mul_comm _ _

end Cert.NormMem.Ref

end
-- ==== Proof.NormMem.Claims.lean ====
/- The claims about the derivative of the normalization of the memory. -/
module

public import proofs.«01_k».proof.Defs
public import proofs.«01_k».proof.Proof.Gen.NormMemKernel.Frame
public import proofs.«01_k».proof.Proof.Gen.NormMemReferenceIdeal.Run
public import proofs.«01_k».proof.Proof.NormMem.Array
public import proofs.«01_k».proof.Proof.NormMem.Ref
public import Idealize.ShloMosaic.Lib.Quiescent

@[expose] public section

set_option maxRecDepth 16384

noncomputable section

open Idealize.ShloMosaic Idealize.SL.Sem

namespace Cert.NormMem

/-- The kernel ends, leaves its arguments and every counter as they were, on the machine's numbers. -/
theorem frame_kernel : Cert.quiescent_NormMemKernel := fun m ρ _ => Cert.NormMemKernel.Gen.frame m ρ

/-- The same over the extended reals. -/
theorem frame_ideal : Cert.quiescent_NormMemKernelIdeal := fun m ρ _ => Cert.NormMemKernelIdeal.Gen.frame m ρ

/-- The reference ends and leaves its arguments as they were; it declares no counter. -/
theorem frame_ref : Cert.quiescent_NormMemReferenceIdeal := fun m ρ _ =>
  (θ_run Cert.NormMemReferenceIdeal.defs _ _).mono
    (fun r h => ⟨fun c => (h c).2.2, sem_eq_zero_of_no_sems (by decide) r.2⟩)
    (Cert.NormMemReferenceIdeal.Value.run m ρ)

/-- The reference's first result is the gradient of the rows, -/
theorem result_x (X : FVec Ideal Cert.NormMemReferenceIdeal.S256x2048 .f32) (G : FVec Ideal Cert.NormMemReferenceIdeal.S1x2048 .f32)
    (D : FVec Ideal Cert.NormMemReferenceIdeal.S256x2048 .f32) :
    Cert.NormMemReferenceIdeal.Read.val_main_v36 (F := Ideal) X G D = finalX X G D := by
  funext y
  obtain ⟨i, k, rfl⟩ : ∃ i k, y = ix2 i k := ⟨y 0, y 1, eq_ix2 y⟩
  exact Ref.dx X G D i k

/-- and the second that of the gains. -/
theorem result_g (X : FVec Ideal Cert.NormMemReferenceIdeal.S256x2048 .f32) (D : FVec Ideal Cert.NormMemReferenceIdeal.S256x2048 .f32) :
    Cert.NormMemReferenceIdeal.Read.val_main_v37 (F := Ideal) X D = finalG X D := by
  funext y
  obtain ⟨a, k, rfl⟩ : ∃ a k, y = ix2 a k := ⟨y 0, y 1, eq_ix2 y⟩
  exact Ref.dg X D a k

/-- The kernel and the reference agree over the extended reals, on any arguments. -/
theorem algebraic : Cert.algebraic_NormMemKernelIdeal_NormMemReferenceIdeal := by
  intro m ρ m' ρ' _ hagree
  refine ⟨fun c => finalX (X m c) (G m c) (D m c), fun c => finalG (X m c) (D m c), ?_, ?_⟩
  · exact (θ_run Cert.NormMemKernelIdeal.defs _ _).mono
      (fun r h c => ⟨(h c).1.trans (arr_x m c), (h c).2.1.trans (arr_g m c), (h c).2.2⟩)
      (Cert.NormMemKernelIdeal.Value.run_blocks m ρ)
  · refine (θ_run Cert.NormMemReferenceIdeal.defs _ _).mono (fun r h c => ?_) (Cert.NormMemReferenceIdeal.Value.run m' ρ')
    obtain ⟨a0, a1, a2⟩ := hagree c
    refine ⟨(h c).1.trans ?_, (h c).2.1.trans ?_, (h c).2.2⟩
    · rw [Cert.NormMemReferenceIdeal.Read.val_main_v36_eq, a0, a1, a2]
      exact result_x _ _ _
    · rw [Cert.NormMemReferenceIdeal.Read.val_main_v37_eq, a0, a2]
      exact result_g _ _

end Cert.NormMem

end
-- ==== Proof.CLn.Row.lean ====
/- One row of a normalization that takes off the mean, and its derivative, over the extended reals; the slope of `n` times its sigmoid. -/
module

public import proofs.«01_k».proof.Proof.Norm.Row
public import proofs.«01_k».proof.Proof.Attn.Softmax
public import Idealize.ShloMosaic.PureOps.Ideal

@[expose] public section

noncomputable section

open Idealize.ShloMosaic

namespace Cert.CLn

open Cert.Norm

/-- A row less its mean. -/
def cen (x : Fin 2048 → EReal) (k : Fin 2048) : EReal := x k - Ideal.div (∑ k, x k) len

/-- The factor of a square's derivative. -/
def two : EReal := Ideal.ofBits .f32 0x40000000#32

/-- The normalized row. -/
def unit (x : Fin 2048 → EReal) (k : Fin 2048) : EReal := cen x k * root (cen x)

/-- The normalized row, scaled and moved. -/
def out (x : Fin 2048 → EReal) (g b : EReal) (k : Fin 2048) : EReal := unit x k * g + b

/-- The slope of `n` times its sigmoid at `n`. -/
def slope (n : EReal) : EReal := Ideal.logistic n + n * Ideal.logistic n * (1 - Ideal.logistic n)

/-- The gradient in front of a gate that is `n` times its sigmoid, from the one behind it. -/
def inner (x : Fin 2048 → EReal) (d g b : EReal) (k : Fin 2048) : EReal := d * slope (out x g b k)

/-- The derivative as the kernel writes it: off the incoming gradient go its mean and, along the normalized row, its mean against that row. -/
def back (x u : Fin 2048 → EReal) (j : Fin 2048) : EReal :=
  root (cen x) * (u j - Ideal.div (∑ k, u k) len - unit x j * Ideal.div (∑ k, u k * unit x k) len)

/-- The derivative as the chain rule gives it: through the root, through the squares, and through the mean. -/
def chain (x u : Fin 2048 → EReal) (j : Fin 2048) : EReal :=
  u j * root (cen x) + coef (cen x) u * (two * cen x j)
    + Ideal.div ((∑ k, -(u k * root (cen x))) + ∑ k, -(coef (cen x) u * (two * cen x k))) len

/-- The factor is two. -/
theorem two_eq : two = ((2 : ℝ) : EReal) := by
  simp [two, Ideal.ofBits, Ideal.ieee, -EReal.coe_mul]
  norm_num

/-- Two extended reals whose difference is a real number are real numbers. -/
theorem real_of_sub {a b : EReal} {r : ℝ} (h : a - b = r) : ∃ s : ℝ, a = s := by
  induction a with
  | bot => simp at h
  | coe s => exact ⟨s, rfl⟩
  | top =>
    induction b with
    | bot => exact absurd h (by simp)
    | coe s => exact absurd h (by simp [EReal.top_sub_coe])
    | top => exact absurd h (by simp)

/-- A row whose root does not vanish is a row of real numbers. -/
theorem real_of_root {v : Fin 2048 → EReal} (h : root v ≠ 0) (k : Fin 2048) : ∃ r : ℝ, v k = r := by
  have top : meanSq v ≠ ⊤ := fun e => h (by rw [root, e]; simp)
  by_contra c
  apply top
  have s : v k * v k = ⊤ := by
    generalize v k = a at c
    induction a with
    | bot => simp
    | coe r => exact absurd ⟨r, rfl⟩ c
    | top => simp
  have t : ∑ k, v k * v k = ⊤ := top_le_iff.1 (s ▸ Finset.single_le_sum (fun k _ => sq_nonneg' (v k)) (Finset.mem_univ k))
  obtain ⟨e, -, he⟩ := eps_pos
  rw [meanSq, t, div_len, EReal.top_mul_coe_of_pos (by norm_num), he, EReal.top_add_coe]

/-- The two writings of the derivative agree where the incoming gradient is a row of real numbers, whatever the row holds. -/
theorem chain_eq (x u : Fin 2048 → EReal) (hu : ∀ k, ∃ r : ℝ, u k = r) (j : Fin 2048) : chain x u j = back x u j := by
  rcases root_cases (cen x) with ⟨h, h'⟩ | ⟨r, hr, h, h'⟩
  · have c : coef (cen x) u = 0 := by rw [coef, h', div_len, mul_zero, mul_zero, zero_mul]
    rw [chain, back, c, h, div_len]
    simp
  · have hv := real_of_root (v := cen x) (by rw [h]; exact_mod_cast hr.ne')
    have hx : ∀ k, ∃ s : ℝ, x k = s := fun k => by
      obtain ⟨s, hs⟩ := hv k
      exact real_of_sub hs
    choose U hU using hu
    choose X hX using hx
    have cX : ∀ k, cen x k = ((X k - (∑ k, X k) * 2048⁻¹ : ℝ) : EReal) := fun k => by
      rw [cen, div_len, hX k, Finset.sum_congr rfl fun k _ => hX k, ← Cert.Attn.coe_sum, ← EReal.coe_mul, ← EReal.coe_sub]
    have z : ∑ k, (X k - (∑ k, X k) * 2048⁻¹) = 0 := by
      rw [Finset.sum_sub_distrib, Finset.sum_const, Finset.card_univ, Fintype.card_fin, nsmul_eq_mul]
      push_cast
      ring
    obtain ⟨v, cX', z'⟩ : ∃ v : Fin 2048 → ℝ, (∀ k, cen x k = ((v k : ℝ) : EReal)) ∧ ∑ k, v k = 0 := ⟨_, cX, z⟩
    have c : coef (cen x) u = (((∑ k, v k * U k) * (-(1 / 2) * (r * r * r)) * 2048⁻¹ : ℝ) : EReal) := by
      rw [coef, h', half_eq, div_len, Finset.sum_congr rfl fun k _ => congrArg₂ (· * ·) (cX' k) (hU k)]
      simp only [← EReal.coe_mul, ← Cert.Attn.coe_sum]
    simp only [chain, back, unit, c, h, hU, cX', two_eq, div_len, ← EReal.coe_mul, ← EReal.coe_neg, ← Cert.Attn.coe_sum, ← EReal.coe_add,
      ← EReal.coe_sub]
    congr 1
    have s1 : ∑ k, -(U k * r) = -((∑ k, U k) * r) := by rw [Finset.sum_neg_distrib, Finset.sum_mul]
    have s2 : ∀ C : ℝ, ∑ k, -(C * (2 * v k)) = 0 := fun C => by
      rw [Finset.sum_neg_distrib, ← Finset.mul_sum, ← Finset.mul_sum, z', mul_zero, mul_zero, neg_zero]
    have s3 : ∑ k, U k * (v k * r) = (∑ k, v k * U k) * r := by
      rw [Finset.sum_mul]
      exact Finset.sum_congr rfl fun k _ => by ring
    rw [s1, s2, s3]
    ring

/-- The slope is a real number everywhere. -/
theorem slope_real (n : EReal) : ∃ r : ℝ, slope n = r := by
  have h1 : (1 : EReal) - 1 = 0 := by rw [← EReal.coe_one, ← EReal.coe_sub, sub_self, EReal.coe_zero]
  unfold slope
  induction n using EReal.rec with
  | bot => exact ⟨0, by simp⟩
  | top => exact ⟨1, by simp [h1]⟩
  | coe n =>
    rw [Ideal.logistic_coe]
    generalize (1 + Real.exp (-n))⁻¹ = s
    exact ⟨s + n * s * (1 - s), by push_cast; rfl⟩

/-- The slope's two parts may be added before the product with a real number. -/
theorem slope_parts {a : EReal} (ha : ∃ r : ℝ, a = r) (n : EReal) :
    a * Ideal.logistic n + n * a * (Ideal.logistic n * (1 - Ideal.logistic n)) = a * slope n := by
  obtain ⟨a, rfl⟩ := ha
  have h1 : (1 : EReal) - 1 = 0 := by rw [← EReal.coe_one, ← EReal.coe_sub, sub_self, EReal.coe_zero]
  unfold slope
  induction n using EReal.rec with
  | bot => simp
  | top => simp [h1]
  | coe n =>
    rw [Ideal.logistic_coe]
    generalize (1 + Real.exp (-n))⁻¹ = s
    rw [← EReal.coe_one, ← EReal.coe_sub]
    simp only [← EReal.coe_mul, ← EReal.coe_add]
    congr 1
    ring

end Cert.CLn

end
-- ==== Proof.CLn.Array.lean ====
/- The derivative of the conformer convolution's norm and gate: what each point leaves in its three blocks, and the three arrays. -/
module

public import proofs.«01_k».proof.Proof.Gen.CLnKernelIdeal.Value
public import proofs.«01_k».proof.Proof.CLn.Row
public import Idealize.ShloMosaic.Lib.Pipeline.ValueKit
public import Idealize.ShloMosaic.Lib.Pipeline.ReadBack

@[expose] public section

set_option maxRecDepth 16384

noncomputable section

open Idealize.ShloMosaic Idealize.ShloMosaic.TcCoe Cert.CLnKernelIdeal Cert.CLnKernelIdeal.Gen

namespace Cert.CLn

open Cert.Norm

variable (m : (ℓ : Loc nD τ sig) → Buf (Elt Ideal) ℓ) (c : Dev nD)

/-- The rows that were normalized, -/
abbrev X : FVec Ideal S4096x2048 .f32 := m ((c : Thread nD τ).loc main_arg0)
/-- the gradient behind the gate, -/
abbrev D : FVec Ideal S4096x2048 .f32 := m ((c : Thread nD τ).loc main_arg1)
/-- the gains -/
abbrev G : FVec Ideal S1x2048 .f32 := m ((c : Thread nD τ).loc main_arg2)
/-- and the offsets, as launched. -/
abbrev B : FVec Ideal S1x2048 .f32 := m ((c : Thread nD τ).loc main_arg3)

/-- The gradient of the rows, as an array, -/
def finalX (X D : FVec Ideal S4096x2048 .f32) (G B : FVec Ideal S1x2048 .f32) : FVec Ideal S4096x2048 .f32 := fun y =>
  back (fun k => X (ix2 (y 0) k)) (fun k => inner (fun k => X (ix2 (y 0) k)) (D (ix2 (y 0) k)) (G (ix2 0 k)) (B (ix2 0 k)) k * G (ix2 0 k)) (y 1)

/-- that of the gains, -/
def finalG (X D : FVec Ideal S4096x2048 .f32) (G B : FVec Ideal S1x2048 .f32) : FVec Ideal S1x2048 .f32 := fun y =>
  ∑ i : Fin 4096, inner (fun k => X (ix2 i k)) (D (ix2 i (y 1))) (G (ix2 0 (y 1))) (B (ix2 0 (y 1))) (y 1) * unit (fun k => X (ix2 i k)) (y 1)

/-- and that of the offsets. -/
def finalB (X D : FVec Ideal S4096x2048 .f32) (G B : FVec Ideal S1x2048 .f32) : FVec Ideal S1x2048 .f32 := fun y =>
  ∑ i : Fin 4096, inner (fun k => X (ix2 i k)) (D (ix2 i (y 1))) (G (ix2 0 (y 1))) (B (ix2 0 (y 1))) (y 1)

/-- One row's share of the gradient of the offsets, -/
def shareB (x d : FVec Ideal S256x2048 .f32) (g b : FVec Ideal S1x2048 .f32) (r : Fin 256) (k : Fin 2048) : EReal :=
  inner (fun k => x (ix2 r k)) (d (ix2 r k)) (g (ix2 0 k)) (b (ix2 0 k)) k

/-- and of that of the gains, -/
def shareG (x d : FVec Ideal S256x2048 .f32) (g b : FVec Ideal S1x2048 .f32) (r : Fin 256) (k : Fin 2048) : EReal :=
  shareB x d g b r k * unit (fun k => x (ix2 r k)) k

/-- and one block's shares. -/
def partB (x d : FVec Ideal S256x2048 .f32) (g b : FVec Ideal S1x2048 .f32) : FVec Ideal S1x2048 .f32 := fun y =>
  ∑ r : Fin 256, shareB x d g b r (y 1)

@[inherit_doc partB]
def partG (x d : FVec Ideal S256x2048 .f32) (g b : FVec Ideal S1x2048 .f32) : FVec Ideal S1x2048 .f32 := fun y =>
  ∑ r : Fin 256, shareG x d g b r (y 1)

section Body

variable (x d : FVec Ideal S256x2048 .f32) (g b : FVec Ideal S1x2048 .f32)

/-- The body's row less its mean, -/
theorem at_cen (r : Fin 256) (k : Fin 2048) : k0_pay6 (F := Ideal) x (ix2 r k) = cen (fun k => x (ix2 r k)) k := by
  pointwise [k0_pay6]
  rfl

/-- its reciprocal root, -/
theorem at_root (r : Fin 256) : k0_pay7 (F := Ideal) x (ix2 r 0) = root (cen fun k => x (ix2 r k)) := by
  have e := at_cen x
  unfold k0_pay7
  generalize k0_pay6 (F := Ideal) x = y at e ⊢
  pointwise [e]
  rfl

/-- its normalized row, -/
theorem at_unit (r : Fin 256) (k : Fin 2048) : k0_pay8 (F := Ideal) x (ix2 r k) = unit (fun k => x (ix2 r k)) k := by
  have e := at_cen x
  have f := at_root x
  unfold k0_pay8
  generalize k0_pay6 (F := Ideal) x = y at e ⊢
  generalize k0_pay7 (F := Ideal) x = z at f ⊢
  pointwise [e, f]
  rfl

/-- the gradient in front of the gate, -/
theorem at_inner (r : Fin 256) (k : Fin 2048) : k0_pay9 (F := Ideal) x g b d (ix2 r k) = shareB x d g b r k := by
  have e := at_unit x
  unfold k0_pay9
  generalize k0_pay8 (F := Ideal) x = y at e ⊢
  pointwise [e]
  rfl

/-- scaled by the gains, -/
theorem at_up (r : Fin 256) (k : Fin 2048) : k0_pay10 (F := Ideal) x g b d (ix2 r k) = shareB x d g b r k * g (ix2 0 k) := by
  have e := at_inner x d g b
  unfold k0_pay10
  generalize k0_pay9 (F := Ideal) x g b d = y at e ⊢
  pointwise [e]

/-- the gradient of the rows, -/
theorem at_back (r : Fin 256) (k : Fin 2048) :
    k0_pay1 (F := Ideal) (k0_pay7 x) (k0_pay8 x) (k0_pay11 x g b d) (k0_pay12 x g b d) (ix2 r k)
      = back (fun k => x (ix2 r k)) (fun k => shareB x d g b r k * g (ix2 0 k)) k := by
  have e := at_unit x
  have f := at_root x
  have h := at_up x d g b
  unfold k0_pay1 k0_pay11 k0_pay12
  generalize k0_pay8 (F := Ideal) x = y at e ⊢
  generalize k0_pay7 (F := Ideal) x = z at f ⊢
  generalize k0_pay10 (F := Ideal) x g b d = w at h ⊢
  pointwise [e, f, h]
  rfl

/-- the gains' gradient with the block's share added -/
theorem at_gain (old : FVec Ideal S1x2048 .f32) (y : S1x2048.Idx) :
    k0_pay4 (F := Ideal) (k0_pay8 x) (k0_pay9 x g b d) old y = old y + partG x d g b y := by
  obtain ⟨a, k, rfl⟩ : ∃ (a : Fin 1) (k : Fin 2048), y = ix2 a k := ⟨y 0, y 1, eq_ix2 y⟩
  have e := at_unit x
  have h := at_inner x d g b
  unfold k0_pay4
  generalize k0_pay8 (F := Ideal) x = y at e ⊢
  generalize k0_pay9 (F := Ideal) x g b d = w at h ⊢
  rw [shapeCast_self]
  pointwise [e, h]
  rfl

/-- and the offsets' gradient likewise. -/
theorem at_offset (old : FVec Ideal S1x2048 .f32) (y : S1x2048.Idx) :
    k0_pay5 (F := Ideal) (k0_pay9 x g b d) old y = old y + partB x d g b y := by
  obtain ⟨a, k, rfl⟩ : ∃ (a : Fin 1) (k : Fin 2048), y = ix2 a k := ⟨y 0, y 1, eq_ix2 y⟩
  have h := at_inner x d g b
  unfold k0_pay5
  generalize k0_pay9 (F := Ideal) x g b d = w at h ⊢
  rw [shapeCast_self]
  pointwise [h]
  rfl

/-- The gains' gradient starts at zero, -/
theorem at_zero_gain (y : S1x2048.Idx) : k0_pay2 (F := Ideal) y = (0 : EReal) := by
  pointwise [k0_pay2]

/-- and so does that of the offsets. -/
theorem at_zero_offset (y : S1x2048.Idx) : k0_pay3 (F := Ideal) y = (0 : EReal) := by
  pointwise [k0_pay3]

end Body

/-- What a point leaves in its block of the rows' gradient, -/
theorem row_at (t : Fin cfg0.N) : (outsAt0 m c t.val t.isLt).1
    = k0_pay1 (F := Ideal) (k0_pay7 (iblk m c 0 t)) (k0_pay8 (iblk m c 0 t)) (k0_pay11 (iblk m c 0 t) (iblk m c 2 t) (iblk m c 3 t) (iblk m c 1 t))
        (k0_pay12 (iblk m c 0 t) (iblk m c 2 t) (iblk m c 3 t) (iblk m c 1 t)) := by
  funext y
  by_cases ht : t.val % 16 = 0
  · rw [outsAt0_A m c t ht]
    frame_out
  · rw [outsAt0_B m c t ht]
    frame_out

/-- the first point's share of the gains' gradient, -/
theorem gain_first (t : Fin cfg0.N) (ht : t.val % 16 = 0) (y : S1x2048.Idx) :
    (outsAt0 m c t.val t.isLt).2.1 y = (0 : EReal) + partG (iblk m c 0 t) (iblk m c 1 t) (iblk m c 2 t) (iblk m c 3 t) y := by
  rw [← at_zero_gain y, ← at_gain, outsAt0_A m c t ht]
  frame_out

/-- a later point's, over what the point before left, -/
theorem gain_later (t : Fin cfg0.N) (ht : ¬t.val % 16 = 0) (y : S1x2048.Idx) :
    (outsAt0 m c t.val t.isLt).2.1 y = (outsAt0 m c (t.val - 1) (Nat.lt_of_le_of_lt (Nat.sub_le _ _) t.isLt)).2.1 y
      + partG (iblk m c 0 t) (iblk m c 1 t) (iblk m c 2 t) (iblk m c 3 t) y := by
  rw [← at_gain, outsAt0_B m c t ht]
  generalize outsAt0 m c (t.val - 1) (Nat.lt_of_le_of_lt (Nat.sub_le _ _) t.isLt) = old
  frame_out

/-- the first point's share of the offsets' gradient, -/
theorem offset_first (t : Fin cfg0.N) (ht : t.val % 16 = 0) (y : S1x2048.Idx) :
    (outsAt0 m c t.val t.isLt).2.2 y = (0 : EReal) + partB (iblk m c 0 t) (iblk m c 1 t) (iblk m c 2 t) (iblk m c 3 t) y := by
  rw [← at_zero_offset y, ← at_offset, outsAt0_A m c t ht]
  frame_out

/-- and a later point's. -/
theorem offset_later (t : Fin cfg0.N) (ht : ¬t.val % 16 = 0) (y : S1x2048.Idx) :
    (outsAt0 m c t.val t.isLt).2.2 y = (outsAt0 m c (t.val - 1) (Nat.lt_of_le_of_lt (Nat.sub_le _ _) t.isLt)).2.2 y
      + partB (iblk m c 0 t) (iblk m c 1 t) (iblk m c 2 t) (iblk m c 3 t) y := by
  rw [← at_offset, outsAt0_B m c t ht]
  generalize outsAt0 m c (t.val - 1) (Nat.lt_of_le_of_lt (Nat.sub_le _ _) t.isLt) = old
  frame_out

/-- The blocks each of the sixteen points names: its own rows, the gains and offsets whole. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![0, 0] :=
  (by decide +kernel : ∀ t : Fin grid0.N, _)

/-- The array row that is row `r` of point `t`'s block. -/
def rowOf (t : Fin cfg0.N) (r : Fin 256) : Fin 4096 := ⟨t.val * 256 + r.val, by have := t.isLt; have : cfg0.N = 16 := N_0; omega⟩

/-- A block of the rows, -/
theorem blk_x (t : Fin cfg0.N) (r : Fin 256) (k : Fin 2048) : iblk m c 0 t (ix2 r k) = X m c (ix2 (rowOf t r) k) := by
  blk_point [iblk, V, idx t]
  rfl

/-- a block of the gradient, -/
theorem blk_d (t : Fin cfg0.N) (r : Fin 256) (k : Fin 2048) : iblk m c 1 t (ix2 r k) = D m c (ix2 (rowOf t r) k) := by
  blk_point [iblk, V, idx t]
  rfl

/-- the gains -/
theorem blk_g (t : Fin cfg0.N) (k : Fin 2048) : iblk m c 2 t (ix2 0 k) = G m c (ix2 0 k) := by
  blk_point [iblk, V, idx t]

/-- and the offsets. -/
theorem blk_b (t : Fin cfg0.N) (k : Fin 2048) : iblk m c 3 t (ix2 0 k) = B m c (ix2 0 k) := by
  blk_point [iblk, V, idx t]

/-- One row's share of the offsets' gradient, in the arrays' own places, -/
theorem shareB_at (t : Fin cfg0.N) (r : Fin 256) (k : Fin 2048) : shareB (iblk m c 0 t) (iblk m c 1 t) (iblk m c 2 t) (iblk m c 3 t) r k
    = inner (fun k => X m c (ix2 (rowOf t r) k)) (D m c (ix2 (rowOf t r) k)) (G m c (ix2 0 k)) (B m c (ix2 0 k)) k := by
  have ex : (fun k => iblk m c 0 t (ix2 r k)) = fun k => X m c (ix2 (rowOf t r) k) := funext fun k => blk_x m c t r k
  have ed : iblk m c 1 t (ix2 r k) = D m c (ix2 (rowOf t r) k) := blk_d m c t r k
  have eg : iblk m c 2 t (ix2 0 k) = G m c (ix2 0 k) := blk_g m c t k
  have eb : iblk m c 3 t (ix2 0 k) = B m c (ix2 0 k) := blk_b m c t k
  unfold shareB
  exact (congrArg (fun x => inner x _ _ _ k) ex).trans ((congrArg (fun d => inner _ d _ _ k) ed).trans
    ((congrArg (fun g => inner _ _ g _ k) eg).trans (congrArg (fun b => inner _ _ _ b k) eb)))

/-- and of the gains'. -/
theorem shareG_at (t : Fin cfg0.N) (r : Fin 256) (k : Fin 2048) : shareG (iblk m c 0 t) (iblk m c 1 t) (iblk m c 2 t) (iblk m c 3 t) r k
    = inner (fun k => X m c (ix2 (rowOf t r) k)) (D m c (ix2 (rowOf t r) k)) (G m c (ix2 0 k)) (B m c (ix2 0 k)) k
      * unit (fun k => X m c (ix2 (rowOf t r) k)) k :=
  congrArg₂ (· * ·) (shareB_at m c t r k) (congrArg (fun x => unit x k) (funext fun k => blk_x m c t r k))

/-- The array of the rows' gradient after the launch. -/
theorem arr_x : (dats m 0 c).arrAt 4 cfg0.N = finalX (X m c) (D m c) (G m c) (B m c) := by
  refine (dats m 0 c).arrAt_eq_of_covers 4 _ (by decide +kernel) fun t hf y => ?_
  blk_simp [idx t]
  rw [after0_4, row_at]
  obtain ⟨r, k, rfl⟩ : ∃ (r : Fin 256) (k : Fin 2048), y = ix2 r k := ⟨y 0, y 1, eq_ix2 y⟩
  have e : (win0_4.blk t).view.emb (ix2 r k) = ix2 (rowOf t r) k := by
    blk_ext [idx t]
    rfl
  rw [e, at_back]
  exact congrArg₂ (fun a b => back a b k) (funext fun k => blk_x m c t r k)
    (funext fun k => congrArg₂ (· * ·) (shareB_at m c t r k) (blk_g m c t k))

/-- The array of the gains' gradient after the launch. -/
theorem arr_g : (dats m 0 c).arrAt 5 cfg0.N = finalG (X m c) (D m c) (G m c) (B m c) := by
  refine (dats m 0 c).arrAt_eq_of_after_last 5 t0_15 (by decide +kernel) _ fun j => ?_
  blk_simp [idx t0_15]
  rw [after0_5, Pipeline.eq_sum_fin_of_reset_step_apply_last (M := EReal) (fun n h => (outsAt0 m c n h).2.1) 16 (fun _ => 0)
    (fun t y => partG (iblk m c 0 t) (iblk m c 1 t) (iblk m c 2 t) (iblk m c 3 t) y) (gain_first m c) (gain_later m c) (le_of_eq N_0) t0_15 rfl j]
  refine (zero_add (_ : EReal)).trans ?_
  obtain ⟨a, k, rfl⟩ : ∃ (a : Fin 1) (k : Fin 2048), j = ix2 a k := ⟨j 0, j 1, eq_ix2 j⟩
  exact Fin.sum_mul_add_congr (S := cfg0.N) (n := 256)
    (F := fun t r => shareG (iblk m c 0 t) (iblk m c 1 t) (iblk m c 2 t) (iblk m c 3 t) r k) fun t r hl => shareG_at m c t r k

/-- The array of the offsets' gradient after the launch. -/
theorem arr_b : (dats m 0 c).arrAt 6 cfg0.N = finalB (X m c) (D m c) (G m c) (B m c) := by
  refine (dats m 0 c).arrAt_eq_of_after_last 6 t0_15 (by decide +kernel) _ fun j => ?_
  blk_simp [idx t0_15]
  rw [after0_6, Pipeline.eq_sum_fin_of_reset_step_apply_last (M := EReal) (fun n h => (outsAt0 m c n h).2.2) 16 (fun _ => 0)
    (fun t y => partB (iblk m c 0 t) (iblk m c 1 t) (iblk m c 2 t) (iblk m c 3 t) y) (offset_first m c) (offset_later m c) (le_of_eq N_0) t0_15 rfl j]
  refine (zero_add (_ : EReal)).trans ?_
  obtain ⟨a, k, rfl⟩ : ∃ (a : Fin 1) (k : Fin 2048), j = ix2 a k := ⟨j 0, j 1, eq_ix2 j⟩
  exact Fin.sum_mul_add_congr (S := cfg0.N) (n := 256)
    (F := fun t r => shareB (iblk m c 0 t) (iblk m c 1 t) (iblk m c 2 t) (iblk m c 3 t) r k) fun t r hl => shareB_at m c t r k

end Cert.CLn

end
-- ==== Proof.CLn.Ref.lean ====
/- The reference's three results read at an index: the gradients of the rows, of the gains and of the offsets. -/
module

public import proofs.«01_k».proof.Proof.Gen.CLnReferenceIdeal.Read
public import proofs.«01_k».proof.Proof.CLn.Row
public import Idealize.ShloMosaic.Lib.Pipeline.ValueKit

@[expose] public section

set_option maxRecDepth 16384

noncomputable section

open Idealize.ShloMosaic Cert.CLnReferenceIdeal Cert.CLnReferenceIdeal.Read

namespace Cert.CLn.Ref

open Cert.Norm

variable (X D : FVec Ideal S4096x2048 .f32) (G B : FVec Ideal S1x2048 .f32)

/-- A row less its mean, as the variance takes it, -/
theorem at_cen (i : Fin 4096) (k : Fin 2048) : val_main_v7 (F := Ideal) X (ix2 i k) = cen (fun k => X (ix2 i k)) k := by
  pointwise [val_main_v7, val_main_v6, val_main_v5, val_main_v4, val_main_cst_0, val_main_v3, val_main_v2, val_main_cst]
  rfl

/-- and as the normalization takes it. -/
theorem at_cen' (i : Fin 4096) (k : Fin 2048) : val_main_v16 (F := Ideal) X (ix2 i k) = cen (fun k => X (ix2 i k)) k := by
  pointwise [val_main_v16, val_main_v15, val_main_v5, val_main_v4, val_main_cst_0, val_main_v3, val_main_v2, val_main_cst]
  rfl

/-- The variance, a little raised. -/
theorem at_meanSq (i : Fin 4096) : val_main_v18 (F := Ideal) X (ix2 i 0) = meanSq (cen fun k => X (ix2 i k)) := by
  have e := at_cen X
  unfold val_main_v18 val_main_v14 val_main_v12 val_main_v11 val_main_v8
  generalize val_main_v7 (F := Ideal) X = y at e ⊢
  pointwise [val_main_v17, val_main_cst_4, val_main_v13, val_main_cst_3, val_main_cst_2, e]
  rfl

/-- One over its root. -/
theorem at_root (i : Fin 4096) : val_main_v19 (F := Ideal) X (ix2 i 0) = root (cen fun k => X (ix2 i k)) := by
  have e := at_meanSq X i
  unfold val_main_v19
  generalize val_main_v18 (F := Ideal) X = y at e ⊢
  pointwise [e]
  rfl

/-- The normalized row. -/
theorem at_unit (i : Fin 4096) (k : Fin 2048) : val_main_v24 (F := Ideal) X (ix2 i k) = unit (fun k => X (ix2 i k)) k := by
  have e := at_cen' X
  have f := at_root X
  unfold val_main_v24 val_main_v23
  generalize val_main_v16 (F := Ideal) X = y at e ⊢
  generalize val_main_v19 (F := Ideal) X = z at f ⊢
  pointwise [e, f]
  rfl

/-- The row in front of the gate. -/
theorem at_out (i : Fin 4096) (k : Fin 2048) :
    val_main_v30 (F := Ideal) X G B (ix2 i k) = out (fun k => X (ix2 i k)) (G (ix2 0 k)) (B (ix2 0 k)) k := by
  have e := at_unit X
  unfold val_main_v30 val_main_v27
  generalize val_main_v24 (F := Ideal) X = y at e ⊢
  pointwise [val_main_v29, val_main_v28, val_main_v26, val_main_v25, val_main_v1, val_main_v0, e]
  rfl

/-- Its sigmoid. -/
theorem at_sigmoid (i : Fin 4096) (k : Fin 2048) : val_main_v31_2 (F := Ideal) X G B (ix2 i k)
    = Ideal.logistic (out (fun k => X (ix2 i k)) (G (ix2 0 k)) (B (ix2 0 k)) k) := by
  have e := at_out X G B i k
  unfold val_main_v31_2 val_main_call0_v3 val_main_call0_v1 val_main_call0_v0
  generalize val_main_v30 (F := Ideal) X G B = y at e ⊢
  pointwise [val_main_call0_v4, val_main_call0_v2, val_main_call0_cst, val_main_call0_cst_0]
  rw [e]
  rfl

variable (hD : ∀ i k, ∃ r : ℝ, D (ix2 i k) = r)

include hD

/-- The gradient in front of the gate, where the one behind it is finite. -/
theorem at_inner (i : Fin 4096) (k : Fin 2048) : val_main_v32 (F := Ideal) X D G B (ix2 i k)
    = inner (fun k => X (ix2 i k)) (D (ix2 i k)) (G (ix2 0 k)) (B (ix2 0 k)) k := by
  have e := at_out X G B i k
  have f := at_sigmoid X G B i k
  rw [inner, ← slope_parts (hD i k)]
  unfold val_main_v32 val_main_call1_v2 val_main_call1_v1 val_main_call1_v0 val_main_v31_1 val_main_call0_v7
  generalize val_main_v30 (F := Ideal) X G B = y at e ⊢
  generalize val_main_v31_2 (F := Ideal) X G B = z at f ⊢
  pointwise [val_main_call0_v6, val_main_call0_cst_1]
  rw [e, f]

/-- The same, scaled by the gains. -/
theorem at_up (i : Fin 4096) (k : Fin 2048) : val_main_v40 (F := Ideal) X D G B (ix2 i k)
    = inner (fun k => X (ix2 i k)) (D (ix2 i k)) (G (ix2 0 k)) (B (ix2 0 k)) k * G (ix2 0 k) := by
  have e := at_inner X D G B hD
  unfold val_main_v40
  generalize val_main_v32 (F := Ideal) X D G B = y at e ⊢
  pointwise [val_main_v39, val_main_v25, val_main_v0, e]

/-- The gradient of the offsets. -/
theorem db (a : Fin 1) (k : Fin 2048) : val_main_v67 (F := Ideal) X D G B (ix2 a k)
    = ∑ i : Fin 4096, inner (fun k => X (ix2 i k)) (D (ix2 i k)) (G (ix2 0 k)) (B (ix2 0 k)) k := by
  have e := at_inner X D G B hD
  unfold val_main_v67 val_main_v35 val_main_v34 val_main_v33
  generalize val_main_v32 (F := Ideal) X D G B = y at e ⊢
  pointwise [val_main_cst_7, val_main_cst_6]
  rw [Fin.sum_univ_one]
  pointwise [e]

/-- The gradient of the gains. -/
theorem dg (a : Fin 1) (k : Fin 2048) : val_main_v66 (F := Ideal) X D G B (ix2 a k)
    = ∑ i : Fin 4096, inner (fun k => X (ix2 i k)) (D (ix2 i k)) (G (ix2 0 k)) (B (ix2 0 k)) k * unit (fun k => X (ix2 i k)) k := by
  have e := at_inner X D G B hD
  have f := at_unit X
  unfold val_main_v66 val_main_v41 val_main_v38 val_main_v37 val_main_v36
  generalize val_main_v32 (F := Ideal) X D G B = y at e ⊢
  generalize val_main_v24 (F := Ideal) X = z at f ⊢
  pointwise [val_main_cst_9, val_main_cst_8]
  rw [Fin.sum_univ_one]
  pointwise [e, f]
  exact Finset.sum_congr rfl fun i _ => mul_comm _ _

/-- The factor of a row in the derivative of its variance. -/
theorem at_coef (i : Fin 4096) : val_main_v53 (F := Ideal) X D G B (ix1 i) = coef (cen fun k => X (ix2 i k))
    (fun k => inner (fun k => X (ix2 i k)) (D (ix2 i k)) (G (ix2 0 k)) (B (ix2 0 k)) k * G (ix2 0 k)) := by
  have e := at_meanSq X i
  have f := at_root X i
  have g := at_up X D G B hD i
  have h := at_cen' X i
  unfold val_main_v53 val_main_v52 val_main_v47 val_main_v44 val_main_v43 val_main_v42 val_main_v22 val_main_v20
  generalize val_main_v18 (F := Ideal) X = x at e ⊢
  generalize val_main_v19 (F := Ideal) X = y at f ⊢
  generalize val_main_v40 (F := Ideal) X D G B = z at g ⊢
  generalize val_main_v16 (F := Ideal) X = w at h ⊢
  pointwise [val_main_v51, val_main_cst_13, val_main_cst_12, val_main_cst_10, val_main_v21, val_main_cst_5, e, f, g, h]
  rw [Fin.sum_univ_one]
  pointwise [e, f, g, h]
  rfl

/-- The part of the gradient that passes through the root, -/
theorem at_scaled (i : Fin 4096) (k : Fin 2048) : val_main_v46 (F := Ideal) X D G B (ix2 i k)
    = inner (fun k => X (ix2 i k)) (D (ix2 i k)) (G (ix2 0 k)) (B (ix2 0 k)) k * G (ix2 0 k) * root (cen fun k => X (ix2 i k)) := by
  have f := at_root X i
  have g := at_up X D G B hD i
  unfold val_main_v46 val_main_v45
  generalize val_main_v19 (F := Ideal) X = y at f ⊢
  generalize val_main_v40 (F := Ideal) X D G B = z at g ⊢
  pointwise [f, g]

/-- and the part through the squares. -/
theorem at_square (i : Fin 4096) (k : Fin 2048) : val_main_v55 (F := Ideal) X D G B (ix2 i k) = coef (cen fun k => X (ix2 i k))
    (fun k => inner (fun k => X (ix2 i k)) (D (ix2 i k)) (G (ix2 0 k)) (B (ix2 0 k)) k * G (ix2 0 k)) * (two * cen (fun k => X (ix2 i k)) k) := by
  have e := at_coef X D G B hD i
  have h := at_cen X i
  unfold val_main_v55 val_main_v54 val_main_v10
  generalize val_main_v53 (F := Ideal) X D G B = y at e ⊢
  generalize val_main_v7 (F := Ideal) X = w at h ⊢
  pointwise [val_main_v9, val_main_cst_1, e, h]
  rfl

/-- The part through the mean. -/
theorem at_mean (i : Fin 4096) : val_main_v63 (F := Ideal) X D G B (ix1 i)
    = Ideal.div ((∑ k, -val_main_v46 (F := Ideal) X D G B (ix2 i k) : EReal) + (∑ k, -val_main_v55 (F := Ideal) X D G B (ix2 i k) : EReal)) len := by
  unfold val_main_v63 val_main_v62 val_main_v60 val_main_v58 val_main_v57 val_main_v56 val_main_v50 val_main_v49 val_main_v48
  generalize val_main_v46 (F := Ideal) X D G B = y
  generalize val_main_v55 (F := Ideal) X D G B = z
  pointwise [val_main_v61, val_main_cst_16, val_main_cst_15, val_main_cst_14, val_main_cst_11]
  rw [Fin.sum_univ_one]
  pointwise []
  rfl

variable (hG : ∀ k, ∃ r : ℝ, G (ix2 0 k) = r)

include hG

/-- The gradient of the rows, where the gains are finite too. -/
theorem dx (i : Fin 4096) (k : Fin 2048) : val_main_v65 (F := Ideal) X D G B (ix2 i k) = back (fun k => X (ix2 i k))
    (fun k => inner (fun k => X (ix2 i k)) (D (ix2 i k)) (G (ix2 0 k)) (B (ix2 0 k)) k * G (ix2 0 k)) k := by
  have e := at_scaled X D G B hD i
  have f := at_square X D G B hD i
  have g := at_mean X D G B hD i
  rw [← chain_eq]
  · unfold val_main_v65 val_main_v64 val_main_v59
    generalize val_main_v63 (F := Ideal) X D G B = w at g ⊢
    generalize val_main_v46 (F := Ideal) X D G B = y at e g ⊢
    generalize val_main_v55 (F := Ideal) X D G B = z at f g ⊢
    pointwise [e, f]
    rw [g]
    simp only [e, f]
    rfl
  · intro k
    obtain ⟨d, hd⟩ := hD i k
    obtain ⟨s, hs⟩ := slope_real (out (fun k => X (ix2 i k)) (G (ix2 0 k)) (B (ix2 0 k)) k)
    obtain ⟨g, hg⟩ := hG k
    exact ⟨d * s * g, by rw [inner, hs, hd, hg, EReal.coe_mul, EReal.coe_mul]⟩

end Cert.CLn.Ref

end
-- ==== Proof.CLn.Pre.lean ====
/- What the conformer's norm's precondition says: every entry of the output's gradient and of the gains is a real number. -/
module

public import proofs.«01_k».proof.Pre_finite_c_ln
public import proofs.«01_k».proof.Proof.Attn.Pre

@[expose] public section

noncomputable section

open Idealize.ShloMosaic Cert.Pre_finite_c_ln

namespace Cert.CLn.Pre

/-- The shape relations the printed precondition takes. -/
theorem facts : Cert.Pre_finite_c_ln.Facts where
  bcast_S_S4096x2048 := by decide
  reducesTo_S4096x2048_S_d0_1 := by decide
  h_S_ := by decide
  bcast_S_S1x2048 := by decide
  reducesTo_S1x2048_S_d0_1 := by decide

/-- A rank-zero shape has one index. -/
instance : Subsingleton S_.Idx := ⟨fun a b => funext fun i => i.elim0⟩

/-- The bit pattern of the f32 infinity reads as the top of the extended reals. -/
theorem wide_inf : Ideal.ofBits .f32 0x7F800000#32 = ⊤ := by
  simp [Ideal.ofBits, Ideal.ieee]

/-- An extended real whose absolute value is below that infinity is a real number. -/
theorem real_of_abs_wide (x : EReal) (h : Ideal.cmp .olt (max x (-x)) (Ideal.ofBits .f32 0x7F800000#32) = 1#1) : ∃ r : ℝ, x = r := by
  rw [wide_inf] at h
  induction x using EReal.rec with
  | bot => simp [Ideal.cmp] at h
  | coe r => exact ⟨r, rfl⟩
  | top => simp [Ideal.cmp] at h

variable [Cert.Pre_finite_c_ln.Facts]

/-- Under the precondition the output's gradient and the gains are real numbers. -/
theorem finite (X : FVec Ideal S4096x2048 .f32) (D : FVec Ideal S4096x2048 .f32) (G B : FVec Ideal S1x2048 .f32)
    (h : fn (F := Ideal) X D G B = fun _ => 1#1) :
    (∀ i k, ∃ r : ℝ, D (ix2 i k) = r) ∧ ∀ k, ∃ r : ℝ, G (ix2 0 k) = r := by
  obtain ⟨hd, hg⟩ := IntOp.andi_eq_one.1 (congrFun h (fun i => i.elim0))
  exact ⟨fun i k => real_of_abs_wide _ (Host.reduce_andi_all _ _ _ _ _ hd (ix2 i k)),
    fun k => real_of_abs_wide _ (Host.reduce_andi_all _ _ _ _ _ hg (ix2 0 k))⟩

end Cert.CLn.Pre

end
-- ==== Proof.CLn.Claims.lean ====
/- The claims about the derivative of the conformer's norm. -/
module

public import proofs.«01_k».proof.Defs
public import proofs.«01_k».proof.Proof.Gen.CLnKernel.Frame
public import proofs.«01_k».proof.Proof.Gen.CLnReferenceIdeal.Run
public import proofs.«01_k».proof.Proof.CLn.Array
public import proofs.«01_k».proof.Proof.CLn.Ref
public import proofs.«01_k».proof.Proof.CLn.Pre
public import Idealize.ShloMosaic.Lib.Quiescent

@[expose] public section

set_option maxRecDepth 16384

noncomputable section

open Idealize.ShloMosaic Idealize.SL.Sem

namespace Cert.CLn

attribute [local instance] Cert.CLn.Pre.facts

/-- The kernel ends, leaves its arguments and every counter as they were, on the machine's numbers. -/
theorem frame_kernel : Cert.quiescent_CLnKernel := fun m ρ _ => Cert.CLnKernel.Gen.frame m ρ

/-- The same over the extended reals. -/
theorem frame_ideal : Cert.quiescent_CLnKernelIdeal := fun m ρ _ => Cert.CLnKernelIdeal.Gen.frame m ρ

/-- The same under the precondition. -/
theorem frame_ideal_pre : Cert.quiescent_CLnKernelIdeal_pre_finite_c_ln := fun m ρ _ => Cert.CLnKernelIdeal.Gen.frame m ρ

/-- The reference ends and leaves its arguments as they were; it declares no counter. -/
theorem frame_ref : Cert.quiescent_CLnReferenceIdeal := fun m ρ _ =>
  (θ_run Cert.CLnReferenceIdeal.defs _ _).mono
    (fun r h => ⟨fun c => (h c).2.2.2, sem_eq_zero_of_no_sems (by decide) r.2⟩)
    (Cert.CLnReferenceIdeal.Value.run m ρ)

/-- The same under the precondition. -/
theorem frame_ref_pre : Cert.quiescent_CLnReferenceIdeal_pre_finite_c_ln := fun m ρ _ => frame_ref m ρ trivial

section Results

variable (X D : FVec Ideal Cert.CLnReferenceIdeal.S4096x2048 .f32) (G B : FVec Ideal Cert.CLnReferenceIdeal.S1x2048 .f32)

/-- The reference's first result is the gradient of the rows, -/
theorem result_x (hD : ∀ i k, ∃ r : ℝ, D (ix2 i k) = r) (hG : ∀ k, ∃ r : ℝ, G (ix2 0 k) = r) :
    Cert.CLnReferenceIdeal.Read.val_main_v65 (F := Ideal) X D G B = finalX X D G B := by
  funext y
  obtain ⟨i, k, rfl⟩ : ∃ i k, y = ix2 i k := ⟨y 0, y 1, eq_ix2 y⟩
  exact Ref.dx X D G B hD hG i k

/-- the second that of the gains, -/
theorem result_g (hD : ∀ i k, ∃ r : ℝ, D (ix2 i k) = r) :
    Cert.CLnReferenceIdeal.Read.val_main_v66 (F := Ideal) X D G B = finalG X D G B := by
  funext y
  obtain ⟨a, k, rfl⟩ : ∃ a k, y = ix2 a k := ⟨y 0, y 1, eq_ix2 y⟩
  exact Ref.dg X D G B hD a k

/-- and the third that of the offsets. -/
theorem result_b (hD : ∀ i k, ∃ r : ℝ, D (ix2 i k) = r) :
    Cert.CLnReferenceIdeal.Read.val_main_v67 (F := Ideal) X D G B = finalB X D G B := by
  funext y
  obtain ⟨a, k, rfl⟩ : ∃ a k, y = ix2 a k := ⟨y 0, y 1, eq_ix2 y⟩
  exact Ref.db X D G B hD a k

end Results

/-- The kernel and the reference agree over the extended reals, where the output's gradient and the gains are real numbers. -/
theorem algebraic : Cert.algebraic_CLnKernelIdeal_CLnReferenceIdeal_pre_finite_c_ln := by
  intro m ρ m' ρ' hpre hagree
  refine ⟨fun c => finalX (X m c) (D m c) (G m c) (B m c), fun c => finalG (X m c) (D m c) (G m c) (B m c),
    fun c => finalB (X m c) (D m c) (G m c) (B m c), ?_, ?_⟩
  · exact (θ_run Cert.CLnKernelIdeal.defs _ _).mono
      (fun r h c => ⟨(h c).1.trans (arr_x m c), (h c).2.1.trans (arr_g m c), (h c).2.2.1.trans (arr_b m c), (h c).2.2.2⟩)
      (Cert.CLnKernelIdeal.Value.run_blocks m ρ)
  · refine (θ_run Cert.CLnReferenceIdeal.defs _ _).mono (fun r h c => ?_) (Cert.CLnReferenceIdeal.Value.run m' ρ')
    obtain ⟨hD, hG⟩ := Pre.finite _ _ _ _ (hpre c)
    obtain ⟨a0, a1, a2, a3⟩ := hagree c
    refine ⟨(h c).1.trans ?_, (h c).2.1.trans ?_, (h c).2.2.1.trans ?_, (h c).2.2.2⟩
    · rw [Cert.CLnReferenceIdeal.Read.val_main_v65_eq, a0, a1, a2, a3]
      exact result_x _ _ _ _ hD hG
    · rw [Cert.CLnReferenceIdeal.Read.val_main_v66_eq, a0, a1, a2, a3]
      exact result_g _ _ _ _ hD
    · rw [Cert.CLnReferenceIdeal.Read.val_main_v67_eq, a0, a1, a2, a3]
      exact result_b _ _ _ _ hD

end Cert.CLn

end
-- ==== Proof.Rms.Array.lean ====
/- The normalization of the layers' input: what each point leaves in its block, and the array. -/
module

public import proofs.«01_k».proof.Proof.Gen.RmsKernelIdeal.Value
public import proofs.«01_k».proof.Proof.Norm.Row
public import Idealize.ShloMosaic.Lib.Pipeline.ValueKit
public import Idealize.ShloMosaic.Lib.Pipeline.ReadBack

@[expose] public section

set_option maxRecDepth 16384

noncomputable section

open Idealize.ShloMosaic Idealize.ShloMosaic.TcCoe Cert.RmsKernelIdeal Cert.RmsKernelIdeal.Gen

namespace Cert.Rms

open Cert.Norm

variable (m : (ℓ : Loc nD τ sig) → Buf (Elt Ideal) ℓ) (c : Dev nD)

/-- The rows -/
abbrev X : FVec Ideal S4096x2048 .f32 := m ((c : Thread nD τ).loc main_arg0)
/-- and the gains, as launched. -/
abbrev G : FVec Ideal S1x2048 .f32 := m ((c : Thread nD τ).loc main_arg1)

/-- The normalized rows, scaled by the gains. -/
def final (X : FVec Ideal S4096x2048 .f32) (G : FVec Ideal S1x2048 .f32) : FVec Ideal S4096x2048 .bf16 := fun y =>
  X (ix2 (y 0) (y 1)) * root (fun k => X (ix2 (y 0) k)) * G (ix2 0 (y 1))

/-- What the body computes at a place. -/
theorem at_body (x : FVec Ideal S256x2048 .f32) (g : FVec Ideal S1x2048 .f32) (r : Fin 256) (k : Fin 2048) :
    k0_pay1 (F := Ideal) x g (ix2 r k) = x (ix2 r k) * root (fun k => x (ix2 r k)) * g (ix2 0 k) := by
  pointwise [k0_pay1]
  rfl

/-- The blocks each point names: its own rows, the gains whole. -/
theorem idx : ∀ t : Fin cfg0.N, win0_0.index t = ![t.val, 0] ∧ win0_1.index t = ![0, 0] ∧ win0_2.index t = ![t.val, 0] :=
  (by decide +kernel : ∀ t : Fin grid0.N, _)

/-- The array row that is row `r` of point `t`'s block. -/
def rowOf (t : Fin cfg0.N) (r : Fin 256) : Fin 4096 := ⟨t.val * 256 + r.val, by have := t.isLt; have : cfg0.N = 16 := N_0; omega⟩

/-- A block of the rows -/
theorem blk_x (t : Fin cfg0.N) (r : Fin 256) (k : Fin 2048) : iblk m c 0 t (ix2 r k) = X m c (ix2 (rowOf t r) k) := by
  blk_point [iblk, V, idx t]
  try rfl

/-- and the gains. -/
theorem blk_g (t : Fin cfg0.N) (k : Fin 2048) : iblk m c 1 t (ix2 0 k) = G m c (ix2 0 k) := by
  blk_point [iblk, V, idx t]

/-- The array after the launch. -/
theorem arr : (dats m 0 c).arrAt 2 cfg0.N = final (X m c) (G m c) := by
  refine (dats m 0 c).arrAt_eq_of_covers 2 _ (by decide +kernel) fun t hf y => ?_
  blk_simp [idx t]
  rw [after0_2]
  unfold out0_2
  frame_out
  obtain ⟨r, k, rfl⟩ : ∃ (r : Fin 256) (k : Fin 2048), y = ix2 r k := ⟨y 0, y 1, eq_ix2 y⟩
  have e : (win0_2.blk t).view.emb (ix2 r k) = ix2 (rowOf t r) k := by
    blk_ext [idx t]
    try rfl
  rw [e, at_body]
  exact congrArg₂ (· * ·) (congrArg₂ (· * ·) (blk_x m c t r k) (congrArg root (funext fun k => blk_x m c t r k))) (blk_g m c t k)

end Cert.Rms

end
-- ==== Proof.Rms.Ref.lean ====
/- The reference's result read at an index: the normalized rows of the layers' input. -/
module

public import proofs.«01_k».proof.Proof.Gen.RmsReferenceIdeal.Read
public import proofs.«01_k».proof.Proof.Norm.Row
public import Idealize.ShloMosaic.Lib.Pipeline.ValueKit

@[expose] public section

set_option maxRecDepth 16384

noncomputable section

open Idealize.ShloMosaic Cert.RmsReferenceIdeal Cert.RmsReferenceIdeal.Read

namespace Cert.Rms.Ref

open Cert.Norm

variable (X : FVec Ideal S4096x2048 .f32) (G : FVec Ideal S1x2048 .f32)

/-- One over the root of a row's mean square. -/
theorem at_root (i : Fin 4096) : val_main_v8 (F := Ideal) X (ix2 i 0) = root (fun k => X (ix2 i k)) := by
  pointwise [val_main_v8, val_main_v7, val_main_v6, val_main_cst_1, val_main_v5, val_main_v4, val_main_cst_0, val_main_v3, val_main_v2, val_main_cst, val_main_v1]
  rfl

/-- The row, normalized and scaled. -/
theorem out (i : Fin 4096) (k : Fin 2048) :
    val_main_v14 (F := Ideal) X G (ix2 i k) = X (ix2 i k) * root (fun k => X (ix2 i k)) * G (ix2 0 k) := by
  have e := at_root X i
  unfold val_main_v14 val_main_v13 val_main_v10 val_main_v9
  generalize val_main_v8 (F := Ideal) X = y at e ⊢
  pointwise [val_main_v12, val_main_v11, val_main_v0, e]

end Cert.Rms.Ref

end
-- ==== Proof.Rms.Claims.lean ====
/- The claims about the normalization of the layers' input. -/
module

public import proofs.«01_k».proof.Defs
public import proofs.«01_k».proof.Proof.Gen.RmsKernel.Frame
public import proofs.«01_k».proof.Proof.Gen.RmsReferenceIdeal.Run
public import proofs.«01_k».proof.Proof.Rms.Array
public import proofs.«01_k».proof.Proof.Rms.Ref
public import Idealize.ShloMosaic.Lib.Quiescent

@[expose] public section

set_option maxRecDepth 16384

noncomputable section

open Idealize.ShloMosaic Idealize.SL.Sem

namespace Cert.Rms

/-- The kernel ends, leaves its arguments and every counter as they were, on the machine's numbers. -/
theorem frame_kernel : Cert.quiescent_RmsKernel := fun m ρ _ => Cert.RmsKernel.Gen.frame m ρ

/-- The same over the extended reals. -/
theorem frame_ideal : Cert.quiescent_RmsKernelIdeal := fun m ρ _ => Cert.RmsKernelIdeal.Gen.frame m ρ

/-- The reference ends and leaves its arguments as they were; it declares no counter. -/
theorem frame_ref : Cert.quiescent_RmsReferenceIdeal := fun m ρ _ =>
  (θ_run Cert.RmsReferenceIdeal.defs _ _).mono
    (fun r h => ⟨fun c => (h c).2, sem_eq_zero_of_no_sems (by decide) r.2⟩)
    (Cert.RmsReferenceIdeal.Value.run m ρ)

/-- The reference's result is that array. -/
theorem result (X : FVec Ideal Cert.RmsReferenceIdeal.S4096x2048 .f32) (G : FVec Ideal Cert.RmsReferenceIdeal.S1x2048 .f32) :
    Cert.RmsReferenceIdeal.Read.val_main_v14 (F := Ideal) X G = final X G := by
  funext y
  obtain ⟨i, k, rfl⟩ : ∃ i k, y = ix2 i k := ⟨y 0, y 1, eq_ix2 y⟩
  exact Ref.out X G i k

/-- The kernel and the reference agree over the extended reals, on any arguments. -/
theorem algebraic : Cert.algebraic_RmsKernelIdeal_RmsReferenceIdeal := by
  intro m ρ m' ρ' _ hagree
  refine ⟨fun c => final (X m c) (G m c), ?_, ?_⟩
  · exact (θ_run Cert.RmsKernelIdeal.defs _ _).mono (fun r h c => ⟨(h c).1.trans (arr m c), (h c).2⟩) (Cert.RmsKernelIdeal.Value.run_blocks m ρ)
  · refine (θ_run Cert.RmsReferenceIdeal.defs _ _).mono (fun r h c => ?_) (Cert.RmsReferenceIdeal.Value.run m' ρ')
    obtain ⟨a0, a1⟩ := hagree c
    refine ⟨(h c).1.trans ?_, (h c).2⟩
    rw [Cert.RmsReferenceIdeal.Read.val_main_v14_eq, a0, a1]
    exact result _ _

end Cert.Rms

end
-- ==== Proof.RmsMem.Array.lean ====
/- The normalization of the memory: what each point leaves in its block, and the array. -/
module

public import proofs.«01_k».proof.Proof.Gen.RmsMemKernelIdeal.Value
public import proofs.«01_k».proof.Proof.Norm.Row
public import Idealize.ShloMosaic.Lib.Pipeline.ValueKit
public import Idealize.ShloMosaic.Lib.Pipeline.ReadBack

@[expose] public section

set_option maxRecDepth 16384

noncomputable section

open Idealize.ShloMosaic Idealize.ShloMosaic.TcCoe Cert.RmsMemKernelIdeal Cert.RmsMemKernelIdeal.Gen

namespace Cert.RmsMem

open Cert.Norm

variable (m : (ℓ : Loc nD τ sig) → Buf (Elt Ideal) ℓ) (c : Dev nD)

/-- The rows -/
abbrev X : FVec Ideal S256x2048 .f32 := m ((c : Thread nD τ).loc main_arg0)
/-- and the gains, as launched. -/
abbrev G : FVec Ideal S1x2048 .f32 := m ((c : Thread nD τ).loc main_arg1)

/-- The normalized rows, scaled by the gains. -/
def final (X : FVec Ideal S256x2048 .f32) (G : FVec Ideal S1x2048 .f32) : FVec Ideal S256x2048 .bf16 := fun y =>
  X (ix2 (y 0) (y 1)) * root (fun k => X (ix2 (y 0) k)) * G (ix2 0 (y 1))

/-- What the body computes at a place. -/
theorem at_body (x : FVec Ideal S256x2048 .f32) (g : FVec Ideal S1x2048 .f32) (r : Fin 256) (k : Fin 2048) :
    k0_pay1 (F := Ideal) x g (ix2 r k) = x (ix2 r k) * root (fun k => x (ix2 r k)) * g (ix2 0 k) := by
  pointwise [k0_pay1]
  rfl

/-- The blocks each point names: its own rows, the gains whole. -/
theorem idx : ∀ t : Fin cfg0.N, win0_0.index t = ![t.val, 0] ∧ win0_1.index t = ![0, 0] ∧ win0_2.index t = ![t.val, 0] :=
  (by decide +kernel : ∀ t : Fin grid0.N, _)

/-- The array row that is row `r` of point `t`'s block. -/
def rowOf (_t : Fin cfg0.N) (r : Fin 256) : Fin 256 := r

/-- A block of the rows -/
theorem blk_x (t : Fin cfg0.N) (r : Fin 256) (k : Fin 2048) : iblk m c 0 t (ix2 r k) = X m c (ix2 (rowOf t r) k) := by
  blk_point [iblk, V, idx t]
  try rfl

/-- and the gains. -/
theorem blk_g (t : Fin cfg0.N) (k : Fin 2048) : iblk m c 1 t (ix2 0 k) = G m c (ix2 0 k) := by
  blk_point [iblk, V, idx t]

/-- The array after the launch. -/
theorem arr : (dats m 0 c).arrAt 2 cfg0.N = final (X m c) (G m c) := by
  refine (dats m 0 c).arrAt_eq_of_covers 2 _ (by decide +kernel) fun t hf y => ?_
  blk_simp [idx t]
  rw [after0_2]
  unfold out0_2
  frame_out
  obtain ⟨r, k, rfl⟩ : ∃ (r : Fin 256) (k : Fin 2048), y = ix2 r k := ⟨y 0, y 1, eq_ix2 y⟩
  have e : (win0_2.blk t).view.emb (ix2 r k) = ix2 (rowOf t r) k := by
    blk_ext [idx t]
    try rfl
  rw [e, at_body]
  exact congrArg₂ (· * ·) (congrArg₂ (· * ·) (blk_x m c t r k) (congrArg root (funext fun k => blk_x m c t r k))) (blk_g m c t k)

end Cert.RmsMem

end
-- ==== Proof.RmsMem.Ref.lean ====
/- The reference's result read at an index: the normalized rows of the memory. -/
module

public import proofs.«01_k».proof.Proof.Gen.RmsMemReferenceIdeal.Read
public import proofs.«01_k».proof.Proof.Norm.Row
public import Idealize.ShloMosaic.Lib.Pipeline.ValueKit

@[expose] public section

set_option maxRecDepth 16384

noncomputable section

open Idealize.ShloMosaic Cert.RmsMemReferenceIdeal Cert.RmsMemReferenceIdeal.Read

namespace Cert.RmsMem.Ref

open Cert.Norm

variable (X : FVec Ideal S256x2048 .f32) (G : FVec Ideal S1x2048 .f32)

/-- One over the root of a row's mean square. -/
theorem at_root (i : Fin 256) : val_main_v8 (F := Ideal) X (ix2 i 0) = root (fun k => X (ix2 i k)) := by
  pointwise [val_main_v8, val_main_v7, val_main_v6, val_main_cst_1, val_main_v5, val_main_v4, val_main_cst_0, val_main_v3, val_main_v2, val_main_cst, val_main_v1]
  rfl

/-- The row, normalized and scaled. -/
theorem out (i : Fin 256) (k : Fin 2048) :
    val_main_v14 (F := Ideal) X G (ix2 i k) = X (ix2 i k) * root (fun k => X (ix2 i k)) * G (ix2 0 k) := by
  have e := at_root X i
  unfold val_main_v14 val_main_v13 val_main_v10 val_main_v9
  generalize val_main_v8 (F := Ideal) X = y at e ⊢
  pointwise [val_main_v12, val_main_v11, val_main_v0, e]

end Cert.RmsMem.Ref

end
-- ==== Proof.RmsMem.Claims.lean ====
/- The claims about the normalization of the memory. -/
module

public import proofs.«01_k».proof.Defs
public import proofs.«01_k».proof.Proof.Gen.RmsMemKernel.Frame
public import proofs.«01_k».proof.Proof.Gen.RmsMemReferenceIdeal.Run
public import proofs.«01_k».proof.Proof.RmsMem.Array
public import proofs.«01_k».proof.Proof.RmsMem.Ref
public import Idealize.ShloMosaic.Lib.Quiescent

@[expose] public section

set_option maxRecDepth 16384

noncomputable section

open Idealize.ShloMosaic Idealize.SL.Sem

namespace Cert.RmsMem

/-- The kernel ends, leaves its arguments and every counter as they were, on the machine's numbers. -/
theorem frame_kernel : Cert.quiescent_RmsMemKernel := fun m ρ _ => Cert.RmsMemKernel.Gen.frame m ρ

/-- The same over the extended reals. -/
theorem frame_ideal : Cert.quiescent_RmsMemKernelIdeal := fun m ρ _ => Cert.RmsMemKernelIdeal.Gen.frame m ρ

/-- The reference ends and leaves its arguments as they were; it declares no counter. -/
theorem frame_ref : Cert.quiescent_RmsMemReferenceIdeal := fun m ρ _ =>
  (θ_run Cert.RmsMemReferenceIdeal.defs _ _).mono
    (fun r h => ⟨fun c => (h c).2, sem_eq_zero_of_no_sems (by decide) r.2⟩)
    (Cert.RmsMemReferenceIdeal.Value.run m ρ)

/-- The reference's result is that array. -/
theorem result (X : FVec Ideal Cert.RmsMemReferenceIdeal.S256x2048 .f32) (G : FVec Ideal Cert.RmsMemReferenceIdeal.S1x2048 .f32) :
    Cert.RmsMemReferenceIdeal.Read.val_main_v14 (F := Ideal) X G = final X G := by
  funext y
  obtain ⟨i, k, rfl⟩ : ∃ i k, y = ix2 i k := ⟨y 0, y 1, eq_ix2 y⟩
  exact Ref.out X G i k

/-- The kernel and the reference agree over the extended reals, on any arguments. -/
theorem algebraic : Cert.algebraic_RmsMemKernelIdeal_RmsMemReferenceIdeal := by
  intro m ρ m' ρ' _ hagree
  refine ⟨fun c => final (X m c) (G m c), ?_, ?_⟩
  · exact (θ_run Cert.RmsMemKernelIdeal.defs _ _).mono (fun r h c => ⟨(h c).1.trans (arr m c), (h c).2⟩) (Cert.RmsMemKernelIdeal.Value.run_blocks m ρ)
  · refine (θ_run Cert.RmsMemReferenceIdeal.defs _ _).mono (fun r h c => ?_) (Cert.RmsMemReferenceIdeal.Value.run m' ρ')
    obtain ⟨a0, a1⟩ := hagree c
    refine ⟨(h c).1.trans ?_, (h c).2⟩
    rw [Cert.RmsMemReferenceIdeal.Read.val_main_v14_eq, a0, a1]
    exact result _ _

end Cert.RmsMem

end
-- ==== Proof.Res.Array.lean ====
/- The normalization behind a layer, added to the layer's input, and the one in front of the next: what each point leaves in its blocks, and the arrays. -/
module

public import proofs.«01_k».proof.Proof.Gen.ResKernelIdeal.Value
public import proofs.«01_k».proof.Proof.Norm.Row
public import Idealize.ShloMosaic.Lib.Pipeline.ValueKit
public import Idealize.ShloMosaic.Lib.Pipeline.ReadBack

@[expose] public section

set_option maxRecDepth 16384

noncomputable section

open Idealize.ShloMosaic Idealize.ShloMosaic.TcCoe Cert.ResKernelIdeal Cert.ResKernelIdeal.Gen

namespace Cert.Res

open Cert.Norm

variable (m : (ℓ : Loc nD τ sig) → Buf (Elt Ideal) ℓ) (c : Dev nD)

/-- The layer's input, -/
abbrev X : FVec Ideal S4096x2048 .f32 := m ((c : Thread nD τ).loc main_arg0)
/-- its output -/
abbrev Y : FVec Ideal S4096x2048 .bf16 := m ((c : Thread nD τ).loc main_arg1)
/-- and the gains behind it, as launched. -/
abbrev G : FVec Ideal S1x2048 .f32 := m ((c : Thread nD τ).loc main_arg2)
/-- The gains in front of the next layer. -/
abbrev N : FVec Ideal S1x2048 .f32 := m ((c : Thread nD τ).loc main_arg3)

/-- The layer's input with its normalized output added, as a row -/
def add (x y g : Fin 2048 → EReal) (k : Fin 2048) : EReal := x k + y k * root y * g k

/-- and as an array. -/
def finalX (X : FVec Ideal S4096x2048 .f32) (Y : FVec Ideal S4096x2048 .bf16) (G : FVec Ideal S1x2048 .f32) : FVec Ideal S4096x2048 .f32 := fun y =>
  add (fun k => X (ix2 (y 0) k)) (fun k => Y (ix2 (y 0) k)) (fun k => G (ix2 0 k)) (y 1)

/-- That row normalized, -/
def next (x y g n : Fin 2048 → EReal) (k : Fin 2048) : EReal := add x y g k * root (add x y g) * n k

/-- as an array. -/
def finalH (X : FVec Ideal S4096x2048 .f32) (Y : FVec Ideal S4096x2048 .bf16) (G N : FVec Ideal S1x2048 .f32) : FVec Ideal S4096x2048 .bf16 := fun y =>
  next (fun k => X (ix2 (y 0) k)) (fun k => Y (ix2 (y 0) k)) (fun k => G (ix2 0 k)) (fun k => N (ix2 0 k)) (y 1)

/-- What the body computes at a place: the sum, -/
theorem at_add (y : FVec Ideal S256x2048 .bf16) (x : FVec Ideal S256x2048 .f32) (g : FVec Ideal S1x2048 .f32) (r : Fin 256) (k : Fin 2048) :
    k0_pay1 (F := Ideal) y x g (ix2 r k) = add (fun k => x (ix2 r k)) (fun k => y (ix2 r k)) (fun k => g (ix2 0 k)) k := by
  pointwise [k0_pay1]
  rfl

/-- and the sum normalized. -/
theorem at_next (y : FVec Ideal S256x2048 .bf16) (x : FVec Ideal S256x2048 .f32) (g n : FVec Ideal S1x2048 .f32) (r : Fin 256) (k : Fin 2048) :
    k0_pay2 (F := Ideal) y x g n (ix2 r k)
      = next (fun k => x (ix2 r k)) (fun k => y (ix2 r k)) (fun k => g (ix2 0 k)) (fun k => n (ix2 0 k)) k := by
  have e := at_add y x g
  unfold k0_pay2
  generalize k0_pay1 (F := Ideal) y x g = z at e ⊢
  pointwise [e]
  rfl

/-- The blocks each point names: its own rows, the gains whole. -/
theorem idx : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val, 0] :=
  (by decide +kernel : ∀ t : Fin grid0.N, _)

/-- The array row that is row `r` of point `t`'s block. -/
def rowOf (t : Fin cfg0.N) (r : Fin 256) : Fin 4096 := ⟨t.val * 256 + r.val, by have := t.isLt; have : cfg0.N = 16 := N_0; omega⟩

/-- A block of the layer's input, -/
theorem blk_x (t : Fin cfg0.N) (r : Fin 256) (k : Fin 2048) : iblk m c 0 t (ix2 r k) = X m c (ix2 (rowOf t r) k) := by
  blk_point [iblk, V, idx t]
  rfl

/-- of its output, -/
theorem blk_y (t : Fin cfg0.N) (r : Fin 256) (k : Fin 2048) : iblk m c 1 t (ix2 r k) = Y m c (ix2 (rowOf t r) k) := by
  blk_point [iblk, V, idx t]
  rfl

/-- and the gains. -/
theorem blk_g (t : Fin cfg0.N) (k : Fin 2048) : iblk m c 2 t (ix2 0 k) = G m c (ix2 0 k) := by
  blk_point [iblk, V, idx t]

@[inherit_doc blk_g]
theorem blk_n (t : Fin cfg0.N) (k : Fin 2048) : iblk m c 3 t (ix2 0 k) = N m c (ix2 0 k) := by
  blk_point [iblk, V, idx t]

/-- The array of the sums after the launch. -/
theorem arr_x : (dats m 0 c).arrAt 4 cfg0.N = finalX (X m c) (Y m c) (G m c) := by
  refine (dats m 0 c).arrAt_eq_of_covers 4 _ (by decide +kernel) fun t hf y => ?_
  blk_simp [idx t]
  rw [after0_4]
  unfold out0_4
  frame_out
  obtain ⟨r, k, rfl⟩ : ∃ (r : Fin 256) (k : Fin 2048), y = ix2 r k := ⟨y 0, y 1, eq_ix2 y⟩
  have e : (win0_4.blk t).view.emb (ix2 r k) = ix2 (rowOf t r) k := by
    blk_ext [idx t]
    rfl
  rw [e, at_add]
  have ex : (fun k => iblk m c 0 t (ix2 r k)) = fun k => X m c (ix2 (rowOf t r) k) := funext fun k => blk_x m c t r k
  have ey : (fun k => iblk m c 1 t (ix2 r k)) = fun k => Y m c (ix2 (rowOf t r) k) := funext fun k => blk_y m c t r k
  have eg : (fun k => iblk m c 2 t (ix2 0 k)) = fun k => G m c (ix2 0 k) := funext fun k => blk_g m c t k
  rw [ex, ey, eg]
  rfl

/-- The array of the normalized sums after the launch. -/
theorem arr_h : (dats m 0 c).arrAt 5 cfg0.N = finalH (X m c) (Y m c) (G m c) (N m c) := by
  refine (dats m 0 c).arrAt_eq_of_covers 5 _ (by decide +kernel) fun t hf y => ?_
  blk_simp [idx t]
  rw [after0_5]
  unfold out0_5
  frame_out
  obtain ⟨r, k, rfl⟩ : ∃ (r : Fin 256) (k : Fin 2048), y = ix2 r k := ⟨y 0, y 1, eq_ix2 y⟩
  have e : (win0_5.blk t).view.emb (ix2 r k) = ix2 (rowOf t r) k := by
    blk_ext [idx t]
    rfl
  rw [e, at_next]
  have ex : (fun k => iblk m c 0 t (ix2 r k)) = fun k => X m c (ix2 (rowOf t r) k) := funext fun k => blk_x m c t r k
  have ey : (fun k => iblk m c 1 t (ix2 r k)) = fun k => Y m c (ix2 (rowOf t r) k) := funext fun k => blk_y m c t r k
  have eg : (fun k => iblk m c 2 t (ix2 0 k)) = fun k => G m c (ix2 0 k) := funext fun k => blk_g m c t k
  have en : (fun k => iblk m c 3 t (ix2 0 k)) = fun k => N m c (ix2 0 k) := funext fun k => blk_n m c t k
  rw [ex, ey, eg, en]
  rfl

end Cert.Res

end
-- ==== Proof.Res.Ref.lean ====
/- The reference's results read at an index: the layer's input with its normalized output added, and that normalized. -/
module

public import proofs.«01_k».proof.Proof.Gen.ResReferenceIdeal.Read
public import proofs.«01_k».proof.Proof.Norm.Row
public import Idealize.ShloMosaic.Lib.Pipeline.ValueKit

@[expose] public section

set_option maxRecDepth 16384

noncomputable section

open Idealize.ShloMosaic Cert.ResReferenceIdeal Cert.ResReferenceIdeal.Read

namespace Cert.Res.Ref

open Cert.Norm

variable (X : FVec Ideal S4096x2048 .f32) (Y : FVec Ideal S4096x2048 .bf16) (G N : FVec Ideal S1x2048 .f32)

/-- One over the root of the mean square of a row of the layer's output. -/
theorem at_root (i : Fin 4096) : val_main_v9 (F := Ideal) Y (ix2 i 0) = root (fun k => Y (ix2 i k)) := by
  pointwise [val_main_v9, val_main_v8, val_main_v7, val_main_cst_1, val_main_v6, val_main_v5, val_main_cst_0, val_main_v4, val_main_v3, val_main_cst, val_main_v2, val_main_v0]
  rfl

/-- The layer's input with its normalized output added. -/
theorem at_add (i : Fin 4096) (k : Fin 2048) : val_main_v15 (F := Ideal) X Y G (ix2 i k)
    = X (ix2 i k) + Y (ix2 i k) * root (fun k => Y (ix2 i k)) * G (ix2 0 k) := by
  have e := at_root Y i
  unfold val_main_v15 val_main_v14 val_main_v11 val_main_v10
  generalize val_main_v9 (F := Ideal) Y = y at e ⊢
  pointwise [val_main_v13, val_main_v12, val_main_v1, val_main_v0, e]

/-- One over the root of that row's mean square, -/
theorem at_root' (i : Fin 4096) : val_main_v24 (F := Ideal) X Y G (ix2 i 0)
    = root (fun k => X (ix2 i k) + Y (ix2 i k) * root (fun k => Y (ix2 i k)) * G (ix2 0 k)) := by
  have e := at_add X Y G i
  unfold val_main_v24 val_main_v23 val_main_v21 val_main_v19 val_main_v18 val_main_v17
  generalize val_main_v15 (F := Ideal) X Y G = y at e ⊢
  pointwise [val_main_v22, val_main_cst_4, val_main_v20, val_main_cst_3, val_main_cst_2, e]
  rfl

/-- and the row normalized. -/
theorem at_next (i : Fin 4096) (k : Fin 2048) : val_main_v30 (F := Ideal) X Y G N (ix2 i k)
    = (X (ix2 i k) + Y (ix2 i k) * root (fun k => Y (ix2 i k)) * G (ix2 0 k))
      * root (fun k => X (ix2 i k) + Y (ix2 i k) * root (fun k => Y (ix2 i k)) * G (ix2 0 k)) * N (ix2 0 k) := by
  have e := at_add X Y G i k
  have f := at_root' X Y G i
  unfold val_main_v30 val_main_v29 val_main_v26 val_main_v25
  generalize val_main_v15 (F := Ideal) X Y G = y at e ⊢
  generalize val_main_v24 (F := Ideal) X Y G = z at f ⊢
  pointwise [val_main_v28, val_main_v27, val_main_v16, e, f]

end Cert.Res.Ref

end
-- ==== Proof.Res.Claims.lean ====
/- The claims about the normalization behind a layer and in front of the next. -/
module

public import proofs.«01_k».proof.Defs
public import proofs.«01_k».proof.Proof.Gen.ResKernel.Frame
public import proofs.«01_k».proof.Proof.Gen.ResReferenceIdeal.Run
public import proofs.«01_k».proof.Proof.Res.Array
public import proofs.«01_k».proof.Proof.Res.Ref
public import Idealize.ShloMosaic.Lib.Quiescent

@[expose] public section

set_option maxRecDepth 16384

noncomputable section

open Idealize.ShloMosaic Idealize.SL.Sem

namespace Cert.Res

/-- The kernel ends, leaves its arguments and every counter as they were, on the machine's numbers. -/
theorem frame_kernel : Cert.quiescent_ResKernel := fun m ρ _ => Cert.ResKernel.Gen.frame m ρ

/-- The same over the extended reals. -/
theorem frame_ideal : Cert.quiescent_ResKernelIdeal := fun m ρ _ => Cert.ResKernelIdeal.Gen.frame m ρ

/-- The reference ends and leaves its arguments as they were; it declares no counter. -/
theorem frame_ref : Cert.quiescent_ResReferenceIdeal := fun m ρ _ =>
  (θ_run Cert.ResReferenceIdeal.defs _ _).mono
    (fun r h => ⟨fun c => (h c).2.2, sem_eq_zero_of_no_sems (by decide) r.2⟩)
    (Cert.ResReferenceIdeal.Value.run m ρ)

/-- The reference's first result is the array of the sums, -/
theorem result_x (X : FVec Ideal Cert.ResReferenceIdeal.S4096x2048 .f32) (Y : FVec Ideal Cert.ResReferenceIdeal.S4096x2048 .bf16) (G : FVec Ideal Cert.ResReferenceIdeal.S1x2048 .f32) :
    Cert.ResReferenceIdeal.Read.val_main_v15 (F := Ideal) X Y G = finalX X Y G := by
  funext y
  obtain ⟨i, k, rfl⟩ : ∃ i k, y = ix2 i k := ⟨y 0, y 1, eq_ix2 y⟩
  exact Ref.at_add X Y G i k

/-- and the second that of the normalized sums. -/
theorem result_h (X : FVec Ideal Cert.ResReferenceIdeal.S4096x2048 .f32) (Y : FVec Ideal Cert.ResReferenceIdeal.S4096x2048 .bf16) (G N : FVec Ideal Cert.ResReferenceIdeal.S1x2048 .f32) :
    Cert.ResReferenceIdeal.Read.val_main_v30 (F := Ideal) X Y G N = finalH X Y G N := by
  funext y
  obtain ⟨i, k, rfl⟩ : ∃ i k, y = ix2 i k := ⟨y 0, y 1, eq_ix2 y⟩
  exact Ref.at_next X Y G N i k

/-- The kernel and the reference agree over the extended reals, on any arguments. -/
theorem algebraic : Cert.algebraic_ResKernelIdeal_ResReferenceIdeal := by
  intro m ρ m' ρ' _ hagree
  refine ⟨fun c => finalX (X m c) (Y m c) (G m c), fun c => finalH (X m c) (Y m c) (G m c) (N m c), ?_, ?_⟩
  · exact (θ_run Cert.ResKernelIdeal.defs _ _).mono (fun r h c => ⟨(h c).1.trans (arr_x m c), (h c).2.1.trans (arr_h m c), (h c).2.2⟩)
      (Cert.ResKernelIdeal.Value.run_blocks m ρ)
  · refine (θ_run Cert.ResReferenceIdeal.defs _ _).mono (fun r h c => ?_) (Cert.ResReferenceIdeal.Value.run m' ρ')
    obtain ⟨a0, a1, a2, a3⟩ := hagree c
    refine ⟨(h c).1.trans ?_, (h c).2.1.trans ?_, (h c).2.2⟩
    · rw [Cert.ResReferenceIdeal.Read.val_main_v15_eq, a0, a1, a2]
      exact result_x _ _ _
    · rw [Cert.ResReferenceIdeal.Read.val_main_v30_eq, a0, a1, a2, a3]
      exact result_h _ _ _ _

end Cert.Res

end
-- ==== Proof.ResLast.Array.lean ====
/- The normalization behind the last layer, added to the layer's input: what each point leaves in its block, and the array. -/
module

public import proofs.«01_k».proof.Proof.Gen.ResLastKernelIdeal.Value
public import proofs.«01_k».proof.Proof.Norm.Row
public import Idealize.ShloMosaic.Lib.Pipeline.ValueKit
public import Idealize.ShloMosaic.Lib.Pipeline.ReadBack

@[expose] public section

set_option maxRecDepth 16384

noncomputable section

open Idealize.ShloMosaic Idealize.ShloMosaic.TcCoe Cert.ResLastKernelIdeal Cert.ResLastKernelIdeal.Gen

namespace Cert.ResLast

open Cert.Norm

variable (m : (ℓ : Loc nD τ sig) → Buf (Elt Ideal) ℓ) (c : Dev nD)

/-- The layer's input, -/
abbrev X : FVec Ideal S4096x2048 .f32 := m ((c : Thread nD τ).loc main_arg0)
/-- its output -/
abbrev Y : FVec Ideal S4096x2048 .bf16 := m ((c : Thread nD τ).loc main_arg1)
/-- and the gains, as launched. -/
abbrev G : FVec Ideal S1x2048 .f32 := m ((c : Thread nD τ).loc main_arg2)

/-- The layer's input with its normalized output added, as a row -/
def add (x y g : Fin 2048 → EReal) (k : Fin 2048) : EReal := x k + y k * root y * g k

/-- and as an array. -/
def finalX (X : FVec Ideal S4096x2048 .f32) (Y : FVec Ideal S4096x2048 .bf16) (G : FVec Ideal S1x2048 .f32) : FVec Ideal S4096x2048 .f32 := fun y =>
  add (fun k => X (ix2 (y 0) k)) (fun k => Y (ix2 (y 0) k)) (fun k => G (ix2 0 k)) (y 1)

/-- What the body computes at a place: the sum. -/
theorem at_add (y : FVec Ideal S256x2048 .bf16) (x : FVec Ideal S256x2048 .f32) (g : FVec Ideal S1x2048 .f32) (r : Fin 256) (k : Fin 2048) :
    k0_pay1 (F := Ideal) y x g (ix2 r k) = add (fun k => x (ix2 r k)) (fun k => y (ix2 r k)) (fun k => g (ix2 0 k)) k := by
  pointwise [k0_pay1]
  rfl

/-- The blocks each point names: its own rows, the gains whole. -/
theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- The array row that is row `r` of point `t`'s block. -/
def rowOf (t : Fin cfg0.N) (r : Fin 256) : Fin 4096 := ⟨t.val * 256 + r.val, by have := t.isLt; have : cfg0.N = 16 := N_0; omega⟩

/-- A block of the layer's input, -/
theorem blk_x (t : Fin cfg0.N) (r : Fin 256) (k : Fin 2048) : iblk m c 0 t (ix2 r k) = X m c (ix2 (rowOf t r) k) := by
  blk_point [iblk, V, idx t]
  rfl

/-- of its output, -/
theorem blk_y (t : Fin cfg0.N) (r : Fin 256) (k : Fin 2048) : iblk m c 1 t (ix2 r k) = Y m c (ix2 (rowOf t r) k) := by
  blk_point [iblk, V, idx t]
  rfl

/-- and the gains. -/
theorem blk_g (t : Fin cfg0.N) (k : Fin 2048) : iblk m c 2 t (ix2 0 k) = G m c (ix2 0 k) := by
  blk_point [iblk, V, idx t]

/-- The array of the sums after the launch. -/
theorem arr_x : (dats m 0 c).arrAt 3 cfg0.N = finalX (X m c) (Y m c) (G m c) := by
  refine (dats m 0 c).arrAt_eq_of_covers 3 _ (by decide +kernel) fun t hf y => ?_
  blk_simp [idx t]
  rw [after0_3]
  unfold out0_3
  frame_out
  obtain ⟨r, k, rfl⟩ : ∃ (r : Fin 256) (k : Fin 2048), y = ix2 r k := ⟨y 0, y 1, eq_ix2 y⟩
  have e : (win0_3.blk t).view.emb (ix2 r k) = ix2 (rowOf t r) k := by
    blk_ext [idx t]
    rfl
  rw [e, at_add]
  have ex : (fun k => iblk m c 0 t (ix2 r k)) = fun k => X m c (ix2 (rowOf t r) k) := funext fun k => blk_x m c t r k
  have ey : (fun k => iblk m c 1 t (ix2 r k)) = fun k => Y m c (ix2 (rowOf t r) k) := funext fun k => blk_y m c t r k
  have eg : (fun k => iblk m c 2 t (ix2 0 k)) = fun k => G m c (ix2 0 k) := funext fun k => blk_g m c t k
  rw [ex, ey, eg]
  rfl

end Cert.ResLast

end
-- ==== Proof.ResLast.Ref.lean ====
/- The reference's result read at an index: the last layer's input with its normalized output added. -/
module

public import proofs.«01_k».proof.Proof.Gen.ResLastReferenceIdeal.Read
public import proofs.«01_k».proof.Proof.Norm.Row
public import Idealize.ShloMosaic.Lib.Pipeline.ValueKit

@[expose] public section

set_option maxRecDepth 16384

noncomputable section

open Idealize.ShloMosaic Cert.ResLastReferenceIdeal Cert.ResLastReferenceIdeal.Read

namespace Cert.ResLast.Ref

open Cert.Norm

variable (X : FVec Ideal S4096x2048 .f32) (Y : FVec Ideal S4096x2048 .bf16) (G : FVec Ideal S1x2048 .f32)

/-- One over the root of the mean square of a row of the layer's output. -/
theorem at_root (i : Fin 4096) : val_main_v9 (F := Ideal) Y (ix2 i 0) = root (fun k => Y (ix2 i k)) := by
  pointwise [val_main_v9, val_main_v8, val_main_v7, val_main_cst_1, val_main_v6, val_main_v5, val_main_cst_0, val_main_v4, val_main_v3, val_main_cst, val_main_v2, val_main_v0]
  rfl

/-- The layer's input with its normalized output added. -/
theorem at_add (i : Fin 4096) (k : Fin 2048) : val_main_v15 (F := Ideal) X Y G (ix2 i k)
    = X (ix2 i k) + Y (ix2 i k) * root (fun k => Y (ix2 i k)) * G (ix2 0 k) := by
  have e := at_root Y i
  unfold val_main_v15 val_main_v14 val_main_v11 val_main_v10
  generalize val_main_v9 (F := Ideal) Y = y at e ⊢
  pointwise [val_main_v13, val_main_v12, val_main_v1, val_main_v0, e]

end Cert.ResLast.Ref

end
-- ==== Proof.ResLast.Claims.lean ====
/- The claims about the normalization behind the last layer. -/
module

public import proofs.«01_k».proof.Defs
public import proofs.«01_k».proof.Proof.Gen.ResLastKernel.Frame
public import proofs.«01_k».proof.Proof.Gen.ResLastReferenceIdeal.Run
public import proofs.«01_k».proof.Proof.ResLast.Array
public import proofs.«01_k».proof.Proof.ResLast.Ref
public import Idealize.ShloMosaic.Lib.Quiescent

@[expose] public section

set_option maxRecDepth 16384

noncomputable section

open Idealize.ShloMosaic Idealize.SL.Sem

namespace Cert.ResLast

/-- The kernel ends, leaves its arguments and every counter as they were, on the machine's numbers. -/
theorem frame_kernel : Cert.quiescent_ResLastKernel := fun m ρ _ => Cert.ResLastKernel.Gen.frame m ρ

/-- The same over the extended reals. -/
theorem frame_ideal : Cert.quiescent_ResLastKernelIdeal := fun m ρ _ => Cert.ResLastKernelIdeal.Gen.frame m ρ

/-- The reference ends and leaves its arguments as they were; it declares no counter. -/
theorem frame_ref : Cert.quiescent_ResLastReferenceIdeal := fun m ρ _ =>
  (θ_run Cert.ResLastReferenceIdeal.defs _ _).mono
    (fun r h => ⟨fun c => (h c).2, sem_eq_zero_of_no_sems (by decide) r.2⟩)
    (Cert.ResLastReferenceIdeal.Value.run m ρ)

/-- The reference's result is the array of the sums. -/
theorem result_x (X : FVec Ideal Cert.ResLastReferenceIdeal.S4096x2048 .f32) (Y : FVec Ideal Cert.ResLastReferenceIdeal.S4096x2048 .bf16) (G : FVec Ideal Cert.ResLastReferenceIdeal.S1x2048 .f32) :
    Cert.ResLastReferenceIdeal.Read.val_main_v15 (F := Ideal) X Y G = finalX X Y G := by
  funext y
  obtain ⟨i, k, rfl⟩ : ∃ i k, y = ix2 i k := ⟨y 0, y 1, eq_ix2 y⟩
  exact Ref.at_add X Y G i k

/-- The kernel and the reference agree over the extended reals, on any arguments. -/
theorem algebraic : Cert.algebraic_ResLastKernelIdeal_ResLastReferenceIdeal := by
  intro m ρ m' ρ' _ hagree
  refine ⟨fun c => finalX (X m c) (Y m c) (G m c), ?_, ?_⟩
  · exact (θ_run Cert.ResLastKernelIdeal.defs _ _).mono (fun r h c => ⟨(h c).1.trans (arr_x m c), (h c).2⟩) (Cert.ResLastKernelIdeal.Value.run_blocks m ρ)
  · refine (θ_run Cert.ResLastReferenceIdeal.defs _ _).mono (fun r h c => ?_) (Cert.ResLastReferenceIdeal.Value.run m' ρ')
    obtain ⟨a0, a1, a2⟩ := hagree c
    refine ⟨(h c).1.trans ?_, (h c).2⟩
    rw [Cert.ResLastReferenceIdeal.Read.val_main_v15_eq, a0, a1, a2]
    exact result_x _ _ _

end Cert.ResLast

end
-- ==== Proof.CLnF.Array.lean ====
/- The conformer's norm and the gate behind it: what each point leaves in its block, and the array. -/
module

public import proofs.«01_k».proof.Proof.Gen.CLnFKernelIdeal.Value
public import proofs.«01_k».proof.Proof.CLn.Row
public import Idealize.ShloMosaic.Lib.Pipeline.ValueKit
public import Idealize.ShloMosaic.Lib.Pipeline.ReadBack

@[expose] public section

set_option maxRecDepth 16384

noncomputable section

open Idealize.ShloMosaic Idealize.ShloMosaic.TcCoe Cert.CLnFKernelIdeal Cert.CLnFKernelIdeal.Gen

namespace Cert.CLnF

open Cert.Norm

variable (m : (ℓ : Loc nD τ sig) → Buf (Elt Ideal) ℓ) (c : Dev nD)

/-- The rows, -/
abbrev X : FVec Ideal S4096x2048 .f32 := m ((c : Thread nD τ).loc main_arg0)
/-- the gains -/
abbrev G : FVec Ideal S1x2048 .f32 := m ((c : Thread nD τ).loc main_arg1)
/-- and the offsets, as launched. -/
abbrev B : FVec Ideal S1x2048 .f32 := m ((c : Thread nD τ).loc main_arg2)

/-- A number times its sigmoid. -/
def gate (n : EReal) : EReal := n * Ideal.logistic n

/-- The gated rows, as an array. -/
def final (X : FVec Ideal S4096x2048 .f32) (G B : FVec Ideal S1x2048 .f32) : FVec Ideal S4096x2048 .bf16 := fun y =>
  gate (CLn.out (fun k => X (ix2 (y 0) k)) (G (ix2 0 (y 1))) (B (ix2 0 (y 1))) (y 1))

/-- What the body computes at a place. -/
theorem at_body (x : FVec Ideal S256x2048 .f32) (g b : FVec Ideal S1x2048 .f32) (r : Fin 256) (k : Fin 2048) :
    k0_pay1 (F := Ideal) x g b (ix2 r k) = gate (CLn.out (fun k => x (ix2 r k)) (g (ix2 0 k)) (b (ix2 0 k)) k) := by
  pointwise [k0_pay1]
  rfl

/-- The blocks each point names: its own rows, the gains and the offsets whole. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The array row that is row `r` of point `t`'s block. -/
def rowOf (t : Fin cfg0.N) (r : Fin 256) : Fin 4096 := ⟨t.val * 256 + r.val, by have := t.isLt; have : cfg0.N = 16 := N_0; omega⟩

/-- A block of the rows, -/
theorem blk_x (t : Fin cfg0.N) (r : Fin 256) (k : Fin 2048) : iblk m c 0 t (ix2 r k) = X m c (ix2 (rowOf t r) k) := by
  blk_point [iblk, V, idx t]
  rfl

/-- the gains -/
theorem blk_g (t : Fin cfg0.N) (k : Fin 2048) : iblk m c 1 t (ix2 0 k) = G m c (ix2 0 k) := by
  blk_point [iblk, V, idx t]

/-- and the offsets. -/
theorem blk_b (t : Fin cfg0.N) (k : Fin 2048) : iblk m c 2 t (ix2 0 k) = B m c (ix2 0 k) := by
  blk_point [iblk, V, idx t]

/-- The array after the launch. -/
theorem arr : (dats m 0 c).arrAt 3 cfg0.N = final (X m c) (G m c) (B m c) := by
  refine (dats m 0 c).arrAt_eq_of_covers 3 _ (by decide +kernel) fun t hf y => ?_
  blk_simp [idx t]
  rw [after0_3]
  unfold out0_3
  frame_out
  obtain ⟨r, k, rfl⟩ : ∃ (r : Fin 256) (k : Fin 2048), y = ix2 r k := ⟨y 0, y 1, eq_ix2 y⟩
  have e : (win0_3.blk t).view.emb (ix2 r k) = ix2 (rowOf t r) k := by
    blk_ext [idx t]
    rfl
  have ex : (fun k => iblk m c 0 t (ix2 r k)) = fun k => X m c (ix2 (rowOf t r) k) := funext fun k => blk_x m c t r k
  rw [e, at_body, ex, blk_g, blk_b]
  rfl

end Cert.CLnF

end
-- ==== Proof.CLnF.Ref.lean ====
/- The reference's result read at an index: the normalized rows behind the gate. -/
module

public import proofs.«01_k».proof.Proof.Gen.CLnFReferenceIdeal.Read
public import proofs.«01_k».proof.Proof.CLn.Row
public import Idealize.ShloMosaic.Lib.Pipeline.ValueKit

@[expose] public section

set_option maxRecDepth 16384

noncomputable section

open Idealize.ShloMosaic Cert.CLnFReferenceIdeal Cert.CLnFReferenceIdeal.Read

namespace Cert.CLnF.Ref

open Cert.Norm

variable (X : FVec Ideal S4096x2048 .f32) (G B : FVec Ideal S1x2048 .f32)

/-- A row less its mean, as the variance takes it, -/
theorem at_cen (i : Fin 4096) (k : Fin 2048) : val_main_v7 (F := Ideal) X (ix2 i k) = CLn.cen (fun k => X (ix2 i k)) k := by
  pointwise [val_main_v7, val_main_v6, val_main_v5, val_main_v4, val_main_cst_0, val_main_v3, val_main_v2, val_main_cst]
  rfl

/-- and as the normalization takes it. -/
theorem at_cen' (i : Fin 4096) (k : Fin 2048) : val_main_v14 (F := Ideal) X (ix2 i k) = CLn.cen (fun k => X (ix2 i k)) k := by
  pointwise [val_main_v14, val_main_v13, val_main_v5, val_main_v4, val_main_cst_0, val_main_v3, val_main_v2, val_main_cst]
  rfl

/-- One over the variance's root. -/
theorem at_root (i : Fin 4096) : val_main_v17 (F := Ideal) X (ix2 i 0) = root (CLn.cen fun k => X (ix2 i k)) := by
  have e := at_cen X
  unfold val_main_v17 val_main_v16 val_main_v12 val_main_v10 val_main_v9 val_main_v8
  generalize val_main_v7 (F := Ideal) X = y at e ⊢
  pointwise [val_main_v15, val_main_cst_3, val_main_v11, val_main_cst_2, val_main_cst_1, e]
  rfl

/-- The row in front of the gate, -/
theorem at_out (i : Fin 4096) (k : Fin 2048) :
    val_main_v25 (F := Ideal) X G B (ix2 i k) = CLn.out (fun k => X (ix2 i k)) (G (ix2 0 k)) (B (ix2 0 k)) k := by
  have e := at_cen' X
  have f := at_root X
  unfold val_main_v25 val_main_v22 val_main_v19 val_main_v18
  generalize val_main_v14 (F := Ideal) X = y at e ⊢
  generalize val_main_v17 (F := Ideal) X = z at f ⊢
  pointwise [val_main_v24, val_main_v23, val_main_v21, val_main_v20, val_main_v1, val_main_v0, e, f]
  rfl

/-- and behind it. -/
theorem out (i : Fin 4096) (k : Fin 2048) : val_main_v27 (F := Ideal) X G B (ix2 i k)
    = CLn.out (fun k => X (ix2 i k)) (G (ix2 0 k)) (B (ix2 0 k)) k * Ideal.logistic (CLn.out (fun k => X (ix2 i k)) (G (ix2 0 k)) (B (ix2 0 k)) k) := by
  have e := at_out X G B i k
  unfold val_main_v27 val_main_v26 val_main_call0_v5 val_main_call0_v3 val_main_call0_v1 val_main_call0_v0
  generalize val_main_v25 (F := Ideal) X G B = y at e ⊢
  pointwise [val_main_call0_v4, val_main_call0_v2, val_main_call0_cst, val_main_call0_cst_0]
  rw [e]
  rfl

end Cert.CLnF.Ref

end
-- ==== Proof.CLnF.Claims.lean ====
/- The claims about the conformer's norm and the gate behind it. -/
module

public import proofs.«01_k».proof.Defs
public import proofs.«01_k».proof.Proof.Gen.CLnFKernel.Frame
public import proofs.«01_k».proof.Proof.Gen.CLnFReferenceIdeal.Run
public import proofs.«01_k».proof.Proof.CLnF.Array
public import proofs.«01_k».proof.Proof.CLnF.Ref
public import Idealize.ShloMosaic.Lib.Quiescent

@[expose] public section

set_option maxRecDepth 16384

noncomputable section

open Idealize.ShloMosaic Idealize.SL.Sem

namespace Cert.CLnF

/-- The kernel ends, leaves its arguments and every counter as they were, on the machine's numbers. -/
theorem frame_kernel : Cert.quiescent_CLnFKernel := fun m ρ _ => Cert.CLnFKernel.Gen.frame m ρ

/-- The same over the extended reals. -/
theorem frame_ideal : Cert.quiescent_CLnFKernelIdeal := fun m ρ _ => Cert.CLnFKernelIdeal.Gen.frame m ρ

/-- The reference ends and leaves its arguments as they were; it declares no counter. -/
theorem frame_ref : Cert.quiescent_CLnFReferenceIdeal := fun m ρ _ =>
  (θ_run Cert.CLnFReferenceIdeal.defs _ _).mono
    (fun r h => ⟨fun c => (h c).2, sem_eq_zero_of_no_sems (by decide) r.2⟩)
    (Cert.CLnFReferenceIdeal.Value.run m ρ)

/-- The reference's result is that array. -/
theorem result (X : FVec Ideal Cert.CLnFReferenceIdeal.S4096x2048 .f32) (G B : FVec Ideal Cert.CLnFReferenceIdeal.S1x2048 .f32) :
    Cert.CLnFReferenceIdeal.Read.val_main_v27 (F := Ideal) X G B = final X G B := by
  funext y
  obtain ⟨i, k, rfl⟩ : ∃ i k, y = ix2 i k := ⟨y 0, y 1, eq_ix2 y⟩
  exact Ref.out X G B i k

/-- The kernel and the reference agree over the extended reals, on any arguments. -/
theorem algebraic : Cert.algebraic_CLnFKernelIdeal_CLnFReferenceIdeal := by
  intro m ρ m' ρ' _ hagree
  refine ⟨fun c => final (X m c) (G m c) (B m c), ?_, ?_⟩
  · exact (θ_run Cert.CLnFKernelIdeal.defs _ _).mono (fun r h c => ⟨(h c).1.trans (arr m c), (h c).2⟩) (Cert.CLnFKernelIdeal.Value.run_blocks m ρ)
  · refine (θ_run Cert.CLnFReferenceIdeal.defs _ _).mono (fun r h c => ?_) (Cert.CLnFReferenceIdeal.Value.run m' ρ')
    obtain ⟨a0, a1, a2⟩ := hagree c
    refine ⟨(h c).1.trans ?_, (h c).2⟩
    rw [Cert.CLnFReferenceIdeal.Read.val_main_v27_eq, a0, a1, a2]
    exact result _ _ _

end Cert.CLnF

end
-- ==== Proof.Loss.Row.lean ====
/- Sums scaled by a number, and the constants of the loss, over the extended reals. -/
module

public import proofs.«01_k».proof.Proof.Norm.Row

@[expose] public section

set_option maxRecDepth 16384

noncomputable section

open Idealize.ShloMosaic

namespace Cert.Loss

open Cert.Norm

/-- The loss's factor one half, -/
def half : EReal := Ideal.ofBits .f32 0x3F000000#32

/-- and the factor by which the kernel writes a mean's derivative. -/
def inv : EReal := Ideal.ofBits .f32 0x3A000000#32

/-- The factor is one half. -/
theorem half_eq : half = ((1 / 2 : ℝ) : EReal) := by
  simp [half, Ideal.ofBits, Ideal.ieee, -EReal.coe_mul]
  norm_num

/-- The other is one over the length. -/
theorem inv_eq : inv = ((2048⁻¹ : ℝ) : EReal) := by
  simp [inv, Ideal.ofBits, Ideal.ieee, -EReal.coe_mul]
  norm_num

/-- The factor of a square's derivative. -/
theorem two_eq : Ideal.ofBits .f32 0x40000000#32 = ((2 : ℝ) : EReal) := by
  simp [Ideal.ofBits, Ideal.ieee, -EReal.coe_mul]
  norm_num

/-- A factor that is one. -/
theorem one_eq : Ideal.ofBits .f32 0x3F800000#32 = ((1 : ℝ) : EReal) := by
  simp [Ideal.ofBits, Ideal.ieee, -EReal.coe_mul]
  norm_num

/-- The mean of a row's squares. -/
def mean (e : Fin 2048 → EReal) : EReal := Ideal.div (∑ k, e k * e k) len

/-- One half may be taken inside a sum, whatever the terms. -/
theorem half_sum {n : ℕ} (f : Fin n → EReal) : half * ∑ i, f i = ∑ i, half * f i := by
  have h0 : 0 ≤ half := by rw [half_eq]; exact_mod_cast (by norm_num : (0 : ℝ) ≤ 1 / 2)
  have ht : half ≠ ⊤ := by rw [half_eq]; exact EReal.coe_ne_top _
  induction n with
  | zero => simp
  | succ n ih => rw [Fin.sum_univ_succ, Fin.sum_univ_succ, EReal.left_distrib_of_nonneg_of_ne_top h0 ht, ih]

/-- The derivative of the loss as the chain rule gives it is the kernel's. -/
theorem slope_eq (e : EReal) :
    Ideal.div (half * Ideal.ofBits .f32 0x3F800000#32) len * (Ideal.ofBits .f32 0x40000000#32 * e) = e * inv := by
  rw [div_len, half_eq, one_eq, two_eq, inv_eq, mul_comm e, ← mul_assoc]
  simp only [← EReal.coe_mul]
  norm_num

end Cert.Loss

end
-- ==== Proof.Loss.Array.lean ====
/- The loss and its gradient: what each point leaves in its two blocks, and the two arrays. -/
module

public import proofs.«01_k».proof.Proof.Gen.LossKernelIdeal.Value
public import proofs.«01_k».proof.Proof.Loss.Row
public import Idealize.ShloMosaic.Lib.Pipeline.ValueKit
public import Idealize.ShloMosaic.Lib.Pipeline.ReadBack

@[expose] public section

set_option maxRecDepth 16384

noncomputable section

open Idealize.ShloMosaic Idealize.ShloMosaic.TcCoe Cert.LossKernelIdeal Cert.LossKernelIdeal.Gen

namespace Cert.Loss

open Cert.Norm

variable (m : (ℓ : Loc nD τ sig) → Buf (Elt Ideal) ℓ) (c : Dev nD)

/-- The step's output -/
abbrev Y : FVec Ideal S4096x2048 .f32 := m ((c : Thread nD τ).loc main_arg0)
/-- and the target, as launched. -/
abbrev T : FVec Ideal S4096x2048 .f32 := m ((c : Thread nD τ).loc main_arg1)

/-- The loss: over all rows, half the mean square of the difference, -/
def finalL (Y T : FVec Ideal S4096x2048 .f32) : FVec Ideal S8x128 .f32 := fun _ =>
  ∑ i : Fin 4096, half * mean (fun k => Y (ix2 i k) - T (ix2 i k))

/-- and its gradient. -/
def finalD (Y T : FVec Ideal S4096x2048 .f32) : FVec Ideal S4096x2048 .f32 := fun y => (Y (ix2 (y 0) (y 1)) - T (ix2 (y 0) (y 1))) * inv

/-- One row's share of the loss, -/
def share (y t : FVec Ideal S256x2048 .f32) (r : Fin 256) : EReal := half * mean (fun k => y (ix2 r k) - t (ix2 r k))

/-- and one block's. -/
def part (y t : FVec Ideal S256x2048 .f32) : FVec Ideal S8x128 .f32 := fun _ => ∑ r : Fin 256, share y t r

/-- The body's gradient at a place -/
theorem at_grad (y t : FVec Ideal S256x2048 .f32) (r : Fin 256) (k : Fin 2048) :
    k0_pay2 (F := Ideal) y t (ix2 r k) = (y (ix2 r k) - t (ix2 r k)) * inv := by
  pointwise [k0_pay2, k0_pay1]
  rfl

/-- and its share of the loss. -/
theorem at_part (y t : FVec Ideal S256x2048 .f32) : k0_pay3 (F := Ideal) y t = part y t := by
  funext z
  refine Eq.trans ?_ (half_sum (fun r : Fin 256 => mean (fun k => y (ix2 r k) - t (ix2 r k))))
  pointwise [k0_pay3, k0_pay1]
  simp only [Fin.sum_univ_one]
  rfl

/-- What a point leaves in its block of the gradient, -/
theorem grad_at (t : Fin cfg0.N) : (outsAt0 m c t.val t.isLt).2 = k0_pay2 (F := Ideal) (iblk m c 0 t) (iblk m c 1 t) := by
  funext y
  have hN : t.val < 16 := lt_of_lt_of_eq t.isLt N_0
  by_cases ht : t.val % 16 = 0
  · rw [outsAt0_A m c t ht (by omega)]
    frame_out
  · rw [outsAt0_B m c t ht (by omega)]
    frame_out

/-- the first point's share of the loss, -/
theorem loss_first (t : Fin cfg0.N) (ht : t.val % 16 = 0) (y : S8x128.Idx) :
    (outsAt0 m c t.val t.isLt).1 y = part (iblk m c 0 t) (iblk m c 1 t) y := by
  have hN : t.val < 16 := lt_of_lt_of_eq t.isLt N_0
  rw [outsAt0_A m c t ht (by omega), ← at_part]
  frame_out

/-- and a later point's, over what the point before left. -/
theorem loss_later (t : Fin cfg0.N) (ht : ¬t.val % 16 = 0) (y : S8x128.Idx) :
    (outsAt0 m c t.val t.isLt).1 y
      = (outsAt0 m c (t.val - 1) (Nat.lt_of_le_of_lt (Nat.sub_le _ _) t.isLt)).1 y + part (iblk m c 0 t) (iblk m c 1 t) y := by
  rw [outsAt0_B m c t ht (by omega), ← at_part]
  generalize (outsAt0 m c (t.val - 1) (Nat.lt_of_le_of_lt (Nat.sub_le _ _) t.isLt)).1 = old
  frame_out
  unfold k0_pay4
  exact congrArg (· + _) (congrFun (shapeCast_self _ _) y)

/-- The blocks each of the sixteen points names: its own rows. -/
theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- The array row that is row `r` of point `t`'s block. -/
def rowOf (t : Fin cfg0.N) (r : Fin 256) : Fin 4096 := ⟨t.val * 256 + r.val, by have := t.isLt; have : cfg0.N = 16 := N_0; omega⟩

/-- A block of the output -/
theorem blk_y (t : Fin cfg0.N) (r : Fin 256) (k : Fin 2048) : iblk m c 0 t (ix2 r k) = Y m c (ix2 (rowOf t r) k) := by
  blk_point [iblk, V, idx t]
  rfl

/-- and one of the target. -/
theorem blk_t (t : Fin cfg0.N) (r : Fin 256) (k : Fin 2048) : iblk m c 1 t (ix2 r k) = T m c (ix2 (rowOf t r) k) := by
  blk_point [iblk, V, idx t]
  rfl

/-- One row's share, in the arrays' own places. -/
theorem share_at (t : Fin cfg0.N) (r : Fin 256) : share (iblk m c 0 t) (iblk m c 1 t) r
    = half * mean (fun k => Y m c (ix2 (rowOf t r) k) - T m c (ix2 (rowOf t r) k)) :=
  congrArg (fun e => half * mean e) (funext fun k => congrArg₂ (· - ·) (blk_y m c t r k) (blk_t m c t r k))

/-- The array of the gradient after the launch. -/
theorem arr_d : (dats m 0 c).arrAt 3 cfg0.N = finalD (Y m c) (T m c) := by
  refine (dats m 0 c).arrAt_eq_of_covers 3 _ (by decide +kernel) fun t hf y => ?_
  blk_simp [idx t]
  rw [after0_3, grad_at]
  obtain ⟨r, k, rfl⟩ : ∃ (r : Fin 256) (k : Fin 2048), y = ix2 r k := ⟨y 0, y 1, eq_ix2 y⟩
  have e : (win0_3.blk t).view.emb (ix2 r k) = ix2 (rowOf t r) k := by
    blk_ext [idx t]
    rfl
  rw [e, at_grad, blk_y, blk_t]
  rfl

/-- The block of the loss after the launch. -/
theorem arr_l : (dats m 0 c).arrAt 2 cfg0.N = finalL (Y m c) (T m c) := by
  refine (dats m 0 c).arrAt_eq_of_after_last 2 t0_15 (by decide +kernel) _ fun j => ?_
  blk_simp [idx t0_15]
  have first : ∀ t : Fin cfg0.N, t.val % 16 = 0 → ∀ y : S8x128.Idx, (outsAt0 m c t.val t.isLt).1 y
      = 0 + part (iblk m c 0 t) (iblk m c 1 t) y := fun t h y =>
    (loss_first m c t h y).trans (zero_add (part (iblk m c 0 t) (iblk m c 1 t) y : EReal)).symm
  rw [after0_2, Pipeline.eq_sum_fin_of_reset_step_apply_last (M := EReal) (fun n h => (outsAt0 m c n h).1) 16 (fun _ => 0)
    (fun t y => part (iblk m c 0 t) (iblk m c 1 t) y) first (loss_later m c) (le_of_eq N_0) t0_15 rfl j]
  refine (zero_add (_ : EReal)).trans ?_
  exact Fin.sum_mul_add_congr (S := cfg0.N) (n := 256) (F := fun t r => share (iblk m c 0 t) (iblk m c 1 t) r) fun t r hl =>
    share_at m c t r

end Cert.Loss

end
-- ==== Proof.Loss.Ref.lean ====
/- The reference's two results read at an index: the loss and its gradient. -/
module

public import proofs.«01_k».proof.Proof.Gen.LossReferenceIdeal.Read
public import proofs.«01_k».proof.Proof.Loss.Row
public import Idealize.ShloMosaic.Lib.Pipeline.ValueKit

@[expose] public section

set_option maxRecDepth 16384

noncomputable section

open Idealize.ShloMosaic Cert.LossReferenceIdeal Cert.LossReferenceIdeal.Read

namespace Cert.Loss.Ref

open Cert.Norm

variable (Y T : FVec Ideal S4096x2048 .f32)

/-- The mean square of a row of the difference. -/
theorem at_mean (i : Fin 4096) : val_main_v6 (F := Ideal) Y T (ix1 i) = mean (fun k => Y (ix2 i k) - T (ix2 i k)) := by
  pointwise [val_main_v6, val_main_v5, val_main_cst_1, val_main_v4, val_main_cst_0, val_main_v1, val_main_v0]
  rfl

/-- The loss, at each place of its block. -/
theorem loss (a : Fin 8) (b : Fin 128) : val_main_v15 (F := Ideal) Y T (ix2 a b)
    = ∑ i : Fin 4096, half * mean (fun k => Y (ix2 i k) - T (ix2 i k)) := by
  have e := at_mean Y T
  rw [← half_sum]
  unfold val_main_v15 val_main_v8 val_main_v7
  generalize val_main_v6 (F := Ideal) Y T = y at e ⊢
  pointwise [val_main_cst_3, val_main_cst_2, e]
  rfl

/-- The gradient. -/
theorem grad (i : Fin 4096) (k : Fin 2048) : val_main_v14 (F := Ideal) Y T (ix2 i k) = (Y (ix2 i k) - T (ix2 i k)) * inv := by
  rw [← slope_eq]
  pointwise [val_main_v14, val_main_v13, val_main_v12, val_main_v11, val_main_cst_6, val_main_v10, val_main_v9, val_main_cst_5, val_main_cst_4,
    val_main_v3, val_main_v2, val_main_cst, val_main_v0]
  rfl

end Cert.Loss.Ref

end
-- ==== Proof.Loss.Claims.lean ====
/- The claims about the loss and its gradient. -/
module

public import proofs.«01_k».proof.Defs
public import proofs.«01_k».proof.Proof.Gen.LossKernel.Frame
public import proofs.«01_k».proof.Proof.Gen.LossReferenceIdeal.Run
public import proofs.«01_k».proof.Proof.Loss.Array
public import proofs.«01_k».proof.Proof.Loss.Ref
public import Idealize.ShloMosaic.Lib.Quiescent

@[expose] public section

set_option maxRecDepth 16384

noncomputable section

open Idealize.ShloMosaic Idealize.SL.Sem

namespace Cert.Loss

/-- The kernel ends, leaves its arguments and every counter as they were, on the machine's numbers. -/
theorem frame_kernel : Cert.quiescent_LossKernel := fun m ρ _ => Cert.LossKernel.Gen.frame m ρ

/-- The same over the extended reals. -/
theorem frame_ideal : Cert.quiescent_LossKernelIdeal := fun m ρ _ => Cert.LossKernelIdeal.Gen.frame m ρ

/-- The reference ends and leaves its arguments as they were; it declares no counter. -/
theorem frame_ref : Cert.quiescent_LossReferenceIdeal := fun m ρ _ =>
  (θ_run Cert.LossReferenceIdeal.defs _ _).mono
    (fun r h => ⟨fun c => (h c).2.2, sem_eq_zero_of_no_sems (by decide) r.2⟩)
    (Cert.LossReferenceIdeal.Value.run m ρ)

/-- The reference's first result is the loss, -/
theorem result_l (Y T : FVec Ideal Cert.LossReferenceIdeal.S4096x2048 .f32) : Cert.LossReferenceIdeal.Read.val_main_v15 (F := Ideal) Y T = finalL Y T := by
  funext y
  obtain ⟨a, b, rfl⟩ : ∃ a b, y = ix2 a b := ⟨y 0, y 1, eq_ix2 y⟩
  exact Ref.loss Y T a b

/-- and the second its gradient. -/
theorem result_d (Y T : FVec Ideal Cert.LossReferenceIdeal.S4096x2048 .f32) : Cert.LossReferenceIdeal.Read.val_main_v14 (F := Ideal) Y T = finalD Y T := by
  funext y
  obtain ⟨i, k, rfl⟩ : ∃ i k, y = ix2 i k := ⟨y 0, y 1, eq_ix2 y⟩
  exact Ref.grad Y T i k

/-- The kernel and the reference agree over the extended reals, on any arguments. -/
theorem algebraic : Cert.algebraic_LossKernelIdeal_LossReferenceIdeal := by
  intro m ρ m' ρ' _ hagree
  refine ⟨fun c => finalL (Y m c) (T m c), fun c => finalD (Y m c) (T m c), ?_, ?_⟩
  · exact (θ_run Cert.LossKernelIdeal.defs _ _).mono (fun r h c => ⟨(h c).1.trans (arr_l m c), (h c).2.1.trans (arr_d m c), (h c).2.2⟩)
      (Cert.LossKernelIdeal.Value.run_blocks m ρ)
  · refine (θ_run Cert.LossReferenceIdeal.defs _ _).mono (fun r h c => ?_) (Cert.LossReferenceIdeal.Value.run m' ρ')
    obtain ⟨a0, a1⟩ := hagree c
    refine ⟨(h c).1.trans ?_, (h c).2.1.trans ?_, (h c).2.2⟩
    · rw [Cert.LossReferenceIdeal.Read.val_main_v15_eq, a0, a1]
      exact result_l _ _
    · rw [Cert.LossReferenceIdeal.Read.val_main_v14_eq, a0, a1]
      exact result_d _ _

end Cert.Loss

end
-- ==== Proof.CConvF.Mix.lean ====
/- The conformer's convolution of thirty-one rows: what it computes, and what the body of its launch computes at one place of a block. -/
module

public import proofs.«01_k».proof.Proof.Gen.CConvFKernelIdeal.Skeleton
public import Idealize.ShloMosaic.Lib.Pipeline.ValueKit

@[expose] public section

set_option maxRecDepth 16384

noncomputable section

open Idealize.ShloMosaic Idealize.ShloMosaic.TcCoe Cert.CConvFKernelIdeal Cert.CConvFKernelIdeal.Gen

namespace Cert.CConvF

/-! ## The mathematics -/

/-- The first `n + 1` terms of a sequence, added one after the other. -/
def chain (f : ℕ → EReal) : ℕ → EReal
  | 0 => f 0
  | n + 1 => chain f n + f (n + 1)

/-- Only the terms added matter. -/
theorem chain_congr (f g : ℕ → EReal) (n : ℕ) (h : ∀ k ≤ n, f k = g k) : chain f n = chain g n := by
  induction n with
  | zero => exact h 0 le_rfl
  | succ n ih => exact congrArg₂ (· + ·) (ih fun k hk => h k (by omega)) (h _ le_rfl)

/-- The convolution's input: the first plane times the second's sigmoid. -/
def act (P : FVec Ideal S2x4096x2048 .bf16) (i : Fin 4096) (j : Fin 2048) : EReal := P (ix3 0 i j) * Ideal.logistic (P (ix3 1 i j))

/-- The input with thirty rows of zeros in front. -/
def lag (P : FVec Ideal S2x4096x2048 .bf16) (a : ℕ) (j : Fin 2048) : EReal :=
  if h : 30 ≤ a ∧ a < 4126 then act P ⟨a - 30, by omega⟩ j else 0

/-- The weight of a tap. -/
def weight (W : FVec Ideal S31x2048 .f32) (k : ℕ) (j : Fin 2048) : EReal := if h : k < 31 then W (ix2 ⟨k, h⟩ j) else 0

/-- The convolution along the rows, thirty-one weights and an offset a column. -/
def conv (P : FVec Ideal S2x4096x2048 .bf16) (W : FVec Ideal S31x2048 .f32) (B : FVec Ideal S1x2048 .f32) : FVec Ideal S4096x2048 .f32 := fun y =>
  chain (fun k => weight W k (y 1) * lag P ((y 0).val + k) (y 1)) 30 + B (ix2 0 (y 1))

/-! ## The body at one place -/

/-- A choice by whether a grid coordinate is the first. -/
theorem pick_first (n : ℕ) (h : n < 16) (x y : EReal) :
    Scalar.select (Scalar.cmpi .eq (BitVec.ofNat 32 n) 0#32) x y = if n = 0 then x else y := by
  interval_cases n <;> rfl

/-- The rows the convolution reads: the thirty-two before the block, zeros before the first, then the block's own. -/
theorem rows_before (i : grid0.Coords) (b z : FVec Ideal S1x256x256 .bf16) (b' z' : FVec Ideal S1x32x256 .bf16) (a : Fin 288) (s : Fin 256) :
    k0_pay2 (F := Ideal) i b z b' z' (ix2 a s)
      = if h : a.val < 32 then (if (i 0).val = 0 then 0 else b' (ix3 0 ⟨a.val, h⟩ s) * Ideal.logistic (z' (ix3 0 ⟨a.val, h⟩ s)))
        else b (ix3 0 ⟨a.val - 32, by omega⟩ s) * Ideal.logistic (z (ix3 0 ⟨a.val - 32, by omega⟩ s)) := by
  pointwise [k0_pay2]
  exact dite_congr rfl (fun _ => pick_first _ (i 0).isLt _ _) fun _ => rfl

/-- The weight of a tap in a block. -/
def blockWeight (w : FVec Ideal S31x256 .f32) (k : ℕ) (s : Fin 256) : EReal := if h : k < 31 then w (ix2 ⟨k, h⟩ s) else 0

/-- One tap. -/
theorem one_tap (x : FVec Ideal S288x256 .f32) (w : FVec Ideal S31x256 .f32) (L : ℕ → EReal) (s r : Fin 256) (hL : ∀ q : Fin 288, 2 ≤ q.val → x (ix2 q s) = L q.val)
    (k : Fin 31) (q : Fin 288) (n : ℕ) (hn : k.val = n) (hq : q.val = r.val + 2 + n) : w (ix2 k s) * x (ix2 q s) = blockWeight w n s * L (r.val + 2 + n) := by
  subst hn
  unfold blockWeight
  rw [dif_pos k.isLt, hL q (by omega), hq]

set_option maxHeartbeats 1000000 in
/-- All taps, from the rows they read, and the offset. -/
theorem taps (i : grid0.Coords) (b z : FVec Ideal S1x256x256 .bf16) (b' z' : FVec Ideal S1x32x256 .bf16) (w : FVec Ideal S31x256 .f32) (o : FVec Ideal S1x256 .f32)
    (L : ℕ → EReal) (s r : Fin 256) (hL : ∀ q : Fin 288, 2 ≤ q.val → k0_pay2 (F := Ideal) i b z b' z' (ix2 q s) = L q.val) :
    k0_pay1 (F := Ideal) (k0_pay2 (F := Ideal) i b z b' z') w (k0_pay5 (F := Ideal) i b z b' z') (k0_pay8 (F := Ideal) (k0_pay2 (F := Ideal) i b z b' z')) (k0_pay9 (F := Ideal) (k0_pay2 (F := Ideal) i b z b' z')) (k0_pay10 (F := Ideal) (k0_pay2 (F := Ideal) i b z b' z'))
      (k0_pay15 (F := Ideal) (k0_pay2 (F := Ideal) i b z b' z') w (k0_pay3 (F := Ideal) i b z b' z') (k0_pay4 (F := Ideal) i b z b' z') (k0_pay5 (F := Ideal) i b z b' z') (k0_pay8 (F := Ideal) (k0_pay2 (F := Ideal) i b z b' z')) (k0_pay9 (F := Ideal) (k0_pay2 (F := Ideal) i b z b' z'))
        (k0_pay10 (F := Ideal) (k0_pay2 (F := Ideal) i b z b' z')) (k0_pay11 (F := Ideal) (k0_pay2 (F := Ideal) i b z b' z'))
        (k0_pay12 (F := Ideal) (k0_pay2 (F := Ideal) i b z b' z') w (k0_pay3 (F := Ideal) i b z b' z') (k0_pay4 (F := Ideal) i b z b' z') (k0_pay5 (F := Ideal) i b z b' z') (k0_pay6 (F := Ideal) i b z b' z' w) (k0_pay7 (F := Ideal) w))
        (k0_pay13 (F := Ideal) (k0_pay2 (F := Ideal) i b z b' z')) (k0_pay14 (F := Ideal) w))
      (k0_pay16 (F := Ideal) (k0_pay4 (F := Ideal) i b z b' z')) (k0_pay17 (F := Ideal) w) o (ix2 r s)
    = chain (fun k => blockWeight w k s * L (r.val + 2 + k)) 30 + o (ix2 0 s) := by
  unfold k0_pay1 k0_pay6 k0_pay15 k0_pay12 k0_pay13 k0_pay16 k0_pay3 k0_pay4 k0_pay5 k0_pay7 k0_pay8 k0_pay9 k0_pay10 k0_pay11 k0_pay14 k0_pay17
  generalize k0_pay2 (F := Ideal) i b z b' z' = x at hL ⊢
  pointwise []
  refine congrArg (· + o (ix2 0 s)) ?_
  simp only [chain]
  repeat' (first
    | (refine one_tap x w L s r hL _ _ _ rfl ?_
       have := r.isLt
       simp only [Fin.val_mk]
       omega)
    | refine congrArg₂ (· + ·) ?_ ?_)

/-- If a block of two planes is rows `256 n` and after of the array and the thirty-two rows beside it are those just before, the rows
    the body puts together are the convolution's input with its zeros in front. -/
theorem rows_lag (P : FVec Ideal S2x4096x2048 .bf16) (i : grid0.Coords) (b z : FVec Ideal S1x256x256 .bf16) (b' z' : FVec Ideal S1x32x256 .bf16)
    (row : Fin 256 → Fin 4096) (row' : Fin 32 → Fin 4096) (j : Fin 2048) (s : Fin 256)
    (hrow : ∀ r, (row r).val = (i 0).val * 256 + r.val) (hrow' : (i 0).val ≠ 0 → ∀ r, (row' r).val + 32 = (i 0).val * 256 + r.val)
    (hb : ∀ r, b (ix3 0 r s) = P (ix3 0 (row r) j)) (hz : ∀ r, z (ix3 0 r s) = P (ix3 1 (row r) j))
    (hb' : ∀ r, b' (ix3 0 r s) = P (ix3 0 (row' r) j)) (hz' : ∀ r, z' (ix3 0 r s) = P (ix3 1 (row' r) j))
    (q : Fin 288) (hq : 2 ≤ q.val) :
    k0_pay2 (F := Ideal) i b z b' z' (ix2 q s) = lag P ((i 0).val * 256 + (q.val - 2)) j := by
  have hi : (i 0).val < 16 := (i 0).isLt
  rw [rows_before]
  unfold lag act
  by_cases h8 : q.val < 32
  · rw [dif_pos h8]
    by_cases h0 : (i 0).val = 0
    · rw [if_pos h0, dif_neg (by omega)]
    · have := hrow' h0 ⟨q.val, h8⟩
      rw [if_neg h0, dif_pos (by omega), hb', hz']
      have e : row' ⟨q.val, h8⟩ = ⟨(i 0).val * 256 + (q.val - 2) - 30, by omega⟩ := Fin.ext (by show (row' ⟨q.val, h8⟩).val = _; simp only at this ⊢; omega)
      rw [e]
  · rw [dif_neg h8, dif_pos (by omega), hb, hz]
    have := hrow ⟨q.val - 32, by omega⟩
    have e : row ⟨q.val - 32, by omega⟩ = ⟨(i 0).val * 256 + (q.val - 2) - 30, by omega⟩ := Fin.ext (by show (row ⟨q.val - 32, _⟩).val = _; simp only at this ⊢; omega)
    rw [e]

end Cert.CConvF

end
-- ==== Proof.CConvF.Array.lean ====
/- The conformer's convolution: what each point leaves in its block, and the array. -/
module

public import proofs.«01_k».proof.Proof.Gen.CConvFKernelIdeal.Value
public import proofs.«01_k».proof.Proof.CConvF.Mix

@[expose] public section

set_option maxRecDepth 16384

noncomputable section

open Idealize.ShloMosaic Idealize.ShloMosaic.TcCoe Cert.CConvFKernelIdeal Cert.CConvFKernelIdeal.Gen

namespace Cert.CConvF

variable (m : (ℓ : Loc nD τ sig) → Buf (Elt Ideal) ℓ) (c : Dev nD)

/-- The two planes, -/
abbrev P : FVec Ideal S2x4096x2048 .bf16 := m ((c : Thread nD τ).loc main_arg0)
/-- the weights -/
abbrev W : FVec Ideal S31x2048 .f32 := m ((c : Thread nD τ).loc main_arg1)
/-- and the offsets, as launched. -/
abbrev B : FVec Ideal S1x2048 .f32 := m ((c : Thread nD τ).loc main_arg2)

/-- One plane of two, loaded from a block, -/
theorem plane (x : FVec Ideal S2x256x256 .bf16) (o : Fin 2) (inb) (q : Fin 1) (r s : Fin 256) :
    View.ld (Val := Elt Ideal) (e' := .bf16) x (Rect.unit (s := S2x256x256) ![o.val, 0, 0] S1x256x256.size inb) (ix3 q r s) = x (ix3 o r s) := by
  refine View.ld_unit_apply_of (Val := Elt Ideal) (e := .bf16) x _ _ _ _ _ fun a => ?_
  fin_cases a
  · show o.val = o.val + q.val
    omega
  · show r.val = 0 + r.val
    omega
  · show s.val = 0 + s.val
    omega

/-- and from the thirty-two rows beside it. -/
theorem plane32 (x : FVec Ideal S2x32x256 .bf16) (o : Fin 2) (inb) (q : Fin 1) (r : Fin 32) (s : Fin 256) :
    View.ld (Val := Elt Ideal) (e' := .bf16) x (Rect.unit (s := S2x32x256) ![o.val, 0, 0] S1x32x256.size inb) (ix3 q r s) = x (ix3 o r s) := by
  refine View.ld_unit_apply_of (Val := Elt Ideal) (e := .bf16) x _ _ _ _ _ fun a => ?_
  fin_cases a
  · show o.val = o.val + q.val
    omega
  · show r.val = 0 + r.val
    omega
  · show s.val = 0 + s.val
    omega

/-- The blocks each point names. -/
theorem idx : ∀ t : Fin cfg0.N, win0_0.index t = ![0, t.val / 8, t.val % 8] ∧ win0_1.index t = ![0, t.val / 8 * 8 - 1, t.val % 8]
    ∧ win0_2.index t = ![0, t.val % 8] ∧ win0_3.index t = ![0, t.val % 8] ∧ win0_4.index t = ![t.val / 8, t.val % 8] :=
  (by decide +kernel : ∀ t : Fin grid0.N, _)

/-- Row `r` of point `t`'s block, in the array, -/
def row (t : Fin cfg0.N) (r : Fin 256) : Fin 4096 := ⟨t.val / 8 * 256 + r.val, by have := t.isLt; have : cfg0.N = 128 := N_0; omega⟩
/-- row `r` of the thirty-two beside it -/
def prev (t : Fin cfg0.N) (r : Fin 32) : Fin 4096 := ⟨(t.val / 8 * 8 - 1) * 32 + r.val, by have := t.isLt; have : cfg0.N = 128 := N_0; omega⟩
/-- and column `s`. -/
def col (t : Fin cfg0.N) (s : Fin 256) : Fin 2048 := ⟨t.val % 8 * 256 + s.val, by omega⟩

/-- A block of the two planes, -/
theorem blk_p (t : Fin cfg0.N) (a : Fin 2) (r s : Fin 256) : iblk m c 0 t (ix3 a r s) = P m c (ix3 a (row t r) (col t s)) := by
  blk_point [iblk, V, idx t, row, col]

/-- the rows before it, -/
theorem blk_b (t : Fin cfg0.N) (a : Fin 2) (r : Fin 32) (s : Fin 256) : iblk m c 1 t (ix3 a r s) = P m c (ix3 a (prev t r) (col t s)) := by
  blk_point [iblk, V, idx t, prev, col]

/-- the weights -/
theorem blk_w (t : Fin cfg0.N) (k : Fin 31) (s : Fin 256) : iblk m c 2 t (ix2 k s) = W m c (ix2 k (col t s)) := by
  blk_point [iblk, V, idx t, col]

/-- and the offsets. -/
theorem blk_o (t : Fin cfg0.N) (s : Fin 256) : iblk m c 3 t (ix2 0 s) = B m c (ix2 0 (col t s)) := by
  blk_point [iblk, V, idx t, col]

/-- Point `t`'s first grid coordinate. -/
theorem coords : ∀ t : Fin cfg0.N, (grid0.coords t 0).val = t.val / 8 :=
  (by decide +kernel : ∀ t : Fin grid0.N, _)

/-- The array after the launch. -/
theorem arr : (dats m 0 c).arrAt 4 cfg0.N = conv (P m c) (W m c) (B m c) := by
  refine (dats m 0 c).arrAt_eq_of_covers 4 _ (by decide +kernel) fun t hf y => ?_
  blk_simp [idx t]
  rw [after0_4]
  obtain ⟨r, s, rfl⟩ : ∃ (r s : Fin 256), y = ix2 r s := ⟨y 0, y 1, eq_ix2 y⟩
  have e : (win0_4.blk t).view.emb (ix2 r s) = ix2 (row t r) (col t s) := by
    blk_ext [idx t]
    all_goals first | rfl | omega
  rw [e]
  have hp := blk_p m c t
  have hb := blk_b m c t
  have hw := blk_w m c t
  have ho := blk_o m c t
  have hc := coords t
  unfold_out out0_4
  frame_out
  generalize iblk m c 0 t = x at hp ⊢
  generalize iblk m c 1 t = x' at hb ⊢
  generalize iblk m c 2 t = w at hw ⊢
  generalize iblk m c 3 t = o at ho ⊢
  refine (taps (grid0.coords t) (View.ld x r0_0) (View.ld x r0_1) (View.ld x' r0_2) (View.ld x' r0_3) w o
    (fun q => lag (P m c) ((grid0.coords t 0).val * 256 + (q - 2)) (col t s)) s r
    (rows_lag (P m c) (grid0.coords t) _ _ _ _ (row t) (prev t) (col t s) s
      (fun r => by show t.val / 8 * 256 + r.val = (grid0.coords t 0).val * 256 + r.val; rw [hc])
      (fun h r => by
        show (t.val / 8 * 8 - 1) * 32 + r.val + 32 = (grid0.coords t 0).val * 256 + r.val
        omega)
      (fun r => (plane x 0 _ 0 r s).trans (hp 0 r s)) (fun r => (plane x 1 _ 0 r s).trans (hp 1 r s))
      (fun r => (plane32 x' 0 _ 0 r s).trans (hb 0 r s)) (fun r => (plane32 x' 1 _ 0 r s).trans (hb 1 r s)))).trans ?_
  refine congrArg₂ (· + ·) (chain_congr _ _ 30 fun k hk => ?_) (ho s)
  refine congrArg₂ (· * ·) ?_ (congrArg (fun a => lag (P m c) a (col t s)) ?_)
  · unfold blockWeight weight
    rw [dif_pos (by omega), dif_pos (by omega)]
    exact hw _ s
  · show (grid0.coords t 0).val * 256 + (r.val + 2 + k - 2) = t.val / 8 * 256 + r.val + k
    omega

end Cert.CConvF

end
-- ==== Proof.CConvF.Ref.lean ====
/- The convolution's reference, read at an index. -/
module

public import proofs.«01_k».proof.Proof.Gen.CConvFReferenceIdeal.Read
public import proofs.«01_k».proof.Proof.CConvF.Mix
public import Idealize.ShloMosaic.Lib.KernelVsHost
public import Idealize.ShloMosaic.Lib.Pipeline.ValueKit

@[expose] public section

set_option maxRecDepth 16384

noncomputable section

open Idealize.ShloMosaic Cert.CConvFReferenceIdeal Cert.CConvFReferenceIdeal.Read

namespace Cert.CConvF.Ref

variable (P : FVec Ideal S2x4096x2048 .bf16) (W : FVec Ideal S31x2048 .f32) (B : FVec Ideal S1x2048 .f32)

/-- The convolution's input. -/
theorem ref_act (i : Fin 4096) (j : Fin 2048) : val_main_v11 (F := Ideal) P (ix2 i j) = act P i j := by
  pointwise [val_main_v11, val_main_v10, val_main_v9, val_main_cst_0, val_main_v8, val_main_v7, val_main_cst, val_main_v6, val_main_v5, val_main_v4,
    val_main_v3, val_main_v2, val_main_v1, val_main_v0]
  rfl

/-- The input with its zeros in front. -/
theorem ref_lag (a : Fin 4126) (j : Fin 2048) : val_main_v13 (F := Ideal) P (ix2 a j) = lag P a.val j := by
  have e := ref_act P
  unfold val_main_v13 val_main_v12 val_main_cst_1
  generalize val_main_v11 (F := Ideal) P = x at e ⊢
  pointwise []
  unfold lag
  by_cases ha : a.val < 30
  · rw [dif_pos ha, dif_neg (by omega)]
  · rw [dif_neg ha, dif_pos ⟨by omega, a.isLt⟩, e]

/-- One tap. -/
theorem one_tap (x : FVec Ideal S4126x2048 .f32) (L : ℕ → EReal) (i : Fin 4096) (j : Fin 2048) (hL : ∀ q : Fin 4126, x (ix2 q j) = L q.val)
    (k : Fin 31) (q : Fin 4126) (n : ℕ) (hn : k.val = n) (hq : q.val = i.val + n) : W (ix2 k j) * x (ix2 q j) = weight W n j * L (i.val + n) := by
  subst hn
  unfold weight
  rw [dif_pos k.isLt, hL q, hq]

set_option maxHeartbeats 4000000 in
/-- The convolution. -/
theorem ref_conv (i : Fin 4096) (j : Fin 2048) : val_main_v235 (F := Ideal) P W B (ix2 i j) = conv P W B (ix2 i j) := by
  have e (q : Fin 4126) := ref_lag P q j
  unfold val_main_v235 val_main_v234 val_main_v233 val_main_v232 val_main_v231 val_main_v230 val_main_v229 val_main_v228 val_main_v227 val_main_v226
     val_main_v225 val_main_v224 val_main_v223 val_main_v222 val_main_v221 val_main_v220 val_main_v219 val_main_v218 val_main_v217 val_main_v216
     val_main_v215 val_main_v214 val_main_v213 val_main_v212 val_main_v211 val_main_v210 val_main_v209 val_main_v208 val_main_v207 val_main_v206
     val_main_v205 val_main_v204 val_main_v203 val_main_v202 val_main_v201 val_main_v200 val_main_v199 val_main_v198 val_main_v197 val_main_v196
     val_main_v195 val_main_v194 val_main_v193 val_main_v192 val_main_v191 val_main_v190 val_main_v189 val_main_v188 val_main_v187 val_main_v186
     val_main_v185 val_main_v184 val_main_v183 val_main_v182 val_main_v181 val_main_v180 val_main_v179 val_main_v178 val_main_v177 val_main_v176
     val_main_v175 val_main_v174 val_main_v173 val_main_v172 val_main_v171 val_main_v170 val_main_v169 val_main_v168 val_main_v167 val_main_v166
     val_main_v165 val_main_v164 val_main_v163 val_main_v162 val_main_v161 val_main_v160 val_main_v159 val_main_v158 val_main_v157 val_main_v156
     val_main_v155 val_main_v154 val_main_v153 val_main_v152 val_main_v151 val_main_v150 val_main_v149 val_main_v148 val_main_v147 val_main_v146
     val_main_v145 val_main_v144 val_main_v143 val_main_v142 val_main_v141 val_main_v140 val_main_v139 val_main_v138 val_main_v137 val_main_v136
     val_main_v135 val_main_v134 val_main_v133 val_main_v132 val_main_v131 val_main_v130 val_main_v129 val_main_v128 val_main_v127 val_main_v126
     val_main_v125 val_main_v124 val_main_v123 val_main_v122 val_main_v121 val_main_v120 val_main_v119 val_main_v118 val_main_v117 val_main_v116
     val_main_v115 val_main_v114 val_main_v113 val_main_v112 val_main_v111 val_main_v110 val_main_v109 val_main_v108 val_main_v107 val_main_v106
     val_main_v105 val_main_v104 val_main_v103 val_main_v102 val_main_v101 val_main_v100 val_main_v99 val_main_v98 val_main_v97 val_main_v96
     val_main_v95 val_main_v94 val_main_v93 val_main_v92 val_main_v91 val_main_v90 val_main_v89 val_main_v88 val_main_v87 val_main_v86 val_main_v85
     val_main_v84 val_main_v83 val_main_v82 val_main_v81 val_main_v80 val_main_v79 val_main_v78 val_main_v77 val_main_v76 val_main_v75 val_main_v74
     val_main_v73 val_main_v72 val_main_v71 val_main_v70 val_main_v69 val_main_v68 val_main_v67 val_main_v66 val_main_v65 val_main_v64 val_main_v63
     val_main_v62 val_main_v61 val_main_v60 val_main_v59 val_main_v58 val_main_v57 val_main_v56 val_main_v55 val_main_v54 val_main_v53 val_main_v52
     val_main_v51 val_main_v50 val_main_v49 val_main_v48 val_main_v47 val_main_v46 val_main_v45 val_main_v44 val_main_v43 val_main_v42 val_main_v41
     val_main_v40 val_main_v39 val_main_v38 val_main_v37 val_main_v36 val_main_v35 val_main_v34 val_main_v33 val_main_v32 val_main_v31 val_main_v30
     val_main_v29 val_main_v28 val_main_v27 val_main_v26 val_main_v25 val_main_v24 val_main_v23 val_main_v22 val_main_v21 val_main_v20 val_main_cst_2
     val_main_v19 val_main_v18 val_main_v17 val_main_v16 val_main_v15 val_main_v14
  generalize val_main_v13 (F := Ideal) P = x at e ⊢
  pointwise []
  show _ = chain (fun k => weight W k j * lag P (i.val + k) j) 30 + B (ix2 0 j)
  refine congrArg (· + B (ix2 0 j)) ?_
  simp only [chain]
  repeat' (first
    | (refine one_tap W x (fun a => lag P a j) i j e _ _ _ rfl ?_
       simp only [Fin.val_mk]
       omega)
    | refine congrArg₂ (· + ·) ?_ ?_)

end Cert.CConvF.Ref

end
-- ==== Proof.CConvF.Claims.lean ====
/- The claims about the conformer's gated causal convolution. -/
module

public import proofs.«01_k».proof.Defs
public import proofs.«01_k».proof.Proof.Gen.CConvFKernel.Frame
public import proofs.«01_k».proof.Proof.Gen.CConvFReferenceIdeal.Run
public import proofs.«01_k».proof.Proof.CConvF.Array
public import proofs.«01_k».proof.Proof.CConvF.Ref
public import Idealize.ShloMosaic.Lib.Quiescent

@[expose] public section

set_option maxRecDepth 16384

noncomputable section

open Idealize.ShloMosaic Idealize.SL.Sem

namespace Cert.CConvF

/-- The kernel ends, leaves its arguments and every counter as they were, on the machine's numbers. -/
theorem frame_kernel : Cert.quiescent_CConvFKernel := fun m ρ _ => Cert.CConvFKernel.Gen.frame m ρ

/-- The same over the extended reals. -/
theorem frame_ideal : Cert.quiescent_CConvFKernelIdeal := fun m ρ _ => Cert.CConvFKernelIdeal.Gen.frame m ρ

/-- The reference ends and leaves its arguments as they were; it declares no counter. -/
theorem frame_ref : Cert.quiescent_CConvFReferenceIdeal := fun m ρ _ =>
  (θ_run Cert.CConvFReferenceIdeal.defs _ _).mono
    (fun r h => ⟨fun c => (h c).2, sem_eq_zero_of_no_sems (by decide) r.2⟩)
    (Cert.CConvFReferenceIdeal.Value.run m ρ)

/-- The reference's result is that array. -/
theorem result (P : FVec Ideal Cert.CConvFReferenceIdeal.S2x4096x2048 .bf16) (W : FVec Ideal Cert.CConvFReferenceIdeal.S31x2048 .f32)
    (B : FVec Ideal Cert.CConvFReferenceIdeal.S1x2048 .f32) : Cert.CConvFReferenceIdeal.Read.val_main_v235 (F := Ideal) P W B = conv P W B := by
  funext y
  obtain ⟨i, k, rfl⟩ : ∃ i k, y = ix2 i k := ⟨y 0, y 1, eq_ix2 y⟩
  exact Ref.ref_conv P W B i k

/-- The kernel and the reference agree over the extended reals, on any arguments. -/
theorem algebraic : Cert.algebraic_CConvFKernelIdeal_CConvFReferenceIdeal := by
  intro m ρ m' ρ' _ hagree
  refine ⟨fun c => conv (P m c) (W m c) (B m c), ?_, ?_⟩
  · exact (θ_run Cert.CConvFKernelIdeal.defs _ _).mono (fun r h c => ⟨(h c).1.trans (arr m c), (h c).2⟩) (Cert.CConvFKernelIdeal.Value.run_blocks m ρ)
  · refine (θ_run Cert.CConvFReferenceIdeal.defs _ _).mono (fun r h c => ?_) (Cert.CConvFReferenceIdeal.Value.run m' ρ')
    obtain ⟨a0, a1, a2⟩ := hagree c
    refine ⟨((h c).1.trans (Cert.CConvFReferenceIdeal.Read.val_main_v235_eq _)).trans ?_, (h c).2⟩
    show Cert.CConvFReferenceIdeal.Read.val_main_v235 (F := Ideal) (m' ((c.tc : Thread _ _).loc Cert.CConvFReferenceIdeal.main_arg0))
      (m' ((c.tc : Thread _ _).loc Cert.CConvFReferenceIdeal.main_arg1)) (m' ((c.tc : Thread _ _).loc Cert.CConvFReferenceIdeal.main_arg2)) = conv (P m c) (W m c) (B m c)
    rw [a0, a1, a2]
    exact result _ _ _

end Cert.CConvF

end
-- ==== Proof.CConv.Mix.lean ====
/- The gradient of the conformer's convolution: what it is, and the rows the body of its launch puts together. -/
module

public import proofs.«01_k».proof.Proof.Gen.CConvKernelIdeal.Skeleton
public import proofs.«01_k».proof.Proof.CConvF.Mix
public import Idealize.ShloMosaic.Lib.Pipeline.ValueKit

@[expose] public section

set_option maxRecDepth 16384

noncomputable section

open Idealize.ShloMosaic Idealize.ShloMosaic.TcCoe Cert.CConvKernelIdeal Cert.CConvKernelIdeal.Gen

namespace Cert.CConv

open Cert.CConvF (chain chain_congr act lag weight pick_first)

/-! ## The mathematics -/

/-- The output's gradient with rows of zeros behind. -/
def lead (D : FVec Ideal S4096x2048 .f32) (a : ℕ) (j : Fin 2048) : EReal := if h : a < 4096 then D (ix2 ⟨a, h⟩ j) else 0

/-- The gradient of the convolution's input: the convolution of the output's gradient with the rows after a row. -/
def back (W : FVec Ideal S31x2048 .f32) (D : FVec Ideal S4096x2048 .f32) (i : Fin 4096) (j : Fin 2048) : EReal :=
  chain (fun k => weight W k j * lead D (i.val + (30 - k)) j) 30

/-- The gradients of the two planes. -/
def dplanes (P : FVec Ideal S2x4096x2048 .bf16) (W : FVec Ideal S31x2048 .f32) (D : FVec Ideal S4096x2048 .f32) : FVec Ideal S2x4096x2048 .bf16 := fun y =>
  if (y 0).val = 0 then back W D (y 1) (y 2) * Ideal.logistic (P (ix3 1 (y 1) (y 2)))
  else back W D (y 1) (y 2) * P (ix3 0 (y 1) (y 2)) * Ideal.logistic (P (ix3 1 (y 1) (y 2))) * (1 - Ideal.logistic (P (ix3 1 (y 1) (y 2))))

/-- The gradient of the weights. -/
def dweights (P : FVec Ideal S2x4096x2048 .bf16) (D : FVec Ideal S4096x2048 .f32) : FVec Ideal S31x2048 .f32 := fun y =>
  ∑ n : Fin 4096, D (ix2 n (y 1)) * lag P (n.val + (y 0).val) (y 1)

/-- The gradient of the offsets. -/
def doffsets (D : FVec Ideal S4096x2048 .f32) : FVec Ideal S1x2048 .f32 := fun y => ∑ n : Fin 4096, D (ix2 n (y 1))

/-! ## The body at one place -/

/-- A choice by whether a grid coordinate is the last. -/
theorem pick_last (n : ℕ) (h : n < 16) (x y : EReal) :
    Scalar.select (Scalar.cmpi .eq (BitVec.ofNat 32 n) 15#32) x y = if n = 15 then x else y := by
  interval_cases n <;> rfl

/-- The rows the weights' gradient reads: the thirty-two before the block, zeros before the first, then the block's own. -/
theorem rows_before (i : grid0.Coords) (b z : FVec Ideal S1x256x256 .bf16) (b' z' : FVec Ideal S1x32x256 .bf16) (a : Fin 288) (s : Fin 256) :
    k0_pay7 (F := Ideal) i b z b' z' (ix2 a s)
      = if h : a.val < 32 then (if (i 1).val = 0 then 0 else b' (ix3 0 ⟨a.val, h⟩ s) * Ideal.logistic (z' (ix3 0 ⟨a.val, h⟩ s)))
        else b (ix3 0 ⟨a.val - 32, by omega⟩ s) * Ideal.logistic (z (ix3 0 ⟨a.val - 32, by omega⟩ s)) := by
  pointwise [k0_pay7, k0_pay5, k0_pay6]
  exact dite_congr rfl (fun _ => pick_first _ (i 1).isLt _ _) fun _ => rfl

/-- The rows the input's gradient reads: the block's own, then the thirty-two after it, zeros after the last. -/
theorem rows_after (i : grid0.Coords) (d : FVec Ideal S256x256 .f32) (e : FVec Ideal S32x256 .f32) (a : Fin 288) (s : Fin 256) :
    k0_pay8 (F := Ideal) i d e (ix2 a s)
      = if h : a.val < 256 then d (ix2 ⟨a.val, h⟩ s) else (if (i 1).val = 15 then 0 else e (ix2 ⟨a.val - 256, by omega⟩ s)) := by
  pointwise [k0_pay8]
  exact dite_congr rfl (fun _ => rfl) fun _ => pick_last _ (i 1).isLt _ _

/-- If a block of two planes is rows `256 n` and after of the array and the thirty-two rows beside it are those just before, the rows
    put together are the convolution's input with its zeros in front. -/
theorem rows_lag (P : FVec Ideal S2x4096x2048 .bf16) (i : grid0.Coords) (b z : FVec Ideal S1x256x256 .bf16) (b' z' : FVec Ideal S1x32x256 .bf16)
    (row : Fin 256 → Fin 4096) (row' : Fin 32 → Fin 4096) (j : Fin 2048) (s : Fin 256)
    (hrow : ∀ r, (row r).val = (i 1).val * 256 + r.val) (hrow' : (i 1).val ≠ 0 → ∀ r, (row' r).val + 32 = (i 1).val * 256 + r.val)
    (hb : ∀ r, b (ix3 0 r s) = P (ix3 0 (row r) j)) (hz : ∀ r, z (ix3 0 r s) = P (ix3 1 (row r) j))
    (hb' : ∀ r, b' (ix3 0 r s) = P (ix3 0 (row' r) j)) (hz' : ∀ r, z' (ix3 0 r s) = P (ix3 1 (row' r) j))
    (q : Fin 288) (hq : 2 ≤ q.val) :
    k0_pay7 (F := Ideal) i b z b' z' (ix2 q s) = lag P ((i 1).val * 256 + (q.val - 2)) j := by
  have hi : (i 1).val < 16 := (i 1).isLt
  rw [rows_before]
  unfold lag act
  by_cases h8 : q.val < 32
  · rw [dif_pos h8]
    by_cases h0 : (i 1).val = 0
    · rw [if_pos h0, dif_neg (by omega)]
    · have := hrow' h0 ⟨q.val, h8⟩
      rw [if_neg h0, dif_pos (by omega), hb', hz']
      have e : row' ⟨q.val, h8⟩ = ⟨(i 1).val * 256 + (q.val - 2) - 30, by omega⟩ := Fin.ext (by show (row' ⟨q.val, h8⟩).val = _; simp only at this ⊢; omega)
      rw [e]
  · rw [dif_neg h8, dif_pos (by omega), hb, hz]
    have := hrow ⟨q.val - 32, by omega⟩
    have e : row ⟨q.val - 32, by omega⟩ = ⟨(i 1).val * 256 + (q.val - 2) - 30, by omega⟩ := Fin.ext (by show (row ⟨q.val - 32, _⟩).val = _; simp only at this ⊢; omega)
    rw [e]

/-- If a block is rows `256 n` and after of the output's gradient and the thirty-two rows beside it are those just after, the rows put
    together are that gradient with its zeros behind. -/
theorem rows_lead (D : FVec Ideal S4096x2048 .f32) (i : grid0.Coords) (d : FVec Ideal S256x256 .f32) (e : FVec Ideal S32x256 .f32)
    (row : Fin 256 → Fin 4096) (row' : Fin 32 → Fin 4096) (j : Fin 2048) (s : Fin 256)
    (hrow : ∀ r, (row r).val = (i 1).val * 256 + r.val) (hrow' : (i 1).val ≠ 15 → ∀ r, (row' r).val = (i 1).val * 256 + 256 + r.val)
    (hd : ∀ r, d (ix2 r s) = D (ix2 (row r) j)) (he : ∀ r, e (ix2 r s) = D (ix2 (row' r) j)) (q : Fin 288) :
    k0_pay8 (F := Ideal) i d e (ix2 q s) = lead D ((i 1).val * 256 + q.val) j := by
  have hi : (i 1).val < 16 := (i 1).isLt
  rw [rows_after]
  unfold lead
  by_cases h : q.val < 256
  · rw [dif_pos h, dif_pos (by omega), hd]
    have := hrow ⟨q.val, h⟩
    have e : row ⟨q.val, h⟩ = ⟨(i 1).val * 256 + q.val, by omega⟩ := Fin.ext this
    rw [e]
  · rw [dif_neg h]
    by_cases h15 : (i 1).val = 15
    · rw [if_pos h15, dif_neg (by omega)]
    · have := hrow' h15 ⟨q.val - 256, by omega⟩
      rw [if_neg h15, dif_pos (by omega), he]
      have e : row' ⟨q.val - 256, by omega⟩ = ⟨(i 1).val * 256 + q.val, by omega⟩ := Fin.ext (by show (row' ⟨q.val - 256, _⟩).val = _; simp only at this ⊢; omega)
      rw [e]

/-- The weight of a tap in a block. -/
def blockWeight (w : FVec Ideal S31x256 .f32) (k : ℕ) (s : Fin 256) : EReal := if h : k < 31 then w (ix2 ⟨k, h⟩ s) else 0

/-- One tap. -/
theorem one_tap (x : FVec Ideal S288x256 .f32) (w : FVec Ideal S31x256 .f32) (L : ℕ → EReal) (s r : Fin 256) (hL : ∀ q : Fin 288, x (ix2 q s) = L q.val)
    (k : Fin 31) (q : Fin 288) (n : ℕ) (hn : k.val = n) (hq : q.val = r.val + (30 - n)) : w (ix2 k s) * x (ix2 q s) = blockWeight w n s * L (r.val + (30 - n)) := by
  subst hn
  unfold blockWeight
  rw [dif_pos k.isLt, hL q, hq]

end Cert.CConv

end
-- ==== Proof.CConv.Taps.lean ====
/- All taps of the convolution's transpose at one place of a block, and what the body makes of them. -/
module

public import proofs.«01_k».proof.Proof.CConv.Mix

@[expose] public section

set_option maxRecDepth 16384

noncomputable section

open Idealize.ShloMosaic Idealize.ShloMosaic.TcCoe Cert.CConvKernelIdeal Cert.CConvKernelIdeal.Gen

namespace Cert.CConv

open Cert.CConvF (chain)

variable (i : grid0.Coords) (w : FVec Ideal S31x256 .f32) (d : FVec Ideal S256x256 .f32) (e : FVec Ideal S32x256 .f32)

set_option maxHeartbeats 2000000 in
/-- All taps, from the rows they read. -/
theorem taps (L : ℕ → EReal) (s r : Fin 256) (hL : ∀ q : Fin 288, k0_pay8 (F := Ideal) i d e (ix2 q s) = L q.val) :
    k0_pay22 (F := Ideal) w (k0_pay8 (F := Ideal) i d e) (k0_pay9 (F := Ideal) i d e) (k0_pay12 (F := Ideal) i d e) (k0_pay13 (F := Ideal) (k0_pay8 (F := Ideal) i d e)) (k0_pay14 (F := Ideal) (k0_pay8 (F := Ideal) i d e))
      (k0_pay15 (F := Ideal) (k0_pay8 (F := Ideal) i d e)) (k0_pay16 (F := Ideal) (k0_pay8 (F := Ideal) i d e)) (k0_pay17 (F := Ideal) (k0_pay8 (F := Ideal) i d e))
      (k0_pay20 (F := Ideal) w (k0_pay8 (F := Ideal) i d e) (k0_pay9 (F := Ideal) i d e) (k0_pay12 (F := Ideal) i d e) (k0_pay13 (F := Ideal) (k0_pay8 (F := Ideal) i d e)) (k0_pay14 (F := Ideal) (k0_pay8 (F := Ideal) i d e))
        (k0_pay15 (F := Ideal) (k0_pay8 (F := Ideal) i d e)) (k0_pay16 (F := Ideal) (k0_pay8 (F := Ideal) i d e)) (k0_pay17 (F := Ideal) (k0_pay8 (F := Ideal) i d e))
        (k0_pay18 (F := Ideal) w (k0_pay8 (F := Ideal) i d e) (k0_pay9 (F := Ideal) i d e) (k0_pay10 (F := Ideal) i w d e) (k0_pay11 (F := Ideal) w) (k0_pay12 (F := Ideal) i d e))
        (k0_pay19 (F := Ideal) w)) (k0_pay21 (F := Ideal) w) (ix2 r s)
      = chain (fun k => blockWeight w k s * L (r.val + (30 - k))) 30 := by
  unfold k0_pay22 k0_pay20 k0_pay18 k0_pay10 k0_pay9 k0_pay11 k0_pay12 k0_pay13 k0_pay14 k0_pay15 k0_pay16 k0_pay17 k0_pay19 k0_pay21
  generalize k0_pay8 (F := Ideal) i d e = x at hL ⊢
  pointwise []
  simp only [chain]
  repeat' (first
    | (refine one_tap x w L s r hL _ _ _ rfl ?_
       have := r.isLt
       simp only [Fin.val_mk]
       omega)
    | refine congrArg₂ (· + ·) ?_ ?_)

/-- The first plane's gradient -/
theorem first_plane (z : FVec Ideal S1x256x256 .bf16) (q : Fin 1) (r s : Fin 256) :
    k0_pay23 (F := Ideal) w (k0_pay6 (F := Ideal) z) (k0_pay8 (F := Ideal) i d e) (k0_pay9 (F := Ideal) i d e) (k0_pay12 (F := Ideal) i d e) (k0_pay13 (F := Ideal) (k0_pay8 (F := Ideal) i d e)) (k0_pay14 (F := Ideal) (k0_pay8 (F := Ideal) i d e))
      (k0_pay15 (F := Ideal) (k0_pay8 (F := Ideal) i d e)) (k0_pay16 (F := Ideal) (k0_pay8 (F := Ideal) i d e)) (k0_pay17 (F := Ideal) (k0_pay8 (F := Ideal) i d e))
      (k0_pay20 (F := Ideal) w (k0_pay8 (F := Ideal) i d e) (k0_pay9 (F := Ideal) i d e) (k0_pay12 (F := Ideal) i d e) (k0_pay13 (F := Ideal) (k0_pay8 (F := Ideal) i d e)) (k0_pay14 (F := Ideal) (k0_pay8 (F := Ideal) i d e))
        (k0_pay15 (F := Ideal) (k0_pay8 (F := Ideal) i d e)) (k0_pay16 (F := Ideal) (k0_pay8 (F := Ideal) i d e)) (k0_pay17 (F := Ideal) (k0_pay8 (F := Ideal) i d e))
        (k0_pay18 (F := Ideal) w (k0_pay8 (F := Ideal) i d e) (k0_pay9 (F := Ideal) i d e) (k0_pay10 (F := Ideal) i w d e) (k0_pay11 (F := Ideal) w) (k0_pay12 (F := Ideal) i d e))
        (k0_pay19 (F := Ideal) w)) (k0_pay21 (F := Ideal) w) (ix3 q r s)
      = k0_pay22 (F := Ideal) w (k0_pay8 (F := Ideal) i d e) (k0_pay9 (F := Ideal) i d e) (k0_pay12 (F := Ideal) i d e) (k0_pay13 (F := Ideal) (k0_pay8 (F := Ideal) i d e)) (k0_pay14 (F := Ideal) (k0_pay8 (F := Ideal) i d e))
      (k0_pay15 (F := Ideal) (k0_pay8 (F := Ideal) i d e)) (k0_pay16 (F := Ideal) (k0_pay8 (F := Ideal) i d e)) (k0_pay17 (F := Ideal) (k0_pay8 (F := Ideal) i d e))
      (k0_pay20 (F := Ideal) w (k0_pay8 (F := Ideal) i d e) (k0_pay9 (F := Ideal) i d e) (k0_pay12 (F := Ideal) i d e) (k0_pay13 (F := Ideal) (k0_pay8 (F := Ideal) i d e)) (k0_pay14 (F := Ideal) (k0_pay8 (F := Ideal) i d e))
        (k0_pay15 (F := Ideal) (k0_pay8 (F := Ideal) i d e)) (k0_pay16 (F := Ideal) (k0_pay8 (F := Ideal) i d e)) (k0_pay17 (F := Ideal) (k0_pay8 (F := Ideal) i d e))
        (k0_pay18 (F := Ideal) w (k0_pay8 (F := Ideal) i d e) (k0_pay9 (F := Ideal) i d e) (k0_pay10 (F := Ideal) i w d e) (k0_pay11 (F := Ideal) w) (k0_pay12 (F := Ideal) i d e))
        (k0_pay19 (F := Ideal) w)) (k0_pay21 (F := Ideal) w) (ix2 r s) * Ideal.logistic (z (ix3 0 r s)) := by
  unfold k0_pay23
  generalize k0_pay22 (F := Ideal) w (k0_pay8 (F := Ideal) i d e) (k0_pay9 (F := Ideal) i d e) (k0_pay12 (F := Ideal) i d e) (k0_pay13 (F := Ideal) (k0_pay8 (F := Ideal) i d e)) (k0_pay14 (F := Ideal) (k0_pay8 (F := Ideal) i d e))
      (k0_pay15 (F := Ideal) (k0_pay8 (F := Ideal) i d e)) (k0_pay16 (F := Ideal) (k0_pay8 (F := Ideal) i d e)) (k0_pay17 (F := Ideal) (k0_pay8 (F := Ideal) i d e))
      (k0_pay20 (F := Ideal) w (k0_pay8 (F := Ideal) i d e) (k0_pay9 (F := Ideal) i d e) (k0_pay12 (F := Ideal) i d e) (k0_pay13 (F := Ideal) (k0_pay8 (F := Ideal) i d e)) (k0_pay14 (F := Ideal) (k0_pay8 (F := Ideal) i d e))
        (k0_pay15 (F := Ideal) (k0_pay8 (F := Ideal) i d e)) (k0_pay16 (F := Ideal) (k0_pay8 (F := Ideal) i d e)) (k0_pay17 (F := Ideal) (k0_pay8 (F := Ideal) i d e))
        (k0_pay18 (F := Ideal) w (k0_pay8 (F := Ideal) i d e) (k0_pay9 (F := Ideal) i d e) (k0_pay10 (F := Ideal) i w d e) (k0_pay11 (F := Ideal) w) (k0_pay12 (F := Ideal) i d e))
        (k0_pay19 (F := Ideal) w)) (k0_pay21 (F := Ideal) w) = x
  pointwise [k0_pay6]

/-- and the second's. -/
theorem second_plane (a z : FVec Ideal S1x256x256 .bf16) (q : Fin 1) (r s : Fin 256) :
    k0_pay25 (F := Ideal) (k0_pay24 (F := Ideal) w (k0_pay5 (F := Ideal) a) (k0_pay6 (F := Ideal) z) (k0_pay8 (F := Ideal) i d e) (k0_pay9 (F := Ideal) i d e) (k0_pay12 (F := Ideal) i d e) (k0_pay13 (F := Ideal) (k0_pay8 (F := Ideal) i d e)) (k0_pay14 (F := Ideal) (k0_pay8 (F := Ideal) i d e))
      (k0_pay15 (F := Ideal) (k0_pay8 (F := Ideal) i d e)) (k0_pay16 (F := Ideal) (k0_pay8 (F := Ideal) i d e)) (k0_pay17 (F := Ideal) (k0_pay8 (F := Ideal) i d e))
      (k0_pay20 (F := Ideal) w (k0_pay8 (F := Ideal) i d e) (k0_pay9 (F := Ideal) i d e) (k0_pay12 (F := Ideal) i d e) (k0_pay13 (F := Ideal) (k0_pay8 (F := Ideal) i d e)) (k0_pay14 (F := Ideal) (k0_pay8 (F := Ideal) i d e))
        (k0_pay15 (F := Ideal) (k0_pay8 (F := Ideal) i d e)) (k0_pay16 (F := Ideal) (k0_pay8 (F := Ideal) i d e)) (k0_pay17 (F := Ideal) (k0_pay8 (F := Ideal) i d e))
        (k0_pay18 (F := Ideal) w (k0_pay8 (F := Ideal) i d e) (k0_pay9 (F := Ideal) i d e) (k0_pay10 (F := Ideal) i w d e) (k0_pay11 (F := Ideal) w) (k0_pay12 (F := Ideal) i d e))
        (k0_pay19 (F := Ideal) w)) (k0_pay21 (F := Ideal) w)) (ix3 q r s)
      = k0_pay22 (F := Ideal) w (k0_pay8 (F := Ideal) i d e) (k0_pay9 (F := Ideal) i d e) (k0_pay12 (F := Ideal) i d e) (k0_pay13 (F := Ideal) (k0_pay8 (F := Ideal) i d e)) (k0_pay14 (F := Ideal) (k0_pay8 (F := Ideal) i d e))
      (k0_pay15 (F := Ideal) (k0_pay8 (F := Ideal) i d e)) (k0_pay16 (F := Ideal) (k0_pay8 (F := Ideal) i d e)) (k0_pay17 (F := Ideal) (k0_pay8 (F := Ideal) i d e))
      (k0_pay20 (F := Ideal) w (k0_pay8 (F := Ideal) i d e) (k0_pay9 (F := Ideal) i d e) (k0_pay12 (F := Ideal) i d e) (k0_pay13 (F := Ideal) (k0_pay8 (F := Ideal) i d e)) (k0_pay14 (F := Ideal) (k0_pay8 (F := Ideal) i d e))
        (k0_pay15 (F := Ideal) (k0_pay8 (F := Ideal) i d e)) (k0_pay16 (F := Ideal) (k0_pay8 (F := Ideal) i d e)) (k0_pay17 (F := Ideal) (k0_pay8 (F := Ideal) i d e))
        (k0_pay18 (F := Ideal) w (k0_pay8 (F := Ideal) i d e) (k0_pay9 (F := Ideal) i d e) (k0_pay10 (F := Ideal) i w d e) (k0_pay11 (F := Ideal) w) (k0_pay12 (F := Ideal) i d e))
        (k0_pay19 (F := Ideal) w)) (k0_pay21 (F := Ideal) w) (ix2 r s) * a (ix3 0 r s) * Ideal.logistic (z (ix3 0 r s)) * (1 - Ideal.logistic (z (ix3 0 r s))) := by
  unfold k0_pay25 k0_pay24
  generalize k0_pay22 (F := Ideal) w (k0_pay8 (F := Ideal) i d e) (k0_pay9 (F := Ideal) i d e) (k0_pay12 (F := Ideal) i d e) (k0_pay13 (F := Ideal) (k0_pay8 (F := Ideal) i d e)) (k0_pay14 (F := Ideal) (k0_pay8 (F := Ideal) i d e))
      (k0_pay15 (F := Ideal) (k0_pay8 (F := Ideal) i d e)) (k0_pay16 (F := Ideal) (k0_pay8 (F := Ideal) i d e)) (k0_pay17 (F := Ideal) (k0_pay8 (F := Ideal) i d e))
      (k0_pay20 (F := Ideal) w (k0_pay8 (F := Ideal) i d e) (k0_pay9 (F := Ideal) i d e) (k0_pay12 (F := Ideal) i d e) (k0_pay13 (F := Ideal) (k0_pay8 (F := Ideal) i d e)) (k0_pay14 (F := Ideal) (k0_pay8 (F := Ideal) i d e))
        (k0_pay15 (F := Ideal) (k0_pay8 (F := Ideal) i d e)) (k0_pay16 (F := Ideal) (k0_pay8 (F := Ideal) i d e)) (k0_pay17 (F := Ideal) (k0_pay8 (F := Ideal) i d e))
        (k0_pay18 (F := Ideal) w (k0_pay8 (F := Ideal) i d e) (k0_pay9 (F := Ideal) i d e) (k0_pay10 (F := Ideal) i w d e) (k0_pay11 (F := Ideal) w) (k0_pay12 (F := Ideal) i d e))
        (k0_pay19 (F := Ideal) w)) (k0_pay21 (F := Ideal) w) = x
  pointwise [k0_pay6, k0_pay5]

/-- All taps, as the body adds them, -/
abbrev tapsAll : FVec Ideal S256x256 .f32 :=
    k0_pay22 (F := Ideal) w (k0_pay8 (F := Ideal) i d e) (k0_pay9 (F := Ideal) i d e) (k0_pay12 (F := Ideal) i d e) (k0_pay13 (F := Ideal) (k0_pay8 (F := Ideal) i d e)) (k0_pay14 (F := Ideal) (k0_pay8 (F := Ideal) i d e))
      (k0_pay15 (F := Ideal) (k0_pay8 (F := Ideal) i d e)) (k0_pay16 (F := Ideal) (k0_pay8 (F := Ideal) i d e)) (k0_pay17 (F := Ideal) (k0_pay8 (F := Ideal) i d e))
      (k0_pay20 (F := Ideal) w (k0_pay8 (F := Ideal) i d e) (k0_pay9 (F := Ideal) i d e) (k0_pay12 (F := Ideal) i d e) (k0_pay13 (F := Ideal) (k0_pay8 (F := Ideal) i d e)) (k0_pay14 (F := Ideal) (k0_pay8 (F := Ideal) i d e))
        (k0_pay15 (F := Ideal) (k0_pay8 (F := Ideal) i d e)) (k0_pay16 (F := Ideal) (k0_pay8 (F := Ideal) i d e)) (k0_pay17 (F := Ideal) (k0_pay8 (F := Ideal) i d e))
        (k0_pay18 (F := Ideal) w (k0_pay8 (F := Ideal) i d e) (k0_pay9 (F := Ideal) i d e) (k0_pay10 (F := Ideal) i w d e) (k0_pay11 (F := Ideal) w) (k0_pay12 (F := Ideal) i d e))
        (k0_pay19 (F := Ideal) w)) (k0_pay21 (F := Ideal) w)

/-- the first plane's gradient, as it stores it, -/
abbrev planeFirst (z : FVec Ideal S1x256x256 .bf16) : FVec Ideal S1x256x256 .bf16 :=
    k0_pay23 (F := Ideal) w (k0_pay6 (F := Ideal) z) (k0_pay8 (F := Ideal) i d e) (k0_pay9 (F := Ideal) i d e) (k0_pay12 (F := Ideal) i d e) (k0_pay13 (F := Ideal) (k0_pay8 (F := Ideal) i d e)) (k0_pay14 (F := Ideal) (k0_pay8 (F := Ideal) i d e))
      (k0_pay15 (F := Ideal) (k0_pay8 (F := Ideal) i d e)) (k0_pay16 (F := Ideal) (k0_pay8 (F := Ideal) i d e)) (k0_pay17 (F := Ideal) (k0_pay8 (F := Ideal) i d e))
      (k0_pay20 (F := Ideal) w (k0_pay8 (F := Ideal) i d e) (k0_pay9 (F := Ideal) i d e) (k0_pay12 (F := Ideal) i d e) (k0_pay13 (F := Ideal) (k0_pay8 (F := Ideal) i d e)) (k0_pay14 (F := Ideal) (k0_pay8 (F := Ideal) i d e))
        (k0_pay15 (F := Ideal) (k0_pay8 (F := Ideal) i d e)) (k0_pay16 (F := Ideal) (k0_pay8 (F := Ideal) i d e)) (k0_pay17 (F := Ideal) (k0_pay8 (F := Ideal) i d e))
        (k0_pay18 (F := Ideal) w (k0_pay8 (F := Ideal) i d e) (k0_pay9 (F := Ideal) i d e) (k0_pay10 (F := Ideal) i w d e) (k0_pay11 (F := Ideal) w) (k0_pay12 (F := Ideal) i d e))
        (k0_pay19 (F := Ideal) w)) (k0_pay21 (F := Ideal) w)

/-- and the second's. -/
abbrev planeSecond (a z : FVec Ideal S1x256x256 .bf16) : FVec Ideal S1x256x256 .bf16 :=
    k0_pay25 (F := Ideal) (k0_pay24 (F := Ideal) w (k0_pay5 (F := Ideal) a) (k0_pay6 (F := Ideal) z) (k0_pay8 (F := Ideal) i d e) (k0_pay9 (F := Ideal) i d e) (k0_pay12 (F := Ideal) i d e) (k0_pay13 (F := Ideal) (k0_pay8 (F := Ideal) i d e)) (k0_pay14 (F := Ideal) (k0_pay8 (F := Ideal) i d e))
      (k0_pay15 (F := Ideal) (k0_pay8 (F := Ideal) i d e)) (k0_pay16 (F := Ideal) (k0_pay8 (F := Ideal) i d e)) (k0_pay17 (F := Ideal) (k0_pay8 (F := Ideal) i d e))
      (k0_pay20 (F := Ideal) w (k0_pay8 (F := Ideal) i d e) (k0_pay9 (F := Ideal) i d e) (k0_pay12 (F := Ideal) i d e) (k0_pay13 (F := Ideal) (k0_pay8 (F := Ideal) i d e)) (k0_pay14 (F := Ideal) (k0_pay8 (F := Ideal) i d e))
        (k0_pay15 (F := Ideal) (k0_pay8 (F := Ideal) i d e)) (k0_pay16 (F := Ideal) (k0_pay8 (F := Ideal) i d e)) (k0_pay17 (F := Ideal) (k0_pay8 (F := Ideal) i d e))
        (k0_pay18 (F := Ideal) w (k0_pay8 (F := Ideal) i d e) (k0_pay9 (F := Ideal) i d e) (k0_pay10 (F := Ideal) i w d e) (k0_pay11 (F := Ideal) w) (k0_pay12 (F := Ideal) i d e))
        (k0_pay19 (F := Ideal) w)) (k0_pay21 (F := Ideal) w))

end Cert.CConv

end
-- ==== Proof.CConv.Rows.lean ====
/- The thirty-one rows of the weights' gradient: what the body adds to each, and how the rows stored one by one are one array. -/
module

public import proofs.«01_k».proof.Proof.Gen.CConvKernelIdeal.Frame
public import proofs.«01_k».proof.Proof.CConv.Mix
public import Idealize.ShloMosaic.Lib.Pipeline.ReadBack
public import Idealize.ShloMosaic.Lib.Pipeline.ValueKit

@[expose] public section

set_option maxRecDepth 16384

noncomputable section

open Idealize.ShloMosaic Idealize.ShloMosaic.TcCoe Cert.CConvKernelIdeal Cert.CConvKernelIdeal.Gen

namespace Cert.CConv

variable (x : FVec Ideal S288x256 .f32) (d : FVec Ideal S256x256 .f32) (o : FVec Ideal S1x256 .f32) (q : Fin 1) (s : Fin 256)

/-- A sum over rows, the rows of the second factor written in another way. -/
theorem row_of (f : Fin 256 → Fin 288) (k : ℕ) (hk : k < 31) (hf : ∀ r, (f r).val = r.val + 2 + k) :
    o (ix2 0 s) + ∑ r : Fin 256, d (ix2 r s) * x (ix2 (f r) s) = o (ix2 0 s) + ∑ r : Fin 256, d (ix2 r s) * x (ix2 ⟨r.val + 2 + k, by omega⟩ s) :=
  congrArg (o (ix2 0 s) + ·) (Finset.sum_congr rfl fun r _ => congrArg (fun a => d (ix2 r s) * x (ix2 a s)) (Fin.ext (hf r)))

/-- What is added to row 0. -/
theorem row_0 : k0_pay30 (F := Ideal) x d o (ix2 q s) = o (ix2 0 s) + ∑ r : Fin 256, d (ix2 r s) * x (ix2 ⟨r.val + 2 + 0, by omega⟩ s) := by
  obtain rfl : q = 0 := Subsingleton.elim _ _
  unfold k0_pay30
  pointwise [k0_pay29, k0_pay31, k0_pay33, k0_pay37, k0_pay39, k0_pay41, k0_pay45]
  exact row_of x d o s _ 0 (by omega) fun r => by
    have := r.isLt
    simp only [Fin.val_mk]
    omega

/-- What is added to row 1. -/
theorem row_1 : k0_pay32 (F := Ideal) x d o (ix2 q s) = o (ix2 0 s) + ∑ r : Fin 256, d (ix2 r s) * x (ix2 ⟨r.val + 2 + 1, by omega⟩ s) := by
  obtain rfl : q = 0 := Subsingleton.elim _ _
  unfold k0_pay32
  pointwise [k0_pay29, k0_pay31, k0_pay33, k0_pay37, k0_pay39, k0_pay41, k0_pay45]
  exact row_of x d o s _ 1 (by omega) fun r => by
    have := r.isLt
    simp only [Fin.val_mk]
    omega

/-- What is added to row 2. -/
theorem row_2 : k0_pay36 (F := Ideal) (k0_pay34 (F := Ideal) o) (k0_pay35 (F := Ideal) x d) (ix2 q s) = o (ix2 0 s) + ∑ r : Fin 256, d (ix2 r s) * x (ix2 ⟨r.val + 2 + 2, by omega⟩ s) := by
  obtain rfl : q = 0 := Subsingleton.elim _ _
  unfold k0_pay36 k0_pay34 k0_pay35
  pointwise [k0_pay29, k0_pay31, k0_pay33, k0_pay37, k0_pay39, k0_pay41, k0_pay45]
  exact row_of x d o s _ 2 (by omega) fun r => by
    have := r.isLt
    simp only [Fin.val_mk]
    omega

/-- What is added to row 3. -/
theorem row_3 : k0_pay38 (F := Ideal) x d o (ix2 q s) = o (ix2 0 s) + ∑ r : Fin 256, d (ix2 r s) * x (ix2 ⟨r.val + 2 + 3, by omega⟩ s) := by
  obtain rfl : q = 0 := Subsingleton.elim _ _
  unfold k0_pay38
  pointwise [k0_pay29, k0_pay31, k0_pay33, k0_pay37, k0_pay39, k0_pay41, k0_pay45]
  exact row_of x d o s _ 3 (by omega) fun r => by
    have := r.isLt
    simp only [Fin.val_mk]
    omega

/-- What is added to row 4. -/
theorem row_4 : k0_pay40 (F := Ideal) x d o (ix2 q s) = o (ix2 0 s) + ∑ r : Fin 256, d (ix2 r s) * x (ix2 ⟨r.val + 2 + 4, by omega⟩ s) := by
  obtain rfl : q = 0 := Subsingleton.elim _ _
  unfold k0_pay40
  pointwise [k0_pay29, k0_pay31, k0_pay33, k0_pay37, k0_pay39, k0_pay41, k0_pay45]
  exact row_of x d o s _ 4 (by omega) fun r => by
    have := r.isLt
    simp only [Fin.val_mk]
    omega

/-- What is added to row 5. -/
theorem row_5 : k0_pay42 (F := Ideal) x d o (ix2 q s) = o (ix2 0 s) + ∑ r : Fin 256, d (ix2 r s) * x (ix2 ⟨r.val + 2 + 5, by omega⟩ s) := by
  obtain rfl : q = 0 := Subsingleton.elim _ _
  unfold k0_pay42
  pointwise [k0_pay29, k0_pay31, k0_pay33, k0_pay37, k0_pay39, k0_pay41, k0_pay45]
  exact row_of x d o s _ 5 (by omega) fun r => by
    have := r.isLt
    simp only [Fin.val_mk]
    omega

/-- What is added to row 6. -/
theorem row_6 : k0_pay44 (F := Ideal) d (k0_pay43 (F := Ideal) x) o (ix2 q s) = o (ix2 0 s) + ∑ r : Fin 256, d (ix2 r s) * x (ix2 ⟨r.val + 2 + 6, by omega⟩ s) := by
  obtain rfl : q = 0 := Subsingleton.elim _ _
  unfold k0_pay44 k0_pay43
  pointwise [k0_pay29, k0_pay31, k0_pay33, k0_pay37, k0_pay39, k0_pay41, k0_pay45]
  exact row_of x d o s _ 6 (by omega) fun r => by
    have := r.isLt
    simp only [Fin.val_mk]
    omega

/-- What is added to row 7. -/
theorem row_7 : k0_pay46 (F := Ideal) x d o (ix2 q s) = o (ix2 0 s) + ∑ r : Fin 256, d (ix2 r s) * x (ix2 ⟨r.val + 2 + 7, by omega⟩ s) := by
  obtain rfl : q = 0 := Subsingleton.elim _ _
  unfold k0_pay46
  pointwise [k0_pay29, k0_pay31, k0_pay33, k0_pay37, k0_pay39, k0_pay41, k0_pay45]
  exact row_of x d o s _ 7 (by omega) fun r => by
    have := r.isLt
    simp only [Fin.val_mk]
    omega

/-- What is added to row 8. -/
theorem row_8 : k0_pay47 (F := Ideal) d (k0_pay29 (F := Ideal) x) o (ix2 q s) = o (ix2 0 s) + ∑ r : Fin 256, d (ix2 r s) * x (ix2 ⟨r.val + 2 + 8, by omega⟩ s) := by
  obtain rfl : q = 0 := Subsingleton.elim _ _
  unfold k0_pay47 k0_pay29
  pointwise [k0_pay29, k0_pay31, k0_pay33, k0_pay37, k0_pay39, k0_pay41, k0_pay45]
  exact row_of x d o s _ 8 (by omega) fun r => by
    have := r.isLt
    simp only [Fin.val_mk]
    omega

/-- What is added to row 9. -/
theorem row_9 : k0_pay48 (F := Ideal) d (k0_pay31 (F := Ideal) x) o (ix2 q s) = o (ix2 0 s) + ∑ r : Fin 256, d (ix2 r s) * x (ix2 ⟨r.val + 2 + 9, by omega⟩ s) := by
  obtain rfl : q = 0 := Subsingleton.elim _ _
  unfold k0_pay48 k0_pay31
  pointwise [k0_pay29, k0_pay31, k0_pay33, k0_pay37, k0_pay39, k0_pay41, k0_pay45]
  exact row_of x d o s _ 9 (by omega) fun r => by
    have := r.isLt
    simp only [Fin.val_mk]
    omega

/-- What is added to row 10. -/
theorem row_10 : k0_pay51 (F := Ideal) (k0_pay49 (F := Ideal) o) (k0_pay50 (F := Ideal) d (k0_pay33 (F := Ideal) x)) (ix2 q s) = o (ix2 0 s) + ∑ r : Fin 256, d (ix2 r s) * x (ix2 ⟨r.val + 2 + 10, by omega⟩ s) := by
  obtain rfl : q = 0 := Subsingleton.elim _ _
  unfold k0_pay51 k0_pay49 k0_pay50 k0_pay33
  pointwise [k0_pay29, k0_pay31, k0_pay33, k0_pay37, k0_pay39, k0_pay41, k0_pay45]
  exact row_of x d o s _ 10 (by omega) fun r => by
    have := r.isLt
    simp only [Fin.val_mk]
    omega

/-- What is added to row 11. -/
theorem row_11 : k0_pay52 (F := Ideal) d (k0_pay37 (F := Ideal) x) o (ix2 q s) = o (ix2 0 s) + ∑ r : Fin 256, d (ix2 r s) * x (ix2 ⟨r.val + 2 + 11, by omega⟩ s) := by
  obtain rfl : q = 0 := Subsingleton.elim _ _
  unfold k0_pay52 k0_pay37
  pointwise [k0_pay29, k0_pay31, k0_pay33, k0_pay37, k0_pay39, k0_pay41, k0_pay45]
  exact row_of x d o s _ 11 (by omega) fun r => by
    have := r.isLt
    simp only [Fin.val_mk]
    omega

/-- What is added to row 12. -/
theorem row_12 : k0_pay53 (F := Ideal) d (k0_pay39 (F := Ideal) x) o (ix2 q s) = o (ix2 0 s) + ∑ r : Fin 256, d (ix2 r s) * x (ix2 ⟨r.val + 2 + 12, by omega⟩ s) := by
  obtain rfl : q = 0 := Subsingleton.elim _ _
  unfold k0_pay53 k0_pay39
  pointwise [k0_pay29, k0_pay31, k0_pay33, k0_pay37, k0_pay39, k0_pay41, k0_pay45]
  exact row_of x d o s _ 12 (by omega) fun r => by
    have := r.isLt
    simp only [Fin.val_mk]
    omega

/-- What is added to row 13. -/
theorem row_13 : k0_pay54 (F := Ideal) d (k0_pay41 (F := Ideal) x) o (ix2 q s) = o (ix2 0 s) + ∑ r : Fin 256, d (ix2 r s) * x (ix2 ⟨r.val + 2 + 13, by omega⟩ s) := by
  obtain rfl : q = 0 := Subsingleton.elim _ _
  unfold k0_pay54 k0_pay41
  pointwise [k0_pay29, k0_pay31, k0_pay33, k0_pay37, k0_pay39, k0_pay41, k0_pay45]
  exact row_of x d o s _ 13 (by omega) fun r => by
    have := r.isLt
    simp only [Fin.val_mk]
    omega

/-- What is added to row 14. -/
theorem row_14 : k0_pay55 (F := Ideal) x d o (ix2 q s) = o (ix2 0 s) + ∑ r : Fin 256, d (ix2 r s) * x (ix2 ⟨r.val + 2 + 14, by omega⟩ s) := by
  obtain rfl : q = 0 := Subsingleton.elim _ _
  unfold k0_pay55
  pointwise [k0_pay29, k0_pay31, k0_pay33, k0_pay37, k0_pay39, k0_pay41, k0_pay45]
  exact row_of x d o s _ 14 (by omega) fun r => by
    have := r.isLt
    simp only [Fin.val_mk]
    omega

/-- What is added to row 15. -/
theorem row_15 : k0_pay56 (F := Ideal) d (k0_pay45 (F := Ideal) x) o (ix2 q s) = o (ix2 0 s) + ∑ r : Fin 256, d (ix2 r s) * x (ix2 ⟨r.val + 2 + 15, by omega⟩ s) := by
  obtain rfl : q = 0 := Subsingleton.elim _ _
  unfold k0_pay56 k0_pay45
  pointwise [k0_pay29, k0_pay31, k0_pay33, k0_pay37, k0_pay39, k0_pay41, k0_pay45]
  exact row_of x d o s _ 15 (by omega) fun r => by
    have := r.isLt
    simp only [Fin.val_mk]
    omega

/-- What is added to row 16. -/
theorem row_16 : k0_pay57 (F := Ideal) d (k0_pay29 (F := Ideal) x) o (ix2 q s) = o (ix2 0 s) + ∑ r : Fin 256, d (ix2 r s) * x (ix2 ⟨r.val + 2 + 16, by omega⟩ s) := by
  obtain rfl : q = 0 := Subsingleton.elim _ _
  unfold k0_pay57 k0_pay29
  pointwise [k0_pay29, k0_pay31, k0_pay33, k0_pay37, k0_pay39, k0_pay41, k0_pay45]
  exact row_of x d o s _ 16 (by omega) fun r => by
    have := r.isLt
    simp only [Fin.val_mk]
    omega

/-- What is added to row 17. -/
theorem row_17 : k0_pay58 (F := Ideal) d (k0_pay31 (F := Ideal) x) o (ix2 q s) = o (ix2 0 s) + ∑ r : Fin 256, d (ix2 r s) * x (ix2 ⟨r.val + 2 + 17, by omega⟩ s) := by
  obtain rfl : q = 0 := Subsingleton.elim _ _
  unfold k0_pay58 k0_pay31
  pointwise [k0_pay29, k0_pay31, k0_pay33, k0_pay37, k0_pay39, k0_pay41, k0_pay45]
  exact row_of x d o s _ 17 (by omega) fun r => by
    have := r.isLt
    simp only [Fin.val_mk]
    omega

/-- What is added to row 18. -/
theorem row_18 : k0_pay59 (F := Ideal) d (k0_pay33 (F := Ideal) x) o (ix2 q s) = o (ix2 0 s) + ∑ r : Fin 256, d (ix2 r s) * x (ix2 ⟨r.val + 2 + 18, by omega⟩ s) := by
  obtain rfl : q = 0 := Subsingleton.elim _ _
  unfold k0_pay59 k0_pay33
  pointwise [k0_pay29, k0_pay31, k0_pay33, k0_pay37, k0_pay39, k0_pay41, k0_pay45]
  exact row_of x d o s _ 18 (by omega) fun r => by
    have := r.isLt
    simp only [Fin.val_mk]
    omega

/-- What is added to row 19. -/
theorem row_19 : k0_pay60 (F := Ideal) d (k0_pay37 (F := Ideal) x) o (ix2 q s) = o (ix2 0 s) + ∑ r : Fin 256, d (ix2 r s) * x (ix2 ⟨r.val + 2 + 19, by omega⟩ s) := by
  obtain rfl : q = 0 := Subsingleton.elim _ _
  unfold k0_pay60 k0_pay37
  pointwise [k0_pay29, k0_pay31, k0_pay33, k0_pay37, k0_pay39, k0_pay41, k0_pay45]
  exact row_of x d o s _ 19 (by omega) fun r => by
    have := r.isLt
    simp only [Fin.val_mk]
    omega

/-- What is added to row 20. -/
theorem row_20 : k0_pay61 (F := Ideal) d (k0_pay39 (F := Ideal) x) o (ix2 q s) = o (ix2 0 s) + ∑ r : Fin 256, d (ix2 r s) * x (ix2 ⟨r.val + 2 + 20, by omega⟩ s) := by
  obtain rfl : q = 0 := Subsingleton.elim _ _
  unfold k0_pay61 k0_pay39
  pointwise [k0_pay29, k0_pay31, k0_pay33, k0_pay37, k0_pay39, k0_pay41, k0_pay45]
  exact row_of x d o s _ 20 (by omega) fun r => by
    have := r.isLt
    simp only [Fin.val_mk]
    omega

/-- What is added to row 21. -/
theorem row_21 : k0_pay62 (F := Ideal) d (k0_pay41 (F := Ideal) x) o (ix2 q s) = o (ix2 0 s) + ∑ r : Fin 256, d (ix2 r s) * x (ix2 ⟨r.val + 2 + 21, by omega⟩ s) := by
  obtain rfl : q = 0 := Subsingleton.elim _ _
  unfold k0_pay62 k0_pay41
  pointwise [k0_pay29, k0_pay31, k0_pay33, k0_pay37, k0_pay39, k0_pay41, k0_pay45]
  exact row_of x d o s _ 21 (by omega) fun r => by
    have := r.isLt
    simp only [Fin.val_mk]
    omega

/-- What is added to row 22. -/
theorem row_22 : k0_pay63 (F := Ideal) x d o (ix2 q s) = o (ix2 0 s) + ∑ r : Fin 256, d (ix2 r s) * x (ix2 ⟨r.val + 2 + 22, by omega⟩ s) := by
  obtain rfl : q = 0 := Subsingleton.elim _ _
  unfold k0_pay63
  pointwise [k0_pay29, k0_pay31, k0_pay33, k0_pay37, k0_pay39, k0_pay41, k0_pay45]
  exact row_of x d o s _ 22 (by omega) fun r => by
    have := r.isLt
    simp only [Fin.val_mk]
    omega

/-- What is added to row 23. -/
theorem row_23 : k0_pay65 (F := Ideal) d (k0_pay64 (F := Ideal) (k0_pay45 (F := Ideal) x)) o (ix2 q s) = o (ix2 0 s) + ∑ r : Fin 256, d (ix2 r s) * x (ix2 ⟨r.val + 2 + 23, by omega⟩ s) := by
  obtain rfl : q = 0 := Subsingleton.elim _ _
  unfold k0_pay65 k0_pay64 k0_pay45
  pointwise [k0_pay29, k0_pay31, k0_pay33, k0_pay37, k0_pay39, k0_pay41, k0_pay45]
  exact row_of x d o s _ 23 (by omega) fun r => by
    have := r.isLt
    simp only [Fin.val_mk]
    omega

/-- What is added to row 24. -/
theorem row_24 : k0_pay66 (F := Ideal) d (k0_pay29 (F := Ideal) x) o (ix2 q s) = o (ix2 0 s) + ∑ r : Fin 256, d (ix2 r s) * x (ix2 ⟨r.val + 2 + 24, by omega⟩ s) := by
  obtain rfl : q = 0 := Subsingleton.elim _ _
  unfold k0_pay66 k0_pay29
  pointwise [k0_pay29, k0_pay31, k0_pay33, k0_pay37, k0_pay39, k0_pay41, k0_pay45]
  exact row_of x d o s _ 24 (by omega) fun r => by
    have := r.isLt
    simp only [Fin.val_mk]
    omega

/-- What is added to row 25. -/
theorem row_25 : k0_pay67 (F := Ideal) d (k0_pay31 (F := Ideal) x) o (ix2 q s) = o (ix2 0 s) + ∑ r : Fin 256, d (ix2 r s) * x (ix2 ⟨r.val + 2 + 25, by omega⟩ s) := by
  obtain rfl : q = 0 := Subsingleton.elim _ _
  unfold k0_pay67 k0_pay31
  pointwise [k0_pay29, k0_pay31, k0_pay33, k0_pay37, k0_pay39, k0_pay41, k0_pay45]
  exact row_of x d o s _ 25 (by omega) fun r => by
    have := r.isLt
    simp only [Fin.val_mk]
    omega

/-- What is added to row 26. -/
theorem row_26 : k0_pay68 (F := Ideal) d (k0_pay33 (F := Ideal) x) o (ix2 q s) = o (ix2 0 s) + ∑ r : Fin 256, d (ix2 r s) * x (ix2 ⟨r.val + 2 + 26, by omega⟩ s) := by
  obtain rfl : q = 0 := Subsingleton.elim _ _
  unfold k0_pay68 k0_pay33
  pointwise [k0_pay29, k0_pay31, k0_pay33, k0_pay37, k0_pay39, k0_pay41, k0_pay45]
  exact row_of x d o s _ 26 (by omega) fun r => by
    have := r.isLt
    simp only [Fin.val_mk]
    omega

/-- What is added to row 27. -/
theorem row_27 : k0_pay1 (F := Ideal) (k0_pay69 (F := Ideal) o) (k0_pay70 (F := Ideal) d (k0_pay37 (F := Ideal) x)) (ix2 q s) = o (ix2 0 s) + ∑ r : Fin 256, d (ix2 r s) * x (ix2 ⟨r.val + 2 + 27, by omega⟩ s) := by
  obtain rfl : q = 0 := Subsingleton.elim _ _
  unfold k0_pay1 k0_pay69 k0_pay70 k0_pay37
  pointwise [k0_pay29, k0_pay31, k0_pay33, k0_pay37, k0_pay39, k0_pay41, k0_pay45]
  exact row_of x d o s _ 27 (by omega) fun r => by
    have := r.isLt
    simp only [Fin.val_mk]
    omega

/-- What is added to row 28. -/
theorem row_28 : k0_pay2 (F := Ideal) d (k0_pay39 (F := Ideal) x) o (ix2 q s) = o (ix2 0 s) + ∑ r : Fin 256, d (ix2 r s) * x (ix2 ⟨r.val + 2 + 28, by omega⟩ s) := by
  obtain rfl : q = 0 := Subsingleton.elim _ _
  unfold k0_pay2 k0_pay39
  pointwise [k0_pay29, k0_pay31, k0_pay33, k0_pay37, k0_pay39, k0_pay41, k0_pay45]
  exact row_of x d o s _ 28 (by omega) fun r => by
    have := r.isLt
    simp only [Fin.val_mk]
    omega

/-- What is added to row 29. -/
theorem row_29 : k0_pay3 (F := Ideal) d (k0_pay41 (F := Ideal) x) o (ix2 q s) = o (ix2 0 s) + ∑ r : Fin 256, d (ix2 r s) * x (ix2 ⟨r.val + 2 + 29, by omega⟩ s) := by
  obtain rfl : q = 0 := Subsingleton.elim _ _
  unfold k0_pay3 k0_pay41
  pointwise [k0_pay29, k0_pay31, k0_pay33, k0_pay37, k0_pay39, k0_pay41, k0_pay45]
  exact row_of x d o s _ 29 (by omega) fun r => by
    have := r.isLt
    simp only [Fin.val_mk]
    omega

/-- What is added to row 30. -/
theorem row_30 : k0_pay4 (F := Ideal) x d o (ix2 q s) = o (ix2 0 s) + ∑ r : Fin 256, d (ix2 r s) * x (ix2 ⟨r.val + 2 + 30, by omega⟩ s) := by
  obtain rfl : q = 0 := Subsingleton.elim _ _
  unfold k0_pay4
  pointwise [k0_pay29, k0_pay31, k0_pay33, k0_pay37, k0_pay39, k0_pay41, k0_pay45]
  exact row_of x d o s _ 30 (by omega) fun r => by
    have := r.isLt
    simp only [Fin.val_mk]
    omega

/-- Where a row's places are, -/
theorem emb_row (k : Fin 31) (inb) (q : Fin 1) (s : Fin 256) : (Rect.unit (s := S31x256) ![k.val, 0] ![1, 256] inb).idx (ix2 q s) = ix2 k s := by
  have h0 := Rect.idx_unit_val (s := S31x256) ![k.val, 0] ![1, 256] inb (ix2 q s) 0
  have h1 := Rect.idx_unit_val (s := S31x256) ![k.val, 0] ![1, 256] inb (ix2 q s) 1
  generalize (Rect.unit (s := S31x256) ![k.val, 0] ![1, 256] inb).idx (ix2 q s) = y at h0 h1 ⊢
  obtain ⟨a, b, rfl⟩ : ∃ (a : Fin 31) (b : Fin 256), y = ix2 a b := ⟨y 0, y 1, eq_ix2 y⟩
  obtain rfl : a = k := Fin.ext (by have : a.val = k.val + q.val := h0; omega)
  obtain rfl : b = s := Fin.ext (by have : b.val = 0 + s.val := h1; omega)
  rfl

/-- and a row loaded. -/
theorem ld_row (o : FVec Ideal S31x256 .f32) (k : Fin 31) (inb) (q : Fin 1) (s : Fin 256) :
    View.ld (Val := Elt Ideal) (e' := .f32) o (Rect.unit (s := S31x256) ![k.val, 0] ![1, 256] inb) (ix2 q s) = o (ix2 k s) := by
  refine View.ld_unit_apply_of (Val := Elt Ideal) (e := .f32) o _ _ _ _ _ fun a => ?_
  fin_cases a
  · show k.val = k.val + q.val
    omega
  · show s.val = 0 + s.val
    omega

set_option maxHeartbeats 1000000 in
/-- Thirty-one rows stored one by one, whatever was stored before. -/
theorem canon_rows (f : FVec Ideal S31x256 .f32) (p0 p1 p2 p3 p4 p5 p6 p7 p8 p9 p10 p11 p12 p13 p14 p15 p16 p17 p18 p19 p20 p21 p22 p23 p24 p25 p26 p27 p28 p29 p30 : FVec Ideal S1x256 .f32) (L : List (View.Piece (Elt Ideal) S31x256 .f32))
    (e0 : ∀ q s, p0 (ix2 q s) = f (ix2 0 s))
    (e1 : ∀ q s, p1 (ix2 q s) = f (ix2 1 s))
    (e2 : ∀ q s, p2 (ix2 q s) = f (ix2 2 s))
    (e3 : ∀ q s, p3 (ix2 q s) = f (ix2 3 s))
    (e4 : ∀ q s, p4 (ix2 q s) = f (ix2 4 s))
    (e5 : ∀ q s, p5 (ix2 q s) = f (ix2 5 s))
    (e6 : ∀ q s, p6 (ix2 q s) = f (ix2 6 s))
    (e7 : ∀ q s, p7 (ix2 q s) = f (ix2 7 s))
    (e8 : ∀ q s, p8 (ix2 q s) = f (ix2 8 s))
    (e9 : ∀ q s, p9 (ix2 q s) = f (ix2 9 s))
    (e10 : ∀ q s, p10 (ix2 q s) = f (ix2 10 s))
    (e11 : ∀ q s, p11 (ix2 q s) = f (ix2 11 s))
    (e12 : ∀ q s, p12 (ix2 q s) = f (ix2 12 s))
    (e13 : ∀ q s, p13 (ix2 q s) = f (ix2 13 s))
    (e14 : ∀ q s, p14 (ix2 q s) = f (ix2 14 s))
    (e15 : ∀ q s, p15 (ix2 q s) = f (ix2 15 s))
    (e16 : ∀ q s, p16 (ix2 q s) = f (ix2 16 s))
    (e17 : ∀ q s, p17 (ix2 q s) = f (ix2 17 s))
    (e18 : ∀ q s, p18 (ix2 q s) = f (ix2 18 s))
    (e19 : ∀ q s, p19 (ix2 q s) = f (ix2 19 s))
    (e20 : ∀ q s, p20 (ix2 q s) = f (ix2 20 s))
    (e21 : ∀ q s, p21 (ix2 q s) = f (ix2 21 s))
    (e22 : ∀ q s, p22 (ix2 q s) = f (ix2 22 s))
    (e23 : ∀ q s, p23 (ix2 q s) = f (ix2 23 s))
    (e24 : ∀ q s, p24 (ix2 q s) = f (ix2 24 s))
    (e25 : ∀ q s, p25 (ix2 q s) = f (ix2 25 s))
    (e26 : ∀ q s, p26 (ix2 q s) = f (ix2 26 s))
    (e27 : ∀ q s, p27 (ix2 q s) = f (ix2 27 s))
    (e28 : ∀ q s, p28 (ix2 q s) = f (ix2 28 s))
    (e29 : ∀ q s, p29 (ix2 q s) = f (ix2 29 s))
    (e30 : ∀ q s, p30 (ix2 q s) = f (ix2 30 s))
    (y : S31x256.Idx) :
    View.canon (Val := Elt Ideal) (e := .f32) (
      ⟨Rect.unit (s := S31x256) ![30, 0] ![1, 256] inb_S31x256_S1x256_30_0, p30⟩ ::
      ⟨Rect.unit (s := S31x256) ![29, 0] ![1, 256] inb_S31x256_S1x256_29_0, p29⟩ ::
      ⟨Rect.unit (s := S31x256) ![28, 0] ![1, 256] inb_S31x256_S1x256_28_0, p28⟩ ::
      ⟨Rect.unit (s := S31x256) ![27, 0] ![1, 256] inb_S31x256_S1x256_27_0, p27⟩ ::
      ⟨Rect.unit (s := S31x256) ![26, 0] ![1, 256] inb_S31x256_S1x256_26_0, p26⟩ ::
      ⟨Rect.unit (s := S31x256) ![25, 0] ![1, 256] inb_S31x256_S1x256_25_0, p25⟩ ::
      ⟨Rect.unit (s := S31x256) ![24, 0] ![1, 256] inb_S31x256_S1x256_24_0, p24⟩ ::
      ⟨Rect.unit (s := S31x256) ![23, 0] ![1, 256] inb_S31x256_S1x256_23_0, p23⟩ ::
      ⟨Rect.unit (s := S31x256) ![22, 0] ![1, 256] inb_S31x256_S1x256_22_0, p22⟩ ::
      ⟨Rect.unit (s := S31x256) ![21, 0] ![1, 256] inb_S31x256_S1x256_21_0, p21⟩ ::
      ⟨Rect.unit (s := S31x256) ![20, 0] ![1, 256] inb_S31x256_S1x256_20_0, p20⟩ ::
      ⟨Rect.unit (s := S31x256) ![19, 0] ![1, 256] inb_S31x256_S1x256_19_0, p19⟩ ::
      ⟨Rect.unit (s := S31x256) ![18, 0] ![1, 256] inb_S31x256_S1x256_18_0, p18⟩ ::
      ⟨Rect.unit (s := S31x256) ![17, 0] ![1, 256] inb_S31x256_S1x256_17_0, p17⟩ ::
      ⟨Rect.unit (s := S31x256) ![16, 0] ![1, 256] inb_S31x256_S1x256_16_0, p16⟩ ::
      ⟨Rect.unit (s := S31x256) ![15, 0] ![1, 256] inb_S31x256_S1x256_15_0, p15⟩ ::
      ⟨Rect.unit (s := S31x256) ![14, 0] ![1, 256] inb_S31x256_S1x256_14_0, p14⟩ ::
      ⟨Rect.unit (s := S31x256) ![13, 0] ![1, 256] inb_S31x256_S1x256_13_0, p13⟩ ::
      ⟨Rect.unit (s := S31x256) ![12, 0] ![1, 256] inb_S31x256_S1x256_12_0, p12⟩ ::
      ⟨Rect.unit (s := S31x256) ![11, 0] ![1, 256] inb_S31x256_S1x256_11_0, p11⟩ ::
      ⟨Rect.unit (s := S31x256) ![10, 0] ![1, 256] inb_S31x256_S1x256_10_0, p10⟩ ::
      ⟨Rect.unit (s := S31x256) ![9, 0] ![1, 256] inb_S31x256_S1x256_9_0, p9⟩ ::
      ⟨Rect.unit (s := S31x256) ![8, 0] ![1, 256] inb_S31x256_S1x256_8_0, p8⟩ ::
      ⟨Rect.unit (s := S31x256) ![7, 0] ![1, 256] inb_S31x256_S1x256_7_0, p7⟩ ::
      ⟨Rect.unit (s := S31x256) ![6, 0] ![1, 256] inb_S31x256_S1x256_6_0, p6⟩ ::
      ⟨Rect.unit (s := S31x256) ![5, 0] ![1, 256] inb_S31x256_S1x256_5_0, p5⟩ ::
      ⟨Rect.unit (s := S31x256) ![4, 0] ![1, 256] inb_S31x256_S1x256_4_0, p4⟩ ::
      ⟨Rect.unit (s := S31x256) ![3, 0] ![1, 256] inb_S31x256_S1x256_3_0, p3⟩ ::
      ⟨Rect.unit (s := S31x256) ![2, 0] ![1, 256] inb_S31x256_S1x256_2_0, p2⟩ ::
      ⟨Rect.unit (s := S31x256) ![1, 0] ![1, 256] inb_S31x256_S1x256_1_0, p1⟩ ::
      ⟨Rect.unit (s := S31x256) ![0, 0] ![1, 256] inb_S31x256_S1x256_0_0, p0⟩ ::
      L) y = f y := by
  refine View.canon_append_of_piecesOf (Val := Elt Ideal) (e := .f32) f L [_, _, _, _, _, _, _, _, _, _, _, _, _, _, _, _, _, _, _, _, _, _, _, _, _, _, _, _, _, _, _]
    ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩ y (View.cover_of_tiledL (s := S31x256) _ S1x256.size (by sl_kernel_rfl) y)
  all_goals obtain ⟨q, s, rfl⟩ : ∃ (q : Fin 1) (s : Fin 256), x = ix2 q s := ⟨x 0, x 1, eq_ix2 x⟩
  · exact (e30 q s).trans (congrArg f (emb_row 30 inb_S31x256_S1x256_30_0 q s).symm)
  · exact (e29 q s).trans (congrArg f (emb_row 29 inb_S31x256_S1x256_29_0 q s).symm)
  · exact (e28 q s).trans (congrArg f (emb_row 28 inb_S31x256_S1x256_28_0 q s).symm)
  · exact (e27 q s).trans (congrArg f (emb_row 27 inb_S31x256_S1x256_27_0 q s).symm)
  · exact (e26 q s).trans (congrArg f (emb_row 26 inb_S31x256_S1x256_26_0 q s).symm)
  · exact (e25 q s).trans (congrArg f (emb_row 25 inb_S31x256_S1x256_25_0 q s).symm)
  · exact (e24 q s).trans (congrArg f (emb_row 24 inb_S31x256_S1x256_24_0 q s).symm)
  · exact (e23 q s).trans (congrArg f (emb_row 23 inb_S31x256_S1x256_23_0 q s).symm)
  · exact (e22 q s).trans (congrArg f (emb_row 22 inb_S31x256_S1x256_22_0 q s).symm)
  · exact (e21 q s).trans (congrArg f (emb_row 21 inb_S31x256_S1x256_21_0 q s).symm)
  · exact (e20 q s).trans (congrArg f (emb_row 20 inb_S31x256_S1x256_20_0 q s).symm)
  · exact (e19 q s).trans (congrArg f (emb_row 19 inb_S31x256_S1x256_19_0 q s).symm)
  · exact (e18 q s).trans (congrArg f (emb_row 18 inb_S31x256_S1x256_18_0 q s).symm)
  · exact (e17 q s).trans (congrArg f (emb_row 17 inb_S31x256_S1x256_17_0 q s).symm)
  · exact (e16 q s).trans (congrArg f (emb_row 16 inb_S31x256_S1x256_16_0 q s).symm)
  · exact (e15 q s).trans (congrArg f (emb_row 15 inb_S31x256_S1x256_15_0 q s).symm)
  · exact (e14 q s).trans (congrArg f (emb_row 14 inb_S31x256_S1x256_14_0 q s).symm)
  · exact (e13 q s).trans (congrArg f (emb_row 13 inb_S31x256_S1x256_13_0 q s).symm)
  · exact (e12 q s).trans (congrArg f (emb_row 12 inb_S31x256_S1x256_12_0 q s).symm)
  · exact (e11 q s).trans (congrArg f (emb_row 11 inb_S31x256_S1x256_11_0 q s).symm)
  · exact (e10 q s).trans (congrArg f (emb_row 10 inb_S31x256_S1x256_10_0 q s).symm)
  · exact (e9 q s).trans (congrArg f (emb_row 9 inb_S31x256_S1x256_9_0 q s).symm)
  · exact (e8 q s).trans (congrArg f (emb_row 8 inb_S31x256_S1x256_8_0 q s).symm)
  · exact (e7 q s).trans (congrArg f (emb_row 7 inb_S31x256_S1x256_7_0 q s).symm)
  · exact (e6 q s).trans (congrArg f (emb_row 6 inb_S31x256_S1x256_6_0 q s).symm)
  · exact (e5 q s).trans (congrArg f (emb_row 5 inb_S31x256_S1x256_5_0 q s).symm)
  · exact (e4 q s).trans (congrArg f (emb_row 4 inb_S31x256_S1x256_4_0 q s).symm)
  · exact (e3 q s).trans (congrArg f (emb_row 3 inb_S31x256_S1x256_3_0 q s).symm)
  · exact (e2 q s).trans (congrArg f (emb_row 2 inb_S31x256_S1x256_2_0 q s).symm)
  · exact (e1 q s).trans (congrArg f (emb_row 1 inb_S31x256_S1x256_1_0 q s).symm)
  · exact (e0 q s).trans (congrArg f (emb_row 0 inb_S31x256_S1x256_0_0 q s).symm)

end Cert.CConv

end
-- ==== Proof.CConv.Array.lean ====
/- The gradients of the conformer's convolution: the three arrays its launch leaves. -/
module

public import proofs.«01_k».proof.Proof.Gen.CConvKernelIdeal.Value
public import proofs.«01_k».proof.Proof.CConv.Taps
public import proofs.«01_k».proof.Proof.CConv.Rows

@[expose] public section

set_option maxRecDepth 16384

noncomputable section

open Idealize.ShloMosaic Idealize.ShloMosaic.TcCoe Cert.CConvKernelIdeal Cert.CConvKernelIdeal.Gen

namespace Cert.CConv

open Cert.CConvF (chain chain_congr act lag weight)

variable (m : (ℓ : Loc nD τ sig) → Buf (Elt Ideal) ℓ) (c : Dev nD)

/-- The two planes, -/
abbrev P : FVec Ideal S2x4096x2048 .bf16 := m ((c : Thread nD τ).loc main_arg0)
/-- the output's gradient -/
abbrev D : FVec Ideal S4096x2048 .f32 := m ((c : Thread nD τ).loc main_arg1)
/-- and the weights, as launched. -/
abbrev W : FVec Ideal S31x2048 .f32 := m ((c : Thread nD τ).loc main_arg2)

/-- One plane of two, loaded from a block, -/
theorem plane (x : FVec Ideal S2x256x256 .bf16) (o : Fin 2) (inb) (q : Fin 1) (r s : Fin 256) :
    View.ld (Val := Elt Ideal) (e' := .bf16) x (Rect.unit (s := S2x256x256) ![o.val, 0, 0] S1x256x256.size inb) (ix3 q r s) = x (ix3 o r s) := by
  refine View.ld_unit_apply_of (Val := Elt Ideal) (e := .bf16) x _ _ _ _ _ fun a => ?_
  fin_cases a
  · show o.val = o.val + q.val
    omega
  · show r.val = 0 + r.val
    omega
  · show s.val = 0 + s.val
    omega

/-- and from the thirty-two rows beside it. -/
theorem plane32 (x : FVec Ideal S2x32x256 .bf16) (o : Fin 2) (inb) (q : Fin 1) (r : Fin 32) (s : Fin 256) :
    View.ld (Val := Elt Ideal) (e' := .bf16) x (Rect.unit (s := S2x32x256) ![o.val, 0, 0] S1x32x256.size inb) (ix3 q r s) = x (ix3 o r s) := by
  refine View.ld_unit_apply_of (Val := Elt Ideal) (e := .bf16) x _ _ _ _ _ fun a => ?_
  fin_cases a
  · show o.val = o.val + q.val
    omega
  · show r.val = 0 + r.val
    omega
  · show s.val = 0 + s.val
    omega

/-- The blocks each iteration names. -/
theorem idx : ∀ t : Fin cfg0.N, win0_0.index t = ![0, t.val % 16, t.val / 16] ∧ win0_1.index t = ![0, t.val % 16 * 8 - 1, t.val / 16]
    ∧ win0_2.index t = ![t.val % 16, t.val / 16] ∧ win0_3.index t = ![min (t.val % 16 * 8 + 8) 127, t.val / 16]
    ∧ win0_4.index t = ![0, t.val / 16] ∧ win0_5.index t = ![0, t.val % 16, t.val / 16] ∧ win0_6.index t = ![0, t.val / 16] ∧ win0_7.index t = ![0, t.val / 16] :=
  (by decide +kernel : ∀ t : Fin grid0.N, _)

/-- Row `r` of point `t`'s block, in the array, -/
def row (t : Fin cfg0.N) (r : Fin 256) : Fin 4096 := ⟨t.val % 16 * 256 + r.val, by omega⟩
/-- row `r` of the thirty-two before it, -/
def prev (t : Fin cfg0.N) (r : Fin 32) : Fin 4096 := ⟨(t.val % 16 * 8 - 1) * 32 + r.val, by omega⟩
/-- of the thirty-two after it, -/
def next (t : Fin cfg0.N) (r : Fin 32) : Fin 4096 := ⟨min (t.val % 16 * 8 + 8) 127 * 32 + r.val, by omega⟩
/-- and column `s`. -/
def col (t : Fin cfg0.N) (s : Fin 256) : Fin 2048 := ⟨t.val / 16 * 256 + s.val, by have := t.isLt; have : cfg0.N = 128 := N_0; omega⟩

/-- A block of the two planes, -/
theorem blk_p (t : Fin cfg0.N) (a : Fin 2) (r s : Fin 256) : iblk m c 0 t (ix3 a r s) = P m c (ix3 a (row t r) (col t s)) := by
  blk_point [iblk, V, idx t, row, col]

/-- the rows before it, -/
theorem blk_b (t : Fin cfg0.N) (a : Fin 2) (r : Fin 32) (s : Fin 256) : iblk m c 1 t (ix3 a r s) = P m c (ix3 a (prev t r) (col t s)) := by
  blk_point [iblk, V, idx t, prev, col]

/-- a block of the output's gradient, -/
theorem blk_d (t : Fin cfg0.N) (r s : Fin 256) : iblk m c 2 t (ix2 r s) = D m c (ix2 (row t r) (col t s)) := by
  blk_point [iblk, V, idx t, row, col]

/-- the rows after it, -/
theorem blk_e (t : Fin cfg0.N) (r : Fin 32) (s : Fin 256) : iblk m c 3 t (ix2 r s) = D m c (ix2 (next t r) (col t s)) := by
  blk_point [iblk, V, idx t, next, col]

/-- and the weights. -/
theorem blk_w (t : Fin cfg0.N) (k : Fin 31) (s : Fin 256) : iblk m c 4 t (ix2 k s) = W m c (ix2 k (col t s)) := by
  blk_point [iblk, V, idx t, col]

/-- Point `t`'s second grid coordinate. -/
theorem coords : ∀ t : Fin cfg0.N, (grid0.coords t 1).val = t.val % 16 :=
  (by decide +kernel : ∀ t : Fin grid0.N, _)

/-! ## A point's blocks and what the body makes of them -/

/-- The two planes of a block, the first -/
abbrev ld0 (x : FVec Ideal S2x256x256 .bf16) : FVec Ideal S1x256x256 .bf16 :=
  View.ld (Val := Elt Ideal) (e' := .bf16) x (Rect.unit (s := S2x256x256) ![0, 0, 0] S1x256x256.size inb_S2x256x256_S1x256x256_0_0_0)
/-- and the second; -/
abbrev ld1 (x : FVec Ideal S2x256x256 .bf16) : FVec Ideal S1x256x256 .bf16 :=
  View.ld (Val := Elt Ideal) (e' := .bf16) x (Rect.unit (s := S2x256x256) ![1, 0, 0] S1x256x256.size inb_S2x256x256_S1x256x256_1_0_0)
/-- the same of thirty-two rows, the first -/
abbrev ed0 (x : FVec Ideal S2x32x256 .bf16) : FVec Ideal S1x32x256 .bf16 :=
  View.ld (Val := Elt Ideal) (e' := .bf16) x (Rect.unit (s := S2x32x256) ![0, 0, 0] S1x32x256.size inb_S2x32x256_S1x32x256_0_0_0)
/-- and the second. -/
abbrev ed1 (x : FVec Ideal S2x32x256 .bf16) : FVec Ideal S1x32x256 .bf16 :=
  View.ld (Val := Elt Ideal) (e' := .bf16) x (Rect.unit (s := S2x32x256) ![1, 0, 0] S1x32x256.size inb_S2x32x256_S1x32x256_1_0_0)

/-- A point's blocks are parts of the arrays: its own rows and the thirty-two on either side, in its columns. -/
structure Blocks (P : FVec Ideal S2x4096x2048 .bf16) (W : FVec Ideal S31x2048 .f32) (D : FVec Ideal S4096x2048 .f32) (i : grid0.Coords)
    (x : FVec Ideal S2x256x256 .bf16) (x' : FVec Ideal S2x32x256 .bf16) (d : FVec Ideal S256x256 .f32) (e : FVec Ideal S32x256 .f32) (w : FVec Ideal S31x256 .f32)
    (row : Fin 256 → Fin 4096) (prev next : Fin 32 → Fin 4096) (col : Fin 256 → Fin 2048) : Prop where
  row_val : ∀ r, (row r).val = (i 1).val * 256 + r.val
  prev_val : (i 1).val ≠ 0 → ∀ r, (prev r).val + 32 = (i 1).val * 256 + r.val
  next_val : (i 1).val ≠ 15 → ∀ r, (next r).val = (i 1).val * 256 + 256 + r.val
  planes : ∀ a r s, x (ix3 a r s) = P (ix3 a (row r) (col s))
  planes_prev : ∀ a r s, x' (ix3 a r s) = P (ix3 a (prev r) (col s))
  grad : ∀ r s, d (ix2 r s) = D (ix2 (row r) (col s))
  grad_next : ∀ r s, e (ix2 r s) = D (ix2 (next r) (col s))
  weights : ∀ k s, w (ix2 k s) = W (ix2 k (col s))

section
variable {P : FVec Ideal S2x4096x2048 .bf16} {W : FVec Ideal S31x2048 .f32} {D : FVec Ideal S4096x2048 .f32} {i : grid0.Coords}
    {x : FVec Ideal S2x256x256 .bf16} {x' : FVec Ideal S2x32x256 .bf16} {d : FVec Ideal S256x256 .f32} {e : FVec Ideal S32x256 .f32} {w : FVec Ideal S31x256 .f32}
    {row : Fin 256 → Fin 4096} {prev next : Fin 32 → Fin 4096} {col : Fin 256 → Fin 2048}
    (B : Blocks P W D i x x' d e w row prev next col)
include B

/-- The block's rows' part of the gradient of a weight, term by term. -/
theorem term_of (k : ℕ) (r s : Fin 256) (q : Fin 288) (hq : q.val = r.val + 2 + k) :
    d (ix2 r s) * k0_pay7 (F := Ideal) i (ld0 x) (ld1 x) (ed0 x') (ed1 x') (ix2 q s) = D (ix2 (row r) (col s)) * lag P ((row r).val + k) (col s) :=
  congrArg₂ (· * ·) (B.grad r s) ((rows_lag P i (ld0 x) (ld1 x) (ed0 x') (ed1 x') row prev (col s) s B.row_val B.prev_val
    (fun r => (plane x 0 _ 0 r s).trans (B.planes 0 r s)) (fun r => (plane x 1 _ 0 r s).trans (B.planes 1 r s))
    (fun r => (plane32 x' 0 _ 0 r s).trans (B.planes_prev 0 r s)) (fun r => (plane32 x' 1 _ 0 r s).trans (B.planes_prev 1 r s)) q (by omega)).trans
    (congrArg (fun a => lag P a (col s)) (by rw [B.row_val]; omega)))

/-- The convolution's transpose at a place. -/
theorem back_of (r s : Fin 256) :
    chain (fun k => blockWeight w k s * lead D ((i 1).val * 256 + (r.val + (30 - k))) (col s)) 30 = back W D (row r) (col s) :=
  chain_congr _ _ 30 fun k hk => congrArg₂ (· * ·)
    (by
      unfold blockWeight weight
      rw [dif_pos (by omega), dif_pos (by omega)]
      exact B.weights _ s)
    (congrArg (fun a => lead D a (col s)) (by rw [B.row_val]; omega))

/-- The rows its terms read. -/
theorem lead_of (s : Fin 256) (q : Fin 288) : k0_pay8 (F := Ideal) i d e (ix2 q s) = lead D ((i 1).val * 256 + q.val) (col s) :=
  rows_lead D i d e row next (col s) s B.row_val B.next_val (fun r => B.grad r s) (fun r => B.grad_next r s) q

end

/-- Two planes stored one by one. -/
theorem canon_planes (f : FVec Ideal S2x256x256 .bf16) (p0 p1 : FVec Ideal S1x256x256 .bf16) (e0 : ∀ q r s, p0 (ix3 q r s) = f (ix3 0 r s))
    (e1 : ∀ q r s, p1 (ix3 q r s) = f (ix3 1 r s)) (y : S2x256x256.Idx) :
    View.canon (Val := Elt Ideal) (e := .bf16) [⟨Rect.unit (s := S2x256x256) ![1, 0, 0] ![1, 256, 256] inb_S2x256x256_S1x256x256_1_0_0, p1⟩,
      ⟨Rect.unit (s := S2x256x256) ![0, 0, 0] ![1, 256, 256] inb_S2x256x256_S1x256x256_0_0_0, p0⟩] y = f y := by
  obtain ⟨a, r, s, rfl⟩ : ∃ (a : Fin 2) (r s : Fin 256), y = ix3 a r s := ⟨y 0, y 1, y 2, eq_ix3 y⟩
  canon_tiles z h
  · obtain ⟨q, r', s', rfl⟩ : ∃ (q : Fin 1) (r s : Fin 256), z = ix3 q r s := ⟨z 0, z 1, z 2, eq_ix3 z⟩
    obtain rfl : r = r' := Fin.ext h1
    obtain rfl : s = s' := Fin.ext h2
    obtain rfl : a = 1 := Fin.ext (by have : a.val = 1 + q.val := h0; omega)
    exact e1 q r s
  · obtain ⟨q, r', s', rfl⟩ : ∃ (q : Fin 1) (r s : Fin 256), z = ix3 q r s := ⟨z 0, z 1, z 2, eq_ix3 z⟩
    obtain rfl : r = r' := Fin.ext h1
    obtain rfl : s = s' := Fin.ext h2
    obtain rfl : a = 0 := Fin.ext (by have : a.val = q.val := h0; omega)
    exact e0 q r s

/-- Point `t`'s blocks are such parts. -/
theorem blocks (t : Fin cfg0.N) : Blocks (P m c) (W m c) (D m c) (grid0.coords t) (iblk m c 0 t) (iblk m c 1 t) (iblk m c 2 t) (iblk m c 3 t) (iblk m c 4 t)
    (row t) (prev t) (next t) (col t) where
  row_val r := by
    rw [coords]
    rfl
  prev_val h r := by
    rw [coords] at h ⊢
    show (t.val % 16 * 8 - 1) * 32 + r.val + 32 = _
    omega
  next_val h r := by
    rw [coords] at h ⊢
    show min (t.val % 16 * 8 + 8) 127 * 32 + r.val = _
    omega
  planes := blk_p m c t
  planes_prev := blk_b m c t
  grad := blk_d m c t
  grad_next := blk_e m c t
  weights := blk_w m c t

/-- The convolution's transpose, at a place of a point's block, -/
theorem taps_at (t : Fin cfg0.N) (r s : Fin 256) :
    tapsAll (grid0.coords t) (iblk m c 4 t) (iblk m c 2 t) (iblk m c 3 t) (ix2 r s) = back (W m c) (D m c) (row t r) (col t s) :=
  (taps (grid0.coords t) (iblk m c 4 t) (iblk m c 2 t) (iblk m c 3 t) (fun a => lead (D m c) ((grid0.coords t 1).val * 256 + a) (col t s)) s r (lead_of (blocks m c t) s)).trans (back_of (blocks m c t) r s)

/-- the first plane's gradient there, -/
theorem plane_first (t : Fin cfg0.N) (q : Fin 1) (r s : Fin 256) :
    planeFirst (grid0.coords t) (iblk m c 4 t) (iblk m c 2 t) (iblk m c 3 t) (ld1 (iblk m c 0 t)) (ix3 q r s)
      = dplanes (P m c) (W m c) (D m c) (ix3 0 (row t r) (col t s)) := by
  have hz : ld1 (iblk m c 0 t) (ix3 0 r s) = P m c (ix3 1 (row t r) (col t s)) := (plane (iblk m c 0 t) 1 inb_S2x256x256_S1x256x256_1_0_0 0 r s).trans (blk_p m c t 1 r s)
  exact (first_plane ..).trans (congrArg₂ (· * ·) (taps_at m c t r s) (congrArg Ideal.logistic hz))

/-- and the second's. -/
theorem plane_second (t : Fin cfg0.N) (q : Fin 1) (r s : Fin 256) :
    planeSecond (grid0.coords t) (iblk m c 4 t) (iblk m c 2 t) (iblk m c 3 t) (ld0 (iblk m c 0 t)) (ld1 (iblk m c 0 t)) (ix3 q r s)
      = dplanes (P m c) (W m c) (D m c) (ix3 1 (row t r) (col t s)) := by
  have hz : ld1 (iblk m c 0 t) (ix3 0 r s) = P m c (ix3 1 (row t r) (col t s)) := (plane (iblk m c 0 t) 1 inb_S2x256x256_S1x256x256_1_0_0 0 r s).trans (blk_p m c t 1 r s)
  have ha : ld0 (iblk m c 0 t) (ix3 0 r s) = P m c (ix3 0 (row t r) (col t s)) := (plane (iblk m c 0 t) 0 inb_S2x256x256_S1x256x256_0_0_0 0 r s).trans (blk_p m c t 0 r s)
  exact (second_plane ..).trans (congrArg₂ (· * ·) (congrArg₂ (· * ·) (congrArg₂ (· * ·) (taps_at m c t r s) ha) (congrArg Ideal.logistic hz))
    (congrArg (fun z => 1 - Ideal.logistic z) hz))

/-- The planes' gradients after a point. -/
theorem planes_at (t : Fin cfg0.N) (y : S2x256x256.Idx) :
    (outsAt0 m c t.val t.isLt).1 y = dplanes (P m c) (W m c) (D m c) (ix3 (y 0) (row t (y 1)) (col t (y 2))) := by
  by_cases ht : t.val % 16 = 0
  · rw [outsAt0_A m c t ht]
    frame_open
    frame_out
    exact canon_planes (fun y => dplanes (P m c) (W m c) (D m c) (ix3 (y 0) (row t (y 1)) (col t (y 2)))) _ _ (plane_first m c t) (plane_second m c t) y
  · rw [outsAt0_B m c t ht]
    frame_open
    frame_out
    exact canon_planes (fun y => dplanes (P m c) (W m c) (D m c) (ix3 (y 0) (row t (y 1)) (col t (y 2)))) _ _ (plane_first m c t) (plane_second m c t) y

/-- A point's part of the gradient of the weights, -/
def part (t : Fin cfg0.N) (y : S31x256.Idx) : EReal :=
  ∑ r : Fin 256, D m c (ix2 (row t r) (col t (y 1))) * lag (P m c) ((row t r).val + (y 0).val) (col t (y 1))

/-- and of the offsets. -/
def opart (t : Fin cfg0.N) (y : S1x256.Idx) : EReal := ∑ r : Fin 256, D m c (ix2 (row t r) (col t (y 1)))

set_option maxHeartbeats 4000000 in
/-- What the weights' gradient holds after a column's first point, -/
theorem dw_first (t : Fin cfg0.N) (ht : t.val % 16 = 0) (y : S31x256.Idx) : (outsAt0 m c t.val t.isLt).2.1 y = 0 + part m c t y := by
  have B := blocks m c t
  rw [outsAt0_A m c t ht]
  frame_open
  simp (disch := decide) only [↓ View.readCov_skip, ↓ View.readCov_cons_toLoadRect, ↓ View.readCov_fill]
  frame_out
  exact canon_rows (fun y => 0 + part m c t y) _ _ _ _ _ _ _ _ _ _ _ _ _ _ _ _ _ _ _ _ _ _ _ _ _ _ _ _ _ _ _ _
    (fun q s => (row_0 _ _ _ q s).trans (congrArg₂ (· + ·) ((ld_row _ 0 _ 0 s).trans Ideal.ofBits_zero_f32) (Finset.sum_congr rfl fun r _ => term_of B 0 r s _ rfl)))
    (fun q s => (row_1 _ _ _ q s).trans (congrArg₂ (· + ·) ((ld_row _ 1 _ 0 s).trans Ideal.ofBits_zero_f32) (Finset.sum_congr rfl fun r _ => term_of B 1 r s _ rfl)))
    (fun q s => (row_2 _ _ _ q s).trans (congrArg₂ (· + ·) ((ld_row _ 2 _ 0 s).trans Ideal.ofBits_zero_f32) (Finset.sum_congr rfl fun r _ => term_of B 2 r s _ rfl)))
    (fun q s => (row_3 _ _ _ q s).trans (congrArg₂ (· + ·) ((ld_row _ 3 _ 0 s).trans Ideal.ofBits_zero_f32) (Finset.sum_congr rfl fun r _ => term_of B 3 r s _ rfl)))
    (fun q s => (row_4 _ _ _ q s).trans (congrArg₂ (· + ·) ((ld_row _ 4 _ 0 s).trans Ideal.ofBits_zero_f32) (Finset.sum_congr rfl fun r _ => term_of B 4 r s _ rfl)))
    (fun q s => (row_5 _ _ _ q s).trans (congrArg₂ (· + ·) ((ld_row _ 5 _ 0 s).trans Ideal.ofBits_zero_f32) (Finset.sum_congr rfl fun r _ => term_of B 5 r s _ rfl)))
    (fun q s => (row_6 _ _ _ q s).trans (congrArg₂ (· + ·) ((ld_row _ 6 _ 0 s).trans Ideal.ofBits_zero_f32) (Finset.sum_congr rfl fun r _ => term_of B 6 r s _ rfl)))
    (fun q s => (row_7 _ _ _ q s).trans (congrArg₂ (· + ·) ((ld_row _ 7 _ 0 s).trans Ideal.ofBits_zero_f32) (Finset.sum_congr rfl fun r _ => term_of B 7 r s _ rfl)))
    (fun q s => (row_8 _ _ _ q s).trans (congrArg₂ (· + ·) ((ld_row _ 8 _ 0 s).trans Ideal.ofBits_zero_f32) (Finset.sum_congr rfl fun r _ => term_of B 8 r s _ rfl)))
    (fun q s => (row_9 _ _ _ q s).trans (congrArg₂ (· + ·) ((ld_row _ 9 _ 0 s).trans Ideal.ofBits_zero_f32) (Finset.sum_congr rfl fun r _ => term_of B 9 r s _ rfl)))
    (fun q s => (row_10 _ _ _ q s).trans (congrArg₂ (· + ·) ((ld_row _ 10 _ 0 s).trans Ideal.ofBits_zero_f32) (Finset.sum_congr rfl fun r _ => term_of B 10 r s _ rfl)))
    (fun q s => (row_11 _ _ _ q s).trans (congrArg₂ (· + ·) ((ld_row _ 11 _ 0 s).trans Ideal.ofBits_zero_f32) (Finset.sum_congr rfl fun r _ => term_of B 11 r s _ rfl)))
    (fun q s => (row_12 _ _ _ q s).trans (congrArg₂ (· + ·) ((ld_row _ 12 _ 0 s).trans Ideal.ofBits_zero_f32) (Finset.sum_congr rfl fun r _ => term_of B 12 r s _ rfl)))
    (fun q s => (row_13 _ _ _ q s).trans (congrArg₂ (· + ·) ((ld_row _ 13 _ 0 s).trans Ideal.ofBits_zero_f32) (Finset.sum_congr rfl fun r _ => term_of B 13 r s _ rfl)))
    (fun q s => (row_14 _ _ _ q s).trans (congrArg₂ (· + ·) ((ld_row _ 14 _ 0 s).trans Ideal.ofBits_zero_f32) (Finset.sum_congr rfl fun r _ => term_of B 14 r s _ rfl)))
    (fun q s => (row_15 _ _ _ q s).trans (congrArg₂ (· + ·) ((ld_row _ 15 _ 0 s).trans Ideal.ofBits_zero_f32) (Finset.sum_congr rfl fun r _ => term_of B 15 r s _ rfl)))
    (fun q s => (row_16 _ _ _ q s).trans (congrArg₂ (· + ·) ((ld_row _ 16 _ 0 s).trans Ideal.ofBits_zero_f32) (Finset.sum_congr rfl fun r _ => term_of B 16 r s _ rfl)))
    (fun q s => (row_17 _ _ _ q s).trans (congrArg₂ (· + ·) ((ld_row _ 17 _ 0 s).trans Ideal.ofBits_zero_f32) (Finset.sum_congr rfl fun r _ => term_of B 17 r s _ rfl)))
    (fun q s => (row_18 _ _ _ q s).trans (congrArg₂ (· + ·) ((ld_row _ 18 _ 0 s).trans Ideal.ofBits_zero_f32) (Finset.sum_congr rfl fun r _ => term_of B 18 r s _ rfl)))
    (fun q s => (row_19 _ _ _ q s).trans (congrArg₂ (· + ·) ((ld_row _ 19 _ 0 s).trans Ideal.ofBits_zero_f32) (Finset.sum_congr rfl fun r _ => term_of B 19 r s _ rfl)))
    (fun q s => (row_20 _ _ _ q s).trans (congrArg₂ (· + ·) ((ld_row _ 20 _ 0 s).trans Ideal.ofBits_zero_f32) (Finset.sum_congr rfl fun r _ => term_of B 20 r s _ rfl)))
    (fun q s => (row_21 _ _ _ q s).trans (congrArg₂ (· + ·) ((ld_row _ 21 _ 0 s).trans Ideal.ofBits_zero_f32) (Finset.sum_congr rfl fun r _ => term_of B 21 r s _ rfl)))
    (fun q s => (row_22 _ _ _ q s).trans (congrArg₂ (· + ·) ((ld_row _ 22 _ 0 s).trans Ideal.ofBits_zero_f32) (Finset.sum_congr rfl fun r _ => term_of B 22 r s _ rfl)))
    (fun q s => (row_23 _ _ _ q s).trans (congrArg₂ (· + ·) ((ld_row _ 23 _ 0 s).trans Ideal.ofBits_zero_f32) (Finset.sum_congr rfl fun r _ => term_of B 23 r s _ rfl)))
    (fun q s => (row_24 _ _ _ q s).trans (congrArg₂ (· + ·) ((ld_row _ 24 _ 0 s).trans Ideal.ofBits_zero_f32) (Finset.sum_congr rfl fun r _ => term_of B 24 r s _ rfl)))
    (fun q s => (row_25 _ _ _ q s).trans (congrArg₂ (· + ·) ((ld_row _ 25 _ 0 s).trans Ideal.ofBits_zero_f32) (Finset.sum_congr rfl fun r _ => term_of B 25 r s _ rfl)))
    (fun q s => (row_26 _ _ _ q s).trans (congrArg₂ (· + ·) ((ld_row _ 26 _ 0 s).trans Ideal.ofBits_zero_f32) (Finset.sum_congr rfl fun r _ => term_of B 26 r s _ rfl)))
    (fun q s => (row_27 _ _ _ q s).trans (congrArg₂ (· + ·) ((ld_row _ 27 _ 0 s).trans Ideal.ofBits_zero_f32) (Finset.sum_congr rfl fun r _ => term_of B 27 r s _ rfl)))
    (fun q s => (row_28 _ _ _ q s).trans (congrArg₂ (· + ·) ((ld_row _ 28 _ 0 s).trans Ideal.ofBits_zero_f32) (Finset.sum_congr rfl fun r _ => term_of B 28 r s _ rfl)))
    (fun q s => (row_29 _ _ _ q s).trans (congrArg₂ (· + ·) ((ld_row _ 29 _ 0 s).trans Ideal.ofBits_zero_f32) (Finset.sum_congr rfl fun r _ => term_of B 29 r s _ rfl)))
    (fun q s => (row_30 _ _ _ q s).trans (congrArg₂ (· + ·) ((ld_row _ 30 _ 0 s).trans Ideal.ofBits_zero_f32) (Finset.sum_congr rfl fun r _ => term_of B 30 r s _ rfl)))
    y

set_option maxHeartbeats 4000000 in
/-- and after a later one, over what the point before left. -/
theorem dw_later (t : Fin cfg0.N) (ht : ¬t.val % 16 = 0) (y : S31x256.Idx) :
    (outsAt0 m c t.val t.isLt).2.1 y = (outsAt0 m c (t.val - 1) (Nat.lt_of_le_of_lt (Nat.sub_le _ _) t.isLt)).2.1 y + part m c t y := by
  have B := blocks m c t
  rw [outsAt0_B m c t ht]
  generalize outsAt0 m c (t.val - 1) (Nat.lt_of_le_of_lt (Nat.sub_le _ _) t.isLt) = old
  frame_open
  try simp (disch := decide) only [↓ View.readCov_skip, ↓ View.readCov_cons_toLoadRect, ↓ View.readCov_fill]
  frame_out
  exact canon_rows (fun y => old.2.1 y + part m c t y) _ _ _ _ _ _ _ _ _ _ _ _ _ _ _ _ _ _ _ _ _ _ _ _ _ _ _ _ _ _ _ []
    (fun q s => (row_0 _ _ _ q s).trans (congrArg₂ (· + ·) (ld_row old.2.1 0 _ 0 s) (Finset.sum_congr rfl fun r _ => term_of B 0 r s _ rfl)))
    (fun q s => (row_1 _ _ _ q s).trans (congrArg₂ (· + ·) (ld_row old.2.1 1 _ 0 s) (Finset.sum_congr rfl fun r _ => term_of B 1 r s _ rfl)))
    (fun q s => (row_2 _ _ _ q s).trans (congrArg₂ (· + ·) (ld_row old.2.1 2 _ 0 s) (Finset.sum_congr rfl fun r _ => term_of B 2 r s _ rfl)))
    (fun q s => (row_3 _ _ _ q s).trans (congrArg₂ (· + ·) (ld_row old.2.1 3 _ 0 s) (Finset.sum_congr rfl fun r _ => term_of B 3 r s _ rfl)))
    (fun q s => (row_4 _ _ _ q s).trans (congrArg₂ (· + ·) (ld_row old.2.1 4 _ 0 s) (Finset.sum_congr rfl fun r _ => term_of B 4 r s _ rfl)))
    (fun q s => (row_5 _ _ _ q s).trans (congrArg₂ (· + ·) (ld_row old.2.1 5 _ 0 s) (Finset.sum_congr rfl fun r _ => term_of B 5 r s _ rfl)))
    (fun q s => (row_6 _ _ _ q s).trans (congrArg₂ (· + ·) (ld_row old.2.1 6 _ 0 s) (Finset.sum_congr rfl fun r _ => term_of B 6 r s _ rfl)))
    (fun q s => (row_7 _ _ _ q s).trans (congrArg₂ (· + ·) (ld_row old.2.1 7 _ 0 s) (Finset.sum_congr rfl fun r _ => term_of B 7 r s _ rfl)))
    (fun q s => (row_8 _ _ _ q s).trans (congrArg₂ (· + ·) (ld_row old.2.1 8 _ 0 s) (Finset.sum_congr rfl fun r _ => term_of B 8 r s _ rfl)))
    (fun q s => (row_9 _ _ _ q s).trans (congrArg₂ (· + ·) (ld_row old.2.1 9 _ 0 s) (Finset.sum_congr rfl fun r _ => term_of B 9 r s _ rfl)))
    (fun q s => (row_10 _ _ _ q s).trans (congrArg₂ (· + ·) (ld_row old.2.1 10 _ 0 s) (Finset.sum_congr rfl fun r _ => term_of B 10 r s _ rfl)))
    (fun q s => (row_11 _ _ _ q s).trans (congrArg₂ (· + ·) (ld_row old.2.1 11 _ 0 s) (Finset.sum_congr rfl fun r _ => term_of B 11 r s _ rfl)))
    (fun q s => (row_12 _ _ _ q s).trans (congrArg₂ (· + ·) (ld_row old.2.1 12 _ 0 s) (Finset.sum_congr rfl fun r _ => term_of B 12 r s _ rfl)))
    (fun q s => (row_13 _ _ _ q s).trans (congrArg₂ (· + ·) (ld_row old.2.1 13 _ 0 s) (Finset.sum_congr rfl fun r _ => term_of B 13 r s _ rfl)))
    (fun q s => (row_14 _ _ _ q s).trans (congrArg₂ (· + ·) (ld_row old.2.1 14 _ 0 s) (Finset.sum_congr rfl fun r _ => term_of B 14 r s _ rfl)))
    (fun q s => (row_15 _ _ _ q s).trans (congrArg₂ (· + ·) (ld_row old.2.1 15 _ 0 s) (Finset.sum_congr rfl fun r _ => term_of B 15 r s _ rfl)))
    (fun q s => (row_16 _ _ _ q s).trans (congrArg₂ (· + ·) (ld_row old.2.1 16 _ 0 s) (Finset.sum_congr rfl fun r _ => term_of B 16 r s _ rfl)))
    (fun q s => (row_17 _ _ _ q s).trans (congrArg₂ (· + ·) (ld_row old.2.1 17 _ 0 s) (Finset.sum_congr rfl fun r _ => term_of B 17 r s _ rfl)))
    (fun q s => (row_18 _ _ _ q s).trans (congrArg₂ (· + ·) (ld_row old.2.1 18 _ 0 s) (Finset.sum_congr rfl fun r _ => term_of B 18 r s _ rfl)))
    (fun q s => (row_19 _ _ _ q s).trans (congrArg₂ (· + ·) (ld_row old.2.1 19 _ 0 s) (Finset.sum_congr rfl fun r _ => term_of B 19 r s _ rfl)))
    (fun q s => (row_20 _ _ _ q s).trans (congrArg₂ (· + ·) (ld_row old.2.1 20 _ 0 s) (Finset.sum_congr rfl fun r _ => term_of B 20 r s _ rfl)))
    (fun q s => (row_21 _ _ _ q s).trans (congrArg₂ (· + ·) (ld_row old.2.1 21 _ 0 s) (Finset.sum_congr rfl fun r _ => term_of B 21 r s _ rfl)))
    (fun q s => (row_22 _ _ _ q s).trans (congrArg₂ (· + ·) (ld_row old.2.1 22 _ 0 s) (Finset.sum_congr rfl fun r _ => term_of B 22 r s _ rfl)))
    (fun q s => (row_23 _ _ _ q s).trans (congrArg₂ (· + ·) (ld_row old.2.1 23 _ 0 s) (Finset.sum_congr rfl fun r _ => term_of B 23 r s _ rfl)))
    (fun q s => (row_24 _ _ _ q s).trans (congrArg₂ (· + ·) (ld_row old.2.1 24 _ 0 s) (Finset.sum_congr rfl fun r _ => term_of B 24 r s _ rfl)))
    (fun q s => (row_25 _ _ _ q s).trans (congrArg₂ (· + ·) (ld_row old.2.1 25 _ 0 s) (Finset.sum_congr rfl fun r _ => term_of B 25 r s _ rfl)))
    (fun q s => (row_26 _ _ _ q s).trans (congrArg₂ (· + ·) (ld_row old.2.1 26 _ 0 s) (Finset.sum_congr rfl fun r _ => term_of B 26 r s _ rfl)))
    (fun q s => (row_27 _ _ _ q s).trans (congrArg₂ (· + ·) (ld_row old.2.1 27 _ 0 s) (Finset.sum_congr rfl fun r _ => term_of B 27 r s _ rfl)))
    (fun q s => (row_28 _ _ _ q s).trans (congrArg₂ (· + ·) (ld_row old.2.1 28 _ 0 s) (Finset.sum_congr rfl fun r _ => term_of B 28 r s _ rfl)))
    (fun q s => (row_29 _ _ _ q s).trans (congrArg₂ (· + ·) (ld_row old.2.1 29 _ 0 s) (Finset.sum_congr rfl fun r _ => term_of B 29 r s _ rfl)))
    (fun q s => (row_30 _ _ _ q s).trans (congrArg₂ (· + ·) (ld_row old.2.1 30 _ 0 s) (Finset.sum_congr rfl fun r _ => term_of B 30 r s _ rfl)))
    y

/-- What the offsets' gradient is increased by. -/
theorem pay28_at (d : FVec Ideal S256x256 .f32) (o : FVec Ideal S1x256 .f32) (q : Fin 1) (s : Fin 256) :
    k0_pay28 (F := Ideal) d o (ix2 q s) = o (ix2 q s) + ∑ r : Fin 256, d (ix2 r s) := by
  obtain rfl : q = 0 := Subsingleton.elim _ _
  pointwise [k0_pay28]

/-- The offsets' gradient after a column's first point, -/
theorem db_first (t : Fin cfg0.N) (ht : t.val % 16 = 0) (y : S1x256.Idx) : (outsAt0 m c t.val t.isLt).2.2 y = 0 + opart m c t y := by
  rw [outsAt0_A m c t ht]
  frame_open
  try simp (disch := decide) only [↓ View.readCov_skip, ↓ View.readCov_cons_toLoadRect, ↓ View.readCov_fill]
  frame_out
  obtain ⟨q, s, rfl⟩ : ∃ (q : Fin 1) (s : Fin 256), y = ix2 q s := ⟨y 0, y 1, eq_ix2 y⟩
  exact (pay28_at ..).trans (congrArg₂ (· + ·) Ideal.ofBits_zero_f32 (Finset.sum_congr rfl fun r _ => blk_d m c t r s))

/-- and after a later one. -/
theorem db_later (t : Fin cfg0.N) (ht : ¬t.val % 16 = 0) (y : S1x256.Idx) :
    (outsAt0 m c t.val t.isLt).2.2 y = (outsAt0 m c (t.val - 1) (Nat.lt_of_le_of_lt (Nat.sub_le _ _) t.isLt)).2.2 y + opart m c t y := by
  rw [outsAt0_B m c t ht]
  generalize outsAt0 m c (t.val - 1) (Nat.lt_of_le_of_lt (Nat.sub_le _ _) t.isLt) = old
  frame_open
  frame_out
  obtain ⟨q, s, rfl⟩ : ∃ (q : Fin 1) (s : Fin 256), y = ix2 q s := ⟨y 0, y 1, eq_ix2 y⟩
  exact (pay28_at ..).trans (congrArg (old.2.2 (ix2 q s) + ·) (Finset.sum_congr rfl fun r _ => blk_d m c t r s))

/-- After a column's last point: the weights' gradient -/
theorem dw_last (t : Fin cfg0.N) (ht : t.val % 16 = 16 - 1) (y : S31x256.Idx) :
    (outsAt0 m c t.val t.isLt).2.1 y = dweights (P m c) (D m c) (ix2 (y 0) (col t (y 1))) := by
  rw [Pipeline.eq_sum_fin_of_reset_step_apply_of_flush (M := EReal) (fun n h => (outsAt0 m c n h).2.1) 16 (fun _ => 0) (part m c) (dw_first m c) (dw_later m c) t ht y]
  rw [zero_add]
  refine Fin.sum_mul_add_congr (S := 16) (n := 256)
    (F := fun p r => D m c (ix2 (row ⟨16 * (t.val / 16) + p.val, by have := t.isLt; omega⟩ r) (col ⟨16 * (t.val / 16) + p.val, by have := t.isLt; omega⟩ (y 1)))
      * lag (P m c) ((row ⟨16 * (t.val / 16) + p.val, by have := t.isLt; omega⟩ r).val + (y 0).val) (col ⟨16 * (t.val / 16) + p.val, by have := t.isLt; omega⟩ (y 1))) fun p r hl => ?_
  have er : row ⟨16 * (t.val / 16) + p.val, by have := t.isLt; omega⟩ r = ⟨p.val * 256 + r.val, hl⟩ :=
    Fin.ext (by show (16 * (t.val / 16) + p.val) % 16 * 256 + r.val = p.val * 256 + r.val; omega)
  have ec : col ⟨16 * (t.val / 16) + p.val, by have := t.isLt; omega⟩ (y 1) = col t (y 1) :=
    Fin.ext (by show (16 * (t.val / 16) + p.val) / 16 * 256 + (y 1).val = t.val / 16 * 256 + (y 1).val; omega)
  show D m c (ix2 _ _) * lag _ _ _ = D m c (ix2 _ _) * lag _ _ _
  rw [er, ec]
  rfl

/-- and the offsets'. -/
theorem db_last (t : Fin cfg0.N) (ht : t.val % 16 = 16 - 1) (y : S1x256.Idx) :
    (outsAt0 m c t.val t.isLt).2.2 y = doffsets (D m c) (ix2 0 (col t (y 1))) := by
  rw [Pipeline.eq_sum_fin_of_reset_step_apply_of_flush (M := EReal) (fun n h => (outsAt0 m c n h).2.2) 16 (fun _ => 0) (opart m c) (db_first m c) (db_later m c) t ht y]
  rw [zero_add]
  refine Fin.sum_mul_add_congr (S := 16) (n := 256)
    (F := fun p r => D m c (ix2 (row ⟨16 * (t.val / 16) + p.val, by have := t.isLt; omega⟩ r) (col ⟨16 * (t.val / 16) + p.val, by have := t.isLt; omega⟩ (y 1)))) fun p r hl => ?_
  have er : row ⟨16 * (t.val / 16) + p.val, by have := t.isLt; omega⟩ r = ⟨p.val * 256 + r.val, hl⟩ :=
    Fin.ext (by show (16 * (t.val / 16) + p.val) % 16 * 256 + r.val = p.val * 256 + r.val; omega)
  have ec : col ⟨16 * (t.val / 16) + p.val, by have := t.isLt; omega⟩ (y 1) = col t (y 1) :=
    Fin.ext (by show (16 * (t.val / 16) + p.val) / 16 * 256 + (y 1).val = t.val / 16 * 256 + (y 1).val; omega)
  show D m c (ix2 _ _) = D m c (ix2 _ _)
  rw [er, ec]
  rfl

/-! ## The arrays after the launch -/

/-- The planes' gradients, -/
theorem arr_planes : (dats m 0 c).arrAt 5 cfg0.N = dplanes (P m c) (W m c) (D m c) := by
  refine (dats m 0 c).arrAt_eq_of_covers 5 _ (by decide +kernel) fun t hf y => ?_
  blk_simp [idx t]
  rw [after0_5]
  obtain ⟨a, r, s, rfl⟩ : ∃ (a : Fin 2) (r s : Fin 256), y = ix3 a r s := ⟨y 0, y 1, y 2, eq_ix3 y⟩
  have e : (win0_5.blk t).view.emb (ix3 a r s) = ix3 a (row t r) (col t s) := by
    blk_ext [idx t]
    all_goals first | rfl | omega
  rw [e]
  exact planes_at m c t (ix3 a r s)

/-- the weights' -/
theorem arr_weights : (dats m 0 c).arrAt 6 cfg0.N = dweights (P m c) (D m c) := by
  refine (dats m 0 c).arrAt_eq_of_covers 6 _ (by decide +kernel) fun t hf y => ?_
  have hl := (flush0_6 t).mp hf
  blk_simp [idx t]
  rw [after0_6]
  obtain ⟨k, s, rfl⟩ : ∃ (k : Fin 31) (s : Fin 256), y = ix2 k s := ⟨y 0, y 1, eq_ix2 y⟩
  have e : (win0_6.blk t).view.emb (ix2 k s) = ix2 k (col t s) := by
    blk_ext [idx t]
    all_goals first | rfl | omega
  rw [e]
  exact dw_last m c t hl (ix2 k s)

/-- and the offsets'. -/
theorem arr_offsets : (dats m 0 c).arrAt 7 cfg0.N = doffsets (D m c) := by
  refine (dats m 0 c).arrAt_eq_of_covers 7 _ (by decide +kernel) fun t hf y => ?_
  have hl := (flush0_7 t).mp hf
  blk_simp [idx t]
  rw [after0_7]
  obtain ⟨k, s, rfl⟩ : ∃ (k : Fin 1) (s : Fin 256), y = ix2 k s := ⟨y 0, y 1, eq_ix2 y⟩
  obtain rfl : k = 0 := Subsingleton.elim _ _
  have e : (win0_7.blk t).view.emb (ix2 0 s) = ix2 0 (col t s) := by
    blk_ext [idx t]
    all_goals first | rfl | omega
  rw [e]
  exact db_last m c t hl (ix2 0 s)

end Cert.CConv

end
-- ==== Proof.CConv.Ref.lean ====
/- The convolution's gradients in the reference, read at an index. -/
module

public import proofs.«01_k».proof.Proof.Gen.CConvReferenceIdeal.Read
public import proofs.«01_k».proof.Proof.CConv.Mix
public import Idealize.ShloMosaic.Lib.KernelVsHost
public import Idealize.ShloMosaic.Lib.Pipeline.ValueKit

@[expose] public section

set_option maxRecDepth 16384

noncomputable section

open Idealize.ShloMosaic Cert.CConvReferenceIdeal Cert.CConvReferenceIdeal.Read

namespace Cert.CConv.Ref

open Cert.CConvF (chain chain_congr act lag weight)

/-! ## Sums taken backwards, and rows moved among zeros -/

/-- A chain is the sum of its terms. -/
theorem chain_sum (f : ℕ → EReal) (n : ℕ) : chain f n = ∑ k ∈ Finset.range (n + 1), f k := by
  induction n with
  | zero => exact (Finset.sum_range_one f).symm
  | succ n ih => exact (congrArg (· + f (n + 1)) ih).trans (Finset.sum_range_succ f (n + 1)).symm

/-- So it may be taken backwards. -/
theorem chain_back (f : ℕ → EReal) : chain (fun k => f (30 - k)) 30 = chain f 30 := by
  rw [chain_sum, chain_sum]
  exact Finset.sum_range_reflect f 31

/-- A chain of which one term is not zero. -/
theorem chain_one (q : ℕ) (h : q ≤ 30) (s : EReal) : chain (fun k => if q = k then s else 0) 30 = s := by
  rw [chain_sum, Finset.sum_ite_eq, if_pos (Finset.mem_range.mpr (by omega))]

/-- Rows of one value put before and after an array. -/
theorem pad_rows {n k : ℕ} (lo hi : ℕ) (x : FVec Ideal ⟨2, ![n, 2048]⟩ .f32) (v : FVec Ideal S_ .f32) (h) (hu) (a : Fin k) (j : Fin 2048) :
    pad ⟨2, ![k, 2048]⟩ ![lo, 0] ![hi, 0] ![0, 0] x v h hu (ix2 a j)
      = if ha : lo ≤ a.val ∧ a.val - lo < n then x (ix2 ⟨a.val - lo, ha.2⟩ j) else v (Shape.Idx.first hu) := by
  by_cases ha : lo ≤ a.val ∧ a.val - lo < n
  · rw [dif_pos ha]
    refine pad_apply_of_inside _ _ _ x v h hu _ _ fun b => ?_
    fin_cases b
    · show a.val = lo + (a.val - lo) * (0 + 1)
      omega
    · show j.val = 0 + j.val * (0 + 1)
      omega
  · rw [dif_neg ha]
    refine pad_apply_of_not_inside _ _ _ x v h hu _ 0 fun hh => ha ?_
    have h1 : lo ≤ a.val := hh.1
    have h2 : (a.val - lo) / (0 + 1) < n := hh.2.2
    exact ⟨h1, by omega⟩

/-- A weighted gradient moved along the rows, zeros where it does not reach. -/
theorem lead_pad (D : FVec Ideal S4096x2048 .f32) (w : EReal) (j : Fin 2048) (lo hi : ℕ) (hlo : lo ≤ 30) (x : FVec Ideal S4096x2048 .f32)
    (v : FVec Ideal S_ .f32) (hv : v (Shape.Idx.first Gen.h_S_) = 0) (h) (hx : ∀ n, x (ix2 n j) = w * D (ix2 n j)) (i : Fin 4096) (a : Fin 4126) (ha : a.val = 30 + i.val) :
    pad S4126x2048 ![lo, 0] ![hi, 0] ![0, 0] x v h Gen.h_S_ (ix2 a j) = w * lead D (i.val + (30 - lo)) j := by
  refine (pad_rows lo hi x v h Gen.h_S_ a j).trans ?_
  have el : a.val - lo = i.val + (30 - lo) := by omega
  unfold lead
  by_cases hn : i.val + (30 - lo) < 4096
  · rw [dif_pos ⟨by omega, by omega⟩, dif_pos hn, hx]
    exact congrArg (fun n => w * D (ix2 n j)) (Fin.ext el)
  · rw [dif_neg (by omega), dif_neg hn, hv, mul_zero]

/-- One row put among zeros. -/
theorem row_pad (j : Fin 2048) (lo hi : ℕ) (x : FVec Ideal S1x2048 .f32) (v : FVec Ideal S_ .f32) (hv : v (Shape.Idx.first Gen.h_S_) = 0) (h) (f : ℕ → EReal)
    (hx : ∀ p, x (ix2 p j) = f lo) (q : Fin 31) : pad S31x2048 ![lo, 0] ![hi, 0] ![0, 0] x v h Gen.h_S_ (ix2 q j) = if q.val = lo then f q.val else 0 := by
  refine (pad_rows lo hi x v h Gen.h_S_ q j).trans ?_
  by_cases hq : q.val = lo
  · rw [dif_pos ⟨by omega, by omega⟩, if_pos hq, hx, hq]
  · rw [dif_neg (by omega), if_neg hq, hv]

/-! ## The gradients -/

variable (P : FVec Ideal S2x4096x2048 .bf16) (D : FVec Ideal S4096x2048 .f32) (W : FVec Ideal S31x2048 .f32)

/-- The second plane's sigmoid, -/
theorem ref_sig (i : Fin 4096) (j : Fin 2048) : val_main_v11 (F := Ideal) P (ix2 i j) = Ideal.logistic (P (ix3 1 i j)) := by
  pointwise [val_main_v11, val_main_v10, val_main_v9, val_main_cst_1, val_main_v8, val_main_v7, val_main_cst_0, val_main_v6, val_main_v5, val_main_v4, val_main_v1]
  rfl

/-- the first plane, -/
theorem ref_plane (i : Fin 4096) (j : Fin 2048) : val_main_v3 (F := Ideal) P (ix2 i j) = P (ix3 0 i j) := by
  pointwise [val_main_v3, val_main_v2, val_main_v1]

/-- and the convolution's input with its zeros in front. -/
theorem ref_lag (a : Fin 4126) (j : Fin 2048) : val_main_v17 (F := Ideal) P (ix2 a j) = lag P a.val j := by
  have e (i : Fin 4096) : val_main_v15 (F := Ideal) P (ix2 i j) = act P i j := congrArg₂ (· * ·) (ref_plane P i j) (ref_sig P i j)
  unfold val_main_v17 val_main_v16 val_main_cst_3
  generalize val_main_v15 (F := Ideal) P = x at e ⊢
  pointwise []
  unfold lag
  by_cases ha : a.val < 30
  · rw [dif_pos ha, dif_neg (by omega)]
  · rw [dif_neg ha, dif_pos ⟨by omega, a.isLt⟩, e]

/-! ### The taps of the convolution's transpose -/

/-- A tap: the output's gradient, weighted and moved along the rows. -/
theorem tap (k hi : ℕ) (hk : k < 31) (hs) (hp) (i : Fin 4096) (j : Fin 2048) (a : Fin 4126) (ha : a.val = 30 + i.val) :
    pad S4126x2048 ![k, 0] ![hi, 0] ![0, 0]
      (mulf (broadcastInDim S4096x2048 ![0, 1] Gen.bcast_S1x2048_S4096x2048_0_1 (broadcastInDim S1x2048 ![1] Gen.bcast_S2048_S1x2048_1
        (shapeCast S2048 (extractStridedSlice S1x2048 ![k, 0] W hs) Gen.shapeCasts_S1x2048_S2048))) (shapeCast S4096x2048 D Gen.shapeCasts_S4096x2048_S4096x2048))
      (constant S_ .f32 0x00000000#32) hp Gen.h_S_ (ix2 a j) = weight W k j * lead D (i.val + (30 - k)) j := by
  refine lead_pad D (weight W k j) j k hi (by omega) _ _ Ideal.ofBits_zero_f32 _ (fun n => ?_) i a ha
  rw [weight, dif_pos hk]
  have ex : extractStridedSlice S1x2048 ![k, 0] W hs (ix2 0 j) = W (ix2 ⟨k, hk⟩ j) := by
    refine congrArg W (funext fun b => Fin.ext ?_)
    fin_cases b
    · show k + 0 = k
      omega
    · show 0 + j.val = j.val
      omega
  generalize extractStridedSlice S1x2048 ![k, 0] W hs = x at ex ⊢
  pointwise []
  rw [ex]

/-- Their sum. -/
theorem ref_back (i : Fin 4096) (j : Fin 2048) : val_main_v586 (F := Ideal) D W (ix2 i j) = back W D i j := by
  have ea : val_main_v586 (F := Ideal) D W (ix2 i j) = val_main_v581 (F := Ideal) D W (ix2 ⟨30 + i.val, by omega⟩ j) := by
    unfold val_main_v586
    generalize val_main_v581 (F := Ideal) D W = x
    pointwise []
  rw [ea]
  generalize ha : (⟨30 + i.val, by omega⟩ : Fin 4126) = a
  replace ha : a.val = 30 + i.val := congrArg Fin.val ha.symm
  refine Eq.trans ?_ (chain_back fun k => weight W k j * lead D (i.val + (30 - k)) j)
  let f : ℕ → EReal := fun k => weight W (30 - k) j * lead D (i.val + (30 - (30 - k))) j
  have s0 : val_main_v252 (F := Ideal) D W (ix2 a j) = chain f 0 := tap D W 30 0 (by omega) _ _ i j a ha
  have s1 : val_main_v262 (F := Ideal) D W (ix2 a j) = chain f 1 := congrArg₂ (· + ·) s0 (tap D W 29 1 (by omega) _ _ i j a ha)
  have s2 : val_main_v273 (F := Ideal) D W (ix2 a j) = chain f 2 := congrArg₂ (· + ·) s1 (tap D W 28 2 (by omega) _ _ i j a ha)
  have s3 : val_main_v284 (F := Ideal) D W (ix2 a j) = chain f 3 := congrArg₂ (· + ·) s2 (tap D W 27 3 (by omega) _ _ i j a ha)
  have s4 : val_main_v295 (F := Ideal) D W (ix2 a j) = chain f 4 := congrArg₂ (· + ·) s3 (tap D W 26 4 (by omega) _ _ i j a ha)
  have s5 : val_main_v306 (F := Ideal) D W (ix2 a j) = chain f 5 := congrArg₂ (· + ·) s4 (tap D W 25 5 (by omega) _ _ i j a ha)
  have s6 : val_main_v317 (F := Ideal) D W (ix2 a j) = chain f 6 := congrArg₂ (· + ·) s5 (tap D W 24 6 (by omega) _ _ i j a ha)
  have s7 : val_main_v328 (F := Ideal) D W (ix2 a j) = chain f 7 := congrArg₂ (· + ·) s6 (tap D W 23 7 (by omega) _ _ i j a ha)
  have s8 : val_main_v339 (F := Ideal) D W (ix2 a j) = chain f 8 := congrArg₂ (· + ·) s7 (tap D W 22 8 (by omega) _ _ i j a ha)
  have s9 : val_main_v350 (F := Ideal) D W (ix2 a j) = chain f 9 := congrArg₂ (· + ·) s8 (tap D W 21 9 (by omega) _ _ i j a ha)
  have s10 : val_main_v361 (F := Ideal) D W (ix2 a j) = chain f 10 := congrArg₂ (· + ·) s9 (tap D W 20 10 (by omega) _ _ i j a ha)
  have s11 : val_main_v372 (F := Ideal) D W (ix2 a j) = chain f 11 := congrArg₂ (· + ·) s10 (tap D W 19 11 (by omega) _ _ i j a ha)
  have s12 : val_main_v383 (F := Ideal) D W (ix2 a j) = chain f 12 := congrArg₂ (· + ·) s11 (tap D W 18 12 (by omega) _ _ i j a ha)
  have s13 : val_main_v394 (F := Ideal) D W (ix2 a j) = chain f 13 := congrArg₂ (· + ·) s12 (tap D W 17 13 (by omega) _ _ i j a ha)
  have s14 : val_main_v405 (F := Ideal) D W (ix2 a j) = chain f 14 := congrArg₂ (· + ·) s13 (tap D W 16 14 (by omega) _ _ i j a ha)
  have s15 : val_main_v416 (F := Ideal) D W (ix2 a j) = chain f 15 := congrArg₂ (· + ·) s14 (tap D W 15 15 (by omega) _ _ i j a ha)
  have s16 : val_main_v427 (F := Ideal) D W (ix2 a j) = chain f 16 := congrArg₂ (· + ·) s15 (tap D W 14 16 (by omega) _ _ i j a ha)
  have s17 : val_main_v438 (F := Ideal) D W (ix2 a j) = chain f 17 := congrArg₂ (· + ·) s16 (tap D W 13 17 (by omega) _ _ i j a ha)
  have s18 : val_main_v449 (F := Ideal) D W (ix2 a j) = chain f 18 := congrArg₂ (· + ·) s17 (tap D W 12 18 (by omega) _ _ i j a ha)
  have s19 : val_main_v460 (F := Ideal) D W (ix2 a j) = chain f 19 := congrArg₂ (· + ·) s18 (tap D W 11 19 (by omega) _ _ i j a ha)
  have s20 : val_main_v471 (F := Ideal) D W (ix2 a j) = chain f 20 := congrArg₂ (· + ·) s19 (tap D W 10 20 (by omega) _ _ i j a ha)
  have s21 : val_main_v482 (F := Ideal) D W (ix2 a j) = chain f 21 := congrArg₂ (· + ·) s20 (tap D W 9 21 (by omega) _ _ i j a ha)
  have s22 : val_main_v493 (F := Ideal) D W (ix2 a j) = chain f 22 := congrArg₂ (· + ·) s21 (tap D W 8 22 (by omega) _ _ i j a ha)
  have s23 : val_main_v504 (F := Ideal) D W (ix2 a j) = chain f 23 := congrArg₂ (· + ·) s22 (tap D W 7 23 (by omega) _ _ i j a ha)
  have s24 : val_main_v515 (F := Ideal) D W (ix2 a j) = chain f 24 := congrArg₂ (· + ·) s23 (tap D W 6 24 (by omega) _ _ i j a ha)
  have s25 : val_main_v526 (F := Ideal) D W (ix2 a j) = chain f 25 := congrArg₂ (· + ·) s24 (tap D W 5 25 (by omega) _ _ i j a ha)
  have s26 : val_main_v537 (F := Ideal) D W (ix2 a j) = chain f 26 := congrArg₂ (· + ·) s25 (tap D W 4 26 (by omega) _ _ i j a ha)
  have s27 : val_main_v548 (F := Ideal) D W (ix2 a j) = chain f 27 := congrArg₂ (· + ·) s26 (tap D W 3 27 (by omega) _ _ i j a ha)
  have s28 : val_main_v559 (F := Ideal) D W (ix2 a j) = chain f 28 := congrArg₂ (· + ·) s27 (tap D W 2 28 (by omega) _ _ i j a ha)
  have s29 : val_main_v570 (F := Ideal) D W (ix2 a j) = chain f 29 := congrArg₂ (· + ·) s28 (tap D W 1 29 (by omega) _ _ i j a ha)
  have s30 : val_main_v581 (F := Ideal) D W (ix2 a j) = chain f 30 := congrArg₂ (· + ·) s29 (tap D W 0 30 (by omega) _ _ i j a ha)
  exact s30

/-! ### The rows of the weights' gradient -/

/-- A weight's gradient. -/
def dw (j : Fin 2048) (k : ℕ) : EReal := ∑ n : Fin 4096, D (ix2 n j) * lag P (n.val + k) j

/-- One row of them, alone in its place. -/
theorem row (k hi : ℕ) (hk : k < 31) (hs) (hp) (j : Fin 2048) (q : Fin 31) :
    pad S31x2048 ![k, 0] ![hi, 0] ![0, 0] (broadcastInDim S1x2048 ![1] Gen.bcast_S2048_S1x2048_1
      (Host.reduceAdd (shapeCast S1x2048 (Host.reduceAdd (mulf (shapeCast S4096x2048 D Gen.shapeCasts_S4096x2048_S4096x2048)
          (extractStridedSlice S4096x2048 ![k, 0] (val_main_v17 (F := Ideal) P) hs)) (constant S_ .f32 0x00000000#32) Gen.reducesTo_S4096x2048_S2048_d0 Gen.h_S_)
        Gen.shapeCasts_S2048_S1x2048) (constant S_ .f32 0x00000000#32) Gen.reducesTo_S1x2048_S2048_d0 Gen.h_S_))
      (constant S_ .f32 0x00000000#32) hp Gen.h_S_ (ix2 q j) = if q.val = k then dw P D j q.val else 0 := by
  refine row_pad j k hi _ _ Ideal.ofBits_zero_f32 _ (dw P D j) (fun p => ?_) q
  have ex (n : Fin 4096) : extractStridedSlice S4096x2048 ![k, 0] (val_main_v17 (F := Ideal) P) hs (ix2 n j) = lag P (n.val + k) j := by
    refine (congrArg (val_main_v17 (F := Ideal) P) (?_ : _ = ix2 (⟨n.val + k, by omega⟩ : Fin 4126) j)).trans (ref_lag P _ j)
    refine funext fun b => Fin.ext ?_
    fin_cases b
    · show k + n.val = n.val + k
      omega
    · show 0 + j.val = j.val
      omega
  generalize extractStridedSlice S4096x2048 ![k, 0] (val_main_v17 (F := Ideal) P) hs = x at ex ⊢
  pointwise []
  exact (Fin.sum_univ_one _).trans (Finset.sum_congr rfl fun n _ => congrArg (D (ix2 n j) * ·) (ex n))

/-- The gradient of the weights: each row alone in its place. -/
theorem ref_dweights : val_main_v584 (F := Ideal) P D = dweights P D := by
  funext y
  obtain ⟨q, j, rfl⟩ : ∃ (q : Fin 31) (j : Fin 2048), y = ix2 q j := ⟨y 0, y 1, eq_ix2 y⟩
  refine Eq.trans ?_ ((chain_back fun k => if q.val = k then dw P D j q.val else 0).trans (chain_one q.val (by omega) (dw P D j q.val)))
  let f : ℕ → EReal := fun k => if q.val = 30 - k then dw P D j q.val else 0
  have s0 : val_main_v254 (F := Ideal) P D (ix2 q j) = chain f 0 := row P D 30 0 (by omega) _ _ j q
  have s1 : val_main_v265 (F := Ideal) P D (ix2 q j) = chain f 1 := congrArg₂ (· + ·) s0 (row P D 29 1 (by omega) _ _ j q)
  have s2 : val_main_v276 (F := Ideal) P D (ix2 q j) = chain f 2 := congrArg₂ (· + ·) s1 (row P D 28 2 (by omega) _ _ j q)
  have s3 : val_main_v287 (F := Ideal) P D (ix2 q j) = chain f 3 := congrArg₂ (· + ·) s2 (row P D 27 3 (by omega) _ _ j q)
  have s4 : val_main_v298 (F := Ideal) P D (ix2 q j) = chain f 4 := congrArg₂ (· + ·) s3 (row P D 26 4 (by omega) _ _ j q)
  have s5 : val_main_v309 (F := Ideal) P D (ix2 q j) = chain f 5 := congrArg₂ (· + ·) s4 (row P D 25 5 (by omega) _ _ j q)
  have s6 : val_main_v320 (F := Ideal) P D (ix2 q j) = chain f 6 := congrArg₂ (· + ·) s5 (row P D 24 6 (by omega) _ _ j q)
  have s7 : val_main_v331 (F := Ideal) P D (ix2 q j) = chain f 7 := congrArg₂ (· + ·) s6 (row P D 23 7 (by omega) _ _ j q)
  have s8 : val_main_v342 (F := Ideal) P D (ix2 q j) = chain f 8 := congrArg₂ (· + ·) s7 (row P D 22 8 (by omega) _ _ j q)
  have s9 : val_main_v353 (F := Ideal) P D (ix2 q j) = chain f 9 := congrArg₂ (· + ·) s8 (row P D 21 9 (by omega) _ _ j q)
  have s10 : val_main_v364 (F := Ideal) P D (ix2 q j) = chain f 10 := congrArg₂ (· + ·) s9 (row P D 20 10 (by omega) _ _ j q)
  have s11 : val_main_v375 (F := Ideal) P D (ix2 q j) = chain f 11 := congrArg₂ (· + ·) s10 (row P D 19 11 (by omega) _ _ j q)
  have s12 : val_main_v386 (F := Ideal) P D (ix2 q j) = chain f 12 := congrArg₂ (· + ·) s11 (row P D 18 12 (by omega) _ _ j q)
  have s13 : val_main_v397 (F := Ideal) P D (ix2 q j) = chain f 13 := congrArg₂ (· + ·) s12 (row P D 17 13 (by omega) _ _ j q)
  have s14 : val_main_v408 (F := Ideal) P D (ix2 q j) = chain f 14 := congrArg₂ (· + ·) s13 (row P D 16 14 (by omega) _ _ j q)
  have s15 : val_main_v419 (F := Ideal) P D (ix2 q j) = chain f 15 := congrArg₂ (· + ·) s14 (row P D 15 15 (by omega) _ _ j q)
  have s16 : val_main_v430 (F := Ideal) P D (ix2 q j) = chain f 16 := congrArg₂ (· + ·) s15 (row P D 14 16 (by omega) _ _ j q)
  have s17 : val_main_v441 (F := Ideal) P D (ix2 q j) = chain f 17 := congrArg₂ (· + ·) s16 (row P D 13 17 (by omega) _ _ j q)
  have s18 : val_main_v452 (F := Ideal) P D (ix2 q j) = chain f 18 := congrArg₂ (· + ·) s17 (row P D 12 18 (by omega) _ _ j q)
  have s19 : val_main_v463 (F := Ideal) P D (ix2 q j) = chain f 19 := congrArg₂ (· + ·) s18 (row P D 11 19 (by omega) _ _ j q)
  have s20 : val_main_v474 (F := Ideal) P D (ix2 q j) = chain f 20 := congrArg₂ (· + ·) s19 (row P D 10 20 (by omega) _ _ j q)
  have s21 : val_main_v485 (F := Ideal) P D (ix2 q j) = chain f 21 := congrArg₂ (· + ·) s20 (row P D 9 21 (by omega) _ _ j q)
  have s22 : val_main_v496 (F := Ideal) P D (ix2 q j) = chain f 22 := congrArg₂ (· + ·) s21 (row P D 8 22 (by omega) _ _ j q)
  have s23 : val_main_v507 (F := Ideal) P D (ix2 q j) = chain f 23 := congrArg₂ (· + ·) s22 (row P D 7 23 (by omega) _ _ j q)
  have s24 : val_main_v518 (F := Ideal) P D (ix2 q j) = chain f 24 := congrArg₂ (· + ·) s23 (row P D 6 24 (by omega) _ _ j q)
  have s25 : val_main_v529 (F := Ideal) P D (ix2 q j) = chain f 25 := congrArg₂ (· + ·) s24 (row P D 5 25 (by omega) _ _ j q)
  have s26 : val_main_v540 (F := Ideal) P D (ix2 q j) = chain f 26 := congrArg₂ (· + ·) s25 (row P D 4 26 (by omega) _ _ j q)
  have s27 : val_main_v551 (F := Ideal) P D (ix2 q j) = chain f 27 := congrArg₂ (· + ·) s26 (row P D 3 27 (by omega) _ _ j q)
  have s28 : val_main_v562 (F := Ideal) P D (ix2 q j) = chain f 28 := congrArg₂ (· + ·) s27 (row P D 2 28 (by omega) _ _ j q)
  have s29 : val_main_v573 (F := Ideal) P D (ix2 q j) = chain f 29 := congrArg₂ (· + ·) s28 (row P D 1 29 (by omega) _ _ j q)
  have s30 : val_main_v584 (F := Ideal) P D (ix2 q j) = chain f 30 := congrArg₂ (· + ·) s29 (row P D 0 30 (by omega) _ _ j q)
  exact s30

/-- The gradient of the offsets. -/
theorem ref_doffsets : val_main_v245 (F := Ideal) D = doffsets D := by
  funext y
  obtain ⟨q, j, rfl⟩ : ∃ (q : Fin 1) (j : Fin 2048), y = ix2 q j := ⟨y 0, y 1, eq_ix2 y⟩
  unfold val_main_v245 val_main_v244 val_main_v243 val_main_v242 val_main_cst_6 val_main_cst_7
  pointwise []
  exact Fin.sum_univ_one _

/-- The gradients of the planes. -/
theorem ref_dplanes : val_main_v593 (F := Ideal) P D W = dplanes P W D := by
  funext y
  obtain ⟨a, i, j, rfl⟩ : ∃ (a : Fin 2) (i : Fin 4096) (j : Fin 2048), y = ix3 a i j := ⟨y 0, y 1, y 2, eq_ix3 y⟩
  have e0 : val_main_v588 (F := Ideal) P D W (ix2 i j) = back W D i j * Ideal.logistic (P (ix3 1 i j)) :=
    congrArg₂ (· * ·) (ref_back D W i j) (ref_sig P i j)
  have e2 : val_main_v13 (F := Ideal) P (ix2 i j) = 1 - Ideal.logistic (P (ix3 1 i j)) :=
    congrArg₂ (· - ·) Ideal.ofBits_one_f32 (ref_sig P i j)
  have e1 : val_main_v589 (F := Ideal) P D W (ix2 i j)
      = P (ix3 0 i j) * back W D i j * (Ideal.logistic (P (ix3 1 i j)) * (1 - Ideal.logistic (P (ix3 1 i j)))) :=
    congrArg₂ (· * ·) (congrArg₂ (· * ·) (ref_plane P i j) (ref_back D W i j)) (congrArg₂ (· * ·) (ref_sig P i j) e2)
  rw [mul_comm (P (ix3 0 i j)), ← mul_assoc] at e1
  unfold val_main_v593 val_main_v592 val_main_v591 val_main_v590
  generalize val_main_v588 (F := Ideal) P D W = x at e0 ⊢
  generalize val_main_v589 (F := Ideal) P D W = x' at e1 ⊢
  pointwise []
  show _ = if a.val = 0 then _ else _
  by_cases h0 : a.val < 1
  · rw [dif_pos h0, if_pos (show a.val = 0 by omega)]
    exact e0
  · rw [dif_neg h0, if_neg (show ¬a.val = 0 by omega)]
    exact e1

end Cert.CConv.Ref

end
-- ==== Proof.CConv.Claims.lean ====
/- The claims about the gradient of the conformer's gated causal convolution. -/
module

public import proofs.«01_k».proof.Defs
public import proofs.«01_k».proof.Proof.Gen.CConvKernel.Frame
public import proofs.«01_k».proof.Proof.Gen.CConvReferenceIdeal.Run
public import proofs.«01_k».proof.Proof.CConv.Array
public import proofs.«01_k».proof.Proof.CConv.Ref
public import Idealize.ShloMosaic.Lib.Quiescent

@[expose] public section

set_option maxRecDepth 16384

noncomputable section

open Idealize.ShloMosaic Idealize.SL.Sem

namespace Cert.CConv

/-- The kernel ends, leaves its arguments and every counter as they were, on the machine's numbers. -/
theorem frame_kernel : Cert.quiescent_CConvKernel := fun m ρ _ => Cert.CConvKernel.Gen.frame m ρ

/-- The same over the extended reals. -/
theorem frame_ideal : Cert.quiescent_CConvKernelIdeal := fun m ρ _ => Cert.CConvKernelIdeal.Gen.frame m ρ

/-- The reference ends and leaves its arguments as they were; it declares no counter. -/
theorem frame_ref : Cert.quiescent_CConvReferenceIdeal := fun m ρ _ =>
  (θ_run Cert.CConvReferenceIdeal.defs _ _).mono
    (fun r h => ⟨fun c => (h c).2.2.2, sem_eq_zero_of_no_sems (by decide) r.2⟩)
    (Cert.CConvReferenceIdeal.Value.run m ρ)

/-- The kernel and the reference agree over the extended reals, on any arguments. -/
theorem algebraic : Cert.algebraic_CConvKernelIdeal_CConvReferenceIdeal := by
  intro m ρ m' ρ' _ hagree
  refine ⟨fun c => dplanes (P m c) (W m c) (D m c), fun c => dweights (P m c) (D m c), fun c => doffsets (D m c), ?_, ?_⟩
  · exact (θ_run Cert.CConvKernelIdeal.defs _ _).mono (fun r h c => ⟨(h c).1.trans (arr_planes m c), (h c).2.1.trans (arr_weights m c),
      (h c).2.2.1.trans (arr_offsets m c), (h c).2.2.2⟩) (Cert.CConvKernelIdeal.Value.run_blocks m ρ)
  · refine (θ_run Cert.CConvReferenceIdeal.defs _ _).mono (fun r h c => ?_) (Cert.CConvReferenceIdeal.Value.run m' ρ')
    obtain ⟨a0, a1, a2⟩ := hagree c
    refine ⟨((h c).1.trans (Cert.CConvReferenceIdeal.Read.val_main_v593_eq _)).trans ?_, ((h c).2.1.trans (Cert.CConvReferenceIdeal.Read.val_main_v584_eq _)).trans ?_,
      ((h c).2.2.1.trans (Cert.CConvReferenceIdeal.Read.val_main_v245_eq _)).trans ?_, (h c).2.2.2⟩
    · show Cert.CConvReferenceIdeal.Read.val_main_v593 (F := Ideal) (m' ((c.tc : Thread _ _).loc Cert.CConvReferenceIdeal.main_arg0))
        (m' ((c.tc : Thread _ _).loc Cert.CConvReferenceIdeal.main_arg1)) (m' ((c.tc : Thread _ _).loc Cert.CConvReferenceIdeal.main_arg2)) = dplanes (P m c) (W m c) (D m c)
      rw [a0, a1, a2]
      exact Ref.ref_dplanes _ _ _
    · show Cert.CConvReferenceIdeal.Read.val_main_v584 (F := Ideal) (m' ((c.tc : Thread _ _).loc Cert.CConvReferenceIdeal.main_arg0))
        (m' ((c.tc : Thread _ _).loc Cert.CConvReferenceIdeal.main_arg1)) = dweights (P m c) (D m c)
      rw [a0, a1]
      exact Ref.ref_dweights _ _
    · show Cert.CConvReferenceIdeal.Read.val_main_v245 (F := Ideal) (m' ((c.tc : Thread _ _).loc Cert.CConvReferenceIdeal.main_arg1)) = doffsets (D m c)
      rw [a1]
      exact Ref.ref_doffsets _

end Cert.CConv

end
-- ==== Proof.lean ====
/-
  The assembly of the claims `Cert.Claim` (proofs.«01_k».proof.Defs): the facts the programs state, the frames, and the
  equality of each kernel with its reference, proved in the modules under Proof/.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.DhKernel
public import proofs.«01_k».proof.Proof.Gen.DhKernel.Skeleton
public import proofs.«01_k».proof.Proof.Gen.DhKernel.Launch
public import proofs.«01_k».proof.Proof.Gen.DhKernel.Points
public import proofs.«01_k».proof.Proof.Gen.DhKernel.Frame
public import proofs.«01_k».proof.Proof.Gen.DhKernelIdeal
public import proofs.«01_k».proof.Proof.Gen.DhKernelIdeal.Skeleton
public import proofs.«01_k».proof.Proof.Gen.DhKernelIdeal.Launch
public import proofs.«01_k».proof.Proof.Gen.DhKernelIdeal.Points
public import proofs.«01_k».proof.Proof.Gen.DhKernelIdeal.Frame
public import proofs.«01_k».proof.Proof.Gen.DhKernelIdeal.Value
public import proofs.«01_k».proof.Proof.Gen.DhReferenceIdeal
public import proofs.«01_k».proof.Proof.Gen.DhReferenceIdeal.Run
public import proofs.«01_k».proof.Proof.Gen.DhReferenceIdeal.Read
public import proofs.«01_k».proof.Proof.Gen.DownKernel.Frame
public import proofs.«01_k».proof.Proof.Gen.DownKernelIdeal.Frame
public import proofs.«01_k».proof.Proof.Gen.DownKernelIdeal.Value
public import proofs.«01_k».proof.Proof.Gen.DownReferenceIdeal.Run
public import proofs.«01_k».proof.Proof.Gen.DownReferenceIdeal.Read
public import proofs.«01_k».proof.Proof.Gen.Dh3Kernel.Frame
public import proofs.«01_k».proof.Proof.Gen.Dh3KernelIdeal.Frame
public import proofs.«01_k».proof.Proof.Gen.Dh3KernelIdeal.Value
public import proofs.«01_k».proof.Proof.Gen.Dh3ReferenceIdeal.Run
public import proofs.«01_k».proof.Proof.Gen.Dh3ReferenceIdeal.Read
public import proofs.«01_k».proof.Proof.Gen.Dh2Kernel.Frame
public import proofs.«01_k».proof.Proof.Gen.Dh2KernelIdeal.Frame
public import proofs.«01_k».proof.Proof.Gen.Dh2KernelIdeal.Value
public import proofs.«01_k».proof.Proof.Gen.Dh2ReferenceIdeal.Run
public import proofs.«01_k».proof.Proof.Gen.Dh2ReferenceIdeal.Read
public import proofs.«01_k».proof.Proof.Gen.DmemKernel.Frame
public import proofs.«01_k».proof.Proof.Gen.DmemKernelIdeal.Frame
public import proofs.«01_k».proof.Proof.Gen.DmemKernelIdeal.Value
public import proofs.«01_k».proof.Proof.Gen.DmemReferenceIdeal.Run
public import proofs.«01_k».proof.Proof.Gen.DmemReferenceIdeal.Read
public import proofs.«01_k».proof.Proof.Gen.IoKernel.Frame
public import proofs.«01_k».proof.Proof.Gen.IoKernelIdeal.Frame
public import proofs.«01_k».proof.Proof.Gen.IoReferenceIdeal.Run
public import proofs.«01_k».proof.Proof.Gen.IoReferenceIdeal.Read
public import proofs.«01_k».proof.Proof.Gen.AKernel.Frame
public import proofs.«01_k».proof.Proof.Gen.AKernelIdeal.Frame
public import proofs.«01_k».proof.Proof.Gen.AReferenceIdeal.Run
public import proofs.«01_k».proof.Proof.Gen.AReferenceIdeal.Read
public import proofs.«01_k».proof.Proof.Gen.XaKernel.Frame
public import proofs.«01_k».proof.Proof.Gen.XaKernelIdeal.Frame
public import proofs.«01_k».proof.Proof.Gen.XaReferenceIdeal.Run
public import proofs.«01_k».proof.Proof.Gen.XaReferenceIdeal.Read
public import proofs.«01_k».proof.Proof.Gen.NormPreKernel.Frame
public import proofs.«01_k».proof.Proof.Gen.NormPreKernelIdeal.Frame
public import proofs.«01_k».proof.Proof.Gen.NormPreKernelIdeal.Value
public import proofs.«01_k».proof.Proof.Gen.NormPreReferenceIdeal.Run
public import proofs.«01_k».proof.Proof.Gen.NormPreReferenceIdeal.Read
public import proofs.«01_k».proof.Proof.Gen.NormPostKernel.Frame
public import proofs.«01_k».proof.Proof.Gen.NormPostKernelIdeal.Frame
public import proofs.«01_k».proof.Proof.Gen.NormPostKernelIdeal.Value
public import proofs.«01_k».proof.Proof.Gen.NormPostReferenceIdeal.Run
public import proofs.«01_k».proof.Proof.Gen.NormPostReferenceIdeal.Read
public import proofs.«01_k».proof.Proof.Gen.NormMemKernel.Frame
public import proofs.«01_k».proof.Proof.Gen.NormMemKernelIdeal.Frame
public import proofs.«01_k».proof.Proof.Gen.NormMemKernelIdeal.Value
public import proofs.«01_k».proof.Proof.Gen.NormMemReferenceIdeal.Run
public import proofs.«01_k».proof.Proof.Gen.NormMemReferenceIdeal.Read
public import proofs.«01_k».proof.Proof.Gen.CLnKernel.Frame
public import proofs.«01_k».proof.Proof.Gen.CLnKernelIdeal.Frame
public import proofs.«01_k».proof.Proof.Gen.CLnKernelIdeal.Value
public import proofs.«01_k».proof.Proof.Gen.CLnReferenceIdeal.Run
public import proofs.«01_k».proof.Proof.Gen.CLnReferenceIdeal.Read
public import proofs.«01_k».proof.Proof.Gen.RmsKernel.Frame
public import proofs.«01_k».proof.Proof.Gen.RmsKernelIdeal.Frame
public import proofs.«01_k».proof.Proof.Gen.RmsKernelIdeal.Value
public import proofs.«01_k».proof.Proof.Gen.RmsReferenceIdeal.Run
public import proofs.«01_k».proof.Proof.Gen.RmsReferenceIdeal.Read
public import proofs.«01_k».proof.Proof.Gen.RmsMemKernel.Frame
public import proofs.«01_k».proof.Proof.Gen.RmsMemKernelIdeal.Frame
public import proofs.«01_k».proof.Proof.Gen.RmsMemKernelIdeal.Value
public import proofs.«01_k».proof.Proof.Gen.RmsMemReferenceIdeal.Run
public import proofs.«01_k».proof.Proof.Gen.RmsMemReferenceIdeal.Read
public import proofs.«01_k».proof.Proof.Gen.ResKernel.Frame
public import proofs.«01_k».proof.Proof.Gen.ResKernelIdeal.Frame
public import proofs.«01_k».proof.Proof.Gen.ResKernelIdeal.Value
public import proofs.«01_k».proof.Proof.Gen.ResReferenceIdeal.Run
public import proofs.«01_k».proof.Proof.Gen.ResReferenceIdeal.Read
public import proofs.«01_k».proof.Proof.Gen.ResLastKernel.Frame
public import proofs.«01_k».proof.Proof.Gen.ResLastKernelIdeal.Frame
public import proofs.«01_k».proof.Proof.Gen.ResLastKernelIdeal.Value
public import proofs.«01_k».proof.Proof.Gen.ResLastReferenceIdeal.Run
public import proofs.«01_k».proof.Proof.Gen.ResLastReferenceIdeal.Read
public import proofs.«01_k».proof.Proof.Gen.CLnFKernel.Frame
public import proofs.«01_k».proof.Proof.Gen.CLnFKernelIdeal.Frame
public import proofs.«01_k».proof.Proof.Gen.CLnFKernelIdeal.Value
public import proofs.«01_k».proof.Proof.Gen.CLnFReferenceIdeal.Run
public import proofs.«01_k».proof.Proof.Gen.CLnFReferenceIdeal.Read
public import proofs.«01_k».proof.Proof.Gen.LossKernel.Frame
public import proofs.«01_k».proof.Proof.Gen.LossKernelIdeal.Frame
public import proofs.«01_k».proof.Proof.Gen.LossKernelIdeal.Value
public import proofs.«01_k».proof.Proof.Gen.LossReferenceIdeal.Run
public import proofs.«01_k».proof.Proof.Gen.LossReferenceIdeal.Read
public import proofs.«01_k».proof.Proof.Gen.CConvFKernel.Frame
public import proofs.«01_k».proof.Proof.Gen.CConvFKernelIdeal.Frame
public import proofs.«01_k».proof.Proof.Gen.CConvFKernelIdeal.Value
public import proofs.«01_k».proof.Proof.Gen.CConvFReferenceIdeal.Run
public import proofs.«01_k».proof.Proof.Gen.CConvFReferenceIdeal.Read
public import proofs.«01_k».proof.Proof.Gen.CConvKernel.Frame
public import proofs.«01_k».proof.Proof.Gen.CConvKernelIdeal.Frame
public import proofs.«01_k».proof.Proof.Gen.CConvKernelIdeal.Value
public import proofs.«01_k».proof.Proof.Gen.CConvReferenceIdeal.Run
public import proofs.«01_k».proof.Proof.Gen.CConvReferenceIdeal.Read
public import proofs.«01_k».proof.Proof.Attn.Claims
public import proofs.«01_k».proof.Proof.Ffn.Claims
public import proofs.«01_k».proof.Proof.Dh.Claims
public import proofs.«01_k».proof.Proof.Down.Claims
public import proofs.«01_k».proof.Proof.Dh3.Claims
public import proofs.«01_k».proof.Proof.Dh2.Claims
public import proofs.«01_k».proof.Proof.Dmem.Claims
public import proofs.«01_k».proof.Proof.Io.Claims
public import proofs.«01_k».proof.Proof.A.Claims
public import proofs.«01_k».proof.Proof.Xa.Claims
public import proofs.«01_k».proof.Proof.NormPre.Claims
public import proofs.«01_k».proof.Proof.NormPost.Claims
public import proofs.«01_k».proof.Proof.NormMem.Claims
public import proofs.«01_k».proof.Proof.CLn.Claims
public import proofs.«01_k».proof.Proof.Rms.Claims
public import proofs.«01_k».proof.Proof.RmsMem.Claims
public import proofs.«01_k».proof.Proof.Res.Claims
public import proofs.«01_k».proof.Proof.ResLast.Claims
public import proofs.«01_k».proof.Proof.CLnF.Claims
public import proofs.«01_k».proof.Proof.Loss.Claims
public import proofs.«01_k».proof.Proof.CConvF.Claims
public import proofs.«01_k».proof.Proof.CConv.Claims
public import Idealize.ShloMosaic.Adequacy
public import Idealize.ShloMosaic.Init

@[expose] public section

noncomputable section

namespace Cert.Proof

/-- The claims. -/
theorem claim : Cert.Claim :=
  ⟨Cert.Kernel.Gen.facts, Cert.KernelIdeal.Gen.facts, Cert.ReferenceIdeal.Gen.facts,
    Cert.FfnKernel.Gen.facts, Cert.FfnKernelIdeal.Gen.facts, Cert.FfnReferenceIdeal.Gen.facts,
    Cert.DhKernel.Gen.facts, Cert.DhKernelIdeal.Gen.facts, Cert.DhReferenceIdeal.Gen.facts,
    Cert.DownKernel.Gen.facts, Cert.DownKernelIdeal.Gen.facts, Cert.DownReferenceIdeal.Gen.facts,
    Cert.Dh3Kernel.Gen.facts, Cert.Dh3KernelIdeal.Gen.facts, Cert.Dh3ReferenceIdeal.Gen.facts,
    Cert.Dh2Kernel.Gen.facts, Cert.Dh2KernelIdeal.Gen.facts, Cert.Dh2ReferenceIdeal.Gen.facts,
    Cert.DmemKernel.Gen.facts, Cert.DmemKernelIdeal.Gen.facts, Cert.DmemReferenceIdeal.Gen.facts,
    Cert.IoKernel.Gen.facts, Cert.IoKernelIdeal.Gen.facts, Cert.IoReferenceIdeal.Gen.facts,
    Cert.AKernel.Gen.facts, Cert.AKernelIdeal.Gen.facts, Cert.AReferenceIdeal.Gen.facts,
    Cert.XaKernel.Gen.facts, Cert.XaKernelIdeal.Gen.facts, Cert.XaReferenceIdeal.Gen.facts,
    Cert.NormPreKernel.Gen.facts, Cert.NormPreKernelIdeal.Gen.facts, Cert.NormPreReferenceIdeal.Gen.facts,
    Cert.NormPostKernel.Gen.facts, Cert.NormPostKernelIdeal.Gen.facts, Cert.NormPostReferenceIdeal.Gen.facts,
    Cert.NormMemKernel.Gen.facts, Cert.NormMemKernelIdeal.Gen.facts, Cert.NormMemReferenceIdeal.Gen.facts,
    Cert.CLnKernel.Gen.facts, Cert.CLnKernelIdeal.Gen.facts, Cert.CLnReferenceIdeal.Gen.facts,
    Cert.RmsKernel.Gen.facts, Cert.RmsKernelIdeal.Gen.facts, Cert.RmsReferenceIdeal.Gen.facts,
    Cert.RmsMemKernel.Gen.facts, Cert.RmsMemKernelIdeal.Gen.facts, Cert.RmsMemReferenceIdeal.Gen.facts,
    Cert.ResKernel.Gen.facts, Cert.ResKernelIdeal.Gen.facts, Cert.ResReferenceIdeal.Gen.facts,
    Cert.ResLastKernel.Gen.facts, Cert.ResLastKernelIdeal.Gen.facts, Cert.ResLastReferenceIdeal.Gen.facts,
    Cert.CLnFKernel.Gen.facts, Cert.CLnFKernelIdeal.Gen.facts, Cert.CLnFReferenceIdeal.Gen.facts,
    Cert.LossKernel.Gen.facts, Cert.LossKernelIdeal.Gen.facts, Cert.LossReferenceIdeal.Gen.facts,
    Cert.CConvFKernel.Gen.facts, Cert.CConvFKernelIdeal.Gen.facts, Cert.CConvFReferenceIdeal.Gen.facts,
    Cert.CConvKernel.Gen.facts, Cert.CConvKernelIdeal.Gen.facts, Cert.CConvReferenceIdeal.Gen.facts,
    Cert.Attn.Pre.facts, Cert.Ffn.Pre.facts, Cert.Xa.Pre.facts, Cert.CLn.Pre.facts,
    Cert.Attn.frame_kernel, Cert.Attn.frame_ideal, Cert.Attn.frame_ideal_pre, Cert.Attn.frame_ref, Cert.Attn.frame_ref_pre,
    Cert.Ffn.frame_kernel, Cert.Ffn.frame_ideal, Cert.Ffn.frame_ideal_pre, Cert.Ffn.frame_ref, Cert.Ffn.frame_ref_pre,
    Cert.Dh.frame_kernel, Cert.Dh.frame_ideal, Cert.Dh.frame_ref,
    Cert.Down.frame_kernel, Cert.Down.frame_ideal, Cert.Down.frame_ref,
    Cert.Dh3.frame_kernel, Cert.Dh3.frame_ideal, Cert.Dh3.frame_ref,
    Cert.Dh2.frame_kernel, Cert.Dh2.frame_ideal, Cert.Dh2.frame_ref,
    Cert.Dmem.frame_kernel, Cert.Dmem.frame_ideal, Cert.Dmem.frame_ref,
    Cert.Io.frame_kernel, Cert.Io.frame_ideal, Cert.Io.frame_ref,
    Cert.A.frame_kernel, Cert.A.frame_ideal, Cert.A.frame_ref,
    Cert.Xa.frame_kernel, Cert.Xa.frame_ideal, Cert.Xa.frame_ideal_pre, Cert.Xa.frame_ref, Cert.Xa.frame_ref_pre,
    Cert.NormPre.frame_kernel, Cert.NormPre.frame_ideal, Cert.NormPre.frame_ref,
    Cert.NormPost.frame_kernel, Cert.NormPost.frame_ideal, Cert.NormPost.frame_ref,
    Cert.NormMem.frame_kernel, Cert.NormMem.frame_ideal, Cert.NormMem.frame_ref,
    Cert.CLn.frame_kernel, Cert.CLn.frame_ideal, Cert.CLn.frame_ideal_pre, Cert.CLn.frame_ref, Cert.CLn.frame_ref_pre,
    Cert.Rms.frame_kernel, Cert.Rms.frame_ideal, Cert.Rms.frame_ref,
    Cert.RmsMem.frame_kernel, Cert.RmsMem.frame_ideal, Cert.RmsMem.frame_ref,
    Cert.Res.frame_kernel, Cert.Res.frame_ideal, Cert.Res.frame_ref,
    Cert.ResLast.frame_kernel, Cert.ResLast.frame_ideal, Cert.ResLast.frame_ref,
    Cert.CLnF.frame_kernel, Cert.CLnF.frame_ideal, Cert.CLnF.frame_ref,
    Cert.Loss.frame_kernel, Cert.Loss.frame_ideal, Cert.Loss.frame_ref,
    Cert.CConvF.frame_kernel, Cert.CConvF.frame_ideal, Cert.CConvF.frame_ref,
    Cert.CConv.frame_kernel, Cert.CConv.frame_ideal, Cert.CConv.frame_ref,
    trivial, Cert.Attn.algebraic, trivial, Cert.Ffn.algebraic, trivial, Cert.Dh.algebraic,
    trivial, Cert.Down.algebraic,
    trivial, Cert.Dh3.algebraic,
    trivial, Cert.Dh2.algebraic,
    trivial, Cert.Dmem.algebraic,
    trivial, Cert.Io.algebraic,
    trivial, Cert.A.algebraic,
    trivial, Cert.Xa.algebraic,
    trivial, Cert.NormPre.algebraic,
    trivial, Cert.NormPost.algebraic,
    trivial, Cert.NormMem.algebraic,
    trivial, Cert.CLn.algebraic,
    trivial, Cert.Rms.algebraic,
    trivial, Cert.RmsMem.algebraic,
    trivial, Cert.Res.algebraic,
    trivial, Cert.ResLast.algebraic,
    trivial, Cert.CLnF.algebraic,
    trivial, Cert.Loss.algebraic,
    trivial, Cert.CConvF.algebraic,
    trivial, Cert.CConv.algebraic⟩

end Cert.Proof

end
